-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Down [hPre_experts_named : Cert.Pre_experts_named.Facts] (m : (ℓ : Loc Cert.Down.nD Cert.Down.τ Cert.Down.sig) → Buf (Elt Bits) ℓ) : Prop :=
  ∀ c : Dev Cert.Down.nD,
    (Cert.Pre_experts_named.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3))) = (fun _ => 1#1)

def Pre_DownIdeal [hPre_experts_named : Cert.Pre_experts_named.Facts] (m : (ℓ : Loc Cert.DownIdeal.nD Cert.DownIdeal.τ Cert.DownIdeal.sig) → Buf (Elt Ideal) ℓ) : Prop :=
  ∀ c : Dev Cert.DownIdeal.nD,
    (Cert.Pre_experts_named.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))) = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_experts_named [hPre_experts_named : Cert.Pre_experts_named.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_experts_named.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_ones_row [hPre_ones_row : Cert.Pre_ones_row.Facts] (m : (ℓ : Loc Cert.AttnIdeal.nD Cert.AttnIdeal.τ Cert.AttnIdeal.sig) → Buf (Elt Ideal) ℓ) : Prop :=
  ∀ c : Dev Cert.AttnIdeal.nD,
    (Cert.Pre_ones_row.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_ones_row [hPre_ones_row : Cert.Pre_ones_row.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_ones_row.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))) = (fun _ => 1#1)

def Pre_AttnSample (m : (ℓ : Loc Cert.AttnSample.nD Cert.AttnSample.τ Cert.AttnSample.sig) → Buf (Elt Bits) ℓ) : Prop :=
  True

def Pre_AttnSampleIdeal (m : (ℓ : Loc Cert.AttnSampleIdeal.nD Cert.AttnSampleIdeal.τ Cert.AttnSampleIdeal.sig) → Buf (Elt Ideal) ℓ) : Prop :=
  True

def Pre_AttnSampleIdeal_ones_row_sample [hPre_ones_row_sample : Cert.Pre_ones_row_sample.Facts] (m : (ℓ : Loc Cert.AttnSampleIdeal.nD Cert.AttnSampleIdeal.τ Cert.AttnSampleIdeal.sig) → Buf (Elt Ideal) ℓ) : Prop :=
  ∀ c : Dev Cert.AttnSampleIdeal.nD,
    (Cert.Pre_ones_row_sample.fn (F := Ideal) (m ((c.tc : Thread Cert.AttnSampleIdeal.nD Cert.AttnSampleIdeal.τ).loc Cert.AttnSampleIdeal.main_arg0)) (m ((c.tc : Thread Cert.AttnSampleIdeal.nD Cert.AttnSampleIdeal.τ).loc Cert.AttnSampleIdeal.main_arg1)) (m ((c.tc : Thread Cert.AttnSampleIdeal.nD Cert.AttnSampleIdeal.τ).loc Cert.AttnSampleIdeal.main_arg2)) (m ((c.tc : Thread Cert.AttnSampleIdeal.nD Cert.AttnSampleIdeal.τ).loc Cert.AttnSampleIdeal.main_arg3))) = (fun _ => 1#1)

def Pre_AttnSampleReferenceIdeal (m : (ℓ : Loc Cert.AttnSampleReferenceIdeal.nD Cert.AttnSampleReferenceIdeal.τ Cert.AttnSampleReferenceIdeal.sig) → Buf (Elt Ideal) ℓ) : Prop :=
  True

def Pre_AttnSampleReferenceIdeal_ones_row_sample [hPre_ones_row_sample : Cert.Pre_ones_row_sample.Facts] (m : (ℓ : Loc Cert.AttnSampleReferenceIdeal.nD Cert.AttnSampleReferenceIdeal.τ Cert.AttnSampleReferenceIdeal.sig) → Buf (Elt Ideal) ℓ) : Prop :=
  ∀ c : Dev Cert.AttnSampleReferenceIdeal.nD,
    (Cert.Pre_ones_row_sample.fn (F := Ideal) (m ((c.tc : Thread Cert.AttnSampleReferenceIdeal.nD Cert.AttnSampleReferenceIdeal.τ).loc Cert.AttnSampleReferenceIdeal.main_arg0)) (m ((c.tc : Thread Cert.AttnSampleReferenceIdeal.nD Cert.AttnSampleReferenceIdeal.τ).loc Cert.AttnSampleReferenceIdeal.main_arg1)) (m ((c.tc : Thread Cert.AttnSampleReferenceIdeal.nD Cert.AttnSampleReferenceIdeal.τ).loc Cert.AttnSampleReferenceIdeal.main_arg2)) (m ((c.tc : Thread Cert.AttnSampleReferenceIdeal.nD Cert.AttnSampleReferenceIdeal.τ).loc Cert.AttnSampleReferenceIdeal.main_arg3))) = (fun _ => 1#1)

def Pre_HyIn (m : (ℓ : Loc Cert.HyIn.nD Cert.HyIn.τ Cert.HyIn.sig) → Buf (Elt Bits) ℓ) : Prop :=
  True

def Pre_HyInIdeal (m : (ℓ : Loc Cert.HyInIdeal.nD Cert.HyInIdeal.τ Cert.HyInIdeal.sig) → Buf (Elt Ideal) ℓ) : Prop :=
  True

def Pre_HyInReferenceIdeal (m : (ℓ : Loc Cert.HyInReferenceIdeal.nD Cert.HyInReferenceIdeal.τ Cert.HyInReferenceIdeal.sig) → Buf (Elt Ideal) ℓ) : Prop :=
  True

def Pre_MlaDown (m : (ℓ : Loc Cert.MlaDown.nD Cert.MlaDown.τ Cert.MlaDown.sig) → Buf (Elt Bits) ℓ) : Prop :=
  True

def Pre_MlaDownIdeal (m : (ℓ : Loc Cert.MlaDownIdeal.nD Cert.MlaDownIdeal.τ Cert.MlaDownIdeal.sig) → Buf (Elt Ideal) ℓ) : Prop :=
  True

def Pre_MlaDownReferenceIdeal (m : (ℓ : Loc Cert.MlaDownReferenceIdeal.nD Cert.MlaDownReferenceIdeal.τ Cert.MlaDownReferenceIdeal.sig) → Buf (Elt Ideal) ℓ) : Prop :=
  True

def Pre_HyOut (m : (ℓ : Loc Cert.HyOut.nD Cert.HyOut.τ Cert.HyOut.sig) → Buf (Elt Bits) ℓ) : Prop :=
  True

def Pre_HyOutIdeal (m : (ℓ : Loc Cert.HyOutIdeal.nD Cert.HyOutIdeal.τ Cert.HyOutIdeal.sig) → Buf (Elt Ideal) ℓ) : Prop :=
  True

def Pre_HyOutReferenceIdeal (m : (ℓ : Loc Cert.HyOutReferenceIdeal.nD Cert.HyOutReferenceIdeal.τ Cert.HyOutReferenceIdeal.sig) → Buf (Elt Ideal) ℓ) : Prop :=
  True

def Pre_MlaOut (m : (ℓ : Loc Cert.MlaOut.nD Cert.MlaOut.τ Cert.MlaOut.sig) → Buf (Elt Bits) ℓ) : Prop :=
  True

def Pre_MlaOutIdeal (m : (ℓ : Loc Cert.MlaOutIdeal.nD Cert.MlaOutIdeal.τ Cert.MlaOutIdeal.sig) → Buf (Elt Ideal) ℓ) : Prop :=
  True

def Pre_MlaOutReferenceIdeal (m : (ℓ : Loc Cert.MlaOutReferenceIdeal.nD Cert.MlaOutReferenceIdeal.τ Cert.MlaOutReferenceIdeal.sig) → Buf (Elt Ideal) ℓ) : Prop :=
  True

def Pre_MlaQ (m : (ℓ : Loc Cert.MlaQ.nD Cert.MlaQ.τ Cert.MlaQ.sig) → Buf (Elt Bits) ℓ) : Prop :=
  True

def Pre_MlaQIdeal (m : (ℓ : Loc Cert.MlaQIdeal.nD Cert.MlaQIdeal.τ Cert.MlaQIdeal.sig) → Buf (Elt Ideal) ℓ) : Prop :=
  True

def Pre_MlaQReferenceIdeal (m : (ℓ : Loc Cert.MlaQReferenceIdeal.nD Cert.MlaQReferenceIdeal.τ Cert.MlaQReferenceIdeal.sig) → Buf (Elt Ideal) ℓ) : Prop :=
  True

def Pre_MlaKv (m : (ℓ : Loc Cert.MlaKv.nD Cert.MlaKv.τ Cert.MlaKv.sig) → Buf (Elt Bits) ℓ) : Prop :=
  True

def Pre_MlaKvIdeal (m : (ℓ : Loc Cert.MlaKvIdeal.nD Cert.MlaKvIdeal.τ Cert.MlaKvIdeal.sig) → Buf (Elt Ideal) ℓ) : Prop :=
  True

def Pre_MlaKvReferenceIdeal (m : (ℓ : Loc Cert.MlaKvReferenceIdeal.nD Cert.MlaKvReferenceIdeal.τ Cert.MlaKvReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_ConvSample (m : (ℓ : Loc Cert.ConvSample.nD Cert.ConvSample.τ Cert.ConvSample.sig) → Buf (Elt Bits) ℓ) : Prop :=
  True

def Pre_ConvSampleIdeal (m : (ℓ : Loc Cert.ConvSampleIdeal.nD Cert.ConvSampleIdeal.τ Cert.ConvSampleIdeal.sig) → Buf (Elt Ideal) ℓ) : Prop :=
  True

def Pre_ConvSampleReferenceIdeal (m : (ℓ : Loc Cert.ConvSampleReferenceIdeal.nD Cert.ConvSampleReferenceIdeal.τ Cert.ConvSampleReferenceIdeal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Down [hDown : Cert.Down.Facts] [hPre_experts_named : Cert.Pre_experts_named.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] [hPre_experts_named : Cert.Pre_experts_named.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_DownReferenceIdeal_pre_experts_named [hDownReferenceIdeal : Cert.DownReferenceIdeal.Facts] [hPre_experts_named : Cert.Pre_experts_named.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_experts_named m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_ones_row [hAttnIdeal : Cert.AttnIdeal.Facts] [hPre_ones_row : Cert.Pre_ones_row.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_ones_row m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_AttnReferenceIdeal_pre_ones_row [hAttnReferenceIdeal : Cert.AttnReferenceIdeal.Facts] [hPre_ones_row : Cert.Pre_ones_row.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_ones_row m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_AttnSample [hAttnSample : Cert.AttnSample.Facts] : Prop :=
  ∀ (m : (ℓ : Loc Cert.AttnSample.nD Cert.AttnSample.τ Cert.AttnSample.sig) → Buf (Elt Bits) ℓ) (g : Dev Cert.AttnSample.nD → PrngReg), Pre_AttnSample m →
    θ_run (Cert.AttnSample.defs (F := Bits)) (onTc (τ := Cert.AttnSample.τ) (Cert.AttnSample.main (F := Bits))) ⟨m, fun _ => 0, g⟩ (fun r => (∀ c : Dev Cert.AttnSample.nD,
      r.2.mem ((c.tc : Thread Cert.AttnSample.nD Cert.AttnSample.τ).loc Cert.AttnSample.main_arg0) = m ((c.tc : Thread Cert.AttnSample.nD Cert.AttnSample.τ).loc Cert.AttnSample.main_arg0)
      ∧ r.2.mem ((c.tc : Thread Cert.AttnSample.nD Cert.AttnSample.τ).loc Cert.AttnSample.main_arg1) = m ((c.tc : Thread Cert.AttnSample.nD Cert.AttnSample.τ).loc Cert.AttnSample.main_arg1)
      ∧ r.2.mem ((c.tc : Thread Cert.AttnSample.nD Cert.AttnSample.τ).loc Cert.AttnSample.main_arg2) = m ((c.tc : Thread Cert.AttnSample.nD Cert.AttnSample.τ).loc Cert.AttnSample.main_arg2)
      ∧ r.2.mem ((c.tc : Thread Cert.AttnSample.nD Cert.AttnSample.τ).loc Cert.AttnSample.main_arg3) = m ((c.tc : Thread Cert.AttnSample.nD Cert.AttnSample.τ).loc Cert.AttnSample.main_arg3))
      ∧ r.2.sem = fun _ => 0)

def quiescent_AttnSampleIdeal [hAttnSampleIdeal : Cert.AttnSampleIdeal.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg), Pre_AttnSampleIdeal m →
    θ_run (Cert.AttnSampleIdeal.defs (F := Ideal)) (onTc (τ := Cert.AttnSampleIdeal.τ) (Cert.AttnSampleIdeal.main (F := Ideal))) ⟨m, fun _ => 0, g⟩ (fun r => (∀ c : Dev Cert.AttnSampleIdeal.nD,
      r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
      ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
      ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
      ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3))
      ∧ r.2.sem = fun _ => 0)

def quiescent_AttnSampleIdeal_pre_ones_row_sample [hAttnSampleIdeal : Cert.AttnSampleIdeal.Facts] [hPre_ones_row_sample : Cert.Pre_ones_row_sample.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg), Pre_AttnSampleIdeal_ones_row_sample m →
    θ_run (Cert.AttnSampleIdeal.defs (F := Ideal)) (onTc (τ := Cert.AttnSampleIdeal.τ) (Cert.AttnSampleIdeal.main (F := Ideal))) ⟨m, fun _ => 0, g⟩ (fun r => (∀ c : Dev Cert.AttnSampleIdeal.nD,
      r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
      ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
      ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
      ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3))
      ∧ r.2.sem = fun _ => 0)

def quiescent_AttnSampleReferenceIdeal [hAttnSampleReferenceIdeal : Cert.AttnSampleReferenceIdeal.Facts] : Prop :=
  ∀ (m : (ℓ : Loc Cert.AttnSampleReferenceIdeal.nD Cert.AttnSampleReferenceIdeal.τ Cert.AttnSampleReferenceIdeal.sig) → Buf (Elt Ideal) ℓ) (g : Dev Cert.AttnSampleReferenceIdeal.nD → PrngReg), Pre_AttnSampleReferenceIdeal m →
    θ_run (Cert.AttnSampleReferenceIdeal.defs (F := Ideal)) (onTc (τ := Cert.AttnSampleReferenceIdeal.τ) (Cert.AttnSampleReferenceIdeal.main (F := Ideal))) ⟨m, fun _ => 0, g⟩ (fun r => (∀ c : Dev Cert.AttnSampleReferenceIdeal.nD,
      r.2.mem ((c.tc : Thread Cert.AttnSampleReferenceIdeal.nD Cert.AttnSampleReferenceIdeal.τ).loc Cert.AttnSampleReferenceIdeal.main_arg0) = m ((c.tc : Thread Cert.AttnSampleReferenceIdeal.nD Cert.AttnSampleReferenceIdeal.τ).loc Cert.AttnSampleReferenceIdeal.main_arg0)
      ∧ r.2.mem ((c.tc : Thread Cert.AttnSampleReferenceIdeal.nD Cert.AttnSampleReferenceIdeal.τ).loc Cert.AttnSampleReferenceIdeal.main_arg1) = m ((c.tc : Thread Cert.AttnSampleReferenceIdeal.nD Cert.AttnSampleReferenceIdeal.τ).loc Cert.AttnSampleReferenceIdeal.main_arg1)
      ∧ r.2.mem ((c.tc : Thread Cert.AttnSampleReferenceIdeal.nD Cert.AttnSampleReferenceIdeal.τ).loc Cert.AttnSampleReferenceIdeal.main_arg2) = m ((c.tc : Thread Cert.AttnSampleReferenceIdeal.nD Cert.AttnSampleReferenceIdeal.τ).loc Cert.AttnSampleReferenceIdeal.main_arg2)
      ∧ r.2.mem ((c.tc : Thread Cert.AttnSampleReferenceIdeal.nD Cert.AttnSampleReferenceIdeal.τ).loc Cert.AttnSampleReferenceIdeal.main_arg3) = m ((c.tc : Thread Cert.AttnSampleReferenceIdeal.nD Cert.AttnSampleReferenceIdeal.τ).loc Cert.AttnSampleReferenceIdeal.main_arg3))
      ∧ r.2.sem = fun _ => 0)

def quiescent_AttnSampleReferenceIdeal_pre_ones_row_sample [hAttnSampleReferenceIdeal : Cert.AttnSampleReferenceIdeal.Facts] [hPre_ones_row_sample : Cert.Pre_ones_row_sample.Facts] : Prop :=
  ∀ (m : (ℓ : Loc Cert.AttnSampleReferenceIdeal.nD Cert.AttnSampleReferenceIdeal.τ Cert.AttnSampleReferenceIdeal.sig) → Buf (Elt Ideal) ℓ) (g : Dev Cert.AttnSampleReferenceIdeal.nD → PrngReg), Pre_AttnSampleReferenceIdeal_ones_row_sample m →
    θ_run (Cert.AttnSampleReferenceIdeal.defs (F := Ideal)) (onTc (τ := Cert.AttnSampleReferenceIdeal.τ) (Cert.AttnSampleReferenceIdeal.main (F := Ideal))) ⟨m, fun _ => 0, g⟩ (fun r => (∀ c : Dev Cert.AttnSampleReferenceIdeal.nD,
      r.2.mem ((c.tc : Thread Cert.AttnSampleReferenceIdeal.nD Cert.AttnSampleReferenceIdeal.τ).loc Cert.AttnSampleReferenceIdeal.main_arg0) = m ((c.tc : Thread Cert.AttnSampleReferenceIdeal.nD Cert.AttnSampleReferenceIdeal.τ).loc Cert.AttnSampleReferenceIdeal.main_arg0)
      ∧ r.2.mem ((c.tc : Thread Cert.AttnSampleReferenceIdeal.nD Cert.AttnSampleReferenceIdeal.τ).loc Cert.AttnSampleReferenceIdeal.main_arg1) = m ((c.tc : Thread Cert.AttnSampleReferenceIdeal.nD Cert.AttnSampleReferenceIdeal.τ).loc Cert.AttnSampleReferenceIdeal.main_arg1)
      ∧ r.2.mem ((c.tc : Thread Cert.AttnSampleReferenceIdeal.nD Cert.AttnSampleReferenceIdeal.τ).loc Cert.AttnSampleReferenceIdeal.main_arg2) = m ((c.tc : Thread Cert.AttnSampleReferenceIdeal.nD Cert.AttnSampleReferenceIdeal.τ).loc Cert.AttnSampleReferenceIdeal.main_arg2)
      ∧ r.2.mem ((c.tc : Thread Cert.AttnSampleReferenceIdeal.nD Cert.AttnSampleReferenceIdeal.τ).loc Cert.AttnSampleReferenceIdeal.main_arg3) = m ((c.tc : Thread Cert.AttnSampleReferenceIdeal.nD Cert.AttnSampleReferenceIdeal.τ).loc Cert.AttnSampleReferenceIdeal.main_arg3))
      ∧ r.2.sem = fun _ => 0)

def quiescent_HyIn [hHyIn : Cert.HyIn.Facts] : Prop :=
  ∀ (m : (ℓ : Loc Cert.HyIn.nD Cert.HyIn.τ Cert.HyIn.sig) → Buf (Elt Bits) ℓ) (g : Dev Cert.HyIn.nD → PrngReg), Pre_HyIn m →
    θ_run (Cert.HyIn.defs (F := Bits)) (onTc (τ := Cert.HyIn.τ) (Cert.HyIn.main (F := Bits))) ⟨m, fun _ => 0, g⟩ (fun r => (∀ c : Dev Cert.HyIn.nD,
      r.2.mem ((c.tc : Thread Cert.HyIn.nD Cert.HyIn.τ).loc Cert.HyIn.main_arg0) = m ((c.tc : Thread Cert.HyIn.nD Cert.HyIn.τ).loc Cert.HyIn.main_arg0)
      ∧ r.2.mem ((c.tc : Thread Cert.HyIn.nD Cert.HyIn.τ).loc Cert.HyIn.main_arg1) = m ((c.tc : Thread Cert.HyIn.nD Cert.HyIn.τ).loc Cert.HyIn.main_arg1)
      ∧ r.2.mem ((c.tc : Thread Cert.HyIn.nD Cert.HyIn.τ).loc Cert.HyIn.main_arg2) = m ((c.tc : Thread Cert.HyIn.nD Cert.HyIn.τ).loc Cert.HyIn.main_arg2))
      ∧ r.2.sem = fun _ => 0)

def quiescent_HyInIdeal [hHyInIdeal : Cert.HyInIdeal.Facts] : Prop :=
  ∀ (m : (ℓ : Loc Cert.HyInIdeal.nD Cert.HyInIdeal.τ Cert.HyInIdeal.sig) → Buf (Elt Ideal) ℓ) (g : Dev Cert.HyInIdeal.nD → PrngReg), Pre_HyInIdeal m →
    θ_run (Cert.HyInIdeal.defs (F := Ideal)) (onTc (τ := Cert.HyInIdeal.τ) (Cert.HyInIdeal.main (F := Ideal))) ⟨m, fun _ => 0, g⟩ (fun r => (∀ c : Dev Cert.HyInIdeal.nD,
      r.2.mem ((c.tc : Thread Cert.HyInIdeal.nD Cert.HyInIdeal.τ).loc Cert.HyInIdeal.main_arg0) = m ((c.tc : Thread Cert.HyInIdeal.nD Cert.HyInIdeal.τ).loc Cert.HyInIdeal.main_arg0)
      ∧ r.2.mem ((c.tc : Thread Cert.HyInIdeal.nD Cert.HyInIdeal.τ).loc Cert.HyInIdeal.main_arg1) = m ((c.tc : Thread Cert.HyInIdeal.nD Cert.HyInIdeal.τ).loc Cert.HyInIdeal.main_arg1)
      ∧ r.2.mem ((c.tc : Thread Cert.HyInIdeal.nD Cert.HyInIdeal.τ).loc Cert.HyInIdeal.main_arg2) = m ((c.tc : Thread Cert.HyInIdeal.nD Cert.HyInIdeal.τ).loc Cert.HyInIdeal.main_arg2))
      ∧ r.2.sem = fun _ => 0)

def quiescent_HyInReferenceIdeal [hHyInReferenceIdeal : Cert.HyInReferenceIdeal.Facts] : Prop :=
  ∀ (m : (ℓ : Loc Cert.HyInReferenceIdeal.nD Cert.HyInReferenceIdeal.τ Cert.HyInReferenceIdeal.sig) → Buf (Elt Ideal) ℓ) (g : Dev Cert.HyInReferenceIdeal.nD → PrngReg), Pre_HyInReferenceIdeal m →
    θ_run (Cert.HyInReferenceIdeal.defs (F := Ideal)) (onTc (τ := Cert.HyInReferenceIdeal.τ) (Cert.HyInReferenceIdeal.main (F := Ideal))) ⟨m, fun _ => 0, g⟩ (fun r => (∀ c : Dev Cert.HyInReferenceIdeal.nD,
      r.2.mem ((c.tc : Thread Cert.HyInReferenceIdeal.nD Cert.HyInReferenceIdeal.τ).loc Cert.HyInReferenceIdeal.main_arg0) = m ((c.tc : Thread Cert.HyInReferenceIdeal.nD Cert.HyInReferenceIdeal.τ).loc Cert.HyInReferenceIdeal.main_arg0)
      ∧ r.2.mem ((c.tc : Thread Cert.HyInReferenceIdeal.nD Cert.HyInReferenceIdeal.τ).loc Cert.HyInReferenceIdeal.main_arg1) = m ((c.tc : Thread Cert.HyInReferenceIdeal.nD Cert.HyInReferenceIdeal.τ).loc Cert.HyInReferenceIdeal.main_arg1)
      ∧ r.2.mem ((c.tc : Thread Cert.HyInReferenceIdeal.nD Cert.HyInReferenceIdeal.τ).loc Cert.HyInReferenceIdeal.main_arg2) = m ((c.tc : Thread Cert.HyInReferenceIdeal.nD Cert.HyInReferenceIdeal.τ).loc Cert.HyInReferenceIdeal.main_arg2))
      ∧ r.2.sem = fun _ => 0)

def quiescent_MlaDown [hMlaDown : Cert.MlaDown.Facts] : Prop :=
  ∀ (m : (ℓ : Loc Cert.MlaDown.nD Cert.MlaDown.τ Cert.MlaDown.sig) → Buf (Elt Bits) ℓ) (g : Dev Cert.MlaDown.nD → PrngReg), Pre_MlaDown m →
    θ_run (Cert.MlaDown.defs (F := Bits)) (onTc (τ := Cert.MlaDown.τ) (Cert.MlaDown.main (F := Bits))) ⟨m, fun _ => 0, g⟩ (fun r => (∀ c : Dev Cert.MlaDown.nD,
      r.2.mem ((c.tc : Thread Cert.MlaDown.nD Cert.MlaDown.τ).loc Cert.MlaDown.main_arg0) = m ((c.tc : Thread Cert.MlaDown.nD Cert.MlaDown.τ).loc Cert.MlaDown.main_arg0)
      ∧ r.2.mem ((c.tc : Thread Cert.MlaDown.nD Cert.MlaDown.τ).loc Cert.MlaDown.main_arg1) = m ((c.tc : Thread Cert.MlaDown.nD Cert.MlaDown.τ).loc Cert.MlaDown.main_arg1)
      ∧ r.2.mem ((c.tc : Thread Cert.MlaDown.nD Cert.MlaDown.τ).loc Cert.MlaDown.main_arg2) = m ((c.tc : Thread Cert.MlaDown.nD Cert.MlaDown.τ).loc Cert.MlaDown.main_arg2))
      ∧ r.2.sem = fun _ => 0)

def quiescent_MlaDownIdeal [hMlaDownIdeal : Cert.MlaDownIdeal.Facts] : Prop :=
  ∀ (m : (ℓ : Loc Cert.MlaDownIdeal.nD Cert.MlaDownIdeal.τ Cert.MlaDownIdeal.sig) → Buf (Elt Ideal) ℓ) (g : Dev Cert.MlaDownIdeal.nD → PrngReg), Pre_MlaDownIdeal m →
    θ_run (Cert.MlaDownIdeal.defs (F := Ideal)) (onTc (τ := Cert.MlaDownIdeal.τ) (Cert.MlaDownIdeal.main (F := Ideal))) ⟨m, fun _ => 0, g⟩ (fun r => (∀ c : Dev Cert.MlaDownIdeal.nD,
      r.2.mem ((c.tc : Thread Cert.MlaDownIdeal.nD Cert.MlaDownIdeal.τ).loc Cert.MlaDownIdeal.main_arg0) = m ((c.tc : Thread Cert.MlaDownIdeal.nD Cert.MlaDownIdeal.τ).loc Cert.MlaDownIdeal.main_arg0)
      ∧ r.2.mem ((c.tc : Thread Cert.MlaDownIdeal.nD Cert.MlaDownIdeal.τ).loc Cert.MlaDownIdeal.main_arg1) = m ((c.tc : Thread Cert.MlaDownIdeal.nD Cert.MlaDownIdeal.τ).loc Cert.MlaDownIdeal.main_arg1)
      ∧ r.2.mem ((c.tc : Thread Cert.MlaDownIdeal.nD Cert.MlaDownIdeal.τ).loc Cert.MlaDownIdeal.main_arg2) = m ((c.tc : Thread Cert.MlaDownIdeal.nD Cert.MlaDownIdeal.τ).loc Cert.MlaDownIdeal.main_arg2))
      ∧ r.2.sem = fun _ => 0)

def quiescent_MlaDownReferenceIdeal [hMlaDownReferenceIdeal : Cert.MlaDownReferenceIdeal.Facts] : Prop :=
  ∀ (m : (ℓ : Loc Cert.MlaDownReferenceIdeal.nD Cert.MlaDownReferenceIdeal.τ Cert.MlaDownReferenceIdeal.sig) → Buf (Elt Ideal) ℓ) (g : Dev Cert.MlaDownReferenceIdeal.nD → PrngReg), Pre_MlaDownReferenceIdeal m →
    θ_run (Cert.MlaDownReferenceIdeal.defs (F := Ideal)) (onTc (τ := Cert.MlaDownReferenceIdeal.τ) (Cert.MlaDownReferenceIdeal.main (F := Ideal))) ⟨m, fun _ => 0, g⟩ (fun r => (∀ c : Dev Cert.MlaDownReferenceIdeal.nD,
      r.2.mem ((c.tc : Thread Cert.MlaDownReferenceIdeal.nD Cert.MlaDownReferenceIdeal.τ).loc Cert.MlaDownReferenceIdeal.main_arg0) = m ((c.tc : Thread Cert.MlaDownReferenceIdeal.nD Cert.MlaDownReferenceIdeal.τ).loc Cert.MlaDownReferenceIdeal.main_arg0)
      ∧ r.2.mem ((c.tc : Thread Cert.MlaDownReferenceIdeal.nD Cert.MlaDownReferenceIdeal.τ).loc Cert.MlaDownReferenceIdeal.main_arg1) = m ((c.tc : Thread Cert.MlaDownReferenceIdeal.nD Cert.MlaDownReferenceIdeal.τ).loc Cert.MlaDownReferenceIdeal.main_arg1)
      ∧ r.2.mem ((c.tc : Thread Cert.MlaDownReferenceIdeal.nD Cert.MlaDownReferenceIdeal.τ).loc Cert.MlaDownReferenceIdeal.main_arg2) = m ((c.tc : Thread Cert.MlaDownReferenceIdeal.nD Cert.MlaDownReferenceIdeal.τ).loc Cert.MlaDownReferenceIdeal.main_arg2))
      ∧ r.2.sem = fun _ => 0)

def quiescent_HyOut [hHyOut : Cert.HyOut.Facts] : Prop :=
  ∀ (m : (ℓ : Loc Cert.HyOut.nD Cert.HyOut.τ Cert.HyOut.sig) → Buf (Elt Bits) ℓ) (g : Dev Cert.HyOut.nD → PrngReg), Pre_HyOut m →
    θ_run (Cert.HyOut.defs (F := Bits)) (onTc (τ := Cert.HyOut.τ) (Cert.HyOut.main (F := Bits))) ⟨m, fun _ => 0, g⟩ (fun r => (∀ c : Dev Cert.HyOut.nD,
      r.2.mem ((c.tc : Thread Cert.HyOut.nD Cert.HyOut.τ).loc Cert.HyOut.main_arg0) = m ((c.tc : Thread Cert.HyOut.nD Cert.HyOut.τ).loc Cert.HyOut.main_arg0)
      ∧ r.2.mem ((c.tc : Thread Cert.HyOut.nD Cert.HyOut.τ).loc Cert.HyOut.main_arg1) = m ((c.tc : Thread Cert.HyOut.nD Cert.HyOut.τ).loc Cert.HyOut.main_arg1)
      ∧ r.2.mem ((c.tc : Thread Cert.HyOut.nD Cert.HyOut.τ).loc Cert.HyOut.main_arg2) = m ((c.tc : Thread Cert.HyOut.nD Cert.HyOut.τ).loc Cert.HyOut.main_arg2))
      ∧ r.2.sem = fun _ => 0)

def quiescent_HyOutIdeal [hHyOutIdeal : Cert.HyOutIdeal.Facts] : Prop :=
  ∀ (m : (ℓ : Loc Cert.HyOutIdeal.nD Cert.HyOutIdeal.τ Cert.HyOutIdeal.sig) → Buf (Elt Ideal) ℓ) (g : Dev Cert.HyOutIdeal.nD → PrngReg), Pre_HyOutIdeal m →
    θ_run (Cert.HyOutIdeal.defs (F := Ideal)) (onTc (τ := Cert.HyOutIdeal.τ) (Cert.HyOutIdeal.main (F := Ideal))) ⟨m, fun _ => 0, g⟩ (fun r => (∀ c : Dev Cert.HyOutIdeal.nD,
      r.2.mem ((c.tc : Thread Cert.HyOutIdeal.nD Cert.HyOutIdeal.τ).loc Cert.HyOutIdeal.main_arg0) = m ((c.tc : Thread Cert.HyOutIdeal.nD Cert.HyOutIdeal.τ).loc Cert.HyOutIdeal.main_arg0)
      ∧ r.2.mem ((c.tc : Thread Cert.HyOutIdeal.nD Cert.HyOutIdeal.τ).loc Cert.HyOutIdeal.main_arg1) = m ((c.tc : Thread Cert.HyOutIdeal.nD Cert.HyOutIdeal.τ).loc Cert.HyOutIdeal.main_arg1)
      ∧ r.2.mem ((c.tc : Thread Cert.HyOutIdeal.nD Cert.HyOutIdeal.τ).loc Cert.HyOutIdeal.main_arg2) = m ((c.tc : Thread Cert.HyOutIdeal.nD Cert.HyOutIdeal.τ).loc Cert.HyOutIdeal.main_arg2))
      ∧ r.2.sem = fun _ => 0)

def quiescent_HyOutReferenceIdeal [hHyOutReferenceIdeal : Cert.HyOutReferenceIdeal.Facts] : Prop :=
  ∀ (m : (ℓ : Loc Cert.HyOutReferenceIdeal.nD Cert.HyOutReferenceIdeal.τ Cert.HyOutReferenceIdeal.sig) → Buf (Elt Ideal) ℓ) (g : Dev Cert.HyOutReferenceIdeal.nD → PrngReg), Pre_HyOutReferenceIdeal m →
    θ_run (Cert.HyOutReferenceIdeal.defs (F := Ideal)) (onTc (τ := Cert.HyOutReferenceIdeal.τ) (Cert.HyOutReferenceIdeal.main (F := Ideal))) ⟨m, fun _ => 0, g⟩ (fun r => (∀ c : Dev Cert.HyOutReferenceIdeal.nD,
      r.2.mem ((c.tc : Thread Cert.HyOutReferenceIdeal.nD Cert.HyOutReferenceIdeal.τ).loc Cert.HyOutReferenceIdeal.main_arg0) = m ((c.tc : Thread Cert.HyOutReferenceIdeal.nD Cert.HyOutReferenceIdeal.τ).loc Cert.HyOutReferenceIdeal.main_arg0)
      ∧ r.2.mem ((c.tc : Thread Cert.HyOutReferenceIdeal.nD Cert.HyOutReferenceIdeal.τ).loc Cert.HyOutReferenceIdeal.main_arg1) = m ((c.tc : Thread Cert.HyOutReferenceIdeal.nD Cert.HyOutReferenceIdeal.τ).loc Cert.HyOutReferenceIdeal.main_arg1)
      ∧ r.2.mem ((c.tc : Thread Cert.HyOutReferenceIdeal.nD Cert.HyOutReferenceIdeal.τ).loc Cert.HyOutReferenceIdeal.main_arg2) = m ((c.tc : Thread Cert.HyOutReferenceIdeal.nD Cert.HyOutReferenceIdeal.τ).loc Cert.HyOutReferenceIdeal.main_arg2))
      ∧ r.2.sem = fun _ => 0)

def quiescent_MlaOut [hMlaOut : Cert.MlaOut.Facts] : Prop :=
  ∀ (m : (ℓ : Loc Cert.MlaOut.nD Cert.MlaOut.τ Cert.MlaOut.sig) → Buf (Elt Bits) ℓ) (g : Dev Cert.MlaOut.nD → PrngReg), Pre_MlaOut m →
    θ_run (Cert.MlaOut.defs (F := Bits)) (onTc (τ := Cert.MlaOut.τ) (Cert.MlaOut.main (F := Bits))) ⟨m, fun _ => 0, g⟩ (fun r => (∀ c : Dev Cert.MlaOut.nD,
      r.2.mem ((c.tc : Thread Cert.MlaOut.nD Cert.MlaOut.τ).loc Cert.MlaOut.main_arg0) = m ((c.tc : Thread Cert.MlaOut.nD Cert.MlaOut.τ).loc Cert.MlaOut.main_arg0)
      ∧ r.2.mem ((c.tc : Thread Cert.MlaOut.nD Cert.MlaOut.τ).loc Cert.MlaOut.main_arg1) = m ((c.tc : Thread Cert.MlaOut.nD Cert.MlaOut.τ).loc Cert.MlaOut.main_arg1)
      ∧ r.2.mem ((c.tc : Thread Cert.MlaOut.nD Cert.MlaOut.τ).loc Cert.MlaOut.main_arg2) = m ((c.tc : Thread Cert.MlaOut.nD Cert.MlaOut.τ).loc Cert.MlaOut.main_arg2))
      ∧ r.2.sem = fun _ => 0)

def quiescent_MlaOutIdeal [hMlaOutIdeal : Cert.MlaOutIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg), Pre_MlaOutIdeal m →
    θ_run (Cert.MlaOutIdeal.defs (F := Ideal)) (onTc (τ := Cert.MlaOutIdeal.τ) (Cert.MlaOutIdeal.main (F := Ideal))) ⟨m, fun _ => 0, g⟩ (fun r => (∀ c : Dev Cert.MlaOutIdeal.nD,
      r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
      ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1)
      ∧ r.2.mem ((c.tc : Thread Cert.MlaOutIdeal.nD Cert.MlaOutIdeal.τ).loc Cert.MlaOutIdeal.main_arg2) = m ((c.tc : Thread Cert.MlaOutIdeal.nD Cert.MlaOutIdeal.τ).loc Cert.MlaOutIdeal.main_arg2))
      ∧ r.2.sem = fun _ => 0)

def quiescent_MlaOutReferenceIdeal [hMlaOutReferenceIdeal : Cert.MlaOutReferenceIdeal.Facts] : Prop :=
  ∀ (m : (ℓ : Loc Cert.MlaOutReferenceIdeal.nD Cert.MlaOutReferenceIdeal.τ Cert.MlaOutReferenceIdeal.sig) → Buf (Elt Ideal) ℓ) (g : Dev Cert.MlaOutReferenceIdeal.nD → PrngReg), Pre_MlaOutReferenceIdeal m →
    θ_run (Cert.MlaOutReferenceIdeal.defs (F := Ideal)) (onTc (τ := Cert.MlaOutReferenceIdeal.τ) (Cert.MlaOutReferenceIdeal.main (F := Ideal))) ⟨m, fun _ => 0, g⟩ (fun r => (∀ c : Dev Cert.MlaOutReferenceIdeal.nD,
      r.2.mem ((c.tc : Thread Cert.MlaOutReferenceIdeal.nD Cert.MlaOutReferenceIdeal.τ).loc Cert.MlaOutReferenceIdeal.main_arg0) = m ((c.tc : Thread Cert.MlaOutReferenceIdeal.nD Cert.MlaOutReferenceIdeal.τ).loc Cert.MlaOutReferenceIdeal.main_arg0)
      ∧ r.2.mem ((c.tc : Thread Cert.MlaOutReferenceIdeal.nD Cert.MlaOutReferenceIdeal.τ).loc Cert.MlaOutReferenceIdeal.main_arg1) = m ((c.tc : Thread Cert.MlaOutReferenceIdeal.nD Cert.MlaOutReferenceIdeal.τ).loc Cert.MlaOutReferenceIdeal.main_arg1)
      ∧ r.2.mem ((c.tc : Thread Cert.MlaOutReferenceIdeal.nD Cert.MlaOutReferenceIdeal.τ).loc Cert.MlaOutReferenceIdeal.main_arg2) = m ((c.tc : Thread Cert.MlaOutReferenceIdeal.nD Cert.MlaOutReferenceIdeal.τ).loc Cert.MlaOutReferenceIdeal.main_arg2))
      ∧ r.2.sem = fun _ => 0)

def quiescent_MlaQ [hMlaQ : Cert.MlaQ.Facts] : Prop :=
  ∀ (m : (ℓ : Loc Cert.MlaQ.nD Cert.MlaQ.τ Cert.MlaQ.sig) → Buf (Elt Bits) ℓ) (g : Dev Cert.MlaQ.nD → PrngReg), Pre_MlaQ m →
    θ_run (Cert.MlaQ.defs (F := Bits)) (onTc (τ := Cert.MlaQ.τ) (Cert.MlaQ.main (F := Bits))) ⟨m, fun _ => 0, g⟩ (fun r => (∀ c : Dev Cert.MlaQ.nD,
      r.2.mem ((c.tc : Thread Cert.MlaQ.nD Cert.MlaQ.τ).loc Cert.MlaQ.main_arg0) = m ((c.tc : Thread Cert.MlaQ.nD Cert.MlaQ.τ).loc Cert.MlaQ.main_arg0)
      ∧ r.2.mem ((c.tc : Thread Cert.MlaQ.nD Cert.MlaQ.τ).loc Cert.MlaQ.main_arg1) = m ((c.tc : Thread Cert.MlaQ.nD Cert.MlaQ.τ).loc Cert.MlaQ.main_arg1)
      ∧ r.2.mem ((c.tc : Thread Cert.MlaQ.nD Cert.MlaQ.τ).loc Cert.MlaQ.main_arg2) = m ((c.tc : Thread Cert.MlaQ.nD Cert.MlaQ.τ).loc Cert.MlaQ.main_arg2)
      ∧ r.2.mem ((c.tc : Thread Cert.MlaQ.nD Cert.MlaQ.τ).loc Cert.MlaQ.main_arg3) = m ((c.tc : Thread Cert.MlaQ.nD Cert.MlaQ.τ).loc Cert.MlaQ.main_arg3)
      ∧ r.2.mem ((c.tc : Thread Cert.MlaQ.nD Cert.MlaQ.τ).loc Cert.MlaQ.main_arg4) = m ((c.tc : Thread Cert.MlaQ.nD Cert.MlaQ.τ).loc Cert.MlaQ.main_arg4)
      ∧ r.2.mem ((c.tc : Thread Cert.MlaQ.nD Cert.MlaQ.τ).loc Cert.MlaQ.main_arg5) = m ((c.tc : Thread Cert.MlaQ.nD Cert.MlaQ.τ).loc Cert.MlaQ.main_arg5)
      ∧ r.2.mem ((c.tc : Thread Cert.MlaQ.nD Cert.MlaQ.τ).loc Cert.MlaQ.main_arg6) = m ((c.tc : Thread Cert.MlaQ.nD Cert.MlaQ.τ).loc Cert.MlaQ.main_arg6))
      ∧ r.2.sem = fun _ => 0)

def quiescent_MlaQIdeal [hMlaQIdeal : Cert.MlaQIdeal.Facts] : Prop :=
  ∀ (m : (ℓ : Loc Cert.MlaQIdeal.nD Cert.MlaQIdeal.τ Cert.MlaQIdeal.sig) → Buf (Elt Ideal) ℓ) (g : Dev Cert.MlaQIdeal.nD → PrngReg), Pre_MlaQIdeal m →
    θ_run (Cert.MlaQIdeal.defs (F := Ideal)) (onTc (τ := Cert.MlaQIdeal.τ) (Cert.MlaQIdeal.main (F := Ideal))) ⟨m, fun _ => 0, g⟩ (fun r => (∀ c : Dev Cert.MlaQIdeal.nD,
      r.2.mem ((c.tc : Thread Cert.MlaQIdeal.nD Cert.MlaQIdeal.τ).loc Cert.MlaQIdeal.main_arg0) = m ((c.tc : Thread Cert.MlaQIdeal.nD Cert.MlaQIdeal.τ).loc Cert.MlaQIdeal.main_arg0)
      ∧ r.2.mem ((c.tc : Thread Cert.MlaQIdeal.nD Cert.MlaQIdeal.τ).loc Cert.MlaQIdeal.main_arg1) = m ((c.tc : Thread Cert.MlaQIdeal.nD Cert.MlaQIdeal.τ).loc Cert.MlaQIdeal.main_arg1)
      ∧ r.2.mem ((c.tc : Thread Cert.MlaQIdeal.nD Cert.MlaQIdeal.τ).loc Cert.MlaQIdeal.main_arg2) = m ((c.tc : Thread Cert.MlaQIdeal.nD Cert.MlaQIdeal.τ).loc Cert.MlaQIdeal.main_arg2)
      ∧ r.2.mem ((c.tc : Thread Cert.MlaQIdeal.nD Cert.MlaQIdeal.τ).loc Cert.MlaQIdeal.main_arg3) = m ((c.tc : Thread Cert.MlaQIdeal.nD Cert.MlaQIdeal.τ).loc Cert.MlaQIdeal.main_arg3)
      ∧ r.2.mem ((c.tc : Thread Cert.MlaQIdeal.nD Cert.MlaQIdeal.τ).loc Cert.MlaQIdeal.main_arg4) = m ((c.tc : Thread Cert.MlaQIdeal.nD Cert.MlaQIdeal.τ).loc Cert.MlaQIdeal.main_arg4)
      ∧ r.2.mem ((c.tc : Thread Cert.MlaQIdeal.nD Cert.MlaQIdeal.τ).loc Cert.MlaQIdeal.main_arg5) = m ((c.tc : Thread Cert.MlaQIdeal.nD Cert.MlaQIdeal.τ).loc Cert.MlaQIdeal.main_arg5)
      ∧ r.2.mem ((c.tc : Thread Cert.MlaQIdeal.nD Cert.MlaQIdeal.τ).loc Cert.MlaQIdeal.main_arg6) = m ((c.tc : Thread Cert.MlaQIdeal.nD Cert.MlaQIdeal.τ).loc Cert.MlaQIdeal.main_arg6))
      ∧ r.2.sem = fun _ => 0)

def quiescent_MlaQReferenceIdeal [hMlaQReferenceIdeal : Cert.MlaQReferenceIdeal.Facts] : Prop :=
  ∀ (m : (ℓ : Loc Cert.MlaQReferenceIdeal.nD Cert.MlaQReferenceIdeal.τ Cert.MlaQReferenceIdeal.sig) → Buf (Elt Ideal) ℓ) (g : Dev Cert.MlaQReferenceIdeal.nD → PrngReg), Pre_MlaQReferenceIdeal m →
    θ_run (Cert.MlaQReferenceIdeal.defs (F := Ideal)) (onTc (τ := Cert.MlaQReferenceIdeal.τ) (Cert.MlaQReferenceIdeal.main (F := Ideal))) ⟨m, fun _ => 0, g⟩ (fun r => (∀ c : Dev Cert.MlaQReferenceIdeal.nD,
      r.2.mem ((c.tc : Thread Cert.MlaQReferenceIdeal.nD Cert.MlaQReferenceIdeal.τ).loc Cert.MlaQReferenceIdeal.main_arg0) = m ((c.tc : Thread Cert.MlaQReferenceIdeal.nD Cert.MlaQReferenceIdeal.τ).loc Cert.MlaQReferenceIdeal.main_arg0)
      ∧ r.2.mem ((c.tc : Thread Cert.MlaQReferenceIdeal.nD Cert.MlaQReferenceIdeal.τ).loc Cert.MlaQReferenceIdeal.main_arg1) = m ((c.tc : Thread Cert.MlaQReferenceIdeal.nD Cert.MlaQReferenceIdeal.τ).loc Cert.MlaQReferenceIdeal.main_arg1)
      ∧ r.2.mem ((c.tc : Thread Cert.MlaQReferenceIdeal.nD Cert.MlaQReferenceIdeal.τ).loc Cert.MlaQReferenceIdeal.main_arg2) = m ((c.tc : Thread Cert.MlaQReferenceIdeal.nD Cert.MlaQReferenceIdeal.τ).loc Cert.MlaQReferenceIdeal.main_arg2)
      ∧ r.2.mem ((c.tc : Thread Cert.MlaQReferenceIdeal.nD Cert.MlaQReferenceIdeal.τ).loc Cert.MlaQReferenceIdeal.main_arg3) = m ((c.tc : Thread Cert.MlaQReferenceIdeal.nD Cert.MlaQReferenceIdeal.τ).loc Cert.MlaQReferenceIdeal.main_arg3)
      ∧ r.2.mem ((c.tc : Thread Cert.MlaQReferenceIdeal.nD Cert.MlaQReferenceIdeal.τ).loc Cert.MlaQReferenceIdeal.main_arg4) = m ((c.tc : Thread Cert.MlaQReferenceIdeal.nD Cert.MlaQReferenceIdeal.τ).loc Cert.MlaQReferenceIdeal.main_arg4)
      ∧ r.2.mem ((c.tc : Thread Cert.MlaQReferenceIdeal.nD Cert.MlaQReferenceIdeal.τ).loc Cert.MlaQReferenceIdeal.main_arg5) = m ((c.tc : Thread Cert.MlaQReferenceIdeal.nD Cert.MlaQReferenceIdeal.τ).loc Cert.MlaQReferenceIdeal.main_arg5)
      ∧ r.2.mem ((c.tc : Thread Cert.MlaQReferenceIdeal.nD Cert.MlaQReferenceIdeal.τ).loc Cert.MlaQReferenceIdeal.main_arg6) = m ((c.tc : Thread Cert.MlaQReferenceIdeal.nD Cert.MlaQReferenceIdeal.τ).loc Cert.MlaQReferenceIdeal.main_arg6))
      ∧ r.2.sem = fun _ => 0)

def quiescent_MlaKv [hMlaKv : Cert.MlaKv.Facts] : Prop :=
  ∀ (m : (ℓ : Loc Cert.MlaKv.nD Cert.MlaKv.τ Cert.MlaKv.sig) → Buf (Elt Bits) ℓ) (g : Dev Cert.MlaKv.nD → PrngReg), Pre_MlaKv m →
    θ_run (Cert.MlaKv.defs (F := Bits)) (onTc (τ := Cert.MlaKv.τ) (Cert.MlaKv.main (F := Bits))) ⟨m, fun _ => 0, g⟩ (fun r => (∀ c : Dev Cert.MlaKv.nD,
      r.2.mem ((c.tc : Thread Cert.MlaKv.nD Cert.MlaKv.τ).loc Cert.MlaKv.main_arg0) = m ((c.tc : Thread Cert.MlaKv.nD Cert.MlaKv.τ).loc Cert.MlaKv.main_arg0)
      ∧ r.2.mem ((c.tc : Thread Cert.MlaKv.nD Cert.MlaKv.τ).loc Cert.MlaKv.main_arg1) = m ((c.tc : Thread Cert.MlaKv.nD Cert.MlaKv.τ).loc Cert.MlaKv.main_arg1)
      ∧ r.2.mem ((c.tc : Thread Cert.MlaKv.nD Cert.MlaKv.τ).loc Cert.MlaKv.main_arg2) = m ((c.tc : Thread Cert.MlaKv.nD Cert.MlaKv.τ).loc Cert.MlaKv.main_arg2)
      ∧ r.2.mem ((c.tc : Thread Cert.MlaKv.nD Cert.MlaKv.τ).loc Cert.MlaKv.main_arg3) = m ((c.tc : Thread Cert.MlaKv.nD Cert.MlaKv.τ).loc Cert.MlaKv.main_arg3)
      ∧ r.2.mem ((c.tc : Thread Cert.MlaKv.nD Cert.MlaKv.τ).loc Cert.MlaKv.main_arg4) = m ((c.tc : Thread Cert.MlaKv.nD Cert.MlaKv.τ).loc Cert.MlaKv.main_arg4)
      ∧ r.2.mem ((c.tc : Thread Cert.MlaKv.nD Cert.MlaKv.τ).loc Cert.MlaKv.main_arg5) = m ((c.tc : Thread Cert.MlaKv.nD Cert.MlaKv.τ).loc Cert.MlaKv.main_arg5)
      ∧ r.2.mem ((c.tc : Thread Cert.MlaKv.nD Cert.MlaKv.τ).loc Cert.MlaKv.main_arg6) = m ((c.tc : Thread Cert.MlaKv.nD Cert.MlaKv.τ).loc Cert.MlaKv.main_arg6)
      ∧ r.2.mem ((c.tc : Thread Cert.MlaKv.nD Cert.MlaKv.τ).loc Cert.MlaKv.main_arg7) = m ((c.tc : Thread Cert.MlaKv.nD Cert.MlaKv.τ).loc Cert.MlaKv.main_arg7))
      ∧ r.2.sem = fun _ => 0)

def quiescent_MlaKvIdeal [hMlaKvIdeal : Cert.MlaKvIdeal.Facts] : Prop :=
  ∀ (m : (ℓ : Loc Cert.MlaKvIdeal.nD Cert.MlaKvIdeal.τ Cert.MlaKvIdeal.sig) → Buf (Elt Ideal) ℓ) (g : Dev Cert.MlaKvIdeal.nD → PrngReg), Pre_MlaKvIdeal m →
    θ_run (Cert.MlaKvIdeal.defs (F := Ideal)) (onTc (τ := Cert.MlaKvIdeal.τ) (Cert.MlaKvIdeal.main (F := Ideal))) ⟨m, fun _ => 0, g⟩ (fun r => (∀ c : Dev Cert.MlaKvIdeal.nD,
      r.2.mem ((c.tc : Thread Cert.MlaKvIdeal.nD Cert.MlaKvIdeal.τ).loc Cert.MlaKvIdeal.main_arg0) = m ((c.tc : Thread Cert.MlaKvIdeal.nD Cert.MlaKvIdeal.τ).loc Cert.MlaKvIdeal.main_arg0)
      ∧ r.2.mem ((c.tc : Thread Cert.MlaKvIdeal.nD Cert.MlaKvIdeal.τ).loc Cert.MlaKvIdeal.main_arg1) = m ((c.tc : Thread Cert.MlaKvIdeal.nD Cert.MlaKvIdeal.τ).loc Cert.MlaKvIdeal.main_arg1)
      ∧ r.2.mem ((c.tc : Thread Cert.MlaKvIdeal.nD Cert.MlaKvIdeal.τ).loc Cert.MlaKvIdeal.main_arg2) = m ((c.tc : Thread Cert.MlaKvIdeal.nD Cert.MlaKvIdeal.τ).loc Cert.MlaKvIdeal.main_arg2)
      ∧ r.2.mem ((c.tc : Thread Cert.MlaKvIdeal.nD Cert.MlaKvIdeal.τ).loc Cert.MlaKvIdeal.main_arg3) = m ((c.tc : Thread Cert.MlaKvIdeal.nD Cert.MlaKvIdeal.τ).loc Cert.MlaKvIdeal.main_arg3)
      ∧ r.2.mem ((c.tc : Thread Cert.MlaKvIdeal.nD Cert.MlaKvIdeal.τ).loc Cert.MlaKvIdeal.main_arg4) = m ((c.tc : Thread Cert.MlaKvIdeal.nD Cert.MlaKvIdeal.τ).loc Cert.MlaKvIdeal.main_arg4)
      ∧ r.2.mem ((c.tc : Thread Cert.MlaKvIdeal.nD Cert.MlaKvIdeal.τ).loc Cert.MlaKvIdeal.main_arg5) = m ((c.tc : Thread Cert.MlaKvIdeal.nD Cert.MlaKvIdeal.τ).loc Cert.MlaKvIdeal.main_arg5)
      ∧ r.2.mem ((c.tc : Thread Cert.MlaKvIdeal.nD Cert.MlaKvIdeal.τ).loc Cert.MlaKvIdeal.main_arg6) = m ((c.tc : Thread Cert.MlaKvIdeal.nD Cert.MlaKvIdeal.τ).loc Cert.MlaKvIdeal.main_arg6)
      ∧ r.2.mem ((c.tc : Thread Cert.MlaKvIdeal.nD Cert.MlaKvIdeal.τ).loc Cert.MlaKvIdeal.main_arg7) = m ((c.tc : Thread Cert.MlaKvIdeal.nD Cert.MlaKvIdeal.τ).loc Cert.MlaKvIdeal.main_arg7))
      ∧ r.2.sem = fun _ => 0)

def quiescent_MlaKvReferenceIdeal [hMlaKvReferenceIdeal : Cert.MlaKvReferenceIdeal.Facts] : Prop :=
  ∀ (m : (ℓ : Loc Cert.MlaKvReferenceIdeal.nD Cert.MlaKvReferenceIdeal.τ Cert.MlaKvReferenceIdeal.sig) → Buf (Elt Ideal) ℓ) (g : Dev Cert.MlaKvReferenceIdeal.nD → PrngReg), Pre_MlaKvReferenceIdeal m →
    θ_run (Cert.MlaKvReferenceIdeal.defs (F := Ideal)) (onTc (τ := Cert.MlaKvReferenceIdeal.τ) (Cert.MlaKvReferenceIdeal.main (F := Ideal))) ⟨m, fun _ => 0, g⟩ (fun r => (∀ c : Dev Cert.MlaKvReferenceIdeal.nD,
      r.2.mem ((c.tc : Thread Cert.MlaKvReferenceIdeal.nD Cert.MlaKvReferenceIdeal.τ).loc Cert.MlaKvReferenceIdeal.main_arg0) = m ((c.tc : Thread Cert.MlaKvReferenceIdeal.nD Cert.MlaKvReferenceIdeal.τ).loc Cert.MlaKvReferenceIdeal.main_arg0)
      ∧ r.2.mem ((c.tc : Thread Cert.MlaKvReferenceIdeal.nD Cert.MlaKvReferenceIdeal.τ).loc Cert.MlaKvReferenceIdeal.main_arg1) = m ((c.tc : Thread Cert.MlaKvReferenceIdeal.nD Cert.MlaKvReferenceIdeal.τ).loc Cert.MlaKvReferenceIdeal.main_arg1)
      ∧ r.2.mem ((c.tc : Thread Cert.MlaKvReferenceIdeal.nD Cert.MlaKvReferenceIdeal.τ).loc Cert.MlaKvReferenceIdeal.main_arg2) = m ((c.tc : Thread Cert.MlaKvReferenceIdeal.nD Cert.MlaKvReferenceIdeal.τ).loc Cert.MlaKvReferenceIdeal.main_arg2)
      ∧ r.2.mem ((c.tc : Thread Cert.MlaKvReferenceIdeal.nD Cert.MlaKvReferenceIdeal.τ).loc Cert.MlaKvReferenceIdeal.main_arg3) = m ((c.tc : Thread Cert.MlaKvReferenceIdeal.nD Cert.MlaKvReferenceIdeal.τ).loc Cert.MlaKvReferenceIdeal.main_arg3)
      ∧ r.2.mem ((c.tc : Thread Cert.MlaKvReferenceIdeal.nD Cert.MlaKvReferenceIdeal.τ).loc Cert.MlaKvReferenceIdeal.main_arg4) = m ((c.tc : Thread Cert.MlaKvReferenceIdeal.nD Cert.MlaKvReferenceIdeal.τ).loc Cert.MlaKvReferenceIdeal.main_arg4)
      ∧ r.2.mem ((c.tc : Thread Cert.MlaKvReferenceIdeal.nD Cert.MlaKvReferenceIdeal.τ).loc Cert.MlaKvReferenceIdeal.main_arg5) = m ((c.tc : Thread Cert.MlaKvReferenceIdeal.nD Cert.MlaKvReferenceIdeal.τ).loc Cert.MlaKvReferenceIdeal.main_arg5)
      ∧ r.2.mem ((c.tc : Thread Cert.MlaKvReferenceIdeal.nD Cert.MlaKvReferenceIdeal.τ).loc Cert.MlaKvReferenceIdeal.main_arg6) = m ((c.tc : Thread Cert.MlaKvReferenceIdeal.nD Cert.MlaKvReferenceIdeal.τ).loc Cert.MlaKvReferenceIdeal.main_arg6)
      ∧ r.2.mem ((c.tc : Thread Cert.MlaKvReferenceIdeal.nD Cert.MlaKvReferenceIdeal.τ).loc Cert.MlaKvReferenceIdeal.main_arg7) = m ((c.tc : Thread Cert.MlaKvReferenceIdeal.nD Cert.MlaKvReferenceIdeal.τ).loc Cert.MlaKvReferenceIdeal.main_arg7))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_ConvSample [hConvSample : Cert.ConvSample.Facts] : Prop :=
  ∀ (m : (ℓ : Loc Cert.ConvSample.nD Cert.ConvSample.τ Cert.ConvSample.sig) → Buf (Elt Bits) ℓ) (g : Dev Cert.ConvSample.nD → PrngReg), Pre_ConvSample m →
    θ_run (Cert.ConvSample.defs (F := Bits)) (onTc (τ := Cert.ConvSample.τ) (Cert.ConvSample.main (F := Bits))) ⟨m, fun _ => 0, g⟩ (fun r => (∀ c : Dev Cert.ConvSample.nD,
      r.2.mem ((c.tc : Thread Cert.ConvSample.nD Cert.ConvSample.τ).loc Cert.ConvSample.main_arg0) = m ((c.tc : Thread Cert.ConvSample.nD Cert.ConvSample.τ).loc Cert.ConvSample.main_arg0)
      ∧ r.2.mem ((c.tc : Thread Cert.ConvSample.nD Cert.ConvSample.τ).loc Cert.ConvSample.main_arg1) = m ((c.tc : Thread Cert.ConvSample.nD Cert.ConvSample.τ).loc Cert.ConvSample.main_arg1)
      ∧ r.2.mem ((c.tc : Thread Cert.ConvSample.nD Cert.ConvSample.τ).loc Cert.ConvSample.main_arg2) = m ((c.tc : Thread Cert.ConvSample.nD Cert.ConvSample.τ).loc Cert.ConvSample.main_arg2))
      ∧ r.2.sem = fun _ => 0)

def quiescent_ConvSampleIdeal [hConvSampleIdeal : Cert.ConvSampleIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg), Pre_ConvSampleIdeal m →
    θ_run (Cert.ConvSampleIdeal.defs (F := Ideal)) (onTc (τ := Cert.ConvSampleIdeal.τ) (Cert.ConvSampleIdeal.main (F := Ideal))) ⟨m, fun _ => 0, g⟩ (fun r => (∀ c : Dev Cert.ConvSampleIdeal.nD,
      r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
      ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
      ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2))
      ∧ r.2.sem = fun _ => 0)

def quiescent_ConvSampleReferenceIdeal [hConvSampleReferenceIdeal : Cert.ConvSampleReferenceIdeal.Facts] : Prop :=
  ∀ (m : (ℓ : Loc Cert.ConvSampleReferenceIdeal.nD Cert.ConvSampleReferenceIdeal.τ Cert.ConvSampleReferenceIdeal.sig) → Buf (Elt Ideal) ℓ) (g : Dev Cert.ConvSampleReferenceIdeal.nD → PrngReg), Pre_ConvSampleReferenceIdeal m →
    θ_run (Cert.ConvSampleReferenceIdeal.defs (F := Ideal)) (onTc (τ := Cert.ConvSampleReferenceIdeal.τ) (Cert.ConvSampleReferenceIdeal.main (F := Ideal))) ⟨m, fun _ => 0, g⟩ (fun r => (∀ c : Dev Cert.ConvSampleReferenceIdeal.nD,
      r.2.mem ((c.tc : Thread Cert.ConvSampleReferenceIdeal.nD Cert.ConvSampleReferenceIdeal.τ).loc Cert.ConvSampleReferenceIdeal.main_arg0) = m ((c.tc : Thread Cert.ConvSampleReferenceIdeal.nD Cert.ConvSampleReferenceIdeal.τ).loc Cert.ConvSampleReferenceIdeal.main_arg0)
      ∧ r.2.mem ((c.tc : Thread Cert.ConvSampleReferenceIdeal.nD Cert.ConvSampleReferenceIdeal.τ).loc Cert.ConvSampleReferenceIdeal.main_arg1) = m ((c.tc : Thread Cert.ConvSampleReferenceIdeal.nD Cert.ConvSampleReferenceIdeal.τ).loc Cert.ConvSampleReferenceIdeal.main_arg1)
      ∧ r.2.mem ((c.tc : Thread Cert.ConvSampleReferenceIdeal.nD Cert.ConvSampleReferenceIdeal.τ).loc Cert.ConvSampleReferenceIdeal.main_arg2) = m ((c.tc : Thread Cert.ConvSampleReferenceIdeal.nD Cert.ConvSampleReferenceIdeal.τ).loc Cert.ConvSampleReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Down_DownIdeal : Prop :=
  True

def algebraic_DownIdeal_DownReferenceIdeal [hDownIdeal : Cert.DownIdeal.Facts] [hDownReferenceIdeal : Cert.DownReferenceIdeal.Facts] [hPre_experts_named : Cert.Pre_experts_named.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v65) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v19) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v3) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2))

def preserves_Attn_AttnIdeal : Prop :=
  IdealRules.named_const.Statement Cert.AttnIdeal.κ "mask" .f32 0xF149F2CA#32 ⊥

def algebraic_AttnIdeal_AttnReferenceIdeal_pre_ones_row [hAttnIdeal : Cert.AttnIdeal.Facts] [hAttnReferenceIdeal : Cert.AttnReferenceIdeal.Facts] [hPre_ones_row : Cert.Pre_ones_row.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_ones_row m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v22) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3))

def preserves_AttnSample_AttnSampleIdeal : Prop :=
  IdealRules.named_const.Statement Cert.AttnSampleIdeal.κ "mask" .f32 0xF149F2CA#32 ⊥

def algebraic_AttnSampleIdeal_AttnSampleReferenceIdeal_pre_ones_row_sample [hAttnSampleIdeal : Cert.AttnSampleIdeal.Facts] [hAttnSampleReferenceIdeal : Cert.AttnSampleReferenceIdeal.Facts] [hPre_ones_row_sample : Cert.Pre_ones_row_sample.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg)
    (m' : (ℓ : Loc Cert.AttnSampleReferenceIdeal.nD Cert.AttnSampleReferenceIdeal.τ Cert.AttnSampleReferenceIdeal.sig) → Buf (Elt Ideal) ℓ) (g' : Dev Cert.AttnSampleReferenceIdeal.nD → PrngReg), Pre_AttnSampleIdeal_ones_row_sample m →
    (∀ c : Dev Cert.AttnSampleIdeal.nD,
      m' ((c.tc : Thread Cert.AttnSampleReferenceIdeal.nD Cert.AttnSampleReferenceIdeal.τ).loc Cert.AttnSampleReferenceIdeal.main_arg0) = m ((c.tc : Thread Cert.AttnSampleIdeal.nD Cert.AttnSampleIdeal.τ).loc Cert.AttnSampleIdeal.main_arg0)
      ∧ m' ((c.tc : Thread Cert.AttnSampleReferenceIdeal.nD Cert.AttnSampleReferenceIdeal.τ).loc Cert.AttnSampleReferenceIdeal.main_arg1) = m ((c.tc : Thread Cert.AttnSampleIdeal.nD Cert.AttnSampleIdeal.τ).loc Cert.AttnSampleIdeal.main_arg1)
      ∧ m' ((c.tc : Thread Cert.AttnSampleReferenceIdeal.nD Cert.AttnSampleReferenceIdeal.τ).loc Cert.AttnSampleReferenceIdeal.main_arg2) = m ((c.tc : Thread Cert.AttnSampleIdeal.nD Cert.AttnSampleIdeal.τ).loc Cert.AttnSampleIdeal.main_arg2)
      ∧ m' ((c.tc : Thread Cert.AttnSampleReferenceIdeal.nD Cert.AttnSampleReferenceIdeal.τ).loc Cert.AttnSampleReferenceIdeal.main_arg3) = m ((c.tc : Thread Cert.AttnSampleIdeal.nD Cert.AttnSampleIdeal.τ).loc Cert.AttnSampleIdeal.main_arg3)) →
    ∃ (v0 : (c : Dev Cert.AttnSampleIdeal.nD) → Buf (Elt Ideal) ((c.tc : Thread Cert.AttnSampleIdeal.nD Cert.AttnSampleIdeal.τ).loc Cert.AttnSampleIdeal.main_v0)),
      θ_run (Cert.AttnSampleIdeal.defs (F := Ideal)) (onTc (τ := Cert.AttnSampleIdeal.τ) (Cert.AttnSampleIdeal.main (F := Ideal))) ⟨m, fun _ => 0, g⟩ (fun r => ∀ c : Dev Cert.AttnSampleIdeal.nD,
          r.2.mem ((c.tc : Thread Cert.AttnSampleIdeal.nD Cert.AttnSampleIdeal.τ).loc Cert.AttnSampleIdeal.main_v0) = v0 c
          ∧ r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
          ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
          ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
          ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3))
      ∧ θ_run (Cert.AttnSampleReferenceIdeal.defs (F := Ideal)) (onTc (τ := Cert.AttnSampleReferenceIdeal.τ) (Cert.AttnSampleReferenceIdeal.main (F := Ideal))) ⟨m', fun _ => 0, g'⟩ (fun r => ∀ c : Dev Cert.AttnSampleReferenceIdeal.nD,
          r.2.mem ((c.tc : Thread Cert.AttnSampleReferenceIdeal.nD Cert.AttnSampleReferenceIdeal.τ).loc Cert.AttnSampleReferenceIdeal.main_v22) = v0 c
          ∧ r.2.mem ((c.tc : Thread Cert.AttnSampleReferenceIdeal.nD Cert.AttnSampleReferenceIdeal.τ).loc Cert.AttnSampleReferenceIdeal.main_arg0) = m' ((c.tc : Thread Cert.AttnSampleReferenceIdeal.nD Cert.AttnSampleReferenceIdeal.τ).loc Cert.AttnSampleReferenceIdeal.main_arg0)
          ∧ r.2.mem ((c.tc : Thread Cert.AttnSampleReferenceIdeal.nD Cert.AttnSampleReferenceIdeal.τ).loc Cert.AttnSampleReferenceIdeal.main_arg1) = m' ((c.tc : Thread Cert.AttnSampleReferenceIdeal.nD Cert.AttnSampleReferenceIdeal.τ).loc Cert.AttnSampleReferenceIdeal.main_arg1)
          ∧ r.2.mem ((c.tc : Thread Cert.AttnSampleReferenceIdeal.nD Cert.AttnSampleReferenceIdeal.τ).loc Cert.AttnSampleReferenceIdeal.main_arg2) = m' ((c.tc : Thread Cert.AttnSampleReferenceIdeal.nD Cert.AttnSampleReferenceIdeal.τ).loc Cert.AttnSampleReferenceIdeal.main_arg2)
          ∧ r.2.mem ((c.tc : Thread Cert.AttnSampleReferenceIdeal.nD Cert.AttnSampleReferenceIdeal.τ).loc Cert.AttnSampleReferenceIdeal.main_arg3) = m' ((c.tc : Thread Cert.AttnSampleReferenceIdeal.nD Cert.AttnSampleReferenceIdeal.τ).loc Cert.AttnSampleReferenceIdeal.main_arg3))

def preserves_HyIn_HyInIdeal : Prop :=
  True

def algebraic_HyInIdeal_HyInReferenceIdeal [hHyInIdeal : Cert.HyInIdeal.Facts] [hHyInReferenceIdeal : Cert.HyInReferenceIdeal.Facts] : Prop :=
  ∀ (m : (ℓ : Loc Cert.HyInIdeal.nD Cert.HyInIdeal.τ Cert.HyInIdeal.sig) → Buf (Elt Ideal) ℓ) (g : Dev Cert.HyInIdeal.nD → PrngReg)
    (m' : (ℓ : Loc Cert.HyInReferenceIdeal.nD Cert.HyInReferenceIdeal.τ Cert.HyInReferenceIdeal.sig) → Buf (Elt Ideal) ℓ) (g' : Dev Cert.HyInReferenceIdeal.nD → PrngReg), Pre_HyInIdeal m →
    (∀ c : Dev Cert.HyInIdeal.nD,
      m' ((c.tc : Thread Cert.HyInReferenceIdeal.nD Cert.HyInReferenceIdeal.τ).loc Cert.HyInReferenceIdeal.main_arg0) = m ((c.tc : Thread Cert.HyInIdeal.nD Cert.HyInIdeal.τ).loc Cert.HyInIdeal.main_arg0)
      ∧ m' ((c.tc : Thread Cert.HyInReferenceIdeal.nD Cert.HyInReferenceIdeal.τ).loc Cert.HyInReferenceIdeal.main_arg1) = m ((c.tc : Thread Cert.HyInIdeal.nD Cert.HyInIdeal.τ).loc Cert.HyInIdeal.main_arg1)
      ∧ m' ((c.tc : Thread Cert.HyInReferenceIdeal.nD Cert.HyInReferenceIdeal.τ).loc Cert.HyInReferenceIdeal.main_arg2) = m ((c.tc : Thread Cert.HyInIdeal.nD Cert.HyInIdeal.τ).loc Cert.HyInIdeal.main_arg2)) →
    ∃ (v0 : (c : Dev Cert.HyInIdeal.nD) → Buf (Elt Ideal) ((c.tc : Thread Cert.HyInIdeal.nD Cert.HyInIdeal.τ).loc Cert.HyInIdeal.main_v1)),
      θ_run (Cert.HyInIdeal.defs (F := Ideal)) (onTc (τ := Cert.HyInIdeal.τ) (Cert.HyInIdeal.main (F := Ideal))) ⟨m, fun _ => 0, g⟩ (fun r => ∀ c : Dev Cert.HyInIdeal.nD,
          r.2.mem ((c.tc : Thread Cert.HyInIdeal.nD Cert.HyInIdeal.τ).loc Cert.HyInIdeal.main_v1) = v0 c
          ∧ r.2.mem ((c.tc : Thread Cert.HyInIdeal.nD Cert.HyInIdeal.τ).loc Cert.HyInIdeal.main_arg0) = m ((c.tc : Thread Cert.HyInIdeal.nD Cert.HyInIdeal.τ).loc Cert.HyInIdeal.main_arg0)
          ∧ r.2.mem ((c.tc : Thread Cert.HyInIdeal.nD Cert.HyInIdeal.τ).loc Cert.HyInIdeal.main_arg1) = m ((c.tc : Thread Cert.HyInIdeal.nD Cert.HyInIdeal.τ).loc Cert.HyInIdeal.main_arg1)
          ∧ r.2.mem ((c.tc : Thread Cert.HyInIdeal.nD Cert.HyInIdeal.τ).loc Cert.HyInIdeal.main_arg2) = m ((c.tc : Thread Cert.HyInIdeal.nD Cert.HyInIdeal.τ).loc Cert.HyInIdeal.main_arg2))
      ∧ θ_run (Cert.HyInReferenceIdeal.defs (F := Ideal)) (onTc (τ := Cert.HyInReferenceIdeal.τ) (Cert.HyInReferenceIdeal.main (F := Ideal))) ⟨m', fun _ => 0, g'⟩ (fun r => ∀ c : Dev Cert.HyInReferenceIdeal.nD,
          r.2.mem ((c.tc : Thread Cert.HyInReferenceIdeal.nD Cert.HyInReferenceIdeal.τ).loc Cert.HyInReferenceIdeal.main_v15) = v0 c
          ∧ r.2.mem ((c.tc : Thread Cert.HyInReferenceIdeal.nD Cert.HyInReferenceIdeal.τ).loc Cert.HyInReferenceIdeal.main_arg0) = m' ((c.tc : Thread Cert.HyInReferenceIdeal.nD Cert.HyInReferenceIdeal.τ).loc Cert.HyInReferenceIdeal.main_arg0)
          ∧ r.2.mem ((c.tc : Thread Cert.HyInReferenceIdeal.nD Cert.HyInReferenceIdeal.τ).loc Cert.HyInReferenceIdeal.main_arg1) = m' ((c.tc : Thread Cert.HyInReferenceIdeal.nD Cert.HyInReferenceIdeal.τ).loc Cert.HyInReferenceIdeal.main_arg1)
          ∧ r.2.mem ((c.tc : Thread Cert.HyInReferenceIdeal.nD Cert.HyInReferenceIdeal.τ).loc Cert.HyInReferenceIdeal.main_arg2) = m' ((c.tc : Thread Cert.HyInReferenceIdeal.nD Cert.HyInReferenceIdeal.τ).loc Cert.HyInReferenceIdeal.main_arg2))

def preserves_MlaDown_MlaDownIdeal : Prop :=
  True

def algebraic_MlaDownIdeal_MlaDownReferenceIdeal [hMlaDownIdeal : Cert.MlaDownIdeal.Facts] [hMlaDownReferenceIdeal : Cert.MlaDownReferenceIdeal.Facts] : Prop :=
  ∀ (m : (ℓ : Loc Cert.MlaDownIdeal.nD Cert.MlaDownIdeal.τ Cert.MlaDownIdeal.sig) → Buf (Elt Ideal) ℓ) (g : Dev Cert.MlaDownIdeal.nD → PrngReg)
    (m' : (ℓ : Loc Cert.MlaDownReferenceIdeal.nD Cert.MlaDownReferenceIdeal.τ Cert.MlaDownReferenceIdeal.sig) → Buf (Elt Ideal) ℓ) (g' : Dev Cert.MlaDownReferenceIdeal.nD → PrngReg), Pre_MlaDownIdeal m →
    (∀ c : Dev Cert.MlaDownIdeal.nD,
      m' ((c.tc : Thread Cert.MlaDownReferenceIdeal.nD Cert.MlaDownReferenceIdeal.τ).loc Cert.MlaDownReferenceIdeal.main_arg0) = m ((c.tc : Thread Cert.MlaDownIdeal.nD Cert.MlaDownIdeal.τ).loc Cert.MlaDownIdeal.main_arg0)
      ∧ m' ((c.tc : Thread Cert.MlaDownReferenceIdeal.nD Cert.MlaDownReferenceIdeal.τ).loc Cert.MlaDownReferenceIdeal.main_arg1) = m ((c.tc : Thread Cert.MlaDownIdeal.nD Cert.MlaDownIdeal.τ).loc Cert.MlaDownIdeal.main_arg1)
      ∧ m' ((c.tc : Thread Cert.MlaDownReferenceIdeal.nD Cert.MlaDownReferenceIdeal.τ).loc Cert.MlaDownReferenceIdeal.main_arg2) = m ((c.tc : Thread Cert.MlaDownIdeal.nD Cert.MlaDownIdeal.τ).loc Cert.MlaDownIdeal.main_arg2)) →
    ∃ (v0 : (c : Dev Cert.MlaDownIdeal.nD) → Buf (Elt Ideal) ((c.tc : Thread Cert.MlaDownIdeal.nD Cert.MlaDownIdeal.τ).loc Cert.MlaDownIdeal.main_v1)),
      θ_run (Cert.MlaDownIdeal.defs (F := Ideal)) (onTc (τ := Cert.MlaDownIdeal.τ) (Cert.MlaDownIdeal.main (F := Ideal))) ⟨m, fun _ => 0, g⟩ (fun r => ∀ c : Dev Cert.MlaDownIdeal.nD,
          r.2.mem ((c.tc : Thread Cert.MlaDownIdeal.nD Cert.MlaDownIdeal.τ).loc Cert.MlaDownIdeal.main_v1) = v0 c
          ∧ r.2.mem ((c.tc : Thread Cert.MlaDownIdeal.nD Cert.MlaDownIdeal.τ).loc Cert.MlaDownIdeal.main_arg0) = m ((c.tc : Thread Cert.MlaDownIdeal.nD Cert.MlaDownIdeal.τ).loc Cert.MlaDownIdeal.main_arg0)
          ∧ r.2.mem ((c.tc : Thread Cert.MlaDownIdeal.nD Cert.MlaDownIdeal.τ).loc Cert.MlaDownIdeal.main_arg1) = m ((c.tc : Thread Cert.MlaDownIdeal.nD Cert.MlaDownIdeal.τ).loc Cert.MlaDownIdeal.main_arg1)
          ∧ r.2.mem ((c.tc : Thread Cert.MlaDownIdeal.nD Cert.MlaDownIdeal.τ).loc Cert.MlaDownIdeal.main_arg2) = m ((c.tc : Thread Cert.MlaDownIdeal.nD Cert.MlaDownIdeal.τ).loc Cert.MlaDownIdeal.main_arg2))
      ∧ θ_run (Cert.MlaDownReferenceIdeal.defs (F := Ideal)) (onTc (τ := Cert.MlaDownReferenceIdeal.τ) (Cert.MlaDownReferenceIdeal.main (F := Ideal))) ⟨m', fun _ => 0, g'⟩ (fun r => ∀ c : Dev Cert.MlaDownReferenceIdeal.nD,
          r.2.mem ((c.tc : Thread Cert.MlaDownReferenceIdeal.nD Cert.MlaDownReferenceIdeal.τ).loc Cert.MlaDownReferenceIdeal.main_v14) = v0 c
          ∧ r.2.mem ((c.tc : Thread Cert.MlaDownReferenceIdeal.nD Cert.MlaDownReferenceIdeal.τ).loc Cert.MlaDownReferenceIdeal.main_arg0) = m' ((c.tc : Thread Cert.MlaDownReferenceIdeal.nD Cert.MlaDownReferenceIdeal.τ).loc Cert.MlaDownReferenceIdeal.main_arg0)
          ∧ r.2.mem ((c.tc : Thread Cert.MlaDownReferenceIdeal.nD Cert.MlaDownReferenceIdeal.τ).loc Cert.MlaDownReferenceIdeal.main_arg1) = m' ((c.tc : Thread Cert.MlaDownReferenceIdeal.nD Cert.MlaDownReferenceIdeal.τ).loc Cert.MlaDownReferenceIdeal.main_arg1)
          ∧ r.2.mem ((c.tc : Thread Cert.MlaDownReferenceIdeal.nD Cert.MlaDownReferenceIdeal.τ).loc Cert.MlaDownReferenceIdeal.main_arg2) = m' ((c.tc : Thread Cert.MlaDownReferenceIdeal.nD Cert.MlaDownReferenceIdeal.τ).loc Cert.MlaDownReferenceIdeal.main_arg2))

def preserves_HyOut_HyOutIdeal : Prop :=
  True

def algebraic_HyOutIdeal_HyOutReferenceIdeal [hHyOutIdeal : Cert.HyOutIdeal.Facts] [hHyOutReferenceIdeal : Cert.HyOutReferenceIdeal.Facts] : Prop :=
  ∀ (m : (ℓ : Loc Cert.HyOutIdeal.nD Cert.HyOutIdeal.τ Cert.HyOutIdeal.sig) → Buf (Elt Ideal) ℓ) (g : Dev Cert.HyOutIdeal.nD → PrngReg)
    (m' : (ℓ : Loc Cert.HyOutReferenceIdeal.nD Cert.HyOutReferenceIdeal.τ Cert.HyOutReferenceIdeal.sig) → Buf (Elt Ideal) ℓ) (g' : Dev Cert.HyOutReferenceIdeal.nD → PrngReg), Pre_HyOutIdeal m →
    (∀ c : Dev Cert.HyOutIdeal.nD,
      m' ((c.tc : Thread Cert.HyOutReferenceIdeal.nD Cert.HyOutReferenceIdeal.τ).loc Cert.HyOutReferenceIdeal.main_arg0) = m ((c.tc : Thread Cert.HyOutIdeal.nD Cert.HyOutIdeal.τ).loc Cert.HyOutIdeal.main_arg0)
      ∧ m' ((c.tc : Thread Cert.HyOutReferenceIdeal.nD Cert.HyOutReferenceIdeal.τ).loc Cert.HyOutReferenceIdeal.main_arg1) = m ((c.tc : Thread Cert.HyOutIdeal.nD Cert.HyOutIdeal.τ).loc Cert.HyOutIdeal.main_arg1)
      ∧ m' ((c.tc : Thread Cert.HyOutReferenceIdeal.nD Cert.HyOutReferenceIdeal.τ).loc Cert.HyOutReferenceIdeal.main_arg2) = m ((c.tc : Thread Cert.HyOutIdeal.nD Cert.HyOutIdeal.τ).loc Cert.HyOutIdeal.main_arg2)) →
    ∃ (v0 : (c : Dev Cert.HyOutIdeal.nD) → Buf (Elt Ideal) ((c.tc : Thread Cert.HyOutIdeal.nD Cert.HyOutIdeal.τ).loc Cert.HyOutIdeal.main_v0)),
      θ_run (Cert.HyOutIdeal.defs (F := Ideal)) (onTc (τ := Cert.HyOutIdeal.τ) (Cert.HyOutIdeal.main (F := Ideal))) ⟨m, fun _ => 0, g⟩ (fun r => ∀ c : Dev Cert.HyOutIdeal.nD,
          r.2.mem ((c.tc : Thread Cert.HyOutIdeal.nD Cert.HyOutIdeal.τ).loc Cert.HyOutIdeal.main_v0) = v0 c
          ∧ r.2.mem ((c.tc : Thread Cert.HyOutIdeal.nD Cert.HyOutIdeal.τ).loc Cert.HyOutIdeal.main_arg0) = m ((c.tc : Thread Cert.HyOutIdeal.nD Cert.HyOutIdeal.τ).loc Cert.HyOutIdeal.main_arg0)
          ∧ r.2.mem ((c.tc : Thread Cert.HyOutIdeal.nD Cert.HyOutIdeal.τ).loc Cert.HyOutIdeal.main_arg1) = m ((c.tc : Thread Cert.HyOutIdeal.nD Cert.HyOutIdeal.τ).loc Cert.HyOutIdeal.main_arg1)
          ∧ r.2.mem ((c.tc : Thread Cert.HyOutIdeal.nD Cert.HyOutIdeal.τ).loc Cert.HyOutIdeal.main_arg2) = m ((c.tc : Thread Cert.HyOutIdeal.nD Cert.HyOutIdeal.τ).loc Cert.HyOutIdeal.main_arg2))
      ∧ θ_run (Cert.HyOutReferenceIdeal.defs (F := Ideal)) (onTc (τ := Cert.HyOutReferenceIdeal.τ) (Cert.HyOutReferenceIdeal.main (F := Ideal))) ⟨m', fun _ => 0, g'⟩ (fun r => ∀ c : Dev Cert.HyOutReferenceIdeal.nD,
          r.2.mem ((c.tc : Thread Cert.HyOutReferenceIdeal.nD Cert.HyOutReferenceIdeal.τ).loc Cert.HyOutReferenceIdeal.main_v2) = v0 c
          ∧ r.2.mem ((c.tc : Thread Cert.HyOutReferenceIdeal.nD Cert.HyOutReferenceIdeal.τ).loc Cert.HyOutReferenceIdeal.main_arg0) = m' ((c.tc : Thread Cert.HyOutReferenceIdeal.nD Cert.HyOutReferenceIdeal.τ).loc Cert.HyOutReferenceIdeal.main_arg0)
          ∧ r.2.mem ((c.tc : Thread Cert.HyOutReferenceIdeal.nD Cert.HyOutReferenceIdeal.τ).loc Cert.HyOutReferenceIdeal.main_arg1) = m' ((c.tc : Thread Cert.HyOutReferenceIdeal.nD Cert.HyOutReferenceIdeal.τ).loc Cert.HyOutReferenceIdeal.main_arg1)
          ∧ r.2.mem ((c.tc : Thread Cert.HyOutReferenceIdeal.nD Cert.HyOutReferenceIdeal.τ).loc Cert.HyOutReferenceIdeal.main_arg2) = m' ((c.tc : Thread Cert.HyOutReferenceIdeal.nD Cert.HyOutReferenceIdeal.τ).loc Cert.HyOutReferenceIdeal.main_arg2))

def preserves_MlaOut_MlaOutIdeal : Prop :=
  True

def algebraic_MlaOutIdeal_MlaOutReferenceIdeal [hMlaOutIdeal : Cert.MlaOutIdeal.Facts] [hMlaOutReferenceIdeal : Cert.MlaOutReferenceIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg)
    (m' : (ℓ : Loc Cert.MlaOutReferenceIdeal.nD Cert.MlaOutReferenceIdeal.τ Cert.MlaOutReferenceIdeal.sig) → Buf (Elt Ideal) ℓ) (g' : Dev Cert.MlaOutReferenceIdeal.nD → PrngReg), Pre_MlaOutIdeal m →
    (∀ c : Dev Cert.MlaOutIdeal.nD,
      m' ((c.tc : Thread Cert.MlaOutReferenceIdeal.nD Cert.MlaOutReferenceIdeal.τ).loc Cert.MlaOutReferenceIdeal.main_arg0) = m ((c.tc : Thread Cert.MlaOutIdeal.nD Cert.MlaOutIdeal.τ).loc Cert.MlaOutIdeal.main_arg0)
      ∧ m' ((c.tc : Thread Cert.MlaOutReferenceIdeal.nD Cert.MlaOutReferenceIdeal.τ).loc Cert.MlaOutReferenceIdeal.main_arg1) = m ((c.tc : Thread Cert.MlaOutIdeal.nD Cert.MlaOutIdeal.τ).loc Cert.MlaOutIdeal.main_arg1)
      ∧ m' ((c.tc : Thread Cert.MlaOutReferenceIdeal.nD Cert.MlaOutReferenceIdeal.τ).loc Cert.MlaOutReferenceIdeal.main_arg2) = m ((c.tc : Thread Cert.MlaOutIdeal.nD Cert.MlaOutIdeal.τ).loc Cert.MlaOutIdeal.main_arg2)) →
    ∃ (v0 : (c : Dev Cert.MlaOutIdeal.nD) → Buf (Elt Ideal) ((c.tc : Thread Cert.MlaOutIdeal.nD Cert.MlaOutIdeal.τ).loc Cert.MlaOutIdeal.main_v0)),
      θ_run (Cert.MlaOutIdeal.defs (F := Ideal)) (onTc (τ := Cert.MlaOutIdeal.τ) (Cert.MlaOutIdeal.main (F := Ideal))) ⟨m, fun _ => 0, g⟩ (fun r => ∀ c : Dev Cert.MlaOutIdeal.nD,
          r.2.mem ((c.tc : Thread Cert.MlaOutIdeal.nD Cert.MlaOutIdeal.τ).loc Cert.MlaOutIdeal.main_v0) = v0 c
          ∧ r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
          ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1)
          ∧ r.2.mem ((c.tc : Thread Cert.MlaOutIdeal.nD Cert.MlaOutIdeal.τ).loc Cert.MlaOutIdeal.main_arg2) = m ((c.tc : Thread Cert.MlaOutIdeal.nD Cert.MlaOutIdeal.τ).loc Cert.MlaOutIdeal.main_arg2))
      ∧ θ_run (Cert.MlaOutReferenceIdeal.defs (F := Ideal)) (onTc (τ := Cert.MlaOutReferenceIdeal.τ) (Cert.MlaOutReferenceIdeal.main (F := Ideal))) ⟨m', fun _ => 0, g'⟩ (fun r => ∀ c : Dev Cert.MlaOutReferenceIdeal.nD,
          r.2.mem ((c.tc : Thread Cert.MlaOutReferenceIdeal.nD Cert.MlaOutReferenceIdeal.τ).loc Cert.MlaOutReferenceIdeal.main_v3) = v0 c
          ∧ r.2.mem ((c.tc : Thread Cert.MlaOutReferenceIdeal.nD Cert.MlaOutReferenceIdeal.τ).loc Cert.MlaOutReferenceIdeal.main_arg0) = m' ((c.tc : Thread Cert.MlaOutReferenceIdeal.nD Cert.MlaOutReferenceIdeal.τ).loc Cert.MlaOutReferenceIdeal.main_arg0)
          ∧ r.2.mem ((c.tc : Thread Cert.MlaOutReferenceIdeal.nD Cert.MlaOutReferenceIdeal.τ).loc Cert.MlaOutReferenceIdeal.main_arg1) = m' ((c.tc : Thread Cert.MlaOutReferenceIdeal.nD Cert.MlaOutReferenceIdeal.τ).loc Cert.MlaOutReferenceIdeal.main_arg1)
          ∧ r.2.mem ((c.tc : Thread Cert.MlaOutReferenceIdeal.nD Cert.MlaOutReferenceIdeal.τ).loc Cert.MlaOutReferenceIdeal.main_arg2) = m' ((c.tc : Thread Cert.MlaOutReferenceIdeal.nD Cert.MlaOutReferenceIdeal.τ).loc Cert.MlaOutReferenceIdeal.main_arg2))

def preserves_MlaQ_MlaQIdeal : Prop :=
  True

def algebraic_MlaQIdeal_MlaQReferenceIdeal [hMlaQIdeal : Cert.MlaQIdeal.Facts] [hMlaQReferenceIdeal : Cert.MlaQReferenceIdeal.Facts] : Prop :=
  ∀ (m : (ℓ : Loc Cert.MlaQIdeal.nD Cert.MlaQIdeal.τ Cert.MlaQIdeal.sig) → Buf (Elt Ideal) ℓ) (g : Dev Cert.MlaQIdeal.nD → PrngReg)
    (m' : (ℓ : Loc Cert.MlaQReferenceIdeal.nD Cert.MlaQReferenceIdeal.τ Cert.MlaQReferenceIdeal.sig) → Buf (Elt Ideal) ℓ) (g' : Dev Cert.MlaQReferenceIdeal.nD → PrngReg), Pre_MlaQIdeal m →
    (∀ c : Dev Cert.MlaQIdeal.nD,
      m' ((c.tc : Thread Cert.MlaQReferenceIdeal.nD Cert.MlaQReferenceIdeal.τ).loc Cert.MlaQReferenceIdeal.main_arg0) = m ((c.tc : Thread Cert.MlaQIdeal.nD Cert.MlaQIdeal.τ).loc Cert.MlaQIdeal.main_arg0)
      ∧ m' ((c.tc : Thread Cert.MlaQReferenceIdeal.nD Cert.MlaQReferenceIdeal.τ).loc Cert.MlaQReferenceIdeal.main_arg1) = m ((c.tc : Thread Cert.MlaQIdeal.nD Cert.MlaQIdeal.τ).loc Cert.MlaQIdeal.main_arg1)
      ∧ m' ((c.tc : Thread Cert.MlaQReferenceIdeal.nD Cert.MlaQReferenceIdeal.τ).loc Cert.MlaQReferenceIdeal.main_arg2) = m ((c.tc : Thread Cert.MlaQIdeal.nD Cert.MlaQIdeal.τ).loc Cert.MlaQIdeal.main_arg2)
      ∧ m' ((c.tc : Thread Cert.MlaQReferenceIdeal.nD Cert.MlaQReferenceIdeal.τ).loc Cert.MlaQReferenceIdeal.main_arg3) = m ((c.tc : Thread Cert.MlaQIdeal.nD Cert.MlaQIdeal.τ).loc Cert.MlaQIdeal.main_arg3)
      ∧ m' ((c.tc : Thread Cert.MlaQReferenceIdeal.nD Cert.MlaQReferenceIdeal.τ).loc Cert.MlaQReferenceIdeal.main_arg4) = m ((c.tc : Thread Cert.MlaQIdeal.nD Cert.MlaQIdeal.τ).loc Cert.MlaQIdeal.main_arg4)
      ∧ m' ((c.tc : Thread Cert.MlaQReferenceIdeal.nD Cert.MlaQReferenceIdeal.τ).loc Cert.MlaQReferenceIdeal.main_arg5) = m ((c.tc : Thread Cert.MlaQIdeal.nD Cert.MlaQIdeal.τ).loc Cert.MlaQIdeal.main_arg5)
      ∧ m' ((c.tc : Thread Cert.MlaQReferenceIdeal.nD Cert.MlaQReferenceIdeal.τ).loc Cert.MlaQReferenceIdeal.main_arg6) = m ((c.tc : Thread Cert.MlaQIdeal.nD Cert.MlaQIdeal.τ).loc Cert.MlaQIdeal.main_arg6)) →
    ∃ (v0 : (c : Dev Cert.MlaQIdeal.nD) → Buf (Elt Ideal) ((c.tc : Thread Cert.MlaQIdeal.nD Cert.MlaQIdeal.τ).loc Cert.MlaQIdeal.main_v2)),
      θ_run (Cert.MlaQIdeal.defs (F := Ideal)) (onTc (τ := Cert.MlaQIdeal.τ) (Cert.MlaQIdeal.main (F := Ideal))) ⟨m, fun _ => 0, g⟩ (fun r => ∀ c : Dev Cert.MlaQIdeal.nD,
          r.2.mem ((c.tc : Thread Cert.MlaQIdeal.nD Cert.MlaQIdeal.τ).loc Cert.MlaQIdeal.main_v2) = v0 c
          ∧ r.2.mem ((c.tc : Thread Cert.MlaQIdeal.nD Cert.MlaQIdeal.τ).loc Cert.MlaQIdeal.main_arg0) = m ((c.tc : Thread Cert.MlaQIdeal.nD Cert.MlaQIdeal.τ).loc Cert.MlaQIdeal.main_arg0)
          ∧ r.2.mem ((c.tc : Thread Cert.MlaQIdeal.nD Cert.MlaQIdeal.τ).loc Cert.MlaQIdeal.main_arg1) = m ((c.tc : Thread Cert.MlaQIdeal.nD Cert.MlaQIdeal.τ).loc Cert.MlaQIdeal.main_arg1)
          ∧ r.2.mem ((c.tc : Thread Cert.MlaQIdeal.nD Cert.MlaQIdeal.τ).loc Cert.MlaQIdeal.main_arg2) = m ((c.tc : Thread Cert.MlaQIdeal.nD Cert.MlaQIdeal.τ).loc Cert.MlaQIdeal.main_arg2)
          ∧ r.2.mem ((c.tc : Thread Cert.MlaQIdeal.nD Cert.MlaQIdeal.τ).loc Cert.MlaQIdeal.main_arg3) = m ((c.tc : Thread Cert.MlaQIdeal.nD Cert.MlaQIdeal.τ).loc Cert.MlaQIdeal.main_arg3)
          ∧ r.2.mem ((c.tc : Thread Cert.MlaQIdeal.nD Cert.MlaQIdeal.τ).loc Cert.MlaQIdeal.main_arg4) = m ((c.tc : Thread Cert.MlaQIdeal.nD Cert.MlaQIdeal.τ).loc Cert.MlaQIdeal.main_arg4)
          ∧ r.2.mem ((c.tc : Thread Cert.MlaQIdeal.nD Cert.MlaQIdeal.τ).loc Cert.MlaQIdeal.main_arg5) = m ((c.tc : Thread Cert.MlaQIdeal.nD Cert.MlaQIdeal.τ).loc Cert.MlaQIdeal.main_arg5)
          ∧ r.2.mem ((c.tc : Thread Cert.MlaQIdeal.nD Cert.MlaQIdeal.τ).loc Cert.MlaQIdeal.main_arg6) = m ((c.tc : Thread Cert.MlaQIdeal.nD Cert.MlaQIdeal.τ).loc Cert.MlaQIdeal.main_arg6))
      ∧ θ_run (Cert.MlaQReferenceIdeal.defs (F := Ideal)) (onTc (τ := Cert.MlaQReferenceIdeal.τ) (Cert.MlaQReferenceIdeal.main (F := Ideal))) ⟨m', fun _ => 0, g'⟩ (fun r => ∀ c : Dev Cert.MlaQReferenceIdeal.nD,
          r.2.mem ((c.tc : Thread Cert.MlaQReferenceIdeal.nD Cert.MlaQReferenceIdeal.τ).loc Cert.MlaQReferenceIdeal.main_v41) = v0 c
          ∧ r.2.mem ((c.tc : Thread Cert.MlaQReferenceIdeal.nD Cert.MlaQReferenceIdeal.τ).loc Cert.MlaQReferenceIdeal.main_arg0) = m' ((c.tc : Thread Cert.MlaQReferenceIdeal.nD Cert.MlaQReferenceIdeal.τ).loc Cert.MlaQReferenceIdeal.main_arg0)
          ∧ r.2.mem ((c.tc : Thread Cert.MlaQReferenceIdeal.nD Cert.MlaQReferenceIdeal.τ).loc Cert.MlaQReferenceIdeal.main_arg1) = m' ((c.tc : Thread Cert.MlaQReferenceIdeal.nD Cert.MlaQReferenceIdeal.τ).loc Cert.MlaQReferenceIdeal.main_arg1)
          ∧ r.2.mem ((c.tc : Thread Cert.MlaQReferenceIdeal.nD Cert.MlaQReferenceIdeal.τ).loc Cert.MlaQReferenceIdeal.main_arg2) = m' ((c.tc : Thread Cert.MlaQReferenceIdeal.nD Cert.MlaQReferenceIdeal.τ).loc Cert.MlaQReferenceIdeal.main_arg2)
          ∧ r.2.mem ((c.tc : Thread Cert.MlaQReferenceIdeal.nD Cert.MlaQReferenceIdeal.τ).loc Cert.MlaQReferenceIdeal.main_arg3) = m' ((c.tc : Thread Cert.MlaQReferenceIdeal.nD Cert.MlaQReferenceIdeal.τ).loc Cert.MlaQReferenceIdeal.main_arg3)
          ∧ r.2.mem ((c.tc : Thread Cert.MlaQReferenceIdeal.nD Cert.MlaQReferenceIdeal.τ).loc Cert.MlaQReferenceIdeal.main_arg4) = m' ((c.tc : Thread Cert.MlaQReferenceIdeal.nD Cert.MlaQReferenceIdeal.τ).loc Cert.MlaQReferenceIdeal.main_arg4)
          ∧ r.2.mem ((c.tc : Thread Cert.MlaQReferenceIdeal.nD Cert.MlaQReferenceIdeal.τ).loc Cert.MlaQReferenceIdeal.main_arg5) = m' ((c.tc : Thread Cert.MlaQReferenceIdeal.nD Cert.MlaQReferenceIdeal.τ).loc Cert.MlaQReferenceIdeal.main_arg5)
          ∧ r.2.mem ((c.tc : Thread Cert.MlaQReferenceIdeal.nD Cert.MlaQReferenceIdeal.τ).loc Cert.MlaQReferenceIdeal.main_arg6) = m' ((c.tc : Thread Cert.MlaQReferenceIdeal.nD Cert.MlaQReferenceIdeal.τ).loc Cert.MlaQReferenceIdeal.main_arg6))

def preserves_MlaKv_MlaKvIdeal : Prop :=
  True

def algebraic_MlaKvIdeal_MlaKvReferenceIdeal [hMlaKvIdeal : Cert.MlaKvIdeal.Facts] [hMlaKvReferenceIdeal : Cert.MlaKvReferenceIdeal.Facts] : Prop :=
  ∀ (m : (ℓ : Loc Cert.MlaKvIdeal.nD Cert.MlaKvIdeal.τ Cert.MlaKvIdeal.sig) → Buf (Elt Ideal) ℓ) (g : Dev Cert.MlaKvIdeal.nD → PrngReg)
    (m' : (ℓ : Loc Cert.MlaKvReferenceIdeal.nD Cert.MlaKvReferenceIdeal.τ Cert.MlaKvReferenceIdeal.sig) → Buf (Elt Ideal) ℓ) (g' : Dev Cert.MlaKvReferenceIdeal.nD → PrngReg), Pre_MlaKvIdeal m →
    (∀ c : Dev Cert.MlaKvIdeal.nD,
      m' ((c.tc : Thread Cert.MlaKvReferenceIdeal.nD Cert.MlaKvReferenceIdeal.τ).loc Cert.MlaKvReferenceIdeal.main_arg0) = m ((c.tc : Thread Cert.MlaKvIdeal.nD Cert.MlaKvIdeal.τ).loc Cert.MlaKvIdeal.main_arg0)
      ∧ m' ((c.tc : Thread Cert.MlaKvReferenceIdeal.nD Cert.MlaKvReferenceIdeal.τ).loc Cert.MlaKvReferenceIdeal.main_arg1) = m ((c.tc : Thread Cert.MlaKvIdeal.nD Cert.MlaKvIdeal.τ).loc Cert.MlaKvIdeal.main_arg1)
      ∧ m' ((c.tc : Thread Cert.MlaKvReferenceIdeal.nD Cert.MlaKvReferenceIdeal.τ).loc Cert.MlaKvReferenceIdeal.main_arg2) = m ((c.tc : Thread Cert.MlaKvIdeal.nD Cert.MlaKvIdeal.τ).loc Cert.MlaKvIdeal.main_arg2)
      ∧ m' ((c.tc : Thread Cert.MlaKvReferenceIdeal.nD Cert.MlaKvReferenceIdeal.τ).loc Cert.MlaKvReferenceIdeal.main_arg3) = m ((c.tc : Thread Cert.MlaKvIdeal.nD Cert.MlaKvIdeal.τ).loc Cert.MlaKvIdeal.main_arg3)
      ∧ m' ((c.tc : Thread Cert.MlaKvReferenceIdeal.nD Cert.MlaKvReferenceIdeal.τ).loc Cert.MlaKvReferenceIdeal.main_arg4) = m ((c.tc : Thread Cert.MlaKvIdeal.nD Cert.MlaKvIdeal.τ).loc Cert.MlaKvIdeal.main_arg4)
      ∧ m' ((c.tc : Thread Cert.MlaKvReferenceIdeal.nD Cert.MlaKvReferenceIdeal.τ).loc Cert.MlaKvReferenceIdeal.main_arg5) = m ((c.tc : Thread Cert.MlaKvIdeal.nD Cert.MlaKvIdeal.τ).loc Cert.MlaKvIdeal.main_arg5)
      ∧ m' ((c.tc : Thread Cert.MlaKvReferenceIdeal.nD Cert.MlaKvReferenceIdeal.τ).loc Cert.MlaKvReferenceIdeal.main_arg6) = m ((c.tc : Thread Cert.MlaKvIdeal.nD Cert.MlaKvIdeal.τ).loc Cert.MlaKvIdeal.main_arg6)
      ∧ m' ((c.tc : Thread Cert.MlaKvReferenceIdeal.nD Cert.MlaKvReferenceIdeal.τ).loc Cert.MlaKvReferenceIdeal.main_arg7) = m ((c.tc : Thread Cert.MlaKvIdeal.nD Cert.MlaKvIdeal.τ).loc Cert.MlaKvIdeal.main_arg7)) →
    ∃ (v0 : (c : Dev Cert.MlaKvIdeal.nD) → Buf (Elt Ideal) ((c.tc : Thread Cert.MlaKvIdeal.nD Cert.MlaKvIdeal.τ).loc Cert.MlaKvIdeal.main_v2_0)) (v1 : (c : Dev Cert.MlaKvIdeal.nD) → Buf (Elt Ideal) ((c.tc : Thread Cert.MlaKvIdeal.nD Cert.MlaKvIdeal.τ).loc Cert.MlaKvIdeal.main_v2_1)),
      θ_run (Cert.MlaKvIdeal.defs (F := Ideal)) (onTc (τ := Cert.MlaKvIdeal.τ) (Cert.MlaKvIdeal.main (F := Ideal))) ⟨m, fun _ => 0, g⟩ (fun r => ∀ c : Dev Cert.MlaKvIdeal.nD,
          r.2.mem ((c.tc : Thread Cert.MlaKvIdeal.nD Cert.MlaKvIdeal.τ).loc Cert.MlaKvIdeal.main_v2_0) = v0 c
          ∧ r.2.mem ((c.tc : Thread Cert.MlaKvIdeal.nD Cert.MlaKvIdeal.τ).loc Cert.MlaKvIdeal.main_v2_1) = v1 c
          ∧ r.2.mem ((c.tc : Thread Cert.MlaKvIdeal.nD Cert.MlaKvIdeal.τ).loc Cert.MlaKvIdeal.main_arg0) = m ((c.tc : Thread Cert.MlaKvIdeal.nD Cert.MlaKvIdeal.τ).loc Cert.MlaKvIdeal.main_arg0)
          ∧ r.2.mem ((c.tc : Thread Cert.MlaKvIdeal.nD Cert.MlaKvIdeal.τ).loc Cert.MlaKvIdeal.main_arg1) = m ((c.tc : Thread Cert.MlaKvIdeal.nD Cert.MlaKvIdeal.τ).loc Cert.MlaKvIdeal.main_arg1)
          ∧ r.2.mem ((c.tc : Thread Cert.MlaKvIdeal.nD Cert.MlaKvIdeal.τ).loc Cert.MlaKvIdeal.main_arg2) = m ((c.tc : Thread Cert.MlaKvIdeal.nD Cert.MlaKvIdeal.τ).loc Cert.MlaKvIdeal.main_arg2)
          ∧ r.2.mem ((c.tc : Thread Cert.MlaKvIdeal.nD Cert.MlaKvIdeal.τ).loc Cert.MlaKvIdeal.main_arg3) = m ((c.tc : Thread Cert.MlaKvIdeal.nD Cert.MlaKvIdeal.τ).loc Cert.MlaKvIdeal.main_arg3)
          ∧ r.2.mem ((c.tc : Thread Cert.MlaKvIdeal.nD Cert.MlaKvIdeal.τ).loc Cert.MlaKvIdeal.main_arg4) = m ((c.tc : Thread Cert.MlaKvIdeal.nD Cert.MlaKvIdeal.τ).loc Cert.MlaKvIdeal.main_arg4)
          ∧ r.2.mem ((c.tc : Thread Cert.MlaKvIdeal.nD Cert.MlaKvIdeal.τ).loc Cert.MlaKvIdeal.main_arg5) = m ((c.tc : Thread Cert.MlaKvIdeal.nD Cert.MlaKvIdeal.τ).loc Cert.MlaKvIdeal.main_arg5)
          ∧ r.2.mem ((c.tc : Thread Cert.MlaKvIdeal.nD Cert.MlaKvIdeal.τ).loc Cert.MlaKvIdeal.main_arg6) = m ((c.tc : Thread Cert.MlaKvIdeal.nD Cert.MlaKvIdeal.τ).loc Cert.MlaKvIdeal.main_arg6)
          ∧ r.2.mem ((c.tc : Thread Cert.MlaKvIdeal.nD Cert.MlaKvIdeal.τ).loc Cert.MlaKvIdeal.main_arg7) = m ((c.tc : Thread Cert.MlaKvIdeal.nD Cert.MlaKvIdeal.τ).loc Cert.MlaKvIdeal.main_arg7))
      ∧ θ_run (Cert.MlaKvReferenceIdeal.defs (F := Ideal)) (onTc (τ := Cert.MlaKvReferenceIdeal.τ) (Cert.MlaKvReferenceIdeal.main (F := Ideal))) ⟨m', fun _ => 0, g'⟩ (fun r => ∀ c : Dev Cert.MlaKvReferenceIdeal.nD,
          r.2.mem ((c.tc : Thread Cert.MlaKvReferenceIdeal.nD Cert.MlaKvReferenceIdeal.τ).loc Cert.MlaKvReferenceIdeal.main_v43) = v0 c
          ∧ r.2.mem ((c.tc : Thread Cert.MlaKvReferenceIdeal.nD Cert.MlaKvReferenceIdeal.τ).loc Cert.MlaKvReferenceIdeal.main_v49) = v1 c
          ∧ r.2.mem ((c.tc : Thread Cert.MlaKvReferenceIdeal.nD Cert.MlaKvReferenceIdeal.τ).loc Cert.MlaKvReferenceIdeal.main_arg0) = m' ((c.tc : Thread Cert.MlaKvReferenceIdeal.nD Cert.MlaKvReferenceIdeal.τ).loc Cert.MlaKvReferenceIdeal.main_arg0)
          ∧ r.2.mem ((c.tc : Thread Cert.MlaKvReferenceIdeal.nD Cert.MlaKvReferenceIdeal.τ).loc Cert.MlaKvReferenceIdeal.main_arg1) = m' ((c.tc : Thread Cert.MlaKvReferenceIdeal.nD Cert.MlaKvReferenceIdeal.τ).loc Cert.MlaKvReferenceIdeal.main_arg1)
          ∧ r.2.mem ((c.tc : Thread Cert.MlaKvReferenceIdeal.nD Cert.MlaKvReferenceIdeal.τ).loc Cert.MlaKvReferenceIdeal.main_arg2) = m' ((c.tc : Thread Cert.MlaKvReferenceIdeal.nD Cert.MlaKvReferenceIdeal.τ).loc Cert.MlaKvReferenceIdeal.main_arg2)
          ∧ r.2.mem ((c.tc : Thread Cert.MlaKvReferenceIdeal.nD Cert.MlaKvReferenceIdeal.τ).loc Cert.MlaKvReferenceIdeal.main_arg3) = m' ((c.tc : Thread Cert.MlaKvReferenceIdeal.nD Cert.MlaKvReferenceIdeal.τ).loc Cert.MlaKvReferenceIdeal.main_arg3)
          ∧ r.2.mem ((c.tc : Thread Cert.MlaKvReferenceIdeal.nD Cert.MlaKvReferenceIdeal.τ).loc Cert.MlaKvReferenceIdeal.main_arg4) = m' ((c.tc : Thread Cert.MlaKvReferenceIdeal.nD Cert.MlaKvReferenceIdeal.τ).loc Cert.MlaKvReferenceIdeal.main_arg4)
          ∧ r.2.mem ((c.tc : Thread Cert.MlaKvReferenceIdeal.nD Cert.MlaKvReferenceIdeal.τ).loc Cert.MlaKvReferenceIdeal.main_arg5) = m' ((c.tc : Thread Cert.MlaKvReferenceIdeal.nD Cert.MlaKvReferenceIdeal.τ).loc Cert.MlaKvReferenceIdeal.main_arg5)
          ∧ r.2.mem ((c.tc : Thread Cert.MlaKvReferenceIdeal.nD Cert.MlaKvReferenceIdeal.τ).loc Cert.MlaKvReferenceIdeal.main_arg6) = m' ((c.tc : Thread Cert.MlaKvReferenceIdeal.nD Cert.MlaKvReferenceIdeal.τ).loc Cert.MlaKvReferenceIdeal.main_arg6)
          ∧ r.2.mem ((c.tc : Thread Cert.MlaKvReferenceIdeal.nD Cert.MlaKvReferenceIdeal.τ).loc Cert.MlaKvReferenceIdeal.main_arg7) = m' ((c.tc : Thread Cert.MlaKvReferenceIdeal.nD Cert.MlaKvReferenceIdeal.τ).loc Cert.MlaKvReferenceIdeal.main_arg7))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v28) = v0 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_ConvSample_ConvSampleIdeal : Prop :=
  True

def algebraic_ConvSampleIdeal_ConvSampleReferenceIdeal [hConvSampleIdeal : Cert.ConvSampleIdeal.Facts] [hConvSampleReferenceIdeal : Cert.ConvSampleReferenceIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg)
    (m' : (ℓ : Loc Cert.ConvSampleReferenceIdeal.nD Cert.ConvSampleReferenceIdeal.τ Cert.ConvSampleReferenceIdeal.sig) → Buf (Elt Ideal) ℓ) (g' : Dev Cert.ConvSampleReferenceIdeal.nD → PrngReg), Pre_ConvSampleIdeal m →
    (∀ c : Dev Cert.ConvSampleIdeal.nD,
      m' ((c.tc : Thread Cert.ConvSampleReferenceIdeal.nD Cert.ConvSampleReferenceIdeal.τ).loc Cert.ConvSampleReferenceIdeal.main_arg0) = m ((c.tc : Thread Cert.ConvSampleIdeal.nD Cert.ConvSampleIdeal.τ).loc Cert.ConvSampleIdeal.main_arg0)
      ∧ m' ((c.tc : Thread Cert.ConvSampleReferenceIdeal.nD Cert.ConvSampleReferenceIdeal.τ).loc Cert.ConvSampleReferenceIdeal.main_arg1) = m ((c.tc : Thread Cert.ConvSampleIdeal.nD Cert.ConvSampleIdeal.τ).loc Cert.ConvSampleIdeal.main_arg1)
      ∧ m' ((c.tc : Thread Cert.ConvSampleReferenceIdeal.nD Cert.ConvSampleReferenceIdeal.τ).loc Cert.ConvSampleReferenceIdeal.main_arg2) = m ((c.tc : Thread Cert.ConvSampleIdeal.nD Cert.ConvSampleIdeal.τ).loc Cert.ConvSampleIdeal.main_arg2)) →
    ∃ (v0 : (c : Dev Cert.ConvSampleIdeal.nD) → Buf (Elt Ideal) ((c.tc : Thread Cert.ConvSampleIdeal.nD Cert.ConvSampleIdeal.τ).loc Cert.ConvSampleIdeal.main_v1)),
      θ_run (Cert.ConvSampleIdeal.defs (F := Ideal)) (onTc (τ := Cert.ConvSampleIdeal.τ) (Cert.ConvSampleIdeal.main (F := Ideal))) ⟨m, fun _ => 0, g⟩ (fun r => ∀ c : Dev Cert.ConvSampleIdeal.nD,
          r.2.mem ((c.tc : Thread Cert.ConvSampleIdeal.nD Cert.ConvSampleIdeal.τ).loc Cert.ConvSampleIdeal.main_v1) = v0 c
          ∧ r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
          ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
          ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2))
      ∧ θ_run (Cert.ConvSampleReferenceIdeal.defs (F := Ideal)) (onTc (τ := Cert.ConvSampleReferenceIdeal.τ) (Cert.ConvSampleReferenceIdeal.main (F := Ideal))) ⟨m', fun _ => 0, g'⟩ (fun r => ∀ c : Dev Cert.ConvSampleReferenceIdeal.nD,
          r.2.mem ((c.tc : Thread Cert.ConvSampleReferenceIdeal.nD Cert.ConvSampleReferenceIdeal.τ).loc Cert.ConvSampleReferenceIdeal.main_v28) = v0 c
          ∧ r.2.mem ((c.tc : Thread Cert.ConvSampleReferenceIdeal.nD Cert.ConvSampleReferenceIdeal.τ).loc Cert.ConvSampleReferenceIdeal.main_arg0) = m' ((c.tc : Thread Cert.ConvSampleReferenceIdeal.nD Cert.ConvSampleReferenceIdeal.τ).loc Cert.ConvSampleReferenceIdeal.main_arg0)
          ∧ r.2.mem ((c.tc : Thread Cert.ConvSampleReferenceIdeal.nD Cert.ConvSampleReferenceIdeal.τ).loc Cert.ConvSampleReferenceIdeal.main_arg1) = m' ((c.tc : Thread Cert.ConvSampleReferenceIdeal.nD Cert.ConvSampleReferenceIdeal.τ).loc Cert.ConvSampleReferenceIdeal.main_arg1)
          ∧ r.2.mem ((c.tc : Thread Cert.ConvSampleReferenceIdeal.nD Cert.ConvSampleReferenceIdeal.τ).loc Cert.ConvSampleReferenceIdeal.main_arg2) = m' ((c.tc : Thread Cert.ConvSampleReferenceIdeal.nD Cert.ConvSampleReferenceIdeal.τ).loc Cert.ConvSampleReferenceIdeal.main_arg2))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts) (hFfn : Cert.Ffn.Facts) (hFfnIdeal : Cert.FfnIdeal.Facts) (hFfnReferenceIdeal : Cert.FfnReferenceIdeal.Facts) (hFfnDown : Cert.FfnDown.Facts) (hFfnDownIdeal : Cert.FfnDownIdeal.Facts) (hFfnDownReferenceIdeal : Cert.FfnDownReferenceIdeal.Facts) (hAttn : Cert.Attn.Facts) (hAttnIdeal : Cert.AttnIdeal.Facts) (hAttnReferenceIdeal : Cert.AttnReferenceIdeal.Facts) (hAttnSample : Cert.AttnSample.Facts) (hAttnSampleIdeal : Cert.AttnSampleIdeal.Facts) (hAttnSampleReferenceIdeal : Cert.AttnSampleReferenceIdeal.Facts) (hHyIn : Cert.HyIn.Facts) (hHyInIdeal : Cert.HyInIdeal.Facts) (hHyInReferenceIdeal : Cert.HyInReferenceIdeal.Facts) (hMlaDown : Cert.MlaDown.Facts) (hMlaDownIdeal : Cert.MlaDownIdeal.Facts) (hMlaDownReferenceIdeal : Cert.MlaDownReferenceIdeal.Facts) (hHyOut : Cert.HyOut.Facts) (hHyOutIdeal : Cert.HyOutIdeal.Facts) (hHyOutReferenceIdeal : Cert.HyOutReferenceIdeal.Facts) (hMlaOut : Cert.MlaOut.Facts) (hMlaOutIdeal : Cert.MlaOutIdeal.Facts) (hMlaOutReferenceIdeal : Cert.MlaOutReferenceIdeal.Facts) (hMlaQ : Cert.MlaQ.Facts) (hMlaQIdeal : Cert.MlaQIdeal.Facts) (hMlaQReferenceIdeal : Cert.MlaQReferenceIdeal.Facts) (hMlaKv : Cert.MlaKv.Facts) (hMlaKvIdeal : Cert.MlaKvIdeal.Facts) (hMlaKvReferenceIdeal : Cert.MlaKvReferenceIdeal.Facts) (hConv : Cert.Conv.Facts) (hConvIdeal : Cert.ConvIdeal.Facts) (hConvReferenceIdeal : Cert.ConvReferenceIdeal.Facts) (hConvSample : Cert.ConvSample.Facts) (hConvSampleIdeal : Cert.ConvSampleIdeal.Facts) (hConvSampleReferenceIdeal : Cert.ConvSampleReferenceIdeal.Facts) (hPre_in_range : Cert.Pre_in_range.Facts) (hPre_experts_named : Cert.Pre_experts_named.Facts) (hPre_ones_row : Cert.Pre_ones_row.Facts) (hPre_ones_row_sample : Cert.Pre_ones_row_sample.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Down (hDown := hDown) (hPre_experts_named := hPre_experts_named)
    ∧ quiescent_DownIdeal (hDownIdeal := hDownIdeal) (hPre_experts_named := hPre_experts_named)
    ∧ quiescent_DownReferenceIdeal (hDownReferenceIdeal := hDownReferenceIdeal)
    ∧ quiescent_DownReferenceIdeal_pre_experts_named (hDownReferenceIdeal := hDownReferenceIdeal) (hPre_experts_named := hPre_experts_named)
    ∧ quiescent_Ffn (hFfn := hFfn)
    ∧ quiescent_FfnIdeal (hFfnIdeal := hFfnIdeal)
    ∧ quiescent_FfnReferenceIdeal (hFfnReferenceIdeal := hFfnReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_Attn (hAttn := hAttn)
    ∧ quiescent_AttnIdeal (hAttnIdeal := hAttnIdeal)
    ∧ quiescent_AttnIdeal_pre_ones_row (hAttnIdeal := hAttnIdeal) (hPre_ones_row := hPre_ones_row)
    ∧ quiescent_AttnReferenceIdeal (hAttnReferenceIdeal := hAttnReferenceIdeal)
    ∧ quiescent_AttnReferenceIdeal_pre_ones_row (hAttnReferenceIdeal := hAttnReferenceIdeal) (hPre_ones_row := hPre_ones_row)
    ∧ quiescent_AttnSample (hAttnSample := hAttnSample)
    ∧ quiescent_AttnSampleIdeal (hAttnSampleIdeal := hAttnSampleIdeal)
    ∧ quiescent_AttnSampleIdeal_pre_ones_row_sample (hAttnSampleIdeal := hAttnSampleIdeal) (hPre_ones_row_sample := hPre_ones_row_sample)
    ∧ quiescent_AttnSampleReferenceIdeal (hAttnSampleReferenceIdeal := hAttnSampleReferenceIdeal)
    ∧ quiescent_AttnSampleReferenceIdeal_pre_ones_row_sample (hAttnSampleReferenceIdeal := hAttnSampleReferenceIdeal) (hPre_ones_row_sample := hPre_ones_row_sample)
    ∧ quiescent_HyIn (hHyIn := hHyIn)
    ∧ quiescent_HyInIdeal (hHyInIdeal := hHyInIdeal)
    ∧ quiescent_HyInReferenceIdeal (hHyInReferenceIdeal := hHyInReferenceIdeal)
    ∧ quiescent_MlaDown (hMlaDown := hMlaDown)
    ∧ quiescent_MlaDownIdeal (hMlaDownIdeal := hMlaDownIdeal)
    ∧ quiescent_MlaDownReferenceIdeal (hMlaDownReferenceIdeal := hMlaDownReferenceIdeal)
    ∧ quiescent_HyOut (hHyOut := hHyOut)
    ∧ quiescent_HyOutIdeal (hHyOutIdeal := hHyOutIdeal)
    ∧ quiescent_HyOutReferenceIdeal (hHyOutReferenceIdeal := hHyOutReferenceIdeal)
    ∧ quiescent_MlaOut (hMlaOut := hMlaOut)
    ∧ quiescent_MlaOutIdeal (hMlaOutIdeal := hMlaOutIdeal)
    ∧ quiescent_MlaOutReferenceIdeal (hMlaOutReferenceIdeal := hMlaOutReferenceIdeal)
    ∧ quiescent_MlaQ (hMlaQ := hMlaQ)
    ∧ quiescent_MlaQIdeal (hMlaQIdeal := hMlaQIdeal)
    ∧ quiescent_MlaQReferenceIdeal (hMlaQReferenceIdeal := hMlaQReferenceIdeal)
    ∧ quiescent_MlaKv (hMlaKv := hMlaKv)
    ∧ quiescent_MlaKvIdeal (hMlaKvIdeal := hMlaKvIdeal)
    ∧ quiescent_MlaKvReferenceIdeal (hMlaKvReferenceIdeal := hMlaKvReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_ConvSample (hConvSample := hConvSample)
    ∧ quiescent_ConvSampleIdeal (hConvSampleIdeal := hConvSampleIdeal)
    ∧ quiescent_ConvSampleReferenceIdeal (hConvSampleReferenceIdeal := hConvSampleReferenceIdeal)
    ∧ preserves_Kernel_KernelIdeal
    ∧ algebraic_KernelIdeal_ReferenceIdeal (hKernelIdeal := hKernelIdeal) (hReferenceIdeal := hReferenceIdeal) (hPre_in_range := hPre_in_range)
    ∧ preserves_Down_DownIdeal
    ∧ algebraic_DownIdeal_DownReferenceIdeal (hDownIdeal := hDownIdeal) (hDownReferenceIdeal := hDownReferenceIdeal) (hPre_experts_named := hPre_experts_named)
    ∧ preserves_Ffn_FfnIdeal
    ∧ algebraic_FfnIdeal_FfnReferenceIdeal (hFfnIdeal := hFfnIdeal) (hFfnReferenceIdeal := hFfnReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_Attn_AttnIdeal
    ∧ algebraic_AttnIdeal_AttnReferenceIdeal_pre_ones_row (hAttnIdeal := hAttnIdeal) (hAttnReferenceIdeal := hAttnReferenceIdeal) (hPre_ones_row := hPre_ones_row)
    ∧ preserves_AttnSample_AttnSampleIdeal
    ∧ algebraic_AttnSampleIdeal_AttnSampleReferenceIdeal_pre_ones_row_sample (hAttnSampleIdeal := hAttnSampleIdeal) (hAttnSampleReferenceIdeal := hAttnSampleReferenceIdeal) (hPre_ones_row_sample := hPre_ones_row_sample)
    ∧ preserves_HyIn_HyInIdeal
    ∧ algebraic_HyInIdeal_HyInReferenceIdeal (hHyInIdeal := hHyInIdeal) (hHyInReferenceIdeal := hHyInReferenceIdeal)
    ∧ preserves_MlaDown_MlaDownIdeal
    ∧ algebraic_MlaDownIdeal_MlaDownReferenceIdeal (hMlaDownIdeal := hMlaDownIdeal) (hMlaDownReferenceIdeal := hMlaDownReferenceIdeal)
    ∧ preserves_HyOut_HyOutIdeal
    ∧ algebraic_HyOutIdeal_HyOutReferenceIdeal (hHyOutIdeal := hHyOutIdeal) (hHyOutReferenceIdeal := hHyOutReferenceIdeal)
    ∧ preserves_MlaOut_MlaOutIdeal
    ∧ algebraic_MlaOutIdeal_MlaOutReferenceIdeal (hMlaOutIdeal := hMlaOutIdeal) (hMlaOutReferenceIdeal := hMlaOutReferenceIdeal)
    ∧ preserves_MlaQ_MlaQIdeal
    ∧ algebraic_MlaQIdeal_MlaQReferenceIdeal (hMlaQIdeal := hMlaQIdeal) (hMlaQReferenceIdeal := hMlaQReferenceIdeal)
    ∧ preserves_MlaKv_MlaKvIdeal
    ∧ algebraic_MlaKvIdeal_MlaKvReferenceIdeal (hMlaKvIdeal := hMlaKvIdeal) (hMlaKvReferenceIdeal := hMlaKvReferenceIdeal)
    ∧ preserves_Conv_ConvIdeal
    ∧ algebraic_ConvIdeal_ConvReferenceIdeal (hConvIdeal := hConvIdeal) (hConvReferenceIdeal := hConvReferenceIdeal)
    ∧ preserves_ConvSample_ConvSampleIdeal
    ∧ algebraic_ConvSampleIdeal_ConvSampleReferenceIdeal (hConvSampleIdeal := hConvSampleIdeal) (hConvSampleReferenceIdeal := hConvSampleReferenceIdeal)
-- ==== Pre_experts_named.lean ====
abbrev S53248x7168 : Shape := ⟨2, ![53248, 7168]⟩
abbrev S8x7168x2048 : Shape := ⟨3, ![8, 7168, 2048]⟩
abbrev S104 : Shape := ⟨1, ![104]⟩
abbrev S1 : Shape := ⟨1, ![1]⟩
abbrev S_ : Shape := ⟨0, ![]⟩

class Facts : Prop where
  bcast_S_S104 : S_.BroadcastsInDim S104 (![] : Fin 0 → Fin S104.rank)
  reducesTo_S104_S_d0 : S104.ReducesTo [0] S_
  h_S_ : 0 < S_.numel

variable [Facts]

def fn {F : FTy → Type} [FloatOps F] (main_arg0 : FVec F S53248x7168 .bf16) (main_arg1 : FVec F S8x7168x2048 .bf16) (main_arg2 : IVec S104 32) (main_arg3 : IVec S1 32) : IVec S_ 1 :=
  let main_c : IVec S_ 32 := constantI S_ 32 0#32
  let main_v0 : IVec S104 32 := broadcastInDim S104 ![] bcast_S_S104 main_c
  let main_v1 : IVec S104 1 := cmpi .sge main_arg2 main_v0
  let main_c_0 : IVec S_ 32 := constantI S_ 32 8#32
  let main_v2 : IVec S104 32 := broadcastInDim S104 ![] bcast_S_S104 main_c_0
  let main_v3 : IVec S104 1 := cmpi .slt main_arg2 main_v2
  let main_v4 : IVec S104 1 := andi main_v1 main_v3
  let main_c_1 : IVec S_ 1 := constantI S_ 1 1#1
  let main_v5 : IVec S_ 1 := (fun x v => Host.reduce IntOp.andi x v reducesTo_S104_S_d0 h_S_) main_v4 main_c_1
  main_v5
-- ==== Pre_in_range.lean ====
abbrev S25600x2048 : Shape := ⟨2, ![25600, 2048]⟩
abbrev S104x1x512 : Shape := ⟨3, ![104, 1, 512]⟩
abbrev S8x2048x7168 : Shape := ⟨3, ![8, 2048, 7168]⟩
abbrev S104 : Shape := ⟨1, ![104]⟩
abbrev S1 : Shape := ⟨1, ![1]⟩
abbrev S_ : Shape := ⟨0, ![]⟩

class Facts : Prop where
  bcast_S_S104x1x512 : S_.BroadcastsInDim S104x1x512 (![] : Fin 0 → Fin S104x1x512.rank)
  reducesTo_S104x1x512_S_d0_1_2 : S104x1x512.ReducesTo [0, 1, 2] S_
  h_S_ : 0 < S_.numel
  bcast_S_S104 : S_.BroadcastsInDim S104 (![] : Fin 0 → Fin S104.rank)
  reducesTo_S104_S_d0 : S104.ReducesTo [0] S_

variable [Facts]

def fn {F : FTy → Type} [FloatOps F] (main_arg0 : FVec F S25600x2048 .f32) (main_arg1 : IVec S104x1x512 32) (main_arg2 : FVec F S8x2048x7168 .bf16) (main_arg3 : FVec F S8x2048x7168 .bf16) (main_arg4 : IVec S104 32) (main_arg5 : IVec S1 32) : IVec S_ 1 :=
  let main_c : IVec S_ 32 := constantI S_ 32 0#32
  let main_v0 : IVec S104x1x512 32 := broadcastInDim S104x1x512 ![] bcast_S_S104x1x512 main_c
  let main_v1 : IVec S104x1x512 1 := cmpi .sge main_arg1 main_v0
  let main_c_0 : IVec S_ 32 := constantI S_ 32 25600#32
  let main_v2 : IVec S104x1x512 32 := broadcastInDim S104x1x512 ![] bcast_S_S104x1x512 main_c_0
  let main_v3 : IVec S104x1x512 1 := cmpi .slt main_arg1 main_v2
  let main_v4 : IVec S104x1x512 1 := andi main_v1 main_v3
  let main_c_1 : IVec S_ 1 := constantI S_ 1 1#1
  let main_v5 : IVec S_ 1 := (fun x v => Host.reduce IntOp.andi x v reducesTo_S104x1x512_S_d0_1_2 h_S_) main_v4 main_c_1
  let main_c_2 : IVec S_ 32 := constantI S_ 32 0#32
  let main_v6 : IVec S104 32 := broadcastInDim S104 ![] bcast_S_S104 main_c_2
  let main_v7 : IVec S104 1 := cmpi .sge main_arg4 main_v6
  let main_c_3 : IVec S_ 32 := constantI S_ 32 8#32
  let main_v8 : IVec S104 32 := broadcastInDim S104 ![] bcast_S_S104 main_c_3
  let main_v9 : IVec S104 1 := cmpi .slt main_arg4 main_v8
  let main_v10 : IVec S104 1 := andi main_v7 main_v9
  let main_c_4 : IVec S_ 1 := constantI S_ 1 1#1
  let main_v11 : IVec S_ 1 := (fun x v => Host.reduce IntOp.andi x v reducesTo_S104_S_d0 h_S_) main_v10 main_c_4
  let main_v12 : IVec S_ 1 := andi main_v5 main_v11
  main_v12
-- ==== Pre_ones_row.lean ====
abbrev S16x25600x192 : Shape := ⟨3, ![16, 25600, 192]⟩
abbrev S16x144x25600 : Shape := ⟨3, ![16, 144, 25600]⟩
abbrev S25600x2048 : Shape := ⟨2, ![25600, 2048]⟩
abbrev S16x1x16400 : Shape := ⟨3, ![16, 1, 16400]⟩
abbrev S16x16400 : Shape := ⟨2, ![16, 16400]⟩
abbrev S_ : Shape := ⟨0, ![]⟩

class Facts : Prop where
  slices_S16x144x25600_S16x1x16400_0_128_0 : S16x144x25600.Slices ![0, 128, 0] S16x1x16400
  shapeCasts_S16x1x16400_S16x16400 : S16x1x16400.ShapeCasts S16x16400
  bitsLt_bf16_f32 : FTy.bits .bf16 < FTy.bits .f32
  bcast_S_S16x16400 : S_.BroadcastsInDim S16x16400 (![] : Fin 0 → Fin S16x16400.rank)
  reducesTo_S16x16400_S_d0_1 : S16x16400.ReducesTo [0, 1] S_
  h_S_ : 0 < S_.numel

variable [Facts]

def fn {F : FTy → Type} [FloatOps F] (main_arg0 : FVec F S16x25600x192 .bf16) (main_arg1 : FVec F S16x25600x192 .bf16) (main_arg2 : FVec F S16x144x25600 .bf16) (main_arg3 : FVec F S25600x2048 .bf16) : IVec S_ 1 :=
  let main_v0 : FVec F S16x1x16400 .bf16 := (extractStridedSlice S16x1x16400 ![0, 128, 0] · slices_S16x144x25600_S16x1x16400_0_128_0) main_arg2
  let main_v1 : FVec F S16x16400 .bf16 := shapeCast S16x16400 main_v0 shapeCasts_S16x1x16400_S16x16400
  let main_v2 : FVec F S16x16400 .f32 := (extf .f32 · bitsLt_bf16_f32) main_v1
  let main_cst : FVec F S_ .f32 := constant S_ .f32 0x3F800000#32
  let main_v3 : FVec F S16x16400 .f32 := broadcastInDim S16x16400 ![] bcast_S_S16x16400 main_cst
  let main_v4 : IVec S16x16400 1 := cmpf .oeq main_v2 main_v3
  let main_c : IVec S_ 1 := constantI S_ 1 1#1
  let main_v5 : IVec S_ 1 := (fun x v => Host.reduce IntOp.andi x v reducesTo_S16x16400_S_d0_1 h_S_) main_v4 main_c
  main_v5
-- ==== Pre_ones_row_sample.lean ====
abbrev S16x25600x192 : Shape := ⟨3, ![16, 25600, 192]⟩
abbrev S16x144x25600 : Shape := ⟨3, ![16, 144, 25600]⟩
abbrev S25600x2048 : Shape := ⟨2, ![25600, 2048]⟩
abbrev S16x1x8208 : Shape := ⟨3, ![16, 1, 8208]⟩
abbrev S16x8208 : Shape := ⟨2, ![16, 8208]⟩
abbrev S_ : Shape := ⟨0, ![]⟩

class Facts : Prop where
  slices_S16x144x25600_S16x1x8208_0_128_16896 : S16x144x25600.Slices ![0, 128, 16896] S16x1x8208
  shapeCasts_S16x1x8208_S16x8208 : S16x1x8208.ShapeCasts S16x8208
  bitsLt_bf16_f32 : FTy.bits .bf16 < FTy.bits .f32
  bcast_S_S16x8208 : S_.BroadcastsInDim S16x8208 (![] : Fin 0 → Fin S16x8208.rank)
  reducesTo_S16x8208_S_d0_1 : S16x8208.ReducesTo [0, 1] S_
  h_S_ : 0 < S_.numel

variable [Facts]

def fn {F : FTy → Type} [FloatOps F] (main_arg0 : FVec F S16x25600x192 .bf16) (main_arg1 : FVec F S16x25600x192 .bf16) (main_arg2 : FVec F S16x144x25600 .bf16) (main_arg3 : FVec F S25600x2048 .bf16) : IVec S_ 1 :=
  let main_v0 : FVec F S16x1x8208 .bf16 := (extractStridedSlice S16x1x8208 ![0, 128, 16896] · slices_S16x144x25600_S16x1x8208_0_128_16896) main_arg2
  let main_v1 : FVec F S16x8208 .bf16 := shapeCast S16x8208 main_v0 shapeCasts_S16x1x8208_S16x8208
  let main_v2 : FVec F S16x8208 .f32 := (extf .f32 · bitsLt_bf16_f32) main_v1
  let main_cst : FVec F S_ .f32 := constant S_ .f32 0x3F800000#32
  let main_v3 : FVec F S16x8208 .f32 := broadcastInDim S16x8208 ![] bcast_S_S16x8208 main_cst
  let main_v4 : IVec S16x8208 1 := cmpf .oeq main_v2 main_v3
  let main_c : IVec S_ 1 := constantI S_ 1 1#1
  let main_v5 : IVec S_ 1 := (fun x v => Host.reduce IntOp.andi x v reducesTo_S16x8208_S_d0_1 h_S_) main_v4 main_c
  main_v5
-- ==== Kernel.lean ====
abbrev S25600x2048 : Shape := ⟨2, ![25600, 2048]⟩
abbrev S104x1x512 : Shape := ⟨3, ![104, 1, 512]⟩
abbrev S8x2048x7168 : Shape := ⟨3, ![8, 2048, 7168]⟩
abbrev S104 : Shape := ⟨1, ![104]⟩
abbrev S1 : Shape := ⟨1, ![1]⟩
abbrev S53248x7168 : Shape := ⟨2, ![53248, 7168]⟩
abbrev S1x1x512 : Shape := ⟨3, ![1, 1, 512]⟩
abbrev S1x2048x1024 : Shape := ⟨3, ![1, 2048, 1024]⟩
abbrev S512x1024 : Shape := ⟨2, ![512, 1024]⟩
abbrev S512x2048 : Shape := ⟨2, ![512, 2048]⟩
abbrev S_ : Shape := ⟨0, ![]⟩
abbrev S1x1x1 : Shape := ⟨3, ![1, 1, 1]⟩
abbrev S1x2048 : Shape := ⟨2, ![1, 2048]⟩
abbrev S2048x1024 : Shape := ⟨2, ![2048, 1024]⟩

abbrev nBuf : Space → Nat
  | .hbm => 5
  | .vmem => 8
  | .smem => 4
  | _ => 0

abbrev bufTy : (tb : Table) → Fin (tcTables nBuf tb) → BufTy
  | .hbm, ⟨0, _⟩ => ⟨S25600x2048, .f32⟩
  | .hbm, ⟨1, _⟩ => ⟨S104x1x512, .i32⟩
  | .hbm, ⟨2, _⟩ => ⟨S8x2048x7168, .bf16⟩
  | .hbm, ⟨3, _⟩ => ⟨S8x2048x7168, .bf16⟩
  | .hbm, ⟨4, _⟩ => ⟨S53248x7168, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .f32⟩
  | .local _ .vmem, ⟨7, _⟩ => ⟨S512x2048, .bf16⟩
  | .local _ .smem, ⟨0, _⟩ => ⟨S104, .i32⟩
  | .local _ .smem, ⟨1, _⟩ => ⟨S1, .i32⟩
  | .local _ .smem, ⟨2, _⟩ => ⟨S1x1x512, .i32⟩
  | .local _ .smem, ⟨3, _⟩ => ⟨S1x1x512, .i32⟩
  | _, _ => ⟨S25600x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg4 : Ref sig .tc := ⟨.smem, 0, rfl⟩
abbrev main_arg5 : Ref sig .tc := ⟨.smem, 1, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_stg0_0 : Ref sig .tc := ⟨.smem, 2, rfl⟩
abbrev cc0_stg0_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![104, 7], ![false, false]⟩

abbrev pre0 : Pipeline.Prefetch sig := ⟨2, ![main_arg4.idx, main_arg5.idx], fun | 0 => main_arg4.names | 1 => main_arg5.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_3 : BitVec 32 := 0#32
  let c512_i32 : BitVec 32 := 512#32
  let v11 : BitVec 32 := Scalar.addi c0_i32_3 c512_i32
  let c1_i32 : BitVec 32 := 1#32
  ⟨c0_i32_3, v11, c1_i32⟩
def k0_off2 (k0_t1 : Fin k0_t1_loop.trips) : Fin 3 → Nat :=
  let c0_13 : Index := 0#32
  let c0_14 : Index := 0#32
  let c0_i32_3 : BitVec 32 := 0#32
  let c1_i32 : BitVec 32 := 1#32
  let arg12 : BitVec 32 := Scf.iv c0_i32_3 c1_i32 k0_t1
  let v18 : Index := Scalar.indexCast arg12
  ![0, 0, v18.toNat]
def k0_off3 (k0_t1 : Fin k0_t1_loop.trips) : Fin 2 → Nat :=
  let c0_i32_3 : BitVec 32 := 0#32
  let c1_i32 : BitVec 32 := 1#32
  let arg12 : BitVec 32 := Scf.iv c0_i32_3 c1_i32 k0_t1
  let c0_i32_15 : BitVec 32 := 0#32
  ![arg12.toNat, 0]
def k0_off4 (v19 : BitVec 32) : Fin 2 → Nat :=
  let c0_i32_16 : BitVec 32 := 0#32
  ![v19.toNat, 0]
def k0_cond1 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c0_i32 : BitVec 32 := 0#32
  let v2 : BitVec 1 := Scalar.cmpi .eq arg1 c0_i32
  let v3 : BitVec 1 := Scalar.andi v1 v2
  let v4 : BitVec 32 := Scalar.extui v3
  let c0_i32_0 : BitVec 32 := 0#32
  let v5 : BitVec 1 := Scalar.cmpi .ne v4 c0_i32_0
  v5

def k0_chk1 (i : grid0.Coords) (v0 : BitVec 32) (v19 : BitVec 32) : Prop :=
  (∀ (k0_h1 : k0_cond1 i v0 = 1#1), ∀ a, (k0_off4 v19) a + S1x2048.size a ≤ S25600x2048.size a)
theorem k0_off4_inb : ∀ (i : grid0.Coords) (v0 : BitVec 32) (v19 : BitVec 32) (k0_hw1 : k0_chk1 i v0 v19), ∀ (k0_h1 : k0_cond1 i v0 = 1#1), ∀ a, (k0_off4 v19) a + S1x2048.size a ≤ S25600x2048.size a := fun i v0 v19 k0_hw1 k0_h1 => k0_hw1 k0_h1

@[reducible] def k0_t2_loop : Scf.Loop 32 :=
  let c0_i32_5 : BitVec 32 := 0#32
  let c512_i32_6 : BitVec 32 := 512#32
  let v12 : BitVec 32 := Scalar.addi c0_i32_5 c512_i32_6
  let c1_i32_7 : BitVec 32 := 1#32
  ⟨c0_i32_5, v12, c1_i32_7⟩
def k0_off5 (k0_t2 : Fin k0_t2_loop.trips) : Fin 3 → Nat :=
  let c0_13 : Index := 0#32
  let c0_14 : Index := 0#32
  let c0_i32_5 : BitVec 32 := 0#32
  let c1_i32_7 : BitVec 32 := 1#32
  let arg12 : BitVec 32 := Scf.iv c0_i32_5 c1_i32_7 k0_t2
  let v18 : Index := Scalar.indexCast arg12
  ![0, 0, v18.toNat]
def k0_off6 (k0_t2 : Fin k0_t2_loop.trips) : Fin 2 → Nat :=
  let c0_i32_5 : BitVec 32 := 0#32
  let c1_i32_7 : BitVec 32 := 1#32
  let arg12 : BitVec 32 := Scf.iv c0_i32_5 c1_i32_7 k0_t2
  let c0_i32_15 : BitVec 32 := 0#32
  ![arg12.toNat, 0]
def k0_off7 (v19 : BitVec 32) : Fin 2 → Nat :=
  let c0_i32_16 : BitVec 32 := 0#32
  ![v19.toNat, 0]

def k0_chk2 (i : grid0.Coords) (v0 : BitVec 32) (v19 : BitVec 32) : Prop :=
  (∀ (k0_h1 : k0_cond1 i v0 = 1#1), ∀ a, (k0_off7 v19) a + S1x2048.size a ≤ S25600x2048.size a)
theorem k0_off7_inb : ∀ (i : grid0.Coords) (v0 : BitVec 32) (v19 : BitVec 32) (k0_hw2 : k0_chk2 i v0 v19), ∀ (k0_h1 : k0_cond1 i v0 = 1#1), ∀ a, (k0_off7 v19) a + S1x2048.size a ≤ S25600x2048.size a := fun i v0 v19 k0_hw2 k0_h1 => k0_hw2 k0_h1

def k0_cond2 (i : grid0.Coords) (v0 : BitVec 32) : BitVec 1 :=
  let arg0 : BitVec 32 := BitVec.ofNat 32 (i 0).val
  let v1 : BitVec 1 := Scalar.cmpi .slt arg0 v0
  let v6 : BitVec 32 := Scalar.extui v1
  let c0_i32_1 : BitVec 32 := 0#32
  let v7 : BitVec 1 := Scalar.cmpi .ne v6 c0_i32_1
  v7

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v8 : BitVec 1 := Scalar.xori v1 v_true
  let v9 : BitVec 32 := Scalar.extui v8
  let c0_i32_2 : BitVec 32 := 0#32
  let v10 : BitVec 1 := Scalar.cmpi .ne v9 c0_i32_2
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S104) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S104) ![v0.toNat] S1.size (k0_off1_inb i)) numel1_S1
  let c0_i32 : BitVec 32 := 0#32
  let c0_i32_0 : BitVec 32 := 0#32
  ![v1.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S25600x2048 : Shape := ⟨2, ![25600, 2048]⟩
abbrev S104x1x512 : Shape := ⟨3, ![104, 1, 512]⟩
abbrev S8x2048x7168 : Shape := ⟨3, ![8, 2048, 7168]⟩
abbrev S104 : Shape := ⟨1, ![104]⟩
abbrev S1 : Shape := ⟨1, ![1]⟩
abbrev S53248 : Shape := ⟨1, ![53248]⟩
abbrev S_ : Shape := ⟨0, ![]⟩
abbrev S53248x1 : Shape := ⟨2, ![53248, 1]⟩
abbrev S53248x2048 : Shape := ⟨2, ![53248, 2048]⟩
abbrev S104x512 : Shape := ⟨2, ![104, 512]⟩
abbrev S53248x7168 : Shape := ⟨2, ![53248, 7168]⟩
abbrev S1x2048x7168 : Shape := ⟨3, ![1, 2048, 7168]⟩
abbrev S2048x7168 : Shape := ⟨2, ![2048, 7168]⟩

abbrev nBuf : Space → Nat
  | .hbm => 214
  | .vmem => 0
  | .smem => 0
  | _ => 0

abbrev hbmTy0_0 (i : Nat) : BufTy := match i % 128 with
  | 0 => ⟨S25600x2048, .f32⟩
  | 1 => ⟨S104x1x512, .i32⟩
  | 2 => ⟨S8x2048x7168, .bf16⟩
  | 3 => ⟨S8x2048x7168, .bf16⟩
  | 4 => ⟨S104, .i32⟩
  | 5 => ⟨S1, .i32⟩
  | 6 => ⟨S53248, .i32⟩
  | 7 => ⟨S_, .i32⟩
  | 8 => ⟨S53248, .i32⟩
  | 9 => ⟨S53248, .i1⟩
  | 10 => ⟨S_, .i32⟩
  | 11 => ⟨S53248, .i32⟩
  | 12 => ⟨S53248, .i32⟩
  | 13 => ⟨S53248, .i32⟩
  | 14 => ⟨S53248x1, .i32⟩
  | 15 => ⟨S53248x2048, .f32⟩
  | 16 => ⟨S104, .i32⟩
  | 17 => ⟨S_, .i32⟩
  | 18 => ⟨S104, .i32⟩
  | 19 => ⟨S104, .i1⟩
  | 20 => ⟨S_, .i32⟩
  | 21 => ⟨S_, .i32⟩
  | 22 => ⟨S104, .i32⟩
  | 23 => ⟨S104, .i32⟩
  | 24 => ⟨S104x512, .i32⟩
  | 25 => ⟨S53248, .i32⟩
  | 26 => ⟨S53248x1, .i32⟩
  | 27 => ⟨S_, .f32⟩
  | 28 => ⟨S53248x7168, .f32⟩
  | 29 => ⟨S1x2048x7168, .bf16⟩
  | 30 => ⟨S2048x7168, .bf16⟩
  | 31 => ⟨S2048x7168, .f32⟩
  | 32 => ⟨S53248x7168, .f32⟩
  | 33 => ⟨S1x2048x7168, .bf16⟩
  | 34 => ⟨S2048x7168, .bf16⟩
  | 35 => ⟨S2048x7168, .f32⟩
  | 36 => ⟨S53248x7168, .f32⟩
  | 37 => ⟨S_, .i32⟩
  | 38 => ⟨S53248x1, .i32⟩
  | 39 => ⟨S53248x1, .i1⟩
  | 40 => ⟨S53248x7168, .f32⟩
  | 41 => ⟨S53248x7168, .f32⟩
  | 42 => ⟨S_, .f32⟩
  | 43 => ⟨S53248x7168, .f32⟩
  | 44 => ⟨S53248x7168, .f32⟩
  | 45 => ⟨S_, .f32⟩
  | 46 => ⟨S53248x7168, .f32⟩
  | 47 => ⟨S53248x7168, .f32⟩
  | 48 => ⟨S53248x7168, .f32⟩
  | 49 => ⟨S53248x7168, .f32⟩
  | 50 => ⟨S53248x7168, .i1⟩
  | 51 => ⟨S53248x7168, .f32⟩
  | 52 => ⟨S1x2048x7168, .bf16⟩
  | 53 => ⟨S2048x7168, .bf16⟩
  | 54 => ⟨S2048x7168, .f32⟩
  | 55 => ⟨S53248x7168, .f32⟩
  | 56 => ⟨S1x2048x7168, .bf16⟩
  | 57 => ⟨S2048x7168, .bf16⟩
  | 58 => ⟨S2048x7168, .f32⟩
  | 59 => ⟨S53248x7168, .f32⟩
  | 60 => ⟨S_, .i32⟩
  | 61 => ⟨S53248x1, .i32⟩
  | 62 => ⟨S53248x1, .i1⟩
  | 63 => ⟨S53248x7168, .f32⟩
  | 64 => ⟨S53248x7168, .f32⟩
  | 65 => ⟨S_, .f32⟩
  | 66 => ⟨S53248x7168, .f32⟩
  | 67 => ⟨S53248x7168, .f32⟩
  | 68 => ⟨S_, .f32⟩
  | 69 => ⟨S53248x7168, .f32⟩
  | 70 => ⟨S53248x7168, .f32⟩
  | 71 => ⟨S53248x7168, .f32⟩
  | 72 => ⟨S53248x7168, .f32⟩
  | 73 => ⟨S53248x7168, .i1⟩
  | 74 => ⟨S53248x7168, .f32⟩
  | 75 => ⟨S1x2048x7168, .bf16⟩
  | 76 => ⟨S2048x7168, .bf16⟩
  | 77 => ⟨S2048x7168, .f32⟩
  | 78 => ⟨S53248x7168, .f32⟩
  | 79 => ⟨S1x2048x7168, .bf16⟩
  | 80 => ⟨S2048x7168, .bf16⟩
  | 81 => ⟨S2048x7168, .f32⟩
  | 82 => ⟨S53248x7168, .f32⟩
  | 83 => ⟨S_, .i32⟩
  | 84 => ⟨S53248x1, .i32⟩
  | 85 => ⟨S53248x1, .i1⟩
  | 86 => ⟨S53248x7168, .f32⟩
  | 87 => ⟨S53248x7168, .f32⟩
  | 88 => ⟨S_, .f32⟩
  | 89 => ⟨S53248x7168, .f32⟩
  | 90 => ⟨S53248x7168, .f32⟩
  | 91 => ⟨S_, .f32⟩
  | 92 => ⟨S53248x7168, .f32⟩
  | 93 => ⟨S53248x7168, .f32⟩
  | 94 => ⟨S53248x7168, .f32⟩
  | 95 => ⟨S53248x7168, .f32⟩
  | 96 => ⟨S53248x7168, .i1⟩
  | 97 => ⟨S53248x7168, .f32⟩
  | 98 => ⟨S1x2048x7168, .bf16⟩
  | 99 => ⟨S2048x7168, .bf16⟩
  | 100 => ⟨S2048x7168, .f32⟩
  | 101 => ⟨S53248x7168, .f32⟩
  | 102 => ⟨S1x2048x7168, .bf16⟩
  | 103 => ⟨S2048x7168, .bf16⟩
  | 104 => ⟨S2048x7168, .f32⟩
  | 105 => ⟨S53248x7168, .f32⟩
  | 106 => ⟨S_, .i32⟩
  | 107 => ⟨S53248x1, .i32⟩
  | 108 => ⟨S53248x1, .i1⟩
  | 109 => ⟨S53248x7168, .f32⟩
  | 110 => ⟨S53248x7168, .f32⟩
  | 111 => ⟨S_, .f32⟩
  | 112 => ⟨S53248x7168, .f32⟩
  | 113 => ⟨S53248x7168, .f32⟩
  | 114 => ⟨S_, .f32⟩
  | 115 => ⟨S53248x7168, .f32⟩
  | 116 => ⟨S53248x7168, .f32⟩
  | 117 => ⟨S53248x7168, .f32⟩
  | 118 => ⟨S53248x7168, .f32⟩
  | 119 => ⟨S53248x7168, .i1⟩
  | 120 => ⟨S53248x7168, .f32⟩
  | 121 => ⟨S1x2048x7168, .bf16⟩
  | 122 => ⟨S2048x7168, .bf16⟩
  | 123 => ⟨S2048x7168, .f32⟩
  | 124 => ⟨S53248x7168, .f32⟩
  | 125 => ⟨S1x2048x7168, .bf16⟩
  | 126 => ⟨S2048x7168, .bf16⟩
  | 127 => ⟨S2048x7168, .f32⟩
  | _ => ⟨S25600x2048, .f32⟩

abbrev hbmTy0_1 (i : Nat) : BufTy := match i % 128 with
  | 0 => ⟨S53248x7168, .f32⟩
  | 1 => ⟨S_, .i32⟩
  | 2 => ⟨S53248x1, .i32⟩
  | 3 => ⟨S53248x1, .i1⟩
  | 4 => ⟨S53248x7168, .f32⟩
  | 5 => ⟨S53248x7168, .f32⟩
  | 6 => ⟨S_, .f32⟩
  | 7 => ⟨S53248x7168, .f32⟩
  | 8 => ⟨S53248x7168, .f32⟩
  | 9 => ⟨S_, .f32⟩
  | 10 => ⟨S53248x7168, .f32⟩
  | 11 => ⟨S53248x7168, .f32⟩
  | 12 => ⟨S53248x7168, .f32⟩
  | 13 => ⟨S53248x7168, .f32⟩
  | 14 => ⟨S53248x7168, .i1⟩
  | 15 => ⟨S53248x7168, .f32⟩
  | 16 => ⟨S1x2048x7168, .bf16⟩
  | 17 => ⟨S2048x7168, .bf16⟩
  | 18 => ⟨S2048x7168, .f32⟩
  | 19 => ⟨S53248x7168, .f32⟩
  | 20 => ⟨S1x2048x7168, .bf16⟩
  | 21 => ⟨S2048x7168, .bf16⟩
  | 22 => ⟨S2048x7168, .f32⟩
  | 23 => ⟨S53248x7168, .f32⟩
  | 24 => ⟨S_, .i32⟩
  | 25 => ⟨S53248x1, .i32⟩
  | 26 => ⟨S53248x1, .i1⟩
  | 27 => ⟨S53248x7168, .f32⟩
  | 28 => ⟨S53248x7168, .f32⟩
  | 29 => ⟨S_, .f32⟩
  | 30 => ⟨S53248x7168, .f32⟩
  | 31 => ⟨S53248x7168, .f32⟩
  | 32 => ⟨S_, .f32⟩
  | 33 => ⟨S53248x7168, .f32⟩
  | 34 => ⟨S53248x7168, .f32⟩
  | 35 => ⟨S53248x7168, .f32⟩
  | 36 => ⟨S53248x7168, .f32⟩
  | 37 => ⟨S53248x7168, .i1⟩
  | 38 => ⟨S53248x7168, .f32⟩
  | 39 => ⟨S1x2048x7168, .bf16⟩
  | 40 => ⟨S2048x7168, .bf16⟩
  | 41 => ⟨S2048x7168, .f32⟩
  | 42 => ⟨S53248x7168, .f32⟩
  | 43 => ⟨S1x2048x7168, .bf16⟩
  | 44 => ⟨S2048x7168, .bf16⟩
  | 45 => ⟨S2048x7168, .f32⟩
  | 46 => ⟨S53248x7168, .f32⟩
  | 47 => ⟨S_, .i32⟩
  | 48 => ⟨S53248x1, .i32⟩
  | 49 => ⟨S53248x1, .i1⟩
  | 50 => ⟨S53248x7168, .f32⟩
  | 51 => ⟨S53248x7168, .f32⟩
  | 52 => ⟨S_, .f32⟩
  | 53 => ⟨S53248x7168, .f32⟩
  | 54 => ⟨S53248x7168, .f32⟩
  | 55 => ⟨S_, .f32⟩
  | 56 => ⟨S53248x7168, .f32⟩
  | 57 => ⟨S53248x7168, .f32⟩
  | 58 => ⟨S53248x7168, .f32⟩
  | 59 => ⟨S53248x7168, .f32⟩
  | 60 => ⟨S53248x7168, .i1⟩
  | 61 => ⟨S53248x7168, .f32⟩
  | 62 => ⟨S1x2048x7168, .bf16⟩
  | 63 => ⟨S2048x7168, .bf16⟩
  | 64 => ⟨S2048x7168, .f32⟩
  | 65 => ⟨S53248x7168, .f32⟩
  | 66 => ⟨S1x2048x7168, .bf16⟩
  | 67 => ⟨S2048x7168, .bf16⟩
  | 68 => ⟨S2048x7168, .f32⟩
  | 69 => ⟨S53248x7168, .f32⟩
  | 70 => ⟨S_, .i32⟩
  | 71 => ⟨S53248x1, .i32⟩
  | 72 => ⟨S53248x1, .i1⟩
  | 73 => ⟨S53248x7168, .f32⟩
  | 74 => ⟨S53248x7168, .f32⟩
  | 75 => ⟨S_, .f32⟩
  | 76 => ⟨S53248x7168, .f32⟩
  | 77 => ⟨S53248x7168, .f32⟩
  | 78 => ⟨S_, .f32⟩
  | 79 => ⟨S53248x7168, .f32⟩
  | 80 => ⟨S53248x7168, .f32⟩
  | 81 => ⟨S53248x7168, .f32⟩
  | 82 => ⟨S53248x7168, .f32⟩
  | 83 => ⟨S53248x7168, .i1⟩
  | 84 => ⟨S53248x7168, .f32⟩
  | 85 => ⟨S53248x7168, .bf16⟩
  | _ => ⟨S25600x2048, .f32⟩

abbrev hbmTy (i : Nat) : BufTy := match i / 128 with
  | 0 => hbmTy0_0 i
  | 1 => hbmTy0_1 i
  | _ => ⟨S25600x2048, .f32⟩

abbrev bufTy : (tb : Table) → Fin (tcTables nBuf tb) → BufTy
  | .hbm, ⟨i, _⟩ => hbmTy i
  | _, _ => ⟨S25600x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v27 : Ref sig .tc := ⟨.hbm, 48, rfl⟩
abbrev main_v28 : Ref sig .tc := ⟨.hbm, 49, rfl⟩
abbrev main_call2_v0 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_3 : Ref sig .tc := ⟨.hbm, 60, rfl⟩
abbrev main_v38 : Ref sig .tc := ⟨.hbm, 61, rfl⟩
abbrev main_v39 : Ref sig .tc := ⟨.hbm, 62, rfl⟩
abbrev main_call3_v0 : Ref sig .tc := ⟨.hbm, 63, rfl⟩
abbrev main_call3_v1 : Ref sig .tc := ⟨.hbm, 64, rfl⟩
abbrev main_call3_cst : Ref sig .tc := ⟨.hbm, 65, rfl⟩
abbrev main_call3_v2 : Ref sig .tc := ⟨.hbm, 66, rfl⟩
abbrev main_call3_v3 : Ref sig .tc := ⟨.hbm, 67, rfl⟩
abbrev main_call3_cst_0 : Ref sig .tc := ⟨.hbm, 68, rfl⟩
abbrev main_call3_v4 : Ref sig .tc := ⟨.hbm, 69, rfl⟩
abbrev main_call3_v5 : Ref sig .tc := ⟨.hbm, 70, rfl⟩
abbrev main_v40 : Ref sig .tc := ⟨.hbm, 71, rfl⟩
abbrev main_v41 : Ref sig .tc := ⟨.hbm, 72, rfl⟩
abbrev main_call4_v0 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_4 : Ref sig .tc := ⟨.hbm, 83, rfl⟩
abbrev main_v51 : Ref sig .tc := ⟨.hbm, 84, rfl⟩
abbrev main_v52 : Ref sig .tc := ⟨.hbm, 85, rfl⟩
abbrev main_call5_v0 : Ref sig .tc := ⟨.hbm, 86, rfl⟩
abbrev main_call5_v1 : Ref sig .tc := ⟨.hbm, 87, rfl⟩
abbrev main_call5_cst : Ref sig .tc := ⟨.hbm, 88, rfl⟩
abbrev main_call5_v2 : Ref sig .tc := ⟨.hbm, 89, rfl⟩
abbrev main_call5_v3 : Ref sig .tc := ⟨.hbm, 90, rfl⟩
abbrev main_call5_cst_0 : Ref sig .tc := ⟨.hbm, 91, rfl⟩
abbrev main_call5_v4 : Ref sig .tc := ⟨.hbm, 92, rfl⟩
abbrev main_call5_v5 : Ref sig .tc := ⟨.hbm, 93, rfl⟩
abbrev main_v53 : Ref sig .tc := ⟨.hbm, 94, rfl⟩
abbrev main_v54 : Ref sig .tc := ⟨.hbm, 95, rfl⟩
abbrev main_call6_v0 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_c_5 : Ref sig .tc := ⟨.hbm, 106, rfl⟩
abbrev main_v64 : Ref sig .tc := ⟨.hbm, 107, rfl⟩
abbrev main_v65 : Ref sig .tc := ⟨.hbm, 108, rfl⟩
abbrev main_call7_v0 : Ref sig .tc := ⟨.hbm, 109, rfl⟩
abbrev main_call7_v1 : Ref sig .tc := ⟨.hbm, 110, rfl⟩
abbrev main_call7_cst : Ref sig .tc := ⟨.hbm, 111, rfl⟩
abbrev main_call7_v2 : Ref sig .tc := ⟨.hbm, 112, rfl⟩
abbrev main_call7_v3 : Ref sig .tc := ⟨.hbm, 113, rfl⟩
abbrev main_call7_cst_0 : Ref sig .tc := ⟨.hbm, 114, rfl⟩
abbrev main_call7_v4 : Ref sig .tc := ⟨.hbm, 115, rfl⟩
abbrev main_call7_v5 : Ref sig .tc := ⟨.hbm, 116, rfl⟩
abbrev main_v66 : Ref sig .tc := ⟨.hbm, 117, rfl⟩
abbrev main_v67 : Ref sig .tc := ⟨.hbm, 118, rfl⟩
abbrev main_call8_v0 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_c_6 : Ref sig .tc := ⟨.hbm, 129, rfl⟩
abbrev main_v77 : Ref sig .tc := ⟨.hbm, 130, rfl⟩
abbrev main_v78 : Ref sig .tc := ⟨.hbm, 131, rfl⟩
abbrev main_call9_v0 : Ref sig .tc := ⟨.hbm, 132, rfl⟩
abbrev main_call9_v1 : Ref sig .tc := ⟨.hbm, 133, rfl⟩
abbrev main_call9_cst : Ref sig .tc := ⟨.hbm, 134, rfl⟩
abbrev main_call9_v2 : Ref sig .tc := ⟨.hbm, 135, rfl⟩
abbrev main_call9_v3 : Ref sig .tc := ⟨.hbm, 136, rfl⟩
abbrev main_call9_cst_0 : Ref sig .tc := ⟨.hbm, 137, rfl⟩
abbrev main_call9_v4 : Ref sig .tc := ⟨.hbm, 138, rfl⟩
abbrev main_call9_v5 : Ref sig .tc := ⟨.hbm, 139, rfl⟩
abbrev main_v79 : Ref sig .tc := ⟨.hbm, 140, rfl⟩
abbrev main_v80 : Ref sig .tc := ⟨.hbm, 141, rfl⟩
abbrev main_call10_v0 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_c_7 : Ref sig .tc := ⟨.hbm, 152, rfl⟩
abbrev main_v90 : Ref sig .tc := ⟨.hbm, 153, rfl⟩
abbrev main_v91 : Ref sig .tc := ⟨.hbm, 154, rfl⟩
abbrev main_call11_v0 : Ref sig .tc := ⟨.hbm, 155, rfl⟩
abbrev main_call11_v1 : Ref sig .tc := ⟨.hbm, 156, rfl⟩
abbrev main_call11_cst : Ref sig .tc := ⟨.hbm, 157, rfl⟩
abbrev main_call11_v2 : Ref sig .tc := ⟨.hbm, 158, rfl⟩
abbrev main_call11_v3 : Ref sig .tc := ⟨.hbm, 159, rfl⟩
abbrev main_call11_cst_0 : Ref sig .tc := ⟨.hbm, 160, rfl⟩
abbrev main_call11_v4 : Ref sig .tc := ⟨.hbm, 161, rfl⟩
abbrev main_call11_v5 : Ref sig .tc := ⟨.hbm, 162, rfl⟩
abbrev main_v92 : Ref sig .tc := ⟨.hbm, 163, rfl⟩
abbrev main_v93 : Ref sig .tc := ⟨.hbm, 164, rfl⟩
abbrev main_call12_v0 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_c_8 : Ref sig .tc := ⟨.hbm, 175, rfl⟩
abbrev main_v103 : Ref sig .tc := ⟨.hbm, 176, rfl⟩
abbrev main_v104 : Ref sig .tc := ⟨.hbm, 177, rfl⟩
abbrev main_call13_v0 : Ref sig .tc := ⟨.hbm, 178, rfl⟩
abbrev main_call13_v1 : Ref sig .tc := ⟨.hbm, 179, rfl⟩
abbrev main_call13_cst : Ref sig .tc := ⟨.hbm, 180, rfl⟩
abbrev main_call13_v2 : Ref sig .tc := ⟨.hbm, 181, rfl⟩
abbrev main_call13_v3 : Ref sig .tc := ⟨.hbm, 182, rfl⟩
abbrev main_call13_cst_0 : Ref sig .tc := ⟨.hbm, 183, rfl⟩
abbrev main_call13_v4 : Ref sig .tc := ⟨.hbm, 184, rfl⟩
abbrev main_call13_v5 : Ref sig .tc := ⟨.hbm, 185, rfl⟩
abbrev main_v105 : Ref sig .tc := ⟨.hbm, 186, rfl⟩
abbrev main_v106 : Ref sig .tc := ⟨.hbm, 187, rfl⟩
abbrev main_call14_v0 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_c_9 : Ref sig .tc := ⟨.hbm, 198, rfl⟩
abbrev main_v116 : Ref sig .tc := ⟨.hbm, 199, rfl⟩
abbrev main_v117 : Ref sig .tc := ⟨.hbm, 200, rfl⟩
abbrev main_call15_v0 : Ref sig .tc := ⟨.hbm, 201, rfl⟩
abbrev main_call15_v1 : Ref sig .tc := ⟨.hbm, 202, rfl⟩
abbrev main_call15_cst : Ref sig .tc := ⟨.hbm, 203, rfl⟩
abbrev main_call15_v2 : Ref sig .tc := ⟨.hbm, 204, rfl⟩
abbrev main_call15_v3 : Ref sig .tc := ⟨.hbm, 205, rfl⟩
abbrev main_call15_cst_0 : Ref sig .tc := ⟨.hbm, 206, rfl⟩
abbrev main_call15_v4 : Ref sig .tc := ⟨.hbm, 207, rfl⟩
abbrev main_call15_v5 : Ref sig .tc := ⟨.hbm, 208, rfl⟩
abbrev main_v118 : Ref sig .tc := ⟨.hbm, 209, rfl⟩
abbrev main_v119 : Ref sig .tc := ⟨.hbm, 210, rfl⟩
abbrev main_call16_v0 : Ref sig .tc := ⟨.hbm, 211, rfl⟩
abbrev main_v120 : Ref sig .tc := ⟨.hbm, 212, rfl⟩
abbrev main_v121 : Ref sig .tc := ⟨.hbm, 213, rfl⟩

abbrev nD : Nat := 1
abbrev τ : Topo := Topo.v7x

variable {F : FTy → Type} [FloatOps F]
-- ==== Down.lean ====
abbrev S53248x7168 : Shape := ⟨2, ![53248, 7168]⟩
abbrev S8x7168x2048 : Shape := ⟨3, ![8, 7168, 2048]⟩
abbrev S104 : Shape := ⟨1, ![104]⟩
abbrev S1 : Shape := ⟨1, ![1]⟩
abbrev S53248x2048 : Shape := ⟨2, ![53248, 2048]⟩
abbrev S512x7168 : Shape := ⟨2, ![512, 7168]⟩
abbrev S1x7168x512 : Shape := ⟨3, ![1, 7168, 512]⟩
abbrev S512x512 : Shape := ⟨2, ![512, 512]⟩
abbrev S7168x512 : Shape := ⟨2, ![7168, 512]⟩

abbrev nBuf : Space → Nat
  | .hbm => 3
  | .vmem => 6
  | .smem => 2
  | _ => 0

abbrev bufTy : (tb : Table) → Fin (tcTables nBuf tb) → BufTy
  | .hbm, ⟨0, _⟩ => ⟨S53248x7168, .bf16⟩
  | .hbm, ⟨1, _⟩ => ⟨S8x7168x2048, .bf16⟩
  | .hbm, ⟨2, _⟩ => ⟨S53248x2048, .f32⟩
  | .local _ .vmem, ⟨0, _⟩ => ⟨S512x7168, .bf16⟩
  | .local _ .vmem, ⟨1, _⟩ => ⟨S512x7168, .bf16⟩
  | .local _ .vmem, ⟨2, _⟩ => ⟨S1x7168x512, .bf16⟩
  | .local _ .vmem, ⟨3, _⟩ => ⟨S1x7168x512, .bf16⟩
  | .local _ .vmem, ⟨4, _⟩ => ⟨S512x512, .f32⟩
  | .local _ .vmem, ⟨5, _⟩ => ⟨S512x512, .f32⟩
  | .local _ .smem, ⟨0, _⟩ => ⟨S104, .i32⟩
  | .local _ .smem, ⟨1, _⟩ => ⟨S1, .i32⟩
  | _, _ => ⟨S53248x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![104, 4], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S104.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S104) ![v0.toNat] S1.size (k0_off1_inb i)) numel1_S1
  let c0_i32 : BitVec 32 := 0#32
  let c0_i32_0 : BitVec 32 := 0#32
  ![v1.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x7168x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownReferenceIdeal.lean ====
abbrev S53248x7168 : Shape := ⟨2, ![53248, 7168]⟩
abbrev S8x7168x2048 : Shape := ⟨3, ![8, 7168, 2048]⟩
abbrev S104 : Shape := ⟨1, ![104]⟩
abbrev S1 : Shape := ⟨1, ![1]⟩
abbrev S_ : Shape := ⟨0, ![]⟩
abbrev S104x512 : Shape := ⟨2, ![104, 512]⟩
abbrev S53248 : Shape := ⟨1, ![53248]⟩
abbrev S53248x1 : Shape := ⟨2, ![53248, 1]⟩
abbrev S53248x2048 : Shape := ⟨2, ![53248, 2048]⟩
abbrev S1x7168x2048 : Shape := ⟨3, ![1, 7168, 2048]⟩
abbrev S7168x2048 : Shape := ⟨2, ![7168, 2048]⟩

abbrev nBuf : Space → Nat
  | .hbm => 90
  | .vmem => 0
  | .smem => 0
  | _ => 0

abbrev bufTy : (tb : Table) → Fin (tcTables nBuf tb) → BufTy
  | .hbm, ⟨0, _⟩ => ⟨S53248x7168, .bf16⟩
  | .hbm, ⟨1, _⟩ => ⟨S8x7168x2048, .bf16⟩
  | .hbm, ⟨2, _⟩ => ⟨S104, .i32⟩
  | .hbm, ⟨3, _⟩ => ⟨S1, .i32⟩
  | .hbm, ⟨4, _⟩ => ⟨S104, .i32⟩
  | .hbm, ⟨5, _⟩ => ⟨S_, .i32⟩
  | .hbm, ⟨6, _⟩ => ⟨S104, .i32⟩
  | .hbm, ⟨7, _⟩ => ⟨S104, .i1⟩
  | .hbm, ⟨8, _⟩ => ⟨S_, .i32⟩
  | .hbm, ⟨9, _⟩ => ⟨S_, .i32⟩
  | .hbm, ⟨10, _⟩ => ⟨S104, .i32⟩
  | .hbm, ⟨11, _⟩ => ⟨S104, .i32⟩
  | .hbm, ⟨12, _⟩ => ⟨S104x512, .i32⟩
  | .hbm, ⟨13, _⟩ => ⟨S53248, .i32⟩
  | .hbm, ⟨14, _⟩ => ⟨S53248x1, .i32⟩
  | .hbm, ⟨15, _⟩ => ⟨S_, .f32⟩
  | .hbm, ⟨16, _⟩ => ⟨S53248x2048, .f32⟩
  | .hbm, ⟨17, _⟩ => ⟨S53248x7168, .f32⟩
  | .hbm, ⟨18, _⟩ => ⟨S_, .i32⟩
  | .hbm, ⟨19, _⟩ => ⟨S53248x1, .i32⟩
  | .hbm, ⟨20, _⟩ => ⟨S53248x1, .i1⟩
  | .hbm, ⟨21, _⟩ => ⟨S1x7168x2048, .bf16⟩
  | .hbm, ⟨22, _⟩ => ⟨S7168x2048, .bf16⟩
  | .hbm, ⟨23, _⟩ => ⟨S7168x2048, .f32⟩
  | .hbm, ⟨24, _⟩ => ⟨S53248x2048, .f32⟩
  | .hbm, ⟨25, _⟩ => ⟨S53248x2048, .i1⟩
  | .hbm, ⟨26, _⟩ => ⟨S53248x2048, .f32⟩
  | .hbm, ⟨27, _⟩ => ⟨S_, .i32⟩
  | .hbm, ⟨28, _⟩ => ⟨S53248x1, .i32⟩
  | .hbm, ⟨29, _⟩ => ⟨S53248x1, .i1⟩
  | .hbm, ⟨30, _⟩ => ⟨S1x7168x2048, .bf16⟩
  | .hbm, ⟨31, _⟩ => ⟨S7168x2048, .bf16⟩
  | .hbm, ⟨32, _⟩ => ⟨S7168x2048, .f32⟩
  | .hbm, ⟨33, _⟩ => ⟨S53248x2048, .f32⟩
  | .hbm, ⟨34, _⟩ => ⟨S53248x2048, .i1⟩
  | .hbm, ⟨35, _⟩ => ⟨S53248x2048, .f32⟩
  | .hbm, ⟨36, _⟩ => ⟨S_, .i32⟩
  | .hbm, ⟨37, _⟩ => ⟨S53248x1, .i32⟩
  | .hbm, ⟨38, _⟩ => ⟨S53248x1, .i1⟩
  | .hbm, ⟨39, _⟩ => ⟨S1x7168x2048, .bf16⟩
  | .hbm, ⟨40, _⟩ => ⟨S7168x2048, .bf16⟩
  | .hbm, ⟨41, _⟩ => ⟨S7168x2048, .f32⟩
  | .hbm, ⟨42, _⟩ => ⟨S53248x2048, .f32⟩
  | .hbm, ⟨43, _⟩ => ⟨S53248x2048, .i1⟩
  | .hbm, ⟨44, _⟩ => ⟨S53248x2048, .f32⟩
  | .hbm, ⟨45, _⟩ => ⟨S_, .i32⟩
  | .hbm, ⟨46, _⟩ => ⟨S53248x1, .i32⟩
  | .hbm, ⟨47, _⟩ => ⟨S53248x1, .i1⟩
  | .hbm, ⟨48, _⟩ => ⟨S1x7168x2048, .bf16⟩
  | .hbm, ⟨49, _⟩ => ⟨S7168x2048, .bf16⟩
  | .hbm, ⟨50, _⟩ => ⟨S7168x2048, .f32⟩
  | .hbm, ⟨51, _⟩ => ⟨S53248x2048, .f32⟩
  | .hbm, ⟨52, _⟩ => ⟨S53248x2048, .i1⟩
  | .hbm, ⟨53, _⟩ => ⟨S53248x2048, .f32⟩
  | .hbm, ⟨54, _⟩ => ⟨S_, .i32⟩
  | .hbm, ⟨55, _⟩ => ⟨S53248x1, .i32⟩
  | .hbm, ⟨56, _⟩ => ⟨S53248x1, .i1⟩
  | .hbm, ⟨57, _⟩ => ⟨S1x7168x2048, .bf16⟩
  | .hbm, ⟨58, _⟩ => ⟨S7168x2048, .bf16⟩
  | .hbm, ⟨59, _⟩ => ⟨S7168x2048, .f32⟩
  | .hbm, ⟨60, _⟩ => ⟨S53248x2048, .f32⟩
  | .hbm, ⟨61, _⟩ => ⟨S53248x2048, .i1⟩
  | .hbm, ⟨62, _⟩ => ⟨S53248x2048, .f32⟩
  | .hbm, ⟨63, _⟩ => ⟨S_, .i32⟩
  | .hbm, ⟨64, _⟩ => ⟨S53248x1, .i32⟩
  | .hbm, ⟨65, _⟩ => ⟨S53248x1, .i1⟩
  | .hbm, ⟨66, _⟩ => ⟨S1x7168x2048, .bf16⟩
  | .hbm, ⟨67, _⟩ => ⟨S7168x2048, .bf16⟩
  | .hbm, ⟨68, _⟩ => ⟨S7168x2048, .f32⟩
  | .hbm, ⟨69, _⟩ => ⟨S53248x2048, .f32⟩
  | .hbm, ⟨70, _⟩ => ⟨S53248x2048, .i1⟩
  | .hbm, ⟨71, _⟩ => ⟨S53248x2048, .f32⟩
  | .hbm, ⟨72, _⟩ => ⟨S_, .i32⟩
  | .hbm, ⟨73, _⟩ => ⟨S53248x1, .i32⟩
  | .hbm, ⟨74, _⟩ => ⟨S53248x1, .i1⟩
  | .hbm, ⟨75, _⟩ => ⟨S1x7168x2048, .bf16⟩
  | .hbm, ⟨76, _⟩ => ⟨S7168x2048, .bf16⟩
  | .hbm, ⟨77, _⟩ => ⟨S7168x2048, .f32⟩
  | .hbm, ⟨78, _⟩ => ⟨S53248x2048, .f32⟩
  | .hbm, ⟨79, _⟩ => ⟨S53248x2048, .i1⟩
  | .hbm, ⟨80, _⟩ => ⟨S53248x2048, .f32⟩
  | .hbm, ⟨81, _⟩ => ⟨S_, .i32⟩
  | .hbm, ⟨82, _⟩ => ⟨S53248x1, .i32⟩
  | .hbm, ⟨83, _⟩ => ⟨S53248x1, .i1⟩
  | .hbm, ⟨84, _⟩ => ⟨S1x7168x2048, .bf16⟩
  | .hbm, ⟨85, _⟩ => ⟨S7168x2048, .bf16⟩
  | .hbm, ⟨86, _⟩ => ⟨S7168x2048, .f32⟩
  | .hbm, ⟨87, _⟩ => ⟨S53248x2048, .f32⟩
  | .hbm, ⟨88, _⟩ => ⟨S53248x2048, .i1⟩
  | .hbm, ⟨89, _⟩ => ⟨S53248x2048, .f32⟩
  | _, _ => ⟨S53248x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call1_v0 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call2_v0 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call3_v0 : Ref sig .tc := ⟨.hbm, 43, rfl⟩
abbrev main_v30 : Ref sig .tc := ⟨.hbm, 44, rfl⟩
abbrev main_c_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call4_v0 : Ref sig .tc := ⟨.hbm, 52, rfl⟩
abbrev main_v37 : Ref sig .tc := ⟨.hbm, 53, rfl⟩
abbrev main_c_4 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call5_v0 : Ref sig .tc := ⟨.hbm, 61, rfl⟩
abbrev main_v44 : Ref sig .tc := ⟨.hbm, 62, rfl⟩
abbrev main_c_5 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call6_v0 : Ref sig .tc := ⟨.hbm, 70, rfl⟩
abbrev main_v51 : Ref sig .tc := ⟨.hbm, 71, rfl⟩
abbrev main_c_6 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_call7_v0 : Ref sig .tc := ⟨.hbm, 79, rfl⟩
abbrev main_v58 : Ref sig .tc := ⟨.hbm, 80, rfl⟩
abbrev main_c_7 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_call8_v0 : Ref sig .tc := ⟨.hbm, 88, rfl⟩
abbrev main_v65 : Ref sig .tc := ⟨.hbm, 89, rfl⟩

abbrev nD : Nat := 1
abbrev τ : Topo := Topo.v7x

variable {F : FTy → Type} [FloatOps F]
-- ==== Ffn.lean ====
abbrev S25600x2048 : Shape := ⟨2, ![25600, 2048]⟩
abbrev S2048 : Shape := ⟨1, ![2048]⟩
abbrev S2048x7168 : Shape := ⟨2, ![2048, 7168]⟩
abbrev S1x2048 : Shape := ⟨2, ![1, 2048]⟩
abbrev S25600x7168 : Shape := ⟨2, ![25600, 7168]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S25600x2048, .f32⟩
  | .hbm, ⟨1, _⟩ => ⟨S2048, .f32⟩
  | .hbm, ⟨2, _⟩ => ⟨S2048x7168, .bf16⟩
  | .hbm, ⟨3, _⟩ => ⟨S2048x7168, .bf16⟩
  | .hbm, ⟨4, _⟩ => ⟨S1x2048, .f32⟩
  | .hbm, ⟨5, _⟩ => ⟨S25600x7168, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S512x1024, .bf16⟩
  | .local _ .vmem, ⟨8, _⟩ => ⟨S512x1024, .bf16⟩
  | .local _ .vmem, ⟨9, _⟩ => ⟨S512x2048, .bf16⟩
  | _, _ => ⟨S25600x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![50, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnReferenceIdeal.lean ====
abbrev S25600x2048 : Shape := ⟨2, ![25600, 2048]⟩
abbrev S2048 : Shape := ⟨1, ![2048]⟩
abbrev S2048x7168 : Shape := ⟨2, ![2048, 7168]⟩
abbrev S_ : Shape := ⟨0, ![]⟩
abbrev S25600 : Shape := ⟨1, ![25600]⟩
abbrev S25600x1 : Shape := ⟨2, ![25600, 1]⟩
abbrev S1x2048 : Shape := ⟨2, ![1, 2048]⟩
abbrev S25600x7168 : Shape := ⟨2, ![25600, 7168]⟩

abbrev nBuf : Space → Nat
  | .hbm => 35
  | .vmem => 0
  | .smem => 0
  | _ => 0

abbrev bufTy : (tb : Table) → Fin (tcTables nBuf tb) → BufTy
  | .hbm, ⟨0, _⟩ => ⟨S25600x2048, .f32⟩
  | .hbm, ⟨1, _⟩ => ⟨S2048, .f32⟩
  | .hbm, ⟨2, _⟩ => ⟨S2048x7168, .bf16⟩
  | .hbm, ⟨3, _⟩ => ⟨S2048x7168, .bf16⟩
  | .hbm, ⟨4, _⟩ => ⟨S25600x2048, .f32⟩
  | .hbm, ⟨5, _⟩ => ⟨S_, .f32⟩
  | .hbm, ⟨6, _⟩ => ⟨S25600, .f32⟩
  | .hbm, ⟨7, _⟩ => ⟨S25600x1, .f32⟩
  | .hbm, ⟨8, _⟩ => ⟨S_, .f32⟩
  | .hbm, ⟨9, _⟩ => ⟨S25600x1, .f32⟩
  | .hbm, ⟨10, _⟩ => ⟨S25600x1, .f32⟩
  | .hbm, ⟨11, _⟩ => ⟨S_, .f32⟩
  | .hbm, ⟨12, _⟩ => ⟨S25600x1, .f32⟩
  | .hbm, ⟨13, _⟩ => ⟨S25600x1, .f32⟩
  | .hbm, ⟨14, _⟩ => ⟨S25600x1, .f32⟩
  | .hbm, ⟨15, _⟩ => ⟨S25600x2048, .f32⟩
  | .hbm, ⟨16, _⟩ => ⟨S25600x2048, .f32⟩
  | .hbm, ⟨17, _⟩ => ⟨S1x2048, .f32⟩
  | .hbm, ⟨18, _⟩ => ⟨S25600x2048, .f32⟩
  | .hbm, ⟨19, _⟩ => ⟨S25600x2048, .f32⟩
  | .hbm, ⟨20, _⟩ => ⟨S2048x7168, .f32⟩
  | .hbm, ⟨21, _⟩ => ⟨S25600x7168, .f32⟩
  | .hbm, ⟨22, _⟩ => ⟨S2048x7168, .f32⟩
  | .hbm, ⟨23, _⟩ => ⟨S25600x7168, .f32⟩
  | .hbm, ⟨24, _⟩ => ⟨S25600x7168, .f32⟩
  | .hbm, ⟨25, _⟩ => ⟨S25600x7168, .f32⟩
  | .hbm, ⟨26, _⟩ => ⟨S_, .f32⟩
  | .hbm, ⟨27, _⟩ => ⟨S25600x7168, .f32⟩
  | .hbm, ⟨28, _⟩ => ⟨S25600x7168, .f32⟩
  | .hbm, ⟨29, _⟩ => ⟨S_, .f32⟩
  | .hbm, ⟨30, _⟩ => ⟨S25600x7168, .f32⟩
  | .hbm, ⟨31, _⟩ => ⟨S25600x7168, .f32⟩
  | .hbm, ⟨32, _⟩ => ⟨S25600x7168, .f32⟩
  | .hbm, ⟨33, _⟩ => ⟨S25600x7168, .f32⟩
  | .hbm, ⟨34, _⟩ => ⟨S25600x7168, .bf16⟩
  | _, _ => ⟨S25600x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== FfnDown.lean ====
abbrev S25600x7168 : Shape := ⟨2, ![25600, 7168]⟩
abbrev S7168x2048 : Shape := ⟨2, ![7168, 2048]⟩
abbrev S25600x2048 : Shape := ⟨2, ![25600, 2048]⟩
abbrev S512x7168 : Shape := ⟨2, ![512, 7168]⟩
abbrev S7168x512 : Shape := ⟨2, ![7168, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S25600x7168, .bf16⟩
  | .hbm, ⟨1, _⟩ => ⟨S7168x2048, .bf16⟩
  | .hbm, ⟨2, _⟩ => ⟨S25600x2048, .f32⟩
  | .hbm, ⟨3, _⟩ => ⟨S25600x2048, .f32⟩
  | .local _ .vmem, ⟨0, _⟩ => ⟨S512x7168, .bf16⟩
  | .local _ .vmem, ⟨1, _⟩ => ⟨S512x7168, .bf16⟩
  | .local _ .vmem, ⟨2, _⟩ => ⟨S7168x512, .bf16⟩
  | .local _ .vmem, ⟨3, _⟩ => ⟨S7168x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S25600x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![50, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S7168x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDownReferenceIdeal.lean ====
abbrev S25600x7168 : Shape := ⟨2, ![25600, 7168]⟩
abbrev S7168x2048 : Shape := ⟨2, ![7168, 2048]⟩
abbrev S25600x2048 : Shape := ⟨2, ![25600, 2048]⟩

abbrev nBuf : Space → Nat
  | .hbm => 7
  | .vmem => 0
  | .smem => 0
  | _ => 0

abbrev bufTy : (tb : Table) → Fin (tcTables nBuf tb) → BufTy
  | .hbm, ⟨0, _⟩ => ⟨S25600x7168, .bf16⟩
  | .hbm, ⟨1, _⟩ => ⟨S7168x2048, .bf16⟩
  | .hbm, ⟨2, _⟩ => ⟨S25600x2048, .f32⟩
  | .hbm, ⟨3, _⟩ => ⟨S25600x7168, .f32⟩
  | .hbm, ⟨4, _⟩ => ⟨S7168x2048, .f32⟩
  | .hbm, ⟨5, _⟩ => ⟨S25600x2048, .f32⟩
  | .hbm, ⟨6, _⟩ => ⟨S25600x2048, .f32⟩
  | _, _ => ⟨S25600x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Attn.lean ====
abbrev S16x25600x192 : Shape := ⟨3, ![16, 25600, 192]⟩
abbrev S16x144x25600 : Shape := ⟨3, ![16, 144, 25600]⟩
abbrev S25600x2048 : Shape := ⟨2, ![25600, 2048]⟩
abbrev S1x512x192 : Shape := ⟨3, ![1, 512, 192]⟩
abbrev S512x128 : Shape := ⟨2, ![512, 128]⟩
abbrev S16896x192 : Shape := ⟨2, ![16896, 192]⟩
abbrev S144x16896 : Shape := ⟨2, ![144, 16896]⟩
abbrev S144x512 : Shape := ⟨2, ![144, 512]⟩
abbrev S2x512x512 : Shape := ⟨3, ![2, 512, 512]⟩
abbrev S2 : Shape := ⟨1, ![2]⟩
abbrev S1 : Shape := ⟨1, ![1]⟩
abbrev S_ : Shape := ⟨0, ![]⟩
abbrev S1x16896x192 : Shape := ⟨3, ![1, 16896, 192]⟩
abbrev S1x144x16896 : Shape := ⟨3, ![1, 144, 16896]⟩
abbrev S512x192 : Shape := ⟨2, ![512, 192]⟩
abbrev S512x512 : Shape := ⟨2, ![512, 512]⟩
abbrev S1x512x512 : Shape := ⟨3, ![1, 512, 512]⟩
abbrev S1x512 : Shape := ⟨2, ![1, 512]⟩
abbrev S512 : Shape := ⟨1, ![512]⟩
abbrev S128x192 : Shape := ⟨2, ![128, 192]⟩
abbrev S128x512 : Shape := ⟨2, ![128, 512]⟩
abbrev S1x128x512 : Shape := ⟨3, ![1, 128, 512]⟩
abbrev S144x128 : Shape := ⟨2, ![144, 128]⟩

abbrev nBuf : Space → Nat
  | .hbm => 5
  | .vmem => 9
  | .smem => 0
  | _ => 0

abbrev bufTy : (tb : Table) → Fin (tcTables nBuf tb) → BufTy
  | .hbm, ⟨0, _⟩ => ⟨S16x25600x192, .bf16⟩
  | .hbm, ⟨1, _⟩ => ⟨S16x25600x192, .bf16⟩
  | .hbm, ⟨2, _⟩ => ⟨S16x144x25600, .bf16⟩
  | .hbm, ⟨3, _⟩ => ⟨S25600x2048, .bf16⟩
  | .hbm, ⟨4, _⟩ => ⟨S25600x2048, .bf16⟩
  | .local _ .vmem, ⟨0, _⟩ => ⟨S1x512x192, .bf16⟩
  | .local _ .vmem, ⟨1, _⟩ => ⟨S1x512x192, .bf16⟩
  | .local _ .vmem, ⟨2, _⟩ => ⟨S512x128, .bf16⟩
  | .local _ .vmem, ⟨3, _⟩ => ⟨S512x128, .bf16⟩
  | .local _ .vmem, ⟨4, _⟩ => ⟨S16896x192, .bf16⟩
  | .local _ .vmem, ⟨5, _⟩ => ⟨S144x16896, .bf16⟩
  | .local _ .vmem, ⟨6, _⟩ => ⟨S144x512, .f32⟩
  | .local _ .vmem, ⟨7, _⟩ => ⟨S2x512x512, .f32⟩
  | .local _ .vmem, ⟨8, _⟩ => ⟨S2x512x512, .bf16⟩
  | _, _ => ⟨S16x25600x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 33], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c0_i32_78 : BitVec 32 := 0#32
  let c0_i32_79 : BitVec 32 := 0#32
  ![arg0.toNat, 0, 0]
def k0_off2 (i : grid0.Coords) : Fin 3 → Nat :=
  let arg0 : BitVec 32 := BitVec.ofNat 32 (i 0).val
  let c0_i32_81 : BitVec 32 := 0#32
  let c0_i32_82 : BitVec 32 := 0#32
  ![arg0.toNat, 0, 0]
@[reducible] def k0_t1_loop : Scf.Loop 32 :=
  let c0_i32_23 : BitVec 32 := 0#32
  let c15_i32 : BitVec 32 := 15#32
  let v34 : BitVec 32 := Scalar.addi c0_i32_23 c15_i32
  let c1_i32 : BitVec 32 := 1#32
  ⟨c0_i32_23, v34, c1_i32⟩
def k0_mult1 (k0_t1 : Fin k0_t1_loop.trips) : BitVec 32 :=
  let c2_i32 : BitVec 32 := 2#32
  let c0_i32_23 : BitVec 32 := 0#32
  let c1_i32 : BitVec 32 := 1#32
  let arg13 : BitVec 32 := Scf.iv c0_i32_23 c1_i32 k0_t1
  let v115 : BitVec 32 := Scalar.muli c2_i32 arg13
  let c512_i32 : BitVec 32 := 512#32
  let v119 : BitVec 32 := Scalar.muli v115 c512_i32
  v119
def k0_off3 (k0_t1 : Fin k0_t1_loop.trips) : Fin 2 → Nat :=
  let c0_79 : Index := 0#32
  let c2_i32 : BitVec 32 := 2#32
  let c0_i32_23 : BitVec 32 := 0#32
  let c1_i32 : BitVec 32 := 1#32
  let arg13 : BitVec 32 := Scf.iv c0_i32_23 c1_i32 k0_t1
  let v115 : BitVec 32 := Scalar.muli c2_i32 arg13
  let c512_i32 : BitVec 32 := 512#32
  let v119 : BitVec 32 := Scalar.muli v115 c512_i32
  let v120 : BitVec 32 := v119
  let v121 : Index := Scalar.indexCast v120
  ![0, v121.toNat]
def k0_mult2 (k0_t1 : Fin k0_t1_loop.trips) : BitVec 32 :=
  let c2_i32 : BitVec 32 := 2#32
  let c0_i32_23 : BitVec 32 := 0#32
  let c1_i32 : BitVec 32 := 1#32
  let arg13 : BitVec 32 := Scf.iv c0_i32_23 c1_i32 k0_t1
  let v115 : BitVec 32 := Scalar.muli c2_i32 arg13
  let c2_i32_93 : BitVec 32 := 2#32
  let v144 : BitVec 32 := Scalar.addi v115 c2_i32_93
  let c512_i32_94 : BitVec 32 := 512#32
  let v145 : BitVec 32 := Scalar.muli v144 c512_i32_94
  v145
def k0_off4 (k0_t1 : Fin k0_t1_loop.trips) : Fin 2 → Nat :=
  let c2_i32 : BitVec 32 := 2#32
  let c0_i32_23 : BitVec 32 := 0#32
  let c1_i32 : BitVec 32 := 1#32
  let arg13 : BitVec 32 := Scf.iv c0_i32_23 c1_i32 k0_t1
  let v115 : BitVec 32 := Scalar.muli c2_i32 arg13
  let c2_i32_93 : BitVec 32 := 2#32
  let v144 : BitVec 32 := Scalar.addi v115 c2_i32_93
  let c512_i32_94 : BitVec 32 := 512#32
  let v145 : BitVec 32 := Scalar.muli v144 c512_i32_94
  let v146 : BitVec 32 := v145
  let v147 : Index := Scalar.indexCast v146
  let c0_95 : Index := 0#32
  ![v147.toNat, 0]
def k0_mult3 (k0_t1 : Fin k0_t1_loop.trips) : BitVec 32 :=
  let c2_i32_100 : BitVec 32 := 2#32
  let c0_i32_23 : BitVec 32 := 0#32
  let c1_i32 : BitVec 32 := 1#32
  let arg13 : BitVec 32 := Scf.iv c0_i32_23 c1_i32 k0_t1
  let v153 : BitVec 32 := Scalar.muli c2_i32_100 arg13
  let c1_i32_101 : BitVec 32 := 1#32
  let v154 : BitVec 32 := Scalar.addi v153 c1_i32_101
  let c512_i32_104 : BitVec 32 := 512#32
  let v158 : BitVec 32 := Scalar.muli v154 c512_i32_104
  v158
def k0_off5 (k0_t1 : Fin k0_t1_loop.trips) : Fin 2 → Nat :=
  let c0_105 : Index := 0#32
  let c2_i32_100 : BitVec 32 := 2#32
  let c0_i32_23 : BitVec 32 := 0#32
  let c1_i32 : BitVec 32 := 1#32
  let arg13 : BitVec 32 := Scf.iv c0_i32_23 c1_i32 k0_t1
  let v153 : BitVec 32 := Scalar.muli c2_i32_100 arg13
  let c1_i32_101 : BitVec 32 := 1#32
  let v154 : BitVec 32 := Scalar.addi v153 c1_i32_101
  let c512_i32_104 : BitVec 32 := 512#32
  let v158 : BitVec 32 := Scalar.muli v154 c512_i32_104
  let v159 : BitVec 32 := v158
  let v160 : Index := Scalar.indexCast v159
  ![0, v160.toNat]
def k0_mult4 (k0_t1 : Fin k0_t1_loop.trips) : BitVec 32 :=
  let c2_i32_100 : BitVec 32 := 2#32
  let c0_i32_23 : BitVec 32 := 0#32
  let c1_i32 : BitVec 32 := 1#32
  let arg13 : BitVec 32 := Scf.iv c0_i32_23 c1_i32 k0_t1
  let v153 : BitVec 32 := Scalar.muli c2_i32_100 arg13
  let c1_i32_101 : BitVec 32 := 1#32
  let v154 : BitVec 32 := Scalar.addi v153 c1_i32_101
  let c2_i32_119 : BitVec 32 := 2#32
  let v183 : BitVec 32 := Scalar.addi v154 c2_i32_119
  let c512_i32_120 : BitVec 32 := 512#32
  let v184 : BitVec 32 := Scalar.muli v183 c512_i32_120
  v184
def k0_off6 (k0_t1 : Fin k0_t1_loop.trips) : Fin 2 → Nat :=
  let c2_i32_100 : BitVec 32 := 2#32
  let c0_i32_23 : BitVec 32 := 0#32
  let c1_i32 : BitVec 32 := 1#32
  let arg13 : BitVec 32 := Scf.iv c0_i32_23 c1_i32 k0_t1
  let v153 : BitVec 32 := Scalar.muli c2_i32_100 arg13
  let c1_i32_101 : BitVec 32 := 1#32
  let v154 : BitVec 32 := Scalar.addi v153 c1_i32_101
  let c2_i32_119 : BitVec 32 := 2#32
  let v183 : BitVec 32 := Scalar.addi v154 c2_i32_119
  let c512_i32_120 : BitVec 32 := 512#32
  let v184 : BitVec 32 := Scalar.muli v183 c512_i32_120
  let v185 : BitVec 32 := v184
  let v186 : Index := Scalar.indexCast v185
  let c0_121 : Index := 0#32
  ![v186.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

abbrev stage0_0 : Fin 2 → Memref sig .tc .vmem S1x512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== AttnIdeal.lean ====
variable {F : FTy → Type} [FloatOps F] [Named F]
def κ : String → Option EReal := fun
  | "mask" => some ⊥
  | _ => none
-- ==== AttnReferenceIdeal.lean ====
abbrev S16x25600x192 : Shape := ⟨3, ![16, 25600, 192]⟩
abbrev S16x144x25600 : Shape := ⟨3, ![16, 144, 25600]⟩
abbrev S25600x2048 : Shape := ⟨2, ![25600, 2048]⟩
abbrev S16x16896x192 : Shape := ⟨3, ![16, 16896, 192]⟩
abbrev S16x16400x192 : Shape := ⟨3, ![16, 16400, 192]⟩
abbrev S16x128x16400 : Shape := ⟨3, ![16, 128, 16400]⟩
abbrev S16x16896x16400 : Shape := ⟨3, ![16, 16896, 16400]⟩
abbrev S_ : Shape := ⟨0, ![]⟩
abbrev S16x16896 : Shape := ⟨2, ![16, 16896]⟩
abbrev S16x16896x1 : Shape := ⟨3, ![16, 16896, 1]⟩
abbrev S16x16896x128 : Shape := ⟨3, ![16, 16896, 128]⟩
abbrev S16896x16x128 : Shape := ⟨3, ![16896, 16, 128]⟩
abbrev S16896x2048 : Shape := ⟨2, ![16896, 2048]⟩
abbrev S8704x2048 : Shape := ⟨2, ![8704, 2048]⟩

abbrev nBuf : Space → Nat
  | .hbm => 30
  | .vmem => 0
  | .smem => 0
  | _ => 0

abbrev bufTy : (tb : Table) → Fin (tcTables nBuf tb) → BufTy
  | .hbm, ⟨0, _⟩ => ⟨S16x25600x192, .bf16⟩
  | .hbm, ⟨1, _⟩ => ⟨S16x25600x192, .bf16⟩
  | .hbm, ⟨2, _⟩ => ⟨S16x144x25600, .bf16⟩
  | .hbm, ⟨3, _⟩ => ⟨S25600x2048, .bf16⟩
  | .hbm, ⟨4, _⟩ => ⟨S16x16896x192, .bf16⟩
  | .hbm, ⟨5, _⟩ => ⟨S16x16896x192, .f32⟩
  | .hbm, ⟨6, _⟩ => ⟨S16x16400x192, .bf16⟩
  | .hbm, ⟨7, _⟩ => ⟨S16x16400x192, .f32⟩
  | .hbm, ⟨8, _⟩ => ⟨S16x128x16400, .bf16⟩
  | .hbm, ⟨9, _⟩ => ⟨S16x128x16400, .f32⟩
  | .hbm, ⟨10, _⟩ => ⟨S16x16896x16400, .f32⟩
  | .hbm, ⟨11, _⟩ => ⟨S_, .f32⟩
  | .hbm, ⟨12, _⟩ => ⟨S16x16896, .f32⟩
  | .hbm, ⟨13, _⟩ => ⟨S16x16896x1, .f32⟩
  | .hbm, ⟨14, _⟩ => ⟨S16x16896x16400, .f32⟩
  | .hbm, ⟨15, _⟩ => ⟨S16x16896x16400, .f32⟩
  | .hbm, ⟨16, _⟩ => ⟨S_, .f32⟩
  | .hbm, ⟨17, _⟩ => ⟨S16x16896x16400, .f32⟩
  | .hbm, ⟨18, _⟩ => ⟨S16x16896x16400, .f32⟩
  | .hbm, ⟨19, _⟩ => ⟨S16x16896x128, .f32⟩
  | .hbm, ⟨20, _⟩ => ⟨S_, .f32⟩
  | .hbm, ⟨21, _⟩ => ⟨S16x16896, .f32⟩
  | .hbm, ⟨22, _⟩ => ⟨S16x16896x1, .f32⟩
  | .hbm, ⟨23, _⟩ => ⟨S16x16896x128, .f32⟩
  | .hbm, ⟨24, _⟩ => ⟨S16x16896x128, .f32⟩
  | .hbm, ⟨25, _⟩ => ⟨S16896x16x128, .f32⟩
  | .hbm, ⟨26, _⟩ => ⟨S16896x2048, .f32⟩
  | .hbm, ⟨27, _⟩ => ⟨S16896x2048, .bf16⟩
  | .hbm, ⟨28, _⟩ => ⟨S8704x2048, .bf16⟩
  | .hbm, ⟨29, _⟩ => ⟨S25600x2048, .bf16⟩
  | _, _ => ⟨S16x25600x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== AttnSample.lean ====
abbrev S16x25600x192 : Shape := ⟨3, ![16, 25600, 192]⟩
abbrev S16x144x25600 : Shape := ⟨3, ![16, 144, 25600]⟩
abbrev S25600x2048 : Shape := ⟨2, ![25600, 2048]⟩
abbrev S1x512x192 : Shape := ⟨3, ![1, 512, 192]⟩
abbrev S512x128 : Shape := ⟨2, ![512, 128]⟩
abbrev S8704x192 : Shape := ⟨2, ![8704, 192]⟩
abbrev S144x8704 : Shape := ⟨2, ![144, 8704]⟩
abbrev S144x512 : Shape := ⟨2, ![144, 512]⟩
abbrev S2x512x512 : Shape := ⟨3, ![2, 512, 512]⟩
abbrev S2 : Shape := ⟨1, ![2]⟩
abbrev S1 : Shape := ⟨1, ![1]⟩
abbrev S_ : Shape := ⟨0, ![]⟩
abbrev S1x8704x192 : Shape := ⟨3, ![1, 8704, 192]⟩
abbrev S1x144x8704 : Shape := ⟨3, ![1, 144, 8704]⟩
abbrev S512x192 : Shape := ⟨2, ![512, 192]⟩
abbrev S512x512 : Shape := ⟨2, ![512, 512]⟩
abbrev S1x512x512 : Shape := ⟨3, ![1, 512, 512]⟩
abbrev S1x512 : Shape := ⟨2, ![1, 512]⟩
abbrev S512 : Shape := ⟨1, ![512]⟩
abbrev S128x192 : Shape := ⟨2, ![128, 192]⟩
abbrev S128x512 : Shape := ⟨2, ![128, 512]⟩
abbrev S1x128x512 : Shape := ⟨3, ![1, 128, 512]⟩
abbrev S144x128 : Shape := ⟨2, ![144, 128]⟩

abbrev nBuf : Space → Nat
  | .hbm => 5
  | .vmem => 9
  | .smem => 0
  | _ => 0

abbrev bufTy : (tb : Table) → Fin (tcTables nBuf tb) → BufTy
  | .hbm, ⟨0, _⟩ => ⟨S16x25600x192, .bf16⟩
  | .hbm, ⟨1, _⟩ => ⟨S16x25600x192, .bf16⟩
  | .hbm, ⟨2, _⟩ => ⟨S16x144x25600, .bf16⟩
  | .hbm, ⟨3, _⟩ => ⟨S25600x2048, .bf16⟩
  | .hbm, ⟨4, _⟩ => ⟨S25600x2048, .bf16⟩
  | .local _ .vmem, ⟨0, _⟩ => ⟨S1x512x192, .bf16⟩
  | .local _ .vmem, ⟨1, _⟩ => ⟨S1x512x192, .bf16⟩
  | .local _ .vmem, ⟨2, _⟩ => ⟨S512x128, .bf16⟩
  | .local _ .vmem, ⟨3, _⟩ => ⟨S512x128, .bf16⟩
  | .local _ .vmem, ⟨4, _⟩ => ⟨S8704x192, .bf16⟩
  | .local _ .vmem, ⟨5, _⟩ => ⟨S144x8704, .bf16⟩
  | .local _ .vmem, ⟨6, _⟩ => ⟨S144x512, .f32⟩
  | .local _ .vmem, ⟨7, _⟩ => ⟨S2x512x512, .f32⟩
  | .local _ .vmem, ⟨8, _⟩ => ⟨S2x512x512, .bf16⟩
  | _, _ => ⟨S16x25600x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 17], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c16896_i32 : BitVec 32 := 16896#32
  let c0_i32_78 : BitVec 32 := 0#32
  ![arg0.toNat, 16896, 0]
def k0_off2 (i : grid0.Coords) : Fin 3 → Nat :=
  let arg0 : BitVec 32 := BitVec.ofNat 32 (i 0).val
  let c0_i32_80 : BitVec 32 := 0#32
  let c16896_i32_81 : BitVec 32 := 16896#32
  ![arg0.toNat, 0, 16896]
@[reducible] def k0_t1_loop : Scf.Loop 32 :=
  let c0_i32_23 : BitVec 32 := 0#32
  let c7_i32 : BitVec 32 := 7#32
  let v34 : BitVec 32 := Scalar.addi c0_i32_23 c7_i32
  let c1_i32 : BitVec 32 := 1#32
  ⟨c0_i32_23, v34, c1_i32⟩
def k0_mult1 (k0_t1 : Fin k0_t1_loop.trips) : BitVec 32 :=
  let c2_i32 : BitVec 32 := 2#32
  let c0_i32_23 : BitVec 32 := 0#32
  let c1_i32 : BitVec 32 := 1#32
  let arg13 : BitVec 32 := Scf.iv c0_i32_23 c1_i32 k0_t1
  let v115 : BitVec 32 := Scalar.muli c2_i32 arg13
  let c512_i32 : BitVec 32 := 512#32
  let v119 : BitVec 32 := Scalar.muli v115 c512_i32
  v119
def k0_off3 (k0_t1 : Fin k0_t1_loop.trips) : Fin 2 → Nat :=
  let c0_79 : Index := 0#32
  let c2_i32 : BitVec 32 := 2#32
  let c0_i32_23 : BitVec 32 := 0#32
  let c1_i32 : BitVec 32 := 1#32
  let arg13 : BitVec 32 := Scf.iv c0_i32_23 c1_i32 k0_t1
  let v115 : BitVec 32 := Scalar.muli c2_i32 arg13
  let c512_i32 : BitVec 32 := 512#32
  let v119 : BitVec 32 := Scalar.muli v115 c512_i32
  let v120 : BitVec 32 := v119
  let v121 : Index := Scalar.indexCast v120
  ![0, v121.toNat]
def k0_mult2 (k0_t1 : Fin k0_t1_loop.trips) : BitVec 32 :=
  let c2_i32 : BitVec 32 := 2#32
  let c0_i32_23 : BitVec 32 := 0#32
  let c1_i32 : BitVec 32 := 1#32
  let arg13 : BitVec 32 := Scf.iv c0_i32_23 c1_i32 k0_t1
  let v115 : BitVec 32 := Scalar.muli c2_i32 arg13
  let c2_i32_93 : BitVec 32 := 2#32
  let v144 : BitVec 32 := Scalar.addi v115 c2_i32_93
  let c512_i32_94 : BitVec 32 := 512#32
  let v145 : BitVec 32 := Scalar.muli v144 c512_i32_94
  v145
def k0_off4 (k0_t1 : Fin k0_t1_loop.trips) : Fin 2 → Nat :=
  let c2_i32 : BitVec 32 := 2#32
  let c0_i32_23 : BitVec 32 := 0#32
  let c1_i32 : BitVec 32 := 1#32
  let arg13 : BitVec 32 := Scf.iv c0_i32_23 c1_i32 k0_t1
  let v115 : BitVec 32 := Scalar.muli c2_i32 arg13
  let c2_i32_93 : BitVec 32 := 2#32
  let v144 : BitVec 32 := Scalar.addi v115 c2_i32_93
  let c512_i32_94 : BitVec 32 := 512#32
  let v145 : BitVec 32 := Scalar.muli v144 c512_i32_94
  let v146 : BitVec 32 := v145
  let v147 : Index := Scalar.indexCast v146
  let c0_95 : Index := 0#32
  ![v147.toNat, 0]
def k0_mult3 (k0_t1 : Fin k0_t1_loop.trips) : BitVec 32 :=
  let c2_i32_100 : BitVec 32 := 2#32
  let c0_i32_23 : BitVec 32 := 0#32
  let c1_i32 : BitVec 32 := 1#32
  let arg13 : BitVec 32 := Scf.iv c0_i32_23 c1_i32 k0_t1
  let v153 : BitVec 32 := Scalar.muli c2_i32_100 arg13
  let c1_i32_101 : BitVec 32 := 1#32
  let v154 : BitVec 32 := Scalar.addi v153 c1_i32_101
  let c512_i32_104 : BitVec 32 := 512#32
  let v158 : BitVec 32 := Scalar.muli v154 c512_i32_104
  v158
def k0_off5 (k0_t1 : Fin k0_t1_loop.trips) : Fin 2 → Nat :=
  let c0_105 : Index := 0#32
  let c2_i32_100 : BitVec 32 := 2#32
  let c0_i32_23 : BitVec 32 := 0#32
  let c1_i32 : BitVec 32 := 1#32
  let arg13 : BitVec 32 := Scf.iv c0_i32_23 c1_i32 k0_t1
  let v153 : BitVec 32 := Scalar.muli c2_i32_100 arg13
  let c1_i32_101 : BitVec 32 := 1#32
  let v154 : BitVec 32 := Scalar.addi v153 c1_i32_101
  let c512_i32_104 : BitVec 32 := 512#32
  let v158 : BitVec 32 := Scalar.muli v154 c512_i32_104
  let v159 : BitVec 32 := v158
  let v160 : Index := Scalar.indexCast v159
  ![0, v160.toNat]
def k0_mult4 (k0_t1 : Fin k0_t1_loop.trips) : BitVec 32 :=
  let c2_i32_100 : BitVec 32 := 2#32
  let c0_i32_23 : BitVec 32 := 0#32
  let c1_i32 : BitVec 32 := 1#32
  let arg13 : BitVec 32 := Scf.iv c0_i32_23 c1_i32 k0_t1
  let v153 : BitVec 32 := Scalar.muli c2_i32_100 arg13
  let c1_i32_101 : BitVec 32 := 1#32
  let v154 : BitVec 32 := Scalar.addi v153 c1_i32_101
  let c2_i32_119 : BitVec 32 := 2#32
  let v183 : BitVec 32 := Scalar.addi v154 c2_i32_119
  let c512_i32_120 : BitVec 32 := 512#32
  let v184 : BitVec 32 := Scalar.muli v183 c512_i32_120
  v184
def k0_off6 (k0_t1 : Fin k0_t1_loop.trips) : Fin 2 → Nat :=
  let c2_i32_100 : BitVec 32 := 2#32
  let c0_i32_23 : BitVec 32 := 0#32
  let c1_i32 : BitVec 32 := 1#32
  let arg13 : BitVec 32 := Scf.iv c0_i32_23 c1_i32 k0_t1
  let v153 : BitVec 32 := Scalar.muli c2_i32_100 arg13
  let c1_i32_101 : BitVec 32 := 1#32
  let v154 : BitVec 32 := Scalar.addi v153 c1_i32_101
  let c2_i32_119 : BitVec 32 := 2#32
  let v183 : BitVec 32 := Scalar.addi v154 c2_i32_119
  let c512_i32_120 : BitVec 32 := 512#32
  let v184 : BitVec 32 := Scalar.muli v183 c512_i32_120
  let v185 : BitVec 32 := v184
  let v186 : Index := Scalar.indexCast v185
  let c0_121 : Index := 0#32
  ![v186.toNat, 0]
def cc0_transform_0 (i : grid0.Coords) : Fin 3 → Nat :=
  let arg0 : BitVec 32 := BitVec.ofNat 32 (i 0).val
  let arg1 : BitVec 32 := BitVec.ofNat 32 (i 1).val
  let c33_i32 : BitVec 32 := 33#32
  let v0 : BitVec 32 := Scalar.addi c33_i32 arg1
  let c0_i32 : BitVec 32 := 0#32
  let c0_i32_0 : BitVec 32 := 0#32
  ![arg0.toNat, v0.toNat, c0_i32.toNat]

def cc0_transform_4 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.addi c33_i32 arg1
  let c0_i32 : BitVec 32 := 0#32
  ![v0.toNat, arg0.toNat]

abbrev stage0_0 : Fin 2 → Memref sig .tc .vmem S1x512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== AttnSampleIdeal.lean ====
variable {F : FTy → Type} [FloatOps F] [Named F]
def κ : String → Option EReal := fun
  | "mask" => some ⊥
  | _ => none
-- ==== AttnSampleReferenceIdeal.lean ====
abbrev S16x25600x192 : Shape := ⟨3, ![16, 25600, 192]⟩
abbrev S16x144x25600 : Shape := ⟨3, ![16, 144, 25600]⟩
abbrev S25600x2048 : Shape := ⟨2, ![25600, 2048]⟩
abbrev S16x8704x192 : Shape := ⟨3, ![16, 8704, 192]⟩
abbrev S16x8208x192 : Shape := ⟨3, ![16, 8208, 192]⟩
abbrev S16x128x8208 : Shape := ⟨3, ![16, 128, 8208]⟩
abbrev S16x8704x8208 : Shape := ⟨3, ![16, 8704, 8208]⟩
abbrev S_ : Shape := ⟨0, ![]⟩
abbrev S16x8704 : Shape := ⟨2, ![16, 8704]⟩
abbrev S16x8704x1 : Shape := ⟨3, ![16, 8704, 1]⟩
abbrev S16x8704x128 : Shape := ⟨3, ![16, 8704, 128]⟩
abbrev S8704x16x128 : Shape := ⟨3, ![8704, 16, 128]⟩
abbrev S16896x2048 : Shape := ⟨2, ![16896, 2048]⟩
abbrev S8704x2048 : Shape := ⟨2, ![8704, 2048]⟩

abbrev nBuf : Space → Nat
  | .hbm => 30
  | .vmem => 0
  | .smem => 0
  | _ => 0

abbrev bufTy : (tb : Table) → Fin (tcTables nBuf tb) → BufTy
  | .hbm, ⟨0, _⟩ => ⟨S16x25600x192, .bf16⟩
  | .hbm, ⟨1, _⟩ => ⟨S16x25600x192, .bf16⟩
  | .hbm, ⟨2, _⟩ => ⟨S16x144x25600, .bf16⟩
  | .hbm, ⟨3, _⟩ => ⟨S25600x2048, .bf16⟩
  | .hbm, ⟨4, _⟩ => ⟨S16x8704x192, .bf16⟩
  | .hbm, ⟨5, _⟩ => ⟨S16x8704x192, .f32⟩
  | .hbm, ⟨6, _⟩ => ⟨S16x8208x192, .bf16⟩
  | .hbm, ⟨7, _⟩ => ⟨S16x8208x192, .f32⟩
  | .hbm, ⟨8, _⟩ => ⟨S16x128x8208, .bf16⟩
  | .hbm, ⟨9, _⟩ => ⟨S16x128x8208, .f32⟩
  | .hbm, ⟨10, _⟩ => ⟨S16x8704x8208, .f32⟩
  | .hbm, ⟨11, _⟩ => ⟨S_, .f32⟩
  | .hbm, ⟨12, _⟩ => ⟨S16x8704, .f32⟩
  | .hbm, ⟨13, _⟩ => ⟨S16x8704x1, .f32⟩
  | .hbm, ⟨14, _⟩ => ⟨S16x8704x8208, .f32⟩
  | .hbm, ⟨15, _⟩ => ⟨S16x8704x8208, .f32⟩
  | .hbm, ⟨16, _⟩ => ⟨S_, .f32⟩
  | .hbm, ⟨17, _⟩ => ⟨S16x8704x8208, .f32⟩
  | .hbm, ⟨18, _⟩ => ⟨S16x8704x8208, .f32⟩
  | .hbm, ⟨19, _⟩ => ⟨S16x8704x128, .f32⟩
  | .hbm, ⟨20, _⟩ => ⟨S_, .f32⟩
  | .hbm, ⟨21, _⟩ => ⟨S16x8704, .f32⟩
  | .hbm, ⟨22, _⟩ => ⟨S16x8704x1, .f32⟩
  | .hbm, ⟨23, _⟩ => ⟨S16x8704x128, .f32⟩
  | .hbm, ⟨24, _⟩ => ⟨S16x8704x128, .f32⟩
  | .hbm, ⟨25, _⟩ => ⟨S8704x16x128, .f32⟩
  | .hbm, ⟨26, _⟩ => ⟨S16896x2048, .bf16⟩
  | .hbm, ⟨27, _⟩ => ⟨S8704x2048, .f32⟩
  | .hbm, ⟨28, _⟩ => ⟨S8704x2048, .bf16⟩
  | .hbm, ⟨29, _⟩ => ⟨S25600x2048, .bf16⟩
  | _, _ => ⟨S16x25600x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== HyIn.lean ====
abbrev S25600x2048 : Shape := ⟨2, ![25600, 2048]⟩
abbrev S2048 : Shape := ⟨1, ![2048]⟩
abbrev S2048x6144 : Shape := ⟨2, ![2048, 6144]⟩
abbrev S1x2048 : Shape := ⟨2, ![1, 2048]⟩
abbrev S25600x6144 : Shape := ⟨2, ![25600, 6144]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S25600x2048, .f32⟩
  | .hbm, ⟨1, _⟩ => ⟨S2048, .f32⟩
  | .hbm, ⟨2, _⟩ => ⟨S2048x6144, .bf16⟩
  | .hbm, ⟨3, _⟩ => ⟨S1x2048, .f32⟩
  | .hbm, ⟨4, _⟩ => ⟨S25600x6144, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | _, _ => ⟨S25600x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![50, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== HyInReferenceIdeal.lean ====
abbrev S25600x2048 : Shape := ⟨2, ![25600, 2048]⟩
abbrev S2048 : Shape := ⟨1, ![2048]⟩
abbrev S2048x6144 : Shape := ⟨2, ![2048, 6144]⟩
abbrev S_ : Shape := ⟨0, ![]⟩
abbrev S25600 : Shape := ⟨1, ![25600]⟩
abbrev S25600x1 : Shape := ⟨2, ![25600, 1]⟩
abbrev S1x2048 : Shape := ⟨2, ![1, 2048]⟩
abbrev S25600x6144 : Shape := ⟨2, ![25600, 6144]⟩

abbrev nBuf : Space → Nat
  | .hbm => 22
  | .vmem => 0
  | .smem => 0
  | _ => 0

abbrev bufTy : (tb : Table) → Fin (tcTables nBuf tb) → BufTy
  | .hbm, ⟨0, _⟩ => ⟨S25600x2048, .f32⟩
  | .hbm, ⟨1, _⟩ => ⟨S2048, .f32⟩
  | .hbm, ⟨2, _⟩ => ⟨S2048x6144, .bf16⟩
  | .hbm, ⟨3, _⟩ => ⟨S25600x2048, .f32⟩
  | .hbm, ⟨4, _⟩ => ⟨S_, .f32⟩
  | .hbm, ⟨5, _⟩ => ⟨S25600, .f32⟩
  | .hbm, ⟨6, _⟩ => ⟨S25600x1, .f32⟩
  | .hbm, ⟨7, _⟩ => ⟨S_, .f32⟩
  | .hbm, ⟨8, _⟩ => ⟨S25600x1, .f32⟩
  | .hbm, ⟨9, _⟩ => ⟨S25600x1, .f32⟩
  | .hbm, ⟨10, _⟩ => ⟨S_, .f32⟩
  | .hbm, ⟨11, _⟩ => ⟨S25600x1, .f32⟩
  | .hbm, ⟨12, _⟩ => ⟨S25600x1, .f32⟩
  | .hbm, ⟨13, _⟩ => ⟨S25600x1, .f32⟩
  | .hbm, ⟨14, _⟩ => ⟨S25600x2048, .f32⟩
  | .hbm, ⟨15, _⟩ => ⟨S25600x2048, .f32⟩
  | .hbm, ⟨16, _⟩ => ⟨S1x2048, .f32⟩
  | .hbm, ⟨17, _⟩ => ⟨S25600x2048, .f32⟩
  | .hbm, ⟨18, _⟩ => ⟨S25600x2048, .f32⟩
  | .hbm, ⟨19, _⟩ => ⟨S2048x6144, .f32⟩
  | .hbm, ⟨20, _⟩ => ⟨S25600x6144, .f32⟩
  | .hbm, ⟨21, _⟩ => ⟨S25600x6144, .bf16⟩
  | _, _ => ⟨S25600x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== MlaDown.lean ====
abbrev S25600x2048 : Shape := ⟨2, ![25600, 2048]⟩
abbrev S2048 : Shape := ⟨1, ![2048]⟩
abbrev S2048x896 : Shape := ⟨2, ![2048, 896]⟩
abbrev S1x2048 : Shape := ⟨2, ![1, 2048]⟩
abbrev S25600x896 : Shape := ⟨2, ![25600, 896]⟩
abbrev S512x2048 : Shape := ⟨2, ![512, 2048]⟩
abbrev S512x896 : Shape := ⟨2, ![512, 896]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S25600x2048, .f32⟩
  | .hbm, ⟨1, _⟩ => ⟨S2048, .f32⟩
  | .hbm, ⟨2, _⟩ => ⟨S2048x896, .bf16⟩
  | .hbm, ⟨3, _⟩ => ⟨S1x2048, .f32⟩
  | .hbm, ⟨4, _⟩ => ⟨S25600x896, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x896, .bf16⟩
  | .local _ .vmem, ⟨4, _⟩ => ⟨S512x896, .f32⟩
  | .local _ .vmem, ⟨5, _⟩ => ⟨S512x896, .f32⟩
  | .local _ .vmem, ⟨6, _⟩ => ⟨S512x2048, .bf16⟩
  | _, _ => ⟨S25600x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![50, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlaDownReferenceIdeal.lean ====
abbrev S25600x2048 : Shape := ⟨2, ![25600, 2048]⟩
abbrev S2048 : Shape := ⟨1, ![2048]⟩
abbrev S2048x896 : Shape := ⟨2, ![2048, 896]⟩
abbrev S_ : Shape := ⟨0, ![]⟩
abbrev S25600 : Shape := ⟨1, ![25600]⟩
abbrev S25600x1 : Shape := ⟨2, ![25600, 1]⟩
abbrev S1x2048 : Shape := ⟨2, ![1, 2048]⟩
abbrev S25600x896 : Shape := ⟨2, ![25600, 896]⟩

abbrev nBuf : Space → Nat
  | .hbm => 21
  | .vmem => 0
  | .smem => 0
  | _ => 0

abbrev bufTy : (tb : Table) → Fin (tcTables nBuf tb) → BufTy
  | .hbm, ⟨0, _⟩ => ⟨S25600x2048, .f32⟩
  | .hbm, ⟨1, _⟩ => ⟨S2048, .f32⟩
  | .hbm, ⟨2, _⟩ => ⟨S2048x896, .bf16⟩
  | .hbm, ⟨3, _⟩ => ⟨S25600x2048, .f32⟩
  | .hbm, ⟨4, _⟩ => ⟨S_, .f32⟩
  | .hbm, ⟨5, _⟩ => ⟨S25600, .f32⟩
  | .hbm, ⟨6, _⟩ => ⟨S25600x1, .f32⟩
  | .hbm, ⟨7, _⟩ => ⟨S_, .f32⟩
  | .hbm, ⟨8, _⟩ => ⟨S25600x1, .f32⟩
  | .hbm, ⟨9, _⟩ => ⟨S25600x1, .f32⟩
  | .hbm, ⟨10, _⟩ => ⟨S_, .f32⟩
  | .hbm, ⟨11, _⟩ => ⟨S25600x1, .f32⟩
  | .hbm, ⟨12, _⟩ => ⟨S25600x1, .f32⟩
  | .hbm, ⟨13, _⟩ => ⟨S25600x1, .f32⟩
  | .hbm, ⟨14, _⟩ => ⟨S25600x2048, .f32⟩
  | .hbm, ⟨15, _⟩ => ⟨S25600x2048, .f32⟩
  | .hbm, ⟨16, _⟩ => ⟨S1x2048, .f32⟩
  | .hbm, ⟨17, _⟩ => ⟨S25600x2048, .f32⟩
  | .hbm, ⟨18, _⟩ => ⟨S25600x2048, .f32⟩
  | .hbm, ⟨19, _⟩ => ⟨S2048x896, .f32⟩
  | .hbm, ⟨20, _⟩ => ⟨S25600x896, .f32⟩
  | _, _ => ⟨S25600x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== HyOut.lean ====
abbrev S25600x2048 : Shape := ⟨2, ![25600, 2048]⟩
abbrev S2048x2048 : Shape := ⟨2, ![2048, 2048]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S25600x2048, .f32⟩
  | .hbm, ⟨1, _⟩ => ⟨S2048x2048, .bf16⟩
  | .hbm, ⟨2, _⟩ => ⟨S25600x2048, .f32⟩
  | .hbm, ⟨3, _⟩ => ⟨S25600x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S25600x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![50, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== HyOutReferenceIdeal.lean ====
abbrev S25600x2048 : Shape := ⟨2, ![25600, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S25600x2048, .f32⟩
  | .hbm, ⟨1, _⟩ => ⟨S2048x2048, .bf16⟩
  | .hbm, ⟨2, _⟩ => ⟨S25600x2048, .f32⟩
  | .hbm, ⟨3, _⟩ => ⟨S2048x2048, .f32⟩
  | .hbm, ⟨4, _⟩ => ⟨S25600x2048, .f32⟩
  | .hbm, ⟨5, _⟩ => ⟨S25600x2048, .f32⟩
  | _, _ => ⟨S25600x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MlaOut.lean ====
abbrev S25600x2048 : Shape := ⟨2, ![25600, 2048]⟩
abbrev S2048x2048 : Shape := ⟨2, ![2048, 2048]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S25600x2048, .bf16⟩
  | .hbm, ⟨1, _⟩ => ⟨S2048x2048, .bf16⟩
  | .hbm, ⟨2, _⟩ => ⟨S25600x2048, .f32⟩
  | .hbm, ⟨3, _⟩ => ⟨S25600x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S25600x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![50, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlaOutReferenceIdeal.lean ====
abbrev S25600x2048 : Shape := ⟨2, ![25600, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S25600x2048, .bf16⟩
  | .hbm, ⟨1, _⟩ => ⟨S2048x2048, .bf16⟩
  | .hbm, ⟨2, _⟩ => ⟨S25600x2048, .f32⟩
  | .hbm, ⟨3, _⟩ => ⟨S25600x2048, .f32⟩
  | .hbm, ⟨4, _⟩ => ⟨S2048x2048, .f32⟩
  | .hbm, ⟨5, _⟩ => ⟨S25600x2048, .f32⟩
  | .hbm, ⟨6, _⟩ => ⟨S25600x2048, .f32⟩
  | _, _ => ⟨S25600x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MlaQ.lean ====
abbrev S25600x896 : Shape := ⟨2, ![25600, 896]⟩
abbrev S512 : Shape := ⟨1, ![512]⟩
abbrev S16x512x192 : Shape := ⟨3, ![16, 512, 192]⟩
abbrev S192 : Shape := ⟨1, ![192]⟩
abbrev S192x192 : Shape := ⟨2, ![192, 192]⟩
abbrev S25600x192 : Shape := ⟨2, ![25600, 192]⟩
abbrev S1x512 : Shape := ⟨2, ![1, 512]⟩
abbrev S1x192 : Shape := ⟨2, ![1, 192]⟩
abbrev S16x25600x192 : Shape := ⟨3, ![16, 25600, 192]⟩
abbrev S1024x896 : Shape := ⟨2, ![1024, 896]⟩
abbrev S1x512x192 : Shape := ⟨3, ![1, 512, 192]⟩
abbrev S1024x192 : Shape := ⟨2, ![1024, 192]⟩
abbrev S1x1024x192 : Shape := ⟨3, ![1, 1024, 192]⟩
abbrev S1024x512 : Shape := ⟨2, ![1024, 512]⟩
abbrev S1024 : Shape := ⟨1, ![1024]⟩
abbrev S1024x1 : Shape := ⟨2, ![1024, 1]⟩
abbrev S512x192 : Shape := ⟨2, ![512, 192]⟩

abbrev nBuf : Space → Nat
  | .hbm => 10
  | .vmem => 14
  | .smem => 0
  | _ => 0

abbrev bufTy : (tb : Table) → Fin (tcTables nBuf tb) → BufTy
  | .hbm, ⟨0, _⟩ => ⟨S25600x896, .f32⟩
  | .hbm, ⟨1, _⟩ => ⟨S512, .f32⟩
  | .hbm, ⟨2, _⟩ => ⟨S16x512x192, .bf16⟩
  | .hbm, ⟨3, _⟩ => ⟨S192, .f32⟩
  | .hbm, ⟨4, _⟩ => ⟨S192x192, .bf16⟩
  | .hbm, ⟨5, _⟩ => ⟨S25600x192, .f32⟩
  | .hbm, ⟨6, _⟩ => ⟨S25600x192, .f32⟩
  | .hbm, ⟨7, _⟩ => ⟨S1x512, .f32⟩
  | .hbm, ⟨8, _⟩ => ⟨S1x192, .f32⟩
  | .hbm, ⟨9, _⟩ => ⟨S16x25600x192, .bf16⟩
  | .local _ .vmem, ⟨0, _⟩ => ⟨S1024x896, .f32⟩
  | .local _ .vmem, ⟨1, _⟩ => ⟨S1024x896, .f32⟩
  | .local _ .vmem, ⟨2, _⟩ => ⟨S1x512, .f32⟩
  | .local _ .vmem, ⟨3, _⟩ => ⟨S1x512x192, .bf16⟩
  | .local _ .vmem, ⟨4, _⟩ => ⟨S1x512x192, .bf16⟩
  | .local _ .vmem, ⟨5, _⟩ => ⟨S1x192, .f32⟩
  | .local _ .vmem, ⟨6, _⟩ => ⟨S192x192, .bf16⟩
  | .local _ .vmem, ⟨7, _⟩ => ⟨S1024x192, .f32⟩
  | .local _ .vmem, ⟨8, _⟩ => ⟨S1024x192, .f32⟩
  | .local _ .vmem, ⟨9, _⟩ => ⟨S1024x192, .f32⟩
  | .local _ .vmem, ⟨10, _⟩ => ⟨S1024x192, .f32⟩
  | .local _ .vmem, ⟨11, _⟩ => ⟨S1x1024x192, .bf16⟩
  | .local _ .vmem, ⟨12, _⟩ => ⟨S1x1024x192, .bf16⟩
  | .local _ .vmem, ⟨13, _⟩ => ⟨S1024x512, .bf16⟩
  | _, _ => ⟨S25600x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![25, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S192x192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MlaQReferenceIdeal.lean ====
abbrev S25600x896 : Shape := ⟨2, ![25600, 896]⟩
abbrev S512 : Shape := ⟨1, ![512]⟩
abbrev S16x512x192 : Shape := ⟨3, ![16, 512, 192]⟩
abbrev S192 : Shape := ⟨1, ![192]⟩
abbrev S192x192 : Shape := ⟨2, ![192, 192]⟩
abbrev S25600x192 : Shape := ⟨2, ![25600, 192]⟩
abbrev S25600x512 : Shape := ⟨2, ![25600, 512]⟩
abbrev S_ : Shape := ⟨0, ![]⟩
abbrev S25600 : Shape := ⟨1, ![25600]⟩
abbrev S25600x1 : Shape := ⟨2, ![25600, 1]⟩
abbrev S1x512 : Shape := ⟨2, ![1, 512]⟩
abbrev S16x192x25600 : Shape := ⟨3, ![16, 192, 25600]⟩
abbrev S16x25600x192 : Shape := ⟨3, ![16, 25600, 192]⟩
abbrev S16x25600 : Shape := ⟨2, ![16, 25600]⟩
abbrev S16x25600x1 : Shape := ⟨3, ![16, 25600, 1]⟩
abbrev S1x1x192 : Shape := ⟨3, ![1, 1, 192]⟩
abbrev S1x25600x192 : Shape := ⟨3, ![1, 25600, 192]⟩

abbrev nBuf : Space → Nat
  | .hbm => 56
  | .vmem => 0
  | .smem => 0
  | _ => 0

abbrev bufTy : (tb : Table) → Fin (tcTables nBuf tb) → BufTy
  | .hbm, ⟨0, _⟩ => ⟨S25600x896, .f32⟩
  | .hbm, ⟨1, _⟩ => ⟨S512, .f32⟩
  | .hbm, ⟨2, _⟩ => ⟨S16x512x192, .bf16⟩
  | .hbm, ⟨3, _⟩ => ⟨S192, .f32⟩
  | .hbm, ⟨4, _⟩ => ⟨S192x192, .bf16⟩
  | .hbm, ⟨5, _⟩ => ⟨S25600x192, .f32⟩
  | .hbm, ⟨6, _⟩ => ⟨S25600x192, .f32⟩
  | .hbm, ⟨7, _⟩ => ⟨S25600x512, .f32⟩
  | .hbm, ⟨8, _⟩ => ⟨S25600x512, .f32⟩
  | .hbm, ⟨9, _⟩ => ⟨S_, .f32⟩
  | .hbm, ⟨10, _⟩ => ⟨S25600, .f32⟩
  | .hbm, ⟨11, _⟩ => ⟨S25600x1, .f32⟩
  | .hbm, ⟨12, _⟩ => ⟨S_, .f32⟩
  | .hbm, ⟨13, _⟩ => ⟨S25600x1, .f32⟩
  | .hbm, ⟨14, _⟩ => ⟨S25600x1, .f32⟩
  | .hbm, ⟨15, _⟩ => ⟨S_, .f32⟩
  | .hbm, ⟨16, _⟩ => ⟨S25600x1, .f32⟩
  | .hbm, ⟨17, _⟩ => ⟨S25600x1, .f32⟩
  | .hbm, ⟨18, _⟩ => ⟨S25600x1, .f32⟩
  | .hbm, ⟨19, _⟩ => ⟨S25600x512, .f32⟩
  | .hbm, ⟨20, _⟩ => ⟨S25600x512, .f32⟩
  | .hbm, ⟨21, _⟩ => ⟨S1x512, .f32⟩
  | .hbm, ⟨22, _⟩ => ⟨S25600x512, .f32⟩
  | .hbm, ⟨23, _⟩ => ⟨S25600x512, .f32⟩
  | .hbm, ⟨24, _⟩ => ⟨S16x512x192, .f32⟩
  | .hbm, ⟨25, _⟩ => ⟨S16x192x25600, .f32⟩
  | .hbm, ⟨26, _⟩ => ⟨S16x25600x192, .f32⟩
  | .hbm, ⟨27, _⟩ => ⟨S16x25600x192, .f32⟩
  | .hbm, ⟨28, _⟩ => ⟨S_, .f32⟩
  | .hbm, ⟨29, _⟩ => ⟨S16x25600, .f32⟩
  | .hbm, ⟨30, _⟩ => ⟨S16x25600x1, .f32⟩
  | .hbm, ⟨31, _⟩ => ⟨S_, .f32⟩
  | .hbm, ⟨32, _⟩ => ⟨S16x25600x1, .f32⟩
  | .hbm, ⟨33, _⟩ => ⟨S16x25600x1, .f32⟩
  | .hbm, ⟨34, _⟩ => ⟨S_, .f32⟩
  | .hbm, ⟨35, _⟩ => ⟨S16x25600x1, .f32⟩
  | .hbm, ⟨36, _⟩ => ⟨S16x25600x1, .f32⟩
  | .hbm, ⟨37, _⟩ => ⟨S16x25600x1, .f32⟩
  | .hbm, ⟨38, _⟩ => ⟨S16x25600x192, .f32⟩
  | .hbm, ⟨39, _⟩ => ⟨S16x25600x192, .f32⟩
  | .hbm, ⟨40, _⟩ => ⟨S1x1x192, .f32⟩
  | .hbm, ⟨41, _⟩ => ⟨S16x25600x192, .f32⟩
  | .hbm, ⟨42, _⟩ => ⟨S16x25600x192, .f32⟩
  | .hbm, ⟨43, _⟩ => ⟨S192x192, .f32⟩
  | .hbm, ⟨44, _⟩ => ⟨S16x25600x192, .f32⟩
  | .hbm, ⟨45, _⟩ => ⟨S1x25600x192, .f32⟩
  | .hbm, ⟨46, _⟩ => ⟨S16x25600x192, .f32⟩
  | .hbm, ⟨47, _⟩ => ⟨S16x25600x192, .f32⟩
  | .hbm, ⟨48, _⟩ => ⟨S1x25600x192, .f32⟩
  | .hbm, ⟨49, _⟩ => ⟨S16x25600x192, .f32⟩
  | .hbm, ⟨50, _⟩ => ⟨S16x25600x192, .f32⟩
  | .hbm, ⟨51, _⟩ => ⟨S16x25600x192, .f32⟩
  | .hbm, ⟨52, _⟩ => ⟨S_, .f32⟩
  | .hbm, ⟨53, _⟩ => ⟨S16x25600x192, .f32⟩
  | .hbm, ⟨54, _⟩ => ⟨S16x25600x192, .f32⟩
  | .hbm, ⟨55, _⟩ => ⟨S16x25600x192, .bf16⟩
  | _, _ => ⟨S25600x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== MlaKv.lean ====
abbrev S25600x896 : Shape := ⟨2, ![25600, 896]⟩
abbrev S256 : Shape := ⟨1, ![256]⟩
abbrev S16x256x128 : Shape := ⟨3, ![16, 256, 128]⟩
abbrev S16x128x256 : Shape := ⟨3, ![16, 128, 256]⟩
abbrev S192 : Shape := ⟨1, ![192]⟩
abbrev S192x192 : Shape := ⟨2, ![192, 192]⟩
abbrev S25600x192 : Shape := ⟨2, ![25600, 192]⟩
abbrev S1x256 : Shape := ⟨2, ![1, 256]⟩
abbrev S1x192 : Shape := ⟨2, ![1, 192]⟩
abbrev S16x25600x192 : Shape := ⟨3, ![16, 25600, 192]⟩
abbrev S16x144x25600 : Shape := ⟨3, ![16, 144, 25600]⟩
abbrev S1024x896 : Shape := ⟨2, ![1024, 896]⟩
abbrev S1x256x128 : Shape := ⟨3, ![1, 256, 128]⟩
abbrev S1x128x256 : Shape := ⟨3, ![1, 128, 256]⟩
abbrev S1024x192 : Shape := ⟨2, ![1024, 192]⟩
abbrev S1x1024x192 : Shape := ⟨3, ![1, 1024, 192]⟩
abbrev S1x144x1024 : Shape := ⟨3, ![1, 144, 1024]⟩
abbrev S1024x256 : Shape := ⟨2, ![1024, 256]⟩
abbrev S1024 : Shape := ⟨1, ![1024]⟩
abbrev S1024x1 : Shape := ⟨2, ![1024, 1]⟩
abbrev S256x128 : Shape := ⟨2, ![256, 128]⟩
abbrev S1024x128 : Shape := ⟨2, ![1024, 128]⟩
abbrev S1024x64 : Shape := ⟨2, ![1024, 64]⟩
abbrev S128x256 : Shape := ⟨2, ![128, 256]⟩
abbrev S128x1024 : Shape := ⟨2, ![128, 1024]⟩
abbrev S1x128x1024 : Shape := ⟨3, ![1, 128, 1024]⟩
abbrev S16x1024 : Shape := ⟨2, ![16, 1024]⟩
abbrev S1x16x1024 : Shape := ⟨3, ![1, 16, 1024]⟩

abbrev nBuf : Space → Nat
  | .hbm => 12
  | .vmem => 18
  | .smem => 0
  | _ => 0

abbrev bufTy : (tb : Table) → Fin (tcTables nBuf tb) → BufTy
  | .hbm, ⟨0, _⟩ => ⟨S25600x896, .f32⟩
  | .hbm, ⟨1, _⟩ => ⟨S256, .f32⟩
  | .hbm, ⟨2, _⟩ => ⟨S16x256x128, .bf16⟩
  | .hbm, ⟨3, _⟩ => ⟨S16x128x256, .bf16⟩
  | .hbm, ⟨4, _⟩ => ⟨S192, .f32⟩
  | .hbm, ⟨5, _⟩ => ⟨S192x192, .bf16⟩
  | .hbm, ⟨6, _⟩ => ⟨S25600x192, .f32⟩
  | .hbm, ⟨7, _⟩ => ⟨S25600x192, .f32⟩
  | .hbm, ⟨8, _⟩ => ⟨S1x256, .f32⟩
  | .hbm, ⟨9, _⟩ => ⟨S1x192, .f32⟩
  | .hbm, ⟨10, _⟩ => ⟨S16x25600x192, .bf16⟩
  | .hbm, ⟨11, _⟩ => ⟨S16x144x25600, .bf16⟩
  | .local _ .vmem, ⟨0, _⟩ => ⟨S1024x896, .f32⟩
  | .local _ .vmem, ⟨1, _⟩ => ⟨S1024x896, .f32⟩
  | .local _ .vmem, ⟨2, _⟩ => ⟨S1x256, .f32⟩
  | .local _ .vmem, ⟨3, _⟩ => ⟨S1x256x128, .bf16⟩
  | .local _ .vmem, ⟨4, _⟩ => ⟨S1x256x128, .bf16⟩
  | .local _ .vmem, ⟨5, _⟩ => ⟨S1x128x256, .bf16⟩
  | .local _ .vmem, ⟨6, _⟩ => ⟨S1x128x256, .bf16⟩
  | .local _ .vmem, ⟨7, _⟩ => ⟨S1x192, .f32⟩
  | .local _ .vmem, ⟨8, _⟩ => ⟨S192x192, .bf16⟩
  | .local _ .vmem, ⟨9, _⟩ => ⟨S1024x192, .f32⟩
  | .local _ .vmem, ⟨10, _⟩ => ⟨S1024x192, .f32⟩
  | .local _ .vmem, ⟨11, _⟩ => ⟨S1024x192, .f32⟩
  | .local _ .vmem, ⟨12, _⟩ => ⟨S1024x192, .f32⟩
  | .local _ .vmem, ⟨13, _⟩ => ⟨S1x1024x192, .bf16⟩
  | .local _ .vmem, ⟨14, _⟩ => ⟨S1x1024x192, .bf16⟩
  | .local _ .vmem, ⟨15, _⟩ => ⟨S1x144x1024, .bf16⟩
  | .local _ .vmem, ⟨16, _⟩ => ⟨S1x144x1024, .bf16⟩
  | .local _ .vmem, ⟨17, _⟩ => ⟨S1024x256, .bf16⟩
  | _, _ => ⟨S25600x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![25, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1024x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S192x192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x144x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MlaKvReferenceIdeal.lean ====
abbrev S25600x896 : Shape := ⟨2, ![25600, 896]⟩
abbrev S256 : Shape := ⟨1, ![256]⟩
abbrev S16x256x128 : Shape := ⟨3, ![16, 256, 128]⟩
abbrev S16x128x256 : Shape := ⟨3, ![16, 128, 256]⟩
abbrev S192 : Shape := ⟨1, ![192]⟩
abbrev S192x192 : Shape := ⟨2, ![192, 192]⟩
abbrev S25600x192 : Shape := ⟨2, ![25600, 192]⟩
abbrev S25600x256 : Shape := ⟨2, ![25600, 256]⟩
abbrev S_ : Shape := ⟨0, ![]⟩
abbrev S25600 : Shape := ⟨1, ![25600]⟩
abbrev S25600x1 : Shape := ⟨2, ![25600, 1]⟩
abbrev S1x256 : Shape := ⟨2, ![1, 256]⟩
abbrev S16x128x25600 : Shape := ⟨3, ![16, 128, 25600]⟩
abbrev S16x25600x128 : Shape := ⟨3, ![16, 25600, 128]⟩
abbrev S25600x64 : Shape := ⟨2, ![25600, 64]⟩
abbrev S1x25600x64 : Shape := ⟨3, ![1, 25600, 64]⟩
abbrev S16x25600x64 : Shape := ⟨3, ![16, 25600, 64]⟩
abbrev S16x25600x192 : Shape := ⟨3, ![16, 25600, 192]⟩
abbrev S16x25600 : Shape := ⟨2, ![16, 25600]⟩
abbrev S16x25600x1 : Shape := ⟨3, ![16, 25600, 1]⟩
abbrev S1x1x192 : Shape := ⟨3, ![1, 1, 192]⟩
abbrev S1x25600x192 : Shape := ⟨3, ![1, 25600, 192]⟩
abbrev S16x1x25600 : Shape := ⟨3, ![16, 1, 25600]⟩
abbrev S16x15x25600 : Shape := ⟨3, ![16, 15, 25600]⟩
abbrev S16x144x25600 : Shape := ⟨3, ![16, 144, 25600]⟩

abbrev nBuf : Space → Nat
  | .hbm => 66
  | .vmem => 0
  | .smem => 0
  | _ => 0

abbrev bufTy : (tb : Table) → Fin (tcTables nBuf tb) → BufTy
  | .hbm, ⟨0, _⟩ => ⟨S25600x896, .f32⟩
  | .hbm, ⟨1, _⟩ => ⟨S256, .f32⟩
  | .hbm, ⟨2, _⟩ => ⟨S16x256x128, .bf16⟩
  | .hbm, ⟨3, _⟩ => ⟨S16x128x256, .bf16⟩
  | .hbm, ⟨4, _⟩ => ⟨S192, .f32⟩
  | .hbm, ⟨5, _⟩ => ⟨S192x192, .bf16⟩
  | .hbm, ⟨6, _⟩ => ⟨S25600x192, .f32⟩
  | .hbm, ⟨7, _⟩ => ⟨S25600x192, .f32⟩
  | .hbm, ⟨8, _⟩ => ⟨S25600x256, .f32⟩
  | .hbm, ⟨9, _⟩ => ⟨S25600x256, .f32⟩
  | .hbm, ⟨10, _⟩ => ⟨S_, .f32⟩
  | .hbm, ⟨11, _⟩ => ⟨S25600, .f32⟩
  | .hbm, ⟨12, _⟩ => ⟨S25600x1, .f32⟩
  | .hbm, ⟨13, _⟩ => ⟨S_, .f32⟩
  | .hbm, ⟨14, _⟩ => ⟨S25600x1, .f32⟩
  | .hbm, ⟨15, _⟩ => ⟨S25600x1, .f32⟩
  | .hbm, ⟨16, _⟩ => ⟨S_, .f32⟩
  | .hbm, ⟨17, _⟩ => ⟨S25600x1, .f32⟩
  | .hbm, ⟨18, _⟩ => ⟨S25600x1, .f32⟩
  | .hbm, ⟨19, _⟩ => ⟨S25600x1, .f32⟩
  | .hbm, ⟨20, _⟩ => ⟨S25600x256, .f32⟩
  | .hbm, ⟨21, _⟩ => ⟨S25600x256, .f32⟩
  | .hbm, ⟨22, _⟩ => ⟨S1x256, .f32⟩
  | .hbm, ⟨23, _⟩ => ⟨S25600x256, .f32⟩
  | .hbm, ⟨24, _⟩ => ⟨S25600x256, .f32⟩
  | .hbm, ⟨25, _⟩ => ⟨S16x256x128, .f32⟩
  | .hbm, ⟨26, _⟩ => ⟨S16x128x25600, .f32⟩
  | .hbm, ⟨27, _⟩ => ⟨S16x25600x128, .f32⟩
  | .hbm, ⟨28, _⟩ => ⟨S25600x64, .f32⟩
  | .hbm, ⟨29, _⟩ => ⟨S1x25600x64, .f32⟩
  | .hbm, ⟨30, _⟩ => ⟨S16x25600x64, .f32⟩
  | .hbm, ⟨31, _⟩ => ⟨S16x25600x192, .f32⟩
  | .hbm, ⟨32, _⟩ => ⟨S16x25600x192, .f32⟩
  | .hbm, ⟨33, _⟩ => ⟨S_, .f32⟩
  | .hbm, ⟨34, _⟩ => ⟨S16x25600, .f32⟩
  | .hbm, ⟨35, _⟩ => ⟨S16x25600x1, .f32⟩
  | .hbm, ⟨36, _⟩ => ⟨S_, .f32⟩
  | .hbm, ⟨37, _⟩ => ⟨S16x25600x1, .f32⟩
  | .hbm, ⟨38, _⟩ => ⟨S16x25600x1, .f32⟩
  | .hbm, ⟨39, _⟩ => ⟨S_, .f32⟩
  | .hbm, ⟨40, _⟩ => ⟨S16x25600x1, .f32⟩
  | .hbm, ⟨41, _⟩ => ⟨S16x25600x1, .f32⟩
  | .hbm, ⟨42, _⟩ => ⟨S16x25600x1, .f32⟩
  | .hbm, ⟨43, _⟩ => ⟨S16x25600x192, .f32⟩
  | .hbm, ⟨44, _⟩ => ⟨S16x25600x192, .f32⟩
  | .hbm, ⟨45, _⟩ => ⟨S1x1x192, .f32⟩
  | .hbm, ⟨46, _⟩ => ⟨S16x25600x192, .f32⟩
  | .hbm, ⟨47, _⟩ => ⟨S16x25600x192, .f32⟩
  | .hbm, ⟨48, _⟩ => ⟨S192x192, .f32⟩
  | .hbm, ⟨49, _⟩ => ⟨S16x25600x192, .f32⟩
  | .hbm, ⟨50, _⟩ => ⟨S1x25600x192, .f32⟩
  | .hbm, ⟨51, _⟩ => ⟨S16x25600x192, .f32⟩
  | .hbm, ⟨52, _⟩ => ⟨S16x25600x192, .f32⟩
  | .hbm, ⟨53, _⟩ => ⟨S1x25600x192, .f32⟩
  | .hbm, ⟨54, _⟩ => ⟨S16x25600x192, .f32⟩
  | .hbm, ⟨55, _⟩ => ⟨S16x25600x192, .f32⟩
  | .hbm, ⟨56, _⟩ => ⟨S16x25600x192, .f32⟩
  | .hbm, ⟨57, _⟩ => ⟨S16x25600x192, .bf16⟩
  | .hbm, ⟨58, _⟩ => ⟨S16x128x256, .f32⟩
  | .hbm, ⟨59, _⟩ => ⟨S16x128x25600, .f32⟩
  | .hbm, ⟨60, _⟩ => ⟨S16x128x25600, .bf16⟩
  | .hbm, ⟨61, _⟩ => ⟨S_, .bf16⟩
  | .hbm, ⟨62, _⟩ => ⟨S16x1x25600, .bf16⟩
  | .hbm, ⟨63, _⟩ => ⟨S_, .bf16⟩
  | .hbm, ⟨64, _⟩ => ⟨S16x15x25600, .bf16⟩
  | .hbm, ⟨65, _⟩ => ⟨S16x144x25600, .bf16⟩
  | _, _ => ⟨S25600x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Conv.lean ====
abbrev S25600x6144 : Shape := ⟨2, ![25600, 6144]⟩
abbrev S3x6144 : Shape := ⟨2, ![3, 6144]⟩
abbrev S6144 : Shape := ⟨1, ![6144]⟩
abbrev S1x6144 : Shape := ⟨2, ![1, 6144]⟩
abbrev S16896x6144 : Shape := ⟨2, ![16896, 6144]⟩
abbrev S512x1024 : Shape := ⟨2, ![512, 1024]⟩
abbrev S16x1024 : Shape := ⟨2, ![16, 1024]⟩
abbrev S3x1024 : Shape := ⟨2, ![3, 1024]⟩
abbrev S1x1024 : Shape := ⟨2, ![1, 1024]⟩

abbrev nBuf : Space → Nat
  | .hbm => 5
  | .vmem => 12
  | .smem => 0
  | _ => 0

abbrev bufTy : (tb : Table) → Fin (tcTables nBuf tb) → BufTy
  | .hbm, ⟨0, _⟩ => ⟨S25600x6144, .bf16⟩
  | .hbm, ⟨1, _⟩ => ⟨S3x6144, .f32⟩
  | .hbm, ⟨2, _⟩ => ⟨S6144, .f32⟩
  | .hbm, ⟨3, _⟩ => ⟨S1x6144, .f32⟩
  | .hbm, ⟨4, _⟩ => ⟨S16896x6144, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S3x1024, .f32⟩
  | .local _ .vmem, ⟨7, _⟩ => ⟨S3x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S25600x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![33, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c32_i32 : BitVec 32 := 32#32
  let v1 : BitVec 32 := Scalar.muli v0 c32_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  ![v3.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.addi v0 c1_i32
  let c32_i32 : BitVec 32 := 32#32
  let v2 : BitVec 32 := Scalar.muli v1 c32_i32
  let c1599_i32 : BitVec 32 := 1599#32
  let v3 : BitVec 32 := Scalar.minsi v2 c1599_i32
  let c0_i32_0 : BitVec 32 := 0#32
  ![v3.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvReferenceIdeal.lean ====
abbrev S25600x6144 : Shape := ⟨2, ![25600, 6144]⟩
abbrev S3x6144 : Shape := ⟨2, ![3, 6144]⟩
abbrev S6144 : Shape := ⟨1, ![6144]⟩
abbrev S_ : Shape := ⟨0, ![]⟩
abbrev S1x6144 : Shape := ⟨2, ![1, 6144]⟩
abbrev S25599x6144 : Shape := ⟨2, ![25599, 6144]⟩
abbrev S16400x6144 : Shape := ⟨2, ![16400, 6144]⟩
abbrev S496x6144 : Shape := ⟨2, ![496, 6144]⟩
abbrev S16896x6144 : Shape := ⟨2, ![16896, 6144]⟩

abbrev nBuf : Space → Nat
  | .hbm => 34
  | .vmem => 0
  | .smem => 0
  | _ => 0

abbrev bufTy : (tb : Table) → Fin (tcTables nBuf tb) → BufTy
  | .hbm, ⟨0, _⟩ => ⟨S25600x6144, .bf16⟩
  | .hbm, ⟨1, _⟩ => ⟨S3x6144, .f32⟩
  | .hbm, ⟨2, _⟩ => ⟨S6144, .f32⟩
  | .hbm, ⟨3, _⟩ => ⟨S25600x6144, .f32⟩
  | .hbm, ⟨4, _⟩ => ⟨S_, .f32⟩
  | .hbm, ⟨5, _⟩ => ⟨S1x6144, .f32⟩
  | .hbm, ⟨6, _⟩ => ⟨S25599x6144, .f32⟩
  | .hbm, ⟨7, _⟩ => ⟨S25600x6144, .f32⟩
  | .hbm, ⟨8, _⟩ => ⟨S1x6144, .f32⟩
  | .hbm, ⟨9, _⟩ => ⟨S6144, .f32⟩
  | .hbm, ⟨10, _⟩ => ⟨S1x6144, .f32⟩
  | .hbm, ⟨11, _⟩ => ⟨S25600x6144, .f32⟩
  | .hbm, ⟨12, _⟩ => ⟨S25600x6144, .f32⟩
  | .hbm, ⟨13, _⟩ => ⟨S1x6144, .f32⟩
  | .hbm, ⟨14, _⟩ => ⟨S25600x6144, .f32⟩
  | .hbm, ⟨15, _⟩ => ⟨S25600x6144, .f32⟩
  | .hbm, ⟨16, _⟩ => ⟨S1x6144, .f32⟩
  | .hbm, ⟨17, _⟩ => ⟨S6144, .f32⟩
  | .hbm, ⟨18, _⟩ => ⟨S1x6144, .f32⟩
  | .hbm, ⟨19, _⟩ => ⟨S25600x6144, .f32⟩
  | .hbm, ⟨20, _⟩ => ⟨S25600x6144, .f32⟩
  | .hbm, ⟨21, _⟩ => ⟨S25600x6144, .f32⟩
  | .hbm, ⟨22, _⟩ => ⟨S25599x6144, .f32⟩
  | .hbm, ⟨23, _⟩ => ⟨S25600x6144, .f32⟩
  | .hbm, ⟨24, _⟩ => ⟨S1x6144, .f32⟩
  | .hbm, ⟨25, _⟩ => ⟨S6144, .f32⟩
  | .hbm, ⟨26, _⟩ => ⟨S1x6144, .f32⟩
  | .hbm, ⟨27, _⟩ => ⟨S25600x6144, .f32⟩
  | .hbm, ⟨28, _⟩ => ⟨S25600x6144, .f32⟩
  | .hbm, ⟨29, _⟩ => ⟨S25600x6144, .f32⟩
  | .hbm, ⟨30, _⟩ => ⟨S16400x6144, .f32⟩
  | .hbm, ⟨31, _⟩ => ⟨S_, .f32⟩
  | .hbm, ⟨32, _⟩ => ⟨S496x6144, .f32⟩
  | .hbm, ⟨33, _⟩ => ⟨S16896x6144, .f32⟩
  | _, _ => ⟨S25600x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== ConvSample.lean ====
abbrev S25600x6144 : Shape := ⟨2, ![25600, 6144]⟩
abbrev S3x6144 : Shape := ⟨2, ![3, 6144]⟩
abbrev S6144 : Shape := ⟨1, ![6144]⟩
abbrev S1x6144 : Shape := ⟨2, ![1, 6144]⟩
abbrev S8704x6144 : Shape := ⟨2, ![8704, 6144]⟩
abbrev S512x1024 : Shape := ⟨2, ![512, 1024]⟩
abbrev S16x1024 : Shape := ⟨2, ![16, 1024]⟩
abbrev S3x1024 : Shape := ⟨2, ![3, 1024]⟩
abbrev S1x1024 : Shape := ⟨2, ![1, 1024]⟩

abbrev nBuf : Space → Nat
  | .hbm => 5
  | .vmem => 12
  | .smem => 0
  | _ => 0

abbrev bufTy : (tb : Table) → Fin (tcTables nBuf tb) → BufTy
  | .hbm, ⟨0, _⟩ => ⟨S25600x6144, .bf16⟩
  | .hbm, ⟨1, _⟩ => ⟨S3x6144, .f32⟩
  | .hbm, ⟨2, _⟩ => ⟨S6144, .f32⟩
  | .hbm, ⟨3, _⟩ => ⟨S1x6144, .f32⟩
  | .hbm, ⟨4, _⟩ => ⟨S8704x6144, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S3x1024, .f32⟩
  | .local _ .vmem, ⟨7, _⟩ => ⟨S3x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S25600x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![17, 6], ![false, false]⟩

def cc0_transform_0 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.addi c33_i32 arg0
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.addi c33_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg1.toNat]

def cc0_transform_2 (i : grid0.Coords) : Fin 2 → Nat :=
  let arg0 : BitVec 32 := BitVec.ofNat 32 (i 0).val
  let arg1 : BitVec 32 := BitVec.ofNat 32 (i 1).val
  let c33_i32 : BitVec 32 := 33#32
  let v0 : BitVec 32 := Scalar.addi c33_i32 arg0
  let c1_i32 : BitVec 32 := 1#32
  let v1 : BitVec 32 := Scalar.addi v0 c1_i32
  let c32_i32 : BitVec 32 := 32#32
  let v2 : BitVec 32 := Scalar.muli v1 c32_i32
  let c1599_i32 : BitVec 32 := 1599#32
  let v3 : BitVec 32 := Scalar.minsi v2 c1599_i32
  let c0_i32 : BitVec 32 := 0#32
  ![v3.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvSampleReferenceIdeal.lean ====
abbrev S25600x6144 : Shape := ⟨2, ![25600, 6144]⟩
abbrev S3x6144 : Shape := ⟨2, ![3, 6144]⟩
abbrev S6144 : Shape := ⟨1, ![6144]⟩
abbrev S_ : Shape := ⟨0, ![]⟩
abbrev S1x6144 : Shape := ⟨2, ![1, 6144]⟩
abbrev S25599x6144 : Shape := ⟨2, ![25599, 6144]⟩
abbrev S8208x6144 : Shape := ⟨2, ![8208, 6144]⟩
abbrev S496x6144 : Shape := ⟨2, ![496, 6144]⟩
abbrev S8704x6144 : Shape := ⟨2, ![8704, 6144]⟩

abbrev nBuf : Space → Nat
  | .hbm => 34
  | .vmem => 0
  | .smem => 0
  | _ => 0

abbrev bufTy : (tb : Table) → Fin (tcTables nBuf tb) → BufTy
  | .hbm, ⟨0, _⟩ => ⟨S25600x6144, .bf16⟩
  | .hbm, ⟨1, _⟩ => ⟨S3x6144, .f32⟩
  | .hbm, ⟨2, _⟩ => ⟨S6144, .f32⟩
  | .hbm, ⟨3, _⟩ => ⟨S25600x6144, .f32⟩
  | .hbm, ⟨4, _⟩ => ⟨S_, .f32⟩
  | .hbm, ⟨5, _⟩ => ⟨S1x6144, .f32⟩
  | .hbm, ⟨6, _⟩ => ⟨S25599x6144, .f32⟩
  | .hbm, ⟨7, _⟩ => ⟨S25600x6144, .f32⟩
  | .hbm, ⟨8, _⟩ => ⟨S1x6144, .f32⟩
  | .hbm, ⟨9, _⟩ => ⟨S6144, .f32⟩
  | .hbm, ⟨10, _⟩ => ⟨S1x6144, .f32⟩
  | .hbm, ⟨11, _⟩ => ⟨S25600x6144, .f32⟩
  | .hbm, ⟨12, _⟩ => ⟨S25600x6144, .f32⟩
  | .hbm, ⟨13, _⟩ => ⟨S1x6144, .f32⟩
  | .hbm, ⟨14, _⟩ => ⟨S25600x6144, .f32⟩
  | .hbm, ⟨15, _⟩ => ⟨S25600x6144, .f32⟩
  | .hbm, ⟨16, _⟩ => ⟨S1x6144, .f32⟩
  | .hbm, ⟨17, _⟩ => ⟨S6144, .f32⟩
  | .hbm, ⟨18, _⟩ => ⟨S1x6144, .f32⟩
  | .hbm, ⟨19, _⟩ => ⟨S25600x6144, .f32⟩
  | .hbm, ⟨20, _⟩ => ⟨S25600x6144, .f32⟩
  | .hbm, ⟨21, _⟩ => ⟨S25600x6144, .f32⟩
  | .hbm, ⟨22, _⟩ => ⟨S25599x6144, .f32⟩
  | .hbm, ⟨23, _⟩ => ⟨S25600x6144, .f32⟩
  | .hbm, ⟨24, _⟩ => ⟨S1x6144, .f32⟩
  | .hbm, ⟨25, _⟩ => ⟨S6144, .f32⟩
  | .hbm, ⟨26, _⟩ => ⟨S1x6144, .f32⟩
  | .hbm, ⟨27, _⟩ => ⟨S25600x6144, .f32⟩
  | .hbm, ⟨28, _⟩ => ⟨S25600x6144, .f32⟩
  | .hbm, ⟨29, _⟩ => ⟨S25600x6144, .f32⟩
  | .hbm, ⟨30, _⟩ => ⟨S8208x6144, .f32⟩
  | .hbm, ⟨31, _⟩ => ⟨S_, .f32⟩
  | .hbm, ⟨32, _⟩ => ⟨S496x6144, .f32⟩
  | .hbm, ⟨33, _⟩ => ⟨S8704x6144, .f32⟩
  | _, _ => ⟨S25600x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Proof.AttnSample.Loops.lean ====
module
public import proofs.«01_k».proof.Proof.Gen.AttnSampleIdeal.Skeleton
public import proofs.«01_k».proof.Proof.Gen.AttnSampleIdeal.Loops
public import proofs.«01_k».proof.Proof.Gen.AttnSampleIdeal.Launch
public import Idealize.ShloMosaic.Lib.Pipeline.Frame
public import Idealize.ShloMosaic.Lib.Pipeline.FrameBody
public import Idealize.ShloMosaic.Lib.Exec
public import Idealize.ShloMosaic.Lib.Tactic
public import Idealize.ShloMosaic.Lib.VecWindow
public import Idealize.ShloMosaic.Lib.ValueIdxCore
@[expose] public section
noncomputable section
namespace Cert.AttnSampleIdeal.Hand
open Cert.AttnSampleIdeal Cert.AttnSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F] [Named F]
local notation "𝕄" => MT nD τ sig Unit (Elt F) ℕ (Pipeline.UD sig nD τ) ℕ

/-- The whole array of keys. -/
abbrev kM : Memref sig .tc .hbm S16x25600x192 .bf16 := Memref.whole main_arg1
/-- The whole array of transposed values. -/
abbrev vM : Memref sig .tc .hbm S16x144x25600 .bf16 := Memref.whole main_arg2
/-- The output's other name, which the body never touches. -/
abbrev oM : Memref sig .tc .hbm S25600x2048 .bf16 := Memref.whole main_arg3
/-- The buffer that keeps a head's keys. -/
abbrev ksM : Memref sig .tc .vmem S8704x192 .bf16 := Memref.whole cc0_scratch0
/-- The buffer that keeps a head's transposed values. -/
abbrev vsM : Memref sig .tc .vmem S144x8704 .bf16 := Memref.whole cc0_scratch1
/-- The accumulator. -/
abbrev aM : Memref sig .tc .vmem S144x512 .f32 := Memref.whole cc0_scratch2
/-- The two slots of scores. -/
abbrev scM : Memref sig .tc .vmem S2x512x512 .f32 := Memref.whole cc0_scratch3
/-- The two slots of weights. -/
abbrev pM : Memref sig .tc .vmem S2x512x512 .bf16 := Memref.whole cc0_scratch4

/-- The loop runs seven times. -/
theorem trips1 : k0_t1_loop.trips = 7 := by rfl

/-- Rows `512 j` onwards of the keys. -/
def kAt (K : S8704x192.Idx → Elt F .bf16) (j : ℕ) : S512x192.Idx → Elt F .bf16 :=
  fun y => K (ix2 ⟨(512 * j + (y 0).val) % 8704, Nat.mod_lt _ (by decide)⟩ (y 1))
/-- Columns `512 j` onwards of the transposed values. -/
def vAt (VT : S144x8704.Idx → Elt F .bf16) (j : ℕ) : S144x512.Idx → Elt F .bf16 :=
  fun y => VT (ix2 (y 0) ⟨(512 * j + (y 1).val) % 8704, Nat.mod_lt _ (by decide)⟩)

/-- The 512 keys at row `512 j`, loaded. -/
theorem k_load (K : S8704x192.Idx → Elt F .bf16) (off : Fin 2 → ℕ) (h : ∀ a, off a + S512x192.size a ≤ S8704x192.size a) (j : ℕ) (e : off = ![512 * j, 0]) :
    View.readAt (Elt F) ksM.view (Rect.unit (s := S8704x192) off S512x192.size h).toLoadRect K = kAt K j := by
  subst e
  funext y
  show K ((Rect.unit (s := S8704x192) ![512 * j, 0] S512x192.size h).emb y) = _
  unfold kAt
  congr 1
  funext a
  apply Fin.ext
  have h0 := h 0
  have hy : (y 0).val < 512 := (y 0).isLt
  match a with
  | ⟨0, _⟩ =>
    show 512 * j + 1 * (y 0).val = (512 * j + (y 0).val) % 8704
    have : 512 * j + 512 ≤ 8704 := h0
    omega
  | ⟨1, _⟩ => show 0 + 1 * (y 1).val = (y 1).val; omega

/-- The 512 columns of values at `512 j`, loaded. -/
theorem v_load (VT : S144x8704.Idx → Elt F .bf16) (off : Fin 2 → ℕ) (h : ∀ a, off a + S144x512.size a ≤ S144x8704.size a) (j : ℕ) (e : off = ![0, 512 * j]) :
    View.readAt (Elt F) vsM.view (Rect.unit (s := S144x8704) off S144x512.size h).toLoadRect VT = vAt VT j := by
  subst e
  funext y
  show VT ((Rect.unit (s := S144x8704) ![0, 512 * j] S144x512.size h).emb y) = _
  unfold vAt
  congr 1
  funext a
  apply Fin.ext
  have h1 := h 1
  have hy : (y 1).val < 512 := (y 1).isLt
  match a with
  | ⟨0, _⟩ => show 0 + 1 * (y 0).val = (y 0).val; omega
  | ⟨1, _⟩ =>
    show 512 * j + 1 * (y 1).val = (512 * j + (y 1).val) % 8704
    have : 512 * j + 512 ≤ 8704 := h1
    omega

/-- The accumulator, loaded whole. -/
theorem a_load (f : S144x512.Idx → Elt F .f32) :
    View.readAt (Elt F) aM.view (Rect.unit (s := S144x512) ![0, 0] S144x512.size inb_S144x512_S144x512_0_0).toLoadRect f = f :=
  View.readAt_full aM.view f inb_S144x512_S144x512_0_0
/-- The accumulator, stored whole. -/
theorem a_store (f w : S144x512.Idx → Elt F .f32) (L : List (View.Piece (Elt F) S144x512 .f32)) :
    aM.view.writes (Elt F) f (⟨Rect.unit (s := S144x512) ![0, 0] S144x512.size inb_S144x512_S144x512_0_0, w⟩ :: L) = w := by
  have h := View.read_writes_full (Val := Elt F) aM.view f inb_S144x512_S144x512_0_0 w L
  refine Eq.trans ?_ h
  generalize aM.view.writes (Elt F) f (⟨Rect.unit (s := S144x512) ![0, 0] S144x512.size inb_S144x512_S144x512_0_0, w⟩ :: L) = g
  rfl

/-- What was stored last at a rectangle is what is loaded from it. -/
theorem read_last {sg : RefSig} {κ : Kind} {sp : Space} {s : Shape} {e : EltTy} {Val : EltTy → Type} (v : View sg κ sp s e) (f : v.ty.Contents Val)
    (r : Rect s) (w : r.shape.Idx → Val e) (L : List (View.Piece Val s e)) : View.readAt Val v r.toLoadRect (v.writes Val f (⟨r, w⟩ :: L)) = w := by
  funext y
  exact View.read_writes_cons_emb v f r w L y

section Scan
variable (v4 : FVec F S512x192 .bf16) (K : S8704x192.Idx → Elt F .bf16) (VT : S144x8704.Idx → Elt F .bf16)

/-- The scores of the `j`-th 512 keys. -/
def sc (j : ℕ) : FVec F S1x512x512 .f32 := k0_pay25 v4 (kAt K j)
/-- The running maximum after `j + 1` chunks. -/
def mx : ℕ → FVec F S1x512 .f32
  | 0 => k0_pay21 (sc v4 K 0)
  | j + 1 => k0_pay5 (mx j) (sc v4 K (j + 1))
/-- The weights of chunk `j`. -/
def pr : ℕ → FVec F S1x512x512 .bf16
  | 0 => k0_pay23 (k0_pay22 (sc v4 K 0))
  | j + 1 => k0_pay6 (mx v4 K j) (sc v4 K (j + 1))
/-- The factor that brings the accumulator to chunk `j`'s maximum. -/
def al : ℕ → FVec F S1x512 .f32
  | 0 => k0_pay24 (k0_pay19 (F := F)) (mx v4 K 0)
  | j + 1 => k0_pay7 (mx v4 K j) (sc v4 K (j + 1))
/-- The accumulator over the chunks before `j`. -/
def ac : ℕ → FVec F S144x512 .f32
  | 0 => k0_pay16
  | j + 1 => k0_pay3 (al v4 K j) (ac j) (vAt VT j) (pr v4 K j)

/-- What holds before trip `k` of the loop. -/
structure Good (k : ℕ) (acc : FVec F S1x512 .f32 × FVec F S1x512 .f32) (f9 : S144x512.Idx → Elt F .f32) (f10 : S2x512x512.Idx → Elt F .f32)
    (f11 : S2x512x512.Idx → Elt F .bf16) : Prop where
  max : acc.1 = mx v4 K (2 * k)
  fac : acc.2 = al v4 K (2 * k)
  acc : f9 = ac v4 K VT (2 * k)
  sco : View.readAt (Elt F) scM.view (Rect.unit (s := S2x512x512) ![1, 0, 0] S1x512x512.size inb_S2x512x512_S1x512x512_1_0_0).toLoadRect f10 = sc v4 K (2 * k + 1)
  pro : View.readAt (Elt F) pM.view (Rect.unit (s := S2x512x512) ![0, 0, 0] S1x512x512.size inb_S2x512x512_S1x512x512_0_0_0).toLoadRect f11 = pr v4 K (2 * k)

/-- The resources before trip `k`. -/
def invAt (c : Dev nD) (k : ℕ) (acc : FVec F S1x512 .f32 × FVec F S1x512 .f32) : sProp 𝕄 :=
  iprop((ksM.view.loc (c : Thread nD τ) ↦{fullShare} K) ∗ (vsM.view.loc (c : Thread nD τ) ↦{fullShare} VT)
    ∗ ∃ f9 f10 f11, ⌜Good v4 K VT k acc f9 f10 f11⌝ ∗ (aM.view.loc (c : Thread nD τ) ↦{fullShare} f9)
      ∗ (scM.view.loc (c : Thread nD τ) ↦{fullShare} f10) ∗ (pM.view.loc (c : Thread nD τ) ↦{fullShare} f11))
end Scan

section Step
variable (c : Dev nD) (i : grid0.Coords) (arg2 : Memref sig .tc .vmem S1x512x192 .bf16) (harg2 : arg2.IsWhole) (harg3 : kM.IsWhole) (harg4 : vM.IsWhole) (harg5 : oM.IsWhole)
  (arg6 : Memref sig .tc .vmem S512x128 .bf16) (harg6 : arg6.IsWhole) (harg7 : ksM.IsWhole) (harg8 : vsM.IsWhole) (harg9 : aM.IsWhole) (harg10 : scM.IsWhole) (harg11 : pM.IsWhole)
  (v4 : FVec F S512x192 .bf16) (K : S8704x192.Idx → Elt F .bf16) (VT : S144x8704.Idx → Elt F .bf16)

/-- One trip takes the invariant to the next. -/
theorem step (v19 v24 : FVec F S1x512 .f32) (v28 : FVec F S512x512 .bf16) (k : Fin k0_t1_loop.trips) (acc : FVec F S1x512 .f32 × FVec F S1x512 .f32) :
    invAt v4 K VT c k.val acc ⊢ wp frame (wpE (defs₀ (F := F)) Variants.none c none) Set.univ
      (k0_t1_body (F := F) i arg2 harg2 kM harg3 vM harg4 oM harg5 arg6 harg6 ksM harg7 vsM harg8 aM harg9 scM harg10 pM harg11 cc0_scratch5 v4 v19 v24 v28 k acc)
      (fun yld => invAt v4 K VT c (k.val + 1) yld) := by
  have hk : k.val < 7 := Nat.lt_of_lt_of_le k.isLt k0_t1_abs.2.1
  unfold invAt k0_t1_body
  rw [k0_part1_eq_skeleton, k0_part2_eq_skeleton]
  unfold k0_part1_skel k0_part2_skel
  iintro ⟨H7, H8, %f9, %f10, %f11, %hg, H9, H10, H11⟩
  sl_exec
  sl_step
  isplitl [H7]; · iexact H7
  isplitl [H8]; · iexact H8
  iexists _; iexists _; iexists _
  isplitr; swap
  · isplitl [H9]; · iexact H9
    isplitl [H10] <;> iassumption
  ipureintro
  have hs := hg.sco
  have e3 := v_load VT (k0_off3 k) (k0_off3_inb k) (2 * k.val) (by rw [k0_off3_eq]; congr 1; exact congrArg (fun z => ![z]) (by omega))
  have e4 := k_load K (k0_off4 k) (k0_off4_inb k) (2 * k.val + 2) (by rw [k0_off4_eq]; exact congrArg (fun z => ![z, 0]) (by omega))
  have e5 := v_load VT (k0_off5 k) (k0_off5_inb k) (2 * k.val + 1) (by rw [k0_off5_eq]; congr 1; exact congrArg (fun z => ![z]) (by omega))
  have e6 := k_load K (k0_off6 k) (k0_off6_inb k) (2 * k.val + 3) (by rw [k0_off6_eq]; exact congrArg (fun z => ![z, 0]) (by omega))
  have e169 : step.sl.v169 v4 K k = sc v4 K (2 * k.val + 2) := by
    unfold step.sl.v169 step.sl.H10_1
    refine (View.readCov_cons_toLoadRect scM.view _ _ []).trans ?_
    rw [e4]; rfl
  have e162 : step.sl.v162 acc f10 = pr v4 K (2 * k.val + 1) := by
    unfold step.sl.v162 step.sl.H11_1
    refine (View.readCov_cons_toLoadRect pM.view _ _ []).trans ?_
    rw [hs, hg.max]; rfl
  have e155 : step.sl.v155 VT k acc f9 f11 = ac v4 K VT (2 * k.val + 1) := by
    unfold step.sl.v155 step.sl.H9_1
    refine (View.readCov_cons_toLoadRect aM.view _ _ []).trans ?_
    rw [e3, hg.fac, hg.pro, a_load, hg.acc]; rfl
  constructor
  · show k0_pay12 _ _ = _
    rw [hs, e169, hg.max]; rfl
  · show k0_pay14 _ _ = _
    rw [hs, e169, hg.max]; rfl
  · refine (a_store f9 _ _).trans ?_
    rw [hs, hg.max, e155, e5, e162]; rfl
  · refine (read_last scM.view f10 _ _ _).trans ?_
    rw [e6]; rfl
  · refine (read_last pM.view f11 _ _ _).trans ?_
    rw [hs, hg.max, e169]; rfl
end Step
end Cert.AttnSampleIdeal.Hand
end
-- ==== Proof.AttnSample.Body.lean ====
module
public import proofs.«01_k».proof.Proof.AttnSample.Loops
public import Idealize.ShloMosaic.Lib.Pipeline.ReadBack
@[expose] public section
noncomputable section
namespace Cert.AttnSampleIdeal.Hand
open Cert.AttnSampleIdeal Cert.AttnSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F] [Named F]
local notation "𝕄" => MT nD τ sig Unit (Elt F) ℕ (Pipeline.UD sig nD τ) ℕ

/-- The last 128 keys. -/
def kLast (K : S8704x192.Idx → Elt F .bf16) : S128x192.Idx → Elt F .bf16 :=
  View.readAt (Elt F) ksM.view (Rect.unit (s := S8704x192) ![8192, 0] S128x192.size inb_S8704x192_S128x192_8192_0).toLoadRect K
/-- The last 128 columns of values. -/
def vLast (VT : S144x8704.Idx → Elt F .bf16) : S144x128.Idx → Elt F .bf16 :=
  View.readAt (Elt F) vsM.view (Rect.unit (s := S144x8704) ![0, 8192] S144x128.size inb_S144x8704_S144x128_0_8192).toLoadRect VT

/-- The scores of the last 128 keys. -/
def scLast (v4 : FVec F S512x192 .bf16) (K : S8704x192.Idx → Elt F .bf16) : FVec F S1x128x512 .f32 := k0_pay31 v4 (kLast K)

/-- The accumulator at the end. -/
def acLast (v4 : FVec F S512x192 .bf16) (K : S8704x192.Idx → Elt F .bf16) (VT : S144x8704.Idx → Elt F .bf16) : FVec F S144x512 .f32 :=
  k0_pay1 (mx v4 K 15) (k0_pay34 (mx v4 K 15) (scLast v4 K)) (ac v4 K VT 16) (vLast VT) (k0_pay35 (mx v4 K 15) (scLast v4 K))

/-- The block that the body writes, of its queries and a head's keys and values. -/
def blockOut (q : S1x512x192.Idx → Elt F .bf16) (K : S8704x192.Idx → Elt F .bf16) (VT : S144x8704.Idx → Elt F .bf16) : FVec F S512x128 .bf16 :=
  k0_pay2 (acLast (k0_pay15 q) K VT)

/-- The queries as the body holds them. -/
abbrev qv (arg2 : Memref sig .tc .vmem S1x512x192 .bf16) (q : S1x512x192.Idx → Elt F .bf16) : FVec F S512x192 .bf16 :=
  (k0_pay15 (View.readAt (Elt F) arg2.view (Rect.unit (s := S1x512x192) ![0, 0, 0] S1x512x192.size inb_S1x512x192_S1x512x192_0_0_0).toLoadRect (arg2.view.rep q)))

/-- The semaphore of the keys' copy. -/
abbrev sem0 : DmaSem sig := ((cc0_scratch5.slice (Rect.unit (s := S2) ![0] S1.size inb_S2_S1_0)).squeeze S_ squeezes_S1_S_).sem
/-- The semaphore of the values' copy. -/
abbrev sem1 : DmaSem sig := ((cc0_scratch5.slice (Rect.unit (s := S2) ![1] S1.size inb_S2_S1_1)).squeeze S_ squeezes_S1_S_).sem

/-- A head's keys, as the buffer keeps them. -/
def headK (xk : S16x25600x192.Idx → Elt F .bf16) (h : Fin 16) : S8704x192.Idx → Elt F .bf16 :=
  fun y => xk (ix3 h ⟨16896 + (y 0).val, Nat.add_lt_add_left (y 0).isLt 16896⟩ (y 1))
/-- A head's transposed values, as the buffer keeps them. -/
def headV (xv : S16x144x25600.Idx → Elt F .bf16) (h : Fin 16) : S144x8704.Idx → Elt F .bf16 :=
  fun y => xv (ix3 h (y 0) ⟨16896 + (y 1).val, Nat.add_lt_add_left (y 1).isLt 16896⟩)

/-- The copied keys are the head's. -/
theorem land_k (i : grid0.Coords) (h1 : k0_cond1 i = 1#1) (K : S8704x192.Idx → Elt F .bf16) (xk : S16x25600x192.Idx → Elt F .bf16) :
    View.write (Elt F) ksM.view K (ReadAs.same.apply (View.read (Elt F) ((kM.slice (Rect.unit (s := S16x25600x192) (k0_off1 i) S1x8704x192.size (k0_off1_inb i h1)) (fun _ => rfl)).squeeze S8704x192
      squeezes_S1x8704x192_S8704x192).view xk)) Finset.univ = headK xk (i 0) := by
  refine (View.write_whole_univ cc0_scratch0 K _).trans ?_
  funext y
  show xk ((Rect.unit (s := S16x25600x192) (k0_off1 i) S1x8704x192.size (k0_off1_inb i h1)).emb (Shape.reshapeEquiv squeezes_S1x8704x192_S8704x192.numel_eq y)) = _
  have hr : Shape.reshapeEquiv squeezes_S1x8704x192_S8704x192.numel_eq y = ix3 ⟨0, Nat.one_pos⟩ (y 0) (y 1) :=
    (Shape.reshapeEquiv_cons_one _ y).trans (by funext a; match a with | ⟨0, _⟩ => rfl | ⟨1, _⟩ => rfl | ⟨2, _⟩ => rfl)
  rw [hr]
  unfold headK
  congr 1
  funext a
  apply Fin.ext
  match a with
  | ⟨0, _⟩ => show k0_off1 i 0 + 1 * 0 = (i 0).val; rw [k0_off1_eq]; show (i 0).val + _ = _; omega
  | ⟨1, _⟩ => show k0_off1 i 1 + 1 * (y 0).val = 16896 + (y 0).val; rw [k0_off1_eq]; show 16896 + _ = _; omega
  | ⟨2, _⟩ => show k0_off1 i 2 + 1 * (y 1).val = (y 1).val; rw [k0_off1_eq]; show 0 + _ = _; omega

/-- The copied values are the head's. -/
theorem land_v (i : grid0.Coords) (h1 : k0_cond1 i = 1#1) (VT : S144x8704.Idx → Elt F .bf16) (xv : S16x144x25600.Idx → Elt F .bf16) :
    View.write (Elt F) vsM.view VT (ReadAs.same.apply (View.read (Elt F) ((vM.slice (Rect.unit (s := S16x144x25600) (k0_off2 i) S1x144x8704.size (k0_off2_inb i h1)) (fun _ => rfl)).squeeze S144x8704
      squeezes_S1x144x8704_S144x8704).view xv)) Finset.univ = headV xv (i 0) := by
  refine (View.write_whole_univ cc0_scratch1 VT _).trans ?_
  funext y
  show xv ((Rect.unit (s := S16x144x25600) (k0_off2 i) S1x144x8704.size (k0_off2_inb i h1)).emb (Shape.reshapeEquiv squeezes_S1x144x8704_S144x8704.numel_eq y)) = _
  have hr : Shape.reshapeEquiv squeezes_S1x144x8704_S144x8704.numel_eq y = ix3 ⟨0, Nat.one_pos⟩ (y 0) (y 1) :=
    (Shape.reshapeEquiv_cons_one _ y).trans (by funext a; match a with | ⟨0, _⟩ => rfl | ⟨1, _⟩ => rfl | ⟨2, _⟩ => rfl)
  rw [hr]
  unfold headV
  congr 1
  funext a
  apply Fin.ext
  match a with
  | ⟨0, _⟩ => show k0_off2 i 0 + 1 * 0 = (i 0).val; rw [k0_off2_eq]; show (i 0).val + _ = _; omega
  | ⟨1, _⟩ => show k0_off2 i 1 + 1 * (y 0).val = (y 0).val; rw [k0_off2_eq]; show 0 + _ = _; omega
  | ⟨2, _⟩ => show k0_off2 i 2 + 1 * (y 1).val = 16896 + (y 1).val; rw [k0_off2_eq]; show 16896 + _ = _; omega

section Body
variable (c : Dev nD) (i : grid0.Coords) (arg2 : Memref sig .tc .vmem S1x512x192 .bf16) (harg2 : arg2.IsWhole)
  (arg6 : Memref sig .tc .vmem S512x128 .bf16) (harg6 : arg6.IsWhole)
  (q : S1x512x192.Idx → Elt F .bf16)

set_option maxHeartbeats 4000000 in
/-- The body at a point whose head's keys and values are in place. -/
theorem run_keep (h1 : ¬ k0_cond1 i = 1#1) (K : S8704x192.Idx → Elt F .bf16) (VT : S144x8704.Idx → Elt F .bf16)
    (f9 : S144x512.Idx → Elt F .f32) (f10 : S2x512x512.Idx → Elt F .f32) (f11 : S2x512x512.Idx → Elt F .bf16) (Q : PUnit → sProp 𝕄) :
    iprop((arg2.view.loc (c : Thread nD τ) ↦[arg2.view.set]{fullShare} arg2.view.rep q)
        ∗ (∃ d, owns (c : Thread nD τ) arg6 fullShare d)
        ∗ (ksM.view.loc (c : Thread nD τ) ↦{fullShare} K) ∗ (vsM.view.loc (c : Thread nD τ) ↦{fullShare} VT)
        ∗ (aM.view.loc (c : Thread nD τ) ↦{fullShare} f9) ∗ (scM.view.loc (c : Thread nD τ) ↦{fullShare} f10) ∗ (pM.view.loc (c : Thread nD τ) ↦{fullShare} f11)
        ∗ (iprop((arg2.view.loc (c : Thread nD τ) ↦[arg2.view.set]{fullShare} arg2.view.rep q)
            ∗ owns (c : Thread nD τ) arg6 fullShare (blockOut q K VT)
            ∗ (ksM.view.loc (c : Thread nD τ) ↦{fullShare} K) ∗ (vsM.view.loc (c : Thread nD τ) ↦{fullShare} VT)
            ∗ (∃ f, aM.view.loc (c : Thread nD τ) ↦{fullShare} f) ∗ (∃ f, scM.view.loc (c : Thread nD τ) ↦{fullShare} f) ∗ (∃ f, pM.view.loc (c : Thread nD τ) ↦{fullShare} f)) -∗ Q ⟨⟩))
      ⊢ wp frame (wpE (defs₀ (F := F)) Variants.none c none) Set.univ
          (cc0_flash_attention i arg2 harg2 kM (Memref.isWhole_whole _) vM (Memref.isWhole_whole _) oM (Memref.isWhole_whole _) arg6 harg6 ksM (Memref.isWhole_whole _) vsM (Memref.isWhole_whole _)
            aM (Memref.isWhole_whole _) scM (Memref.isWhole_whole _) pM (Memref.isWhole_whole _) cc0_scratch5) Q := by
  rw [cc0_flash_attention_eq_skeleton]
  unfold cc0_flash_attention_skel owns
  rw [k0_part3_eq_skeleton, k0_part4_eq_skeleton, k0_part5_eq_skeleton]
  unfold k0_part3_skel
  iintro ⟨H2, ⟨%d6, %f6, -, H6⟩, H7, H8, H9, H10, H11, Hk⟩
  sl_exec
  sl_for (invAt (qv arg2 q) K VT c) $$ [H7 H8 H9 H10 H11]
  · intro k acc
    exact step c i arg2 harg2 _ _ _ arg6 harg6 _ _ _ _ _ _ K VT _ _ _ k acc
  · unfold invAt
    isplitl [H7]; · iexact H7
    isplitl [H8]; · iexact H8
    iexists _; iexists _; iexists _
    isplitr; swap
    · isplitl [H9]; · iexact H9
      isplitl [H10] <;> iassumption
    ipureintro
    have e20 : run_keep.sl.v20 arg2 q K = sc (qv arg2 q) K 0 := by
      unfold run_keep.sl.v20 run_keep.sl.H10_2
      refine (View.readCov_skip scM.view _ _ _ _ (by decide)).trans ((View.readCov_cons_toLoadRect scM.view _ _ []).trans ?_)
      rw [k_load K _ _ 0 rfl]; rfl
    constructor
    · show k0_pay21 _ = _
      rw [e20]; rfl
    · show k0_pay24 _ _ = _
      rw [e20]; rfl
    · unfold run_keep.sl.H9_1
      exact a_store _ _ _
    · unfold run_keep.sl.H10_2
      refine (read_last scM.view _ _ _ _).trans ?_
      rw [k_load K _ _ 1 rfl]; rfl
    · refine (read_last pM.view _ _ _ _).trans ?_
      rw [e20]; rfl
  iintro %acc HL
  ihave HL' := (show invAt (qv arg2 q) K VT c k0_t1_loop.trips acc ⊢ _ from by
    unfold invAt; exact BIBase.Entails.rfl) $$ HL
  icases HL' with ⟨H7, H8, %g9, %g10, %g11, %hg, H9, H10, H11⟩
  sl_exec
  sl_step
  iapply Hk
  isplitl [H2]; · iexact H2
  isplitl [H6]
  · iexists _; isplitr; swap; · iexact H6
    ipureintro
    refine (View.read_writes_full arg6.view f6 inb_S512x128_S512x128_0_0 _ []).trans ?_
    have hm : acc.1 = mx (qv arg2 q) K 14 := hg.max
    have hf : acc.2 = al (qv arg2 q) K 14 := hg.fac
    have ha : g9 = ac (qv arg2 q) K VT 14 := hg.acc
    have hs : View.readAt (Elt F) scM.view (Rect.unit (s := S2x512x512) ![1, 0, 0] S1x512x512.size inb_S2x512x512_S1x512x512_1_0_0).toLoadRect g10 = sc (qv arg2 q) K 15 := hg.sco
    have hp : View.readAt (Elt F) pM.view (Rect.unit (s := S2x512x512) ![0, 0, 0] S1x512x512.size inb_S2x512x512_S1x512x512_0_0_0).toLoadRect g11 = pr (qv arg2 q) K 14 := hg.pro
    have er : run_keep.sl.r acc g10 = mx (qv arg2 q) K 15 := by
      unfold run_keep.sl.r; rw [hs, hm]; rfl
    have er1 : run_keep.sl.r_1 acc g10 = al (qv arg2 q) K 15 := by
      unfold run_keep.sl.r_1; rw [hs, hm]; rfl
    have e66 : run_keep.sl.v66 VT acc g9 g11 = ac (qv arg2 q) K VT 15 := by
      unfold run_keep.sl.v66 run_keep.sl.H9_1_1
      refine (View.readCov_cons_toLoadRect aM.view _ _ []).trans ?_
      rw [hf, a_load, ha, v_load VT _ _ 14 rfl, hp]; rfl
    have e70 : run_keep.sl.v70 acc g10 = pr (qv arg2 q) K 15 := by
      unfold run_keep.sl.v70
      refine (View.readCov_cons_toLoadRect pM.view _ _ []).trans ?_
      rw [hs, hm]; rfl
    have e77 : run_keep.sl.v77 arg2 q K = scLast (qv arg2 q) K := by
      unfold run_keep.sl.v77
      refine (View.readCov_cons_toLoadRect scM.view _ _ []).trans ?_
      rfl
    have e2 : run_keep.sl.r_2 arg2 q K acc g10 = k0_pay34 (mx (qv arg2 q) K 15) (scLast (qv arg2 q) K) := by
      unfold run_keep.sl.r_2; rw [er, e77]
    have e96 : run_keep.sl.v96 VT acc g9 g10 g11 = ac (qv arg2 q) K VT 16 := by
      unfold run_keep.sl.v96 run_keep.sl.H9_2
      refine (View.readCov_cons_toLoadRect aM.view _ _ _).trans ?_
      rw [er1, e66, v_load VT _ _ 15 rfl, e70]; rfl
    have e100 : run_keep.sl.v100 arg2 q K acc g10 = k0_pay35 (mx (qv arg2 q) K 15) (scLast (qv arg2 q) K) := by
      unfold run_keep.sl.v100 run_keep.sl.H11_2
      refine (View.readCov_cons_toLoadRect pM.view _ _ _).trans ?_
      rw [er, e77]
    unfold run_keep.sl.v107 run_keep.sl.H9_3
    refine (congrArg k0_pay2 (View.readCov_cons_toLoadRect aM.view _ _ _)).trans ?_
    rw [er, e2, e96, e100]
    have hq : qv arg2 q = k0_pay15 q := congrArg k0_pay15 (View.readAt_rep_full arg2.view q _)
    rw [hq]; rfl
  isplitl [H7]; · iexact H7
  isplitl [H8]; · iexact H8
  isplitl [H9]; · iexists _; iexact H9
  isplitl [H10]; · iexists _; iexact H10
  iexists _; iexact H11

set_option maxHeartbeats 4000000 in
/-- The body at a head's first point: it copies the head's keys and values in before it computes its block. -/
theorem run_load (h1 : k0_cond1 i = 1#1) (xk : S16x25600x192.Idx → Elt F .bf16) (xv : S16x144x25600.Idx → Elt F .bf16)
    (K : S8704x192.Idx → Elt F .bf16) (VT : S144x8704.Idx → Elt F .bf16)
    (f9 : S144x512.Idx → Elt F .f32) (f10 : S2x512x512.Idx → Elt F .f32) (f11 : S2x512x512.Idx → Elt F .bf16) (W : Waits sig Unit) (Q : PUnit → sProp 𝕄) :
    iprop((arg2.view.loc (c : Thread nD τ) ↦[arg2.view.set]{fullShare} arg2.view.rep q)
        ∗ (∃ d, owns (c : Thread nD τ) arg6 fullShare d)
        ∗ (ksM.view.loc (c : Thread nD τ) ↦{fullShare} K) ∗ (vsM.view.loc (c : Thread nD τ) ↦{fullShare} VT)
        ∗ (aM.view.loc (c : Thread nD τ) ↦{fullShare} f9) ∗ (scM.view.loc (c : Thread nD τ) ↦{fullShare} f10) ∗ (pM.view.loc (c : Thread nD τ) ↦{fullShare} f11)
        ∗ (kM.view.loc (c : Thread nD τ) ↦{fullShare} xk) ∗ (vM.view.loc (c : Thread nD τ) ↦{fullShare} xv)
        ∗ semVal ((c : Thread nD τ), SemLoc.dma sem0) 0 ∗ semVal ((c : Thread nD τ), SemLoc.dma sem1) 0
        ∗ owes (c : Thread nD τ) 0 W
        ∗ (iprop((arg2.view.loc (c : Thread nD τ) ↦[arg2.view.set]{fullShare} arg2.view.rep q)
            ∗ owns (c : Thread nD τ) arg6 fullShare (blockOut q (headK xk (i 0)) (headV xv (i 0)))
            ∗ (ksM.view.loc (c : Thread nD τ) ↦{fullShare} headK xk (i 0)) ∗ (vsM.view.loc (c : Thread nD τ) ↦{fullShare} headV xv (i 0))
            ∗ (∃ f, aM.view.loc (c : Thread nD τ) ↦{fullShare} f) ∗ (∃ f, scM.view.loc (c : Thread nD τ) ↦{fullShare} f) ∗ (∃ f, pM.view.loc (c : Thread nD τ) ↦{fullShare} f)
            ∗ (kM.view.loc (c : Thread nD τ) ↦{fullShare} xk) ∗ (vM.view.loc (c : Thread nD τ) ↦{fullShare} xv)
            ∗ semVal ((c : Thread nD τ), SemLoc.dma sem0) 0 ∗ semVal ((c : Thread nD τ), SemLoc.dma sem1) 0
            ∗ ∃ W', owes (c : Thread nD τ) 0 W') -∗ Q ⟨⟩))
      ⊢ wp frame (wpE (defs₀ (F := F)) Variants.none c none) Set.univ
          (cc0_flash_attention i arg2 harg2 kM (Memref.isWhole_whole _) vM (Memref.isWhole_whole _) oM (Memref.isWhole_whole _) arg6 harg6 ksM (Memref.isWhole_whole _) vsM (Memref.isWhole_whole _)
            aM (Memref.isWhole_whole _) scM (Memref.isWhole_whole _) pM (Memref.isWhole_whole _) cc0_scratch5) Q := by
  rw [cc0_flash_attention_eq_skeleton]
  unfold cc0_flash_attention_skel owns
  rw [k0_part3_eq_skeleton, k0_part4_eq_skeleton, k0_part5_eq_skeleton]
  unfold k0_part3_skel
  iintro ⟨H2, ⟨%d6, %f6, -, H6⟩, H7, H8, H9, H10, H11, Hxk, Hxv, Hc0, Hc1, HO, Hk⟩
  sl_exec
  unfold run_load.sl.dma0 run_load.sl.dma0_1
  rw [land_k i h1 K xk, land_v i h1 VT xv]
  sl_for (invAt (qv arg2 q) (headK xk (i 0)) (headV xv (i 0)) c) $$ [H7 H8 H9 H10 H11]
  · intro k acc
    exact step c i arg2 harg2 _ _ _ arg6 harg6 _ _ _ _ _ _ (headK xk (i 0)) (headV xv (i 0)) _ _ _ k acc
  · unfold invAt
    isplitl [H7]; · iexact H7
    isplitl [H8]; · iexact H8
    iexists _; iexists _; iexists _
    isplitr; swap
    · isplitl [H9]; · iexact H9
      isplitl [H10] <;> iassumption
    ipureintro
    have e20 : run_load.sl.v20 i arg2 q h1 xk K = sc (qv arg2 q) (headK xk (i 0)) 0 := by
      unfold run_load.sl.v20 run_load.sl.H10_2 run_load.sl.dma0
      refine (View.readCov_skip scM.view _ _ _ _ (by decide)).trans ((View.readCov_cons_toLoadRect scM.view _ _ []).trans ?_)
      rw [land_k i h1 K xk, k_load _ _ _ 0 rfl]; rfl
    constructor
    · show k0_pay21 _ = _
      rw [e20]; rfl
    · show k0_pay24 _ _ = _
      rw [e20]; rfl
    · unfold run_load.sl.H9_1
      exact a_store _ _ _
    · unfold run_load.sl.H10_2
      refine (read_last scM.view _ _ _ _).trans ?_
      unfold run_load.sl.dma0
      rw [land_k i h1 K xk, k_load _ _ _ 1 rfl]; rfl
    · refine (read_last pM.view _ _ _ _).trans ?_
      rw [e20]; rfl
  iintro %acc HL
  ihave HL' := (show invAt (qv arg2 q) (headK xk (i 0)) (headV xv (i 0)) c k0_t1_loop.trips acc ⊢ _ from by
    unfold invAt; exact BIBase.Entails.rfl) $$ HL
  icases HL' with ⟨H7, H8, %g9, %g10, %g11, %hg, H9, H10, H11⟩
  sl_exec
  sl_step
  iapply Hk
  isplitl [H2]; · iexact H2
  isplitl [H6]
  · iexists _; isplitr; swap; · iexact H6
    ipureintro
    refine (View.read_writes_full arg6.view f6 inb_S512x128_S512x128_0_0 _ []).trans ?_
    have hm : acc.1 = mx (qv arg2 q) (headK xk (i 0)) 14 := hg.max
    have hf : acc.2 = al (qv arg2 q) (headK xk (i 0)) 14 := hg.fac
    have ha : g9 = ac (qv arg2 q) (headK xk (i 0)) (headV xv (i 0)) 14 := hg.acc
    have hs : View.readAt (Elt F) scM.view (Rect.unit (s := S2x512x512) ![1, 0, 0] S1x512x512.size inb_S2x512x512_S1x512x512_1_0_0).toLoadRect g10 = sc (qv arg2 q) (headK xk (i 0)) 15 := hg.sco
    have hp : View.readAt (Elt F) pM.view (Rect.unit (s := S2x512x512) ![0, 0, 0] S1x512x512.size inb_S2x512x512_S1x512x512_0_0_0).toLoadRect g11 = pr (qv arg2 q) (headK xk (i 0)) 14 := hg.pro
    have er : run_load.sl.r acc g10 = mx (qv arg2 q) (headK xk (i 0)) 15 := by
      unfold run_load.sl.r; rw [hs, hm]; rfl
    have er1 : run_load.sl.r_1 acc g10 = al (qv arg2 q) (headK xk (i 0)) 15 := by
      unfold run_load.sl.r_1; rw [hs, hm]; rfl
    have e66 : run_load.sl.v66 i xv acc g9 g11 = ac (qv arg2 q) (headK xk (i 0)) (headV xv (i 0)) 15 := by
      unfold run_load.sl.v66 run_load.sl.H9_1_1
      refine (View.readCov_cons_toLoadRect aM.view _ _ []).trans ?_
      rw [hf, a_load, ha, v_load (headV xv (i 0)) _ _ 14 rfl, hp]; rfl
    have e70 : run_load.sl.v70 acc g10 = pr (qv arg2 q) (headK xk (i 0)) 15 := by
      unfold run_load.sl.v70
      refine (View.readCov_cons_toLoadRect pM.view _ _ []).trans ?_
      rw [hs, hm]; rfl
    have e77 : run_load.sl.v77 i arg2 q xk = scLast (qv arg2 q) (headK xk (i 0)) := by
      unfold run_load.sl.v77
      refine (View.readCov_cons_toLoadRect scM.view _ _ []).trans ?_
      rfl
    have e2 : run_load.sl.r_2 i arg2 q xk acc g10 = k0_pay34 (mx (qv arg2 q) (headK xk (i 0)) 15) (scLast (qv arg2 q) (headK xk (i 0))) := by
      unfold run_load.sl.r_2; rw [er, e77]
    have e96 : run_load.sl.v96 i xv acc g9 g10 g11 = ac (qv arg2 q) (headK xk (i 0)) (headV xv (i 0)) 16 := by
      unfold run_load.sl.v96 run_load.sl.H9_2
      refine (View.readCov_cons_toLoadRect aM.view _ _ _).trans ?_
      rw [er1, e66, v_load (headV xv (i 0)) _ _ 15 rfl, e70]; rfl
    have e100 : run_load.sl.v100 i arg2 q xk acc g10 = k0_pay35 (mx (qv arg2 q) (headK xk (i 0)) 15) (scLast (qv arg2 q) (headK xk (i 0))) := by
      unfold run_load.sl.v100 run_load.sl.H11_2
      refine (View.readCov_cons_toLoadRect pM.view _ _ _).trans ?_
      rw [er, e77]
    unfold run_load.sl.v107 run_load.sl.H9_3
    refine (congrArg k0_pay2 (View.readCov_cons_toLoadRect aM.view _ _ _)).trans ?_
    rw [er, e2, e96, e100]
    have hq : qv arg2 q = k0_pay15 q := congrArg k0_pay15 (View.readAt_rep_full arg2.view q _)
    rw [hq]; rfl
  isplitl [H7]; · iexact H7
  isplitl [H8]; · iexact H8
  isplitl [H9]; · iexists _; iexact H9
  isplitl [H10]; · iexists _; iexact H10
  isplitl [H11]; · iexists _; iexact H11
  isplitl [Hxk]; · iexact Hxk
  isplitl [Hxv]; · iexact Hxv
  isplitl [Hc0]; · iexact Hc0
  isplitl [Hc1]; · iexact Hc1
  iexists _; iexact HO
end Body
end Cert.AttnSampleIdeal.Hand
end
-- ==== Proof.AttnSample.Frame.lean ====
module
public import proofs.«01_k».proof.Proof.AttnSample.Body
public import Idealize.ShloMosaic.Lib.Pipeline.TableIdle
@[expose] public section
noncomputable section
namespace Cert.AttnSampleIdeal.Hand
open Cert.AttnSampleIdeal Cert.AttnSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F] [Named F]
local notation "𝕄" => MT nD τ sig Unit (Elt F) ℕ (Pipeline.UD sig nD τ) ℕ

/-- A point's head: each head has 17 points. -/
theorem coords_head (t : Fin grid0.N) : (grid0.coords t 0).val = t.val / 17 := by
  have h := Pipeline.Grid.coords_val t (0 : Fin 2) (S := 17) (B := 16) (by decide) rfl
  have ht : t.val < 272 := t.isLt.trans_eq N_0
  exact h.trans (Nat.mod_eq_of_lt (by omega))
/-- A point's block of query rows. -/
theorem coords_rows (t : Fin grid0.N) : (grid0.coords t 1).val = t.val % 17 := by
  have h := Pipeline.Grid.coords_val t (1 : Fin 2) (S := 1) (B := 17) (by decide) rfl
  exact h.trans (by rw [Nat.div_one])

/-- The body loads a head's keys and values at the head's first block of rows. -/
theorem cond1_iff (i : grid0.Coords) : k0_cond1 i = 1#1 ↔ (i 1).val = 0 := by
  have h1 : (i 1).val < 17 := (i 1).isLt
  have e : (BitVec.ofNat 32 (i 1).val = 0#32) ↔ (i 1).val = 0 := by
    constructor
    · intro h
      have := congrArg BitVec.toNat h
      rw [BitVec.toNat_ofNat, Nat.mod_eq_of_lt (by omega)] at this
      exact this
    · intro h; rw [h]
  unfold k0_cond1
  simp only [Scalar.cmpi, Scalar.extui, IntOp.cmpi]
  have hz : (BitVec.ofNat 32 (i 1).val == 0#32) = decide ((i 1).val = 0) := by
    rw [Bool.eq_iff_iff, beq_iff_eq, decide_eq_true_iff, e]
  rw [hz]
  by_cases h : (i 1).val = 0 <;> simp [h]

variable (m : (ℓ : Loc nD τ sig) → Buf (Elt F) ℓ)

/-- The contents of a buffer when the call starts: the launch contents, with the result's buffer a copy of the old result. -/
def V (c : Dev nD) (b : Ref sig .tc) : Buf (Elt F) ((c : Thread nD τ).loc b) := StableHlo.after hostOps0 (fun b => m (c, b)) b
/-- The queries are as launched, -/
theorem V_arg0 (c : Dev nD) : V m c main_arg0 = m ((c : Thread nD τ).loc main_arg0) := by unfold V hostOps0; after_results
/-- the keys too, -/
theorem V_arg1 (c : Dev nD) : V m c main_arg1 = m ((c : Thread nD τ).loc main_arg1) := by unfold V hostOps0; after_results
/-- the values too, -/
theorem V_arg2 (c : Dev nD) : V m c main_arg2 = m ((c : Thread nD τ).loc main_arg2) := by unfold V hostOps0; after_results
/-- and the old result. -/
theorem V_arg3 (c : Dev nD) : V m c main_arg3 = m ((c : Thread nD τ).loc main_arg3) := by unfold V hostOps0; after_results
/-- The result's buffer starts as the old result. -/
theorem V_out (c : Dev nD) : V m c main_v0 = m ((c : Thread nD τ).loc main_arg3) := by unfold V hostOps0; after_results; rfl

/-- A point's coordinates. -/
abbrev crd (t : Fin cfg0.N) : cfg0.grid.Coords := cfg0.grid.coords t
/-- The staging buffer of the queries, -/
abbrev st0 (t : Fin cfg0.N) : Memref sig .tc .vmem S1x512x192 .bf16 := win0_0.stage (cfg0.slots t (0 : Fin 2))
/-- which is a whole buffer; -/
abbrev hst0 (t : Fin cfg0.N) : (st0 t).IsWhole := hstage0_0 ((cfg0.slots t (0 : Fin 2)).cast nbuf0_0)
/-- and of the result, -/
abbrev st1 (t : Fin cfg0.N) : Memref sig .tc .vmem S512x128 .bf16 := win0_1.stage (cfg0.slots t (1 : Fin 2))
/-- whole too. -/
abbrev hst1 (t : Fin cfg0.N) : (st1 t).IsWhole := hstage0_1 ((cfg0.slots t (1 : Fin 2)).cast nbuf0_1)

/-- A window's block at a point, read off its array. -/
def iblk (c : Dev nD) (w : Fin cfg0.W) (t : Fin cfg0.N) : ((cfg0.win w).xblock (crd t)).Idx → Elt F (cfg0.win w).elt :=
  ((cfg0.win w).blk t).view.read (Elt F) (V m c (Pipeline.arrRef cfg0.spec w))

/-- A point's head. -/
def head (t : Fin cfg0.N) : Fin 16 := (crd t) 0
/-- Each head has 17 points. -/
theorem head_val (t : Fin cfg0.N) : (head t).val = t.val / 17 := coords_head t

/-- The keys of a head, -/
abbrev keys (c : Dev nD) (h : Fin 16) : S8704x192.Idx → Elt F .bf16 := headK (V m c main_arg1) h
/-- and its values. -/
abbrev vals (c : Dev nD) (h : Fin 16) : S144x8704.Idx → Elt F .bf16 := headV (V m c main_arg2) h

/-- What the output's block holds after a point. -/
def outAt (c : Dev nD) (t : Fin cfg0.N) : S512x128.Idx → Elt F .bf16 :=
  blockOut (iblk m c (0 : Fin 2) t) (keys m c (head t)) (vals m c (head t))

/-- What the scratches of keys and values hold before position `n`: within a head, the head's keys and values. -/
def Kept (c : Dev nD) (n : ℕ) (fK : S8704x192.Idx → Elt F .bf16) (fV : S144x8704.Idx → Elt F .bf16) : Prop :=
  ∀ h : Fin 16, h.val = n / 17 → n % 17 ≠ 0 → fK = keys m c h ∧ fV = vals m c h

/-- The invariant before position `n`. -/
def Inv (c : Dev nD) (n : ℕ) : sProp 𝕄 :=
  iprop((∃ fK : S8704x192.Idx → Elt F .bf16, ∃ fV : S144x8704.Idx → Elt F .bf16, ⌜Kept m c n fK fV⌝
      ∗ (ksM.view.loc (c : Thread nD τ) ↦{fullShare} fK) ∗ (vsM.view.loc (c : Thread nD τ) ↦{fullShare} fV))
    ∗ (∃ f, aM.view.loc (c : Thread nD τ) ↦{fullShare} f)
    ∗ (∃ f, scM.view.loc (c : Thread nD τ) ↦{fullShare} f)
    ∗ (∃ f, pM.view.loc (c : Thread nD τ) ↦{fullShare} f)
    ∗ (∃ r, prngReg c r)
    ∗ semVal ((c : Thread nD τ), SemLoc.dma sem0) 0
    ∗ semVal ((c : Thread nD τ), SemLoc.dma sem1) 0
    ∗ (kM.view.loc (c : Thread nD τ) ↦{fullShare} V m c main_arg1)
    ∗ (vM.view.loc (c : Thread nD τ) ↦{fullShare} V m c main_arg2))

/-- The pipeline's proof data. -/
def dats (_ : Fin 1) (c : Dev nD) : Dat τ (Elt F) Unit ℕ (Pipeline.UD sig nD τ) ℕ cfg0 c where
  A w := V m c (Pipeline.arrRef cfg0.spec w)
  after w t := match w with
    | ⟨0, _⟩ => iblk m c (0 : Fin 2) t
    | ⟨1, _⟩ => outAt m c t
  Φ t := Inv m c t.val
  q _ := fullShare
  owed _ := 0

/-- The body leaves the queries as they were, -/
theorem after_0 (c : Dev nD) (t : Fin cfg0.N) : (dats m 0 c).after (0 : Fin 2) t = iblk m c (0 : Fin 2) t := rfl
/-- and the result's block at its value. -/
theorem after_1 (c : Dev nD) (t : Fin cfg0.N) : (dats m 0 c).after (1 : Fin 2) t = outAt m c t := rfl

/-- The queries' staging buffer holds their block when the body runs. -/
theorem before_0 (c : Dev nD) (t : Fin cfg0.N) (d) : (dats m 0 c).before (0 : Fin 2) t d = iblk m c (0 : Fin 2) t :=
  ((dats m 0 c).before_in_eq_fetched (0 : Fin 2) rfl (fun _ => rfl) (fun _ _ _ => rfl) (fun t => by rw [after_0]; unfold Dat.blockOf iblk; rfl) t d).trans
    (by unfold Dat.fetched Dat.blockOf iblk; rfl)

/-- The body at a point, as the pipeline calls it. -/
abbrev bodyAt (t : Fin cfg0.N) : Prog (TpuEff nD τ sig (Elt F) Λ₀ .tc) PUnit :=
  cc0_flash_attention (crd t) (st0 t) (hst0 t) kM (Memref.isWhole_whole _) vM (Memref.isWhole_whole _) oM (Memref.isWhole_whole _)
    (st1 t) (hst1 t) ksM (Memref.isWhole_whole _) vsM (Memref.isWhole_whole _) aM (Memref.isWhole_whole _) scM (Memref.isWhole_whole _)
    pM (Memref.isWhole_whole _) cc0_scratch5

/-- What a point starts from. -/
def ptPre (c : Dev nD) (t : Fin cfg0.N) : sProp 𝕄 :=
  iprop(Inv m c t.val ∗ (∃ W, owes (c : Thread nD τ) 0 W)
    ∗ owns (c : Thread nD τ) (st0 t) fullShare (iblk m c (0 : Fin 2) t)
    ∗ (∃ d, owns (c : Thread nD τ) (st1 t) fullShare d))
/-- What a point leaves. -/
def ptPost (c : Dev nD) (t : Fin cfg0.N) : sProp 𝕄 :=
  iprop(Inv m c (t.val + 1) ∗ (∃ W, owes (c : Thread nD τ) 0 W)
    ∗ owns (c : Thread nD τ) (st0 t) fullShare (iblk m c (0 : Fin 2) t)
    ∗ owns (c : Thread nD τ) (st1 t) fullShare (outAt m c t))

/-- The keys and values stay kept from a point to the next of its head. -/
theorem kept_succ (c : Dev nD) (t : Fin cfg0.N) : Kept m c (t.val + 1) (keys m c (head t)) (vals m c (head t)) := by
  intro h hh hn
  have e : h = head t := Fin.ext (by rw [head_val, hh]; omega)
  rw [e]; exact ⟨rfl, rfl⟩

/-- The body at a point, in each of its two cases. -/
theorem point (c : Dev nD) (t : Fin cfg0.N) :
    ptPre m c t ⊢ wp frame (wpE (defs₀ (F := F)) Variants.none c none) Set.univ (bodyAt (F := F) t) (fun _ => ptPost m c t) := by
  unfold ptPre ptPost Inv
  iintro ⟨⟨⟨%fK, %fV, %hk, H7, H8⟩, ⟨%f9, H9⟩, ⟨%f10, H10⟩, ⟨%f11, H11⟩, Hr, Hc0, Hc1, Hx, Hy⟩, ⟨%W, HO⟩, H0, H1⟩
  by_cases hj : t.val % 17 = 0
  · have h1 : k0_cond1 (crd t) = 1#1 := (cond1_iff _).2 ((coords_rows t).trans hj)
    iapply (run_load c (crd t) (st0 t) (hst0 t) (st1 t) (hst1 t) (iblk m c (0 : Fin 2) t) h1 (V m c main_arg1) (V m c main_arg2) fK fV f9 f10 f11 W _)
    isplitl [H0]; · iapply rep_of_owns; iexact H0
    isplitl [H1]; · iexact H1
    isplitl [H7]; · iexact H7
    isplitl [H8]; · iexact H8
    isplitl [H9]; · iexact H9
    isplitl [H10]; · iexact H10
    isplitl [H11]; · iexact H11
    isplitl [Hx]; · iexact Hx
    isplitl [Hy]; · iexact Hy
    isplitl [Hc0]; · iexact Hc0
    isplitl [Hc1]; · iexact Hc1
    isplitl [HO]; · iexact HO
    iintro ⟨H0, H1, H7, H8, H9, H10, H11, Hx, Hy, Hc0, Hc1, HO⟩
    isplitl [H7 H8 H9 H10 H11 Hr Hc0 Hc1 Hx Hy]
    · isplitl [H7 H8]
      · iexists _; iexists _; isplitr; swap
        · isplitl [H7] <;> iassumption
        ipureintro; exact kept_succ m c t
      isplitl [H9]; · iexact H9
      isplitl [H10]; · iexact H10
      isplitl [H11]; · iexact H11
      isplitl [Hr]; · iexact Hr
      isplitl [Hc0]; · iexact Hc0
      isplitl [Hc1]; · iexact Hc1
      isplitl [Hx] <;> iassumption
    isplitl [HO]; · iexact HO
    isplitl [H0]; · iapply owns_of_rep; iexact H0
    iexact H1
  · have h1 : ¬ k0_cond1 (crd t) = 1#1 := fun h => hj ((coords_rows t).symm.trans ((cond1_iff _).1 h))
    obtain ⟨rfl, rfl⟩ := hk (head t) (head_val t) hj
    iapply (run_keep c (crd t) (st0 t) (hst0 t) (st1 t) (hst1 t) (iblk m c (0 : Fin 2) t) h1 (keys m c (head t)) (vals m c (head t)) f9 f10 f11 _)
    isplitl [H0]; · iapply rep_of_owns; iexact H0
    isplitl [H1]; · iexact H1
    isplitl [H7]; · iexact H7
    isplitl [H8]; · iexact H8
    isplitl [H9]; · iexact H9
    isplitl [H10]; · iexact H10
    isplitl [H11]; · iexact H11
    iintro ⟨H0, H1, H7, H8, H9, H10, H11⟩
    isplitl [H7 H8 H9 H10 H11 Hr Hc0 Hc1 Hx Hy]
    · isplitl [H7 H8]
      · iexists _; iexists _; isplitr; swap
        · isplitl [H7] <;> iassumption
        ipureintro; exact kept_succ m c t
      isplitl [H9]; · iexact H9
      isplitl [H10]; · iexact H10
      isplitl [H11]; · iexact H11
      isplitl [Hr]; · iexact Hr
      isplitl [Hc0]; · iexact Hc0
      isplitl [Hc1]; · iexact Hc1
      isplitl [Hx] <;> iassumption
    isplitl [HO]; · iexists _; iexact HO
    isplitl [H0]; · iapply owns_of_rep; iexact H0
    iexact H1

/-! ## The launch -/

/-- The body table's row at a point is the body as `bodyAt` spells it. -/
theorem defs₀_row (t : Fin cfg0.N) : defs₀ (F := F) .tc cfg0.body (cfg0.bodyArgs t (cfg0.slots t)) = bodyAt t := by
  unfold defs₀; rw [Defs.onTc_tc]

/-- What the pipeline hands the body entails what `point` starts from, -/
theorem ptPre_of (c : Dev nD) (t : Fin cfg0.N) :
    iprop((dats m 0 c).Φ t.castSucc ∗ (dats m 0 c).owesAt () t.castSucc
        ∗ (∃ d, owns (c : Thread nD τ) (st0 t) fullShare ((dats m 0 c).before (0 : Fin 2) t d))
        ∗ (∃ d, owns (c : Thread nD τ) (st1 t) fullShare ((dats m 0 c).before (1 : Fin 2) t d)))
      ⊢ ptPre m c t := by
  unfold ptPre Dat.owesAt Pipeline.owesWithin
  rw [show (dats m 0 c).owed t.castSucc = 0 from rfl, show (dats m 0 c).Φ t.castSucc = Inv m c t.val from rfl]
  simp only [before_0]
  iintro ⟨HI, ⟨%W, %hW, HO⟩, ⟨%d0, H0⟩, ⟨%d1, H1⟩⟩
  isplitl [HI]; · iexact HI
  isplitl [HO]; · iexists W; iexact HO
  isplitl [H0]; · iexact H0
  iexists _; iexact H1

/-- and what it leaves is what the pipeline expects back. -/
theorem of_ptPost (c : Dev nD) (t : Fin cfg0.N) :
    ptPost m c t ⊢ iprop((dats m 0 c).Φ t.succ ∗ (dats m 0 c).owesAt () t.succ
        ∗ owns (c : Thread nD τ) (st0 t) fullShare ((dats m 0 c).after (0 : Fin 2) t)
        ∗ owns (c : Thread nD τ) (st1 t) fullShare ((dats m 0 c).after (1 : Fin 2) t)) := by
  unfold ptPost Dat.owesAt Pipeline.owesWithin
  rw [show (dats m 0 c).owed t.succ = 0 from rfl, show (dats m 0 c).Φ t.succ = Inv m c (t.val + 1) from rfl, after_0, after_1]
  iintro ⟨HI, ⟨%W, HO⟩, H0, H1⟩
  isplitl [HI]; · iexact HI
  isplitl [HO]
  · iexists W; isplitr; · ipureintro; exact fun _ _ => Or.inl trivial
    iexact HO
  isplitl [H0]; · iexact H0
  iexact H1

/-- The library's body obligation, at every point. -/
theorem body_obligation (c : Dev nD) : BodyObligation (dats m 0 c) (defs₀ (F := F)) Variants.none () Set.univ := fun t => by
  rw [bigSep_W0, bigSep_W0, defs₀_row]
  exact triple_restated (point m c t) rfl (ptPre_of m c t) fun _ => of_ptPost m c t

/-- The kernel's own semaphores, -/
def ownSem : Fin 2 → SemLoc sig := fun | 0 => SemLoc.dma sem0 | 1 => SemLoc.dma sem1
/-- which no window has; -/
theorem ownSem_facts : Pipeline.OwnSemFacts spec0 ownSem := by decide
/-- both at zero; -/
theorem ownSem_eq (c : Dev nD) :
    (Pipeline.ownSems0 (Ix := Unit) (Name := ℕ) (U := Pipeline.UD sig nD τ) (Lvl := ℕ) (Val := Elt F) (τ := τ) ownSem c : sProp 𝕄)
      = iprop(semVal ((c : Thread nD τ), SemLoc.dma sem0) 0 ∗ semVal ((c : Thread nD τ), SemLoc.dma sem1) 0) := by
  rw [Pipeline.ownSems0_eq_of_list c ownSem [0, 1] (by decide) (by decide)]; rfl
/-- the arrays it reads itself, -/
def ownRefs : Finset (Ref sig .tc) := {main_arg1, main_arg2}
/-- which no window has, -/
theorem ownRefs_sub : ownRefs ⊆ Pipeline.restRefs sig spec0 := by decide
/-- whole at their contents. -/
theorem ownRefs_eq (c : Dev nD) :
    (bigSep ownRefs fun b => ((c : Thread nD τ).loc b) ↦{fullShare} V m c b : sProp 𝕄)
      = iprop((((c : Thread nD τ).loc main_arg1) ↦{fullShare} V m c main_arg1) ∗ (((c : Thread nD τ).loc main_arg2) ↦{fullShare} V m c main_arg2)) := by
  unfold ownRefs; rw [bigSep_insert (by decide), bigSep_singleton]; rfl

/-- The launch gives the invariant before the first point: no head has begun. -/
theorem inv_intro (c : Dev nD) : Pipeline.ΦD ownSem spec0 ownRefs (V m) c ⊢ (Inv m c 0 : sProp 𝕄) := by
  rw [Pipeline.ΦD_eq, scopedRest0_eq, ownSem_eq, ownRefs_eq]
  unfold Inv
  iintro ⟨⟨⟨%f7, H7⟩, ⟨%f8, H8⟩, H9, H10, H11⟩, Hr, ⟨Hc0, Hc1⟩, Hx, Hy⟩
  isplitl [H7 H8]
  · iexists f7; iexists f8; isplitr; swap
    · isplitl [H7]; · iexact H7
      iexact H8
    ipureintro; exact fun h hh hn => absurd rfl hn
  isplitl [H9]; · iexact H9
  isplitl [H10]; · iexact H10
  isplitl [H11]; · iexact H11
  isplitl [Hr]; · iexact Hr
  isplitl [Hc0]; · iexact Hc0
  isplitl [Hc1]; · iexact Hc1
  isplitl [Hx]; · iexact Hx
  iexact Hy

/-- After the last point the launch has everything back. -/
theorem inv_exit (c : Dev nD) (n : ℕ) : (Inv m c n : sProp 𝕄) ⊢ Pipeline.ΦD ownSem spec0 ownRefs (V m) c := by
  rw [Pipeline.ΦD_eq, scopedRest0_eq, ownSem_eq, ownRefs_eq]
  unfold Inv
  iintro ⟨⟨%f7, %f8, -, H7, H8⟩, H9, H10, H11, Hr, Hc0, Hc1, Hx, Hy⟩
  isplitl [H7 H8 H9 H10 H11]
  · isplitl [H7]; · iexists f7; iexact H7
    isplitl [H8]; · iexists f8; iexact H8
    isplitl [H9]; · iexact H9
    isplitl [H10] <;> iassumption
  isplitl [Hr]; · iexact Hr
  isplitl [Hc0 Hc1]
  · isplitl [Hc0] <;> iassumption
  isplitl [Hx]; · iexact Hx
  iexact Hy

variable (ρ : Dev nD → PrngReg)

set_option backward.isDefEq.respectTransparency.types false in
/-- Every weakly fair execution of @main terminates, nothing faulting, with every array at what the pipeline writes, every
    other buffer at its contents when the call starts and every semaphore counter at zero. -/
theorem run_main : θ_run (defs (F := F)) (onTc (τ := τ) (main (F := F))) ⟨m, fun _ => 0, ρ⟩
    (fun r => Pipeline.FramePost cfgs (dats m) 0 (V m) r ∧ r.2.sem = fun _ => 0) :=
  Pipeline.θ_run_frame_dma (Q' := _) cfgs (dats m) (0 : Fin 1) launch0 ownSem defs₀ Variants.none ownSem_facts ownRefs ownRefs_sub m ρ main
    (hbody := fun c => (body_obligation m c).loose) (hshare := fun c => (dats m 0 c).share_full fun _ => rfl)
    (howed := fun _ _ => rfl) (V := V m)
    (hmain := Pipeline.hmain_prefix cfgs 0 defs₀ Variants.none m main hostOps0 hostOps0_sub rfl main_chain)
    (hA := fun _ _ => rfl)
    (hin := fun c => inv_intro m c)
    (hout := fun c => inv_exit m c _)

/-- The output array after the run. -/
def outArr (c : Dev nD) : Buf (Elt F) ((c : Thread nD τ).loc main_v0) := (dats m 0 c).arrAt (1 : Fin 2) cfg0.N

/-- The run: the result is the output array, the arguments are unchanged and the counters are zero. -/
theorem run : θ_run (defs (F := F)) (onTc (τ := τ) (main (F := F))) ⟨m, fun _ => 0, ρ⟩ (fun r => (∀ c : Dev nD,
      r.2.mem ((c.tc : Thread nD τ).loc main_v0) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run defs _ _).mono (fun r h => ⟨fun c => ⟨?_, ?_, ?_, ?_, ?_⟩, h.2⟩) (run_main m ρ)
  · exact (h.1 c).1 (1 : Fin 2)
  · exact ((h.1 c).1 (0 : Fin 2)).trans (((dats m 0 c).arrAt_in (0 : Fin 2) rfl _).trans (V_arg0 m c))
  · exact ((h.1 c).2 main_arg1 (Pipeline.mem_restRefs_of main_arg1 (by decide) (show ∀ w : Fin 2, (spec0 w).arr.view.ref ≠ main_arg1 from by decide))).trans (V_arg1 m c)
  · exact ((h.1 c).2 main_arg2 (Pipeline.mem_restRefs_of main_arg2 (by decide) (show ∀ w : Fin 2, (spec0 w).arr.view.ref ≠ main_arg2 from by decide))).trans (V_arg2 m c)
  · exact ((h.1 c).2 main_arg3 (Pipeline.mem_restRefs_of main_arg3 (by decide) (show ∀ w : Fin 2, (spec0 w).arr.view.ref ≠ main_arg3 from by decide))).trans (V_arg3 m c)

end Cert.AttnSampleIdeal.Hand
end
-- ==== Proof.Shared.Softmax.lean ====
/-
  A weighted mean whose weights are powers of two of scores less their maximum, taken in chunks: a running maximum and a sum
  rescaled at each chunk come to the maximum and the sum over all of them, over the extended reals.
-/
module
public import Idealize.ShloMosaic.PureOps.Ideal
public import Mathlib.Algebra.BigOperators.Fin
public import Mathlib.Data.EReal.Operations
@[expose] public section
noncomputable section
namespace Cert.Proof.Shared
open Idealize.ShloMosaic
open scoped BigOperators

/-- The weight of a score under a maximum. -/
def wt (s m : EReal) : EReal := Ideal.exp2 (s - m)

/-- A weight under an upper bound is a real number that is not negative. -/
theorem wt_real (s m : EReal) (h : s ≤ m) : ∃ r : ℝ, 0 ≤ r ∧ wt s m = (r : EReal) := by
  unfold wt
  induction m using EReal.rec with
  | bot => exact ⟨0, le_rfl, by rw [le_bot_iff.1 h]; rfl⟩
  | top => exact ⟨0, le_rfl, by rw [EReal.sub_top]; rfl⟩
  | coe b =>
    induction s using EReal.rec with
    | bot => exact ⟨0, le_rfl, rfl⟩
    | top => exact absurd h (by simp)
    | coe a => exact ⟨Real.rpow 2 (a - b), Real.rpow_nonneg (by norm_num) _, by rw [← EReal.coe_sub]; rfl⟩

/-- Weights compose along a growing maximum. -/
theorem wt_mul (s m m' : EReal) (h : s ≤ m) (h' : m ≤ m') : wt m m' * wt s m = wt s m' := by
  unfold wt
  induction m' using EReal.rec with
  | bot =>
    obtain rfl := le_bot_iff.1 h'
    obtain rfl := le_bot_iff.1 h
    show Ideal.exp2 (⊥ : EReal) * Ideal.exp2 (⊥ : EReal) = Ideal.exp2 (⊥ : EReal)
    rw [Ideal.exp2_bot, mul_zero]
  | top => rw [EReal.sub_top, EReal.sub_top, Ideal.exp2_bot, zero_mul]
  | coe c =>
    induction m using EReal.rec with
    | bot =>
      obtain rfl := le_bot_iff.1 h
      rw [EReal.bot_sub, EReal.bot_sub, Ideal.exp2_bot, zero_mul]
    | top => exact absurd h' (by simp)
    | coe b =>
      induction s using EReal.rec with
      | bot => rw [EReal.bot_sub, EReal.bot_sub, Ideal.exp2_bot, mul_zero]
      | top => exact absurd h (by simp)
      | coe a =>
        rw [← EReal.coe_sub, ← EReal.coe_sub, ← EReal.coe_sub, Ideal.exp2_coe, Ideal.exp2_coe, Ideal.exp2_coe, ← EReal.coe_mul]
        congr 1
        show (2 : ℝ) ^ (b - c) * (2 : ℝ) ^ (a - b) = (2 : ℝ) ^ (a - c)
        rw [← Real.rpow_add (by norm_num)]
        congr 1; ring

/-- A score at the bottom has no weight. -/
theorem wt_bot (m : EReal) : wt ⊥ m = 0 := by
  unfold wt; rw [EReal.bot_sub, Ideal.exp2_bot]

/-- A nonnegative real factor goes into a sum. -/
theorem mul_sum_of_real {ι : Type} (S : Finset ι) (f : ι → EReal) (r : ℝ) (hr : 0 ≤ r) : (r : EReal) * ∑ k ∈ S, f k = ∑ k ∈ S, (r : EReal) * f k := by
  classical
  induction S using Finset.induction_on with
  | empty => simp
  | insert a S ha ih =>
    rw [Finset.sum_insert ha, Finset.sum_insert ha, ← ih]
    exact EReal.left_distrib_of_nonneg_of_ne_top (EReal.coe_nonneg.2 hr) (EReal.coe_ne_top r) _ _

/-- A weighted sum brought to a greater maximum. -/
theorem wt_rescale {ι : Type} (S : Finset ι) (s x : ι → EReal) (m m' : EReal) (hs : ∀ k ∈ S, s k ≤ m) (h : m ≤ m') :
    wt m m' * ∑ k ∈ S, x k * wt (s k) m = ∑ k ∈ S, x k * wt (s k) m' := by
  obtain ⟨r, hr, e⟩ := wt_real m m' h
  rw [e, mul_sum_of_real S _ r hr]
  refine Finset.sum_congr rfl fun k hk => ?_
  rw [← wt_mul (s k) m m' (hs k hk) h, ← e, mul_left_comm]

section Scan
variable (n : ℕ) (s x : ℕ → EReal)

/-- The maximum of the scores before `k`. -/
def topOf (s : ℕ → EReal) (k : ℕ) : EReal := (Finset.range k).sup s
/-- The weighted sum over the places before `k`, under the maximum `m`. -/
def sumOf (s x : ℕ → EReal) (k : ℕ) (m : EReal) : EReal := ∑ j ∈ Finset.range k, x j * wt (s j) m

/-- The maximum of a chunk, folded from the bottom. -/
theorem fold_chunk (a : ℕ) : (Finset.univ : Finset (Fin n)).fold max (⊥ : EReal) (fun k => s (a + k.val)) = (Finset.range n).sup fun k => s (a + k) := by
  have e : (Finset.univ : Finset (Fin n)).fold max (⊥ : EReal) (fun k => s (a + k.val)) = Finset.univ.sup (fun k : Fin n => s (a + k.val)) := rfl
  rw [e]
  apply le_antisymm
  · exact Finset.sup_le fun k _ => Finset.le_sup (f := fun k => s (a + k)) (Finset.mem_range.2 k.isLt)
  · exact Finset.sup_le fun k hk => Finset.le_sup (f := fun k : Fin n => s (a + k.val)) (Finset.mem_univ ⟨k, Finset.mem_range.1 hk⟩)

/-- The maximum takes in one more chunk. -/
theorem topOf_add (a : ℕ) : max (topOf s a) ((Finset.range n).sup fun k => s (a + k)) = topOf s (a + n) := by
  unfold topOf
  apply le_antisymm
  · refine max_le (Finset.sup_mono (Finset.range_mono (Nat.le_add_right a n))) (Finset.sup_le fun k hk => ?_)
    exact Finset.le_sup (f := s) (Finset.mem_range.2 (Nat.add_lt_add_left (Finset.mem_range.1 hk) a))
  · refine Finset.sup_le fun k hk => ?_
    by_cases h : k < a
    · exact le_max_of_le_left (Finset.le_sup (f := s) (Finset.mem_range.2 h))
    · have hk' := Finset.mem_range.1 hk
      have e : k = a + (k - a) := by omega
      rw [e]
      exact le_max_of_le_right (Finset.le_sup (f := fun k => s (a + k)) (Finset.mem_range.2 (by omega)))

/-- The maximum grows. -/
theorem topOf_le (a : ℕ) : topOf s a ≤ topOf s (a + n) := Finset.sup_mono (Finset.range_mono (Nat.le_add_right a n))

/-- The weighted sum takes in one more chunk. -/
theorem sumOf_add (a : ℕ) : wt (topOf s a) (topOf s (a + n)) * sumOf s x a (topOf s a) + ∑ k : Fin n, x (a + k.val) * wt (s (a + k.val)) (topOf s (a + n))
    = sumOf s x (a + n) (topOf s (a + n)) := by
  unfold sumOf
  rw [wt_rescale (Finset.range a) s x (topOf s a) _ (fun k hk => Finset.le_sup (f := s) hk) (topOf_le n s a), Finset.sum_range_add,
    Finset.sum_range (f := fun k => x (a + k) * wt (s (a + k)) (topOf s (a + n)))]

/-- One more chunk, from the accumulator, the factor, the values and the weights as they are at hand. -/
theorem sumOf_step (a : ℕ) (al acc : EReal) (v p : Fin n → EReal) (hal : al = wt (topOf s a) (topOf s (a + n))) (hacc : acc = sumOf s x a (topOf s a))
    (hv : ∀ k, v k = x (a + k.val)) (hp : ∀ k, p k = wt (s (a + k.val)) (topOf s (a + n))) : al * acc + ∑ k : Fin n, v k * p k = sumOf s x (a + n) (topOf s (a + n)) := by
  obtain rfl : v = fun k : Fin n => x (a + k.val) := funext hv
  obtain rfl : p = fun k : Fin n => wt (s (a + k.val)) (topOf s (a + n)) := funext hp
  subst hal; subst hacc
  exact sumOf_add n s x a

/-- One more chunk for the maximum, from the chunk's scores as they are at hand. -/
theorem topOf_step (a : ℕ) (m : EReal) (f : Fin n → EReal) (hm : m = topOf s a) (hf : ∀ k, f k = s (a + k.val)) :
    max m ((Finset.univ : Finset (Fin n)).fold max (⊥ : EReal) f) = topOf s (a + n) := by
  obtain rfl : f = fun k : Fin n => s (a + k.val) := funext hf
  subst hm
  rw [fold_chunk]
  exact topOf_add n s a

/-- Scores masked to the bottom from `b` on leave the maximum before `b`. -/
theorem topOf_mask (b c : ℕ) (h : b ≤ c) : topOf (fun k => if k < b then s k else ⊥) c = topOf s b := by
  unfold topOf
  apply le_antisymm
  · refine Finset.sup_le fun k _ => ?_
    split
    · rename_i hk; exact Finset.le_sup (f := s) (Finset.mem_range.2 hk)
    · exact bot_le
  · refine Finset.sup_le fun k hk => ?_
    have hb := Finset.mem_range.1 hk
    refine le_trans (le_of_eq ?_) (Finset.le_sup (f := fun k => if k < b then s k else ⊥) (Finset.mem_range.2 (lt_of_lt_of_le hb h)))
    exact (if_pos hb).symm

/-- Scores masked to the bottom from `b` on add nothing to the weighted sum. -/
theorem sumOf_mask (b c : ℕ) (h : b ≤ c) (m : EReal) : sumOf (fun k => if k < b then s k else ⊥) x c m = sumOf s x b m := by
  unfold sumOf
  refine (Finset.sum_subset (Finset.range_mono h) fun k _ hk => ?_).symm.trans (Finset.sum_congr rfl fun k hk => ?_)
  · dsimp only
    rw [if_neg (fun hb => hk (Finset.mem_range.2 hb)), wt_bot, mul_zero]
  · dsimp only
    rw [if_pos (Finset.mem_range.1 hk)]

/-- Masked scores before the mask are the scores. -/
theorem topOf_before (b c : ℕ) (h : c ≤ b) : topOf (fun k => if k < b then s k else ⊥) c = topOf s c :=
  Finset.sup_congr rfl fun k hk => if_pos (lt_of_lt_of_le (Finset.mem_range.1 hk) h)

/-- Masked scores before the mask weigh as the scores. -/
theorem sumOf_before (b c : ℕ) (h : c ≤ b) (m : EReal) : sumOf (fun k => if k < b then s k else ⊥) x c m = sumOf s x c m :=
  Finset.sum_congr rfl fun k hk => by dsimp only; rw [if_pos (lt_of_lt_of_le (Finset.mem_range.1 hk) h)]

/-- The maximum over `n` places, folded. -/
theorem topOf_fin : topOf s n = (Finset.univ : Finset (Fin n)).fold max (⊥ : EReal) (fun k => s k.val) := by
  have h := fold_chunk n s 0
  simp only [Nat.zero_add] at h
  exact h.symm

/-- The weighted sum over `n` places. -/
theorem sumOf_fin (m : EReal) : sumOf s x n m = ∑ k : Fin n, x k.val * wt (s k.val) m := Finset.sum_range _
end Scan

/-- The mean of the values `v` under the weights of the scores `s`. -/
def meanOf {n : ℕ} (s v : Fin n → EReal) : EReal :=
  Ideal.div (∑ k : Fin n, v k * wt (s k) (Finset.univ.fold max (⊥ : EReal) s)) (∑ k : Fin n, wt (s k) (Finset.univ.fold max (⊥ : EReal) s))

/-- The quotient of a weighted sum by the weighted sum of ones is the mean. -/
theorem meanOf_of (n : ℕ) (s x o : ℕ → EReal) (ho : ∀ k : Fin n, o k.val = 1) : Ideal.div (sumOf s x n (topOf s n)) (sumOf s o n (topOf s n))
    = meanOf (fun k : Fin n => s k.val) (fun k : Fin n => x k.val) := by
  unfold meanOf
  rw [sumOf_fin, sumOf_fin, topOf_fin]
  exact congrArg₂ Ideal.div rfl (Finset.sum_congr rfl fun k _ => by rw [ho k, one_mul])
end Cert.Proof.Shared
end
-- ==== Proof.AttnSample.Pays.lean ====
/-
  The attention body's values read at an index, over the reals: scores, maxima, weights and the accumulator's steps.
-/
module
public import proofs.«01_k».proof.Proof.AttnSample.Body
public import proofs.«01_k».proof.Proof.Shared.Softmax
public import Idealize.ShloMosaic.Lib.Pointwise
@[expose] public section
noncomputable section
namespace Cert.AttnSampleIdeal.Hand
open Cert.AttnSampleIdeal Cert.AttnSampleIdeal.Gen Cert.Proof.Shared
open Idealize.ShloMosaic Idealize.ShloMosaic.TcCoe

/-- The mask's value is the bottom. -/
theorem mask_bot : (Named.named κ "mask" 0xF149F2CA#32 : Ideal .f32) = (⊥ : EReal) := by
  rfl
/-- The greatest of a chunk's scores. -/
theorem max_apply (S : FVec Ideal S512x512 .f32) (p : Fin 512) :
    multiReduction .maximumf [0] S512 S 0xFF800000#32 reduces_S512x512_S512 (.inl rfl) rfl (ix1 p) = (Finset.univ : Finset (Fin 512)).fold max (⊥ : EReal) (fun k => S (ix2 k p)) := by
  pointwise []
  rfl
/-- A chunk's scores. -/
theorem pay25_apply (q k : FVec Ideal S512x192 .bf16) (x y : Fin 512) :
    (k0_pay25 (F := Ideal) q k : FVec Ideal S1x512x512 .f32) (ix3 0 x y) = ∑ d : Fin 192, k (ix2 x d) * q (ix2 y d) := by
  pointwise [k0_pay25]
/-- The last chunk's scores. -/
theorem pay31_apply (q : FVec Ideal S512x192 .bf16) (k : FVec Ideal S128x192 .bf16) (x : Fin 128) (y : Fin 512) :
    (k0_pay31 (F := Ideal) q k : FVec Ideal S1x128x512 .f32) (ix3 0 x y) = ∑ d : Fin 192, k (ix2 x d) * q (ix2 y d) := by
  pointwise [k0_pay31]
/-- The running maximum's step. -/
theorem pay5_apply (m : FVec Ideal S1x512 .f32) (S : FVec Ideal S1x512x512 .f32) (y : Fin 512) :
    (k0_pay5 (F := Ideal) m S : FVec Ideal S1x512 .f32) (ix2 0 y) = max (m (ix2 0 y)) ((Finset.univ : Finset (Fin 512)).fold max (⊥ : EReal) (fun k => S (ix3 0 k y))) := by
  pointwise [k0_pay5, k0_pay4]
  rfl
/-- The first maximum. -/
theorem pay21_apply (S : FVec Ideal S1x512x512 .f32) (y : Fin 512) :
    (k0_pay21 (F := Ideal) S : FVec Ideal S1x512 .f32) (ix2 0 y) = (Finset.univ : Finset (Fin 512)).fold max (⊥ : EReal) (fun k => S (ix3 0 k y)) := by
  pointwise [k0_pay21, k0_pay20, k0_pay19]
  rw [mask_bot]
  exact max_eq_right bot_le
/-- A chunk's weights. -/
theorem pay6_apply (m : FVec Ideal S1x512 .f32) (S : FVec Ideal S1x512x512 .f32) (x y : Fin 512) :
    (k0_pay6 (F := Ideal) m S : FVec Ideal S1x512x512 .bf16) (ix3 0 x y) = wt (S (ix3 0 x y)) (k0_pay5 (F := Ideal) m S (ix2 0 y)) := by
  unfold wt
  pointwise [k0_pay6, k0_pay4]
  rfl
/-- The first chunk's weights. -/
theorem pay22_apply (S : FVec Ideal S1x512x512 .f32) (x y : Fin 512) :
    (k0_pay23 (F := Ideal) (k0_pay22 (F := Ideal) S) : FVec Ideal S1x512x512 .bf16) (ix3 0 x y) = wt (S (ix3 0 x y)) (k0_pay21 (F := Ideal) S (ix2 0 y)) := by
  unfold wt
  pointwise [k0_pay23, k0_pay22, k0_pay20]
  rfl
/-- The factor that brings the accumulator to the new maximum. -/
theorem pay7_apply (m : FVec Ideal S1x512 .f32) (S : FVec Ideal S1x512x512 .f32) (y : Fin 512) :
    (k0_pay7 (F := Ideal) m S : FVec Ideal S1x512 .f32) (ix2 0 y) = wt (m (ix2 0 y)) (k0_pay5 (F := Ideal) m S (ix2 0 y)) := by
  unfold wt
  pointwise [k0_pay7]
  rfl
/-- The accumulator's step. -/
theorem pay3_apply (al : FVec Ideal S1x512 .f32) (acc : FVec Ideal S144x512 .f32) (vt : FVec Ideal S144x512 .bf16) (p : FVec Ideal S1x512x512 .bf16) (x : Fin 144) (y : Fin 512) :
    (k0_pay3 (F := Ideal) al acc vt p : FVec Ideal S144x512 .f32) (ix2 x y) = al (ix2 0 y) * acc (ix2 x y) + ∑ k : Fin 512, vt (ix2 x k) * p (ix3 0 k y) := by
  pointwise [k0_pay3]
/-- The last chunk's step. -/
theorem pay1_apply (m m' : FVec Ideal S1x512 .f32) (acc : FVec Ideal S144x512 .f32) (vt : FVec Ideal S144x128 .bf16) (p : FVec Ideal S1x128x512 .bf16) (x : Fin 144) (y : Fin 512) :
    (k0_pay1 (F := Ideal) m m' acc vt p : FVec Ideal S144x512 .f32) (ix2 x y) = wt (m (ix2 0 y)) (m' (ix2 0 y)) * acc (ix2 x y) + ∑ k : Fin 128, vt (ix2 x k) * p (ix3 0 k y) := by
  unfold wt
  pointwise [k0_pay1]
  rfl
/-- The output's block from the accumulator. -/
theorem pay2_apply (acc : FVec Ideal S144x512 .f32) (y : Fin 512) (v : Fin 128) :
    (k0_pay2 (F := Ideal) acc : FVec Ideal S512x128 .bf16) (ix2 y v) = Ideal.div (acc (ix2 ⟨v.val, by omega⟩ y)) (acc (ix2 128 y)) := by
  pointwise [k0_pay2]
/-- The last chunk's scores, the keys past the bound masked. -/
theorem pay33_apply (S : FVec Ideal S1x128x512 .f32) (x : Fin 128) (y : Fin 512) :
    (k0_pay33 (F := Ideal) S : FVec Ideal S128x512 .f32) (ix2 x y) = if x.val < 16 then S (ix3 0 x y) else (⊥ : EReal) := by
  have w : ∀ x : Fin 128, IntOp.cmpi .slt (BitVec.ofNat 32 x.val) 16#32 = if x.val < 16 then 1#1 else 0#1 := by decide
  pointwise [k0_pay33]
  rw [mask_bot, w]
  split
  · rfl
  · rfl
/-- The final maximum. -/
theorem pay34_apply (m : FVec Ideal S1x512 .f32) (S : FVec Ideal S1x128x512 .f32) (y : Fin 512) :
    (k0_pay34 (F := Ideal) m S : FVec Ideal S1x512 .f32) (ix2 0 y) = max (m (ix2 0 y)) ((Finset.univ : Finset (Fin 128)).fold max (⊥ : EReal) (fun k => k0_pay33 (F := Ideal) S (ix2 k y))) := by
  pointwise [k0_pay34]
  rfl
/-- The last chunk's weights. -/
theorem pay35_apply (m : FVec Ideal S1x512 .f32) (S : FVec Ideal S1x128x512 .f32) (x : Fin 128) (y : Fin 512) :
    (k0_pay35 (F := Ideal) m S : FVec Ideal S1x128x512 .bf16) (ix3 0 x y) = wt (k0_pay33 (F := Ideal) S (ix2 x y)) (k0_pay34 (F := Ideal) m S (ix2 0 y)) := by
  unfold wt
  pointwise [k0_pay35]
  rfl
/-- The query's block. -/
theorem pay15_apply (q : FVec Ideal S1x512x192 .bf16) (y : Fin 512) (d : Fin 192) :
    (k0_pay15 (F := Ideal) q : FVec Ideal S512x192 .bf16) (ix2 y d) = q (ix3 0 y d) := by
  pointwise [k0_pay15]
/-- The accumulator starts at nothing. -/
theorem pay16_apply (x : Fin 144) (y : Fin 512) : (k0_pay16 (F := Ideal) : FVec Ideal S144x512 .f32) (ix2 x y) = 0 := by
  pointwise [k0_pay16]
  first | done | rfl
end Cert.AttnSampleIdeal.Hand
end
-- ==== Proof.AttnSample.Stream.lean ====
/-
  The attention body's result: its running maximum and rescaled accumulator come to the weighted mean over all keys before the bound.
-/
module
public import proofs.«01_k».proof.Proof.AttnSample.Pays
@[expose] public section
noncomputable section
namespace Cert.AttnSampleIdeal.Hand
open Cert.AttnSampleIdeal Cert.AttnSampleIdeal.Gen Cert.Proof.Shared
open Idealize.ShloMosaic Idealize.ShloMosaic.TcCoe

variable (q : FVec Ideal S512x192 .bf16) (K : FVec Ideal S8704x192 .bf16) (VT : FVec Ideal S144x8704 .bf16)

/-- The score of key `k` for query `y`. -/
def sn (y : Fin 512) (k : ℕ) : EReal := ∑ d : Fin 192, K (ix2 ⟨k % 8704, Nat.mod_lt _ (by decide)⟩ d) * q (ix2 y d)
/-- Row `x` of the values at key `k`. -/
def vn (x : Fin 144) (k : ℕ) : EReal := VT (ix2 x ⟨k % 8704, Nat.mod_lt _ (by decide)⟩)

/-- A chunk's scores are the scores of its keys. -/
theorem sc_apply (j : ℕ) (a y : Fin 512) : (sc (F := Ideal) q K j : FVec Ideal S1x512x512 .f32) (ix3 0 a y) = sn q K y (512 * j + a.val) := pay25_apply q (kAt (F := Ideal) K j) a y
/-- The last scores. -/
theorem scLast_apply (a : Fin 128) (y : Fin 512) : (scLast (F := Ideal) q K : FVec Ideal S1x128x512 .f32) (ix3 0 a y) = sn q K y (8192 + a.val) := by
  refine (pay31_apply q (kLast (F := Ideal) K) a y).trans (Finset.sum_congr rfl fun d _ => congrArg (fun z : EReal => z * q (ix2 y d)) ?_)
  show K ((Rect.unit (s := S8704x192) ![8192, 0] S128x192.size inb_S8704x192_S128x192_8192_0).emb (ix2 a d)) = _
  congr 1
  funext i
  apply Fin.ext
  match i with
  | ⟨0, _⟩ => show 8192 + 1 * a.val = (8192 + a.val) % 8704; omega
  | ⟨1, _⟩ => show 0 + 1 * d.val = d.val; omega
/-- The last values. -/
theorem vLast_apply (x : Fin 144) (a : Fin 128) : (vLast (F := Ideal) VT : FVec Ideal S144x128 .bf16) (ix2 x a) = vn VT x (8192 + a.val) := by
  show VT ((Rect.unit (s := S144x8704) ![0, 8192] S144x128.size inb_S144x8704_S144x128_0_8192).emb (ix2 x a)) = _
  unfold vn
  congr 1
  funext i
  apply Fin.ext
  match i with
  | ⟨0, _⟩ => show 0 + 1 * x.val = x.val; omega
  | ⟨1, _⟩ => show 8192 + 1 * a.val = (8192 + a.val) % 8704; omega

/-- The running maximum is the maximum so far. -/
theorem mx_apply (y : Fin 512) : ∀ j : ℕ, (mx (F := Ideal) q K j : FVec Ideal S1x512 .f32) (ix2 0 y) = topOf (sn q K y) (512 * j + 512)
  | 0 => by
    refine (pay21_apply _ y).trans ?_
    rw [show (fun k : Fin 512 => (sc (F := Ideal) q K 0 : FVec Ideal S1x512x512 .f32) (ix3 0 k y)) = fun k : Fin 512 => sn q K y k.val from
      funext fun k => (sc_apply q K 0 k y).trans (by rw [Nat.mul_zero, Nat.zero_add])]
    exact (topOf_fin 512 (sn q K y)).symm
  | j + 1 => (pay5_apply _ _ y).trans (topOf_step 512 (sn q K y) (512 * (j + 1)) _ _ (mx_apply y j) (fun k => sc_apply q K (j + 1) k y))

/-- The weights of a chunk stand under the maximum so far. -/
theorem pr_apply (j : ℕ) (a y : Fin 512) : (pr (F := Ideal) q K j : FVec Ideal S1x512x512 .bf16) (ix3 0 a y)
    = wt (sn q K y (512 * j + a.val)) (topOf (sn q K y) (512 * j + 512)) := by
  match j with
  | 0 =>
    refine (pay22_apply _ a y).trans ?_
    rw [sc_apply]
    exact congrArg (wt _) (mx_apply q K y 0)
  | j + 1 =>
    refine (pay6_apply _ _ a y).trans ?_
    rw [sc_apply]
    exact congrArg (wt _) (mx_apply q K y (j + 1))

/-- The accumulator is the weighted sum so far, under the maximum so far. -/
theorem ac_apply (x : Fin 144) (y : Fin 512) : ∀ j : ℕ, (ac (F := Ideal) q K VT (j + 1) : FVec Ideal S144x512 .f32) (ix2 x y)
    = sumOf (sn q K y) (vn VT x) (512 * j + 512) (topOf (sn q K y) (512 * j + 512))
  | 0 => by
    refine (pay3_apply _ _ _ _ x y).trans ?_
    rw [show (ac (F := Ideal) q K VT 0 : FVec Ideal S144x512 .f32) (ix2 x y) = 0 from pay16_apply x y, mul_zero, zero_add]
    refine (Finset.sum_congr rfl fun k _ => ?_).trans (sumOf_fin 512 (sn q K y) (vn VT x) _).symm
    rw [pr_apply]
    show vn VT x (512 * 0 + k.val) * _ = _
    simp only [Nat.mul_zero, Nat.zero_add]
  | j + 1 => (pay3_apply _ _ _ _ x y).trans (sumOf_step 512 (sn q K y) (vn VT x) (512 * (j + 1)) _ _ _ _
      ((pay7_apply _ _ y).trans (congrArg₂ wt (mx_apply q K y j) (mx_apply q K y (j + 1)))) (ac_apply x y j) (fun _ => rfl) (fun k => pr_apply q K (j + 1) k y))

/-- The scores, masked past the bound. -/
def sm (y : Fin 512) (k : ℕ) : EReal := if k < 8208 then sn q K y k else ⊥

/-- The last chunk's scores are the masked ones. -/
theorem last_sm (a : Fin 128) (y : Fin 512) : (k0_pay33 (F := Ideal) (scLast (F := Ideal) q K) : FVec Ideal S128x512 .f32) (ix2 a y) = sm q K y (8192 + a.val) := by
  refine (pay33_apply _ a y).trans ?_
  rw [scLast_apply]
  exact if_congr (by omega) rfl rfl

/-- The final maximum, of the masked scores. -/
theorem top_sm (y : Fin 512) : (k0_pay34 (F := Ideal) (mx (F := Ideal) q K 15) (scLast (F := Ideal) q K) : FVec Ideal S1x512 .f32) (ix2 0 y) = topOf (sm q K y) (8192 + 128) :=
  (pay34_apply _ _ y).trans (topOf_step 128 (sm q K y) 8192 _ _
    ((mx_apply q K y 15).trans (topOf_before (sn q K y) 8208 8192 (by decide)).symm) (fun k => last_sm q K k y))

/-- The final accumulator is the weighted sum over the keys before the bound. -/
theorem acLast_apply (x : Fin 144) (y : Fin 512) : (acLast (F := Ideal) q K VT : FVec Ideal S144x512 .f32) (ix2 x y)
    = sumOf (sn q K y) (vn VT x) 8208 (topOf (sn q K y) 8208) := by
  have eT : topOf (sm q K y) 8192 = topOf (sn q K y) 8192 := topOf_before (sn q K y) 8208 8192 (by decide)
  have eS : ∀ m, sumOf (sm q K y) (vn VT x) 8192 m = sumOf (sn q K y) (vn VT x) 8192 m := sumOf_before (sn q K y) (vn VT x) 8208 8192 (by decide)
  refine (pay1_apply _ _ _ _ _ x y).trans ((sumOf_step 128 (sm q K y) (vn VT x) 8192 _ _ _ _
    (congrArg₂ wt ((mx_apply q K y 15).trans eT.symm) (top_sm q K y)) ?_ (fun k => vLast_apply VT x k)
    (fun k => (pay35_apply _ _ k y).trans (congrArg₂ wt (last_sm q K k y) (top_sm q K y)))).trans ?_)
  · rw [eS, eT]
    exact ac_apply q K VT x y 15
  · have e : topOf (sm q K y) (8192 + 128) = topOf (sn q K y) 8208 := topOf_mask (sn q K y) 8208 8320 (by decide)
    rw [e]
    exact sumOf_mask (sn q K y) (vn VT x) 8208 8320 (by decide) _

/-- The block's word at query `y` and column `v`, where row 128 of the values is ones: the weighted mean. -/
theorem blockOut_apply (q : FVec Ideal S1x512x192 .bf16) (hone : ∀ k : Fin 8208, vn VT 128 k.val = 1) (y : Fin 512) (v : Fin 128) :
    (blockOut (F := Ideal) q K VT : FVec Ideal S512x128 .bf16) (ix2 y v)
      = meanOf (fun k : Fin 8208 => sn (k0_pay15 (F := Ideal) q) K y k.val) (fun k : Fin 8208 => vn VT ⟨v.val, by omega⟩ k.val) := by
  refine (pay2_apply _ y v).trans ?_
  refine (congrArg₂ Ideal.div (acLast_apply (k0_pay15 (F := Ideal) q) K VT ⟨v.val, by omega⟩ y) (acLast_apply (k0_pay15 (F := Ideal) q) K VT 128 y)).trans ?_
  exact meanOf_of 8208 _ _ _ hone
end Cert.AttnSampleIdeal.Hand
end
-- ==== Proof.Shared.Attention.lean ====
/-
  The attention's formula: a row's scores against a head's keys, and the mean of the head's values under their weights.
-/
module
public import proofs.«01_k».proof.Proof.Shared.Softmax
public import Idealize.ShloMosaic.Lib.Pointwise
@[expose] public section
noncomputable section
namespace Cert.Proof.Shared
open Idealize.ShloMosaic

/-- The score of key `j` for query row `r` in head `h`. -/
def scoreAt (q k : FVec Ideal ⟨3, ![16, 25600, 192]⟩ .bf16) (h : Fin 16) (r : Fin 16896) (j : Fin 16400) : EReal :=
  ∑ d : Fin 192, k (ix3 h ⟨j.val, lt_trans j.isLt (by decide)⟩ d) * q (ix3 h ⟨r.val, lt_trans r.isLt (by decide)⟩ d)

/-- The head of a column of the result, -/
def headOf (c : Fin 2048) : Fin 16 := ⟨c.val / 128, by omega⟩
/-- and its place in the head. -/
def placeOf (c : Fin 2048) : Fin 128 := ⟨c.val % 128, Nat.mod_lt _ (by decide)⟩

/-- Row `j` of a head's values, at a place. -/
def valueAt (vt : FVec Ideal ⟨3, ![16, 144, 25600]⟩ .bf16) (h : Fin 16) (v : Fin 128) (j : Fin 16400) : EReal :=
  vt (ix3 h ⟨v.val, lt_trans v.isLt (by decide)⟩ ⟨j.val, lt_trans j.isLt (by decide)⟩)

/-- The result's word: the weighted mean in the rows that have queries, what was there before in the others. -/
def attnAt (q k : FVec Ideal ⟨3, ![16, 25600, 192]⟩ .bf16) (vt : FVec Ideal ⟨3, ![16, 144, 25600]⟩ .bf16) (o : FVec Ideal ⟨2, ![25600, 2048]⟩ .bf16)
    (r : Fin 25600) (c : Fin 2048) : EReal :=
  if h : r.val < 16896 then meanOf (scoreAt q k (headOf c) ⟨r.val, h⟩) (valueAt vt (headOf c) (placeOf c)) else o (ix2 r c)

/-- The word of two. -/
theorem two_bits : Ideal.ofBits .f32 0x40000000#32 = ((2 : ℝ) : EReal) := by
  simp [Ideal.ofBits, Ideal.ieee, -EReal.coe_mul]; norm_num

/-- Two to a power. -/
theorem pow_two (y : EReal) : Ideal.pow ((2 : ℝ) : EReal) y = Ideal.exp2 y := by
  induction y using EReal.rec with
  | bot =>
    show (if (2 : ℝ) < 0 then (⊥ : EReal) else if (1 : ℝ) < 2 then 0 else if (2 : ℝ) = 1 then 1 else ⊤) = _
    rw [if_neg (by norm_num), if_pos (by norm_num), Ideal.exp2_bot]
  | top =>
    show (if (2 : ℝ) < 0 then (⊥ : EReal) else if (1 : ℝ) < 2 then ⊤ else if (2 : ℝ) = 1 then 1 else 0) = _
    rw [if_neg (by norm_num), if_pos (by norm_num)]
    rfl
  | coe a => rfl
end Cert.Proof.Shared
end
-- ==== Proof.Shared.AttentionSample.lean ====
/-
  The formula of the sample's attention: as the prompt's, on the rows that stand after the prompt's; and what its precondition
  says, in words.
-/
module
public import proofs.«01_k».proof.Proof.Shared.Attention
public import proofs.«01_k».proof.Pre_ones_row_sample
public import Idealize.ShloMosaic.Lib.ReduceAll
public import Idealize.ShloMosaic.Lib.WordCmp
public import Idealize.ShloMosaic.Lib.IdealHost
@[expose] public section
noncomputable section
namespace Cert.Proof.Shared
open Idealize.ShloMosaic

/-- Row `j` of the sample, among all rows. -/
def afterPrompt (j : ℕ) (h : j < 8704) : Fin 25600 := ⟨16896 + j, by omega⟩

/-- The score of the sample's key `j` for its query row `r` in head `h`. -/
def scoreAfter (q k : FVec Ideal ⟨3, ![16, 25600, 192]⟩ .bf16) (h : Fin 16) (r : Fin 8704) (j : Fin 8208) : EReal :=
  ∑ d : Fin 192, k (ix3 h (afterPrompt j.val (lt_trans j.isLt (by decide))) d) * q (ix3 h (afterPrompt r.val r.isLt) d)

/-- Row `j` of a head's values in the sample, at a place. -/
def valueAfter (vt : FVec Ideal ⟨3, ![16, 144, 25600]⟩ .bf16) (h : Fin 16) (v : Fin 128) (j : Fin 8208) : EReal :=
  vt (ix3 h ⟨v.val, lt_trans v.isLt (by decide)⟩ (afterPrompt j.val (lt_trans j.isLt (by decide))))

/-- The result's word: what was there before in the prompt's rows, the weighted mean in the sample's. -/
def attnAfter (q k : FVec Ideal ⟨3, ![16, 25600, 192]⟩ .bf16) (vt : FVec Ideal ⟨3, ![16, 144, 25600]⟩ .bf16) (o : FVec Ideal ⟨2, ![25600, 2048]⟩ .bf16)
    (r : Fin 25600) (c : Fin 2048) : EReal :=
  if h : r.val < 16896 then o (ix2 r c) else meanOf (scoreAfter q k (headOf c) ⟨r.val - 16896, by omega⟩) (valueAfter vt (headOf c) (placeOf c))

section Pre
open Cert.Pre_ones_row_sample Cert.Pre_ones_row_sample.Facts
variable [Cert.Pre_ones_row_sample.Facts]

/-- The precondition's comparison at an index. -/
theorem ones_after_apply (vt : FVec Ideal S16x144x25600 .bf16) (h : Fin 16) (j : Fin 8208) :
    (cmpf .oeq (extf .f32 (shapeCast S16x8208 (extractStridedSlice S16x1x8208 ![0, 128, 16896] vt slices_S16x144x25600_S16x1x8208_0_128_16896)
      shapeCasts_S16x1x8208_S16x8208) bitsLt_bf16_f32) (broadcastInDim S16x8208 ![] bcast_S_S16x8208 (constant S_ .f32 0x3F800000#32)) : IVec S16x8208 1) (ix2 h j)
      = Ideal.cmp .oeq (vt (ix3 h 128 (afterPrompt j.val (lt_trans j.isLt (by decide))))) 1 := by
  pointwise []
  rfl

/-- Under the precondition row 128 of the values is ones at the sample's keys. -/
theorem ones_after {a0 a1 : FVec Ideal S16x25600x192 .bf16} {vt : FVec Ideal S16x144x25600 .bf16} {a3 : FVec Ideal S25600x2048 .bf16}
    (e : Cert.Pre_ones_row_sample.fn a0 a1 vt a3 = fun _ => 1#1) (h : Fin 16) (j : Fin 8208) :
    vt (ix3 h 128 (afterPrompt j.val (lt_trans j.isLt (by decide)))) = (1 : EReal) := by
  have hj := congrFun e (fun i => i.elim0)
  unfold Cert.Pre_ones_row_sample.fn at hj
  haveI : Subsingleton S_.Idx := ⟨fun a b => funext fun i => i.elim0⟩
  have hx := (ones_after_apply vt h j).symm.trans (Host.reduce_andi_all _ _ _ _ (fun i => i.elim0) hj (ix2 h j))
  by_contra hne
  simp [Ideal.cmp, hne] at hx
end Pre
end Cert.Proof.Shared
end
-- ==== Proof.AttnSample.Value.lean ====
/-
  The sample's attention: its result array is `attnAfter` of the arguments at every index, where row 128 of the values is ones.
-/
module
public import proofs.«01_k».proof.Proof.AttnSample.Frame
public import proofs.«01_k».proof.Proof.AttnSample.Stream
public import proofs.«01_k».proof.Proof.Shared.AttentionSample
public import Idealize.ShloMosaic.Lib.Pipeline.ValueKit
@[expose] public section
noncomputable section
namespace Cert.AttnSampleIdeal.Hand
open Cert.AttnSampleIdeal Cert.AttnSampleIdeal.Gen Cert.Proof.Shared
open Idealize.ShloMosaic Idealize.ShloMosaic.TcCoe
open Idealize.SL.Sem
open Idealize.ShloMosaic.Pipeline (Dat Cfg Window)

variable (m : (ℓ : Loc nD τ sig) → Buf (Elt Ideal) ℓ)

/-- The head, as a word. -/
theorem head_word (t : Fin grid0.N) : (BitVec.ofNat 32 (grid0.coords t 0).val).toNat = t.val / 17 := by
  have ht : t.val < 272 := t.isLt.trans_eq N_0
  rw [BitVec.toNat_ofNat, coords_head, Nat.mod_eq_of_lt (by omega)]
/-- The block of rows, as a word. -/
theorem rows_word (t : Fin grid0.N) : (BitVec.ofNat 32 (grid0.coords t 1).val).toNat = t.val % 17 := by
  rw [BitVec.toNat_ofNat, coords_rows, Nat.mod_eq_of_lt (by omega)]

/-- The block of rows among all rows: the prompt has 33. -/
theorem place_word (t : Fin grid0.N) : (33#32 + BitVec.ofNat 32 (grid0.coords t 1).val).toNat = 33 + t.val % 17 := by
  rw [BitVec.toNat_add, rows_word]
  show (33 + t.val % 17) % 2 ^ 32 = _
  omega

/-- Query `p` of a point's block, in the array. -/
def rowHere (t : Fin cfg0.N) (p : Fin 512) : Fin 8704 := ⟨t.val % 17 * 512 + p.val, by omega⟩
/-- Column `v` of a point's block, in the array. -/
def colHere (t : Fin cfg0.N) (v : Fin 128) : Fin 2048 := ⟨t.val / 17 * 128 + v.val, by have ht : t.val < 272 := t.isLt.trans_eq N_0; omega⟩

/-- The queries' block at a point. -/
theorem iblk_q (c : Dev nD) (t : Fin cfg0.N) (p : Fin 512) (d : Fin 192) : (iblk m c (0 : Fin 2) t : S1x512x192.Idx → Elt Ideal .bf16) (ix3 0 p d)
    = m ((c.tc : Thread nD τ).loc main_arg0) (ix3 (head t) (afterPrompt (rowHere t p).val (rowHere t p).isLt) d) := by
  unfold iblk
  refine (View.read_apply _ _).trans ?_
  refine (congrFun (V_arg0 m c) _).trans (congrArg (m ((c : Thread nD τ).loc main_arg0)) ?_)
  have hi : (cfg0.win (0 : Fin 2)).index t = ![t.val / 17, 33 + t.val % 17, 0] := by
    show ![(BitVec.ofNat 32 (grid0.coords t 0).val).toNat, (33#32 + BitVec.ofNat 32 (grid0.coords t 1).val).toNat, 0] = _
    rw [place_word, head_word]
  funext a
  refine Fin.ext ((Window.rect_emb_val (cfg0.win (0 : Fin 2)) t (ix3 0 p d) a).trans ?_)
  rw [hi]
  match a with
  | ⟨0, _⟩ => show t.val / 17 * 1 + 0 = (head t).val; rw [head_val]; omega
  | ⟨1, _⟩ => show (33 + t.val % 17) * 512 + p.val = 16896 + (t.val % 17 * 512 + p.val); omega
  | ⟨2, _⟩ => show 0 * 192 + d.val = d.val; omega

/-- Row 128 of the values is ones at the keys before the bound. -/
def OnesRow (vt : FVec Ideal S16x144x25600 .bf16) : Prop := ∀ (h : Fin 16) (j : Fin 8208), vt (ix3 h 128 (afterPrompt j.val (lt_trans j.isLt (by decide)))) = (1 : EReal)

/-- A block's word is the formula's. -/
theorem outAt_apply (c : Dev nD) (hone : OnesRow (m ((c.tc : Thread nD τ).loc main_arg2))) (t : Fin cfg0.N) (p : Fin 512) (v : Fin 128) :
    (outAt m c t : FVec Ideal S512x128 .bf16) (ix2 p v) = meanOf (scoreAfter (m ((c.tc : Thread nD τ).loc main_arg0)) (m ((c.tc : Thread nD τ).loc main_arg1)) (head t) (rowHere t p))
      (valueAfter (m ((c.tc : Thread nD τ).loc main_arg2)) (head t) v) := by
  have hv : ∀ (x : Fin 144) (j : Fin 8208), vn (vals m c (head t)) x j.val
      = m ((c.tc : Thread nD τ).loc main_arg2) (ix3 (head t) x (afterPrompt j.val (lt_trans j.isLt (by decide)))) := by
    intro x j
    unfold vn vals headV
    refine (congrFun (V_arg2 m c) _).trans (congrArg (fun z : Fin 25600 => m ((c.tc : Thread nD τ).loc main_arg2) (ix3 (head t) x z)) (Fin.ext ?_))
    exact congrArg (16896 + ·) (Nat.mod_eq_of_lt (lt_trans j.isLt (by decide)))
  refine (blockOut_apply (keys m c (head t)) (vals m c (head t)) (iblk m c (0 : Fin 2) t) (fun j => (hv 128 j).trans (hone (head t) j)) p v).trans ?_
  refine congrArg₂ meanOf (funext fun j => ?_) (funext fun j => hv _ j)
  refine Finset.sum_congr rfl fun d _ => congrArg₂ (fun x y : EReal => x * y) ?_ ?_
  · unfold keys headK
    refine (congrFun (V_arg1 m c) _).trans (congrArg (fun z : Fin 25600 => m ((c.tc : Thread nD τ).loc main_arg1) (ix3 (head t) z d)) (Fin.ext ?_))
    exact congrArg (16896 + ·) (Nat.mod_eq_of_lt (lt_trans j.isLt (by decide)))
  · exact (pay15_apply _ p d).trans (iblk_q m c t p d)

/-- The output's block index at a point. -/
theorem out_index (t : Fin cfg0.N) : (cfg0.win (1 : Fin 2)).index t = ![33 + t.val % 17, t.val / 17] := by
  show ![(33#32 + BitVec.ofNat 32 (grid0.coords t 1).val).toNat, (BitVec.ofNat 32 (grid0.coords t 0).val).toNat] = _
  rw [place_word, head_word]

/-- The kernel's result array: `attnAfter` of the arguments, at every index. -/
theorem array_eq (c : Dev nD) (hone : OnesRow (m ((c.tc : Thread nD τ).loc main_arg2))) : outArr m c = (fun y : S25600x2048.Idx =>
    attnAfter (m ((c.tc : Thread nD τ).loc main_arg0)) (m ((c.tc : Thread nD τ).loc main_arg1)) (m ((c.tc : Thread nD τ).loc main_arg2))
      (m ((c.tc : Thread nD τ).loc main_arg3)) (y 0) (y 1)) := by
  unfold outArr
  refine ((dats m 0 c).arrAt_eq_of_coversWhere (1 : Fin 2) (fun y : S25600x2048.Idx =>
    attnAfter (m ((c.tc : Thread nD τ).loc main_arg0)) (m ((c.tc : Thread nD τ).loc main_arg1)) (m ((c.tc : Thread nD τ).loc main_arg2))
      (m ((c.tc : Thread nD τ).loc main_arg3)) (y 0) (y 1)) (P := fun y : S25600x2048.Idx => 33 ≤ (y 0).val / 512)
      (fun β => 33 ≤ β (0 : Fin 2)) (by decide +kernel) (fun t _ y => ?_) (fun j => Iff.rfl)).trans ?_
  · obtain ⟨p, v, rfl⟩ : ∃ (p : Fin 512) (v : Fin 128), y = ix2 p v := ⟨y 0, y 1, eq_ix2 y⟩
    have e0 : ((cfg0.win (1 : Fin 2)).rect t).emb (ix2 p v) (0 : Fin 2) = afterPrompt (rowHere t p).val (rowHere t p).isLt :=
      Fin.ext ((Window.rect_emb_val (cfg0.win (1 : Fin 2)) t (ix2 p v) (0 : Fin 2)).trans (by rw [out_index]; show (33 + t.val % 17) * 512 + p.val = 16896 + (t.val % 17 * 512 + p.val); omega))
    have e1 : ((cfg0.win (1 : Fin 2)).rect t).emb (ix2 p v) (1 : Fin 2) = colHere t v :=
      Fin.ext ((Window.rect_emb_val (cfg0.win (1 : Fin 2)) t (ix2 p v) (1 : Fin 2)).trans (by rw [out_index]; rfl))
    refine Eq.trans ?_ (congrArg₂ (fun (r : Fin 25600) (s : Fin 2048) => attnAfter _ _ _ _ r s) e0.symm e1.symm)
    refine (congrFun (after_1 m c t) (ix2 p v)).trans ((outAt_apply m c hone t p v).trans ?_)
    unfold attnAfter
    rw [dif_neg (show ¬ (afterPrompt (rowHere t p).val (rowHere t p).isLt).val < 16896 by unfold afterPrompt; dsimp only; omega)]
    have eh : headOf (colHere t v) = head t := Fin.ext (by rw [head_val]; show (t.val / 17 * 128 + v.val) / 128 = _; omega)
    have ep : placeOf (colHere t v) = v := Fin.ext (by show (t.val / 17 * 128 + v.val) % 128 = _; omega)
    have er : (⟨(afterPrompt (rowHere t p).val (rowHere t p).isLt).val - 16896, by unfold afterPrompt; dsimp only; omega⟩ : Fin 8704) = rowHere t p :=
      Fin.ext (show 16896 + (rowHere t p).val - 16896 = _ by omega)
    rw [eh, ep, er]
  · funext y
    obtain ⟨r, s, rfl⟩ : ∃ (r : Fin 25600) (s : Fin 2048), y = ix2 r s := ⟨y 0, y 1, eq_ix2 y⟩
    show (if 33 ≤ r.val / 512 then attnAfter _ _ _ _ r s else V m c main_v0 (ix2 r s)) = attnAfter _ _ _ _ r s
    split
    · rfl
    · rw [V_out]
      unfold attnAfter
      rw [dif_pos (by omega)]
end Cert.AttnSampleIdeal.Hand
end
-- ==== Proof.AttnSampleRef.Value.lean ====
/-
  The reference of the sample's attention read at an index: its result is `attnAfter` of the arguments.
-/
module
public import proofs.«01_k».proof.Proof.Gen.AttnSampleReferenceIdeal.Run
public import proofs.«01_k».proof.Proof.Shared.AttentionSample
@[expose] public section
noncomputable section

namespace Cert.AttnSampleReferenceIdeal.Value
open Cert.AttnSampleReferenceIdeal Cert.AttnSampleReferenceIdeal.Gen Cert.Proof.Shared
open Idealize.ShloMosaic Idealize.ShloMosaic.TcCoe Idealize.SL.Sem

/-- The reference's scores, -/
def scores (q k : FVec Ideal S16x25600x192 .bf16) : FVec Ideal S16x8704x8208 .f32 :=
  Host.dotGeneral dot_S16x8704x192_S16x8208x192_S16x8704x8208_2_2_1_1_0_0 none
    (extf .f32 (extractStridedSlice S16x8704x192 ![0, 16896, 0] q slices_S16x25600x192_S16x8704x192_0_16896_0) bitsLt_bf16_f32)
    (extf .f32 (extractStridedSlice S16x8208x192 ![0, 16896, 0] k slices_S16x25600x192_S16x8208x192_0_16896_0) bitsLt_bf16_f32)

/-- their greatest in each row, -/
def tops (s : FVec Ideal S16x8704x8208 .f32) : FVec Ideal S16x8704 .f32 :=
  Host.reduce FloatOps.maximumf s (constant S_ .f32 0xFF800000#32) reducesTo_S16x8704x8208_S16x8704_d2 h_S_

/-- their weights, -/
def weights (s : FVec Ideal S16x8704x8208 .f32) (M : FVec Ideal S16x8704 .f32) : FVec Ideal S16x8704x8208 .f32 :=
  Host.powf (broadcastInDim S16x8704x8208 ![] bcast_S_S16x8704x8208 (constant S_ .f32 0x40000000#32))
    (subf s (broadcastInDim S16x8704x8208 ![0, 1, 2] bcast_S16x8704x1_S16x8704x8208_0_1_2 (broadcastInDim S16x8704x1 ![0, 1] bcast_S16x8704_S16x8704x1_0_1 M)))

/-- the weighted means of the values, -/
def means (p : FVec Ideal S16x8704x8208 .f32) (vt : FVec Ideal S16x144x25600 .bf16) : FVec Ideal S16x8704x128 .f32 :=
  Host.divf (Host.dotGeneral dot_S16x8704x8208_S16x128x8208_S16x8704x128_2_2_1_1_0_0 none p
      (extf .f32 (extractStridedSlice S16x128x8208 ![0, 0, 16896] vt slices_S16x144x25600_S16x128x8208_0_0_16896) bitsLt_bf16_f32))
    (broadcastInDim S16x8704x128 ![0, 1, 2] bcast_S16x8704x1_S16x8704x128_0_1_2 (broadcastInDim S16x8704x1 ![0, 1] bcast_S16x8704_S16x8704x1_0_1
      (Host.reduceAdd p (constant S_ .f32 0x00000000#32) reducesTo_S16x8704x8208_S16x8704_d2 h_S_)))

/-- and the result laid out, after what was there before. -/
def laid (o : FVec Ideal S16x8704x128 .f32) (prev : FVec Ideal S25600x2048 .bf16) : FVec Ideal S25600x2048 .bf16 :=
  concatenate S25600x2048 0 [⟨S16896x2048, (extractStridedSlice S16896x2048 ![0, 0] prev slices_S25600x2048_S16896x2048_0_0)⟩,
    ⟨S8704x2048, (truncf .bf16 (shapeCast S8704x2048 (transpose S8704x16x128 [1, 0, 2] o transposes_S16x8704x128_S8704x16x128_1_0_2)
    shapeCasts_S8704x16x128_S8704x2048) bitsLt_bf16_f32)⟩] concatenates_S16896x2048_S8704x2048_S25600x2048_d0

/-- A score. -/
theorem scores_apply (q k : FVec Ideal S16x25600x192 .bf16) (h : Fin 16) (r : Fin 8704) (j : Fin 8208) :
    scores q k (ix3 h r j) = scoreAfter q k h r j := by
  unfold scoreAfter
  pointwise [scores]
  exact Finset.sum_congr (M := Ideal .f32) rfl fun d _ => mul_comm (G := EReal) _ _

/-- A row's greatest score. -/
theorem tops_apply (s : FVec Ideal S16x8704x8208 .f32) (h : Fin 16) (r : Fin 8704) :
    tops s (ix2 h r) = (Finset.univ : Finset (Fin 8208)).fold max (⊥ : EReal) (fun j => s (ix3 h r j)) := by
  pointwise [tops]
  rfl

/-- A weight. -/
theorem weights_apply (s : FVec Ideal S16x8704x8208 .f32) (M : FVec Ideal S16x8704 .f32) (h : Fin 16) (r : Fin 8704) (j : Fin 8208) :
    weights s M (ix3 h r j) = wt (s (ix3 h r j)) (M (ix2 h r)) := by
  unfold wt
  refine Eq.trans ?_ (pow_two _)
  pointwise [weights]
  rw [two_bits]

/-- A mean. -/
theorem means_apply (p : FVec Ideal S16x8704x8208 .f32) (vt : FVec Ideal S16x144x25600 .bf16) (h : Fin 16) (r : Fin 8704) (v : Fin 128) :
    means p vt (ix3 h r v) = Ideal.div (∑ j : Fin 8208, valueAfter vt h v j * p (ix3 h r j)) (∑ j : Fin 8208, p (ix3 h r j)) := by
  unfold valueAfter
  pointwise [means]
  exact congrArg₂ Ideal.div (Finset.sum_congr (M := Ideal .f32) rfl fun j _ => mul_comm (G := EReal) _ _) rfl

/-- The layout at an index. -/
theorem laid_apply (o : FVec Ideal S16x8704x128 .f32) (prev : FVec Ideal S25600x2048 .bf16) (r : Fin 25600) (c : Fin 2048) :
    laid o prev (ix2 r c) = if h : r.val < 16896 then prev (ix2 r c) else o (ix3 (headOf c) ⟨r.val - 16896, by omega⟩ (placeOf c)) := by
  pointwise [laid]
  rfl

/-- The reference's expression, at every index. -/
theorem expr_eq (q k : FVec Ideal S16x25600x192 .bf16) (vt : FVec Ideal S16x144x25600 .bf16) (prev : FVec Ideal S25600x2048 .bf16) :
    laid (means (weights (scores q k) (tops (scores q k))) vt) prev = fun y : S25600x2048.Idx => attnAfter q k vt prev (y 0) (y 1) := by
  funext y
  obtain ⟨r, c, rfl⟩ : ∃ (r : Fin 25600) (c : Fin 2048), y = ix2 r c := ⟨y 0, y 1, eq_ix2 y⟩
  rw [laid_apply]
  show _ = attnAfter q k vt prev r c
  unfold attnAfter
  refine dite_congr rfl (fun _ => rfl) (fun h => ?_)
  have hs : ∀ j, weights (scores q k) (tops (scores q k)) (ix3 (headOf c) ⟨r.val - 16896, by omega⟩ j)
      = wt (scoreAfter q k (headOf c) ⟨r.val - 16896, by omega⟩ j) ((Finset.univ : Finset (Fin 8208)).fold max (⊥ : EReal) (scoreAfter q k (headOf c) ⟨r.val - 16896, by omega⟩)) := fun j =>
    (weights_apply _ _ _ _ j).trans (congrArg₂ wt (scores_apply q k _ _ j) ((tops_apply _ _ _).trans
      (congrArg (fun f : Fin 8208 → EReal => (Finset.univ : Finset (Fin 8208)).fold max (⊥ : EReal) f) (funext fun j => scores_apply q k _ _ j))))
  refine (means_apply _ _ _ _ _).trans ?_
  unfold meanOf
  exact congrArg₂ Ideal.div (Finset.sum_congr rfl fun j _ => congrArg (fun z : EReal => valueAfter vt (headOf c) (placeOf c) j * z) (hs j)) (Finset.sum_congr rfl fun j _ => hs j)

end Cert.AttnSampleReferenceIdeal.Value
end
-- ==== Proof.Shared.Formula.lean ====
/-
  The mathematics both programs compute, at one index of the result. `rowAt` is the row of `xn` that row `r` of the
  result is made from, `proj` that row times one expert's matrix, `gated` the silu gate, `upAt` the result's entry.
  The kernel's module and the reference's module each prove their result to be `upAt`; `downAt` is the down
  projection's entry, `ffnAt` the dense block's; `mmResAt` is the entry of a projection into the residual stream, `mmNormAt`
  that of a projection out of the normed stream.
-/
module

public import Idealize.ShloMosaic.Lib.Pointwise

@[expose] public section

noncomputable section

namespace Cert.Proof.Shared

open Idealize.ShloMosaic

/-- The row of `xn` named for row `r` of the result (clamped, so that it is a row whatever the word is). -/
def rowAt (src : IVec ⟨3, ![104, 1, 512]⟩ 32) (r : Fin 53248) : Fin 25600 :=
  ⟨min (src (ix3 ⟨r.val / 512, by omega⟩ 0 ⟨r.val % 512, by omega⟩)).toNat 25599, by omega⟩

/-- The expert of row `r`'s tile (clamped likewise). -/
def expertOf (te : IVec ⟨1, ![104]⟩ 32) (r : Fin 53248) : Fin 8 :=
  ⟨min (te (ix1 ⟨r.val / 512, by omega⟩)).toNat 7, by omega⟩

/-- Entry `(r, q)` of the gathered rows times expert `e`'s matrix. -/
def proj (xn : FVec Ideal ⟨2, ![25600, 2048]⟩ .f32) (src : IVec ⟨3, ![104, 1, 512]⟩ 32) (w : FVec Ideal ⟨3, ![8, 2048, 7168]⟩ .bf16)
    (e : Fin 8) (r : Fin 53248) (q : Fin 7168) : Ideal .f32 :=
  ∑ k : Fin 2048, xn (ix2 (rowAt src r) k) * w (ix3 e k q)

/-- `silu a * b`. -/
def gated (a b : Ideal .f32) : Ideal .f32 := a * Ideal.div 1 (1 + Ideal.exp (-a)) * b

/-- Entry `(r, q)` of the result: the gated product at the tile's expert, and 0 in a tile past the used ones. -/
def upAt (xn : FVec Ideal ⟨2, ![25600, 2048]⟩ .f32) (src : IVec ⟨3, ![104, 1, 512]⟩ 32) (wg wu : FVec Ideal ⟨3, ![8, 2048, 7168]⟩ .bf16)
    (te : IVec ⟨1, ![104]⟩ 32) (nu : IVec ⟨1, ![1]⟩ 32) (r : Fin 53248) (q : Fin 7168) : Ideal .f32 :=
  if (BitVec.ofNat 32 (r.val / 512)).slt (nu (ix1 0)) = true then
    gated (proj xn src wg (expertOf te r) r q) (proj xn src wu (expertOf te r) r q)
  else 0

/-- Entry `(r, q)` of the down projection: row `r` times the tile's expert's matrix, and 0 in a tile past the used ones. -/
def downAt (act : FVec Ideal ⟨2, ![53248, 7168]⟩ .bf16) (wd : FVec Ideal ⟨3, ![8, 7168, 2048]⟩ .bf16)
    (te : IVec ⟨1, ![104]⟩ 32) (nu : IVec ⟨1, ![1]⟩ 32) (r : Fin 53248) (q : Fin 2048) : Ideal .f32 :=
  if (BitVec.ofNat 32 (r.val / 512)).slt (nu (ix1 0)) = true then
    ∑ k : Fin 7168, act (ix2 r k) * wd (ix3 (expertOf te r) k q)
  else 0

/-- Entry `(r, q)` of a projection into the residual stream: the residual plus row `r` of `a` times the matrix. -/
def mmResAt {K : ℕ} (a : FVec Ideal ⟨2, ![25600, K]⟩ .f32) (w : FVec Ideal ⟨2, ![K, 2048]⟩ .bf16) (h : FVec Ideal ⟨2, ![25600, 2048]⟩ .f32)
    (r : Fin 25600) (q : Fin 2048) : Ideal .f32 :=
  h (ix2 r q) + ∑ k : Fin K, a (ix2 r k) * w (ix2 k q)

/-- Entry `(r, k)` of the normed residual stream: the row over the root of its mean square, times the gain. -/
def normedAt (h : FVec Ideal ⟨2, ![25600, 2048]⟩ .f32) (g : FVec Ideal ⟨1, ![2048]⟩ .f32) (r : Fin 25600) (k : Fin 2048) : Ideal .f32 :=
  h (ix2 r k) * Ideal.rsqrt (Ideal.div (∑ j : Fin 2048, h (ix2 r j) * h (ix2 r j)) (Scalar.ofBits .f32 0x45000000#32 : Ideal .f32) + (Scalar.ofBits .f32 0x358637BD#32 : Ideal .f32)) * g (ix1 k)

/-- Entry `(r, q)` of a projection out of the normed residual stream: row `r` times the matrix. -/
def mmNormAt {N : ℕ} (h : FVec Ideal ⟨2, ![25600, 2048]⟩ .f32) (g : FVec Ideal ⟨1, ![2048]⟩ .f32) (w : FVec Ideal ⟨2, ![2048, N]⟩ .bf16)
    (r : Fin 25600) (q : Fin N) : Ideal .f32 :=
  ∑ k : Fin 2048, normedAt h g r k * w (ix2 k q)

/-- Entry `(r, q)` of the dense block's gated product. -/
def ffnAt (h : FVec Ideal ⟨2, ![25600, 2048]⟩ .f32) (g : FVec Ideal ⟨1, ![2048]⟩ .f32) (wg wu : FVec Ideal ⟨2, ![2048, 7168]⟩ .bf16)
    (r : Fin 25600) (q : Fin 7168) : Ideal .f32 :=
  gated (∑ k : Fin 2048, normedAt h g r k * wg (ix2 k q)) (∑ k : Fin 2048, normedAt h g r k * wu (ix2 k q))

/-- The chain of selects picks the tile's own expert, and leaves 0 where the row belongs to no used tile. -/
theorem choose (E : BitVec 32) (b : Bool) (t : BitVec 32) (ht : t.toNat < 8) (hE : E = if b = true then t else 4294967295#32)
    (f : Fin 8 → Ideal .f32) :
    Scalar.select (IntOp.cmpi .eq E 7#32) (f 7) (Scalar.select (IntOp.cmpi .eq E 6#32) (f 6) (Scalar.select (IntOp.cmpi .eq E 5#32) (f 5)
      (Scalar.select (IntOp.cmpi .eq E 4#32) (f 4) (Scalar.select (IntOp.cmpi .eq E 3#32) (f 3) (Scalar.select (IntOp.cmpi .eq E 2#32) (f 2)
        (Scalar.select (IntOp.cmpi .eq E 1#32) (f 1) (Scalar.select (IntOp.cmpi .eq E 0#32) (f 0) 0)))))))
      = if b = true then f ⟨min t.toNat 7, by omega⟩ else 0 := by
  cases b
  · subst hE; rfl
  · obtain ⟨n, hn, rfl⟩ : ∃ n, n < 8 ∧ t = BitVec.ofNat 32 n := ⟨t.toNat, ht, by simp⟩
    subst hE
    interval_cases n <;> rfl

end Cert.Proof.Shared

end
-- ==== Proof.FfnRef.Value.lean ====
/-
  The dense block's reference read at an index: its result is `ffnAt` of the arguments.
-/
module
public import proofs.«01_k».proof.Proof.Gen.FfnReferenceIdeal.Run
public import proofs.«01_k».proof.Proof.Shared.Formula
@[expose] public section
noncomputable section

namespace Cert.FfnReferenceIdeal.Value
open Cert.FfnReferenceIdeal Cert.FfnReferenceIdeal.Gen Cert.Proof.Shared
open Idealize.ShloMosaic Idealize.ShloMosaic.TcCoe Idealize.SL.Sem

/-- The reference's normed residual stream, -/
def normed (h : FVec Ideal S25600x2048 .f32) (g : FVec Ideal S2048 .f32) : FVec Ideal S25600x2048 .f32 :=
  mulf (mulf h (broadcastInDim S25600x2048 ![0, 1] bcast_S25600x1_S25600x2048_0_1 (Host.rsqrt (addf (Host.divf
    (broadcastInDim S25600x1 ![0] bcast_S25600_S25600x1_0 (Host.reduceAdd (mulf h h) (constant S_ .f32 0x00000000#32) reducesTo_S25600x2048_S25600_d1 h_S_))
    (broadcastInDim S25600x1 ![] bcast_S_S25600x1 (constant S_ .f32 0x45000000#32))) (broadcastInDim S25600x1 ![] bcast_S_S25600x1 (constant S_ .f32 0x358637BD#32))))))
    (broadcastInDim S25600x2048 ![0, 1] bcast_S1x2048_S25600x2048_0_1 (broadcastInDim S1x2048 ![1] bcast_S2048_S1x2048_1 g))

/-- one of its two products, -/
def product (x : FVec Ideal S25600x2048 .f32) (w : FVec Ideal S2048x7168 .bf16) : FVec Ideal S25600x7168 .f32 :=
  Host.dotGeneral dot_S25600x2048_S2048x7168_S25600x7168_1_0_0_1_n_n none x (extf .f32 w bitsLt_bf16_f32)

/-- and the gated product of two products. -/
def gate (a b : FVec Ideal S25600x7168 .f32) : FVec Ideal S25600x7168 .bf16 :=
  truncf .bf16 (mulf (mulf a (Host.divf (broadcastInDim S25600x7168 ![] bcast_S_S25600x7168 (constant S_ .f32 0x3F800000#32))
    (addf (broadcastInDim S25600x7168 ![] bcast_S_S25600x7168 (constant S_ .f32 0x3F800000#32)) (Host.exp (Host.negf a))))) b) bitsLt_bf16_f32

/-- The normed stream at an index. -/
theorem normed_apply (h : FVec Ideal S25600x2048 .f32) (g : FVec Ideal S2048 .f32) (r : Fin 25600) (k : Fin 2048) :
    normed h g (ix2 r k) = normedAt h g r k := by
  pointwise [normed, normedAt]

/-- A product at an index. -/
theorem product_apply (x : FVec Ideal S25600x2048 .f32) (w : FVec Ideal S2048x7168 .bf16) (r : Fin 25600) (q : Fin 7168) :
    product x w (ix2 r q) = ∑ k : Fin 2048, x (ix2 r k) * w (ix2 k q) := by
  pointwise [product]

/-- The gated product at an index. -/
theorem gate_apply (a b : FVec Ideal S25600x7168 .f32) (r : Fin 25600) (q : Fin 7168) :
    gate a b (ix2 r q) = gated (a (ix2 r q)) (b (ix2 r q)) := by
  pointwise [gate, gated]

/-- The reference's expression, at every index. -/
theorem expr_eq (h : FVec Ideal S25600x2048 .f32) (g : FVec Ideal S2048 .f32) (wg wu : FVec Ideal S2048x7168 .bf16) :
    gate (product (normed h g) wg) (product (normed h g) wu) = fun y : S25600x7168.Idx => ffnAt h g wg wu (y 0) (y 1) := by
  funext y
  obtain ⟨r, q, rfl⟩ : ∃ (r : Fin 25600) (q : Fin 7168), y = ix2 r q := ⟨y 0, y 1, eq_ix2 y⟩
  rw [gate_apply, product_apply, product_apply]
  show _ = ffnAt h g wg wu r q
  unfold ffnAt
  exact congrArg₂ gated
    (Finset.sum_congr (M := Ideal .f32) rfl fun k _ => congrArg (fun x : Ideal .f32 => x * wg (ix2 k q)) (normed_apply h g r k))
    (Finset.sum_congr (M := Ideal .f32) rfl fun k _ => congrArg (fun x : Ideal .f32 => x * wu (ix2 k q)) (normed_apply h g r k))

/-- THE REFERENCE'S RUN, read at an index: the result holds `ffnAt` of the arguments and the arguments are unchanged. -/
theorem run_ffnAt (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = (fun y : S25600x7168.Idx =>
          ffnAt (m ((c.tc : Thread nD τ).loc main_arg0)) (m ((c.tc : Thread nD τ).loc main_arg1)) (m ((c.tc : Thread nD τ).loc main_arg2))
            (m ((c.tc : Thread nD τ).loc main_arg3)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (expr_eq _ _ _ _), (h c).2⟩) (run m ρ)

end Cert.FfnReferenceIdeal.Value
end
-- ==== Proof.HyIn.Value.lean ====
/-
  The projection into the long convolutions: the kernel's result and the reference's, each read at an index, are `mmNormAt`
  of the arguments. At the first block of columns of a block of rows the body norms the rows into its scratch, which it
  keeps for the other blocks.
-/
module
public import proofs.«01_k».proof.Proof.Gen.HyInIdeal.Value
public import proofs.«01_k».proof.Proof.Gen.HyInReferenceIdeal.Run
public import proofs.«01_k».proof.Proof.FfnRef.Value
public import Idealize.ShloMosaic.Lib.Pipeline.ValueKit
public import Idealize.ShloMosaic.Lib.VecWindow
@[expose] public section
noncomputable section

namespace Cert.HyInIdeal.Dense
open Cert.HyInIdeal Cert.HyInIdeal.Gen Cert.Proof.Shared
open Idealize.ShloMosaic Idealize.ShloMosaic.TcCoe
open Idealize.SL.Sem
open Idealize.ShloMosaic.Pipeline (Dat Cfg Window)

section Blocks
variable {F : FTy → Type} [FloatOps F] (m : (ℓ : Loc nD τ sig) → Buf (Elt F) ℓ)

section Body
variable (c : Dev nD) (i : grid0.Coords) (arg2 : Memref sig .tc .vmem S512x2048 .f32) (harg2 : arg2.IsWhole)
  (arg3 : Memref sig .tc .vmem S1x2048 .f32) (harg3 : arg3.IsWhole) (arg4 : Memref sig .tc .vmem S2048x2048 .bf16) (harg4 : arg4.IsWhole)
  (arg5 : Memref sig .tc .vmem S512x2048 .bf16) (harg5 : arg5.IsWhole) (arg6 : Memref sig .tc .vmem S512x2048 .bf16) (harg6 : arg6.IsWhole)
  (x0 : Vec F S512x2048 .f32) (x1 : Vec F S1x2048 .f32) (x2 : Vec F S2048x2048 .bf16) (xs : Vec F S512x2048 .bf16)

/-- A first block of columns leaves the normed rows in the scratch, -/
theorem scratch_first (hc : cond0_0 i) :
    sout0_A_0 c i arg2 harg2 arg3 harg3 arg4 harg4 arg5 harg5 arg6 harg6 hc x0 x1 x2 = k0_pay1 x0 x1 := by
  unfold sout0_A_0 kernelRun0_A
  refine (View.read_writes_full _ _ inb_S512x2048_S512x2048_0_0 _ []).trans ?_
  rw [View.readAt_full, View.readAt_full, harg2.read_unread, harg3.read_unread]

/-- and the product of those in the output's block; -/
theorem out_first (hc : cond0_0 i) :
    out0_A_3 c i arg2 harg2 arg3 harg3 arg4 harg4 arg5 harg5 arg6 harg6 hc x0 x1 x2 = k0_pay2 (k0_pay1 x0 x1) x2 := by
  unfold out0_A_3 kernelRun0_A
  refine (View.read_writes_full _ _ inb_S512x2048_S512x2048_0_0 _ []).trans ?_
  sl_unfold_words
  rw [View.readCov_full, View.readAt_full, View.readAt_full, View.readAt_full, harg2.read_unread, harg3.read_unread, harg4.read_unread]

/-- another block of columns leaves the product of what the scratch holds. -/
theorem out_next (hc : ¬ cond0_0 i) :
    out0_B_3 c i arg2 harg2 arg3 harg3 arg4 harg4 arg5 harg5 arg6 harg6 hc x0 x1 x2 xs = k0_pay2 xs x2 := by
  unfold out0_B_3 kernelRun0_B
  refine (View.read_writes_full _ _ inb_S512x2048_S512x2048_0_0 _ []).trans ?_
  rw [View.readAt_full, View.readAt_full, harg4.read_unread, harg6.read_unread]
end Body

/-- A point's block of rows. -/
theorem coords_row (t : Fin grid0.N) : (grid0.coords t 0).val = t.val / 3 := by
  have h := Pipeline.Grid.coords_val t (0 : Fin 2) (S := 3) (B := 50) (by decide) rfl
  have ht : t.val < 150 := t.isLt.trans_eq N_0
  exact h.trans (Nat.mod_eq_of_lt (by omega))
/-- A point's block of columns. -/
theorem coords_col (t : Fin grid0.N) : (grid0.coords t 1).val = t.val % 3 := by
  have h := Pipeline.Grid.coords_val t (1 : Fin 2) (S := 1) (B := 3) (by decide) rfl
  exact h.trans (by rw [Nat.div_one])
/-- The block of rows, as a word. -/
theorem row_word (t : Fin grid0.N) : (BitVec.ofNat 32 (grid0.coords t 0).val).toNat = t.val / 3 := by
  have ht : t.val < 150 := t.isLt.trans_eq N_0
  rw [BitVec.toNat_ofNat, coords_row, Nat.mod_eq_of_lt (by omega)]
/-- The block of columns, as a word. -/
theorem col_word (t : Fin grid0.N) : (BitVec.ofNat 32 (grid0.coords t 1).val).toNat = t.val % 3 := by
  rw [BitVec.toNat_ofNat, coords_col, Nat.mod_eq_of_lt (by omega)]

/-- Row `p` of block `b` of rows, in the array. -/
def rowIn (b : Fin 50) (p : Fin 512) : Fin 25600 := ⟨b.val * 512 + p.val, by omega⟩
/-- Column `q` of a point's block, in the array. -/
def colHere (t : Fin cfg0.N) (q : Fin 2048) : Fin 6144 := ⟨t.val % 3 * 2048 + q.val, by omega⟩
/-- The block of rows of the point at position `n`. -/
def rowBlk (n : ℕ) (h : n < cfg0.N) : Fin 50 := ⟨n / 3, by have ht : n < 150 := h.trans_eq N_0; omega⟩

/-- The rows of a block, -/
def rowsOf (c : Dev nD) (b : Fin 50) : Vec F S512x2048 .f32 := fun y => m ((c : Thread nD τ).loc main_arg0) (ix2 (rowIn b (y 0)) (y 1))
/-- and the gain, as one row. -/
def gainRow (c : Dev nD) : Vec F S1x2048 .f32 := fun y => m ((c : Thread nD τ).loc main_arg1) (ix1 (y 1))

/-- The residual's block at a point. -/
theorem iblk_rows (c : Dev nD) (t : Fin cfg0.N) : iblk m c 0 t = rowsOf m c (rowBlk t.val t.isLt) := by
  funext y
  obtain ⟨p, k, rfl⟩ : ∃ (p : Fin 512) (k : Fin 2048), y = ix2 p k := ⟨y 0, y 1, eq_ix2 y⟩
  unfold iblk
  refine (View.read_apply _ _).trans ?_
  refine (congrFun (V_main_arg0 m c) _).trans (congrArg (m ((c : Thread nD τ).loc main_arg0)) ?_)
  have hi : (cfg0.win 0).index t = ![t.val / 3, 0] := by
    show ![(BitVec.ofNat 32 (grid0.coords t 0).val).toNat, 0] = _
    rw [row_word]
  funext a
  refine Fin.ext ((Window.rect_emb_val (cfg0.win 0) t (ix2 p k) a).trans ?_)
  rw [hi]
  match a with
  | ⟨0, _⟩ => rfl
  | ⟨1, _⟩ => show 0 * 2048 + k.val = k.val; omega

/-- A vector reshaped to one row, at an index. -/
theorem gain_apply {α : Type} (x : S2048.Idx → α) (k : Fin 2048) : shapeCast S1x2048 x shapeCasts_S2048_S1x2048 (ix2 0 k) = x (ix1 k) := by
  pointwise []

/-- The gain, reshaped to one row before the launch. -/
theorem V_gain (c : Dev nD) : (V m c main_v0 : S1x2048.Idx → Elt F .f32) = gainRow m c := by
  have e : V m c main_v0 = shapeCast S1x2048 (m ((c : Thread nD τ).loc main_arg1)) shapeCasts_S2048_S1x2048 := by
    unfold V hostOps0
    after_results
    rfl
  rw [e]
  funext y
  obtain ⟨p, k, rfl⟩ : ∃ (p : Fin 1) (k : Fin 2048), y = ix2 p k := ⟨y 0, y 1, eq_ix2 y⟩
  obtain rfl : p = 0 := Subsingleton.elim _ _
  exact gain_apply _ k

/-- The gain's block at a point. -/
theorem iblk_gain (c : Dev nD) (t : Fin cfg0.N) : iblk m c 1 t = gainRow m c := by
  funext y
  obtain ⟨p, k, rfl⟩ : ∃ (p : Fin 1) (k : Fin 2048), y = ix2 p k := ⟨y 0, y 1, eq_ix2 y⟩
  unfold iblk
  refine (View.read_apply _ _).trans ?_
  refine (congrFun (V_gain m c) _).trans (congrArg (gainRow m c) ?_)
  have hi : (cfg0.win 1).index t = ![0, 0] := rfl
  funext a
  refine Fin.ext ((Window.rect_emb_val (cfg0.win 1) t (ix2 p k) a).trans ?_)
  rw [hi]
  match a with
  | ⟨0, _⟩ => show 0 * 1 + p.val = p.val; omega
  | ⟨1, _⟩ => show 0 * 2048 + k.val = k.val; omega

/-- The weights' block at a point. -/
theorem iblk_weight (c : Dev nD) (t : Fin cfg0.N) (k : Fin 2048) (q : Fin 2048) :
    (iblk m c 2 t : S2048x2048.Idx → Elt F .bf16) (ix2 k q) = m ((c : Thread nD τ).loc main_arg2) (ix2 k (colHere t q)) := by
  unfold iblk
  refine (View.read_apply _ _).trans ?_
  refine (congrFun (V_main_arg2 m c) _).trans (congrArg (m ((c : Thread nD τ).loc main_arg2)) ?_)
  have hi : (cfg0.win 2).index t = ![0, t.val % 3] := by
    show ![0, (BitVec.ofNat 32 (grid0.coords t 1).val).toNat] = _
    rw [col_word]
  funext a
  refine Fin.ext ((Window.rect_emb_val (cfg0.win 2) t (ix2 k q) a).trans ?_)
  rw [hi]
  match a with
  | ⟨0, _⟩ => show 0 * 2048 + k.val = k.val; omega
  | ⟨1, _⟩ => rfl

/-- The scratch after a point: the normed rows of the point's block. -/
theorem scratch_eq (c : Dev nD) : ∀ (n : ℕ) (h : n < cfg0.N), (outsAt0 m c n h).2 = k0_pay1 (rowsOf m c (rowBlk n h)) (gainRow m c) := by
  have first : ∀ t : Fin cfg0.N, t.val % 3 = 0 → (outsAt0 m c t.val t.isLt).2 = k0_pay1 (rowsOf m c (rowBlk t.val t.isLt)) (gainRow m c) := by
    intro t h0
    rw [outsAt0_A m c t h0]
    dsimp only
    rw [scratch_first, iblk_rows, iblk_gain]
  intro n
  induction n with
  | zero => exact fun h => first ⟨0, h⟩ rfl
  | succ n ih =>
    intro h
    by_cases h0 : (n + 1) % 3 = 0
    · exact first ⟨n + 1, h⟩ h0
    · refine (congrArg Prod.snd (outsAt0_B m c ⟨n + 1, h⟩ h0)).trans ((ih (Nat.lt_of_succ_lt h)).trans ?_)
      have e : rowBlk n (Nat.lt_of_succ_lt h) = rowBlk (n + 1) h := Fin.ext (show n / 3 = (n + 1) / 3 by omega)
      rw [e]

/-- The output's block after a point: the product of the normed rows with the point's blocks of weights. -/
theorem out_eq (c : Dev nD) (t : Fin cfg0.N) : (outsAt0 m c t.val t.isLt).1
    = k0_pay2 (k0_pay1 (rowsOf m c (rowBlk t.val t.isLt)) (gainRow m c)) (iblk m c 2 t) := by
  by_cases h0 : t.val % 3 = 0
  · rw [outsAt0_A m c t h0]
    dsimp only
    rw [out_first, iblk_rows, iblk_gain]
  · rw [outsAt0_B m c t h0]
    dsimp only
    rw [out_next, scratch_eq]
    have e : rowBlk (t.val - 1) (Nat.lt_of_le_of_lt (Nat.sub_le _ _) t.isLt) = rowBlk t.val t.isLt :=
      Fin.ext (show (t.val - 1) / 3 = t.val / 3 by omega)
    rw [e]

/-- The output's block index at a point. -/
theorem out_index (t : Fin cfg0.N) : (cfg0.win 3).index t = ![t.val / 3, t.val % 3] := by
  show ![(BitVec.ofNat 32 (grid0.coords t 0).val).toNat, (BitVec.ofNat 32 (grid0.coords t 1).val).toNat] = _
  rw [row_word, col_word]

/-- Every point writes its block back: the next point's block is another one. -/
theorem flush_all (t : Fin cfg0.N) : (cfg0.win 3).flush t = true := by
  rw [Window.flush_eq_flushOf]
  unfold Window.flushOf
  by_cases hl : t.val + 1 = grid0.N
  · simp [hl]
  · have hlt : t.val + 1 < grid0.N := by have : t.val < grid0.N := t.isLt; omega
    have hne : cc0_transform_3 (grid0.coords ⟨t.val + 1, hlt⟩) ≠ cc0_transform_3 (grid0.coords t) := by
      intro h
      have h1 := congrFun h 1
      have e : ∀ t : Fin grid0.N, cc0_transform_3 (grid0.coords t) 1 = t.val % 3 := col_word
      rw [e, e] at h1
      change (t.val + 1) % 3 = t.val % 3 at h1
      omega
    simp [hlt, hne]

/-- The written-back blocks cover the array. -/
theorem out_covers : (cfg0.win 3).Covers := by
  refine ⟨show ∀ a : Fin 2, 0 < S512x2048.size a from by decide, fun β => ?_⟩
  have h0 : (β (0 : Fin 2)).val < 50 := Nat.lt_of_lt_of_eq (β (0 : Fin 2)).isLt (show (25600 + 512 - 1) / 512 = 50 by norm_num)
  have h1 : (β (1 : Fin 2)).val < 3 := Nat.lt_of_lt_of_eq (β (1 : Fin 2)).isLt (show (6144 + 2048 - 1) / 2048 = 3 by norm_num)
  refine ⟨⟨3 * (β (0 : Fin 2)).val + (β (1 : Fin 2)).val, Nat.lt_of_lt_of_eq (by omega : _ < 150) N_0.symm⟩, flush_all _, fun a => ⟨?_, .inl rfl⟩⟩
  rw [out_index]
  match a with
  | ⟨0, _⟩ => exact (show (3 * (β (0 : Fin 2)).val + (β (1 : Fin 2)).val) / 3 = (β (0 : Fin 2)).val by omega)
  | ⟨1, _⟩ => exact (show (3 * (β (0 : Fin 2)).val + (β (1 : Fin 2)).val) % 3 = (β (1 : Fin 2)).val by omega)

end Blocks

/-! ## Over the reals -/

variable (m : (ℓ : Loc nD τ sig) → Buf (Elt Ideal) ℓ)

/-- The normed rows at an index. -/
theorem normed_apply (c : Dev nD) (b : Fin 50) (p : Fin 512) (k : Fin 2048) :
    (k0_pay1 (F := Ideal) (rowsOf m c b) (gainRow m c) : FVec Ideal S512x2048 .bf16) (ix2 p k)
      = normedAt (m ((c : Thread nD τ).loc main_arg0)) (m ((c : Thread nD τ).loc main_arg1)) (rowIn b p) k := by
  pointwise [k0_pay1, normedAt]
  rfl

/-- The product at an index. -/
theorem pay_apply (x : FVec Ideal S512x2048 .bf16) (w : FVec Ideal S2048x2048 .bf16) (p : Fin 512) (q : Fin 2048) :
    (k0_pay2 (F := Ideal) x w : FVec Ideal S512x2048 .bf16) (ix2 p q) = ∑ k : Fin 2048, x (ix2 p k) * w (ix2 k q) := by
  pointwise [k0_pay2]

/-- The kernel's result array: `mmNormAt` of the arguments, at every index. -/
theorem array_eq (c : Dev nD) : (dats m 0 c).arrAt 3 cfg0.N = (fun y : S25600x6144.Idx =>
    mmNormAt (m ((c.tc : Thread nD τ).loc main_arg0)) (m ((c.tc : Thread nD τ).loc main_arg1)) (m ((c.tc : Thread nD τ).loc main_arg2)) (y 0) (y 1)) := by
  refine Dat.arrAt_eq_of_covers (dats m 0 c) 3 _ out_covers (fun t _ y => ?_)
  obtain ⟨p, q, rfl⟩ : ∃ (p : Fin 512) (q : Fin 2048), y = ix2 p q := ⟨y 0, y 1, eq_ix2 y⟩
  have e0 : ((cfg0.win 3).rect t).emb (ix2 p q) (0 : Fin 2) = rowIn (rowBlk t.val t.isLt) p :=
    Fin.ext ((Window.rect_emb_val (cfg0.win 3) t (ix2 p q) (0 : Fin 2)).trans (by rw [out_index]; rfl))
  have e1 : ((cfg0.win 3).rect t).emb (ix2 p q) (1 : Fin 2) = colHere t q :=
    Fin.ext ((Window.rect_emb_val (cfg0.win 3) t (ix2 p q) (1 : Fin 2)).trans (by rw [out_index]; rfl))
  refine Eq.trans ?_ (congrArg₂ (fun (r : Fin 25600) (s : Fin 6144) => mmNormAt _ _ _ r s) e0.symm e1.symm)
  refine (congrFun ((after0_3 m c t).trans (out_eq m c t)) (ix2 p q)).trans ((pay_apply _ _ p q).trans ?_)
  unfold mmNormAt
  exact Finset.sum_congr (M := Ideal .f32) rfl fun k _ => congrArg₂ (fun x y : Ideal .f32 => x * y) (normed_apply m c _ p k) (iblk_weight m c t k q)

end Cert.HyInIdeal.Dense

namespace Cert.HyInReferenceIdeal.Value
open Cert.HyInReferenceIdeal Cert.HyInReferenceIdeal.Gen Cert.Proof.Shared
open Idealize.ShloMosaic Idealize.ShloMosaic.TcCoe

/-- The reference's expression, at every index. -/
theorem expr_eq (h : FVec Ideal S25600x2048 .f32) (g : FVec Ideal S2048 .f32) (w : FVec Ideal S2048x6144 .bf16) :
    (truncf .bf16 (Host.dotGeneral dot_S25600x2048_S2048x6144_S25600x6144_1_0_0_1_n_n none (FfnReferenceIdeal.Value.normed h g) (extf .f32 w bitsLt_bf16_f32)) bitsLt_bf16_f32 : FVec Ideal S25600x6144 .bf16)
      = fun y : S25600x6144.Idx => mmNormAt h g w (y 0) (y 1) := by
  have e : ∀ (x : FVec Ideal S25600x2048 .f32) (r : Fin 25600) (q : Fin 6144),
      (truncf .bf16 (Host.dotGeneral dot_S25600x2048_S2048x6144_S25600x6144_1_0_0_1_n_n none x (extf .f32 w bitsLt_bf16_f32)) bitsLt_bf16_f32 : FVec Ideal S25600x6144 .bf16) (ix2 r q)
        = ∑ k : Fin 2048, x (ix2 r k) * w (ix2 k q) := fun x r q => by pointwise []
  funext y
  obtain ⟨r, q, rfl⟩ : ∃ (r : Fin 25600) (q : Fin 6144), y = ix2 r q := ⟨y 0, y 1, eq_ix2 y⟩
  refine (e _ r q).trans (Finset.sum_congr (M := Ideal .f32) rfl fun k _ => ?_)
  exact congrArg (fun x : Ideal .f32 => x * w (ix2 k q)) (FfnReferenceIdeal.Value.normed_apply h g r k)

end Cert.HyInReferenceIdeal.Value
end
-- ==== Proof.MlaDown.Value.lean ====
/-
  The projection into the latents of queries, keys and rotary keys: the kernel's result and the reference's, each read at an
  index, are `mmNormAt` of the arguments. One block of columns holds them all, so that every point norms its rows.
-/
module
public import proofs.«01_k».proof.Proof.Gen.MlaDownIdeal.Value
public import proofs.«01_k».proof.Proof.Gen.MlaDownReferenceIdeal.Run
public import proofs.«01_k».proof.Proof.FfnRef.Value
public import Idealize.ShloMosaic.Lib.Pipeline.ValueKit
public import Idealize.ShloMosaic.Lib.VecWindow
@[expose] public section
noncomputable section

namespace Cert.MlaDownIdeal.Dense
open Cert.MlaDownIdeal Cert.MlaDownIdeal.Gen Cert.Proof.Shared
open Idealize.ShloMosaic Idealize.ShloMosaic.TcCoe
open Idealize.SL.Sem
open Idealize.ShloMosaic.Pipeline (Dat Cfg Window)

section Blocks
variable {F : FTy → Type} [FloatOps F] (m : (ℓ : Loc nD τ sig) → Buf (Elt F) ℓ)

section Body
variable (c : Dev nD) (i : grid0.Coords) (arg2 : Memref sig .tc .vmem S512x2048 .f32) (harg2 : arg2.IsWhole)
  (arg3 : Memref sig .tc .vmem S1x2048 .f32) (harg3 : arg3.IsWhole) (arg4 : Memref sig .tc .vmem S2048x896 .bf16) (harg4 : arg4.IsWhole)
  (arg5 : Memref sig .tc .vmem S512x896 .f32) (harg5 : arg5.IsWhole) (arg6 : Memref sig .tc .vmem S512x2048 .bf16) (harg6 : arg6.IsWhole)
  (x0 : Vec F S512x2048 .f32) (x1 : Vec F S1x2048 .f32) (x2 : Vec F S2048x896 .bf16)

/-- The body leaves the product of the normed rows in the output's block. -/
theorem out_first (hc : cond0_0 i) :
    out0_A_3 c i arg2 harg2 arg3 harg3 arg4 harg4 arg5 harg5 arg6 harg6 hc x0 x1 x2 = k0_pay2 (k0_pay1 x0 x1) x2 := by
  unfold out0_A_3 kernelRun0_A
  refine (View.read_writes_full _ _ inb_S512x896_S512x896_0_0 _ []).trans ?_
  sl_unfold_words
  rw [View.readCov_full, View.readAt_full, View.readAt_full, View.readAt_full, harg2.read_unread, harg3.read_unread, harg4.read_unread]

end Body

/-- A point's block of rows, as a word. -/
theorem row_word (t : Fin grid0.N) : (BitVec.ofNat 32 (grid0.coords t 0).val).toNat = t.val := by
  have h := Pipeline.Grid.coords_val t (0 : Fin 2) (S := 1) (B := 50) (by decide) rfl
  have ht : t.val < 50 := t.isLt.trans_eq N_0
  rw [BitVec.toNat_ofNat, h]
  omega
/-- There is one block of columns. -/
theorem col_word (t : Fin grid0.N) : (BitVec.ofNat 32 (grid0.coords t 1).val).toNat = 0 := by
  have h : (grid0.coords t 1).val < 1 := (grid0.coords t 1).isLt
  rw [BitVec.toNat_ofNat]
  omega

/-- Row `p` of block `b` of rows, in the array. -/
def rowIn (b : Fin 50) (p : Fin 512) : Fin 25600 := ⟨b.val * 512 + p.val, by omega⟩
/-- The block of rows of a point. -/
def rowBlk (t : Fin cfg0.N) : Fin 50 := ⟨t.val, t.isLt.trans_eq N_0⟩

/-- The rows of a block, -/
def rowsOf (c : Dev nD) (b : Fin 50) : Vec F S512x2048 .f32 := fun y => m ((c : Thread nD τ).loc main_arg0) (ix2 (rowIn b (y 0)) (y 1))
/-- and the gain, as one row. -/
def gainRow (c : Dev nD) : Vec F S1x2048 .f32 := fun y => m ((c : Thread nD τ).loc main_arg1) (ix1 (y 1))

/-- The residual's block at a point. -/
theorem iblk_rows (c : Dev nD) (t : Fin cfg0.N) : iblk m c 0 t = rowsOf m c (rowBlk t) := by
  funext y
  obtain ⟨p, k, rfl⟩ : ∃ (p : Fin 512) (k : Fin 2048), y = ix2 p k := ⟨y 0, y 1, eq_ix2 y⟩
  unfold iblk
  refine (View.read_apply _ _).trans ?_
  refine (congrFun (V_main_arg0 m c) _).trans (congrArg (m ((c : Thread nD τ).loc main_arg0)) ?_)
  have hi : (cfg0.win 0).index t = ![t.val, 0] := by
    show ![(BitVec.ofNat 32 (grid0.coords t 0).val).toNat, 0] = _
    rw [row_word]
  funext a
  refine Fin.ext ((Window.rect_emb_val (cfg0.win 0) t (ix2 p k) a).trans ?_)
  rw [hi]
  match a with
  | ⟨0, _⟩ => rfl
  | ⟨1, _⟩ => show 0 * 2048 + k.val = k.val; omega

/-- A vector reshaped to one row, at an index. -/
theorem gain_apply {α : Type} (x : S2048.Idx → α) (k : Fin 2048) : shapeCast S1x2048 x shapeCasts_S2048_S1x2048 (ix2 0 k) = x (ix1 k) := by
  pointwise []

/-- The gain, reshaped to one row before the launch. -/
theorem V_gain (c : Dev nD) : (V m c main_v0 : S1x2048.Idx → Elt F .f32) = gainRow m c := by
  have e : V m c main_v0 = shapeCast S1x2048 (m ((c : Thread nD τ).loc main_arg1)) shapeCasts_S2048_S1x2048 := by
    unfold V hostOps0
    after_results
    rfl
  rw [e]
  funext y
  obtain ⟨p, k, rfl⟩ : ∃ (p : Fin 1) (k : Fin 2048), y = ix2 p k := ⟨y 0, y 1, eq_ix2 y⟩
  obtain rfl : p = 0 := Subsingleton.elim _ _
  exact gain_apply _ k

/-- The gain's block at a point. -/
theorem iblk_gain (c : Dev nD) (t : Fin cfg0.N) : iblk m c 1 t = gainRow m c := by
  funext y
  obtain ⟨p, k, rfl⟩ : ∃ (p : Fin 1) (k : Fin 2048), y = ix2 p k := ⟨y 0, y 1, eq_ix2 y⟩
  unfold iblk
  refine (View.read_apply _ _).trans ?_
  refine (congrFun (V_gain m c) _).trans (congrArg (gainRow m c) ?_)
  have hi : (cfg0.win 1).index t = ![0, 0] := rfl
  funext a
  refine Fin.ext ((Window.rect_emb_val (cfg0.win 1) t (ix2 p k) a).trans ?_)
  rw [hi]
  match a with
  | ⟨0, _⟩ => show 0 * 1 + p.val = p.val; omega
  | ⟨1, _⟩ => show 0 * 2048 + k.val = k.val; omega

/-- The weights' block at a point. -/
theorem iblk_weight (c : Dev nD) (t : Fin cfg0.N) (k : Fin 2048) (q : Fin 896) :
    (iblk m c 2 t : S2048x896.Idx → Elt F .bf16) (ix2 k q) = m ((c : Thread nD τ).loc main_arg2) (ix2 k q) := by
  unfold iblk
  refine (View.read_apply _ _).trans ?_
  refine (congrFun (V_main_arg2 m c) _).trans (congrArg (m ((c : Thread nD τ).loc main_arg2)) ?_)
  have hi : (cfg0.win 2).index t = ![0, 0] := by
    show ![0, (BitVec.ofNat 32 (grid0.coords t 1).val).toNat] = _
    rw [col_word]
  funext a
  refine Fin.ext ((Window.rect_emb_val (cfg0.win 2) t (ix2 k q) a).trans ?_)
  rw [hi]
  match a with
  | ⟨0, _⟩ => show 0 * 2048 + k.val = k.val; omega
  | ⟨1, _⟩ => show 0 * 896 + q.val = q.val; omega

/-- The output's block after a point: the product of the normed rows with the weights. -/
theorem out_eq (c : Dev nD) (t : Fin cfg0.N) : outsAt0 m c t = k0_pay2 (k0_pay1 (rowsOf m c (rowBlk t)) (gainRow m c)) (iblk m c 2 t) := by
  unfold outsAt0
  rw [out_first, iblk_rows, iblk_gain]

/-- The output's block index at a point. -/
theorem out_index (t : Fin cfg0.N) : (cfg0.win 3).index t = ![t.val, 0] := by
  show ![(BitVec.ofNat 32 (grid0.coords t 0).val).toNat, (BitVec.ofNat 32 (grid0.coords t 1).val).toNat] = _
  rw [row_word, col_word]

/-- The written-back blocks cover the array. -/
theorem out_covers : (cfg0.win 3).Covers := by
  refine ⟨show ∀ a : Fin 2, 0 < S512x896.size a from by decide, fun β => ?_⟩
  have h0 : (β (0 : Fin 2)).val < 50 := Nat.lt_of_lt_of_eq (β (0 : Fin 2)).isLt (show (25600 + 512 - 1) / 512 = 50 by norm_num)
  have h1 : (β (1 : Fin 2)).val < 1 := Nat.lt_of_lt_of_eq (β (1 : Fin 2)).isLt (show (896 + 896 - 1) / 896 = 1 by norm_num)
  refine ⟨⟨(β (0 : Fin 2)).val, Nat.lt_of_lt_of_eq h0 N_0.symm⟩, flush0_3 _, fun a => ⟨?_, .inl rfl⟩⟩
  rw [out_index]
  match a with
  | ⟨0, _⟩ => rfl
  | ⟨1, _⟩ => exact (show 0 = (β (1 : Fin 2)).val by omega)

end Blocks

/-! ## Over the reals -/

variable (m : (ℓ : Loc nD τ sig) → Buf (Elt Ideal) ℓ)

/-- The normed rows at an index. -/
theorem normed_apply (c : Dev nD) (b : Fin 50) (p : Fin 512) (k : Fin 2048) :
    (k0_pay1 (F := Ideal) (rowsOf m c b) (gainRow m c) : FVec Ideal S512x2048 .bf16) (ix2 p k)
      = normedAt (m ((c : Thread nD τ).loc main_arg0)) (m ((c : Thread nD τ).loc main_arg1)) (rowIn b p) k := by
  pointwise [k0_pay1, normedAt]
  rfl

/-- The product at an index. -/
theorem pay_apply (x : FVec Ideal S512x2048 .bf16) (w : FVec Ideal S2048x896 .bf16) (p : Fin 512) (q : Fin 896) :
    (k0_pay2 (F := Ideal) x w : FVec Ideal S512x896 .f32) (ix2 p q) = ∑ k : Fin 2048, x (ix2 p k) * w (ix2 k q) := by
  pointwise [k0_pay2]

/-- The kernel's result array: `mmNormAt` of the arguments, at every index. -/
theorem array_eq (c : Dev nD) : (dats m 0 c).arrAt 3 cfg0.N = (fun y : S25600x896.Idx =>
    mmNormAt (m ((c.tc : Thread nD τ).loc main_arg0)) (m ((c.tc : Thread nD τ).loc main_arg1)) (m ((c.tc : Thread nD τ).loc main_arg2)) (y 0) (y 1)) := by
  refine Dat.arrAt_eq_of_covers (dats m 0 c) 3 _ out_covers (fun t _ y => ?_)
  obtain ⟨p, q, rfl⟩ : ∃ (p : Fin 512) (q : Fin 896), y = ix2 p q := ⟨y 0, y 1, eq_ix2 y⟩
  have e0 : ((cfg0.win 3).rect t).emb (ix2 p q) (0 : Fin 2) = rowIn (rowBlk t) p :=
    Fin.ext ((Window.rect_emb_val (cfg0.win 3) t (ix2 p q) (0 : Fin 2)).trans (by rw [out_index]; rfl))
  have e1 : ((cfg0.win 3).rect t).emb (ix2 p q) (1 : Fin 2) = q :=
    Fin.ext ((Window.rect_emb_val (cfg0.win 3) t (ix2 p q) (1 : Fin 2)).trans (by rw [out_index]; show 0 * 896 + q.val = q.val; omega))
  refine Eq.trans ?_ (congrArg₂ (fun (r : Fin 25600) (s : Fin 896) => mmNormAt _ _ _ r s) e0.symm e1.symm)
  refine (congrFun ((after0_3 m c t).trans (out_eq m c t)) (ix2 p q)).trans ((pay_apply _ _ p q).trans ?_)
  unfold mmNormAt
  exact Finset.sum_congr (M := Ideal .f32) rfl fun k _ => congrArg₂ (fun x y : Ideal .f32 => x * y) (normed_apply m c _ p k) (iblk_weight m c t k q)

end Cert.MlaDownIdeal.Dense

namespace Cert.MlaDownReferenceIdeal.Value
open Cert.MlaDownReferenceIdeal Cert.MlaDownReferenceIdeal.Gen Cert.Proof.Shared
open Idealize.ShloMosaic Idealize.ShloMosaic.TcCoe

/-- The reference's expression, at every index. -/
theorem expr_eq (h : FVec Ideal S25600x2048 .f32) (g : FVec Ideal S2048 .f32) (w : FVec Ideal S2048x896 .bf16) :
    (Host.dotGeneral dot_S25600x2048_S2048x896_S25600x896_1_0_0_1_n_n none (FfnReferenceIdeal.Value.normed h g) (extf .f32 w bitsLt_bf16_f32) : FVec Ideal S25600x896 .f32)
      = fun y : S25600x896.Idx => mmNormAt h g w (y 0) (y 1) := by
  have e : ∀ (x : FVec Ideal S25600x2048 .f32) (r : Fin 25600) (q : Fin 896),
      (Host.dotGeneral dot_S25600x2048_S2048x896_S25600x896_1_0_0_1_n_n none x (extf .f32 w bitsLt_bf16_f32) : FVec Ideal S25600x896 .f32) (ix2 r q)
        = ∑ k : Fin 2048, x (ix2 r k) * w (ix2 k q) := fun x r q => by pointwise []
  funext y
  obtain ⟨r, q, rfl⟩ : ∃ (r : Fin 25600) (q : Fin 896), y = ix2 r q := ⟨y 0, y 1, eq_ix2 y⟩
  refine (e _ r q).trans (Finset.sum_congr (M := Ideal .f32) rfl fun k _ => ?_)
  exact congrArg (fun x : Ideal .f32 => x * w (ix2 k q)) (FfnReferenceIdeal.Value.normed_apply h g r k)

end Cert.MlaDownReferenceIdeal.Value
end
-- ==== Proof.HyOut.Value.lean ====
/-
  The projection out of the long convolutions: the kernel's result and the reference's, each read at an index, are `mmResAt` of the arguments.
-/
module
public import proofs.«01_k».proof.Proof.Gen.HyOutIdeal.Value
public import proofs.«01_k».proof.Proof.Gen.HyOutReferenceIdeal.Run
public import proofs.«01_k».proof.Proof.Shared.Formula
public import Idealize.ShloMosaic.Lib.Pipeline.ValueKit
public import Idealize.ShloMosaic.Lib.Pipeline.Value
@[expose] public section
noncomputable section

namespace Cert.HyOutIdeal.Dense
open Cert.HyOutIdeal Cert.HyOutIdeal.Gen Cert.Proof.Shared
open Idealize.ShloMosaic Idealize.ShloMosaic.TcCoe
open Idealize.SL.Sem
open Idealize.ShloMosaic.Pipeline (Dat Cfg Window)

/-- The zero offsets of a whole block. -/
theorem zero_off : (![0, 0] : Fin 2 → ℕ) = fun _ => 0 := by
  funext a
  match a with
  | ⟨0, _⟩ => rfl
  | ⟨1, _⟩ => rfl

section Blocks
variable {F : FTy → Type} [FloatOps F] (m : (ℓ : Loc nD τ sig) → Buf (Elt F) ℓ)

/-- A point's block of rows, as a word. -/
theorem row_word (t : Fin grid0.N) : (BitVec.ofNat 32 (grid0.coords t 0).val).toNat = t.val := by
  have h := Pipeline.Grid.coords_val t (0 : Fin 2) (S := 1) (B := 50) (by decide) rfl
  have ht : t.val < 50 := t.isLt.trans_eq N_0
  rw [BitVec.toNat_ofNat, h]
  omega
/-- There is one block of columns. -/
theorem col_word (t : Fin grid0.N) : (BitVec.ofNat 32 (grid0.coords t 1).val).toNat = 0 := by
  have h : (grid0.coords t 1).val < 1 := (grid0.coords t 1).isLt
  rw [BitVec.toNat_ofNat]
  omega

/-- Row `p` of a point's block, in the array. -/
def rowHere (t : Fin cfg0.N) (p : Fin 512) : Fin 25600 := ⟨t.val * 512 + p.val, by have ht : t.val < 50 := t.isLt.trans_eq N_0; omega⟩

/-- The rows' block at a point. -/
theorem iblk_act (c : Dev nD) (t : Fin cfg0.N) (p : Fin 512) (k : Fin 2048) :
    (iblk m c 0 t : S512x2048.Idx → Elt F .f32) (ix2 p k) = m ((c : Thread nD τ).loc main_arg0) (ix2 (rowHere t p) k) := by
  unfold iblk
  refine (View.read_apply _ _).trans (congrArg (m ((c : Thread nD τ).loc main_arg0)) ?_)
  have hi : (cfg0.win 0).index t = ![t.val, 0] := by
    show ![(BitVec.ofNat 32 (grid0.coords t 0).val).toNat, 0] = _
    rw [row_word]
  funext a
  refine Fin.ext ((Window.rect_emb_val (cfg0.win 0) t (ix2 p k) a).trans ?_)
  rw [hi]
  match a with
  | ⟨0, _⟩ => rfl
  | ⟨1, _⟩ => show 0 * 2048 + k.val = k.val; omega

/-- The weights' block at a point. -/
theorem iblk_weight (c : Dev nD) (t : Fin cfg0.N) (k q : Fin 2048) :
    (iblk m c 1 t : S2048x2048.Idx → Elt F .bf16) (ix2 k q) = m ((c : Thread nD τ).loc main_arg1) (ix2 k q) := by
  unfold iblk
  refine (View.read_apply _ _).trans (congrArg (m ((c : Thread nD τ).loc main_arg1)) ?_)
  have hi : (cfg0.win 1).index t = ![0, 0] := by
    show ![0, (BitVec.ofNat 32 (grid0.coords t 1).val).toNat] = _
    rw [col_word]
  funext a
  refine Fin.ext ((Window.rect_emb_val (cfg0.win 1) t (ix2 k q) a).trans ?_)
  rw [hi]
  match a with
  | ⟨0, _⟩ => show 0 * 2048 + k.val = k.val; omega
  | ⟨1, _⟩ => show 0 * 2048 + q.val = q.val; omega

/-- The residual's block at a point. -/
theorem iblk_res (c : Dev nD) (t : Fin cfg0.N) (p : Fin 512) (q : Fin 2048) :
    (iblk m c 2 t : S512x2048.Idx → Elt F .f32) (ix2 p q) = m ((c : Thread nD τ).loc main_arg2) (ix2 (rowHere t p) q) := by
  unfold iblk
  refine (View.read_apply _ _).trans (congrArg (m ((c : Thread nD τ).loc main_arg2)) ?_)
  have hi : (cfg0.win 2).index t = ![t.val, 0] := by
    show ![(BitVec.ofNat 32 (grid0.coords t 0).val).toNat, (BitVec.ofNat 32 (grid0.coords t 1).val).toNat] = _
    rw [row_word, col_word]
  funext a
  refine Fin.ext ((Window.rect_emb_val (cfg0.win 2) t (ix2 p q) a).trans ?_)
  rw [hi]
  match a with
  | ⟨0, _⟩ => rfl
  | ⟨1, _⟩ => show 0 * 2048 + q.val = q.val; omega

/-- The output's block index at a point. -/
theorem out_index (t : Fin cfg0.N) : (cfg0.win 3).index t = ![t.val, 0] := by
  show ![(BitVec.ofNat 32 (grid0.coords t 0).val).toNat, (BitVec.ofNat 32 (grid0.coords t 1).val).toNat] = _
  rw [row_word, col_word]

/-- The written-back blocks cover the array. -/
theorem out_covers : (cfg0.win 3).Covers := by
  refine ⟨show ∀ a : Fin 2, 0 < S512x2048.size a from by decide, fun β => ?_⟩
  have h0 : (β (0 : Fin 2)).val < 50 := Nat.lt_of_lt_of_eq (β (0 : Fin 2)).isLt (show (25600 + 512 - 1) / 512 = 50 by norm_num)
  have h1 : (β (1 : Fin 2)).val < 1 := Nat.lt_of_lt_of_eq (β (1 : Fin 2)).isLt (show (2048 + 2048 - 1) / 2048 = 1 by norm_num)
  refine ⟨⟨(β (0 : Fin 2)).val, Nat.lt_of_lt_of_eq h0 N_0.symm⟩, flush0_3 _, fun a => ⟨?_, .inl rfl⟩⟩
  rw [out_index]
  match a with
  | ⟨0, _⟩ => rfl
  | ⟨1, _⟩ => exact (show 0 = (β (1 : Fin 2)).val by omega)

/-- What the body leaves in the output's block: its one payload, of the blocks. -/
theorem out_eq (x0 : Vec F S512x2048 .f32) (x1 : Vec F S2048x2048 .bf16) (x2 : Vec F S512x2048 .f32) : out0_3 x0 x1 x2 = k0_pay1 x2 x0 x1 := by
  unfold out0_3
  refine (View.canon_unit_zero (S := S512x2048) zero_off _ _).trans ?_
  congr 1
  · exact View.ld_unit_zero (S := S512x2048) zero_off _ _
  · exact View.ld_unit_zero (S := S512x2048) zero_off _ _
  · exact View.ld_unit_zero (S := S2048x2048) zero_off _ _

end Blocks

/-! ## Over the reals -/

variable (m : (ℓ : Loc nD τ sig) → Buf (Elt Ideal) ℓ)

/-- The body's payload at an index. -/
theorem pay_apply (h : FVec Ideal S512x2048 .f32) (a : FVec Ideal S512x2048 .f32) (w : FVec Ideal S2048x2048 .bf16) (p : Fin 512) (q : Fin 2048) :
    (k0_pay1 (F := Ideal) h a w : FVec Ideal S512x2048 .f32) (ix2 p q) = h (ix2 p q) + ∑ k : Fin 2048, a (ix2 p k) * w (ix2 k q) := by
  pointwise [k0_pay1]

/-- The kernel's result array: `mmResAt` of the arguments, at every index. -/
theorem array_eq (c : Dev nD) : (dats m 0 c).arrAt 3 cfg0.N = (fun y : S25600x2048.Idx =>
    mmResAt (m ((c.tc : Thread nD τ).loc main_arg0)) (m ((c.tc : Thread nD τ).loc main_arg1)) (m ((c.tc : Thread nD τ).loc main_arg2)) (y 0) (y 1)) := by
  refine Dat.arrAt_eq_of_covers (dats m 0 c) 3 _ out_covers (fun t _ y => ?_)
  obtain ⟨p, q, rfl⟩ : ∃ (p : Fin 512) (q : Fin 2048), y = ix2 p q := ⟨y 0, y 1, eq_ix2 y⟩
  have e0 : ((cfg0.win 3).rect t).emb (ix2 p q) (0 : Fin 2) = rowHere t p :=
    Fin.ext ((Window.rect_emb_val (cfg0.win 3) t (ix2 p q) (0 : Fin 2)).trans (by rw [out_index]; rfl))
  have e1 : ((cfg0.win 3).rect t).emb (ix2 p q) (1 : Fin 2) = q :=
    Fin.ext ((Window.rect_emb_val (cfg0.win 3) t (ix2 p q) (1 : Fin 2)).trans (by rw [out_index]; show 0 * 2048 + q.val = q.val; omega))
  refine Eq.trans ?_ (congrArg₂ (fun (r : Fin 25600) (s : Fin 2048) => mmResAt _ _ _ r s) e0.symm e1.symm)
  have ha : (dats m 0 c).after 3 t = k0_pay1 (iblk m c 2 t) (iblk m c 0 t) (iblk m c 1 t) := (after0_3 m c t).trans (out_eq _ _ _)
  refine (congrFun ha (ix2 p q)).trans ((pay_apply _ _ _ p q).trans ?_)
  unfold mmResAt
  exact congrArg₂ (fun x y : Ideal .f32 => x + y) (iblk_res m c t p q)
    (Finset.sum_congr (M := Ideal .f32) rfl fun k _ => congrArg₂ (fun x y : Ideal .f32 => x * y) (iblk_act m c t p k) (iblk_weight m c t k q))

end Cert.HyOutIdeal.Dense

namespace Cert.HyOutReferenceIdeal.Value
open Cert.HyOutReferenceIdeal Cert.HyOutReferenceIdeal.Gen Cert.Proof.Shared
open Idealize.ShloMosaic Idealize.ShloMosaic.TcCoe

/-- The reference's expression, at every index. -/
theorem expr_eq (a : FVec Ideal S25600x2048 .f32) (w : FVec Ideal S2048x2048 .bf16) (h : FVec Ideal S25600x2048 .f32) :
    (addf h (Host.dotGeneral dot_S25600x2048_S2048x2048_S25600x2048_1_0_0_1_n_n none a (extf .f32 w bitsLt_bf16_f32)) : FVec Ideal S25600x2048 .f32)
      = fun y : S25600x2048.Idx => mmResAt a w h (y 0) (y 1) := by
  funext y
  obtain ⟨r, q, rfl⟩ : ∃ (r : Fin 25600) (q : Fin 2048), y = ix2 r q := ⟨y 0, y 1, eq_ix2 y⟩
  show _ = mmResAt a w h r q
  pointwise [mmResAt]

end Cert.HyOutReferenceIdeal.Value
end
-- ==== Proof.MlaOut.Value.lean ====
/-
  The projection out of the attention's heads: the kernel's result and the reference's, each read at an index, are `mmResAt` of the arguments.
-/
module
public import proofs.«01_k».proof.Proof.Gen.MlaOutIdeal.Value
public import proofs.«01_k».proof.Proof.Gen.MlaOutReferenceIdeal.Run
public import proofs.«01_k».proof.Proof.Shared.Formula
public import Idealize.ShloMosaic.Lib.Pipeline.ValueKit
public import Idealize.ShloMosaic.Lib.Pipeline.Value
@[expose] public section
noncomputable section

namespace Cert.MlaOutIdeal.Dense
open Cert.MlaOutIdeal Cert.MlaOutIdeal.Gen Cert.Proof.Shared
open Idealize.ShloMosaic Idealize.ShloMosaic.TcCoe
open Idealize.SL.Sem
open Idealize.ShloMosaic.Pipeline (Dat Cfg Window)

/-- The zero offsets of a whole block. -/
theorem zero_off : (![0, 0] : Fin 2 → ℕ) = fun _ => 0 := by
  funext a
  match a with
  | ⟨0, _⟩ => rfl
  | ⟨1, _⟩ => rfl

section Blocks
variable {F : FTy → Type} [FloatOps F] (m : (ℓ : Loc nD τ sig) → Buf (Elt F) ℓ)

/-- A point's block of rows, as a word. -/
theorem row_word (t : Fin grid0.N) : (BitVec.ofNat 32 (grid0.coords t 0).val).toNat = t.val := by
  have h := Pipeline.Grid.coords_val t (0 : Fin 2) (S := 1) (B := 50) (by decide) rfl
  have ht : t.val < 50 := t.isLt.trans_eq N_0
  rw [BitVec.toNat_ofNat, h]
  omega
/-- There is one block of columns. -/
theorem col_word (t : Fin grid0.N) : (BitVec.ofNat 32 (grid0.coords t 1).val).toNat = 0 := by
  have h : (grid0.coords t 1).val < 1 := (grid0.coords t 1).isLt
  rw [BitVec.toNat_ofNat]
  omega

/-- Row `p` of a point's block, in the array. -/
def rowHere (t : Fin cfg0.N) (p : Fin 512) : Fin 25600 := ⟨t.val * 512 + p.val, by have ht : t.val < 50 := t.isLt.trans_eq N_0; omega⟩

/-- The rows' block at a point. -/
theorem iblk_act (c : Dev nD) (t : Fin cfg0.N) (p : Fin 512) (k : Fin 2048) :
    (iblk m c 0 t : S512x2048.Idx → Elt F .bf16) (ix2 p k) = m ((c : Thread nD τ).loc main_arg0) (ix2 (rowHere t p) k) := by
  unfold iblk
  refine (View.read_apply _ _).trans (congrArg (m ((c : Thread nD τ).loc main_arg0)) ?_)
  have hi : (cfg0.win 0).index t = ![t.val, 0] := by
    show ![(BitVec.ofNat 32 (grid0.coords t 0).val).toNat, 0] = _
    rw [row_word]
  funext a
  refine Fin.ext ((Window.rect_emb_val (cfg0.win 0) t (ix2 p k) a).trans ?_)
  rw [hi]
  match a with
  | ⟨0, _⟩ => rfl
  | ⟨1, _⟩ => show 0 * 2048 + k.val = k.val; omega

/-- The weights' block at a point. -/
theorem iblk_weight (c : Dev nD) (t : Fin cfg0.N) (k q : Fin 2048) :
    (iblk m c 1 t : S2048x2048.Idx → Elt F .bf16) (ix2 k q) = m ((c : Thread nD τ).loc main_arg1) (ix2 k q) := by
  unfold iblk
  refine (View.read_apply _ _).trans (congrArg (m ((c : Thread nD τ).loc main_arg1)) ?_)
  have hi : (cfg0.win 1).index t = ![0, 0] := by
    show ![0, (BitVec.ofNat 32 (grid0.coords t 1).val).toNat] = _
    rw [col_word]
  funext a
  refine Fin.ext ((Window.rect_emb_val (cfg0.win 1) t (ix2 k q) a).trans ?_)
  rw [hi]
  match a with
  | ⟨0, _⟩ => show 0 * 2048 + k.val = k.val; omega
  | ⟨1, _⟩ => show 0 * 2048 + q.val = q.val; omega

/-- The residual's block at a point. -/
theorem iblk_res (c : Dev nD) (t : Fin cfg0.N) (p : Fin 512) (q : Fin 2048) :
    (iblk m c 2 t : S512x2048.Idx → Elt F .f32) (ix2 p q) = m ((c : Thread nD τ).loc main_arg2) (ix2 (rowHere t p) q) := by
  unfold iblk
  refine (View.read_apply _ _).trans (congrArg (m ((c : Thread nD τ).loc main_arg2)) ?_)
  have hi : (cfg0.win 2).index t = ![t.val, 0] := by
    show ![(BitVec.ofNat 32 (grid0.coords t 0).val).toNat, (BitVec.ofNat 32 (grid0.coords t 1).val).toNat] = _
    rw [row_word, col_word]
  funext a
  refine Fin.ext ((Window.rect_emb_val (cfg0.win 2) t (ix2 p q) a).trans ?_)
  rw [hi]
  match a with
  | ⟨0, _⟩ => rfl
  | ⟨1, _⟩ => show 0 * 2048 + q.val = q.val; omega

/-- The output's block index at a point. -/
theorem out_index (t : Fin cfg0.N) : (cfg0.win 3).index t = ![t.val, 0] := by
  show ![(BitVec.ofNat 32 (grid0.coords t 0).val).toNat, (BitVec.ofNat 32 (grid0.coords t 1).val).toNat] = _
  rw [row_word, col_word]

/-- The written-back blocks cover the array. -/
theorem out_covers : (cfg0.win 3).Covers := by
  refine ⟨show ∀ a : Fin 2, 0 < S512x2048.size a from by decide, fun β => ?_⟩
  have h0 : (β (0 : Fin 2)).val < 50 := Nat.lt_of_lt_of_eq (β (0 : Fin 2)).isLt (show (25600 + 512 - 1) / 512 = 50 by norm_num)
  have h1 : (β (1 : Fin 2)).val < 1 := Nat.lt_of_lt_of_eq (β (1 : Fin 2)).isLt (show (2048 + 2048 - 1) / 2048 = 1 by norm_num)
  refine ⟨⟨(β (0 : Fin 2)).val, Nat.lt_of_lt_of_eq h0 N_0.symm⟩, flush0_3 _, fun a => ⟨?_, .inl rfl⟩⟩
  rw [out_index]
  match a with
  | ⟨0, _⟩ => rfl
  | ⟨1, _⟩ => exact (show 0 = (β (1 : Fin 2)).val by omega)

/-- What the body leaves in the output's block: its one payload, of the blocks. -/
theorem out_eq (x0 : Vec F S512x2048 .bf16) (x1 : Vec F S2048x2048 .bf16) (x2 : Vec F S512x2048 .f32) : out0_3 x0 x1 x2 = k0_pay1 x2 x0 x1 := by
  unfold out0_3
  refine (View.canon_unit_zero (S := S512x2048) zero_off _ _).trans ?_
  congr 1
  · exact View.ld_unit_zero (S := S512x2048) zero_off _ _
  · exact View.ld_unit_zero (S := S512x2048) zero_off _ _
  · exact View.ld_unit_zero (S := S2048x2048) zero_off _ _

end Blocks

/-! ## Over the reals -/

variable (m : (ℓ : Loc nD τ sig) → Buf (Elt Ideal) ℓ)

/-- The body's payload at an index. -/
theorem pay_apply (h : FVec Ideal S512x2048 .f32) (a : FVec Ideal S512x2048 .bf16) (w : FVec Ideal S2048x2048 .bf16) (p : Fin 512) (q : Fin 2048) :
    (k0_pay1 (F := Ideal) h a w : FVec Ideal S512x2048 .f32) (ix2 p q) = h (ix2 p q) + ∑ k : Fin 2048, a (ix2 p k) * w (ix2 k q) := by
  pointwise [k0_pay1]

/-- The kernel's result array: `mmResAt` of the arguments, at every index. -/
theorem array_eq (c : Dev nD) : (dats m 0 c).arrAt 3 cfg0.N = (fun y : S25600x2048.Idx =>
    mmResAt (m ((c.tc : Thread nD τ).loc main_arg0)) (m ((c.tc : Thread nD τ).loc main_arg1)) (m ((c.tc : Thread nD τ).loc main_arg2)) (y 0) (y 1)) := by
  refine Dat.arrAt_eq_of_covers (dats m 0 c) 3 _ out_covers (fun t _ y => ?_)
  obtain ⟨p, q, rfl⟩ : ∃ (p : Fin 512) (q : Fin 2048), y = ix2 p q := ⟨y 0, y 1, eq_ix2 y⟩
  have e0 : ((cfg0.win 3).rect t).emb (ix2 p q) (0 : Fin 2) = rowHere t p :=
    Fin.ext ((Window.rect_emb_val (cfg0.win 3) t (ix2 p q) (0 : Fin 2)).trans (by rw [out_index]; rfl))
  have e1 : ((cfg0.win 3).rect t).emb (ix2 p q) (1 : Fin 2) = q :=
    Fin.ext ((Window.rect_emb_val (cfg0.win 3) t (ix2 p q) (1 : Fin 2)).trans (by rw [out_index]; show 0 * 2048 + q.val = q.val; omega))
  refine Eq.trans ?_ (congrArg₂ (fun (r : Fin 25600) (s : Fin 2048) => mmResAt _ _ _ r s) e0.symm e1.symm)
  have ha : (dats m 0 c).after 3 t = k0_pay1 (iblk m c 2 t) (iblk m c 0 t) (iblk m c 1 t) := (after0_3 m c t).trans (out_eq _ _ _)
  refine (congrFun ha (ix2 p q)).trans ((pay_apply _ _ _ p q).trans ?_)
  unfold mmResAt
  exact congrArg₂ (fun x y : Ideal .f32 => x + y) (iblk_res m c t p q)
    (Finset.sum_congr (M := Ideal .f32) rfl fun k _ => congrArg₂ (fun x y : Ideal .f32 => x * y) (iblk_act m c t p k) (iblk_weight m c t k q))

end Cert.MlaOutIdeal.Dense

namespace Cert.MlaOutReferenceIdeal.Value
open Cert.MlaOutReferenceIdeal Cert.MlaOutReferenceIdeal.Gen Cert.Proof.Shared
open Idealize.ShloMosaic Idealize.ShloMosaic.TcCoe

/-- The reference's expression, at every index. -/
theorem expr_eq (a : FVec Ideal S25600x2048 .bf16) (w : FVec Ideal S2048x2048 .bf16) (h : FVec Ideal S25600x2048 .f32) :
    (addf h (Host.dotGeneral dot_S25600x2048_S2048x2048_S25600x2048_1_0_0_1_n_n none (extf .f32 a bitsLt_bf16_f32) (extf .f32 w bitsLt_bf16_f32)) : FVec Ideal S25600x2048 .f32)
      = fun y : S25600x2048.Idx => mmResAt a w h (y 0) (y 1) := by
  funext y
  obtain ⟨r, q, rfl⟩ : ∃ (r : Fin 25600) (q : Fin 2048), y = ix2 r q := ⟨y 0, y 1, eq_ix2 y⟩
  show _ = mmResAt a w h r q
  pointwise [mmResAt]

end Cert.MlaOutReferenceIdeal.Value
end
-- ==== Proof.Shared.Taps.lean ====
/-
  The mathematics of the short convolution along the rows, at one index: three taps, with zeros beyond the array's ends.
  A block of 512 rows finds the row above its first and the row below its last in blocks of their own.
-/
module

public import Idealize.ShloMosaic.Lib.Pointwise
public import Idealize.ShloMosaic.Lib.WordCmp

@[expose] public section

noncomputable section

namespace Cert.Proof.Shared

open Idealize.ShloMosaic

/-- A choice between two values by the equality of two words. -/
theorem pick_eq {α : Type} (a b : ℕ) (ha : a < 2 ^ 32) (hb : b < 2 ^ 32) (x y : α) :
    Scalar.select (IntOp.cmpi .eq (BitVec.ofNat 32 a) (BitVec.ofNat 32 b)) x y = if a = b then x else y := by
  have e : IntOp.cmpi .eq (BitVec.ofNat 32 a) (BitVec.ofNat 32 b) = BitVec.ofBool (decide (a = b)) := by
    rw [WordCmp.cmpi_eq_eq_toNat, BitVec.toNat_ofNat, BitVec.toNat_ofNat, Nat.mod_eq_of_lt ha, Nat.mod_eq_of_lt hb]
  rw [e]
  by_cases h : a = b <;> simp [h, Scalar.select]

/-- A choice by the order of two words, both without a sign. -/
theorem pick_lt {α : Type} (a b : ℕ) (ha : a < 2 ^ 31) (hb : b < 2 ^ 31) (x y : α) :
    Scalar.select (IntOp.cmpi .slt (BitVec.ofNat 32 a) (BitVec.ofNat 32 b)) x y = if a < b then x else y := by
  have e : IntOp.cmpi .slt (BitVec.ofNat 32 a) (BitVec.ofNat 32 b) = BitVec.ofBool (decide (a < b)) := by
    have a' : (BitVec.ofNat 32 a).toNat = a := by rw [BitVec.toNat_ofNat, Nat.mod_eq_of_lt (by omega)]
    have b' : (BitVec.ofNat 32 b).toNat = b := by rw [BitVec.toNat_ofNat, Nat.mod_eq_of_lt (by omega)]
    rw [WordCmp.cmpi_slt_of_lt (by rw [a']; exact ha) (by rw [b']; exact hb), a', b']
  rw [e]
  by_cases h : a < b <;> simp [h, Scalar.select]

/-- The word of a block's first row. -/
theorem first_word (r k n : ℕ) : Scalar.addi (BitVec.ofNat 32 r) (Scalar.muli (BitVec.ofNat 32 k) (BitVec.ofNat 32 n)) = BitVec.ofNat 32 (r + k * n) := by
  rw [BitVec.ofNat_add, BitVec.ofNat_mul]
  rfl

/-- The entry above row `r`, -/
def aboveAt (u : FVec Ideal ⟨2, ![25600, 6144]⟩ .bf16) (r : Fin 25600) (q : Fin 6144) : Ideal .f32 :=
  if r.val = 0 then 0 else u (ix2 ⟨r.val - 1, by omega⟩ q)
/-- the entry below it, -/
def belowAt (u : FVec Ideal ⟨2, ![25600, 6144]⟩ .bf16) (r : Fin 25600) (q : Fin 6144) : Ideal .f32 :=
  if h : r.val + 1 < 25600 then u (ix2 ⟨r.val + 1, h⟩ q) else 0
/-- the three taps on those and the entry itself, -/
def tapsAt (u : FVec Ideal ⟨2, ![25600, 6144]⟩ .bf16) (w : FVec Ideal ⟨2, ![3, 6144]⟩ .f32) (b : FVec Ideal ⟨1, ![6144]⟩ .f32)
    (r : Fin 25600) (q : Fin 6144) : Ideal .f32 :=
  b (ix1 q) + aboveAt u r q * w (ix2 0 q) + u (ix2 r q) * w (ix2 1 q) + belowAt u r q * w (ix2 2 q)
/-- and the group's result: the taps on its rows from `row0` on, zero from its row `valid` on. -/
def convAt {N : ℕ} (row0 valid : ℕ) (hv : row0 + valid ≤ 25600) (u : FVec Ideal ⟨2, ![25600, 6144]⟩ .bf16) (w : FVec Ideal ⟨2, ![3, 6144]⟩ .f32)
    (b : FVec Ideal ⟨1, ![6144]⟩ .f32) (r : Fin N) (q : Fin 6144) : Ideal .f32 :=
  if h : r.val < valid then tapsAt u w b ⟨row0 + r.val, by omega⟩ q else 0

/-- The entry above row `p` of block `k`, found in the block or, for its first row, in `prev`. -/
theorem above_block (U : FVec Ideal ⟨2, ![25600, 6144]⟩ .bf16) (q : Fin 6144) (k : Fin 50) (u : Fin 512 → Ideal .f32) (prev : Ideal .f32)
    (hu : ∀ p : Fin 512, u p = U (ix2 ⟨k.val * 512 + p.val, by omega⟩ q))
    (hp : k.val ≠ 0 → prev = U (ix2 ⟨k.val * 512 - 1, by omega⟩ q)) (p : Fin 512) :
    (if p.val = 0 then if k.val * 512 = 0 then 0 else prev else u ⟨(p.val + 512 - 1) % 512, Nat.mod_lt _ (by decide)⟩)
      = aboveAt U ⟨k.val * 512 + p.val, by omega⟩ q := by
  unfold aboveAt
  by_cases h : p.val = 0
  · rw [if_pos h]
    refine if_ctx_congr (by show k.val * 512 = 0 ↔ k.val * 512 + p.val = 0; omega) (fun _ => rfl) (fun h' => ?_)
    refine (hp fun h0 => h' (by show k.val * 512 + p.val = 0; omega)).trans (congrArg (fun r => U (ix2 r q)) (Fin.ext ?_))
    show k.val * 512 - 1 = k.val * 512 + p.val - 1
    omega
  · rw [if_neg h, if_neg (show ¬ k.val * 512 + p.val = 0 by omega), hu]
    refine congrArg (fun r => U (ix2 r q)) (Fin.ext ?_)
    show k.val * 512 + (p.val + 512 - 1) % 512 = k.val * 512 + p.val - 1
    omega

/-- The entry below, found in the block or, for its last row, in `next`. -/
theorem below_block (U : FVec Ideal ⟨2, ![25600, 6144]⟩ .bf16) (q : Fin 6144) (k : Fin 50) (u : Fin 512 → Ideal .f32) (next : Ideal .f32)
    (hu : ∀ p : Fin 512, u p = U (ix2 ⟨k.val * 512 + p.val, by omega⟩ q))
    (hn : ∀ h : k.val < 49, next = U (ix2 ⟨k.val * 512 + 512, by omega⟩ q)) (p : Fin 512) :
    (if p.val = 511 then if k.val * 512 + 512 = 25600 then 0 else next else u ⟨(p.val + 512 - 511) % 512, Nat.mod_lt _ (by decide)⟩)
      = belowAt U ⟨k.val * 512 + p.val, by omega⟩ q := by
  unfold belowAt
  by_cases h : p.val = 511
  · rw [if_pos h]
    by_cases h' : k.val = 49
    · rw [if_pos (by omega), dif_neg (show ¬ k.val * 512 + p.val + 1 < 25600 by omega)]
    · rw [if_neg (by omega), dif_pos (show k.val * 512 + p.val + 1 < 25600 by omega)]
      refine (hn (by omega)).trans (congrArg (fun r => U (ix2 r q)) (Fin.ext ?_))
      show k.val * 512 + 512 = k.val * 512 + p.val + 1
      omega
  · rw [if_neg h, dif_pos (show k.val * 512 + p.val + 1 < 25600 by omega), hu]
    refine congrArg (fun r => U (ix2 r q)) (Fin.ext ?_)
    show k.val * 512 + (p.val + 512 - 511) % 512 = k.val * 512 + p.val + 1
    omega

end Cert.Proof.Shared

end
-- ==== Proof.Conv.Value.lean ====
/-
  The short convolution of the prompt: the kernel's result and the reference's, each read at an index, are `convAt` of the
  arguments.
-/
module
public import proofs.«01_k».proof.Proof.Gen.ConvIdeal.Value
public import proofs.«01_k».proof.Proof.Gen.ConvReferenceIdeal.Run
public import proofs.«01_k».proof.Proof.Shared.Taps
public import Idealize.ShloMosaic.Lib.Pipeline.ValueKit
public import Idealize.ShloMosaic.Lib.Pipeline.Value
@[expose] public section
noncomputable section

namespace Cert.ConvIdeal.Dense
open Cert.ConvIdeal Cert.ConvIdeal.Gen Cert.Proof.Shared
open Idealize.ShloMosaic Idealize.ShloMosaic.TcCoe
open Idealize.SL.Sem
open Idealize.ShloMosaic.Pipeline (Dat Cfg Window)

/-- The zero offsets of a whole block. -/
theorem zero_off : (![0, 0] : Fin 2 → ℕ) = fun _ => 0 := by
  funext a
  match a with
  | ⟨0, _⟩ => rfl
  | ⟨1, _⟩ => rfl

/-- A point's block of rows of the group. -/
theorem coords_row (t : Fin grid0.N) : (grid0.coords t 0).val = t.val / 6 := by
  have h := Pipeline.Grid.coords_val t (0 : Fin 2) (S := 6) (B := 33) (by decide) rfl
  have ht : t.val < 198 := t.isLt.trans_eq N_0
  exact h.trans (Nat.mod_eq_of_lt (by omega))
/-- That block, as one of the group's. -/
def rowBlk (t : Fin grid0.N) : Fin 33 := ⟨t.val / 6, by have ht : t.val < 198 := t.isLt.trans_eq N_0; omega⟩
/-- A point's block of columns, as a word. -/
theorem col_word (t : Fin grid0.N) : (BitVec.ofNat 32 (grid0.coords t 1).val).toNat = t.val % 6 := by
  have h := Pipeline.Grid.coords_val t (1 : Fin 2) (S := 1) (B := 6) (by decide) rfl
  rw [BitVec.toNat_ofNat, h, Nat.div_one, Nat.mod_eq_of_lt (by omega)]

/-- A point's block of rows, in the array. -/
def blk (t : Fin cfg0.N) : Fin 50 := ⟨0 + t.val / 6, by have ht : t.val < 198 := t.isLt.trans_eq N_0; omega⟩
/-- Column `q` of a point's block, in the array. -/
def colHere (t : Fin cfg0.N) (q : Fin 1024) : Fin 6144 := ⟨t.val % 6 * 1024 + q.val, by omega⟩

/-- The block's number, as a word, -/
theorem block_word : ∀ k : Fin 33, (Scalar.addi 0#32 (BitVec.ofNat 32 k.val)).toNat = 0 + k.val := by decide
/-- the number of the block of 16 rows above it, -/
theorem above_word : ∀ k : Fin 33, (Scalar.maxsi (Scalar.subi (Scalar.muli (Scalar.addi 0#32 (BitVec.ofNat 32 k.val)) 32#32) 1#32) 0#32).toNat
    = (0 + k.val) * 32 - 1 := by decide
/-- and of that below. -/
theorem below_word : ∀ k : Fin 33, (Scalar.minsi (Scalar.muli (Scalar.addi (Scalar.addi 0#32 (BitVec.ofNat 32 k.val)) 1#32) 32#32) 1599#32).toNat
    = min ((0 + k.val + 1) * 32) 1599 := by decide

section Blocks
variable {F : FTy → Type} [FloatOps F] (m : (ℓ : Loc nD τ sig) → Buf (Elt F) ℓ)

/-- The rows' block at a point, -/
theorem iblk_rows (c : Dev nD) (t : Fin cfg0.N) (p : Fin 512) (q : Fin 1024) :
    (iblk m c 0 t : S512x1024.Idx → Elt F .bf16) (ix2 p q) = m ((c : Thread nD τ).loc main_arg0) (ix2 ⟨(blk t).val * 512 + p.val, by omega⟩ (colHere t q)) := by
  unfold iblk
  refine (View.read_apply _ _).trans ((congrFun (V_main_arg0 m c) _).trans (congrArg (m ((c : Thread nD τ).loc main_arg0)) ?_))
  have hi : (cfg0.win 0).index t = ![0 + t.val / 6, t.val % 6] := by
    show ![(Scalar.addi 0#32 (BitVec.ofNat 32 (grid0.coords t 0).val)).toNat, (BitVec.ofNat 32 (grid0.coords t 1).val).toNat] = _
    rw [col_word, coords_row]
    exact congrArg (fun x : ℕ => ![x, t.val % 6]) (block_word (rowBlk t))
  funext a
  refine Fin.ext ((Window.rect_emb_val (cfg0.win 0) t (ix2 p q) a).trans ?_)
  rw [hi]
  match a with
  | ⟨0, _⟩ => rfl
  | ⟨1, _⟩ => rfl

/-- the last row of the block above, -/
theorem iblk_above (c : Dev nD) (t : Fin cfg0.N) (q : Fin 1024) (h : (blk t).val ≠ 0) :
    (iblk m c 1 t : S16x1024.Idx → Elt F .bf16) (ix2 15 q) = m ((c : Thread nD τ).loc main_arg0) (ix2 ⟨(blk t).val * 512 - 1, by omega⟩ (colHere t q)) := by
  unfold iblk
  refine (View.read_apply _ _).trans ((congrFun (V_main_arg0 m c) _).trans (congrArg (m ((c : Thread nD τ).loc main_arg0)) ?_))
  have hi : (cfg0.win 1).index t = ![(0 + t.val / 6) * 32 - 1, t.val % 6] := by
    show ![(Scalar.maxsi (Scalar.subi (Scalar.muli (Scalar.addi 0#32 (BitVec.ofNat 32 (grid0.coords t 0).val)) 32#32) 1#32) 0#32).toNat,
      (BitVec.ofNat 32 (grid0.coords t 1).val).toNat] = _
    rw [col_word, coords_row]
    exact congrArg (fun x : ℕ => ![x, t.val % 6]) (above_word (rowBlk t))
  funext a
  refine Fin.ext ((Window.rect_emb_val (cfg0.win 1) t (ix2 15 q) a).trans ?_)
  rw [hi]
  match a with
  | ⟨0, _⟩ =>
    show ((0 + t.val / 6) * 32 - 1) * 16 + 15 = (0 + t.val / 6) * 512 - 1
    have h' : 0 + t.val / 6 ≠ 0 := h
    omega
  | ⟨1, _⟩ => rfl

/-- the first of the block below, -/
theorem iblk_below (c : Dev nD) (t : Fin cfg0.N) (q : Fin 1024) (h : (blk t).val < 49) :
    (iblk m c 2 t : S16x1024.Idx → Elt F .bf16) (ix2 0 q) = m ((c : Thread nD τ).loc main_arg0) (ix2 ⟨(blk t).val * 512 + 512, by omega⟩ (colHere t q)) := by
  unfold iblk
  refine (View.read_apply _ _).trans ((congrFun (V_main_arg0 m c) _).trans (congrArg (m ((c : Thread nD τ).loc main_arg0)) ?_))
  have hi : (cfg0.win 2).index t = ![min ((0 + t.val / 6 + 1) * 32) 1599, t.val % 6] := by
    show ![(Scalar.minsi (Scalar.muli (Scalar.addi (Scalar.addi 0#32 (BitVec.ofNat 32 (grid0.coords t 0).val)) 1#32) 32#32) 1599#32).toNat,
      (BitVec.ofNat 32 (grid0.coords t 1).val).toNat] = _
    rw [col_word, coords_row]
    exact congrArg (fun x : ℕ => ![x, t.val % 6]) (below_word (rowBlk t))
  funext a
  refine Fin.ext ((Window.rect_emb_val (cfg0.win 2) t (ix2 0 q) a).trans ?_)
  rw [hi]
  match a with
  | ⟨0, _⟩ =>
    show min ((0 + t.val / 6 + 1) * 32) 1599 * 16 + 0 = (0 + t.val / 6) * 512 + 512
    have h' : 0 + t.val / 6 < 49 := h
    omega
  | ⟨1, _⟩ => rfl

/-- the taps' block, -/
theorem iblk_taps (c : Dev nD) (t : Fin cfg0.N) (d : Fin 3) (q : Fin 1024) :
    (iblk m c 3 t : S3x1024.Idx → Elt F .f32) (ix2 d q) = m ((c : Thread nD τ).loc main_arg1) (ix2 d (colHere t q)) := by
  unfold iblk
  refine (View.read_apply _ _).trans ((congrFun (V_main_arg1 m c) _).trans (congrArg (m ((c : Thread nD τ).loc main_arg1)) ?_))
  have hi : (cfg0.win 3).index t = ![0, t.val % 6] := by
    show ![0, (BitVec.ofNat 32 (grid0.coords t 1).val).toNat] = _
    rw [col_word]
  funext a
  refine Fin.ext ((Window.rect_emb_val (cfg0.win 3) t (ix2 d q) a).trans ?_)
  rw [hi]
  match a with
  | ⟨0, _⟩ => show 0 * 3 + d.val = d.val; omega
  | ⟨1, _⟩ => rfl

/-- The bias reshaped to one row before the launch, at an index, -/
theorem V_bias (c : Dev nD) (q : Fin 6144) : (V m c main_v0 : S1x6144.Idx → Elt F .f32) (ix2 0 q) = m ((c : Thread nD τ).loc main_arg2) (ix1 q) := by
  have e : V m c main_v0 = shapeCast S1x6144 (m ((c : Thread nD τ).loc main_arg2)) shapeCasts_S6144_S1x6144 := by
    unfold V hostOps0
    after_results
    rfl
  have f : ∀ x : Vec F S6144 .f32, shapeCast S1x6144 x shapeCasts_S6144_S1x6144 (ix2 0 q) = x (ix1 q) := fun x => by pointwise []
  rw [e]
  exact f _

/-- and its block at a point. -/
theorem iblk_bias (c : Dev nD) (t : Fin cfg0.N) (q : Fin 1024) :
    (iblk m c 4 t : S1x1024.Idx → Elt F .f32) (ix2 0 q) = m ((c : Thread nD τ).loc main_arg2) (ix1 (colHere t q)) := by
  unfold iblk
  refine (View.read_apply _ _).trans (Eq.trans (congrArg (V m c main_v0) (?_ : _ = ix2 0 (colHere t q))) (V_bias m c (colHere t q)))
  have hi : (cfg0.win 4).index t = ![0, t.val % 6] := by
    show ![0, (BitVec.ofNat 32 (grid0.coords t 1).val).toNat] = _
    rw [col_word]
  funext a
  refine Fin.ext ((Window.rect_emb_val (cfg0.win 4) t (ix2 0 q) a).trans ?_)
  rw [hi]
  match a with
  | ⟨0, _⟩ => rfl
  | ⟨1, _⟩ => rfl

/-- The output's block index at a point. -/
theorem out_index (t : Fin cfg0.N) : (cfg0.win 5).index t = ![t.val / 6, t.val % 6] := by
  show ![(BitVec.ofNat 32 (grid0.coords t 0).val).toNat, (BitVec.ofNat 32 (grid0.coords t 1).val).toNat] = _
  have ht : t.val < 198 := t.isLt.trans_eq N_0
  rw [col_word, coords_row, BitVec.toNat_ofNat, Nat.mod_eq_of_lt (by omega)]

/-- The written-back blocks cover the array. -/
theorem out_covers : (cfg0.win 5).Covers := by
  refine ⟨show ∀ a : Fin 2, 0 < S512x1024.size a from by decide, fun β => ?_⟩
  have h0 : (β (0 : Fin 2)).val < 33 := Nat.lt_of_lt_of_eq (β (0 : Fin 2)).isLt (show (16896 + 512 - 1) / 512 = 33 by norm_num)
  have h1 : (β (1 : Fin 2)).val < 6 := Nat.lt_of_lt_of_eq (β (1 : Fin 2)).isLt (show (6144 + 1024 - 1) / 1024 = 6 by norm_num)
  refine ⟨⟨6 * (β (0 : Fin 2)).val + (β (1 : Fin 2)).val, Nat.lt_of_lt_of_eq (by omega : _ < 198) N_0.symm⟩, flush0_5 _, fun a => ⟨?_, .inl rfl⟩⟩
  rw [out_index]
  match a with
  | ⟨0, _⟩ => exact (show (6 * (β (0 : Fin 2)).val + (β (1 : Fin 2)).val) / 6 = (β (0 : Fin 2)).val by omega)
  | ⟨1, _⟩ => exact (show (6 * (β (0 : Fin 2)).val + (β (1 : Fin 2)).val) % 6 = (β (1 : Fin 2)).val by omega)

/-- What the body leaves in the output's block: its one payload, of the blocks. -/
theorem out_eq (i : grid0.Coords) (x0 : Vec F S512x1024 .bf16) (x1 x2 : Vec F S16x1024 .bf16) (x3 : Vec F S3x1024 .f32) (x4 : Vec F S1x1024 .f32) :
    out0_5 i x0 x1 x2 x3 x4 = k0_pay1 (BitVec.ofNat 32 (i 0).val) (k0_pay2 x0) (iota .tc S512x1024 32 [0] iota_S512x1024_d0_w32) (k0_pay3 i x0 x2)
      (k0_pay4 i x0 x1 x4 (View.ld x3 r0_3)) (View.ld x3 r0_4) (View.ld x3 r0_5) := by
  unfold out0_5
  refine (View.canon_unit_zero (S := S512x1024) zero_off _ _).trans ?_
  have e0 : View.ld x0 r0_0 = x0 := View.ld_unit_zero (S := S512x1024) zero_off _ _
  have e1 : View.ld x1 r0_1 = x1 := View.ld_unit_zero (S := S16x1024) zero_off _ _
  have e2 : View.ld x2 r0_1 = x2 := View.ld_unit_zero (S := S16x1024) zero_off _ _
  have e4 : View.ld x4 r0_2 = x4 := View.ld_unit_zero (S := S1x1024) zero_off _ _
  rw [e0, e1, e2, e4]

/-- A row of the taps, loaded. -/
theorem tap_apply (x : Vec F S3x1024 .f32) (q : Fin 1024) :
    View.ld x r0_3 (ix2 0 q) = x (ix2 0 q) ∧ View.ld x r0_4 (ix2 0 q) = x (ix2 1 q) ∧ View.ld x r0_5 (ix2 0 q) = x (ix2 2 q) := by
  refine ⟨congrArg x (funext fun a => Fin.ext ?_), congrArg x (funext fun a => Fin.ext ?_), congrArg x (funext fun a => Fin.ext ?_)⟩ <;>
  match a with
  | ⟨0, _⟩ => rfl
  | ⟨1, _⟩ => show 0 + 1 * q.val = q.val; omega

end Blocks

/-! ## Over the reals -/

variable (m : (ℓ : Loc nD τ sig) → Buf (Elt Ideal) ℓ)

/-- The entries below, at an index, -/
theorem below_apply (i : grid0.Coords) (u : FVec Ideal S512x1024 .bf16) (next : FVec Ideal S16x1024 .bf16) (p : Fin 512) (q : Fin 1024) :
    (k0_pay3 (F := Ideal) i u next : FVec Ideal S512x1024 .f32) (ix2 p q) = if p.val = 511 then if (0 + (i 0).val) * 512 + 512 = 25600 then 0 else next (ix2 0 q)
      else u (ix2 ⟨(p.val + 512 - 511) % 512, Nat.mod_lt _ (by decide)⟩ q) := by
  have hi : (i 0).val < 33 := (i 0).isLt
  pointwise [k0_pay3, k0_pay2]
  refine (pick_eq p.val 511 (by omega) (by omega) _ _).trans (if_congr Iff.rfl ?_ rfl)
  refine Eq.trans (congrArg (fun x => Scalar.select (IntOp.cmpi .eq x 25600#32) _ _) ?_) ((pick_eq (0 + (i 0).val * 512 + 512) 25600 (by omega) (by omega) _ _).trans (if_congr (by omega) rfl rfl))
  rw [first_word]
  exact (BitVec.ofNat_add (0 + (i 0).val * 512) 512).symm

/-- the bias and the first tap on the entries above, -/
theorem above_apply (i : grid0.Coords) (u : FVec Ideal S512x1024 .bf16) (prev : FVec Ideal S16x1024 .bf16) (b w : FVec Ideal S1x1024 .f32) (p : Fin 512) (q : Fin 1024) :
    (k0_pay4 (F := Ideal) i u prev b w : FVec Ideal S512x1024 .f32) (ix2 p q) = b (ix2 0 q) + (if p.val = 0 then if (0 + (i 0).val) * 512 = 0 then 0 else prev (ix2 15 q)
      else u (ix2 ⟨(p.val + 512 - 1) % 512, Nat.mod_lt _ (by decide)⟩ q)) * w (ix2 0 q) := by
  have hi : (i 0).val < 33 := (i 0).isLt
  pointwise [k0_pay4, k0_pay2]
  refine congrArg (fun x : Ideal .f32 => b (ix2 0 q) + x * w (ix2 0 q)) ?_
  refine (pick_eq p.val 0 (by omega) (by omega) _ _).trans (if_congr Iff.rfl ?_ rfl)
  rw [first_word]
  exact (pick_eq (0 + (i 0).val * 512) 0 (by omega) (by omega) _ _).trans (if_congr (by omega) rfl rfl)

/-- and the whole payload. -/
theorem pay_apply (k : ℕ) (hk : k < 33) (u : FVec Ideal S512x1024 .bf16) (dn up : FVec Ideal S512x1024 .f32) (w1 w2 : FVec Ideal S1x1024 .f32) (p : Fin 512) (q : Fin 1024) :
    (k0_pay1 (F := Ideal) (BitVec.ofNat 32 k) (k0_pay2 u) (iota .tc S512x1024 32 [0] iota_S512x1024_d0_w32) dn up w1 w2 : FVec Ideal S512x1024 .f32) (ix2 p q)
      = if k * 512 + p.val < 16400 then up (ix2 p q) + u (ix2 p q) * w1 (ix2 0 q) + dn (ix2 p q) * w2 (ix2 0 q) else 0 := by
  pointwise [k0_pay1, k0_pay2]
  refine Eq.trans (congrArg (fun x => Scalar.select (IntOp.cmpi .slt x 16400#32) _ _) ?_) (pick_lt (k * 512 + p.val) 16400 (by omega) (by omega) _ _)
  rw [BitVec.ofNat_add, BitVec.ofNat_mul]
  rfl

/-- What the body leaves at an index, of blocks that hold the arguments' entries. -/
theorem at_point (i : grid0.Coords) (n : ℕ) (hn : (i 0).val = n) (k : Fin 50) (hk : 0 + n = k.val) (s : Fin 6144) (U : FVec Ideal S25600x6144 .bf16) (W : FVec Ideal S3x6144 .f32)
    (B : FVec Ideal S6144 .f32) (x0 : FVec Ideal S512x1024 .bf16) (x1 x2 : FVec Ideal S16x1024 .bf16) (x3 : FVec Ideal S3x1024 .f32) (x4 : FVec Ideal S1x1024 .f32)
    (q : Fin 1024) (h0 : ∀ p : Fin 512, x0 (ix2 p q) = U (ix2 ⟨k.val * 512 + p.val, by omega⟩ s))
    (h1 : ∀ h : k.val ≠ 0, x1 (ix2 15 q) = U (ix2 ⟨k.val * 512 - 1, by omega⟩ s))
    (h2 : ∀ h : k.val < 49, x2 (ix2 0 q) = U (ix2 ⟨k.val * 512 + 512, by omega⟩ s))
    (h3 : ∀ d : Fin 3, x3 (ix2 d q) = W (ix2 d s)) (h4 : x4 (ix2 0 q) = B (ix1 s)) (p : Fin 512) :
    (out0_5 (F := Ideal) i x0 x1 x2 x3 x4 : FVec Ideal S512x1024 .f32) (ix2 p q)
      = if n * 512 + p.val < 16400 then tapsAt U W B ⟨k.val * 512 + p.val, by omega⟩ s else 0 := by
  subst hn
  have hi : (i 0).val < 33 := (i 0).isLt
  rw [out_eq (F := Ideal) i x0 x1 x2 x3 x4, pay_apply (i 0).val hi]
  refine if_congr Iff.rfl ?_ rfl
  rw [above_apply, below_apply, (tap_apply (F := Ideal) x3 q).1, (tap_apply (F := Ideal) x3 q).2.1, (tap_apply (F := Ideal) x3 q).2.2, hk, h3, h3, h3, h4,
    above_block U s k (fun r => x0 (ix2 r q)) _ h0 h1 p, below_block U s k (fun r => x0 (ix2 r q)) _ h0 h2 p, h0 p]
  rfl

/-- The kernel's result array: `convAt` of the arguments, at every index. -/
theorem array_eq (c : Dev nD) : (dats m 0 c).arrAt 5 cfg0.N = (fun y : S16896x6144.Idx =>
    convAt 0 16400 (by decide) (m ((c.tc : Thread nD τ).loc main_arg0)) (m ((c.tc : Thread nD τ).loc main_arg1)) (m ((c.tc : Thread nD τ).loc main_arg2)) (y 0) (y 1)) := by
  refine Dat.arrAt_eq_of_covers (dats m 0 c) 5 _ out_covers (fun t _ y => ?_)
  obtain ⟨p, q, rfl⟩ : ∃ (p : Fin 512) (q : Fin 1024), y = ix2 p q := ⟨y 0, y 1, eq_ix2 y⟩
  have ht : t.val < 198 := t.isLt.trans_eq N_0
  have hp : p.val < 512 := p.isLt
  have hk := coords_row t
  have e0 : ((cfg0.win 5).rect t).emb (ix2 p q) (0 : Fin 2) = (⟨t.val / 6 * 512 + p.val, by omega⟩ : Fin 16896) :=
    Fin.ext ((Window.rect_emb_val (cfg0.win 5) t (ix2 p q) (0 : Fin 2)).trans (by rw [out_index]; rfl))
  have e1 : ((cfg0.win 5).rect t).emb (ix2 p q) (1 : Fin 2) = colHere t q :=
    Fin.ext ((Window.rect_emb_val (cfg0.win 5) t (ix2 p q) (1 : Fin 2)).trans (by rw [out_index]; rfl))
  refine Eq.trans ?_ (congrArg₂ (fun (r : Fin 16896) (s : Fin 6144) => convAt _ _ _ _ _ _ r s) e0.symm e1.symm)
  refine (congrFun (after0_5 m c t) (ix2 p q)).trans ((at_point (grid0.coords t) (t.val / 6) hk (blk t) rfl (colHere t q) _ _ _ _ _ _ _ _ q
    (fun s => iblk_rows m c t s q) (iblk_above m c t q) (iblk_below m c t q) (fun d => iblk_taps m c t d q) (iblk_bias m c t q) p).trans ?_)
  unfold convAt
  by_cases h : t.val / 6 * 512 + p.val < 16400
  · rw [if_pos h, dif_pos (show (⟨t.val / 6 * 512 + p.val, _⟩ : Fin 16896).val < 16400 from h)]
    refine congrArg (fun r => tapsAt _ _ _ r (colHere t q)) (Fin.ext ?_)
    show (0 + t.val / 6) * 512 + p.val = 0 + (t.val / 6 * 512 + p.val)
    omega
  · rw [if_neg h, dif_neg (show ¬ (⟨t.val / 6 * 512 + p.val, _⟩ : Fin 16896).val < 16400 from h)]

end Cert.ConvIdeal.Dense

namespace Cert.ConvReferenceIdeal.Value
open Cert.ConvReferenceIdeal Cert.ConvReferenceIdeal.Gen Cert.Proof.Shared
open Idealize.ShloMosaic Idealize.ShloMosaic.TcCoe

/-- The reference's taps on the whole array. -/
def taps (u : FVec Ideal S25600x6144 .bf16) (w : FVec Ideal S3x6144 .f32) (b : FVec Ideal S6144 .f32) : FVec Ideal S25600x6144 .f32 :=
  addf (addf (addf
    (broadcastInDim S25600x6144 ![0, 1] bcast_S1x6144_S25600x6144_0_1 (broadcastInDim S1x6144 ![1] bcast_S6144_S1x6144_1 b))
    (mulf (concatenate S25600x6144 0 [⟨S1x6144, (broadcastInDim S1x6144 ![] bcast_S_S1x6144 (constant S_ .f32 0x00000000#32))⟩, ⟨S25599x6144, (extractStridedSlice S25599x6144 ![0, 0] (extf .f32 u bitsLt_bf16_f32) slices_S25600x6144_S25599x6144_0_0)⟩] concatenates_S1x6144_S25599x6144_S25600x6144_d0)
    (broadcastInDim S25600x6144 ![0, 1] bcast_S1x6144_S25600x6144_0_1 (broadcastInDim S1x6144 ![1] bcast_S6144_S1x6144_1 (shapeCast S6144 (extractStridedSlice S1x6144 ![0, 0] w slices_S3x6144_S1x6144_0_0) shapeCasts_S1x6144_S6144)))))
    (mulf (extf .f32 u bitsLt_bf16_f32)
    (broadcastInDim S25600x6144 ![0, 1] bcast_S1x6144_S25600x6144_0_1 (broadcastInDim S1x6144 ![1] bcast_S6144_S1x6144_1 (shapeCast S6144 (extractStridedSlice S1x6144 ![1, 0] w slices_S3x6144_S1x6144_1_0) shapeCasts_S1x6144_S6144)))))
    (mulf (concatenate S25600x6144 0 [⟨S25599x6144, (extractStridedSlice S25599x6144 ![1, 0] (extf .f32 u bitsLt_bf16_f32) slices_S25600x6144_S25599x6144_1_0)⟩, ⟨S1x6144, (broadcastInDim S1x6144 ![] bcast_S_S1x6144 (constant S_ .f32 0x00000000#32))⟩] concatenates_S25599x6144_S1x6144_S25600x6144_d0)
    (broadcastInDim S25600x6144 ![0, 1] bcast_S1x6144_S25600x6144_0_1 (broadcastInDim S1x6144 ![1] bcast_S6144_S1x6144_1 (shapeCast S6144 (extractStridedSlice S1x6144 ![2, 0] w slices_S3x6144_S1x6144_2_0) shapeCasts_S1x6144_S6144))))

/-- They are `tapsAt` at every index. -/
theorem taps_apply (u : FVec Ideal S25600x6144 .bf16) (w : FVec Ideal S3x6144 .f32) (b : FVec Ideal S6144 .f32) (r : Fin 25600) (q : Fin 6144) :
    taps u w b (ix2 r q) = tapsAt u w b r q := by
  pointwise [taps, tapsAt, aboveAt, belowAt]
  refine congrArg₂ (fun x y : Ideal .f32 => b (ix1 q) + x * w (ix2 0 q) + u (ix2 r q) * w (ix2 1 q) + y * w (ix2 2 q)) ?_ (dite_congr (by rw [eq_iff_iff]; omega) (fun h => ?_) fun _ => rfl)
  · by_cases h : r.val = 0
    · rw [dif_pos (by omega), if_pos h]
    · rw [dif_neg (by omega), if_neg h]
  · exact congrArg (fun z => u (ix2 z q)) (Fin.ext (Nat.add_comm _ _))

/-- The reference's expression, at every index. -/
theorem expr_eq (u : FVec Ideal S25600x6144 .bf16) (w : FVec Ideal S3x6144 .f32) (b : FVec Ideal S6144 .f32) :
    (concatenate S16896x6144 0 [⟨S16400x6144, extractStridedSlice S16400x6144 ![0, 0] (taps u w b) slices_S25600x6144_S16400x6144_0_0⟩,
        ⟨S496x6144, broadcastInDim S496x6144 ![] bcast_S_S496x6144 (constant S_ .f32 0x00000000#32)⟩] concatenates_S16400x6144_S496x6144_S16896x6144_d0 : FVec Ideal S16896x6144 .f32)
      = fun y : S16896x6144.Idx => convAt 0 16400 (by decide) u w b (y 0) (y 1) := by
  have e : ∀ (x : FVec Ideal S25600x6144 .f32) (r : Fin 16896) (q : Fin 6144), (concatenate S16896x6144 0 [⟨S16400x6144, extractStridedSlice S16400x6144 ![0, 0] x
      slices_S25600x6144_S16400x6144_0_0⟩, ⟨S496x6144, broadcastInDim S496x6144 ![] bcast_S_S496x6144 (constant S_ .f32 0x00000000#32)⟩]
      concatenates_S16400x6144_S496x6144_S16896x6144_d0 : FVec Ideal S16896x6144 .f32) (ix2 r q)
        = if h : r.val < 16400 then x (ix2 ⟨0 + r.val, by omega⟩ q) else 0 := fun x r q => by
    pointwise []
  funext y
  obtain ⟨r, q, rfl⟩ : ∃ (r : Fin 16896) (q : Fin 6144), y = ix2 r q := ⟨y 0, y 1, eq_ix2 y⟩
  refine (e _ r q).trans (dite_congr rfl (fun h => ?_) (fun _ => rfl))
  exact taps_apply u w b _ q

end Cert.ConvReferenceIdeal.Value
end
-- ==== Proof.ConvSample.Value.lean ====
/-
  The short convolution of the sample: the kernel's result and the reference's, each read at an index, are `convAt` of the
  arguments.
-/
module
public import proofs.«01_k».proof.Proof.Gen.ConvSampleIdeal.Value
public import proofs.«01_k».proof.Proof.Gen.ConvSampleReferenceIdeal.Run
public import proofs.«01_k».proof.Proof.Conv.Value
public import Idealize.ShloMosaic.Lib.Pipeline.ValueKit
public import Idealize.ShloMosaic.Lib.Pipeline.Value
@[expose] public section
noncomputable section

namespace Cert.ConvSampleIdeal.Dense
open Cert.ConvSampleIdeal Cert.ConvSampleIdeal.Gen Cert.Proof.Shared
open Idealize.ShloMosaic Idealize.ShloMosaic.TcCoe
open Idealize.SL.Sem
open Idealize.ShloMosaic.Pipeline (Dat Cfg Window)

/-- The zero offsets of a whole block. -/
theorem zero_off : (![0, 0] : Fin 2 → ℕ) = fun _ => 0 := by
  funext a
  match a with
  | ⟨0, _⟩ => rfl
  | ⟨1, _⟩ => rfl

/-- A point's block of rows of the group. -/
theorem coords_row (t : Fin grid0.N) : (grid0.coords t 0).val = t.val / 6 := by
  have h := Pipeline.Grid.coords_val t (0 : Fin 2) (S := 6) (B := 17) (by decide) rfl
  have ht : t.val < 102 := t.isLt.trans_eq N_0
  exact h.trans (Nat.mod_eq_of_lt (by omega))
/-- That block, as one of the group's. -/
def rowBlk (t : Fin grid0.N) : Fin 17 := ⟨t.val / 6, by have ht : t.val < 102 := t.isLt.trans_eq N_0; omega⟩
/-- A point's block of columns, as a word. -/
theorem col_word (t : Fin grid0.N) : (BitVec.ofNat 32 (grid0.coords t 1).val).toNat = t.val % 6 := by
  have h := Pipeline.Grid.coords_val t (1 : Fin 2) (S := 1) (B := 6) (by decide) rfl
  rw [BitVec.toNat_ofNat, h, Nat.div_one, Nat.mod_eq_of_lt (by omega)]

/-- A point's block of rows, in the array. -/
def blk (t : Fin cfg0.N) : Fin 50 := ⟨33 + t.val / 6, by have ht : t.val < 102 := t.isLt.trans_eq N_0; omega⟩
/-- Column `q` of a point's block, in the array. -/
def colHere (t : Fin cfg0.N) (q : Fin 1024) : Fin 6144 := ⟨t.val % 6 * 1024 + q.val, by omega⟩

/-- The block's number, as a word, -/
theorem block_word : ∀ k : Fin 17, (Scalar.addi 33#32 (BitVec.ofNat 32 k.val)).toNat = 33 + k.val := by decide
/-- the number of the block of 16 rows above it, -/
theorem above_word : ∀ k : Fin 17, (Scalar.maxsi (Scalar.subi (Scalar.muli (Scalar.addi 33#32 (BitVec.ofNat 32 k.val)) 32#32) 1#32) 0#32).toNat
    = (33 + k.val) * 32 - 1 := by decide
/-- and of that below. -/
theorem below_word : ∀ k : Fin 17, (Scalar.minsi (Scalar.muli (Scalar.addi (Scalar.addi 33#32 (BitVec.ofNat 32 k.val)) 1#32) 32#32) 1599#32).toNat
    = min ((33 + k.val + 1) * 32) 1599 := by decide

section Blocks
variable {F : FTy → Type} [FloatOps F] (m : (ℓ : Loc nD τ sig) → Buf (Elt F) ℓ)

/-- The rows' block at a point, -/
theorem iblk_rows (c : Dev nD) (t : Fin cfg0.N) (p : Fin 512) (q : Fin 1024) :
    (iblk m c 0 t : S512x1024.Idx → Elt F .bf16) (ix2 p q) = m ((c : Thread nD τ).loc main_arg0) (ix2 ⟨(blk t).val * 512 + p.val, by omega⟩ (colHere t q)) := by
  unfold iblk
  refine (View.read_apply _ _).trans ((congrFun (V_main_arg0 m c) _).trans (congrArg (m ((c : Thread nD τ).loc main_arg0)) ?_))
  have hi : (cfg0.win 0).index t = ![33 + t.val / 6, t.val % 6] := by
    show ![(Scalar.addi 33#32 (BitVec.ofNat 32 (grid0.coords t 0).val)).toNat, (BitVec.ofNat 32 (grid0.coords t 1).val).toNat] = _
    rw [col_word, coords_row]
    exact congrArg (fun x : ℕ => ![x, t.val % 6]) (block_word (rowBlk t))
  funext a
  refine Fin.ext ((Window.rect_emb_val (cfg0.win 0) t (ix2 p q) a).trans ?_)
  rw [hi]
  match a with
  | ⟨0, _⟩ => rfl
  | ⟨1, _⟩ => rfl

/-- the last row of the block above, -/
theorem iblk_above (c : Dev nD) (t : Fin cfg0.N) (q : Fin 1024) (h : (blk t).val ≠ 0) :
    (iblk m c 1 t : S16x1024.Idx → Elt F .bf16) (ix2 15 q) = m ((c : Thread nD τ).loc main_arg0) (ix2 ⟨(blk t).val * 512 - 1, by omega⟩ (colHere t q)) := by
  unfold iblk
  refine (View.read_apply _ _).trans ((congrFun (V_main_arg0 m c) _).trans (congrArg (m ((c : Thread nD τ).loc main_arg0)) ?_))
  have hi : (cfg0.win 1).index t = ![(33 + t.val / 6) * 32 - 1, t.val % 6] := by
    show ![(Scalar.maxsi (Scalar.subi (Scalar.muli (Scalar.addi 33#32 (BitVec.ofNat 32 (grid0.coords t 0).val)) 32#32) 1#32) 0#32).toNat,
      (BitVec.ofNat 32 (grid0.coords t 1).val).toNat] = _
    rw [col_word, coords_row]
    exact congrArg (fun x : ℕ => ![x, t.val % 6]) (above_word (rowBlk t))
  funext a
  refine Fin.ext ((Window.rect_emb_val (cfg0.win 1) t (ix2 15 q) a).trans ?_)
  rw [hi]
  match a with
  | ⟨0, _⟩ =>
    show ((33 + t.val / 6) * 32 - 1) * 16 + 15 = (33 + t.val / 6) * 512 - 1
    have h' : 33 + t.val / 6 ≠ 0 := h
    omega
  | ⟨1, _⟩ => rfl

/-- the first of the block below, -/
theorem iblk_below (c : Dev nD) (t : Fin cfg0.N) (q : Fin 1024) (h : (blk t).val < 49) :
    (iblk m c 2 t : S16x1024.Idx → Elt F .bf16) (ix2 0 q) = m ((c : Thread nD τ).loc main_arg0) (ix2 ⟨(blk t).val * 512 + 512, by omega⟩ (colHere t q)) := by
  unfold iblk
  refine (View.read_apply _ _).trans ((congrFun (V_main_arg0 m c) _).trans (congrArg (m ((c : Thread nD τ).loc main_arg0)) ?_))
  have hi : (cfg0.win 2).index t = ![min ((33 + t.val / 6 + 1) * 32) 1599, t.val % 6] := by
    show ![(Scalar.minsi (Scalar.muli (Scalar.addi (Scalar.addi 33#32 (BitVec.ofNat 32 (grid0.coords t 0).val)) 1#32) 32#32) 1599#32).toNat,
      (BitVec.ofNat 32 (grid0.coords t 1).val).toNat] = _
    rw [col_word, coords_row]
    exact congrArg (fun x : ℕ => ![x, t.val % 6]) (below_word (rowBlk t))
  funext a
  refine Fin.ext ((Window.rect_emb_val (cfg0.win 2) t (ix2 0 q) a).trans ?_)
  rw [hi]
  match a with
  | ⟨0, _⟩ =>
    show min ((33 + t.val / 6 + 1) * 32) 1599 * 16 + 0 = (33 + t.val / 6) * 512 + 512
    have h' : 33 + t.val / 6 < 49 := h
    omega
  | ⟨1, _⟩ => rfl

/-- the taps' block, -/
theorem iblk_taps (c : Dev nD) (t : Fin cfg0.N) (d : Fin 3) (q : Fin 1024) :
    (iblk m c 3 t : S3x1024.Idx → Elt F .f32) (ix2 d q) = m ((c : Thread nD τ).loc main_arg1) (ix2 d (colHere t q)) := by
  unfold iblk
  refine (View.read_apply _ _).trans ((congrFun (V_main_arg1 m c) _).trans (congrArg (m ((c : Thread nD τ).loc main_arg1)) ?_))
  have hi : (cfg0.win 3).index t = ![0, t.val % 6] := by
    show ![0, (BitVec.ofNat 32 (grid0.coords t 1).val).toNat] = _
    rw [col_word]
  funext a
  refine Fin.ext ((Window.rect_emb_val (cfg0.win 3) t (ix2 d q) a).trans ?_)
  rw [hi]
  match a with
  | ⟨0, _⟩ => show 0 * 3 + d.val = d.val; omega
  | ⟨1, _⟩ => rfl

/-- The bias reshaped to one row before the launch, at an index, -/
theorem V_bias (c : Dev nD) (q : Fin 6144) : (V m c main_v0 : S1x6144.Idx → Elt F .f32) (ix2 0 q) = m ((c : Thread nD τ).loc main_arg2) (ix1 q) := by
  have e : V m c main_v0 = shapeCast S1x6144 (m ((c : Thread nD τ).loc main_arg2)) shapeCasts_S6144_S1x6144 := by
    unfold V hostOps0
    after_results
    rfl
  have f : ∀ x : Vec F S6144 .f32, shapeCast S1x6144 x shapeCasts_S6144_S1x6144 (ix2 0 q) = x (ix1 q) := fun x => by pointwise []
  rw [e]
  exact f _

/-- and its block at a point. -/
theorem iblk_bias (c : Dev nD) (t : Fin cfg0.N) (q : Fin 1024) :
    (iblk m c 4 t : S1x1024.Idx → Elt F .f32) (ix2 0 q) = m ((c : Thread nD τ).loc main_arg2) (ix1 (colHere t q)) := by
  unfold iblk
  refine (View.read_apply _ _).trans (Eq.trans (congrArg (V m c main_v0) (?_ : _ = ix2 0 (colHere t q))) (V_bias m c (colHere t q)))
  have hi : (cfg0.win 4).index t = ![0, t.val % 6] := by
    show ![0, (BitVec.ofNat 32 (grid0.coords t 1).val).toNat] = _
    rw [col_word]
  funext a
  refine Fin.ext ((Window.rect_emb_val (cfg0.win 4) t (ix2 0 q) a).trans ?_)
  rw [hi]
  match a with
  | ⟨0, _⟩ => rfl
  | ⟨1, _⟩ => rfl

/-- The output's block index at a point. -/
theorem out_index (t : Fin cfg0.N) : (cfg0.win 5).index t = ![t.val / 6, t.val % 6] := by
  show ![(BitVec.ofNat 32 (grid0.coords t 0).val).toNat, (BitVec.ofNat 32 (grid0.coords t 1).val).toNat] = _
  have ht : t.val < 102 := t.isLt.trans_eq N_0
  rw [col_word, coords_row, BitVec.toNat_ofNat, Nat.mod_eq_of_lt (by omega)]

/-- The written-back blocks cover the array. -/
theorem out_covers : (cfg0.win 5).Covers := by
  refine ⟨show ∀ a : Fin 2, 0 < S512x1024.size a from by decide, fun β => ?_⟩
  have h0 : (β (0 : Fin 2)).val < 17 := Nat.lt_of_lt_of_eq (β (0 : Fin 2)).isLt (show (8704 + 512 - 1) / 512 = 17 by norm_num)
  have h1 : (β (1 : Fin 2)).val < 6 := Nat.lt_of_lt_of_eq (β (1 : Fin 2)).isLt (show (6144 + 1024 - 1) / 1024 = 6 by norm_num)
  refine ⟨⟨6 * (β (0 : Fin 2)).val + (β (1 : Fin 2)).val, Nat.lt_of_lt_of_eq (by omega : _ < 102) N_0.symm⟩, flush0_5 _, fun a => ⟨?_, .inl rfl⟩⟩
  rw [out_index]
  match a with
  | ⟨0, _⟩ => exact (show (6 * (β (0 : Fin 2)).val + (β (1 : Fin 2)).val) / 6 = (β (0 : Fin 2)).val by omega)
  | ⟨1, _⟩ => exact (show (6 * (β (0 : Fin 2)).val + (β (1 : Fin 2)).val) % 6 = (β (1 : Fin 2)).val by omega)

/-- What the body leaves in the output's block: its one payload, of the blocks. -/
theorem out_eq (i : grid0.Coords) (x0 : Vec F S512x1024 .bf16) (x1 x2 : Vec F S16x1024 .bf16) (x3 : Vec F S3x1024 .f32) (x4 : Vec F S1x1024 .f32) :
    out0_5 i x0 x1 x2 x3 x4 = k0_pay1 (BitVec.ofNat 32 (i 0).val) (k0_pay2 x0) (iota .tc S512x1024 32 [0] iota_S512x1024_d0_w32) (k0_pay3 i x0 x2)
      (k0_pay4 i x0 x1 x4 (View.ld x3 r0_3)) (View.ld x3 r0_4) (View.ld x3 r0_5) := by
  unfold out0_5
  refine (View.canon_unit_zero (S := S512x1024) zero_off _ _).trans ?_
  have e0 : View.ld x0 r0_0 = x0 := View.ld_unit_zero (S := S512x1024) zero_off _ _
  have e1 : View.ld x1 r0_1 = x1 := View.ld_unit_zero (S := S16x1024) zero_off _ _
  have e2 : View.ld x2 r0_1 = x2 := View.ld_unit_zero (S := S16x1024) zero_off _ _
  have e4 : View.ld x4 r0_2 = x4 := View.ld_unit_zero (S := S1x1024) zero_off _ _
  rw [e0, e1, e2, e4]

/-- A row of the taps, loaded. -/
theorem tap_apply (x : Vec F S3x1024 .f32) (q : Fin 1024) :
    View.ld x r0_3 (ix2 0 q) = x (ix2 0 q) ∧ View.ld x r0_4 (ix2 0 q) = x (ix2 1 q) ∧ View.ld x r0_5 (ix2 0 q) = x (ix2 2 q) := by
  refine ⟨congrArg x (funext fun a => Fin.ext ?_), congrArg x (funext fun a => Fin.ext ?_), congrArg x (funext fun a => Fin.ext ?_)⟩ <;>
  match a with
  | ⟨0, _⟩ => rfl
  | ⟨1, _⟩ => show 0 + 1 * q.val = q.val; omega

end Blocks

/-! ## Over the reals -/

variable (m : (ℓ : Loc nD τ sig) → Buf (Elt Ideal) ℓ)

/-- The entries below, at an index, -/
theorem below_apply (i : grid0.Coords) (u : FVec Ideal S512x1024 .bf16) (next : FVec Ideal S16x1024 .bf16) (p : Fin 512) (q : Fin 1024) :
    (k0_pay3 (F := Ideal) i u next : FVec Ideal S512x1024 .f32) (ix2 p q) = if p.val = 511 then if (33 + (i 0).val) * 512 + 512 = 25600 then 0 else next (ix2 0 q)
      else u (ix2 ⟨(p.val + 512 - 511) % 512, Nat.mod_lt _ (by decide)⟩ q) := by
  have hi : (i 0).val < 17 := (i 0).isLt
  pointwise [k0_pay3, k0_pay2]
  refine (pick_eq p.val 511 (by omega) (by omega) _ _).trans (if_congr Iff.rfl ?_ rfl)
  refine Eq.trans (congrArg (fun x => Scalar.select (IntOp.cmpi .eq x 25600#32) _ _) ?_) ((pick_eq (16896 + (i 0).val * 512 + 512) 25600 (by omega) (by omega) _ _).trans (if_congr (by omega) rfl rfl))
  rw [first_word]
  exact (BitVec.ofNat_add (16896 + (i 0).val * 512) 512).symm

/-- the bias and the first tap on the entries above, -/
theorem above_apply (i : grid0.Coords) (u : FVec Ideal S512x1024 .bf16) (prev : FVec Ideal S16x1024 .bf16) (b w : FVec Ideal S1x1024 .f32) (p : Fin 512) (q : Fin 1024) :
    (k0_pay4 (F := Ideal) i u prev b w : FVec Ideal S512x1024 .f32) (ix2 p q) = b (ix2 0 q) + (if p.val = 0 then if (33 + (i 0).val) * 512 = 0 then 0 else prev (ix2 15 q)
      else u (ix2 ⟨(p.val + 512 - 1) % 512, Nat.mod_lt _ (by decide)⟩ q)) * w (ix2 0 q) := by
  have hi : (i 0).val < 17 := (i 0).isLt
  pointwise [k0_pay4, k0_pay2]
  refine congrArg (fun x : Ideal .f32 => b (ix2 0 q) + x * w (ix2 0 q)) ?_
  refine (pick_eq p.val 0 (by omega) (by omega) _ _).trans (if_congr Iff.rfl ?_ rfl)
  rw [first_word]
  exact (pick_eq (16896 + (i 0).val * 512) 0 (by omega) (by omega) _ _).trans (if_congr (by omega) rfl rfl)

/-- and the whole payload. -/
theorem pay_apply (k : ℕ) (hk : k < 17) (u : FVec Ideal S512x1024 .bf16) (dn up : FVec Ideal S512x1024 .f32) (w1 w2 : FVec Ideal S1x1024 .f32) (p : Fin 512) (q : Fin 1024) :
    (k0_pay1 (F := Ideal) (BitVec.ofNat 32 k) (k0_pay2 u) (iota .tc S512x1024 32 [0] iota_S512x1024_d0_w32) dn up w1 w2 : FVec Ideal S512x1024 .f32) (ix2 p q)
      = if k * 512 + p.val < 8208 then up (ix2 p q) + u (ix2 p q) * w1 (ix2 0 q) + dn (ix2 p q) * w2 (ix2 0 q) else 0 := by
  pointwise [k0_pay1, k0_pay2]
  refine Eq.trans (congrArg (fun x => Scalar.select (IntOp.cmpi .slt x 8208#32) _ _) ?_) (pick_lt (k * 512 + p.val) 8208 (by omega) (by omega) _ _)
  rw [BitVec.ofNat_add, BitVec.ofNat_mul]
  rfl

/-- What the body leaves at an index, of blocks that hold the arguments' entries. -/
theorem at_point (i : grid0.Coords) (n : ℕ) (hn : (i 0).val = n) (k : Fin 50) (hk : 33 + n = k.val) (s : Fin 6144) (U : FVec Ideal S25600x6144 .bf16) (W : FVec Ideal S3x6144 .f32)
    (B : FVec Ideal S6144 .f32) (x0 : FVec Ideal S512x1024 .bf16) (x1 x2 : FVec Ideal S16x1024 .bf16) (x3 : FVec Ideal S3x1024 .f32) (x4 : FVec Ideal S1x1024 .f32)
    (q : Fin 1024) (h0 : ∀ p : Fin 512, x0 (ix2 p q) = U (ix2 ⟨k.val * 512 + p.val, by omega⟩ s))
    (h1 : ∀ h : k.val ≠ 0, x1 (ix2 15 q) = U (ix2 ⟨k.val * 512 - 1, by omega⟩ s))
    (h2 : ∀ h : k.val < 49, x2 (ix2 0 q) = U (ix2 ⟨k.val * 512 + 512, by omega⟩ s))
    (h3 : ∀ d : Fin 3, x3 (ix2 d q) = W (ix2 d s)) (h4 : x4 (ix2 0 q) = B (ix1 s)) (p : Fin 512) :
    (out0_5 (F := Ideal) i x0 x1 x2 x3 x4 : FVec Ideal S512x1024 .f32) (ix2 p q)
      = if n * 512 + p.val < 8208 then tapsAt U W B ⟨k.val * 512 + p.val, by omega⟩ s else 0 := by
  subst hn
  have hi : (i 0).val < 17 := (i 0).isLt
  rw [out_eq (F := Ideal) i x0 x1 x2 x3 x4, pay_apply (i 0).val hi]
  refine if_congr Iff.rfl ?_ rfl
  rw [above_apply, below_apply, (tap_apply (F := Ideal) x3 q).1, (tap_apply (F := Ideal) x3 q).2.1, (tap_apply (F := Ideal) x3 q).2.2, hk, h3, h3, h3, h4,
    above_block U s k (fun r => x0 (ix2 r q)) _ h0 h1 p, below_block U s k (fun r => x0 (ix2 r q)) _ h0 h2 p, h0 p]
  rfl

/-- The kernel's result array: `convAt` of the arguments, at every index. -/
theorem array_eq (c : Dev nD) : (dats m 0 c).arrAt 5 cfg0.N = (fun y : S8704x6144.Idx =>
    convAt 16896 8208 (by decide) (m ((c.tc : Thread nD τ).loc main_arg0)) (m ((c.tc : Thread nD τ).loc main_arg1)) (m ((c.tc : Thread nD τ).loc main_arg2)) (y 0) (y 1)) := by
  refine Dat.arrAt_eq_of_covers (dats m 0 c) 5 _ out_covers (fun t _ y => ?_)
  obtain ⟨p, q, rfl⟩ : ∃ (p : Fin 512) (q : Fin 1024), y = ix2 p q := ⟨y 0, y 1, eq_ix2 y⟩
  have ht : t.val < 102 := t.isLt.trans_eq N_0
  have hp : p.val < 512 := p.isLt
  have hk := coords_row t
  have e0 : ((cfg0.win 5).rect t).emb (ix2 p q) (0 : Fin 2) = (⟨t.val / 6 * 512 + p.val, by omega⟩ : Fin 8704) :=
    Fin.ext ((Window.rect_emb_val (cfg0.win 5) t (ix2 p q) (0 : Fin 2)).trans (by rw [out_index]; rfl))
  have e1 : ((cfg0.win 5).rect t).emb (ix2 p q) (1 : Fin 2) = colHere t q :=
    Fin.ext ((Window.rect_emb_val (cfg0.win 5) t (ix2 p q) (1 : Fin 2)).trans (by rw [out_index]; rfl))
  refine Eq.trans ?_ (congrArg₂ (fun (r : Fin 8704) (s : Fin 6144) => convAt _ _ _ _ _ _ r s) e0.symm e1.symm)
  refine (congrFun (after0_5 m c t) (ix2 p q)).trans ((at_point (grid0.coords t) (t.val / 6) hk (blk t) rfl (colHere t q) _ _ _ _ _ _ _ _ q
    (fun s => iblk_rows m c t s q) (iblk_above m c t q) (iblk_below m c t q) (fun d => iblk_taps m c t d q) (iblk_bias m c t q) p).trans ?_)
  unfold convAt
  by_cases h : t.val / 6 * 512 + p.val < 8208
  · rw [if_pos h, dif_pos (show (⟨t.val / 6 * 512 + p.val, _⟩ : Fin 8704).val < 8208 from h)]
    refine congrArg (fun r => tapsAt _ _ _ r (colHere t q)) (Fin.ext ?_)
    show (33 + t.val / 6) * 512 + p.val = 16896 + (t.val / 6 * 512 + p.val)
    omega
  · rw [if_neg h, dif_neg (show ¬ (⟨t.val / 6 * 512 + p.val, _⟩ : Fin 8704).val < 8208 from h)]

end Cert.ConvSampleIdeal.Dense

namespace Cert.ConvSampleReferenceIdeal.Value
open Cert.ConvSampleReferenceIdeal Cert.ConvSampleReferenceIdeal.Gen Cert.Proof.Shared
open Idealize.ShloMosaic Idealize.ShloMosaic.TcCoe

open Cert.ConvReferenceIdeal.Value (taps taps_apply)

/-- The reference's expression, at every index. -/
theorem expr_eq (u : FVec Ideal S25600x6144 .bf16) (w : FVec Ideal S3x6144 .f32) (b : FVec Ideal S6144 .f32) :
    (concatenate S8704x6144 0 [⟨S8208x6144, extractStridedSlice S8208x6144 ![16896, 0] (taps u w b) slices_S25600x6144_S8208x6144_16896_0⟩,
        ⟨S496x6144, broadcastInDim S496x6144 ![] bcast_S_S496x6144 (constant S_ .f32 0x00000000#32)⟩] concatenates_S8208x6144_S496x6144_S8704x6144_d0 : FVec Ideal S8704x6144 .f32)
      = fun y : S8704x6144.Idx => convAt 16896 8208 (by decide) u w b (y 0) (y 1) := by
  have e : ∀ (x : FVec Ideal S25600x6144 .f32) (r : Fin 8704) (q : Fin 6144), (concatenate S8704x6144 0 [⟨S8208x6144, extractStridedSlice S8208x6144 ![16896, 0] x
      slices_S25600x6144_S8208x6144_16896_0⟩, ⟨S496x6144, broadcastInDim S496x6144 ![] bcast_S_S496x6144 (constant S_ .f32 0x00000000#32)⟩]
      concatenates_S8208x6144_S496x6144_S8704x6144_d0 : FVec Ideal S8704x6144 .f32) (ix2 r q)
        = if h : r.val < 8208 then x (ix2 ⟨16896 + r.val, by omega⟩ q) else 0 := fun x r q => by
    pointwise []
  funext y
  obtain ⟨r, q, rfl⟩ : ∃ (r : Fin 8704) (q : Fin 6144), y = ix2 r q := ⟨y 0, y 1, eq_ix2 y⟩
  refine (e _ r q).trans (dite_congr rfl (fun h => ?_) (fun _ => rfl))
  exact taps_apply u w b _ q

end Cert.ConvSampleReferenceIdeal.Value
end
-- ==== Proof.Shared.Heads.lean ====
/-
  The mathematics of the heads' queries and keys, at one index. `rmsAt` is a row over the root of its mean square, times
  a gain; `turnAt` a row turned by the rotary tables; `queryAt`, `keyAt` and `headValueAt` an entry of a query, a key, a value.
-/
module

public import Idealize.ShloMosaic.Lib.Pointwise

@[expose] public section

noncomputable section

namespace Cert.Proof.Shared

open Idealize.ShloMosaic

/-- Entry `k` of the row `x` over the root of its mean square, times the gain; `n` is the row's length as a number's word. -/
def rmsAt {N : ℕ} (n : BitVec 32) (x g : Fin N → Ideal .f32) (k : Fin N) : Ideal .f32 :=
  x k * Ideal.rsqrt (Ideal.div (∑ j, x j * x j) (Scalar.ofBits .f32 n : Ideal .f32) + (Scalar.ofBits .f32 0x358637BD#32 : Ideal .f32)) * g k

/-- Entry `d` of the row `x` turned: the row times the cosines, plus the row times the rotation times the sines. -/
def turnAt {N : ℕ} (x : Fin N → Ideal .f32) (rot : Fin N → Fin N → Ideal .f32) (cs sn : Fin N → Ideal .f32) (d : Fin N) : Ideal .f32 :=
  x d * cs d + (∑ k, x k * rot k d) * sn d

/-- Entry `(h, r, d)` of the queries: the normed latents times the head's matrix, normed, turned and scaled. -/
def queryAt (c : FVec Ideal ⟨2, ![25600, 896]⟩ .f32) (g : FVec Ideal ⟨1, ![512]⟩ .f32) (w : FVec Ideal ⟨3, ![16, 512, 192]⟩ .bf16)
    (gh : FVec Ideal ⟨1, ![192]⟩ .f32) (rot : FVec Ideal ⟨2, ![192, 192]⟩ .bf16) (cs sn : FVec Ideal ⟨2, ![25600, 192]⟩ .f32)
    (h : Fin 16) (r : Fin 25600) (d : Fin 192) : Ideal .f32 :=
  turnAt (rmsAt 0x43400000#32 (fun e => ∑ k : Fin 512, rmsAt 0x44000000#32 (fun j => c (ix2 r ⟨j.val, by omega⟩)) (fun j => g (ix1 j)) k * w (ix3 h k e))
      (fun e => gh (ix1 e))) (fun k e => rot (ix2 k e)) (fun e => cs (ix2 r e)) (fun e => sn (ix2 r e)) d
    * (Scalar.ofBits .f32 0x3DD53B95#32 : Ideal .f32)

/-- Entry `e` of a row of 128 entries followed by one of 64. -/
def joinAt (a : Fin 128 → Ideal .f32) (b : Fin 64 → Ideal .f32) (e : Fin 192) : Ideal .f32 :=
  if h : e.val < 128 then a ⟨e.val, h⟩ else b ⟨e.val - 128, by omega⟩

/-- Entry `k` of row `r` of the normed latents of the keys and values: columns 512 to 767 of the latents. -/
def sharedAt (c : FVec Ideal ⟨2, ![25600, 896]⟩ .f32) (g : FVec Ideal ⟨1, ![256]⟩ .f32) (r : Fin 25600) (k : Fin 256) : Ideal .f32 :=
  rmsAt 0x43800000#32 (fun j : Fin 256 => c (ix2 r ⟨512 + j.val, by omega⟩)) (fun j => g (ix1 j)) k

/-- Entry `(h, r, d)` of the keys: the normed latents times the head's matrix, followed by columns 768 to 831 of the latents,
the whole normed and turned. -/
def keyAt (c : FVec Ideal ⟨2, ![25600, 896]⟩ .f32) (g : FVec Ideal ⟨1, ![256]⟩ .f32) (w : FVec Ideal ⟨3, ![16, 256, 128]⟩ .bf16)
    (gh : FVec Ideal ⟨1, ![192]⟩ .f32) (rot : FVec Ideal ⟨2, ![192, 192]⟩ .bf16) (cs sn : FVec Ideal ⟨2, ![25600, 192]⟩ .f32)
    (h : Fin 16) (r : Fin 25600) (d : Fin 192) : Ideal .f32 :=
  turnAt (rmsAt 0x43400000#32 (joinAt (fun e => ∑ k : Fin 256, sharedAt c g r k * w (ix3 h k e)) (fun e => c (ix2 r ⟨768 + e.val, by omega⟩)))
      (fun e => gh (ix1 e))) (fun k e => rot (ix2 k e)) (fun e => cs (ix2 r e)) (fun e => sn (ix2 r e)) d

/-- Entry `(h, v, r)` of the values, turned on their side: rows under 128 the head's matrix times the normed latents, row 128
of ones, the rest of zeros. -/
def headValueAt (c : FVec Ideal ⟨2, ![25600, 896]⟩ .f32) (g : FVec Ideal ⟨1, ![256]⟩ .f32) (w : FVec Ideal ⟨3, ![16, 128, 256]⟩ .bf16)
    (h : Fin 16) (v : Fin 144) (r : Fin 25600) : Ideal .f32 :=
  if e : v.val < 128 then ∑ k : Fin 256, w (ix3 h ⟨v.val, e⟩ k) * sharedAt c g r k
  else if v.val = 128 then (Scalar.ofBits .f32 0x3F800000#32 : Ideal .f32) else (Scalar.ofBits .f32 0x00000000#32 : Ideal .f32)

end Cert.Proof.Shared

end
-- ==== Proof.MlaQ.Value.lean ====
/-
  The heads' queries: the kernel's result and the reference's, each read at an index, are `queryAt` of the arguments. At the
  first head of a block of rows the body norms the block's latents into its scratch, which it keeps for the other heads.
-/
module
public import proofs.«01_k».proof.Proof.Gen.MlaQIdeal.Value
public import proofs.«01_k».proof.Proof.Gen.MlaQReferenceIdeal.Run
public import proofs.«01_k».proof.Proof.Shared.Heads
public import Idealize.ShloMosaic.Lib.Pipeline.ValueKit
public import Idealize.ShloMosaic.Lib.VecWindow
@[expose] public section
noncomputable section

namespace Cert.MlaQIdeal.Dense
open Cert.MlaQIdeal Cert.MlaQIdeal.Gen Cert.Proof.Shared
open Idealize.ShloMosaic Idealize.ShloMosaic.TcCoe
open Idealize.SL.Sem
open Idealize.ShloMosaic.Pipeline (Dat Cfg Window)

section Blocks
variable {F : FTy → Type} [FloatOps F] (m : (ℓ : Loc nD τ sig) → Buf (Elt F) ℓ)

/-- The columns of the queries' latents. -/
def latentCols (x : Vec F S1024x896 .f32) : Vec F S1024x512 .f32 := fun y => x (ix2 (y 0) ⟨(y 1).val, Nat.lt_of_lt_of_le (y 1).isLt (by decide)⟩)

/-- The body's read of those columns. -/
theorem read_cols (M : Memref sig .tc .vmem S1024x896 .f32) (hM : M.IsWhole) (x : Vec F S1024x896 .f32) :
    M.view.readAt (Elt F) (Rect.unit (s := S1024x896) ![0, 0] S1024x512.size inb_S1024x896_S1024x512_0_0) (hM.unread x) = latentCols x := by
  rw [View.readAt_eq_ld, hM.read_unread]
  funext y
  refine congrArg x (funext fun a => Fin.ext ?_)
  match a with
  | ⟨0, _⟩ => show 0 + 1 * (y 0).val = _; simp
  | ⟨1, _⟩ => show 0 + 1 * (y 1).val = _; simp

section Body
variable (c : Dev nD) (i : grid0.Coords) (arg2 : Memref sig .tc .vmem S1024x896 .f32) (harg2 : arg2.IsWhole)
  (arg3 : Memref sig .tc .vmem S1x512 .f32) (harg3 : arg3.IsWhole) (arg4 : Memref sig .tc .vmem S1x512x192 .bf16) (harg4 : arg4.IsWhole)
  (arg5 : Memref sig .tc .vmem S1x192 .f32) (harg5 : arg5.IsWhole) (arg6 : Memref sig .tc .vmem S192x192 .bf16) (harg6 : arg6.IsWhole)
  (arg7 : Memref sig .tc .vmem S1024x192 .f32) (harg7 : arg7.IsWhole) (arg8 : Memref sig .tc .vmem S1024x192 .f32) (harg8 : arg8.IsWhole)
  (arg9 : Memref sig .tc .vmem S1x1024x192 .bf16) (harg9 : arg9.IsWhole) (arg10 : Memref sig .tc .vmem S1024x512 .bf16) (harg10 : arg10.IsWhole)
  (x0 : Vec F S1024x896 .f32) (x1 : Vec F S1x512 .f32) (x2 : Vec F S1x512x192 .bf16) (x3 : Vec F S1x192 .f32) (x4 : Vec F S192x192 .bf16)
  (x5 x6 : Vec F S1024x192 .f32) (xs : Vec F S1024x512 .bf16)

/-- A first head leaves the normed latents in the scratch, -/
theorem scratch_first (hc : cond0_0 i) :
    sout0_A_0 c i arg2 harg2 arg3 harg3 arg4 harg4 arg5 harg5 arg6 harg6 arg7 harg7 arg8 harg8 arg9 harg9 arg10 harg10 hc x0 x1 x2 x3 x4 x5 x6
      = k0_pay2 (latentCols x0) x1 := by
  unfold sout0_A_0 kernelRun0_A
  refine (View.read_writes_full _ _ inb_S1024x512_S1024x512_0_0 _ []).trans ?_
  rw [read_cols, View.readAt_full, harg3.read_unread]

/-- and the queries from those in the output's block; -/
theorem out_first (hc : cond0_0 i) :
    out0_A_7 c i arg2 harg2 arg3 harg3 arg4 harg4 arg5 harg5 arg6 harg6 arg7 harg7 arg8 harg8 arg9 harg9 arg10 harg10 hc x0 x1 x2 x3 x4 x5 x6
      = k0_pay1 (k0_pay3 (k0_pay2 (latentCols x0) x1) x2 x3 x4 x5 x6) := by
  unfold out0_A_7 kernelRun0_A
  refine (View.read_writes_full _ _ inb_S1x1024x192_S1x1024x192_0_0_0 _ []).trans ?_
  sl_unfold_words
  rw [View.readCov_full, read_cols, View.readAt_full, View.readAt_full, View.readAt_full, View.readAt_full, View.readAt_full, View.readAt_full,
    harg3.read_unread, harg4.read_unread, harg5.read_unread, harg6.read_unread, harg7.read_unread, harg8.read_unread]

/-- another head leaves the queries from what the scratch holds. -/
theorem out_next (hc : ¬ cond0_0 i) :
    out0_B_7 c i arg2 harg2 arg3 harg3 arg4 harg4 arg5 harg5 arg6 harg6 arg7 harg7 arg8 harg8 arg9 harg9 arg10 harg10 hc x0 x1 x2 x3 x4 x5 x6 xs
      = k0_pay1 (k0_pay3 xs x2 x3 x4 x5 x6) := by
  unfold out0_B_7 kernelRun0_B
  refine (View.read_writes_full _ _ inb_S1x1024x192_S1x1024x192_0_0_0 _ []).trans ?_
  sl_unfold_words
  rw [View.readAt_full, View.readAt_full, View.readAt_full, View.readAt_full, View.readAt_full, View.readAt_full, harg10.read_unread, harg4.read_unread, harg5.read_unread, harg6.read_unread, harg7.read_unread, harg8.read_unread]
end Body

/-- A point's block of rows. -/
theorem coords_row (t : Fin grid0.N) : (grid0.coords t 0).val = t.val / 16 := by
  have h := Pipeline.Grid.coords_val t (0 : Fin 2) (S := 16) (B := 25) (by decide) rfl
  have ht : t.val < 400 := t.isLt.trans_eq N_0
  exact h.trans (Nat.mod_eq_of_lt (by omega))
/-- A point's head. -/
theorem coords_head (t : Fin grid0.N) : (grid0.coords t 1).val = t.val % 16 := by
  have h := Pipeline.Grid.coords_val t (1 : Fin 2) (S := 1) (B := 16) (by decide) rfl
  exact h.trans (by rw [Nat.div_one])
/-- The block of rows, as a word. -/
theorem row_word (t : Fin grid0.N) : (BitVec.ofNat 32 (grid0.coords t 0).val).toNat = t.val / 16 := by
  have ht : t.val < 400 := t.isLt.trans_eq N_0
  rw [BitVec.toNat_ofNat, coords_row, Nat.mod_eq_of_lt (by omega)]
/-- The head, as a word. -/
theorem head_word (t : Fin grid0.N) : (BitVec.ofNat 32 (grid0.coords t 1).val).toNat = t.val % 16 := by
  rw [BitVec.toNat_ofNat, coords_head, Nat.mod_eq_of_lt (by omega)]

/-- Row `p` of block `b` of rows, in the array. -/
def rowIn (b : Fin 25) (p : Fin 1024) : Fin 25600 := ⟨b.val * 1024 + p.val, by omega⟩
/-- A point's head. -/
def headOf (t : Fin cfg0.N) : Fin 16 := ⟨t.val % 16, by omega⟩
/-- The block of rows of the point at position `n`. -/
def rowBlk (n : ℕ) (h : n < cfg0.N) : Fin 25 := ⟨n / 16, by have ht : n < 400 := h.trans_eq N_0; omega⟩

/-- The latents of a block of rows, -/
def latents (c : Dev nD) (b : Fin 25) : Vec F S1024x896 .f32 := fun y => m ((c : Thread nD τ).loc main_arg0) (ix2 (rowIn b (y 0)) (y 1))
/-- their gain, as one row, -/
def gainRow (c : Dev nD) : Vec F S1x512 .f32 := fun y => m ((c : Thread nD τ).loc main_arg1) (ix1 (y 1))
/-- the heads' gain, as one row, -/
def headGain (c : Dev nD) : Vec F S1x192 .f32 := fun y => m ((c : Thread nD τ).loc main_arg3) (ix1 (y 1))
/-- and the cosines of a block of rows. -/
def cosines (c : Dev nD) (b : Fin 25) : Vec F S1024x192 .f32 := fun y => m ((c : Thread nD τ).loc main_arg5) (ix2 (rowIn b (y 0)) (y 1))
/-- The sines of a block of rows. -/
def sines (c : Dev nD) (b : Fin 25) : Vec F S1024x192 .f32 := fun y => m ((c : Thread nD τ).loc main_arg6) (ix2 (rowIn b (y 0)) (y 1))

/-- The latents' block at a point. -/
theorem iblk_latents (c : Dev nD) (t : Fin cfg0.N) : iblk m c 0 t = latents m c (rowBlk t.val t.isLt) := by
  funext y
  unfold iblk
  refine (View.read_apply _ _).trans ?_
  refine (congrFun (V_main_arg0 m c) _).trans (congrArg (m ((c : Thread nD τ).loc main_arg0)) ?_)
  have hi : (cfg0.win 0).index t = ![t.val / 16, 0] := by
    show ![(BitVec.ofNat 32 (grid0.coords t 0).val).toNat, 0] = _
    rw [row_word]
  funext a
  refine Fin.ext ((Window.rect_emb_val (cfg0.win 0) t y a).trans ?_)
  rw [hi]
  match a with
  | ⟨0, _⟩ => rfl
  | ⟨1, _⟩ => show 0 * 896 + (y 1).val = (y 1).val; omega

/-- The cosines' block at a point, -/
theorem iblk_cosines (c : Dev nD) (t : Fin cfg0.N) : iblk m c 5 t = cosines m c (rowBlk t.val t.isLt) := by
  funext y
  unfold iblk
  refine (View.read_apply _ _).trans ?_
  refine (congrFun (V_main_arg5 m c) _).trans (congrArg (m ((c : Thread nD τ).loc main_arg5)) ?_)
  have hi : (cfg0.win 5).index t = ![t.val / 16, 0] := by
    show ![(BitVec.ofNat 32 (grid0.coords t 0).val).toNat, 0] = _
    rw [row_word]
  funext a
  refine Fin.ext ((Window.rect_emb_val (cfg0.win 5) t y a).trans ?_)
  rw [hi]
  match a with
  | ⟨0, _⟩ => rfl
  | ⟨1, _⟩ => show 0 * 192 + (y 1).val = (y 1).val; omega

/-- and the sines'. -/
theorem iblk_sines (c : Dev nD) (t : Fin cfg0.N) : iblk m c 6 t = sines m c (rowBlk t.val t.isLt) := by
  funext y
  unfold iblk
  refine (View.read_apply _ _).trans ?_
  refine (congrFun (V_main_arg6 m c) _).trans (congrArg (m ((c : Thread nD τ).loc main_arg6)) ?_)
  have hi : (cfg0.win 6).index t = ![t.val / 16, 0] := by
    show ![(BitVec.ofNat 32 (grid0.coords t 0).val).toNat, 0] = _
    rw [row_word]
  funext a
  refine Fin.ext ((Window.rect_emb_val (cfg0.win 6) t y a).trans ?_)
  rw [hi]
  match a with
  | ⟨0, _⟩ => rfl
  | ⟨1, _⟩ => show 0 * 192 + (y 1).val = (y 1).val; omega

/-- A vector of 512 reshaped to one row, at an index, -/
theorem row_apply {α : Type} (x : S512.Idx → α) (k : Fin 512) : shapeCast S1x512 x shapeCasts_S512_S1x512 (ix2 0 k) = x (ix1 k) := by
  pointwise []
/-- and one of 192. -/
theorem headRow_apply {α : Type} (x : S192.Idx → α) (k : Fin 192) : shapeCast S1x192 x shapeCasts_S192_S1x192 (ix2 0 k) = x (ix1 k) := by
  pointwise []

/-- The latents' gain, reshaped to one row before the launch, -/
theorem V_gain (c : Dev nD) : (V m c main_v0 : S1x512.Idx → Elt F .f32) = gainRow m c := by
  have e : V m c main_v0 = shapeCast S1x512 (m ((c : Thread nD τ).loc main_arg1)) shapeCasts_S512_S1x512 := by
    unfold V hostOps0
    after_results
    rfl
  rw [e]
  funext y
  obtain ⟨p, k, rfl⟩ : ∃ (p : Fin 1) (k : Fin 512), y = ix2 p k := ⟨y 0, y 1, eq_ix2 y⟩
  obtain rfl : p = 0 := Subsingleton.elim _ _
  exact row_apply _ k

/-- and the heads'. -/
theorem V_headGain (c : Dev nD) : (V m c main_v1 : S1x192.Idx → Elt F .f32) = headGain m c := by
  have e : V m c main_v1 = shapeCast S1x192 (m ((c : Thread nD τ).loc main_arg3)) shapeCasts_S192_S1x192 := by
    unfold V hostOps0
    after_results
    rfl
  rw [e]
  funext y
  obtain ⟨p, k, rfl⟩ : ∃ (p : Fin 1) (k : Fin 192), y = ix2 p k := ⟨y 0, y 1, eq_ix2 y⟩
  obtain rfl : p = 0 := Subsingleton.elim _ _
  exact headRow_apply _ k

/-- The latents' gain's block at a point, -/
theorem iblk_gain (c : Dev nD) (t : Fin cfg0.N) : iblk m c 1 t = gainRow m c := by
  funext y
  unfold iblk
  refine (View.read_apply _ _).trans ((congrFun (V_gain m c) _).trans (congrArg (gainRow m c) (funext fun a => ?_)))
  refine Fin.ext ((Window.rect_emb_val (cfg0.win 1) t y a).trans ?_)
  rw [show (cfg0.win 1).index t = ![0, 0] from rfl]
  match a with
  | ⟨0, _⟩ => show 0 * 1 + (y 0).val = (y 0).val; omega
  | ⟨1, _⟩ => show 0 * 512 + (y 1).val = (y 1).val; omega

/-- the heads' gain's, -/
theorem iblk_headGain (c : Dev nD) (t : Fin cfg0.N) : iblk m c 3 t = headGain m c := by
  funext y
  unfold iblk
  refine (View.read_apply _ _).trans ((congrFun (V_headGain m c) _).trans (congrArg (headGain m c) (funext fun a => ?_)))
  refine Fin.ext ((Window.rect_emb_val (cfg0.win 3) t y a).trans ?_)
  rw [show (cfg0.win 3).index t = ![0, 0] from rfl]
  match a with
  | ⟨0, _⟩ => show 0 * 1 + (y 0).val = (y 0).val; omega
  | ⟨1, _⟩ => show 0 * 192 + (y 1).val = (y 1).val; omega

/-- the rotation's, -/
theorem iblk_rot (c : Dev nD) (t : Fin cfg0.N) : iblk m c 4 t = m ((c : Thread nD τ).loc main_arg4) := by
  funext y
  unfold iblk
  refine (View.read_apply _ _).trans ((congrFun (V_main_arg4 m c) _).trans (congrArg (m ((c : Thread nD τ).loc main_arg4)) (funext fun a => ?_)))
  refine Fin.ext ((Window.rect_emb_val (cfg0.win 4) t y a).trans ?_)
  rw [show (cfg0.win 4).index t = ![0, 0] from rfl]
  match a with
  | ⟨0, _⟩ => show 0 * 192 + (y 0).val = (y 0).val; omega
  | ⟨1, _⟩ => show 0 * 192 + (y 1).val = (y 1).val; omega

/-- and the head's matrix's. -/
theorem iblk_weight (c : Dev nD) (t : Fin cfg0.N) (k : Fin 512) (e : Fin 192) :
    (iblk m c 2 t : S1x512x192.Idx → Elt F .bf16) (ix3 0 k e) = m ((c : Thread nD τ).loc main_arg2) (ix3 (headOf t) k e) := by
  unfold iblk
  refine (View.read_apply _ _).trans ?_
  refine (congrFun (V_main_arg2 m c) _).trans (congrArg (m ((c : Thread nD τ).loc main_arg2)) ?_)
  have hi : (cfg0.win 2).index t = ![t.val % 16, 0, 0] := by
    show ![(BitVec.ofNat 32 (grid0.coords t 1).val).toNat, 0, 0] = _
    rw [head_word]
  funext a
  refine Fin.ext ((Window.rect_emb_val (cfg0.win 2) t (ix3 0 k e) a).trans ?_)
  rw [hi]
  match a with
  | ⟨0, _⟩ => show t.val % 16 * 1 + 0 = t.val % 16; omega
  | ⟨1, _⟩ => show 0 * 512 + k.val = k.val; omega
  | ⟨2, _⟩ => show 0 * 192 + e.val = e.val; omega

/-- The scratch after a point: the normed latents of the point's block of rows. -/
theorem scratch_eq (c : Dev nD) : ∀ (n : ℕ) (h : n < cfg0.N), (outsAt0 m c n h).2 = k0_pay2 (latentCols (latents m c (rowBlk n h))) (gainRow m c) := by
  have first : ∀ t : Fin cfg0.N, t.val % 16 = 0 → (outsAt0 m c t.val t.isLt).2 = k0_pay2 (latentCols (latents m c (rowBlk t.val t.isLt))) (gainRow m c) := by
    intro t h0
    rw [outsAt0_A m c t h0]
    dsimp only
    rw [scratch_first, iblk_latents, iblk_gain]
  intro n
  induction n with
  | zero => exact fun h => first ⟨0, h⟩ rfl
  | succ n ih =>
    intro h
    by_cases h0 : (n + 1) % 16 = 0
    · exact first ⟨n + 1, h⟩ h0
    · refine (congrArg Prod.snd (outsAt0_B m c ⟨n + 1, h⟩ h0)).trans ((ih (Nat.lt_of_succ_lt h)).trans ?_)
      have e : rowBlk n (Nat.lt_of_succ_lt h) = rowBlk (n + 1) h := Fin.ext (show n / 16 = (n + 1) / 16 by omega)
      rw [e]

/-- The output's block after a point: the queries of the point's head and rows. -/
theorem out_eq (c : Dev nD) (t : Fin cfg0.N) : (outsAt0 m c t.val t.isLt).1
    = k0_pay1 (k0_pay3 (k0_pay2 (latentCols (latents m c (rowBlk t.val t.isLt))) (gainRow m c)) (iblk m c 2 t) (headGain m c)
        (m ((c : Thread nD τ).loc main_arg4)) (cosines m c (rowBlk t.val t.isLt)) (sines m c (rowBlk t.val t.isLt))) := by
  by_cases h0 : t.val % 16 = 0
  · rw [outsAt0_A m c t h0]
    dsimp only
    rw [out_first, iblk_latents, iblk_gain, iblk_headGain, iblk_rot, iblk_cosines, iblk_sines]
  · rw [outsAt0_B m c t h0]
    dsimp only
    rw [out_next, scratch_eq, iblk_headGain, iblk_rot, iblk_cosines, iblk_sines]
    have e : rowBlk (t.val - 1) (Nat.lt_of_le_of_lt (Nat.sub_le _ _) t.isLt) = rowBlk t.val t.isLt :=
      Fin.ext (show (t.val - 1) / 16 = t.val / 16 by omega)
    rw [e]

/-- The output's block index at a point. -/
theorem out_index (t : Fin cfg0.N) : (cfg0.win 7).index t = ![t.val % 16, t.val / 16, 0] := by
  show ![(BitVec.ofNat 32 (grid0.coords t 1).val).toNat, (BitVec.ofNat 32 (grid0.coords t 0).val).toNat, 0] = _
  rw [row_word, head_word]

/-- The written-back blocks cover the array. -/
theorem out_covers : (cfg0.win 7).Covers := by
  refine ⟨show ∀ a : Fin 3, 0 < S1x1024x192.size a from by decide, fun β => ?_⟩
  have h0 : (β (0 : Fin 3)).val < 16 := Nat.lt_of_lt_of_eq (β (0 : Fin 3)).isLt (show (16 + 1 - 1) / 1 = 16 by norm_num)
  have h1 : (β (1 : Fin 3)).val < 25 := Nat.lt_of_lt_of_eq (β (1 : Fin 3)).isLt (show (25600 + 1024 - 1) / 1024 = 25 by norm_num)
  have h2 : (β (2 : Fin 3)).val < 1 := Nat.lt_of_lt_of_eq (β (2 : Fin 3)).isLt (show (192 + 192 - 1) / 192 = 1 by norm_num)
  refine ⟨⟨16 * (β (1 : Fin 3)).val + (β (0 : Fin 3)).val, Nat.lt_of_lt_of_eq (by omega : _ < 400) N_0.symm⟩, flush0_7 _, fun a => ⟨?_, .inl rfl⟩⟩
  rw [out_index]
  match a with
  | ⟨0, _⟩ => exact (show (16 * (β (1 : Fin 3)).val + (β (0 : Fin 3)).val) % 16 = (β (0 : Fin 3)).val by omega)
  | ⟨1, _⟩ => exact (show (16 * (β (1 : Fin 3)).val + (β (0 : Fin 3)).val) / 16 = (β (1 : Fin 3)).val by omega)
  | ⟨2, _⟩ => exact (show 0 = (β (2 : Fin 3)).val by omega)

end Blocks

/-! ## Over the reals -/

variable (m : (ℓ : Loc nD τ sig) → Buf (Elt Ideal) ℓ)

/-- The normed latents at an index. -/
theorem latent_apply (x : FVec Ideal S1024x512 .f32) (g : FVec Ideal S1x512 .f32) (p : Fin 1024) (k : Fin 512) :
    (k0_pay2 (F := Ideal) x g : FVec Ideal S1024x512 .bf16) (ix2 p k) = rmsAt 0x44000000#32 (fun j => x (ix2 p j)) (fun j => g (ix2 0 j)) k := by
  pointwise [k0_pay2, rmsAt]

/-- The queries at an index. -/
theorem query_apply (x : FVec Ideal S1024x512 .bf16) (w : FVec Ideal S1x512x192 .bf16) (gh : FVec Ideal S1x192 .f32)
    (rot : FVec Ideal S192x192 .bf16) (cs sn : FVec Ideal S1024x192 .f32) (p : Fin 1024) (d : Fin 192) :
    (k0_pay1 (F := Ideal) (k0_pay3 x w gh rot cs sn) : FVec Ideal S1x1024x192 .bf16) (ix3 0 p d)
      = turnAt (rmsAt 0x43400000#32 (fun e => ∑ k : Fin 512, x (ix2 p k) * w (ix3 0 k e)) (fun e => gh (ix2 0 e))) (fun k e => rot (ix2 k e))
          (fun e => cs (ix2 p e)) (fun e => sn (ix2 p e)) d * (Scalar.ofBits .f32 0x3DD53B95#32 : Ideal .f32) := by
  pointwise [k0_pay1, k0_pay3, rmsAt, turnAt]

/-- The kernel's result array: `queryAt` of the arguments, at every index. -/
theorem array_eq (c : Dev nD) : (dats m 0 c).arrAt 7 cfg0.N = (fun y : S16x25600x192.Idx =>
    queryAt (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (y 0) (y 1) (y 2)) := by
  refine Dat.arrAt_eq_of_covers (dats m 0 c) 7 _ out_covers (fun t _ y => ?_)
  obtain ⟨z, p, d, rfl⟩ : ∃ (z : Fin 1) (p : Fin 1024) (d : Fin 192), y = ix3 z p d := ⟨y 0, y 1, y 2, eq_ix3 y⟩
  obtain rfl : z = 0 := Subsingleton.elim _ _
  have e : ∀ a, (((cfg0.win 7).rect t).emb (ix3 0 p d) a).val = (ix3 (headOf t) (rowIn (rowBlk t.val t.isLt) p) d a).val := fun a => by
    refine (Window.rect_emb_val (cfg0.win 7) t (ix3 0 p d) a).trans ?_
    rw [out_index]
    match a with
    | ⟨0, _⟩ => show t.val % 16 * 1 + 0 = t.val % 16; omega
    | ⟨1, _⟩ => rfl
    | ⟨2, _⟩ => show 0 * 192 + d.val = d.val; omega
  have e' : ((cfg0.win 7).rect t).emb (ix3 0 p d) = ix3 (headOf t) (rowIn (rowBlk t.val t.isLt) p) d := funext fun a => Fin.ext (e a)
  refine Eq.trans ?_ (congrArg (fun y : S16x25600x192.Idx => queryAt _ _ _ _ _ _ _ (y 0) (y 1) (y 2)) e'.symm)
  refine (congrFun ((after0_7 m c t).trans (out_eq m c t)) (ix3 0 p d)).trans ((query_apply _ _ _ _ _ _ p d).trans ?_)
  unfold queryAt
  refine congrArg (fun x => turnAt (rmsAt _ x _) _ _ _ d * _) (funext fun q => ?_)
  exact Finset.sum_congr (M := Ideal .f32) rfl fun k _ => congrArg₂ (fun x y : Ideal .f32 => x * y) (latent_apply _ _ p k) (iblk_weight m c t k q)

end Cert.MlaQIdeal.Dense

namespace Cert.MlaQReferenceIdeal.Value
open Cert.MlaQReferenceIdeal Cert.MlaQReferenceIdeal.Gen Cert.Proof.Shared
open Idealize.ShloMosaic Idealize.ShloMosaic.TcCoe

/-- The reference's normed latents, -/
def latent (c : FVec Ideal S25600x896 .f32) (g : FVec Ideal S512 .f32) : FVec Ideal S25600x512 .f32 :=
  mulf (mulf (extractStridedSlice S25600x512 ![0, 0] c slices_S25600x896_S25600x512_0_0) (broadcastInDim S25600x512 ![0, 1] bcast_S25600x1_S25600x512_0_1
    (Host.rsqrt (addf (Host.divf (broadcastInDim S25600x1 ![0] bcast_S25600_S25600x1_0 (Host.reduceAdd (mulf (extractStridedSlice S25600x512 ![0, 0] c slices_S25600x896_S25600x512_0_0)
      (extractStridedSlice S25600x512 ![0, 0] c slices_S25600x896_S25600x512_0_0)) (constant S_ .f32 0x00000000#32) reducesTo_S25600x512_S25600_d1 h_S_))
      (broadcastInDim S25600x1 ![] bcast_S_S25600x1 (constant S_ .f32 0x44000000#32))) (broadcastInDim S25600x1 ![] bcast_S_S25600x1 (constant S_ .f32 0x358637BD#32))))))
    (broadcastInDim S25600x512 ![0, 1] bcast_S1x512_S25600x512_0_1 (broadcastInDim S1x512 ![1] bcast_S512_S1x512_1 g))

/-- the heads' products, -/
def heads (x : FVec Ideal S25600x512 .f32) (w : FVec Ideal S16x512x192 .bf16) : FVec Ideal S16x25600x192 .f32 :=
  transpose S16x25600x192 [0, 2, 1] (Host.dotGeneral dot_S16x512x192_S25600x512_S16x192x25600_1_1_02_0_n_n none (extf .f32 w bitsLt_bf16_f32) x)
    transposes_S16x192x25600_S16x25600x192_0_2_1

/-- those normed, -/
def headNorm (q : FVec Ideal S16x25600x192 .f32) (g : FVec Ideal S192 .f32) : FVec Ideal S16x25600x192 .f32 :=
  mulf (mulf q (broadcastInDim S16x25600x192 ![0, 1, 2] bcast_S16x25600x1_S16x25600x192_0_1_2 (Host.rsqrt (addf (Host.divf
    (broadcastInDim S16x25600x1 ![0, 1] bcast_S16x25600_S16x25600x1_0_1 (Host.reduceAdd (mulf q q) (constant S_ .f32 0x00000000#32) reducesTo_S16x25600x192_S16x25600_d2 h_S_))
    (broadcastInDim S16x25600x1 ![] bcast_S_S16x25600x1 (constant S_ .f32 0x43400000#32))) (broadcastInDim S16x25600x1 ![] bcast_S_S16x25600x1 (constant S_ .f32 0x358637BD#32))))))
    (broadcastInDim S16x25600x192 ![0, 1, 2] bcast_S1x1x192_S16x25600x192_0_1_2 (broadcastInDim S1x1x192 ![2] bcast_S192_S1x1x192_2 g))

/-- and those turned. -/
def turned (q : FVec Ideal S16x25600x192 .f32) (rot : FVec Ideal S192x192 .bf16) (cs sn : FVec Ideal S25600x192 .f32) : FVec Ideal S16x25600x192 .f32 :=
  addf (mulf q (broadcastInDim S16x25600x192 ![0, 1, 2] bcast_S1x25600x192_S16x25600x192_0_1_2 (broadcastInDim S1x25600x192 ![1, 2] bcast_S25600x192_S1x25600x192_1_2 cs)))
    (mulf (Host.dotGeneral dot_S16x25600x192_S192x192_S16x25600x192_2_0_01_1_n_n none q (extf .f32 rot bitsLt_bf16_f32))
      (broadcastInDim S16x25600x192 ![0, 1, 2] bcast_S1x25600x192_S16x25600x192_0_1_2 (broadcastInDim S1x25600x192 ![1, 2] bcast_S25600x192_S1x25600x192_1_2 sn)))

/-- The normed latents at an index, -/
theorem latent_apply (c : FVec Ideal S25600x896 .f32) (g : FVec Ideal S512 .f32) (r : Fin 25600) (k : Fin 512) :
    latent c g (ix2 r k) = rmsAt 0x44000000#32 (fun j : Fin 512 => c (ix2 r ⟨j.val, by omega⟩)) (fun j => g (ix1 j)) k := by
  pointwise [latent, rmsAt]
/-- the products, -/
theorem heads_apply (x : FVec Ideal S25600x512 .f32) (w : FVec Ideal S16x512x192 .bf16) (h : Fin 16) (r : Fin 25600) (e : Fin 192) :
    heads x w (ix3 h r e) = ∑ k : Fin 512, w (ix3 h k e) * x (ix2 r k) := by
  pointwise [heads]
/-- those normed, -/
theorem headNorm_apply (q : FVec Ideal S16x25600x192 .f32) (g : FVec Ideal S192 .f32) (h : Fin 16) (r : Fin 25600) (d : Fin 192) :
    headNorm q g (ix3 h r d) = rmsAt 0x43400000#32 (fun e => q (ix3 h r e)) (fun e => g (ix1 e)) d := by
  pointwise [headNorm, rmsAt]
/-- and those turned. -/
theorem turned_apply (q : FVec Ideal S16x25600x192 .f32) (rot : FVec Ideal S192x192 .bf16) (cs sn : FVec Ideal S25600x192 .f32) (h : Fin 16) (r : Fin 25600) (d : Fin 192) :
    turned q rot cs sn (ix3 h r d) = turnAt (fun e => q (ix3 h r e)) (fun k e => rot (ix2 k e)) (fun e => cs (ix2 r e)) (fun e => sn (ix2 r e)) d := by
  pointwise [turned, turnAt]

/-- The reference's expression, at every index. -/
theorem expr_eq (c : FVec Ideal S25600x896 .f32) (g : FVec Ideal S512 .f32) (w : FVec Ideal S16x512x192 .bf16) (gh : FVec Ideal S192 .f32)
    (rot : FVec Ideal S192x192 .bf16) (cs sn : FVec Ideal S25600x192 .f32) :
    (truncf .bf16 (mulf (turned (headNorm (heads (latent c g) w) gh) rot cs sn) (broadcastInDim S16x25600x192 ![] bcast_S_S16x25600x192 (constant S_ .f32 0x3DD53B95#32))) bitsLt_bf16_f32
        : FVec Ideal S16x25600x192 .bf16)
      = fun y : S16x25600x192.Idx => queryAt c g w gh rot cs sn (y 0) (y 1) (y 2) := by
  have e : ∀ (x : FVec Ideal S16x25600x192 .f32) (h : Fin 16) (r : Fin 25600) (d : Fin 192),
      (truncf .bf16 (mulf x (broadcastInDim S16x25600x192 ![] bcast_S_S16x25600x192 (constant S_ .f32 0x3DD53B95#32))) bitsLt_bf16_f32 : FVec Ideal S16x25600x192 .bf16) (ix3 h r d)
        = x (ix3 h r d) * (Scalar.ofBits .f32 0x3DD53B95#32 : Ideal .f32) := fun x h r d => by pointwise []
  funext y
  obtain ⟨h, r, d, rfl⟩ : ∃ (h : Fin 16) (r : Fin 25600) (d : Fin 192), y = ix3 h r d := ⟨y 0, y 1, y 2, eq_ix3 y⟩
  refine (e _ h r d).trans (congrArg (fun x : Ideal .f32 => x * (Scalar.ofBits .f32 0x3DD53B95#32 : Ideal .f32)) ((turned_apply _ _ _ _ h r d).trans ?_))
  refine congrArg (fun x => turnAt x _ _ _ d) (funext fun q => (headNorm_apply _ _ h r q).trans (congrArg (fun x => rmsAt _ x _ q) (funext fun s => ?_)))
  refine (heads_apply _ _ h r s).trans (Finset.sum_congr (M := Ideal .f32) rfl fun k _ => ?_)
  exact (congrArg (fun x : Ideal .f32 => w (ix3 h k s) * x) (latent_apply c g r k)).trans (mul_comm (G := EReal) _ _)

end Cert.MlaQReferenceIdeal.Value
end
-- ==== Proof.MlaKv.Value.lean ====
/-
  The heads' keys and values: the kernel's two results and the reference's, each read at an index, are `keyAt` and `headValueAt`
  of the arguments. At the first head of a block of rows the body norms the block's latents into its scratch, which it keeps
  for the other heads; the values' block is written in two pieces, the products and the row of ones over rows of zeros.
-/
module
public import proofs.«01_k».proof.Proof.Gen.MlaKvIdeal.Value
public import proofs.«01_k».proof.Proof.Gen.MlaKvReferenceIdeal.Run
public import proofs.«01_k».proof.Proof.MlaQ.Value
@[expose] public section
noncomputable section

namespace Cert.MlaKvIdeal.Dense
open Cert.MlaKvIdeal Cert.MlaKvIdeal.Gen Cert.Proof.Shared
open Idealize.ShloMosaic Idealize.ShloMosaic.TcCoe
open Idealize.SL.Sem
open Idealize.ShloMosaic.Pipeline (Dat Cfg Window)

section Blocks
variable {F : FTy → Type} [FloatOps F] (m : (ℓ : Loc nD τ sig) → Buf (Elt F) ℓ)

/-- The columns of the latents shared by keys and values. -/
def sharedCols (x : Vec F S1024x896 .f32) : Vec F S1024x256 .f32 := fun y => x (ix2 (y 0) ⟨512 + (y 1).val, Nat.lt_of_lt_of_le (Nat.add_lt_add_left (y 1).isLt 512) (by decide)⟩)

/-- The body's read of those columns. -/
theorem read_shared (M : Memref sig .tc .vmem S1024x896 .f32) (hM : M.IsWhole) (x : Vec F S1024x896 .f32) :
    M.view.readAt (Elt F) (Rect.unit (s := S1024x896) ![0, 512] S1024x256.size inb_S1024x896_S1024x256_0_512) (hM.unread x) = sharedCols x := by
  rw [View.readAt_eq_ld, hM.read_unread]
  funext y
  refine congrArg x (funext fun a => Fin.ext ?_)
  match a with
  | ⟨0, _⟩ => show 0 + 1 * (y 0).val = _; simp
  | ⟨1, _⟩ => show 512 + 1 * (y 1).val = _; simp

/-- The columns of the keys' common part. -/
def posCols (x : Vec F S1024x896 .f32) : Vec F S1024x64 .f32 := fun y => x (ix2 (y 0) ⟨768 + (y 1).val, Nat.lt_of_lt_of_le (Nat.add_lt_add_left (y 1).isLt 768) (by decide)⟩)

/-- The body's read of those columns. -/
theorem read_pos (M : Memref sig .tc .vmem S1024x896 .f32) (hM : M.IsWhole) (x : Vec F S1024x896 .f32) :
    M.view.readAt (Elt F) (Rect.unit (s := S1024x896) ![0, 768] S1024x64.size inb_S1024x896_S1024x64_0_768) (hM.unread x) = posCols x := by
  rw [View.readAt_eq_ld, hM.read_unread]
  funext y
  refine congrArg x (funext fun a => Fin.ext ?_)
  match a with
  | ⟨0, _⟩ => show 0 + 1 * (y 0).val = _; simp
  | ⟨1, _⟩ => show 768 + 1 * (y 1).val = _; simp

/-- The values' block: the products over the row of ones and the rows of zeros. -/
def valueRows (p : FVec F S1x128x1024 .bf16) (q : FVec F S1x16x1024 .bf16) : Vec F S1x144x1024 .bf16 := fun y =>
  if h : (y 1).val < 128 then p (ix3 0 ⟨(y 1).val, h⟩ (y 2))
  else q (ix3 0 ⟨(y 1).val - 128, have : (y 1).val < 144 := (y 1).isLt; by omega⟩ (y 2))

/-- A block written in those two pieces, read back. -/
theorem two_pieces (v : View sig .tc .vmem S1x144x1024 .bf16) (f : v.ty.Contents (Elt F)) (p : FVec F S1x128x1024 .bf16) (q : FVec F S1x16x1024 .bf16) :
    v.read (Elt F) (v.writes (Elt F) f [⟨Rect.unit (s := S1x144x1024) ![0, 128, 0] S1x16x1024.size inb_S1x144x1024_S1x16x1024_0_128_0, q⟩,
      ⟨Rect.unit (s := S1x144x1024) ![0, 0, 0] S1x128x1024.size inb_S1x144x1024_S1x128x1024_0_0_0, p⟩]) = valueRows p q := by
  funext y
  have h0 : (y 0).val = 0 := Nat.lt_one_iff.mp (y 0).isLt
  unfold valueRows
  by_cases h : (y 1).val < 128
  · rw [dif_pos h]
    refine (View.read_writes_cons_unit_of_not_mem v f _ q _ y rfl 1 (.inl h)).trans ?_
    refine View.read_writes_cons_unit_of_mem v f _ p [] y (ix3 0 ⟨(y 1).val, h⟩ (y 2)) rfl fun a => ?_
    match a with
    | ⟨0, _⟩ => exact h0
    | ⟨1, _⟩ => exact (Nat.zero_add _).symm
    | ⟨2, _⟩ => exact (Nat.zero_add _).symm
  · rw [dif_neg h]
    have h1 : (y 1).val < 144 := (y 1).isLt
    refine View.read_writes_cons_unit_of_mem v f _ q _ y (ix3 0 ⟨(y 1).val - 128, by omega⟩ (y 2)) rfl fun a => ?_
    match a with
    | ⟨0, _⟩ => exact h0
    | ⟨1, _⟩ => show (y 1).val = 128 + ((y 1).val - 128); omega
    | ⟨2, _⟩ => exact (Nat.zero_add _).symm

section Body
variable (c : Dev nD) (i : grid0.Coords) (arg2 : Memref sig .tc .vmem S1024x896 .f32) (harg2 : arg2.IsWhole)
  (arg3 : Memref sig .tc .vmem S1x256 .f32) (harg3 : arg3.IsWhole) (arg4 : Memref sig .tc .vmem S1x256x128 .bf16) (harg4 : arg4.IsWhole)
  (arg5 : Memref sig .tc .vmem S1x128x256 .bf16) (harg5 : arg5.IsWhole) (arg6 : Memref sig .tc .vmem S1x192 .f32) (harg6 : arg6.IsWhole)
  (arg7 : Memref sig .tc .vmem S192x192 .bf16) (harg7 : arg7.IsWhole) (arg8 : Memref sig .tc .vmem S1024x192 .f32) (harg8 : arg8.IsWhole)
  (arg9 : Memref sig .tc .vmem S1024x192 .f32) (harg9 : arg9.IsWhole) (arg10 : Memref sig .tc .vmem S1x1024x192 .bf16) (harg10 : arg10.IsWhole)
  (arg11 : Memref sig .tc .vmem S1x144x1024 .bf16) (harg11 : arg11.IsWhole) (arg12 : Memref sig .tc .vmem S1024x256 .bf16) (harg12 : arg12.IsWhole)
  (x0 : Vec F S1024x896 .f32) (x1 : Vec F S1x256 .f32) (x2 : Vec F S1x256x128 .bf16) (x3 : Vec F S1x128x256 .bf16) (x4 : Vec F S1x192 .f32)
  (x5 : Vec F S192x192 .bf16) (x6 x7 : Vec F S1024x192 .f32) (xs : Vec F S1024x256 .bf16)

/-- A first head leaves the normed latents in the scratch, -/
theorem scratch_first (hc : cond0_0 i) :
    sout0_A_0 c i arg2 harg2 arg3 harg3 arg4 harg4 arg5 harg5 arg6 harg6 arg7 harg7 arg8 harg8 arg9 harg9 arg10 harg10 arg11 harg11 arg12 harg12 hc x0 x1 x2 x3 x4 x5 x6 x7
      = k0_pay4 (sharedCols x0) x1 := by
  unfold sout0_A_0 kernelRun0_A
  refine (View.read_writes_full _ _ inb_S1024x256_S1024x256_0_0 _ []).trans ?_
  rw [read_shared, View.readAt_full, harg3.read_unread]

/-- the keys from those in their block, -/
theorem keys_first (hc : cond0_0 i) :
    out0_A_8 c i arg2 harg2 arg3 harg3 arg4 harg4 arg5 harg5 arg6 harg6 arg7 harg7 arg8 harg8 arg9 harg9 arg10 harg10 arg11 harg11 arg12 harg12 hc x0 x1 x2 x3 x4 x5 x6 x7
      = k0_pay1 (k0_pay5 (k0_pay4 (sharedCols x0) x1) x2 (posCols x0) x4 x5 x6 x7) := by
  unfold out0_A_8 kernelRun0_A
  refine (View.read_writes_full _ _ inb_S1x1024x192_S1x1024x192_0_0_0 _ []).trans ?_
  sl_unfold_words
  rw [View.readCov_full, read_shared, read_pos, View.readAt_full, View.readAt_full, View.readAt_full, View.readAt_full, View.readAt_full, View.readAt_full,
    harg3.read_unread, harg4.read_unread, harg6.read_unread, harg7.read_unread, harg8.read_unread, harg9.read_unread]

/-- and the values in theirs; -/
theorem values_first (hc : cond0_0 i) :
    out0_A_9 c i arg2 harg2 arg3 harg3 arg4 harg4 arg5 harg5 arg6 harg6 arg7 harg7 arg8 harg8 arg9 harg9 arg10 harg10 arg11 harg11 arg12 harg12 hc x0 x1 x2 x3 x4 x5 x6 x7
      = valueRows (k0_pay2 (k0_pay4 (sharedCols x0) x1) x3) k0_pay3 := by
  unfold out0_A_9 kernelRun0_A
  refine (two_pieces _ _ _ _).trans ?_
  sl_unfold_words
  rw [View.readCov_full, read_shared, View.readAt_full, View.readAt_full, harg3.read_unread, harg5.read_unread]

/-- another head leaves the keys from what the scratch holds, -/
theorem keys_next (hc : ¬ cond0_0 i) :
    out0_B_8 c i arg2 harg2 arg3 harg3 arg4 harg4 arg5 harg5 arg6 harg6 arg7 harg7 arg8 harg8 arg9 harg9 arg10 harg10 arg11 harg11 arg12 harg12 hc x0 x1 x2 x3 x4 x5 x6 x7 xs
      = k0_pay1 (k0_pay5 xs x2 (posCols x0) x4 x5 x6 x7) := by
  unfold out0_B_8 kernelRun0_B
  refine (View.read_writes_full _ _ inb_S1x1024x192_S1x1024x192_0_0_0 _ []).trans ?_
  sl_unfold_words
  rw [read_pos, View.readAt_full, View.readAt_full, View.readAt_full, View.readAt_full, View.readAt_full, View.readAt_full,
    harg12.read_unread, harg4.read_unread, harg6.read_unread, harg7.read_unread, harg8.read_unread, harg9.read_unread]

/-- and the values. -/
theorem values_next (hc : ¬ cond0_0 i) :
    out0_B_9 c i arg2 harg2 arg3 harg3 arg4 harg4 arg5 harg5 arg6 harg6 arg7 harg7 arg8 harg8 arg9 harg9 arg10 harg10 arg11 harg11 arg12 harg12 hc x0 x1 x2 x3 x4 x5 x6 x7 xs
      = valueRows (k0_pay2 xs x3) k0_pay3 := by
  unfold out0_B_9 kernelRun0_B
  refine (two_pieces _ _ _ _).trans ?_
  sl_unfold_words
  rw [View.readAt_full, View.readAt_full, harg12.read_unread, harg5.read_unread]
end Body

/-- A point's block of rows. -/
theorem coords_row (t : Fin grid0.N) : (grid0.coords t 0).val = t.val / 16 := by
  have h := Pipeline.Grid.coords_val t (0 : Fin 2) (S := 16) (B := 25) (by decide) rfl
  have ht : t.val < 400 := t.isLt.trans_eq N_0
  exact h.trans (Nat.mod_eq_of_lt (by omega))
/-- A point's head. -/
theorem coords_head (t : Fin grid0.N) : (grid0.coords t 1).val = t.val % 16 := by
  have h := Pipeline.Grid.coords_val t (1 : Fin 2) (S := 1) (B := 16) (by decide) rfl
  exact h.trans (by rw [Nat.div_one])
/-- The block of rows, as a word. -/
theorem row_word (t : Fin grid0.N) : (BitVec.ofNat 32 (grid0.coords t 0).val).toNat = t.val / 16 := by
  have ht : t.val < 400 := t.isLt.trans_eq N_0
  rw [BitVec.toNat_ofNat, coords_row, Nat.mod_eq_of_lt (by omega)]
/-- The head, as a word. -/
theorem head_word (t : Fin grid0.N) : (BitVec.ofNat 32 (grid0.coords t 1).val).toNat = t.val % 16 := by
  rw [BitVec.toNat_ofNat, coords_head, Nat.mod_eq_of_lt (by omega)]

/-- Row `p` of block `b` of rows, in the array. -/
def rowIn (b : Fin 25) (p : Fin 1024) : Fin 25600 := ⟨b.val * 1024 + p.val, by omega⟩
/-- A point's head. -/
def headOf (t : Fin cfg0.N) : Fin 16 := ⟨t.val % 16, by omega⟩
/-- The block of rows of the point at position `n`. -/
def rowBlk (n : ℕ) (h : n < cfg0.N) : Fin 25 := ⟨n / 16, by have ht : n < 400 := h.trans_eq N_0; omega⟩

/-- The latents of a block of rows, -/
def latents (c : Dev nD) (b : Fin 25) : Vec F S1024x896 .f32 := fun y => m ((c : Thread nD τ).loc main_arg0) (ix2 (rowIn b (y 0)) (y 1))
/-- their gain, as one row, -/
def gainRow (c : Dev nD) : Vec F S1x256 .f32 := fun y => m ((c : Thread nD τ).loc main_arg1) (ix1 (y 1))
/-- the heads' gain, as one row, -/
def headGain (c : Dev nD) : Vec F S1x192 .f32 := fun y => m ((c : Thread nD τ).loc main_arg4) (ix1 (y 1))
/-- and the cosines of a block of rows. -/
def cosines (c : Dev nD) (b : Fin 25) : Vec F S1024x192 .f32 := fun y => m ((c : Thread nD τ).loc main_arg6) (ix2 (rowIn b (y 0)) (y 1))
/-- The sines of a block of rows. -/
def sines (c : Dev nD) (b : Fin 25) : Vec F S1024x192 .f32 := fun y => m ((c : Thread nD τ).loc main_arg7) (ix2 (rowIn b (y 0)) (y 1))

/-- The latents' block at a point. -/
theorem iblk_latents (c : Dev nD) (t : Fin cfg0.N) : iblk m c 0 t = latents m c (rowBlk t.val t.isLt) := by
  funext y
  unfold iblk
  refine (View.read_apply _ _).trans ?_
  refine (congrFun (V_main_arg0 m c) _).trans (congrArg (m ((c : Thread nD τ).loc main_arg0)) ?_)
  have hi : (cfg0.win 0).index t = ![t.val / 16, 0] := by
    show ![(BitVec.ofNat 32 (grid0.coords t 0).val).toNat, 0] = _
    rw [row_word]
  funext a
  refine Fin.ext ((Window.rect_emb_val (cfg0.win 0) t y a).trans ?_)
  rw [hi]
  match a with
  | ⟨0, _⟩ => rfl
  | ⟨1, _⟩ => show 0 * 896 + (y 1).val = (y 1).val; omega

/-- The cosines' block at a point, -/
theorem iblk_cosines (c : Dev nD) (t : Fin cfg0.N) : iblk m c 6 t = cosines m c (rowBlk t.val t.isLt) := by
  funext y
  unfold iblk
  refine (View.read_apply _ _).trans ?_
  refine (congrFun (V_main_arg6 m c) _).trans (congrArg (m ((c : Thread nD τ).loc main_arg6)) ?_)
  have hi : (cfg0.win 6).index t = ![t.val / 16, 0] := by
    show ![(BitVec.ofNat 32 (grid0.coords t 0).val).toNat, 0] = _
    rw [row_word]
  funext a
  refine Fin.ext ((Window.rect_emb_val (cfg0.win 6) t y a).trans ?_)
  rw [hi]
  match a with
  | ⟨0, _⟩ => rfl
  | ⟨1, _⟩ => show 0 * 192 + (y 1).val = (y 1).val; omega

/-- and the sines'. -/
theorem iblk_sines (c : Dev nD) (t : Fin cfg0.N) : iblk m c 7 t = sines m c (rowBlk t.val t.isLt) := by
  funext y
  unfold iblk
  refine (View.read_apply _ _).trans ?_
  refine (congrFun (V_main_arg7 m c) _).trans (congrArg (m ((c : Thread nD τ).loc main_arg7)) ?_)
  have hi : (cfg0.win 7).index t = ![t.val / 16, 0] := by
    show ![(BitVec.ofNat 32 (grid0.coords t 0).val).toNat, 0] = _
    rw [row_word]
  funext a
  refine Fin.ext ((Window.rect_emb_val (cfg0.win 7) t y a).trans ?_)
  rw [hi]
  match a with
  | ⟨0, _⟩ => rfl
  | ⟨1, _⟩ => show 0 * 192 + (y 1).val = (y 1).val; omega

/-- A vector of 256 reshaped to one row, at an index. -/
theorem row_apply {α : Type} (x : S256.Idx → α) (k : Fin 256) : shapeCast S1x256 x shapeCasts_S256_S1x256 (ix2 0 k) = x (ix1 k) := by
  pointwise []

/-- The latents' gain, reshaped to one row before the launch, -/
theorem V_gain (c : Dev nD) : (V m c main_v0 : S1x256.Idx → Elt F .f32) = gainRow m c := by
  have e : V m c main_v0 = shapeCast S1x256 (m ((c : Thread nD τ).loc main_arg1)) shapeCasts_S256_S1x256 := by
    unfold V hostOps0
    after_results
    rfl
  rw [e]
  funext y
  obtain ⟨p, k, rfl⟩ : ∃ (p : Fin 1) (k : Fin 256), y = ix2 p k := ⟨y 0, y 1, eq_ix2 y⟩
  obtain rfl : p = 0 := Subsingleton.elim _ _
  exact row_apply _ k

/-- and the heads'. -/
theorem V_headGain (c : Dev nD) : (V m c main_v1 : S1x192.Idx → Elt F .f32) = headGain m c := by
  have e : V m c main_v1 = shapeCast S1x192 (m ((c : Thread nD τ).loc main_arg4)) shapeCasts_S192_S1x192 := by
    unfold V hostOps0
    after_results
    rfl
  rw [e]
  funext y
  obtain ⟨p, k, rfl⟩ : ∃ (p : Fin 1) (k : Fin 192), y = ix2 p k := ⟨y 0, y 1, eq_ix2 y⟩
  obtain rfl : p = 0 := Subsingleton.elim _ _
  exact Cert.MlaQIdeal.Dense.headRow_apply _ k

/-- The latents' gain's block at a point, -/
theorem iblk_gain (c : Dev nD) (t : Fin cfg0.N) : iblk m c 1 t = gainRow m c := by
  funext y
  unfold iblk
  refine (View.read_apply _ _).trans ((congrFun (V_gain m c) _).trans (congrArg (gainRow m c) (funext fun a => ?_)))
  refine Fin.ext ((Window.rect_emb_val (cfg0.win 1) t y a).trans ?_)
  rw [show (cfg0.win 1).index t = ![0, 0] from rfl]
  match a with
  | ⟨0, _⟩ => show 0 * 1 + (y 0).val = (y 0).val; omega
  | ⟨1, _⟩ => show 0 * 256 + (y 1).val = (y 1).val; omega

/-- the heads' gain's, -/
theorem iblk_headGain (c : Dev nD) (t : Fin cfg0.N) : iblk m c 4 t = headGain m c := by
  funext y
  unfold iblk
  refine (View.read_apply _ _).trans ((congrFun (V_headGain m c) _).trans (congrArg (headGain m c) (funext fun a => ?_)))
  refine Fin.ext ((Window.rect_emb_val (cfg0.win 4) t y a).trans ?_)
  rw [show (cfg0.win 4).index t = ![0, 0] from rfl]
  match a with
  | ⟨0, _⟩ => show 0 * 1 + (y 0).val = (y 0).val; omega
  | ⟨1, _⟩ => show 0 * 192 + (y 1).val = (y 1).val; omega

/-- the rotation's, -/
theorem iblk_rot (c : Dev nD) (t : Fin cfg0.N) : iblk m c 5 t = m ((c : Thread nD τ).loc main_arg5) := by
  funext y
  unfold iblk
  refine (View.read_apply _ _).trans ((congrFun (V_main_arg5 m c) _).trans (congrArg (m ((c : Thread nD τ).loc main_arg5)) (funext fun a => ?_)))
  refine Fin.ext ((Window.rect_emb_val (cfg0.win 5) t y a).trans ?_)
  rw [show (cfg0.win 5).index t = ![0, 0] from rfl]
  match a with
  | ⟨0, _⟩ => show 0 * 192 + (y 0).val = (y 0).val; omega
  | ⟨1, _⟩ => show 0 * 192 + (y 1).val = (y 1).val; omega

/-- the head's matrix of the keys', -/
theorem iblk_keyWeight (c : Dev nD) (t : Fin cfg0.N) (k : Fin 256) (e : Fin 128) :
    (iblk m c 2 t : S1x256x128.Idx → Elt F .bf16) (ix3 0 k e) = m ((c : Thread nD τ).loc main_arg2) (ix3 (headOf t) k e) := by
  unfold iblk
  refine (View.read_apply _ _).trans ?_
  refine (congrFun (V_main_arg2 m c) _).trans (congrArg (m ((c : Thread nD τ).loc main_arg2)) ?_)
  have hi : (cfg0.win 2).index t = ![t.val % 16, 0, 0] := by
    show ![(BitVec.ofNat 32 (grid0.coords t 1).val).toNat, 0, 0] = _
    rw [head_word]
  funext a
  refine Fin.ext ((Window.rect_emb_val (cfg0.win 2) t (ix3 0 k e) a).trans ?_)
  rw [hi]
  match a with
  | ⟨0, _⟩ => show t.val % 16 * 1 + 0 = t.val % 16; omega
  | ⟨1, _⟩ => show 0 * 256 + k.val = k.val; omega
  | ⟨2, _⟩ => show 0 * 128 + e.val = e.val; omega

/-- and that of the values'. -/
theorem iblk_valueWeight (c : Dev nD) (t : Fin cfg0.N) (k : Fin 128) (e : Fin 256) :
    (iblk m c 3 t : S1x128x256.Idx → Elt F .bf16) (ix3 0 k e) = m ((c : Thread nD τ).loc main_arg3) (ix3 (headOf t) k e) := by
  unfold iblk
  refine (View.read_apply _ _).trans ?_
  refine (congrFun (V_main_arg3 m c) _).trans (congrArg (m ((c : Thread nD τ).loc main_arg3)) ?_)
  have hi : (cfg0.win 3).index t = ![t.val % 16, 0, 0] := by
    show ![(BitVec.ofNat 32 (grid0.coords t 1).val).toNat, 0, 0] = _
    rw [head_word]
  funext a
  refine Fin.ext ((Window.rect_emb_val (cfg0.win 3) t (ix3 0 k e) a).trans ?_)
  rw [hi]
  match a with
  | ⟨0, _⟩ => show t.val % 16 * 1 + 0 = t.val % 16; omega
  | ⟨1, _⟩ => show 0 * 128 + k.val = k.val; omega
  | ⟨2, _⟩ => show 0 * 256 + e.val = e.val; omega

/-- The scratch after a point: the normed latents of the point's block of rows. -/
theorem scratch_eq (c : Dev nD) : ∀ (n : ℕ) (h : n < cfg0.N), (outsAt0 m c n h).2.2 = k0_pay4 (sharedCols (latents m c (rowBlk n h))) (gainRow m c) := by
  have first : ∀ t : Fin cfg0.N, t.val % 16 = 0 → (outsAt0 m c t.val t.isLt).2.2 = k0_pay4 (sharedCols (latents m c (rowBlk t.val t.isLt))) (gainRow m c) := by
    intro t h0
    rw [outsAt0_A m c t h0]
    dsimp only
    rw [scratch_first, iblk_latents, iblk_gain]
  intro n
  induction n with
  | zero => exact fun h => first ⟨0, h⟩ rfl
  | succ n ih =>
    intro h
    by_cases h0 : (n + 1) % 16 = 0
    · exact first ⟨n + 1, h⟩ h0
    · refine (congrArg (fun x => x.2.2) (outsAt0_B m c ⟨n + 1, h⟩ h0)).trans ((ih (Nat.lt_of_succ_lt h)).trans ?_)
      have e : rowBlk n (Nat.lt_of_succ_lt h) = rowBlk (n + 1) h := Fin.ext (show n / 16 = (n + 1) / 16 by omega)
      rw [e]

/-- The block of rows is the same at the point before, unless a new block begins. -/
theorem rowBlk_pred (t : Fin cfg0.N) (h0 : ¬ t.val % 16 = 0) : rowBlk (t.val - 1) (Nat.lt_of_le_of_lt (Nat.sub_le _ _) t.isLt) = rowBlk t.val t.isLt :=
  Fin.ext (show (t.val - 1) / 16 = t.val / 16 by omega)

/-- The keys' block after a point: the keys of the point's head and rows. -/
theorem keys_eq (c : Dev nD) (t : Fin cfg0.N) : (outsAt0 m c t.val t.isLt).1
    = k0_pay1 (k0_pay5 (k0_pay4 (sharedCols (latents m c (rowBlk t.val t.isLt))) (gainRow m c)) (iblk m c 2 t)
        (posCols (latents m c (rowBlk t.val t.isLt))) (headGain m c) (m ((c : Thread nD τ).loc main_arg5)) (cosines m c (rowBlk t.val t.isLt)) (sines m c (rowBlk t.val t.isLt))) := by
  by_cases h0 : t.val % 16 = 0
  · rw [outsAt0_A m c t h0]
    dsimp only
    rw [keys_first, iblk_latents, iblk_gain, iblk_headGain, iblk_rot, iblk_cosines, iblk_sines]
  · rw [outsAt0_B m c t h0]
    dsimp only
    rw [keys_next, scratch_eq, iblk_latents, iblk_headGain, iblk_rot, iblk_cosines, iblk_sines, rowBlk_pred t h0]

/-- The values' block after a point. -/
theorem values_eq (c : Dev nD) (t : Fin cfg0.N) : (outsAt0 m c t.val t.isLt).2.1
    = valueRows (k0_pay2 (k0_pay4 (sharedCols (latents m c (rowBlk t.val t.isLt))) (gainRow m c)) (iblk m c 3 t)) k0_pay3 := by
  by_cases h0 : t.val % 16 = 0
  · rw [outsAt0_A m c t h0]
    dsimp only
    rw [values_first, iblk_latents, iblk_gain]
  · rw [outsAt0_B m c t h0]
    dsimp only
    rw [values_next, scratch_eq, rowBlk_pred t h0]

/-- The keys' block index at a point. -/
theorem keys_index (t : Fin cfg0.N) : (cfg0.win 8).index t = ![t.val % 16, t.val / 16, 0] := by
  show ![(BitVec.ofNat 32 (grid0.coords t 1).val).toNat, (BitVec.ofNat 32 (grid0.coords t 0).val).toNat, 0] = _
  rw [row_word, head_word]

/-- The keys' written-back blocks cover their array. -/
theorem keys_covers : (cfg0.win 8).Covers := by
  refine ⟨show ∀ a : Fin 3, 0 < S1x1024x192.size a from by decide, fun β => ?_⟩
  have h0 : (β (0 : Fin 3)).val < 16 := Nat.lt_of_lt_of_eq (β (0 : Fin 3)).isLt (show (16 + 1 - 1) / 1 = 16 by norm_num)
  have h1 : (β (1 : Fin 3)).val < 25 := Nat.lt_of_lt_of_eq (β (1 : Fin 3)).isLt (show (25600 + 1024 - 1) / 1024 = 25 by norm_num)
  have h2 : (β (2 : Fin 3)).val < 1 := Nat.lt_of_lt_of_eq (β (2 : Fin 3)).isLt (show (192 + 192 - 1) / 192 = 1 by norm_num)
  refine ⟨⟨16 * (β (1 : Fin 3)).val + (β (0 : Fin 3)).val, Nat.lt_of_lt_of_eq (by omega : _ < 400) N_0.symm⟩, flush0_8 _, fun a => ⟨?_, .inl rfl⟩⟩
  rw [keys_index]
  match a with
  | ⟨0, _⟩ => exact (show (16 * (β (1 : Fin 3)).val + (β (0 : Fin 3)).val) % 16 = (β (0 : Fin 3)).val by omega)
  | ⟨1, _⟩ => exact (show (16 * (β (1 : Fin 3)).val + (β (0 : Fin 3)).val) / 16 = (β (1 : Fin 3)).val by omega)
  | ⟨2, _⟩ => exact (show 0 = (β (2 : Fin 3)).val by omega)

/-- The values' block index at a point. -/
theorem values_index (t : Fin cfg0.N) : (cfg0.win 9).index t = ![t.val % 16, 0, t.val / 16] := by
  show ![(BitVec.ofNat 32 (grid0.coords t 1).val).toNat, 0, (BitVec.ofNat 32 (grid0.coords t 0).val).toNat] = _
  rw [row_word, head_word]

/-- The values' written-back blocks cover their array. -/
theorem values_covers : (cfg0.win 9).Covers := by
  refine ⟨show ∀ a : Fin 3, 0 < S1x144x1024.size a from by decide, fun β => ?_⟩
  have h0 : (β (0 : Fin 3)).val < 16 := Nat.lt_of_lt_of_eq (β (0 : Fin 3)).isLt (show (16 + 1 - 1) / 1 = 16 by norm_num)
  have h1 : (β (2 : Fin 3)).val < 25 := Nat.lt_of_lt_of_eq (β (2 : Fin 3)).isLt (show (25600 + 1024 - 1) / 1024 = 25 by norm_num)
  have h2 : (β (1 : Fin 3)).val < 1 := Nat.lt_of_lt_of_eq (β (1 : Fin 3)).isLt (show (144 + 144 - 1) / 144 = 1 by norm_num)
  refine ⟨⟨16 * (β (2 : Fin 3)).val + (β (0 : Fin 3)).val, Nat.lt_of_lt_of_eq (by omega : _ < 400) N_0.symm⟩, flush0_9 _, fun a => ⟨?_, .inl rfl⟩⟩
  rw [values_index]
  match a with
  | ⟨0, _⟩ => exact (show (16 * (β (2 : Fin 3)).val + (β (0 : Fin 3)).val) % 16 = (β (0 : Fin 3)).val by omega)
  | ⟨2, _⟩ => exact (show (16 * (β (2 : Fin 3)).val + (β (0 : Fin 3)).val) / 16 = (β (2 : Fin 3)).val by omega)
  | ⟨1, _⟩ => exact (show 0 = (β (1 : Fin 3)).val by omega)

end Blocks

/-! ## Over the reals -/

variable (m : (ℓ : Loc nD τ sig) → Buf (Elt Ideal) ℓ)

/-- The normed latents at an index. -/
theorem shared_apply (x : FVec Ideal S1024x256 .f32) (g : FVec Ideal S1x256 .f32) (p : Fin 1024) (k : Fin 256) :
    (k0_pay4 (F := Ideal) x g : FVec Ideal S1024x256 .bf16) (ix2 p k) = rmsAt 0x43800000#32 (fun j => x (ix2 p j)) (fun j => g (ix2 0 j)) k := by
  pointwise [k0_pay4, rmsAt]

/-- The keys at an index. -/
theorem key_apply (x : FVec Ideal S1024x256 .bf16) (w : FVec Ideal S1x256x128 .bf16) (pos : FVec Ideal S1024x64 .f32) (gh : FVec Ideal S1x192 .f32)
    (rot : FVec Ideal S192x192 .bf16) (cs sn : FVec Ideal S1024x192 .f32) (p : Fin 1024) (d : Fin 192) :
    (k0_pay1 (F := Ideal) (k0_pay5 x w pos gh rot cs sn) : FVec Ideal S1x1024x192 .bf16) (ix3 0 p d)
      = turnAt (rmsAt 0x43400000#32 (joinAt (fun e => ∑ k : Fin 256, x (ix2 p k) * w (ix3 0 k e)) (fun e => pos (ix2 p e))) (fun e => gh (ix2 0 e)))
          (fun k e => rot (ix2 k e)) (fun e => cs (ix2 p e)) (fun e => sn (ix2 p e)) d := by
  pointwise [k0_pay1, k0_pay5, rmsAt, turnAt, joinAt]

/-- The products of the values at an index. -/
theorem value_apply (x : FVec Ideal S1024x256 .bf16) (w : FVec Ideal S1x128x256 .bf16) (v : Fin 128) (p : Fin 1024) :
    (k0_pay2 (F := Ideal) x w : FVec Ideal S1x128x1024 .bf16) (ix3 0 v p) = ∑ k : Fin 256, w (ix3 0 v k) * x (ix2 p k) := by
  pointwise [k0_pay2]

/-- The row of ones over the rows of zeros, at an index. -/
theorem ones_apply (v : Fin 16) (p : Fin 1024) : (k0_pay3 (F := Ideal) : FVec Ideal S1x16x1024 .bf16) (ix3 0 v p)
    = if v.val = 0 then (Scalar.ofBits .f32 0x3F800000#32 : Ideal .f32) else (Scalar.ofBits .f32 0x00000000#32 : Ideal .f32) := by
  pointwise [k0_pay3]
  fin_cases v <;> rfl

/-- The kernel's first result array: `keyAt` of the arguments, at every index. -/
theorem keys_array_eq (c : Dev nD) : (dats m 0 c).arrAt 8 cfg0.N = (fun y : S16x25600x192.Idx =>
    keyAt (m ((c.tc : Thread nD τ).loc main_arg0)) (m ((c.tc : Thread nD τ).loc main_arg1)) (m ((c.tc : Thread nD τ).loc main_arg2))
      (m ((c.tc : Thread nD τ).loc main_arg4)) (m ((c.tc : Thread nD τ).loc main_arg5)) (m ((c.tc : Thread nD τ).loc main_arg6))
      (m ((c.tc : Thread nD τ).loc main_arg7)) (y 0) (y 1) (y 2)) := by
  refine Dat.arrAt_eq_of_covers (dats m 0 c) 8 _ keys_covers (fun t _ y => ?_)
  obtain ⟨z, p, d, rfl⟩ : ∃ (z : Fin 1) (p : Fin 1024) (d : Fin 192), y = ix3 z p d := ⟨y 0, y 1, y 2, eq_ix3 y⟩
  obtain rfl : z = 0 := Subsingleton.elim _ _
  have e : ∀ a, (((cfg0.win 8).rect t).emb (ix3 0 p d) a).val = (ix3 (headOf t) (rowIn (rowBlk t.val t.isLt) p) d a).val := fun a => by
    refine (Window.rect_emb_val (cfg0.win 8) t (ix3 0 p d) a).trans ?_
    rw [keys_index]
    match a with
    | ⟨0, _⟩ => show t.val % 16 * 1 + 0 = t.val % 16; omega
    | ⟨1, _⟩ => rfl
    | ⟨2, _⟩ => show 0 * 192 + d.val = d.val; omega
  have e' : ((cfg0.win 8).rect t).emb (ix3 0 p d) = ix3 (headOf t) (rowIn (rowBlk t.val t.isLt) p) d := funext fun a => Fin.ext (e a)
  refine Eq.trans ?_ (congrArg (fun y : S16x25600x192.Idx => keyAt _ _ _ _ _ _ _ (y 0) (y 1) (y 2)) e'.symm)
  refine (congrFun ((after0_8 m c t).trans (keys_eq m c t)) (ix3 0 p d)).trans ((key_apply _ _ _ _ _ _ _ p d).trans ?_)
  unfold keyAt
  refine congrArg (fun x => turnAt (rmsAt _ (joinAt x _) _) _ _ _ d) (funext fun q => ?_)
  exact Finset.sum_congr (M := Ideal .f32) rfl fun k _ => congrArg₂ (fun x y : Ideal .f32 => x * y) (shared_apply _ _ p k) (iblk_keyWeight m c t k q)

/-- The second: `headValueAt` of the arguments, at every index. -/
theorem values_array_eq (c : Dev nD) : (dats m 0 c).arrAt 9 cfg0.N = (fun y : S16x144x25600.Idx =>
    headValueAt (m ((c.tc : Thread nD τ).loc main_arg0)) (m ((c.tc : Thread nD τ).loc main_arg1)) (m ((c.tc : Thread nD τ).loc main_arg3)) (y 0) (y 1) (y 2)) := by
  refine Dat.arrAt_eq_of_covers (dats m 0 c) 9 _ values_covers (fun t _ y => ?_)
  obtain ⟨z, v, p, rfl⟩ : ∃ (z : Fin 1) (v : Fin 144) (p : Fin 1024), y = ix3 z v p := ⟨y 0, y 1, y 2, eq_ix3 y⟩
  obtain rfl : z = 0 := Subsingleton.elim _ _
  have e : ∀ a, (((cfg0.win 9).rect t).emb (ix3 0 v p) a).val = (ix3 (headOf t) v (rowIn (rowBlk t.val t.isLt) p) a).val := fun a => by
    refine (Window.rect_emb_val (cfg0.win 9) t (ix3 0 v p) a).trans ?_
    rw [values_index]
    match a with
    | ⟨0, _⟩ => show t.val % 16 * 1 + 0 = t.val % 16; omega
    | ⟨1, _⟩ => show 0 * 144 + v.val = v.val; omega
    | ⟨2, _⟩ => rfl
  have e' : ((cfg0.win 9).rect t).emb (ix3 0 v p) = ix3 (headOf t) v (rowIn (rowBlk t.val t.isLt) p) := funext fun a => Fin.ext (e a)
  refine Eq.trans ?_ (congrArg (fun y : S16x144x25600.Idx => headValueAt _ _ _ (y 0) (y 1) (y 2)) e'.symm)
  refine (congrFun ((after0_9 m c t).trans (values_eq m c t)) (ix3 0 v p)).trans ?_
  show valueRows (F := Ideal) _ _ (ix3 0 v p) = headValueAt _ _ _ (headOf t) v (rowIn (rowBlk t.val t.isLt) p)
  unfold headValueAt valueRows
  refine dite_congr rfl (fun h => ?_) (fun h => ?_)
  · refine (value_apply _ _ _ p).trans (Finset.sum_congr (M := Ideal .f32) rfl fun k _ => ?_)
    exact congrArg₂ (fun x y : Ideal .f32 => x * y) (iblk_valueWeight m c t _ k) (shared_apply _ _ p k)
  · refine (ones_apply _ p).trans (if_congr ?_ rfl rfl)
    show v.val - 128 = 0 ↔ v.val = 128
    have h' : ¬ v.val < 128 := h
    omega

end Cert.MlaKvIdeal.Dense

namespace Cert.MlaKvReferenceIdeal.Value
open Cert.MlaKvReferenceIdeal Cert.MlaKvReferenceIdeal.Gen Cert.Proof.Shared
open Cert.MlaQReferenceIdeal.Value (headNorm turned headNorm_apply turned_apply)
open Idealize.ShloMosaic Idealize.ShloMosaic.TcCoe

/-- The reference's normed latents, -/
def latent (c : FVec Ideal S25600x896 .f32) (g : FVec Ideal S256 .f32) : FVec Ideal S25600x256 .f32 :=
  mulf (mulf (extractStridedSlice S25600x256 ![0, 512] c slices_S25600x896_S25600x256_0_512) (broadcastInDim S25600x256 ![0, 1] bcast_S25600x1_S25600x256_0_1
    (Host.rsqrt (addf (Host.divf (broadcastInDim S25600x1 ![0] bcast_S25600_S25600x1_0 (Host.reduceAdd (mulf (extractStridedSlice S25600x256 ![0, 512] c slices_S25600x896_S25600x256_0_512)
      (extractStridedSlice S25600x256 ![0, 512] c slices_S25600x896_S25600x256_0_512)) (constant S_ .f32 0x00000000#32) reducesTo_S25600x256_S25600_d1 h_S_))
      (broadcastInDim S25600x1 ![] bcast_S_S25600x1 (constant S_ .f32 0x43800000#32))) (broadcastInDim S25600x1 ![] bcast_S_S25600x1 (constant S_ .f32 0x358637BD#32))))))
    (broadcastInDim S25600x256 ![0, 1] bcast_S1x256_S25600x256_0_1 (broadcastInDim S1x256 ![1] bcast_S256_S1x256_1 g))

/-- the heads' products with the common part behind them, -/
def joined (c : FVec Ideal S25600x896 .f32) (x : FVec Ideal S25600x256 .f32) (w : FVec Ideal S16x256x128 .bf16) : FVec Ideal S16x25600x192 .f32 :=
  concatenate S16x25600x192 2 [⟨S16x25600x128, transpose S16x25600x128 [0, 2, 1] (Host.dotGeneral dot_S16x256x128_S25600x256_S16x128x25600_1_1_02_0_n_n none
      (extf .f32 w bitsLt_bf16_f32) x) transposes_S16x128x25600_S16x25600x128_0_2_1⟩,
    ⟨S16x25600x64, broadcastInDim S16x25600x64 ![0, 1, 2] bcast_S1x25600x64_S16x25600x64_0_1_2 (broadcastInDim S1x25600x64 ![1, 2] bcast_S25600x64_S1x25600x64_1_2
      (extractStridedSlice S25600x64 ![0, 768] c slices_S25600x896_S25600x64_0_768))⟩] concatenates_S16x25600x128_S16x25600x64_S16x25600x192_d2

/-- and the values with the row of ones and the rows of zeros under them. -/
def padded (x : FVec Ideal S25600x256 .f32) (w : FVec Ideal S16x128x256 .bf16) : FVec Ideal S16x144x25600 .bf16 :=
  concatenate S16x144x25600 1 [⟨S16x128x25600, truncf .bf16 (Host.dotGeneral dot_S16x128x256_S25600x256_S16x128x25600_2_1_01_0_n_n none (extf .f32 w bitsLt_bf16_f32) x) bitsLt_bf16_f32⟩,
    ⟨S16x1x25600, broadcastInDim S16x1x25600 ![] bcast_S_S16x1x25600 (constant S_ .bf16 0x3F80#16)⟩,
    ⟨S16x15x25600, broadcastInDim S16x15x25600 ![] bcast_S_S16x15x25600 (constant S_ .bf16 0x0000#16)⟩] concatenates_S16x128x25600_S16x1x25600_S16x15x25600_S16x144x25600_d1

/-- The normed latents at an index, -/
theorem latent_apply (c : FVec Ideal S25600x896 .f32) (g : FVec Ideal S256 .f32) (r : Fin 25600) (k : Fin 256) :
    latent c g (ix2 r k) = sharedAt c g r k := by
  pointwise [latent, sharedAt, rmsAt]
/-- the products with the common part, -/
theorem joined_apply (c : FVec Ideal S25600x896 .f32) (x : FVec Ideal S25600x256 .f32) (w : FVec Ideal S16x256x128 .bf16) (h : Fin 16) (r : Fin 25600) (e : Fin 192) :
    joined c x w (ix3 h r e) = joinAt (fun e => ∑ k : Fin 256, w (ix3 h k e) * x (ix2 r k)) (fun e => c (ix2 r ⟨768 + e.val, by omega⟩)) e := by
  pointwise [joined, joinAt]
/-- and the values. -/
theorem padded_apply (x : FVec Ideal S25600x256 .f32) (w : FVec Ideal S16x128x256 .bf16) (h : Fin 16) (v : Fin 144) (r : Fin 25600) :
    padded x w (ix3 h v r) = if e : v.val < 128 then ∑ k : Fin 256, w (ix3 h ⟨v.val, e⟩ k) * x (ix2 r k)
      else if v.val = 128 then (Scalar.ofBits .f32 0x3F800000#32 : Ideal .f32) else (Scalar.ofBits .f32 0x00000000#32 : Ideal .f32) := by
  pointwise [padded]
  refine dite_congr rfl (fun _ => rfl) (fun e => if_congr ?_ rfl rfl)
  have e' : ¬ v.val < 128 := e
  omega

/-- The reference's keys, at every index, -/
theorem keys_eq (c : FVec Ideal S25600x896 .f32) (g : FVec Ideal S256 .f32) (w : FVec Ideal S16x256x128 .bf16) (gh : FVec Ideal S192 .f32)
    (rot : FVec Ideal S192x192 .bf16) (cs sn : FVec Ideal S25600x192 .f32) :
    (truncf .bf16 (turned (headNorm (joined c (latent c g) w) gh) rot cs sn) bitsLt_bf16_f32 : FVec Ideal S16x25600x192 .bf16)
      = fun y : S16x25600x192.Idx => keyAt c g w gh rot cs sn (y 0) (y 1) (y 2) := by
  funext y
  obtain ⟨h, r, d, rfl⟩ : ∃ (h : Fin 16) (r : Fin 25600) (d : Fin 192), y = ix3 h r d := ⟨y 0, y 1, y 2, eq_ix3 y⟩
  refine (turned_apply _ _ _ _ h r d).trans ?_
  refine congrArg (fun x => turnAt x _ _ _ d) (funext fun q => (headNorm_apply _ _ h r q).trans (congrArg (fun x => rmsAt _ x _ q) (funext fun s => ?_)))
  refine (joined_apply _ _ _ h r s).trans (congrArg (fun x => joinAt x _ s) (funext fun e => Finset.sum_congr (M := Ideal .f32) rfl fun k _ => ?_))
  exact (congrArg (fun x : Ideal .f32 => w (ix3 h k e) * x) (latent_apply c g r k)).trans (mul_comm (G := EReal) _ _)

/-- and its values. -/
theorem values_eq (c : FVec Ideal S25600x896 .f32) (g : FVec Ideal S256 .f32) (w : FVec Ideal S16x128x256 .bf16) :
    padded (latent c g) w = fun y : S16x144x25600.Idx => headValueAt c g w (y 0) (y 1) (y 2) := by
  funext y
  obtain ⟨h, v, r, rfl⟩ : ∃ (h : Fin 16) (v : Fin 144) (r : Fin 25600), y = ix3 h v r := ⟨y 0, y 1, y 2, eq_ix3 y⟩
  refine (padded_apply _ _ h v r).trans (dite_congr rfl (fun e => Finset.sum_congr (M := Ideal .f32) rfl fun k _ => ?_) (fun e => rfl))
  exact congrArg (fun x : Ideal .f32 => w (ix3 h ⟨v.val, e⟩ k) * x) (latent_apply c g r k)

end Cert.MlaKvReferenceIdeal.Value
end
-- ==== Proof.Up.Loops.lean ====
module
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.Frame
public import Idealize.ShloMosaic.Lib.Ring
public import Idealize.ShloMosaic.Lib.Batch
public import Idealize.ShloMosaic.Lib.Exec
public import Idealize.ShloMosaic.Lib.Tactic
public import Idealize.ShloMosaic.Lib.ValueIdxCore
@[expose] public section
noncomputable section
namespace Cert.KernelIdeal.Up
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx (ix2 ix3)

variable {F : FTy → Type} [FloatOps F]
local notation "𝕄" => MT nD τ sig Unit (Elt F) ℕ (Pipeline.UD sig nD τ) ℕ

/-- The rows that the kernel gathers from, in HBM. -/
abbrev xM : Memref sig .tc .hbm S25600x2048 .f32 := Memref.whole main_arg0
/-- The buffer that the gathered rows land in. -/
abbrev gM : Memref sig .tc .vmem S512x2048 .f32 := Memref.whole cc0_scratch0
/-- Row `k` of the landing buffer. -/
def dRow (k : Fin k0_t1_loop.trips) : Memref sig .tc .vmem S1x2048 .f32 :=
  gM.slice (Rect.unit (s := S512x2048) (k0_off3 k) S1x2048.size (Gen.k0_off3_inb k)) (fun _ => rfl)
/-- The row of the source that a row number names. -/
def sRow (v : Elt F .i32) (h : ∀ a, k0_off4 v a + S1x2048.size a ≤ S25600x2048.size a) : Memref sig .tc .hbm S1x2048 .f32 :=
  xM.slice (Rect.unit (s := S25600x2048) (k0_off4 v) S1x2048.size h) (fun _ => rfl)
/-- The issue loop runs once for each of the 512 rows. -/
theorem trips1 : k0_t1_loop.trips = 512 := by rfl
/-- So does the drain loop. -/
theorem trips2 : k0_t2_loop.trips = 512 := by rfl

/-- A row of the landing buffer is 256 units of its semaphore. -/
theorem amount_row (k : Fin k0_t1_loop.trips) : (dRow k).view.amount (SemLoc.dma (sig := sig) cc0_scratch2.sem) = 256 := by rfl

/-- The row number that iteration `k` reads off its block of row numbers. -/
abbrev word (a : Memref sig .tc .smem S1x1x512 .i32) (x : S1x1x512.Idx → Elt F .i32) (k : Fin k0_t1_loop.trips) : Elt F .i32 :=
  View.readAt (Elt F) a.view (Rect.unit (s := S1x1x512) (k0_off2 k) S1x1x1.size (Gen.k0_off2_inb k)).toLoadRect (a.view.rep x) (Shape.Idx.first (numel1_S1x1x1.symm ▸ Nat.one_pos))

section Issue
variable (c : Dev nD) (i : grid0.Coords) (arg2 : Memref sig .tc .smem S104 .i32) (harg2 : arg2.IsWhole) (arg3 : Memref sig .tc .smem S1 .i32) (harg3 : arg3.IsWhole) (arg4 : Memref sig .tc .smem S1x1x512 .i32) (harg4 : arg4.IsWhole) (harg5 : xM.IsWhole) (arg6 : Memref sig .tc .vmem S1x2048x1024 .bf16) (harg6 : arg6.IsWhole) (arg7 : Memref sig .tc .vmem S1x2048x1024 .bf16) (harg7 : arg7.IsWhole) (arg8 : Memref sig .tc .vmem S512x1024 .bf16) (harg8 : arg8.IsWhole) (harg9 : gM.IsWhole) (arg10 : Memref sig .tc .vmem S512x2048 .bf16) (harg10 : arg10.IsWhole) (v0 : Elt F .i32) (k0_h1 : k0_cond1 i v0 = 1#1)
  (x4 : S1x1x512.Idx → Elt F .i32) (xn : S25600x2048.Idx → Elt F .f32) (g0 : S512x2048.Idx → Elt F .f32)
  (hb : ∀ k a, k0_off4 (word arg4 x4 k) a + S1x2048.size a ≤ S25600x2048.size a)

/-- What the copy of row `k` delivers: the landed row, and the share of the source row that it was lent. -/
abbrev D (k : Fin k0_t1_loop.trips) : sProp 𝕄 :=
  iprop(((dRow k).view.loc (c : Thread nD τ) ↦[(dRow k).view.set]{fullShare} (dRow k).view.writes (Elt F) g0 [⟨Rect.whole S1x2048, ReadAs.same.apply ((sRow (word arg4 x4 k) (hb k)).view.read (Elt F) xn)⟩])
    ∗ ((sRow (word arg4 x4 k) (hb k)).view.loc (c : Thread nD τ) ↦[(sRow (word arg4 x4 k) (hb k)).view.set]{Transfers.shareTokN fullShare k.val} xn))

/-- The semaphore after `j` issues and `u` units waited for. -/
abbrev batch (j u : ℕ) : sProp 𝕄 :=
  Transfers.Batch (countersEmb (U := Pipeline.UD sig nD τ)) (c : Thread nD τ) (.dma cc0_scratch2.sem) () 256 (D c arg4 x4 xn g0 hb) j u

/-- Row `k` of the landing buffer, owned at the contents `g0`. -/
abbrev dOwn (k : Fin k0_t1_loop.trips) : sProp 𝕄 := (dRow k).view.loc (c : Thread nD τ) ↦[(dRow k).view.set]{fullShare} g0
/-- The share of the source row that iteration `k` lends to its copy. -/
abbrev sTok (k : Fin k0_t1_loop.trips) : sProp 𝕄 :=
  (sRow (word arg4 x4 k) (hb k)).view.loc (c : Thread nD τ) ↦[(sRow (word arg4 x4 k) (hb k)).view.set]{Transfers.shareTokN fullShare k.val} xn

/-- Before issue `k`: the first `k` copies are under way, the landing rows and source shares of the others are here. -/
def issueAt (k : ℕ) (_ : Unit) : sProp 𝕄 :=
  iprop(batch c arg4 x4 xn g0 hb k 0 ∗ (arg4.view.loc (c : Thread nD τ) ↦[arg4.view.set]{fullShare} arg4.view.rep x4)
    ∗ bigSep (Ring.rangeSet k0_t1_loop.trips k k0_t1_loop.trips) (dOwn c g0)
    ∗ bigSep (Ring.rangeSet k0_t1_loop.trips k k0_t1_loop.trips) (sTok c arg4 x4 xn hb))

/-- One iteration of the issue loop starts the copy of its row. -/
theorem issue_step (k : Fin k0_t1_loop.trips) (acc : Unit) :
    issueAt c arg4 x4 xn g0 hb k acc ⊢ wp frame (wpE defs₀ Variants.none (c : Thread nD τ) none) Set.univ
      (k0_t1_body (F := F) i arg2 harg2 arg3 harg3 arg4 harg4 xM harg5 arg6 harg6 arg7 harg7 arg8 harg8 gM harg9 arg10 harg10 cc0_scratch2 v0 k0_h1 k acc)
      (issueAt c arg4 x4 xn g0 hb (k.val + 1)) := by
  have hk := k.isLt
  have hc : k0_chk1 i v0 (word arg4 x4 k) := fun _ => hb k
  unfold issueAt
  rw [Ring.bigSep_rangeSet_head (Φ := dOwn c g0) (by omega) (by omega), Ring.bigSep_rangeSet_head (Φ := sTok c arg4 x4 xn hb) (by omega) (by omega)]
  unfold dOwn sTok k0_t1_body
  iintro ⟨HB, H4, ⟨HD, HDs⟩, ⟨HT, HTs⟩⟩
  sl_exec
  sl_step
  isplitl [HB]; · iexact HB
  isplitl [H4]; · iexact H4
  isplitl [HDs]; · iexact HDs
  iexact HTs

/-- Before wait `k`: `k` rows have been waited for, and after the last one every copy has delivered. -/
def drainAt (k : ℕ) (_ : Unit) : sProp 𝕄 :=
  iprop(⌜k ≤ k0_t1_loop.trips⌝ ∗ (∃ W, owes (c : Thread nD τ) 0 W) ∗ (arg4.view.loc (c : Thread nD τ) ↦[arg4.view.set]{fullShare} arg4.view.rep x4)
    ∗ (if k < k0_t1_loop.trips then batch c arg4 x4 xn g0 hb k0_t1_loop.trips (k * 256)
       else iprop(semVal ((c : Thread nD τ), SemLoc.dma cc0_scratch2.sem) 0 ∗ bigSep Finset.univ (D c arg4 x4 xn g0 hb))))

/-- One iteration of the drain loop waits for one row. -/
theorem drain_step (k : Fin k0_t2_loop.trips) (acc : Unit) :
    drainAt c arg4 x4 xn g0 hb k acc ⊢ wp frame (wpE defs₀ Variants.none (c : Thread nD τ) none) Set.univ
      (k0_t2_body (F := F) i arg2 harg2 arg3 harg3 arg4 harg4 xM harg5 arg6 harg6 arg7 harg7 arg8 harg8 gM harg9 arg10 harg10 cc0_scratch2 v0 k0_h1 k acc)
      (drainAt c arg4 x4 xn g0 hb (k.val + 1)) := by
  have hk : k.val < k0_t1_loop.trips := k.isLt
  have hc : k0_chk2 i v0 (View.readAt (Elt F) arg4.view (Rect.unit (s := S1x1x512) (k0_off5 k) S1x1x1.size (Gen.k0_off5_inb k)).toLoadRect (arg4.view.rep x4) (Shape.Idx.first (numel1_S1x1x1.symm ▸ Nat.one_pos))) := fun _ => hb k
  unfold drainAt
  simp only [if_pos hk]
  rcases Nat.lt_or_ge (k.val + 1) k0_t1_loop.trips with h1 | h1
  · simp only [if_pos h1]
    unfold k0_t2_body
    iintro ⟨-, ⟨%W, HO⟩, H4, HB⟩
    sl_exec
    sl_step
    isplitr; · ipureintro; omega
    isplitl [HO]; · iexists _; iexact HO
    isplitl [H4]; · iexact H4
    rw [show (k.val + 1) * 256 = k.val * 256 + 256 by omega]
    iexact HB
  · simp only [if_neg (Nat.not_lt.mpr h1)]
    unfold k0_t2_body
    iintro ⟨-, ⟨%W, HO⟩, H4, HB⟩
    sl_exec
    sl_step
    isplitr; · ipureintro; omega
    isplitl [HO]; · iexists _; iexact HO
    isplitl [H4]; · iexact H4
    isplitl [HB]; · iexact HB
    iexact HB_all
end Issue

/-- The loop variable at iteration `k` is `k`. -/
theorem iv_toNat (k : Fin k0_t1_loop.trips) : (Scf.iv (0#32) (1#32) k.val).toNat = k.val := by
  have hk : k.val < 512 := k.isLt
  unfold Scf.iv
  simp
  omega

/-- Iteration `k` lands in row `k`, -/
theorem off3_eq (k : Fin k0_t1_loop.trips) : k0_off3 k = ![k.val, 0] := by
  unfold k0_off3; dsimp only; rw [iv_toNat]
/-- and reads row number `k`. -/
theorem off2_eq (k : Fin k0_t1_loop.trips) : k0_off2 k = ![0, 0, k.val] := by
  unfold k0_off2; dsimp only
  rw [show (Scalar.indexCast (Scf.iv 0#32 1#32 k.val)).toNat = k.val from by
    unfold Scalar.indexCast; simp [iv_toNat]]

/-- The word the loop reads at trip `k` is the table's entry `k`. -/
theorem word_eq (a : Memref sig .tc .smem S1x1x512 .i32) (x : S1x1x512.Idx → Elt F .i32) (k : Fin k0_t1_loop.trips) :
    word a x k = x (ix3 0 0 ⟨k.val, k.isLt⟩) := by
  show a.view.read (Elt F) (a.view.rep x) ((Rect.unit (s := S1x1x512) (k0_off2 k) S1x1x1.size (Gen.k0_off2_inb k)).emb _) = _
  rw [View.read_rep]
  congr 1
  funext b
  apply Fin.ext
  fin_cases b
  · exact Nat.lt_one_iff.mp (Fin.isLt _)
  · exact Nat.lt_one_iff.mp (Fin.isLt _)
  · show k0_off2 k 2 + 1 * 0 = k.val
    exact congrArg (· + 0) (congrFun (off2_eq k) 2)

/-- The elements of landing row `k`, as a rectangle. -/
theorem kset (k : Fin k0_t1_loop.trips) : (dRow k).view.set = (Rect.unit (s := S512x2048) (k0_off3 k) S1x2048.size (Gen.k0_off3_inb k)).set := by
  unfold dRow; exact View.set_slice_whole _ _
/-- The elements of landing row `k`. -/
abbrev bset (k : Fin k0_t1_loop.trips) : Finset S512x2048.Idx := (Rect.unit (s := S512x2048) (k0_off3 k) S1x2048.size (Gen.k0_off3_inb k)).set
/-- They are those of first coordinate `k`; -/
theorem mem_bset (k : Fin k0_t1_loop.trips) (y : S512x2048.Idx) : y ∈ bset k ↔ (y 0).val = k.val := by
  rw [Rect.mem_set_unit, off3_eq]
  have h1 : (y 1).val < 2048 := (y 1).isLt
  constructor
  · intro H; have a0 : k.val ≤ (y 0).val ∧ (y 0).val < k.val + 1 := H 0; omega
  · intro H a; fin_cases a
    · show k.val ≤ (y 0).val ∧ (y 0).val < k.val + 1; omega
    · show 0 ≤ (y 1).val ∧ (y 1).val < 0 + 2048; omega
/-- two rows share none, -/
theorem bset_disjoint : ∀ b b' : Fin k0_t1_loop.trips, b ≠ b' → Disjoint (bset b) (bset b') := fun b b' hne => by
  rw [Finset.disjoint_left]; intro y hy hy'; rw [mem_bset] at hy hy'; exact hne (Fin.ext (by omega))
/-- and together they are the whole buffer. -/
theorem bset_cover : Finset.univ.biUnion bset = Finset.univ := by
  ext y; simp only [Finset.mem_biUnion, Finset.mem_univ, true_and, iff_true]
  exact ⟨⟨(y 0).val, (y 0).isLt⟩, (mem_bset _ _).mpr rfl⟩

/-- The rows the tile gathers: row `r` is the row of `xn` the table names at `r`. -/
def rows (x4 : S1x1x512.Idx → Elt F .i32) (xn : S25600x2048.Idx → Elt F .f32) : S512x2048.Idx → Elt F .f32 :=
  fun y => xn (ix2 ⟨min (BitVec.toNat (x4 (ix3 0 0 (y 0)))) 25599, by omega⟩ (y 1))

section Join
variable (c : Dev nD) (arg4 : Memref sig .tc .smem S1x1x512 .i32)
  (x4 : S1x1x512.Idx → Elt F .i32) (xn : S25600x2048.Idx → Elt F .f32) (g0 : S512x2048.Idx → Elt F .f32)
  (hb : ∀ k a, k0_off4 (word arg4 x4 k) a + S1x2048.size a ≤ S25600x2048.size a)

/-- After its copy, landing row `k` holds the source row that its number names. -/
theorem landed (k : Fin k0_t1_loop.trips) (y : S512x2048.Idx) (hy : y ∈ bset k) :
    (dRow k).view.writes (Elt F) g0 [⟨Rect.whole S1x2048, ReadAs.same.apply ((sRow (word arg4 x4 k) (hb k)).view.read (Elt F) xn)⟩] y = rows x4 xn y := by
  refine (congrFun (View.write_univ_eq_writes_whole (dRow k).view g0 [] _).symm y).trans ?_
  have hy0 : (y 0).val = k.val := (mem_bset k y).mp hy
  have he : y = (dRow k).view.emb (ix2 0 (y 1)) := by
    funext b; apply Fin.ext
    fin_cases b
    · show (y 0).val = k0_off3 k 0 + 1 * 0
      rw [off3_eq]; exact hy0
    · show (y 1).val = k0_off3 k 1 + 1 * (y 1).val
      rw [off3_eq]; show _ = 0 + _; omega
  refine (congrArg _ he).trans ?_
  refine (View.write_emb_of_mem (v := (dRow k).view) _ _ (Finset.mem_univ _)).trans ?_
  show xn ((sRow (word arg4 x4 k) (hb k)).view.emb (ix2 0 (y 1))) = _
  unfold rows
  congr 1
  have hw : word arg4 x4 k = x4 (ix3 0 0 (y 0)) := by
    rw [word_eq]; congr 1; congr 1; exact Fin.ext hy0.symm
  have hlt : BitVec.toNat (word arg4 x4 k) + 1 ≤ 25600 := hb k 0
  have hlt' : BitVec.toNat (x4 (ix3 0 0 (y 0))) + 1 ≤ 25600 := by rw [← hw]; exact hlt
  funext b; apply Fin.ext
  fin_cases b
  · show BitVec.toNat (word arg4 x4 k) + 1 * 0 = min (BitVec.toNat (x4 (ix3 0 0 (y 0)))) 25599
    rw [hw]; omega
  · show 0 + 1 * (y 1).val = (y 1).val
    omega

/-- Owning landing row `k` is owning its elements. -/
theorem dOwn_eq (f : S512x2048.Idx → Elt F .f32) (k : Fin k0_t1_loop.trips) :
    (dOwn c f k : sProp 𝕄) = (gM.view.loc (c : Thread nD τ) ↦[bset k]{fullShare} f) := by
  unfold dOwn; rw [kset]; rfl

/-- Owning the landing buffer is owning its rows. -/
theorem own_rows : ((gM.view.loc (c : Thread nD τ) ↦{fullShare} g0) : sProp 𝕄) = bigSep Finset.univ (dOwn c g0) :=
  (Ring.pointsTo_blocks (ℓ := gM.view.loc (c : Thread nD τ)) (q := fullShare) bset bset_disjoint bset_cover g0).trans (BI.bigSep_congr fun k _ => (dOwn_eq c g0 k).symm)

/-- What the tokens of `xn` keep behind while a row of each is lent. -/
abbrev sRest (k : Fin k0_t1_loop.trips) : sProp 𝕄 :=
  xM.view.loc (c : Thread nD τ) ↦[Finset.univ \ (sRow (word arg4 x4 k) (hb k)).view.set]{Transfers.shareTokN fullShare k.val} xn

/-- A share of the source is the lent row and the rest. -/
theorem tok_split (k : Fin k0_t1_loop.trips) :
    ((xM.view.loc (c : Thread nD τ) ↦{Transfers.shareTokN fullShare k.val} xn) : sProp 𝕄)
      = iprop(sTok c arg4 x4 xn hb k ∗ sRest c arg4 x4 xn hb k) :=
  have h := pointsTo_split_subset (Ix := Unit) (Val := Elt F) (Name := ℕ) (U := Pipeline.UD sig nD τ) (Lvl := ℕ) (ℓ := xM.view.loc (c : Thread nD τ)) (q := Transfers.shareTokN fullShare k.val) (f := xn) (Finset.subset_univ (sRow (word arg4 x4 k) (hb k)).view.set)
  h.1.antisymm h.2

/-- The source is a share for each iteration, split into the lent row and the rest, and a remainder. -/
theorem xn_split : ((xM.view.loc (c : Thread nD τ) ↦{fullShare} xn) : sProp 𝕄)
    = iprop((xM.view.loc (c : Thread nD τ) ↦{Transfers.shareDrop fullShare k0_t1_loop.trips} xn)
      ∗ bigSep Finset.univ (sTok c arg4 x4 xn hb) ∗ bigSep Finset.univ (sRest c arg4 x4 xn hb)) := by
  rw [← BI.bigSep_sep', ← BI.bigSep_congr (fun k _ => tok_split c arg4 x4 xn hb k),
    Ring.bigSep_fin_eq_range k0_t1_loop.trips _ (fun t => (xM.view.loc (c : Thread nD τ) ↦{Transfers.shareTokN fullShare t} xn : sProp 𝕄)) (fun _ _ => rfl)]
  have h := Transfers.pointsTo_toks_range (Ix := Unit) (Val := Elt F) (Name := ℕ) (U := Pipeline.UD sig nD τ) (Lvl := ℕ) (ℓ := xM.view.loc (c : Thread nD τ)) (S := Finset.univ) (f := xn) fullShare k0_t1_loop.trips
  exact h.1.antisymm h.2

/-- The delivered landing row, at the gathered contents. -/
theorem D_dst (k : Fin k0_t1_loop.trips) :
    (((dRow k).view.loc (c : Thread nD τ) ↦[(dRow k).view.set]{fullShare} (dRow k).view.writes (Elt F) g0 [⟨Rect.whole S1x2048, ReadAs.same.apply ((sRow (word arg4 x4 k) (hb k)).view.read (Elt F) xn)⟩]) : sProp 𝕄)
      = dOwn c (rows x4 xn) k := by
  unfold dOwn
  refine pointsTo_congr fun y hy => ?_
  rw [kset] at hy
  exact landed arg4 x4 xn g0 hb k y hy

/-- A delivery is the gathered row and the lent share. -/
theorem D_eq (k : Fin k0_t1_loop.trips) : (D c arg4 x4 xn g0 hb k : sProp 𝕄) = iprop(dOwn c (rows x4 xn) k ∗ sTok c arg4 x4 xn hb k) :=
  congrArg (fun P : sProp 𝕄 => iprop(P ∗ sTok c arg4 x4 xn hb k)) (D_dst c arg4 x4 xn g0 hb k)

/-- All deliveries are the gathered buffer and every lent share. -/
theorem rows_join : (bigSep Finset.univ (D c arg4 x4 xn g0 hb) : sProp 𝕄)
    = iprop((gM.view.loc (c : Thread nD τ) ↦{fullShare} rows x4 xn) ∗ bigSep Finset.univ (sTok c arg4 x4 xn hb)) := by
  rw [own_rows, ← BI.bigSep_sep']
  exact BI.bigSep_congr fun k _ => D_eq c arg4 x4 xn g0 hb k
end Join
end Cert.KernelIdeal.Up
end
-- ==== Proof.Up.Body.lean ====
module
public import proofs.«01_k».proof.Proof.Up.Loops
public import Idealize.ShloMosaic.Lib.VecWindow
@[expose] public section
noncomputable section
namespace Cert.KernelIdeal.Up
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]
local notation "𝕄" => MT nD τ sig Unit (Elt F) ℕ (Pipeline.UD sig nD τ) ℕ

/-- The table of expert numbers. -/
abbrev tbM0_0 : Memref sig .tc .smem S104 .i32 := Memref.whole main_arg4
/-- The number of used tiles. -/
abbrev tbM0_1 : Memref sig .tc .smem S1 .i32 := Memref.whole main_arg5
/-- The buffer that keeps the rows rounded. -/
abbrev sM : Memref sig .tc .vmem S512x2048 .bf16 := Memref.whole cc0_scratch1

/-- The number of used tiles, as the body reads it off its table. -/
abbrev used (T1 : S1.Idx → Elt F .i32) : Elt F .i32 :=
  View.readAt (Elt F) tbM0_1.view (Rect.unit (s := S1) ![0] S1.size inb_S1_S1_0).toLoadRect T1 (Shape.Idx.first (numel1_S1.symm ▸ Nat.one_pos))

/-- The gathered rows, loaded whole. -/
theorem gM_load (f : S512x2048.Idx → Elt F .f32) :
    View.readAt (Elt F) gM.view (Rect.unit (s := S512x2048) ![0, 0] S512x2048.size inb_S512x2048_S512x2048_0_0).toLoadRect f = f :=
  View.readAt_full gM.view f inb_S512x2048_S512x2048_0_0
/-- The rounded rows, loaded whole. -/
theorem sM_load (f : S512x2048.Idx → Elt F .bf16) :
    View.readAt (Elt F) sM.view (Rect.unit (s := S512x2048) ![0, 0] S512x2048.size inb_S512x2048_S512x2048_0_0).toLoadRect f = f :=
  View.readAt_full sM.view f inb_S512x2048_S512x2048_0_0
/-- The rounded rows, stored whole. -/
theorem sM_store (f w : S512x2048.Idx → Elt F .bf16) :
    sM.view.writes (Elt F) f [⟨Rect.unit (s := S512x2048) ![0, 0] S512x2048.size inb_S512x2048_S512x2048_0_0, w⟩] = w := by
  have h := View.read_writes_full (Val := Elt F) sM.view f inb_S512x2048_S512x2048_0_0 w []
  refine Eq.trans ?_ h
  generalize sM.view.writes (Elt F) f [⟨Rect.unit (s := S512x2048) ![0, 0] S512x2048.size inb_S512x2048_S512x2048_0_0, w⟩] = g
  rfl

section Body
variable (c : Dev nD) (i : grid0.Coords) (arg4 : Memref sig .tc .smem S1x1x512 .i32) (harg4 : arg4.IsWhole) (arg6 : Memref sig .tc .vmem S1x2048x1024 .bf16) (harg6 : arg6.IsWhole) (arg7 : Memref sig .tc .vmem S1x2048x1024 .bf16) (harg7 : arg7.IsWhole) (arg8 : Memref sig .tc .vmem S512x1024 .bf16) (harg8 : arg8.IsWhole)
  (T1 : S1.Idx → Elt F .i32) (x4 : S1x1x512.Idx → Elt F .i32) (xn : S25600x2048.Idx → Elt F .f32)
  (x6 x7 : S1x2048x1024.Idx → Elt F .bf16)

set_option warn.classDefReducibility false in
/-- The issue loop's invariant, for the run to find. -/
@[sl_loop] def issueInv (v0 : Elt F .i32) (k0_h1 : k0_cond1 i v0 = 1#1) (arg2 : Memref sig .tc .smem S104 .i32) (harg2 : arg2.IsWhole) (arg3 : Memref sig .tc .smem S1 .i32) (harg3 : arg3.IsWhole) (harg5 : xM.IsWhole) (harg9 : gM.IsWhole) (arg10 : Memref sig .tc .vmem S512x2048 .bf16) (harg10 : arg10.IsWhole)
    (g0 : S512x2048.Idx → Elt F .f32) (hb : ∀ k a, k0_off4 (word arg4 x4 k) a + S1x2048.size a ≤ S25600x2048.size a) :
    LoopInvTy_k0_t1 (F := F) Unit ℕ (Pipeline.UD sig nD τ) ℕ Variants.none c none Set.univ i arg2 harg2 arg3 harg3 arg4 harg4 xM harg5 arg6 harg6 arg7 harg7 arg8 harg8 gM harg9 arg10 harg10 cc0_scratch2 v0 k0_h1 where
  inv := issueAt c arg4 x4 xn g0 hb
  step := issue_step c i arg2 harg2 arg3 harg3 arg4 harg4 harg5 arg6 harg6 arg7 harg7 arg8 harg8 harg9 arg10 harg10 v0 k0_h1 x4 xn g0 hb

/-- A points-to may be kept in a transfer. -/
theorem storable_pt (ℓ : Loc nD τ sig) (S : Finset (Idx ℓ)) (q : PosShare TreeShare) (f : Buf (Elt F) ℓ) :
    BI.Storable (upEmb : UEmb _ 𝕄) (ℓ ↦[S]{q} f : sProp 𝕄) := inferInstance

/-- So may a delivery. -/
theorem D_storable (g0 : S512x2048.Idx → Elt F .f32) (hb : ∀ k a, k0_off4 (word arg4 x4 k) a + S1x2048.size a ≤ S25600x2048.size a)
    (k : Fin k0_t1_loop.trips) : BI.Storable (upEmb : UEmb _ 𝕄) (D c arg4 x4 xn g0 hb k) := by
  have h1 := storable_pt (F := F) ((dRow k).view.loc (c : Thread nD τ)) (dRow k).view.set fullShare ((dRow k).view.writes (Elt F) g0 [⟨Rect.whole S1x2048, ReadAs.same.apply ((sRow (word arg4 x4 k) (hb k)).view.read (Elt F) xn)⟩])
  have h2 := storable_pt (F := F) ((sRow (word arg4 x4 k) (hb k)).view.loc (c : Thread nD τ)) (sRow (word arg4 x4 k) (hb k)).view.set (Transfers.shareTokN fullShare k.val) xn
  unfold D; infer_instance

/-- The body at an active tile's first block of columns: it gathers the rows, rounds and keeps them, and computes its block. -/
theorem run_load (h1 : k0_cond1 i (used T1) = 1#1) (h2 : k0_cond2 i (used T1) = 1#1) (h3 : ¬ k0_cond3 i (used T1) = 1#1)
    (hb : ∀ k a, k0_off4 (word arg4 x4 k) a + S1x2048.size a ≤ S25600x2048.size a)
    (g0 : S512x2048.Idx → Elt F .f32) (s0 : S512x2048.Idx → Elt F .bf16) (W : Waits sig Unit) (K : PUnit → sProp 𝕄) :
    iprop((arg4.view.loc (c : Thread nD τ) ↦[arg4.view.set]{fullShare} arg4.view.rep x4)
        ∗ (arg6.view.loc (c : Thread nD τ) ↦[arg6.view.set]{fullShare} arg6.view.rep x6)
        ∗ (arg7.view.loc (c : Thread nD τ) ↦[arg7.view.set]{fullShare} arg7.view.rep x7)
        ∗ (tbM0_1.view.loc (c : Thread nD τ) ↦{fullShare.right} T1)
        ∗ (∃ d, owns (c : Thread nD τ) arg8 fullShare d)
        ∗ (xM.view.loc (c : Thread nD τ) ↦{fullShare} xn)
        ∗ (gM.view.loc (c : Thread nD τ) ↦{fullShare} g0)
        ∗ (sM.view.loc (c : Thread nD τ) ↦{fullShare} s0)
        ∗ semVal ((c : Thread nD τ), SemLoc.dma cc0_scratch2.sem) 0
        ∗ owes (c : Thread nD τ) 0 W
        ∗ (iprop((arg4.view.loc (c : Thread nD τ) ↦[arg4.view.set]{fullShare} arg4.view.rep x4)
            ∗ (arg6.view.loc (c : Thread nD τ) ↦[arg6.view.set]{fullShare} arg6.view.rep x6)
            ∗ (arg7.view.loc (c : Thread nD τ) ↦[arg7.view.set]{fullShare} arg7.view.rep x7)
            ∗ (tbM0_1.view.loc (c : Thread nD τ) ↦{fullShare.right} T1)
            ∗ owns (c : Thread nD τ) arg8 fullShare (k0_pay2 (k0_pay1 (rows x4 xn)) x6 x7)
            ∗ (xM.view.loc (c : Thread nD τ) ↦{fullShare} xn)
            ∗ (gM.view.loc (c : Thread nD τ) ↦{fullShare} rows x4 xn)
            ∗ (sM.view.loc (c : Thread nD τ) ↦{fullShare} k0_pay1 (rows x4 xn))
            ∗ semVal ((c : Thread nD τ), SemLoc.dma cc0_scratch2.sem) 0
            ∗ ∃ W', owes (c : Thread nD τ) 0 W') -∗ K ⟨⟩))
      ⊢ wp frame (wpE (defs₀ (F := F)) Variants.none c none) Set.univ
          (cc0_moe_expert_up i tbM0_0 (Memref.isWhole_whole _) tbM0_1 (Memref.isWhole_whole _) arg4 harg4 xM (Memref.isWhole_whole _) arg6 harg6 arg7 harg7 arg8 harg8 gM (Memref.isWhole_whole _) sM (Memref.isWhole_whole _) cc0_scratch2) K := by
  rw [cc0_moe_expert_up_eq_skeleton]
  unfold cc0_moe_expert_up_skel
  rw [xn_split c arg4 x4 xn hb, own_rows]
  unfold owns
  iintro ⟨H4, H6, H7, HT1, ⟨%d8, %f8, -, H8⟩, ⟨Hx, Htok, Hrest⟩, Hg, Hs, Hc, HO, Hk⟩
  haveI hst : ∀ t, BI.Storable (upEmb : UEmb _ 𝕄) (D c arg4 x4 xn g0 hb t) := fun t => D_storable c arg4 x4 xn g0 hb t
  imod (Transfers.batch_alloc' (Lvl := ℕ) (countersEmb (U := Pipeline.UD sig nD τ)) (c : Thread nD τ) () 256 (D c arg4 x4 xn g0 hb) (sm := .dma cc0_scratch2.sem) (E := Set.univ)) $$ Hc with HB
  sl_exec
  sl_for (drainAt c arg4 x4 xn g0 hb) $$ [HB H4 HO]
  · intro k acc
    exact drain_step c i tbM0_0 _ tbM0_1 _ arg4 harg4 _ arg6 harg6 arg7 harg7 arg8 harg8 _ sM _ _ h1 x4 xn g0 hb k acc
  · unfold drainAt
    rw [if_pos (show 0 < k0_t1_loop.trips from (by decide : 0 < 512))]
    isplitr; · ipureintro; exact Nat.zero_le _
    isplitl [HO]; · iexists _; iexact HO
    isplitl [H4]; · iexact H4
    rw [Nat.zero_mul]
    iexact HB
  iintro %acc HL
  ihave HL' := (show drainAt c arg4 x4 xn g0 hb k0_t1_loop.trips acc ⊢ iprop((∃ W, owes (c : Thread nD τ) 0 W) ∗ (arg4.view.loc (c : Thread nD τ) ↦[arg4.view.set]{fullShare} arg4.view.rep x4)
      ∗ semVal ((c : Thread nD τ), SemLoc.dma cc0_scratch2.sem) 0 ∗ (gM.view.loc (c : Thread nD τ) ↦{fullShare} rows x4 xn) ∗ bigSep Finset.univ (sTok c arg4 x4 xn hb)) from by
    unfold drainAt; rw [if_neg (Nat.lt_irrefl _), rows_join]; iintro ⟨-, HO, H4, Hc, Hg, Ht⟩
    isplitl [HO]; · iexact HO
    isplitl [H4]; · iexact H4
    isplitl [Hc]; · iexact Hc
    isplitl [Hg] <;> iassumption) $$ HL
  icases HL' with ⟨⟨%W1, HO⟩, H4, Hc, Hg, Ht⟩
  sl_exec
  sl_step
  iapply Hk
  isplitl [H4]; · iexact H4
  isplitl [H6]; · iexact H6
  isplitl [H7]; · iexact H7
  isplitl [HT1]; · iexact HT1
  isplitl [H8]
  · iexists _; isplitr; swap; · iexact H8
    ipureintro
    refine (View.read_writes_full arg8.view f8 inb_S512x1024_S512x1024_0_0 _ []).trans ?_
    rw [View.readAt_rep_full, View.readAt_rep_full]
    refine congrArg (fun z => k0_pay2 z x6 x7) ?_
    unfold run_load.sl.v11 run_load.sl.Hs_1
    refine (View.readCov_full sM.view inb_S512x2048_S512x2048_0_0 inb_S512x2048_S512x2048_0_0 _ []).trans ?_
    exact congrArg k0_pay1 (gM_load (rows x4 xn))
  isplitl [Hx Ht Hrest]
  · isplitl [Hx]; · iexact Hx
    isplitl [Ht] <;> iassumption
  isplitl [Hg]; · iexact Hg
  isplitl [Hs]
  · unfold run_load.sl.Hs_1
    rw [sM_store, gM_load]
    iexact Hs
  isplitl [Hc]; · iexact Hc
  iexists _; iexact HO

/-- A tile of an expert, not its first block of columns: the rows are in the scratch already. -/
theorem run_keep (h1 : ¬ k0_cond1 i (used T1) = 1#1) (h2 : k0_cond2 i (used T1) = 1#1) (h3 : ¬ k0_cond3 i (used T1) = 1#1)
    (s0 : S512x2048.Idx → Elt F .bf16) (K : PUnit → sProp 𝕄) :
    iprop((arg6.view.loc (c : Thread nD τ) ↦[arg6.view.set]{fullShare} arg6.view.rep x6)
        ∗ (arg7.view.loc (c : Thread nD τ) ↦[arg7.view.set]{fullShare} arg7.view.rep x7)
        ∗ (tbM0_1.view.loc (c : Thread nD τ) ↦{fullShare.right} T1)
        ∗ (∃ d, owns (c : Thread nD τ) arg8 fullShare d)
        ∗ (sM.view.loc (c : Thread nD τ) ↦{fullShare} s0)
        ∗ (iprop((arg6.view.loc (c : Thread nD τ) ↦[arg6.view.set]{fullShare} arg6.view.rep x6)
            ∗ (arg7.view.loc (c : Thread nD τ) ↦[arg7.view.set]{fullShare} arg7.view.rep x7)
            ∗ (tbM0_1.view.loc (c : Thread nD τ) ↦{fullShare.right} T1)
            ∗ owns (c : Thread nD τ) arg8 fullShare (k0_pay2 s0 x6 x7)
            ∗ (sM.view.loc (c : Thread nD τ) ↦{fullShare} s0)) -∗ K ⟨⟩))
      ⊢ wp frame (wpE (defs₀ (F := F)) Variants.none c none) Set.univ
          (cc0_moe_expert_up i tbM0_0 (Memref.isWhole_whole _) tbM0_1 (Memref.isWhole_whole _) arg4 harg4 xM (Memref.isWhole_whole _) arg6 harg6 arg7 harg7 arg8 harg8 gM (Memref.isWhole_whole _) sM (Memref.isWhole_whole _) cc0_scratch2) K := by
  rw [cc0_moe_expert_up_eq_skeleton]
  unfold cc0_moe_expert_up_skel owns
  iintro ⟨H6, H7, HT1, ⟨%d8, %f8, -, H8⟩, Hs, Hk⟩
  sl_exec
  sl_step
  iapply Hk
  isplitl [H6]; · iexact H6
  isplitl [H7]; · iexact H7
  isplitl [HT1]; · iexact HT1
  isplitl [H8]
  · iexists _; isplitr; swap; · iexact H8
    ipureintro
    refine (View.read_writes_full arg8.view f8 inb_S512x1024_S512x1024_0_0 _ []).trans ?_
    rw [View.readAt_rep_full, View.readAt_rep_full]
    exact congrArg (fun z => k0_pay2 z x6 x7) (sM_load s0)
  iexact Hs

/-- A tile past the used ones: its block is zero. -/
theorem run_zero (h1 : ¬ k0_cond1 i (used T1) = 1#1) (h2 : ¬ k0_cond2 i (used T1) = 1#1) (h3 : k0_cond3 i (used T1) = 1#1)
    (K : PUnit → sProp 𝕄) :
    iprop((tbM0_1.view.loc (c : Thread nD τ) ↦{fullShare.right} T1)
        ∗ (∃ d, owns (c : Thread nD τ) arg8 fullShare d)
        ∗ (iprop((tbM0_1.view.loc (c : Thread nD τ) ↦{fullShare.right} T1)
            ∗ owns (c : Thread nD τ) arg8 fullShare (k0_pay3 (F := F))) -∗ K ⟨⟩))
      ⊢ wp frame (wpE (defs₀ (F := F)) Variants.none c none) Set.univ
          (cc0_moe_expert_up i tbM0_0 (Memref.isWhole_whole _) tbM0_1 (Memref.isWhole_whole _) arg4 harg4 xM (Memref.isWhole_whole _) arg6 harg6 arg7 harg7 arg8 harg8 gM (Memref.isWhole_whole _) sM (Memref.isWhole_whole _) cc0_scratch2) K := by
  rw [cc0_moe_expert_up_eq_skeleton]
  unfold cc0_moe_expert_up_skel owns
  iintro ⟨HT1, ⟨%d8, %f8, -, H8⟩, Hk⟩
  sl_exec
  sl_step
  iapply Hk
  isplitl [HT1]; · iexact HT1
  iexists _; isplitr; swap; · iexact H8
  ipureintro
  exact View.read_writes_full arg8.view f8 inb_S512x1024_S512x1024_0_0 _ []
end Body
end Cert.KernelIdeal.Up
end
-- ==== Proof.Shared.Tiles.lean ====
/-
  Which tiles are used, as the kernels compare them with the number of used tiles.
-/
module
public import Idealize.ShloMosaic.Lib.Pointwise
@[expose] public section
namespace Cert.Proof.Shared

/-- Tile `n` is one of the first `v`, compared as signed words. -/
def Active (n : ℕ) (v : BitVec 32) : Prop := (BitVec.ofNat 32 n).slt v = true
instance (n : ℕ) (v : BitVec 32) : Decidable (Active n v) := by unfold Active; infer_instance

end Cert.Proof.Shared
-- ==== Proof.Up.Points.lean ====
module
public import proofs.«01_k».proof.Proof.Up.Body
public import proofs.«01_k».proof.Proof.Shared.Tiles
public import proofs.«01_k».proof.Proof.Gen.KernelIdeal.Launch
public import Idealize.ShloMosaic.Lib.Pipeline.ValueKit
public import Idealize.ShloMosaic.Lib.Pipeline.FrameBody
public import Idealize.ShloMosaic.Lib.Affine
@[expose] public section
noncomputable section
namespace Cert.KernelIdeal.Up
open Cert.Proof.Shared (Active)
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Idealize.ShloMosaic.ValueIdx (ix2 ix3)

variable {F : FTy → Type} [FloatOps F]

/-- What the launch memory is assumed to hold: row numbers naming a row, expert numbers naming an expert. -/
structure InRange (m : (ℓ : Loc nD τ sig) → Buf (Elt F) ℓ) : Prop where
  src : ∀ (c : Dev nD) (x : S104x1x512.Idx), BitVec.toNat (m ((c : Thread nD τ).loc main_arg1) x : BitVec 32) < 25600
  expert : ∀ (c : Dev nD) (x : S104.Idx), BitVec.toNat (m ((c : Thread nD τ).loc main_arg4) x : BitVec 32) < 8

/-! ## The grid's points -/

/-- A point's tile. -/
theorem coords_tile (t : Fin grid0.N) : (grid0.coords t 0).val = t.val / 7 := by
  have h := Pipeline.Grid.coords_val t (0 : Fin 2) (S := 7) (B := 104) (by decide) rfl
  have ht : t.val < 728 := t.isLt.trans_eq N_0
  exact h.trans (Nat.mod_eq_of_lt (by omega))
/-- A point's block of columns. -/
theorem coords_col (t : Fin grid0.N) : (grid0.coords t 1).val = t.val % 7 := by
  have h := Pipeline.Grid.coords_val t (1 : Fin 2) (S := 1) (B := 7) (by decide) rfl
  exact h.trans (by rw [Nat.div_one])

/-- The body's first condition: an active tile at its first block of columns. -/
theorem cond1_iff (i : grid0.Coords) (v : BitVec 32) : k0_cond1 i v = 1#1 ↔ Active (i 0).val v ∧ (i 1).val = 0 := by
  have h1 : (i 1).val < 7 := (i 1).isLt
  have e : (BitVec.ofNat 32 (i 1).val = 0#32) ↔ (i 1).val = 0 := by
    constructor
    · intro h
      have := congrArg BitVec.toNat h
      rw [BitVec.toNat_ofNat, Nat.mod_eq_of_lt (by omega)] at this
      exact this
    · intro h; rw [h]
  unfold k0_cond1 Active
  simp only [Scalar.cmpi, Scalar.andi, Scalar.extui, IntOp.cmpi, IntOp.andi]
  have hz : (BitVec.ofNat 32 (i 1).val == 0#32) = decide ((i 1).val = 0) := by
    rw [Bool.eq_iff_iff, beq_iff_eq, decide_eq_true_iff, e]
  rw [hz]
  by_cases ha : (BitVec.ofNat 32 (i 0).val).slt v = true <;> by_cases hb : (i 1).val = 0 <;> simp [ha, hb]
/-- The second: an active tile. -/
theorem cond2_iff (i : grid0.Coords) (v : BitVec 32) : k0_cond2 i v = 1#1 ↔ Active (i 0).val v := by
  unfold k0_cond2 Active
  simp only [Scalar.cmpi, Scalar.extui, IntOp.cmpi]
  by_cases ha : (BitVec.ofNat 32 (i 0).val).slt v = true <;> simp_all
/-- The third: a tile past the used ones. -/
theorem cond3_iff (i : grid0.Coords) (v : BitVec 32) : k0_cond3 i v = 1#1 ↔ ¬ Active (i 0).val v := by
  unfold k0_cond3 Active
  simp only [Scalar.cmpi, Scalar.extui, Scalar.xori, IntOp.cmpi, IntOp.xori]
  by_cases ha : (BitVec.ofNat 32 (i 0).val).slt v = true <;> simp_all

/-- No point leaves the output's block unwritten. -/
theorem never_idle (pf : pre0.Contents (Elt F)) (i : grid0.Coords) (w : Fin 4) : idle0 pf w i = false := by
  match w with
  | ⟨0, _⟩ => rfl
  | ⟨1, _⟩ => rfl
  | ⟨2, _⟩ => rfl
  | ⟨3, _⟩ =>
    show (!(k0_cond2 i (pf.atD 1 ![0]) == 1#1) && !(k0_cond3 i (pf.atD 1 ![0]) == 1#1)) = false
    by_cases h : Active (i 0).val (pf.atD 1 ![0])
    · rw [(cond2_iff i _).2 h]; rfl
    · rw [(cond3_iff i _).2 h]; simp

/-! ## The tables -/

/-- A point's tile, as a word. -/
theorem tile_word (i : grid0.Coords) : (BitVec.ofNat 32 (i 0).val).toNat = (i 0).val := by
  have h : (i 0).val < 104 := (i 0).isLt
  rw [BitVec.toNat_ofNat, Nat.mod_eq_of_lt (by omega)]
/-- A point's block of columns, as a word. -/
theorem col_word (i : grid0.Coords) : (BitVec.ofNat 32 (i 1).val).toNat = (i 1).val := by
  have h : (i 1).val < 7 := (i 1).isLt
  rw [BitVec.toNat_ofNat, Nat.mod_eq_of_lt (by omega)]

/-- The expert of a point's tile, read off the table of expert numbers. -/
def expertAt (pf : pre0.Contents (Elt F)) (n : Fin 104) : BitVec 32 := pf 0 (ValueIdx.ix1 n)

/-- The block of gate weights at a point is its tile's expert's, at its block of columns; -/
theorem transform_2_eq (pf : pre0.Contents (Elt F)) (i : grid0.Coords) :
    cc0_transform_2 k0_off1_inb numel1_S1 pf i = ![(expertAt pf (i 0)).toNat, 0, (i 1).val] := by
  unfold cc0_transform_2 expertAt
  have e : (Rect.unit (s := S104) ![(Scalar.indexCast (BitVec.ofNat 32 (i 0).val)).toNat] S1.size (k0_off1_inb i)).emb
      (Shape.Idx.first (numel1_S1.symm ▸ Nat.one_pos)) = ValueIdx.ix1 (i 0) := by
    funext a
    apply Fin.ext
    match a with
    | ⟨0, _⟩ =>
      exact (ValueKit.rect_emb_unit_val _ _ (k0_off1_inb i) _ _).trans (tile_word i)
  show ![BitVec.toNat (pf 0 _), (0#32).toNat, (BitVec.ofNat 32 (i 1).val).toNat] = _
  rw [col_word]
  exact congrArg (fun z => ![BitVec.toNat (pf 0 z : BitVec 32), 0, (i 1).val]) e
/-- so is the block of up weights. -/
theorem transform_3_eq (pf : pre0.Contents (Elt F)) (i : grid0.Coords) :
    cc0_transform_3 k0_off1_inb numel1_S1 pf i = ![(expertAt pf (i 0)).toNat, 0, (i 1).val] := transform_2_eq pf i

/-- Tables of expert numbers naming an expert keep every weight block inside its array. -/
theorem ok_of_expert (pf : pre0.Contents (Elt F)) (h : ∀ n, (expertAt pf n).toNat < 8) : ok0 pf := by
  have hb : ∀ i : grid0.Coords, ∀ a, (cc0_transform_2 k0_off1_inb numel1_S1 pf i a + 1) * S1x2048x1024.size a ≤ S8x2048x7168.size a := by
    intro i a
    rw [transform_2_eq]
    have h0 := h (i 0)
    have h1 : (i 1).val < 7 := (i 1).isLt
    match a with
    | ⟨0, _⟩ => show ((expertAt pf (i 0)).toNat + 1) * 1 ≤ 8; omega
    | ⟨1, _⟩ => show (0 + 1) * 2048 ≤ 2048; omega
    | ⟨2, _⟩ => show ((i 1).val + 1) * 1024 ≤ 7168; omega
  have hw : ∀ (i : grid0.Coords), EltTy.bits .bf16 = 32 ∨ (Rect.block (s := S8x2048x7168) S1x2048x1024.size (cc0_transform_2 k0_off1_inb numel1_S1 pf i) (hb i)).WholeWords (EltTy.packing .bf16) :=
    fun i => .inr (Affine.block_words_dvd (of_decide_eq_true rfl) (by decide))
  unfold ok0
  exact ⟨fun i => ⟨hb i, hw i⟩, fun i => ⟨hb i, hw i⟩⟩

end Cert.KernelIdeal.Up
end
-- ==== Proof.Shared.Pre.lean ====
/-
  What the precondition says, in words: every row number of `src` is below 25600 and every expert number is
  below 8, both read as naturals. Stated of the predicate's arrays alone, so that the compiled and the
  idealized program's modules both use it.
-/
module

public import proofs.«01_k».proof.Pre_in_range
public import Idealize.ShloMosaic.Lib.ReduceAll
public import Idealize.ShloMosaic.Lib.WordCmp
public import Idealize.ShloMosaic.Lib.IdealHost

@[expose] public section

noncomputable section

namespace Cert.Proof.Shared

open Idealize.ShloMosaic Cert.Pre_in_range

variable [Cert.Pre_in_range.Facts] {F : FTy → Type} [FloatOps F]

/-- The two one-bit halves of the predicate: each is a conjunction over one array, and both are 1. -/
theorem halves {a0 : FVec F S25600x2048 .f32} {a1 : IVec S104x1x512 32} {a2 a3 : FVec F S8x2048x7168 .bf16} {a4 : IVec S104 32}
    {a5 : IVec S1 32} (h : Cert.Pre_in_range.fn a0 a1 a2 a3 a4 a5 = fun _ => 1#1) (j : S_.Idx) :
    (∀ x, IntOp.andi (IntOp.cmpi .sge (a1 x) 0#32) (IntOp.cmpi .slt (a1 x) (BitVec.ofNat 32 25600)) = 1#1)
      ∧ ∀ x, IntOp.andi (IntOp.cmpi .sge (a4 x) 0#32) (IntOp.cmpi .slt (a4 x) (BitVec.ofNat 32 8)) = 1#1 := by
  have hj := congrFun h j
  unfold Cert.Pre_in_range.fn at hj
  have both := IntOp.andi_eq_one.mp hj
  haveI : Subsingleton S_.Idx := ⟨fun a b => funext fun i => i.elim0⟩
  exact ⟨fun x => Host.reduce_andi_all _ _ _ _ j both.1 x, fun x => Host.reduce_andi_all _ _ _ _ j both.2 x⟩

/-- Under the precondition every entry of `src` is a row number below 25600. -/
theorem src_lt {a0 : FVec F S25600x2048 .f32} {a1 : IVec S104x1x512 32} {a2 a3 : FVec F S8x2048x7168 .bf16} {a4 : IVec S104 32}
    {a5 : IVec S1 32} (h : Cert.Pre_in_range.fn a0 a1 a2 a3 a4 a5 = fun _ => 1#1) (x : S104x1x512.Idx) : (a1 x).toNat < 25600 := by
  have hx := (halves h (fun i => i.elim0)).1 x
  rw [WordCmp.andi_sge_zero_slt_ofNat (by norm_num)] at hx
  exact of_decide_eq_true ((WordCmp.ofBool_eq_one_iff _).mp hx)

/-- Under the precondition every entry of `tile_expert` is an expert number below 8. -/
theorem expert_lt {a0 : FVec F S25600x2048 .f32} {a1 : IVec S104x1x512 32} {a2 a3 : FVec F S8x2048x7168 .bf16} {a4 : IVec S104 32}
    {a5 : IVec S1 32} (h : Cert.Pre_in_range.fn a0 a1 a2 a3 a4 a5 = fun _ => 1#1) (x : S104.Idx) : (a4 x).toNat < 8 := by
  have hx := (halves h (fun i => i.elim0)).2 x
  rw [WordCmp.andi_sge_zero_slt_ofNat (by norm_num)] at hx
  exact of_decide_eq_true ((WordCmp.ofBool_eq_one_iff _).mp hx)

end Cert.Proof.Shared

end
-- ==== Proof.Up.Pre.lean ====
/-
  The precondition, read at the idealized program's launch memory.
-/
module
public import proofs.«01_k».proof.Defs
public import proofs.«01_k».proof.Proof.Up.Points
public import proofs.«01_k».proof.Proof.Shared.Pre
@[expose] public section
namespace Cert.KernelIdeal.Up
open Cert.KernelIdeal Cert.KernelIdeal.Gen
open Idealize.ShloMosaic Idealize.ShloMosaic.TcCoe

/-- A launch memory under the precondition is in range. -/
theorem inRange_of_pre [Cert.Pre_in_range.Facts] {m : (ℓ : Loc nD τ sig) → Buf (Elt Ideal) ℓ} (h : Cert.Pre_KernelIdeal m) : InRange m :=
  ⟨fun c x => Cert.Proof.Shared.src_lt (h c) x, fun c x => Cert.Proof.Shared.expert_lt (h c) x⟩

end Cert.KernelIdeal.Up
-- ==== Proof.Up.Frame.lean ====
module
public import proofs.«01_k».proof.Proof.Up.Points
public import Idealize.ShloMosaic.Lib.Pipeline.TableIdle
@[expose] public section
noncomputable section
namespace Cert.KernelIdeal.Up
open Cert.Proof.Shared (Active)
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]
local notation "𝕄" => MT nD τ sig Unit (Elt F) ℕ (Pipeline.UD sig nD τ) ℕ

variable {m : (ℓ : Loc nD τ sig) → Buf (Elt F) ℓ} (H : InRange m)

/-- The launch contents of a buffer. -/
abbrev V (m : (ℓ : Loc nD τ sig) → Buf (Elt F) ℓ) (c : Dev nD) (b : Ref sig .tc) : Buf (Elt F) ((c : Thread nD τ).loc b) := m ((c : Thread nD τ).loc b)

/-- The one device. -/
abbrev dev0 : Dev nD := ⟨0, by decide⟩
/-- There is no other device. -/
theorem dev_eq (c : Dev nD) : c = dev0 := by
  have : nD = 1 := rfl
  exact Fin.ext (by have := c.isLt; omega)

/-- The tables at launch. -/
def tabs (m : (ℓ : Loc nD τ sig) → Buf (Elt F) ℓ) : pre0.Contents (Elt F) := fun k => V m dev0 (pre0.ref k)

include H in
/-- The launch tables keep every weight block inside its array. -/
theorem tabs_ok : ok0 (tabs m) := ok_of_expert _ fun n => H.expert dev0 (ValueIdx.ix1 n)

/-- The tables as the pipeline takes them, -/
def adm : (pcfg0 (F := F)).Adm := ⟨tabs m, tabs_ok H⟩
/-- and the pipeline at them. -/
abbrev cfgA : Pipeline.Cfg sig Λ₀ := cfg0 (F := F) (adm H)

/-- The word the body compares tiles with. -/
abbrev nUsed (m : (ℓ : Loc nD τ sig) → Buf (Elt F) ℓ) : BitVec 32 := used (tabs m 1)

/-- A point's coordinates. -/
abbrev crd (t : Fin (cfgA H).N) : (cfgA H).grid.Coords := (cfgA H).grid.coords t
/-- The staging buffer of the row numbers, -/
abbrev st0 (t : Fin (cfgA H).N) : Memref sig .tc .smem S1x1x512 .i32 := spec0_0.stage ((cfgA H).slots t (0 : Fin 4))
/-- which is a whole buffer; -/
abbrev hst0 (t : Fin (cfgA H).N) : (st0 H t).IsWhole := hstage0_0 (((cfgA H).slots t (0 : Fin 4)).cast nbuf0_0)
/-- of the gate weights, -/
abbrev st1 (t : Fin (cfgA H).N) : Memref sig .tc .vmem S1x2048x1024 .bf16 := spec0_1.stage ((cfgA H).slots t (1 : Fin 4))
/-- whole too; -/
abbrev hst1 (t : Fin (cfgA H).N) : (st1 H t).IsWhole := hstage0_1 (((cfgA H).slots t (1 : Fin 4)).cast nbuf0_1)
/-- of the up weights, -/
abbrev st2 (t : Fin (cfgA H).N) : Memref sig .tc .vmem S1x2048x1024 .bf16 := spec0_2.stage ((cfgA H).slots t (2 : Fin 4))
/-- whole too; -/
abbrev hst2 (t : Fin (cfgA H).N) : (st2 H t).IsWhole := hstage0_2 (((cfgA H).slots t (2 : Fin 4)).cast nbuf0_2)
/-- and of the result, -/
abbrev st3 (t : Fin (cfgA H).N) : Memref sig .tc .vmem S512x1024 .bf16 := spec0_3.stage ((cfgA H).slots t (3 : Fin 4))
/-- whole too. -/
abbrev hst3 (t : Fin (cfgA H).N) : (st3 H t).IsWhole := hstage0_3 (((cfgA H).slots t (3 : Fin 4)).cast nbuf0_3)

/-- A window's block at a point, read off its array at launch. -/
def iblk (c : Dev nD) (w : Fin (cfgA H).W) (t : Fin (cfgA H).N) : (((cfgA H).win w).xblock (crd H t)).Idx → Elt F ((cfgA H).win w).elt :=
  (((cfgA H).win w).blk t).view.read (Elt F) (V m c (Pipeline.arrRef (cfgA H).spec w))

/-- The row numbers of a tile. -/
def tileSrc (m : (ℓ : Loc nD τ sig) → Buf (Elt F) ℓ) (c : Dev nD) (n : Fin 104) : S1x1x512.Idx → Elt F .i32 :=
  fun y => V m c main_arg1 (ValueIdx.ix3 n 0 (y 2))

/-- A point's tile. -/
def tile (t : Fin (cfgA H).N) : Fin 104 := (crd H t) 0
/-- Each tile has seven points. -/
theorem tile_val (t : Fin (cfgA H).N) : (tile H t).val = t.val / 7 := coords_tile t

/-- The block of row numbers at a point is its tile's. -/
theorem iblk_src (c : Dev nD) (t : Fin (cfgA H).N) : (iblk H c (0 : Fin 4) t : S1x1x512.Idx → Elt F .i32) = tileSrc m c (tile H t) := by
  funext y
  unfold iblk tileSrc
  refine (View.read_apply _ _).trans ?_
  refine congrArg (V m c main_arg1) ?_
  funext a
  apply Fin.ext
  refine (Window.rect_emb_val ((cfgA H).win (0 : Fin 4)) t y a).trans ?_
  match a with
  | ⟨0, _⟩ =>
    show (BitVec.ofNat 32 (crd H t 0).val).toNat * 1 + (y 0).val = _
    have hy : (y 0).val < 1 := (y 0).isLt
    have := tile_word (crd H t)
    show _ = (crd H t 0).val
    omega
  | ⟨1, _⟩ =>
    have hy : (y 1).val < 1 := (y 1).isLt
    show 0 * 1 + (y 1).val = 0
    omega
  | ⟨2, _⟩ =>
    show 0 * 512 + (y 2).val = (y 2).val
    omega

include H in
/-- A tile's row numbers name rows. -/
theorem tileSrc_lt (c : Dev nD) (n : Fin 104) (y) : BitVec.toNat (tileSrc m c n y : BitVec 32) < 25600 := H.src c _

/-- The rounded rows of a tile. -/
def tileRows (m : (ℓ : Loc nD τ sig) → Buf (Elt F) ℓ) (c : Dev nD) (n : Fin 104) : S512x2048.Idx → Elt F .bf16 :=
  k0_pay1 (rows (tileSrc m c n) (V m c main_arg0))

/-- What the output's block holds after a point. -/
def outAt (c : Dev nD) (t : Fin (cfgA H).N) : S512x1024.Idx → Elt F .bf16 :=
  if Active (tile H t).val (nUsed m) then k0_pay2 (tileRows m c (tile H t)) (iblk H c (1 : Fin 4) t) (iblk H c (2 : Fin 4) t) else k0_pay3 (F := F)

/-- What the second scratch holds before position `n`: within an active tile, the tile's rounded rows. -/
def Kept (m : (ℓ : Loc nD τ sig) → Buf (Elt F) ℓ) (c : Dev nD) (n : ℕ) (f : S512x2048.Idx → Elt F .bf16) : Prop :=
  ∀ k : Fin 104, k.val = n / 7 → n % 7 ≠ 0 → Active k.val (nUsed m) → f = tileRows m c k

/-- The invariant before position `n`. -/
def Inv (m : (ℓ : Loc nD τ sig) → Buf (Elt F) ℓ) (c : Dev nD) (n : ℕ) : sProp 𝕄 :=
  iprop((∃ f : S512x2048.Idx → Elt F .f32, gM.view.loc (c : Thread nD τ) ↦{fullShare} f)
    ∗ (∃ f : S512x2048.Idx → Elt F .bf16, ⌜Kept m c n f⌝ ∗ (sM.view.loc (c : Thread nD τ) ↦{fullShare} f))
    ∗ (∃ r, prngReg c r)
    ∗ semVal ((c : Thread nD τ), SemLoc.dma cc0_scratch2.sem) 0
    ∗ (xM.view.loc (c : Thread nD τ) ↦{fullShare} V m c main_arg0)
    ∗ (tbM0_0.view.loc (c : Thread nD τ) ↦{fullShare.right} tabs m 0)
    ∗ (tbM0_1.view.loc (c : Thread nD τ) ↦{fullShare.right} tabs m 1))

/-- The pipeline's proof data. -/
def dats (_ : Fin 1) (c : Dev nD) : Dat τ (Elt F) Unit ℕ (Pipeline.UD sig nD τ) ℕ (cfgA H) c where
  A w := V m c (Pipeline.arrRef (cfgA H).spec w)
  after w t := match w with
    | ⟨0, _⟩ => iblk H c (0 : Fin 4) t
    | ⟨1, _⟩ => iblk H c (1 : Fin 4) t
    | ⟨2, _⟩ => iblk H c (2 : Fin 4) t
    | ⟨3, _⟩ => outAt H c t
  Φ t := Inv m c t.val
  q _ := fullShare
  owed _ := 0

/-- The body leaves the row numbers as they were, -/
theorem after_0 (c : Dev nD) (t : Fin (cfgA H).N) : (dats H 0 c).after (0 : Fin 4) t = iblk H c (0 : Fin 4) t := rfl
/-- the gate weights, -/
theorem after_1 (c : Dev nD) (t : Fin (cfgA H).N) : (dats H 0 c).after (1 : Fin 4) t = iblk H c (1 : Fin 4) t := rfl
/-- the up weights, -/
theorem after_2 (c : Dev nD) (t : Fin (cfgA H).N) : (dats H 0 c).after (2 : Fin 4) t = iblk H c (2 : Fin 4) t := rfl
/-- and the result's block at its value. -/
theorem after_3 (c : Dev nD) (t : Fin (cfgA H).N) : (dats H 0 c).after (3 : Fin 4) t = outAt H c t := rfl

/-- An input's staging buffer holds its block when the body runs. -/
theorem before_0 (c : Dev nD) (t : Fin (cfgA H).N) (d) : (dats H 0 c).before (0 : Fin 4) t d = iblk H c (0 : Fin 4) t :=
  ((dats H 0 c).before_in_eq_fetched (0 : Fin 4) rfl (fun _ => rfl) (fun _ _ _ => rfl) (fun t => by rw [after_0]; unfold Dat.blockOf iblk; rfl) t d).trans
    (by unfold Dat.fetched Dat.blockOf iblk; rfl)
/-- So with the gate weights, -/
theorem before_1 (c : Dev nD) (t : Fin (cfgA H).N) (d) : (dats H 0 c).before (1 : Fin 4) t d = iblk H c (1 : Fin 4) t :=
  ((dats H 0 c).before_in_eq_fetched (1 : Fin 4) rfl (fun _ => rfl) (fun _ _ _ => rfl) (fun t => by rw [after_1]; unfold Dat.blockOf iblk; rfl) t d).trans
    (by unfold Dat.fetched Dat.blockOf iblk; rfl)
/-- and with the up weights. -/
theorem before_2 (c : Dev nD) (t : Fin (cfgA H).N) (d) : (dats H 0 c).before (2 : Fin 4) t d = iblk H c (2 : Fin 4) t :=
  ((dats H 0 c).before_in_eq_fetched (2 : Fin 4) rfl (fun _ => rfl) (fun _ _ _ => rfl) (fun t => by rw [after_2]; unfold Dat.blockOf iblk; rfl) t d).trans
    (by unfold Dat.fetched Dat.blockOf iblk; rfl)

/-- A row number read off a tile's block names a row. -/
theorem row_inb (arg4 : Memref sig .tc .smem S1x1x512 .i32) (harg4 : arg4.IsWhole) (x : S1x1x512.Idx → Elt F .i32)
    (h : ∀ y, BitVec.toNat (x y : BitVec 32) < 25600) (k : Fin k0_t1_loop.trips) (a : Fin 2) :
    k0_off4 (word arg4 x k) a + S1x2048.size a ≤ S25600x2048.size a := by
  rw [word_eq]
  match a with
  | ⟨0, _⟩ =>
    have := h (ValueIdx.ix3 0 0 ⟨k.val, by have := k.isLt; have e : k0_t1_loop.trips = 512 := trips1; omega⟩)
    show BitVec.toNat _ + 1 ≤ 25600
    omega
  | ⟨1, _⟩ => show 0 + 2048 ≤ 2048; omega

/-- The body at a point, as the pipeline calls it. -/
abbrev bodyAt (t : Fin (cfgA H).N) : Prog (TpuEff nD τ sig (Elt F) Λ₀ .tc) PUnit :=
  cc0_moe_expert_up (crd H t) tbM0_0 (Memref.isWhole_whole _) tbM0_1 (Memref.isWhole_whole _) (st0 H t) (hst0 H t) xM (Memref.isWhole_whole _)
    (st1 H t) (hst1 H t) (st2 H t) (hst2 H t) (st3 H t) (hst3 H t) gM (Memref.isWhole_whole _) sM (Memref.isWhole_whole _) cc0_scratch2

/-- What a point starts from. -/
def ptPre (c : Dev nD) (t : Fin (cfgA H).N) : sProp 𝕄 :=
  iprop(Inv m c t.val ∗ (∃ W, owes (c : Thread nD τ) 0 W)
    ∗ owns (c : Thread nD τ) (st0 H t) fullShare (iblk H c (0 : Fin 4) t)
    ∗ owns (c : Thread nD τ) (st1 H t) fullShare (iblk H c (1 : Fin 4) t)
    ∗ owns (c : Thread nD τ) (st2 H t) fullShare (iblk H c (2 : Fin 4) t)
    ∗ (∃ d, owns (c : Thread nD τ) (st3 H t) fullShare d))
/-- What a point leaves. -/
def ptPost (c : Dev nD) (t : Fin (cfgA H).N) : sProp 𝕄 :=
  iprop(Inv m c (t.val + 1) ∗ (∃ W, owes (c : Thread nD τ) 0 W)
    ∗ owns (c : Thread nD τ) (st0 H t) fullShare (iblk H c (0 : Fin 4) t)
    ∗ owns (c : Thread nD τ) (st1 H t) fullShare (iblk H c (1 : Fin 4) t)
    ∗ owns (c : Thread nD τ) (st2 H t) fullShare (iblk H c (2 : Fin 4) t)
    ∗ owns (c : Thread nD τ) (st3 H t) fullShare (outAt H c t))

/-- The rows stay kept from a point to the next of its tile. -/
theorem kept_succ (c : Dev nD) (t : Fin (cfgA H).N) (f : S512x2048.Idx → Elt F .bf16)
    (h : Active (tile H t).val (nUsed m) → f = tileRows m c (tile H t)) : Kept m c (t.val + 1) f := by
  intro k hk hn ha
  have e : k = tile H t := Fin.ext (by rw [tile_val, hk]; omega)
  rw [e]; rw [e] at ha
  exact h ha

/-- The body at a point, in each of its three cases. -/
theorem point (c : Dev nD) (t : Fin (cfgA H).N) :
    ptPre H c t ⊢ wp frame (wpE (defs₀ (F := F)) Variants.none c none) Set.univ (bodyAt H t) (fun _ => ptPost H c t) := by
  unfold ptPre ptPost Inv
  iintro ⟨⟨⟨%g0, Hg⟩, ⟨%s0, %hs, Hs⟩, Hr, Hc, Hx, HT0, HT1⟩, ⟨%W, HO⟩, H0, H1, H2, H3⟩
  by_cases ha : Active (tile H t).val (nUsed m)
  · have h2 : k0_cond2 (crd H t) (nUsed m) = 1#1 := (cond2_iff _ _).2 ha
    have h3 : ¬ k0_cond3 (crd H t) (nUsed m) = 1#1 := fun h => (cond3_iff _ _).1 h ha
    have ho : outAt H c t = k0_pay2 (tileRows m c (tile H t)) (iblk H c (1 : Fin 4) t) (iblk H c (2 : Fin 4) t) := if_pos ha
    by_cases hj : t.val % 7 = 0
    · have h1 : k0_cond1 (crd H t) (nUsed m) = 1#1 := (cond1_iff _ _).2 ⟨ha, (coords_col t).trans hj⟩
      have hb := row_inb (st0 H t) (hst0 H t) (iblk H c (0 : Fin 4) t) (fun y => by rw [iblk_src]; exact tileSrc_lt H c _ y)
      have hrows : k0_pay1 (rows (iblk H c (0 : Fin 4) t) (V m c main_arg0)) = tileRows m c (tile H t) := by
        rw [iblk_src]; rfl
      iapply (run_load c (crd H t) (st0 H t) (hst0 H t) (st1 H t) (hst1 H t) (st2 H t) (hst2 H t) (st3 H t) (hst3 H t) (tabs m 1)
        (iblk H c (0 : Fin 4) t) (V m c main_arg0) (iblk H c (1 : Fin 4) t) (iblk H c (2 : Fin 4) t) h1 h2 h3 hb g0 s0 W _)
      isplitl [H0]; · iapply rep_of_owns; iexact H0
      isplitl [H1]; · iapply rep_of_owns; iexact H1
      isplitl [H2]; · iapply rep_of_owns; iexact H2
      isplitl [HT1]; · iexact HT1
      isplitl [H3]; · iexact H3
      isplitl [Hx]; · iexact Hx
      isplitl [Hg]; · iexact Hg
      isplitl [Hs]; · iexact Hs
      isplitl [Hc]; · iexact Hc
      isplitl [HO]; · iexact HO
      rw [hrows, ho]
      iintro ⟨H0, H1, H2, HT1, H3, Hx, Hg, Hs, Hc, HO⟩
      isplitl [Hg Hs Hr Hc Hx HT0 HT1]
      · isplitl [Hg]; · iexists _; iexact Hg
        isplitl [Hs]
        · iexists _; isplitr; swap; · iexact Hs
          ipureintro; exact kept_succ H c t _ fun _ => rfl
        isplitl [Hr]; · iexact Hr
        isplitl [Hc]; · iexact Hc
        isplitl [Hx]; · iexact Hx
        isplitl [HT0] <;> iassumption
      isplitl [HO]; · iexact HO
      isplitl [H0]; · iapply owns_of_rep; iexact H0
      isplitl [H1]; · iapply owns_of_rep; iexact H1
      isplitl [H2]; · iapply owns_of_rep; iexact H2
      iexact H3
    · have h1 : ¬ k0_cond1 (crd H t) (nUsed m) = 1#1 := fun h => hj ((coords_col t).symm.trans ((cond1_iff _ _).1 h).2)
      have hk : s0 = tileRows m c (tile H t) := hs _ (tile_val H t) hj ha
      iapply (run_keep c (crd H t) (st0 H t) (hst0 H t) (st1 H t) (hst1 H t) (st2 H t) (hst2 H t) (st3 H t) (hst3 H t) (tabs m 1)
        (iblk H c (1 : Fin 4) t) (iblk H c (2 : Fin 4) t) h1 h2 h3 s0 _)
      isplitl [H1]; · iapply rep_of_owns; iexact H1
      isplitl [H2]; · iapply rep_of_owns; iexact H2
      isplitl [HT1]; · iexact HT1
      isplitl [H3]; · iexact H3
      isplitl [Hs]; · iexact Hs
      rw [ho, hk]
      iintro ⟨H1, H2, HT1, H3, Hs⟩
      isplitl [Hg Hs Hr Hc Hx HT0 HT1]
      · isplitl [Hg]; · iexists _; iexact Hg
        isplitl [Hs]
        · iexists _; isplitr; swap; · iexact Hs
          ipureintro; exact kept_succ H c t _ fun _ => rfl
        isplitl [Hr]; · iexact Hr
        isplitl [Hc]; · iexact Hc
        isplitl [Hx]; · iexact Hx
        isplitl [HT0] <;> iassumption
      isplitl [HO]; · iexists _; iexact HO
      isplitl [H0]; · iexact H0
      isplitl [H1]; · iapply owns_of_rep; iexact H1
      isplitl [H2]; · iapply owns_of_rep; iexact H2
      iexact H3
  · have h1 : ¬ k0_cond1 (crd H t) (nUsed m) = 1#1 := fun h => ha ((cond1_iff _ _).1 h).1
    have h2 : ¬ k0_cond2 (crd H t) (nUsed m) = 1#1 := fun h => ha ((cond2_iff _ _).1 h)
    have h3 : k0_cond3 (crd H t) (nUsed m) = 1#1 := (cond3_iff _ _).2 ha
    have ho : outAt H c t = k0_pay3 (F := F) := if_neg ha
    iapply (run_zero c (crd H t) (st0 H t) (hst0 H t) (st1 H t) (hst1 H t) (st2 H t) (hst2 H t) (st3 H t) (hst3 H t) (tabs m 1) h1 h2 h3 _)
    isplitl [HT1]; · iexact HT1
    isplitl [H3]; · iexact H3
    rw [ho]
    iintro ⟨HT1, H3⟩
    isplitl [Hg Hs Hr Hc Hx HT0 HT1]
    · isplitl [Hg]; · iexists _; iexact Hg
      isplitl [Hs]
      · iexists _; isplitr; swap; · iexact Hs
        ipureintro; exact kept_succ H c t _ fun h => absurd h ha
      isplitl [Hr]; · iexact Hr
      isplitl [Hc]; · iexact Hc
      isplitl [Hx]; · iexact Hx
      isplitl [HT0] <;> iassumption
    isplitl [HO]; · iexists _; iexact HO
    isplitl [H0]; · iexact H0
    isplitl [H1]; · iexact H1
    isplitl [H2]; · iexact H2
    iexact H3

/-! ## The launch -/

/-- The body table's row at a point is the body as `bodyAt` spells it. -/
theorem defs₀_row (t : Fin (cfgA H).N) :
    defs₀ (F := F) .tc (cfgA H).body ((cfgA H).bodyArgs t ((cfgA H).slots t)) = bodyAt H t := by
  unfold defs₀; rw [Defs.onTc_tc]

/-- What the pipeline hands the body entails what `point` starts from, -/
theorem ptPre_of (c : Dev nD) (t : Fin (cfgA H).N) :
    iprop((dats H 0 c).Φ t.castSucc ∗ (dats H 0 c).owesAt () t.castSucc
        ∗ (∃ d, owns (c : Thread nD τ) (st0 H t) fullShare ((dats H 0 c).before (0 : Fin 4) t d))
        ∗ (∃ d, owns (c : Thread nD τ) (st1 H t) fullShare ((dats H 0 c).before (1 : Fin 4) t d))
        ∗ (∃ d, owns (c : Thread nD τ) (st2 H t) fullShare ((dats H 0 c).before (2 : Fin 4) t d))
        ∗ (∃ d, owns (c : Thread nD τ) (st3 H t) fullShare ((dats H 0 c).before (3 : Fin 4) t d)))
      ⊢ ptPre H c t := by
  unfold ptPre Dat.owesAt Pipeline.owesWithin
  rw [show (dats H 0 c).owed t.castSucc = 0 from rfl, show (dats H 0 c).Φ t.castSucc = Inv m c t.val from rfl]
  simp only [before_0, before_1, before_2]
  iintro ⟨HI, ⟨%W, %hW, HO⟩, ⟨%d0, H0⟩, ⟨%d1, H1⟩, ⟨%d2, H2⟩, ⟨%d3, H3⟩⟩
  isplitl [HI]; · iexact HI
  isplitl [HO]; · iexists W; iexact HO
  isplitl [H0]; · iexact H0
  isplitl [H1]; · iexact H1
  isplitl [H2]; · iexact H2
  iexists _; iexact H3

/-- and what it leaves is what the pipeline expects back. -/
theorem of_ptPost (c : Dev nD) (t : Fin (cfgA H).N) :
    ptPost H c t ⊢ iprop((dats H 0 c).Φ t.succ ∗ (dats H 0 c).owesAt () t.succ
        ∗ owns (c : Thread nD τ) (st0 H t) fullShare ((dats H 0 c).after (0 : Fin 4) t)
        ∗ owns (c : Thread nD τ) (st1 H t) fullShare ((dats H 0 c).after (1 : Fin 4) t)
        ∗ owns (c : Thread nD τ) (st2 H t) fullShare ((dats H 0 c).after (2 : Fin 4) t)
        ∗ owns (c : Thread nD τ) (st3 H t) fullShare ((dats H 0 c).after (3 : Fin 4) t)) := by
  unfold ptPost Dat.owesAt Pipeline.owesWithin
  rw [show (dats H 0 c).owed t.succ = 0 from rfl, show (dats H 0 c).Φ t.succ = Inv m c (t.val + 1) from rfl,
    after_0, after_1, after_2, after_3]
  iintro ⟨HI, ⟨%W, HO⟩, H0, H1, H2, H3⟩
  isplitl [HI]; · iexact HI
  isplitl [HO]
  · iexists W; isplitr; · ipureintro; exact fun _ _ => Or.inl trivial
    iexact HO
  isplitl [H0]; · iexact H0
  isplitl [H1]; · iexact H1
  isplitl [H2]; · iexact H2
  iexact H3

/-- The library's body obligation, at every point. -/
theorem body_obligation (c : Dev nD) : BodyObligation (dats H 0 c) (defs₀ (F := F)) Variants.none () Set.univ := fun t => by
  rw [bigSep_W0, bigSep_W0, defs₀_row]
  have hi : ∀ w, (cfgA H).idle w ((cfgA H).grid.coords t) = false := fun w => never_idle _ _ w
  simp only [hi]
  rewrite [show idle0 (adm H).1 (3 : Fin 4) ((pcfg0.gridAt (adm H).1).coords t) = false from hi (3 : Fin 4)]
  exact triple_restated (point H c t) rfl (ptPre_of H c t) fun _ => of_ptPost H c t

/-- The kernel's own semaphore, -/
abbrev ownSem : Fin 1 → SemLoc sig := fun _ => SemLoc.dma cc0_scratch2.sem
/-- No window has that semaphore. -/
theorem ownSem_facts : Pipeline.OwnSemFacts spec0 ownSem := by decide
/-- at zero; -/
theorem ownSem_eq (c : Dev nD) :
    (Pipeline.ownSems0 (Ix := Unit) (Name := ℕ) (U := Pipeline.UD sig nD τ) (Lvl := ℕ) (Val := Elt F) (τ := τ) ownSem c : sProp 𝕄)
      = semVal ((c : Thread nD τ), SemLoc.dma cc0_scratch2.sem) 0 := by
  rw [Pipeline.ownSems0_eq_of_list c ownSem [0] (by decide) (by decide)]; rfl
/-- the array it reads itself, -/
def ownRefs : Finset (Ref sig .tc) := {main_arg0}
/-- No window or table has that array. -/
theorem ownRefs_sub : ownRefs ⊆ Pipeline.restRefsP sig pre0 spec0 := by decide
/-- whole at its launch contents. -/
theorem ownRefs_eq (c : Dev nD) :
    (bigSep ownRefs fun b => ((c : Thread nD τ).loc b) ↦{fullShare} V m c b : sProp 𝕄)
      = (((c : Thread nD τ).loc main_arg0) ↦{fullShare} V m c main_arg0) := by
  unfold ownRefs; rw [bigSep_singleton]

/-- The tables' shares, one by one. -/
theorem tables_eq (c : Dev nD) (q : Fin 2 → PosShare TreeShare) (v : pre0.Contents (Elt F)) :
    (Pipeline.prefHeld (Ix := Unit) (Name := ℕ) (U := Pipeline.UD sig nD τ) (Lvl := ℕ) pre0 c q v : sProp 𝕄)
      = iprop((((c : Thread nD τ).loc main_arg4) ↦{q 0} v 0) ∗ (((c : Thread nD τ).loc main_arg5) ↦{q 1} v 1)) := by
  unfold Pipeline.prefHeld
  rw [show (Finset.univ : Finset (Fin 2)) = insert (0 : Fin 2) {(1 : Fin 2)} from by decide,
    bigSep_insert (by decide), bigSep_singleton]
  rfl

/-- The launch gives the invariant before the first point: no tile has begun. -/
theorem inv_intro (c : Dev nD) :
    iprop(Pipeline.ΦD ownSem spec0 ownRefs (V m) c ∗ Pipeline.ΦT pre0 (tabs m) c) ⊢ (Inv m c 0 : sProp 𝕄) := by
  rw [Pipeline.ΦD_eq, scopedRest0_eq, ownSem_eq, ownRefs_eq]
  unfold Pipeline.ΦT
  rw [tables_eq]
  unfold Inv
  iintro ⟨⟨⟨⟨%f0, Hg⟩, ⟨%f1, Hs⟩⟩, Hr, Hc, Hx⟩, HT0, HT1⟩
  isplitl [Hg]; · iexists f0; iexact Hg
  isplitl [Hs]
  · iexists f1; isplitr; swap; · iexact Hs
    ipureintro; exact fun k hk hn => absurd rfl hn
  isplitl [Hr]; · iexact Hr
  isplitl [Hc]; · iexact Hc
  isplitl [Hx]; · iexact Hx
  isplitl [HT0] <;> iassumption

/-- After the last point the launch has everything back. -/
theorem inv_exit (c : Dev nD) (n : ℕ) : (Inv m c n : sProp 𝕄) ⊢ Pipeline.ΦD ownSem spec0 ownRefs (V m) c := by
  rw [Pipeline.ΦD_eq, scopedRest0_eq, ownSem_eq, ownRefs_eq]
  unfold Inv
  iintro ⟨⟨%f0, Hg⟩, ⟨%f1, -, Hs⟩, Hr, Hc, Hx, -, -⟩
  isplitl [Hg Hs]
  · isplitl [Hg]; · iexists f0; iexact Hg
    iexists f1; iexact Hs
  isplitl [Hr]; · iexact Hr
  isplitl [Hc]; · iexact Hc
  iexact Hx

/-- The tables hold their launch contents. -/
theorem tabs_eq (c : Dev nD) (k : Fin pre0.K) : V m c (pre0.ref k) = tabs m k := by
  rw [dev_eq c]; rfl

variable (ρ : Dev nD → PrngReg)

set_option backward.isDefEq.respectTransparency.types false in
/-- From a launch memory in range, every weakly fair execution of @main terminates, nothing faulting, with every array at
    what the pipeline writes, every other buffer unchanged and every semaphore counter at zero. -/
theorem run_main : θ_run (defs (F := F)) (onTc (τ := τ) (main (F := F))) ⟨m, fun _ => 0, ρ⟩
    (fun r => Pipeline.FramePost (Pipeline.pin pcfgs fun _ => adm H) (dats H) 0 (V m) r ∧ r.2.sem = fun _ => 0) :=
  Pipeline.θ_run_frameP_dma (Q' := _) pcfgs (fun _ => adm H) (dats H) (0 : Fin 1) launch0 ownSem defs₀ Variants.none ownSem_facts ownRefs ownRefs_sub m ρ main
    (hbody := fun c => (body_obligation H c).loose) (hshare := fun c => (dats H 0 c).share_full fun _ => rfl)
    (howed := fun _ _ => rfl) (V := V m)
    (hmain := Pipeline.hmainP_region pcfgs 0 defs₀ Variants.none m main fun c => (main_chain c).trans rfl)
    (hA := fun _ _ => rfl) (hpf := fun c k => tabs_eq c k)
    (hin := fun c => inv_intro c)
    (hout := fun c => inv_exit c _)

/-- The output array after the run. -/
def outArr (c : Dev nD) : Buf (Elt F) ((c : Thread nD τ).loc main_v0) := (dats H 0 c).arrAt (3 : Fin 4) (cfgA H).N

/-- The run: the result is the output array, the arguments are unchanged and the counters are zero. -/
theorem run : θ_run (defs (F := F)) (onTc (τ := τ) (main (F := F))) ⟨m, fun _ => 0, ρ⟩ (fun r => (∀ c : Dev nD,
      r.2.mem ((c.tc : Thread nD τ).loc main_v0) = outArr H c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run defs _ _).mono (fun r h => ⟨fun c => ⟨?_, ?_, ?_, ?_, ?_, ?_, ?_⟩, h.2⟩) (run_main H ρ)
  · exact (h.1 c).1 (3 : Fin 4)
  · exact (h.1 c).2 main_arg0 (Pipeline.mem_restRefs_of main_arg0 (by decide) (show ∀ w : Fin 4, (spec0 w).arr.view.ref ≠ main_arg0 from by decide))
  · exact ((h.1 c).1 (0 : Fin 4)).trans ((dats H 0 c).arrAt_in (0 : Fin 4) rfl _)
  · exact ((h.1 c).1 (1 : Fin 4)).trans ((dats H 0 c).arrAt_in (1 : Fin 4) rfl _)
  · exact ((h.1 c).1 (2 : Fin 4)).trans ((dats H 0 c).arrAt_in (2 : Fin 4) rfl _)
  · exact (h.1 c).2 main_arg4 (Pipeline.mem_restRefs_of main_arg4 (by decide) (show ∀ w : Fin 4, (spec0 w).arr.view.ref ≠ main_arg4 from by decide))
  · exact (h.1 c).2 main_arg5 (Pipeline.mem_restRefs_of main_arg5 (by decide) (show ∀ w : Fin 4, (spec0 w).arr.view.ref ≠ main_arg5 from by decide))

end Cert.KernelIdeal.Up
end
-- ==== Proof.Up.Value.lean ====
/-
  The kernel's result read at an index: the output's blocks tile the array, each point's block holds the gated
  products of its tile's rows with its block of columns of the tile's expert, and so the array is `upAt`.
-/
module
public import proofs.«01_k».proof.Proof.Up.Frame
public import proofs.«01_k».proof.Proof.Shared.Formula
@[expose] public section
noncomputable section
namespace Cert.KernelIdeal.Up
open Cert.KernelIdeal Cert.KernelIdeal.Gen Cert.Proof.Shared
open Idealize.ShloMosaic Idealize.ShloMosaic.TcCoe
open Idealize.SL.Sem
open Idealize.ShloMosaic.Pipeline (Dat Cfg Window)

section Blocks
variable {F : FTy → Type} [FloatOps F] {m : (ℓ : Loc nD τ sig) → Buf (Elt F) ℓ} (H : InRange m)

/-- A point's block of columns. -/
def colBlk (t : Fin (cfgA H).N) : Fin 7 := (crd H t) 1
/-- The blocks of columns follow one another within a tile. -/
theorem colBlk_val (t : Fin (cfgA H).N) : (colBlk H t).val = t.val % 7 := coords_col t

/-- Column `q` of a point's block of columns, in the array. -/
def colAt (t : Fin (cfgA H).N) (q : Fin 1024) : Fin 7168 := ⟨(colBlk H t).val * 1024 + q.val, by have := (colBlk H t).isLt; omega⟩
/-- Row `p` of a point's tile, in the array. -/
def rowAtPoint (t : Fin (cfgA H).N) (p : Fin 512) : Fin 53248 := ⟨(tile H t).val * 512 + p.val, by have := (tile H t).isLt; omega⟩

/-- The expert of a point's tile. -/
def expertHere (t : Fin (cfgA H).N) : Fin 8 := ⟨BitVec.toNat (V m dev0 main_arg4 (ValueIdx.ix1 (tile H t)) : BitVec 32), H.expert dev0 _⟩

/-- The gate weights' block at a point: the tile's expert's matrix, at the point's block of columns. -/
theorem iblk_gate (c : Dev nD) (t : Fin (cfgA H).N) (k : Fin 2048) (q : Fin 1024) :
    (iblk H c (1 : Fin 4) t : S1x2048x1024.Idx → Elt F .bf16) (ix3 0 k q) = V m c main_arg2 (ix3 (expertHere H t) k (colAt H t q)) := by
  unfold iblk
  refine (View.read_apply _ _).trans ?_
  refine congrArg (V m c main_arg2) ?_
  have hi : ((cfgA H).win (1 : Fin 4)).index t = ![(expertHere H t).val, 0, (colBlk H t).val] := transform_2_eq (tabs m) (crd H t)
  funext a
  apply Fin.ext
  refine (Window.rect_emb_val ((cfgA H).win (1 : Fin 4)) t (ix3 0 k q) a).trans ?_
  rw [hi]
  match a with
  | ⟨0, _⟩ =>
    show (expertHere H t).val * 1 + 0 = (expertHere H t).val
    omega
  | ⟨1, _⟩ =>
    show 0 * 2048 + k.val = k.val
    omega
  | ⟨2, _⟩ => rfl

/-- The other weights' block at a point, likewise. -/
theorem iblk_up (c : Dev nD) (t : Fin (cfgA H).N) (k : Fin 2048) (q : Fin 1024) :
    (iblk H c (2 : Fin 4) t : S1x2048x1024.Idx → Elt F .bf16) (ix3 0 k q) = V m c main_arg3 (ix3 (expertHere H t) k (colAt H t q)) := by
  unfold iblk
  refine (View.read_apply _ _).trans ?_
  refine congrArg (V m c main_arg3) ?_
  have hi : ((cfgA H).win (2 : Fin 4)).index t = ![(expertHere H t).val, 0, (colBlk H t).val] := transform_3_eq (tabs m) (crd H t)
  funext a
  apply Fin.ext
  refine (Window.rect_emb_val ((cfgA H).win (2 : Fin 4)) t (ix3 0 k q) a).trans ?_
  rw [hi]
  match a with
  | ⟨0, _⟩ =>
    show (expertHere H t).val * 1 + 0 = (expertHere H t).val
    omega
  | ⟨1, _⟩ =>
    show 0 * 2048 + k.val = k.val
    omega
  | ⟨2, _⟩ => rfl

/-- The output's block index at a point. -/
theorem out_index (t : Fin (cfgA H).N) : ((cfgA H).win (3 : Fin 4)).index t = ![(tile H t).val, (colBlk H t).val] := by
  show ![(BitVec.ofNat 32 (crd H t 0).val).toNat, (BitVec.ofNat 32 (crd H t 1).val).toNat] = _
  rw [tile_word, col_word]
  rfl

/-- Every point writes its block back: the next point's block is another one. -/
theorem flush_all : ∀ t : Fin grid0.N, Window.flushOf grid0 true cc0_transform_4 t = true := by
  intro t
  unfold Window.flushOf
  by_cases hl : t.val + 1 = grid0.N
  · simp [hl]
  · have hlt : t.val + 1 < grid0.N := by have := t.isLt; omega
    have hne : cc0_transform_4 (grid0.coords ⟨t.val + 1, hlt⟩) ≠ cc0_transform_4 (grid0.coords t) := by
      intro h
      have h1 := congrFun h 1
      have e : ∀ i : grid0.Coords, cc0_transform_4 i 1 = (i 1).val := fun i => col_word i
      rw [e, e, coords_col, coords_col] at h1
      change (t.val + 1) % 7 = t.val % 7 at h1
      omega
    simp [hlt, hne]

/-- The written-back blocks cover the array. -/
theorem out_covers : ((cfgA H).win (3 : Fin 4)).Covers := by
  refine ⟨show ∀ a : Fin 2, 0 < S512x1024.size a from by decide, fun β => ?_⟩
  have h0 : (β (0 : Fin 2)).val < 104 := Nat.lt_of_lt_of_eq (β (0 : Fin 2)).isLt (show (53248 + 512 - 1) / 512 = 104 by norm_num)
  have h1 : (β (1 : Fin 2)).val < 7 := Nat.lt_of_lt_of_eq (β (1 : Fin 2)).isLt (show (7168 + 1024 - 1) / 1024 = 7 by norm_num)
  refine ⟨⟨7 * (β (0 : Fin 2)).val + (β (1 : Fin 2)).val, Nat.lt_of_lt_of_eq (by omega : _ < 728) N_0.symm⟩, (Window.flush_eq_flushOf _ _).trans (flush_all _), fun a => ⟨?_, .inl rfl⟩⟩
  rw [out_index]
  match a with
  | ⟨0, _⟩ => exact (tile_val H _).trans (show (7 * (β (0 : Fin 2)).val + (β (1 : Fin 2)).val) / 7 = (β (0 : Fin 2)).val by omega)
  | ⟨1, _⟩ => exact (colBlk_val H _).trans (show (7 * (β (0 : Fin 2)).val + (β (1 : Fin 2)).val) % 7 = (β (1 : Fin 2)).val by omega)

end Blocks

/-! ## Over the reals -/

variable {m : (ℓ : Loc nD τ sig) → Buf (Elt Ideal) ℓ} (H : InRange m)

/-- The body's payload at an index: the gated product of the two block products. -/
theorem pay2_apply (a : FVec Ideal S512x2048 .bf16) (b c : FVec Ideal S1x2048x1024 .bf16) (p : Fin 512) (q : Fin 1024) :
    (k0_pay2 (F := Ideal) a b c : FVec Ideal S512x1024 .bf16) (ix2 p q) = gated (∑ k : Fin 2048, a (ix2 p k) * b (ix3 0 k q)) (∑ k : Fin 2048, a (ix2 p k) * c (ix3 0 k q)) := by
  pointwise [k0_pay2, gated]
  rw [zero_sub]

/-- A tile's rows at an index: the row of `xn` the tile's word names. -/
theorem tileRows_apply (c : Dev nD) (n : Fin 104) (p : Fin 512) (k : Fin 2048) (r : Fin 53248) (hr : r.val = n.val * 512 + p.val) :
    (tileRows m c n : FVec Ideal S512x2048 .bf16) (ix2 p k) = (V m c main_arg0 : FVec Ideal S25600x2048 .f32) (ix2 (rowAt (V m c main_arg1) r) k) := by
  unfold tileRows
  pointwise [k0_pay1]
  refine congrArg (V m c main_arg0) ?_
  have hsrc : (ValueIdx.ix3 n 0 p : S104x1x512.Idx) = ix3 ⟨r.val / 512, by omega⟩ 0 ⟨r.val % 512, by omega⟩ := by
    have := p.isLt
    funext a
    match a with
    | ⟨0, _⟩ => exact Fin.ext (show n.val = r.val / 512 by omega)
    | ⟨1, _⟩ => rfl
    | ⟨2, _⟩ => exact Fin.ext (show p.val = r.val % 512 by omega)
  funext a
  match a with
  | ⟨0, _⟩ => exact Fin.ext (congrArg (fun x => min (BitVec.toNat (V m c main_arg1 x : BitVec 32)) 25599) hsrc)
  | ⟨1, _⟩ => rfl

/-- What a point leaves in the output's block, at an index. -/
theorem outAt_apply (c : Dev nD) (t : Fin (cfgA H).N) (p : Fin 512) (q : Fin 1024) :
    (outAt H c t : FVec Ideal S512x1024 .bf16) (ix2 p q)
      = upAt (V m c main_arg0) (V m c main_arg1) (V m c main_arg2) (V m c main_arg3) (V m c main_arg4) (V m c main_arg5) (rowAtPoint H t p) (colAt H t q) := by
  have hdiv : (rowAtPoint H t p).val / 512 = (tile H t).val := by
    show ((tile H t).val * 512 + p.val) / 512 = _; have := p.isLt; omega
  have hE : expertOf (V m c main_arg4) (rowAtPoint H t p) = expertHere H t := by
    obtain rfl := dev_eq c
    have hidx : (ix1 ⟨(rowAtPoint H t p).val / 512, by have := (rowAtPoint H t p).isLt; omega⟩ : S104.Idx) = ValueIdx.ix1 (tile H t) := by
      funext a
      match a with
      | ⟨0, _⟩ => exact Fin.ext hdiv
    apply Fin.ext
    show min (BitVec.toNat (V m dev0 main_arg4 (ix1 ⟨(rowAtPoint H t p).val / 512, _⟩) : BitVec 32)) 7 = BitVec.toNat (V m dev0 main_arg4 (ValueIdx.ix1 (tile H t)) : BitVec 32)
    rw [hidx]
    exact Nat.min_eq_left (Nat.le_of_lt_succ (H.expert dev0 (ValueIdx.ix1 (tile H t))))
  have hU : nUsed m = V m c main_arg5 (ix1 0) := by
    obtain rfl := dev_eq c
    refine congrArg (V m dev0 main_arg5) ?_
    funext a
    match a with
    | ⟨0, _⟩ => exact Subsingleton.elim (α := Fin 1) _ _
  unfold outAt upAt
  by_cases h : Active (tile H t).val (nUsed m)
  · have h' : (BitVec.ofNat 32 ((rowAtPoint H t p).val / 512)).slt (V m c main_arg5 (ix1 0)) = true := by
      rw [hdiv, ← hU]; exact h
    rw [if_pos h, if_pos h', hE, pay2_apply]
    unfold proj
    congr 1
    · exact Finset.sum_congr (M := Ideal .f32) rfl fun k _ => congrArg₂ (fun x y : Ideal .f32 => x * y)
        (tileRows_apply c (tile H t) p k (rowAtPoint H t p) rfl) (iblk_gate H c t k q)
    · exact Finset.sum_congr (M := Ideal .f32) rfl fun k _ => congrArg₂ (fun x y : Ideal .f32 => x * y)
        (tileRows_apply c (tile H t) p k (rowAtPoint H t p) rfl) (iblk_up H c t k q)
  · have h' : ¬ (BitVec.ofNat 32 ((rowAtPoint H t p).val / 512)).slt (V m c main_arg5 (ix1 0)) = true := by
      rw [hdiv, ← hU]; exact h
    rw [if_neg h, if_neg h']
    pointwise [k0_pay3]

/-- THE KERNEL'S RESULT: `upAt` of the arguments, at every index. -/
theorem outArr_eq (c : Dev nD) : outArr H c = (fun y : S53248x7168.Idx =>
    upAt (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (y 0) (y 1)) := by
  unfold outArr
  refine Dat.arrAt_eq_of_covers (dats H 0 c) (3 : Fin 4) _ (out_covers H) (fun t _ y => ?_)
  obtain ⟨p, q, rfl⟩ : ∃ (p : Fin 512) (q : Fin 1024), y = ix2 p q := ⟨y 0, y 1, eq_ix2 y⟩
  refine (outAt_apply H c t p q).trans ?_
  have e0 : (((cfgA H).win (3 : Fin 4)).rect t).emb (ix2 p q) (0 : Fin 2) = rowAtPoint H t p :=
    Fin.ext ((Window.rect_emb_val ((cfgA H).win (3 : Fin 4)) t (ix2 p q) (0 : Fin 2)).trans (by rw [out_index]; rfl))
  have e1 : (((cfgA H).win (3 : Fin 4)).rect t).emb (ix2 p q) (1 : Fin 2) = colAt H t q :=
    Fin.ext ((Window.rect_emb_val ((cfgA H).win (3 : Fin 4)) t (ix2 p q) (1 : Fin 2)).trans (by rw [out_index]; rfl))
  exact congrArg₂ (fun (r : Fin 53248) (s : Fin 7168) => upAt _ _ _ _ _ _ r s) e0.symm e1.symm

end Cert.KernelIdeal.Up
end
-- ==== Proof.UpKernel.Same.lean ====
/-
  The compiled gate and up projection and the idealized one are one program, printed in two modules: no rewrite was applied. So the run proved
  of the idealized one, over any floats, is a run of the compiled one.
-/
module
public import proofs.«01_k».proof.Proof.Gen.Kernel
public import proofs.«01_k».proof.Proof.Up.Frame
@[expose] public section
noncomputable section

namespace Cert.Proof.UpKernel
open Idealize.ShloMosaic Idealize.ShloMosaic.TcCoe

variable {F : FTy → Type} [FloatOps F] [Cert.Kernel.Facts] [Cert.KernelIdeal.Facts]

/-- The bodies are one. -/
theorem body_eq : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl

/-- The calls are one. -/
theorem defs_eq : Cert.Kernel.defs (F := F) = Cert.KernelIdeal.defs (F := F) := congrArg (Pipeline.defs Cert.Kernel.pcfgs) body_eq

/-- The launches are one. -/
theorem main_eq : Cert.Kernel.main (F := F) = Cert.KernelIdeal.main (F := F) := rfl

end Cert.Proof.UpKernel
end
-- ==== Proof.UpRef.Value.lean ====
/-
  The reference's result read at an index: `out[r, q]` is `silu (x · wg[e]) * (x · wu[e])` of the gathered row `x`
  and the tile's expert `e`, or 0 in a tile past the used ones.
-/
module

public import proofs.«01_k».proof.Proof.Gen.ReferenceIdeal.Run
public import Idealize.ShloMosaic.Lib.Pointwise
public import Idealize.ShloMosaic.Lib.WordCmp
public import proofs.«01_k».proof.Proof.Shared.Formula

@[expose] public section

noncomputable section

namespace Cert.ReferenceIdeal.Value

open Cert.ReferenceIdeal Cert.ReferenceIdeal.Gen
open Idealize.ShloMosaic Idealize.ShloMosaic.TcCoe Idealize.SL.Sem Idealize.ShloMosaic.StableHlo Cert.Proof.Shared

section Gather
variable {α : Type}

/-- `x[idx]` of a rank-2 `x` by rows, read at a result index: `x` at the row the index array holds there, read signed
    and clamped into the rows there are, and at the same column. -/
theorem gather_rows_apply {w : Nat} (x : S25600x2048.Idx → α) (idx : IVec S53248x1 w) (r : Fin 53248) (k : Fin 2048) :
    Host.gather gather_S25600x2048_S53248x1_S53248x2048_1_0_n_n_0_1_12048 x idx (ix2 r k)
      = x (ix2 ⟨min (idx (ix2 r 0)).toInt.toNat 25599, by omega⟩ k) := by
  unfold Host.gather
  congr 1
  funext a
  refine Fin.ext ?_
  show GatherDims.start _ (ix2 r k) idx a + GatherDims.batchCoord _ (ix2 r k) a + GatherDims.offCoord _ (ix2 r k) a = _
  rw [GatherDims.batchCoord_eq_zero _ _ _ List.not_mem_nil]
  have ha : a = 0 ∨ a = 1 := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S25600x2048_S53248x1_S53248x2048_1_0_n_n_0_1_12048.startIndexMap from List.mem_singleton.mpr rfl)]
    have at_row : GatherDims.siIdx gather_S25600x2048_S53248x1_S53248x2048_1_0_n_n_0_1_12048 (ix2 r k)
        ⟨List.idxOf (0 : Fin 2) [0], List.idxOf_lt_length_iff.2 (List.mem_singleton.mpr rfl)⟩ = ix2 r 0 := by
      funext b; refine Fin.ext ?_
      match b with
      | ⟨0, _⟩ => rfl
      | ⟨1, _⟩ => rfl
    show min (idx (GatherDims.siIdx gather_S25600x2048_S53248x1_S53248x2048_1_0_n_n_0_1_12048 (ix2 r k)
        ⟨List.idxOf (0 : Fin 2) [0], _⟩)).toInt.toNat _ + 0 + 0 = _
    rw [at_row]
    rfl
  · unfold GatherDims.start GatherDims.offCoord
    rw [dif_neg (by decide), dif_pos (by decide), Nat.add_zero, Nat.zero_add]
    show (ix2 r k ([1] : List (Fin 2))[List.idxOf (1 : Fin 2) ([1] : List (Fin 2))]).val = k.val
    rfl

end Gather

variable (V0 : Valuation τ sig (Elt Ideal))

/-- The reference's argument `xn`, as an array. -/
abbrev xn0 : FVec Ideal ⟨2, ![25600, 2048]⟩ .f32 := V0 (Proc.devRef .tc main_arg0)
/-- The reference's argument `src`, as an array. -/
abbrev src0 : IVec ⟨3, ![104, 1, 512]⟩ 32 := V0 (Proc.devRef .tc main_arg1)
/-- The reference's argument `wg`, as an array. -/
abbrev wg0 : FVec Ideal ⟨3, ![8, 2048, 7168]⟩ .bf16 := V0 (Proc.devRef .tc main_arg2)
/-- The reference's argument `wu`, as an array. -/
abbrev wu0 : FVec Ideal ⟨3, ![8, 2048, 7168]⟩ .bf16 := V0 (Proc.devRef .tc main_arg3)
/-- The reference's argument `te`, as an array. -/
abbrev te0 : IVec ⟨1, ![104]⟩ 32 := V0 (Proc.devRef .tc main_arg4)
/-- The reference's argument `nu`, as an array. -/
abbrev nu0 : IVec ⟨1, ![1]⟩ 32 := V0 (Proc.devRef .tc main_arg5)
/-- The gathered rows, as an array. -/
abbrev x0 : FVec Ideal ⟨2, ![53248, 2048]⟩ .f32 := res_main_v7 V0

/-- A row's number in `src`, flattened to one axis. -/
theorem v0_apply (r : Fin 53248) : res_main_v0 V0 (ix1 r) = src0 V0 (ix3 ⟨r.val / 512, by omega⟩ 0 ⟨r.val % 512, by omega⟩) := by
  pointwise [res_main_v0]

/-- The gathered rows: a row number in range is read as it stands, neither wrapped nor clamped. -/
theorem v7_apply (hsrc : ∀ x, (src0 V0 x).toNat < 25600) (r : Fin 53248) (k : Fin 2048) :
    res_main_v7 V0 (ix2 r k) = xn0 V0 (ix2 (rowAt (src0 V0) r) k) := by
  have hx := hsrc (ix3 ⟨r.val / 512, by omega⟩ 0 ⟨r.val % 512, by omega⟩)
  have hi : ((src0 V0 (ix3 ⟨r.val / 512, by omega⟩ 0 ⟨r.val % 512, by omega⟩)).toInt) = ((src0 V0 (ix3 ⟨r.val / 512, by omega⟩ 0 ⟨r.val % 512, by omega⟩)).toNat : Int) := by
    rw [BitVec.toInt_eq_toNat_of_lt (by omega)]
  unfold res_main_v7
  rw [gather_rows_apply]
  refine congrArg (fun n : Fin 25600 => xn0 V0 (ix2 n k)) (Fin.ext ?_)
  show min (BitVec.toInt _).toNat 25599 = min (BitVec.toNat _) 25599
  congr 1
  pointwise [v0_apply]
  rw [WordCmp.cmpi_slt_eq]
  unfold Scalar.select
  rw [hi, if_neg (by rw [decide_eq_false (by rw [show (0#32).toInt = 0 from rfl]; omega)]; decide), hi]
  exact Int.toNat_natCast _

/-- The expert each row is compared by: the tile's in a used tile, -1 elsewhere. -/
theorem v15_apply (r : Fin 53248) : res_main_v15 V0 (ix2 r 0)
    = if (BitVec.ofNat 32 (r.val / 512)).slt (nu0 V0 (ix1 0)) = true then te0 V0 (ix1 ⟨r.val / 512, by omega⟩) else 4294967295#32 := by
  pointwise [res_main_v15]
  unfold Scalar.select IntOp.cmpi
  cases (BitVec.ofNat 32 (r.val / 512)).slt (nu0 V0 (ix1 0)) <;> simp <;> rfl

/-- The gate's product at expert 0. -/
theorem v20_apply (hsrc : ∀ x, (src0 V0 x).toNat < 25600) (r : Fin 53248) (q : Fin 7168) :
    res_main_v20 V0 (ix2 r q) = proj (xn0 V0) (src0 V0) (wg0 V0) 0 r q := by
  pointwise [res_main_v20]
  exact Finset.sum_congr (M := Ideal .f32) rfl fun k _ => congrArg (fun a : Ideal .f32 => a * wg0 V0 (ix3 _ k q)) (v7_apply V0 hsrc r k)

/-- The gate's product at expert 1. -/
theorem v33_apply (hsrc : ∀ x, (src0 V0 x).toNat < 25600) (r : Fin 53248) (q : Fin 7168) :
    res_main_v33 V0 (ix2 r q) = proj (xn0 V0) (src0 V0) (wg0 V0) 1 r q := by
  pointwise [res_main_v33]
  exact Finset.sum_congr (M := Ideal .f32) rfl fun k _ => congrArg (fun a : Ideal .f32 => a * wg0 V0 (ix3 _ k q)) (v7_apply V0 hsrc r k)

/-- The gate's product at expert 2. -/
theorem v46_apply (hsrc : ∀ x, (src0 V0 x).toNat < 25600) (r : Fin 53248) (q : Fin 7168) :
    res_main_v46 V0 (ix2 r q) = proj (xn0 V0) (src0 V0) (wg0 V0) 2 r q := by
  pointwise [res_main_v46]
  exact Finset.sum_congr (M := Ideal .f32) rfl fun k _ => congrArg (fun a : Ideal .f32 => a * wg0 V0 (ix3 _ k q)) (v7_apply V0 hsrc r k)

/-- The gate's product at expert 3. -/
theorem v59_apply (hsrc : ∀ x, (src0 V0 x).toNat < 25600) (r : Fin 53248) (q : Fin 7168) :
    res_main_v59 V0 (ix2 r q) = proj (xn0 V0) (src0 V0) (wg0 V0) 3 r q := by
  pointwise [res_main_v59]
  exact Finset.sum_congr (M := Ideal .f32) rfl fun k _ => congrArg (fun a : Ideal .f32 => a * wg0 V0 (ix3 _ k q)) (v7_apply V0 hsrc r k)

/-- The gate's product at expert 4. -/
theorem v72_apply (hsrc : ∀ x, (src0 V0 x).toNat < 25600) (r : Fin 53248) (q : Fin 7168) :
    res_main_v72 V0 (ix2 r q) = proj (xn0 V0) (src0 V0) (wg0 V0) 4 r q := by
  pointwise [res_main_v72]
  exact Finset.sum_congr (M := Ideal .f32) rfl fun k _ => congrArg (fun a : Ideal .f32 => a * wg0 V0 (ix3 _ k q)) (v7_apply V0 hsrc r k)

/-- The gate's product at expert 5. -/
theorem v85_apply (hsrc : ∀ x, (src0 V0 x).toNat < 25600) (r : Fin 53248) (q : Fin 7168) :
    res_main_v85 V0 (ix2 r q) = proj (xn0 V0) (src0 V0) (wg0 V0) 5 r q := by
  pointwise [res_main_v85]
  exact Finset.sum_congr (M := Ideal .f32) rfl fun k _ => congrArg (fun a : Ideal .f32 => a * wg0 V0 (ix3 _ k q)) (v7_apply V0 hsrc r k)

/-- The gate's product at expert 6. -/
theorem v98_apply (hsrc : ∀ x, (src0 V0 x).toNat < 25600) (r : Fin 53248) (q : Fin 7168) :
    res_main_v98 V0 (ix2 r q) = proj (xn0 V0) (src0 V0) (wg0 V0) 6 r q := by
  pointwise [res_main_v98]
  exact Finset.sum_congr (M := Ideal .f32) rfl fun k _ => congrArg (fun a : Ideal .f32 => a * wg0 V0 (ix3 _ k q)) (v7_apply V0 hsrc r k)

/-- The gate's product at expert 7. -/
theorem v111_apply (hsrc : ∀ x, (src0 V0 x).toNat < 25600) (r : Fin 53248) (q : Fin 7168) :
    res_main_v111 V0 (ix2 r q) = proj (xn0 V0) (src0 V0) (wg0 V0) 7 r q := by
  pointwise [res_main_v111]
  exact Finset.sum_congr (M := Ideal .f32) rfl fun k _ => congrArg (fun a : Ideal .f32 => a * wg0 V0 (ix3 _ k q)) (v7_apply V0 hsrc r k)

/-- The other product at expert `e`. -/
theorem up_sum (hsrc : ∀ x, (src0 V0 x).toNat < 25600) (e : Fin 8) (r : Fin 53248) (q : Fin 7168) :
    (∑ k : Fin 2048, x0 V0 (ix2 r k) * wu0 V0 (ix3 e k q)) = proj (xn0 V0) (src0 V0) (wu0 V0) e r q :=
  Finset.sum_congr (M := Ideal .f32) rfl fun k _ => congrArg (fun a : Ideal .f32 => a * wu0 V0 (ix3 e k q)) (v7_apply V0 hsrc r k)

/-- THE REFERENCE'S RUN, read at an index: the result holds `upAt` of the arguments and the arguments are unchanged. -/
theorem run_upAt (m : (ℓ : Loc nD τ sig) → Buf (Elt Ideal) ℓ) (ρ : Dev nD → PrngReg)
    (hsrc : ∀ c x, (src0 (launchContents m c) x).toNat < 25600) (hte : ∀ c x, (te0 (launchContents m c) x).toNat < 8) :
    θ_run defs (onTc (τ := τ) (main (F := Ideal))) ⟨m, fun _ => 0, ρ⟩ fun r => ∀ c : Dev nD,
      r.2.mem ((c.tc : Thread nD τ).loc main_v121) = (fun y : S53248x7168.Idx =>
          upAt (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans ?_, (h c).2⟩) (run m ρ)
  have hs := hsrc c
  funext y
  obtain ⟨r, q, rfl⟩ : ∃ (r : Fin 53248) (q : Fin 7168), y = ix2 r q := ⟨y 0, y 1, eq_ix2 y⟩
  refine Eq.trans ?_ (choose (res_main_v15 (launchContents m c) (ix2 r 0)) _ _ (hte c _) (v15_apply _ r)
    fun e => gated (proj (xn0 (launchContents m c)) (src0 (launchContents m c)) (wg0 (launchContents m c)) e r q) (proj (xn0 (launchContents m c)) (src0 (launchContents m c)) (wu0 (launchContents m c)) e r q))
  pointwise [res_main_v94, v20_apply _ hs, v33_apply _ hs, v46_apply _ hs, v59_apply _ hs, v72_apply _ hs, v85_apply _ hs, v98_apply _ hs, v111_apply _ hs, gated]
  rw [← up_sum _ hs 0 r q, ← up_sum _ hs 1 r q, ← up_sum _ hs 2 r q, ← up_sum _ hs 3 r q, ← up_sum _ hs 4 r q, ← up_sum _ hs 5 r q, ← up_sum _ hs 6 r q, ← up_sum _ hs 7 r q]

end Cert.ReferenceIdeal.Value

end
-- ==== Proof.Down.Body.lean ====
/-
  The down projection's body at one point: in a used tile it stores the product of the tile's activations with its block
  of the expert's matrix, past the used tiles it stores zeros.
-/
module
public import proofs.«01_k».proof.Proof.Gen.DownIdeal.Skeleton
public import proofs.«01_k».proof.Proof.Gen.DownIdeal.Launch
public import Idealize.ShloMosaic.Lib.Pipeline.Frame
public import Idealize.ShloMosaic.Lib.Ring
public import Idealize.ShloMosaic.Lib.Exec
public import Idealize.ShloMosaic.Lib.Tactic
public import Idealize.ShloMosaic.Lib.VecWindow
public import Idealize.ShloMosaic.Lib.ValueIdxCore
@[expose] public section
noncomputable section
namespace Cert.DownIdeal.Down
open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UD sig nD τ) ℕ

/-- The table of expert numbers. -/
abbrev tbExpert : Memref sig .tc .smem S104 .i32 := Memref.whole main_arg2
/-- The number of used tiles. -/
abbrev tbUsed : Memref sig .tc .smem S1 .i32 := Memref.whole main_arg3

/-- The number of used tiles, as the body reads it off its table. -/
abbrev used (T1 : S1.Idx → Elt F .i32) : Elt F .i32 :=
  View.readAt (Elt F) tbUsed.view (Rect.unit (s := S1) ![0] S1.size inb_S1_S1_0).toLoadRect T1 (Shape.Idx.first (numel1_S1.symm ▸ Nat.one_pos))

variable (c : Dev nD) (i : grid0.Coords) (arg4 : Memref sig .tc .vmem S512x7168 .bf16) (harg4 : arg4.IsWhole)
  (arg5 : Memref sig .tc .vmem S1x7168x512 .bf16) (harg5 : arg5.IsWhole) (arg6 : Memref sig .tc .vmem S512x512 .f32) (harg6 : arg6.IsWhole)
  (T1 : S1.Idx → Elt F .i32) (x4 : S512x7168.Idx → Elt F .bf16) (x5 : S1x7168x512.Idx → Elt F .bf16)

/-- A used tile: the block of the product. -/
theorem run_used (h1 : k0_cond1 i (used T1) = 1#1) (h2 : ¬ k0_cond2 i (used T1) = 1#1) (K : PUnit → sProp 𝕄) :
    iprop((arg4.view.loc (c : Thread nD τ) ↦[arg4.view.set]{fullShare} arg4.view.rep x4)
        ∗ (arg5.view.loc (c : Thread nD τ) ↦[arg5.view.set]{fullShare} arg5.view.rep x5)
        ∗ (tbUsed.view.loc (c : Thread nD τ) ↦{fullShare.right} T1)
        ∗ (∃ d, owns (c : Thread nD τ) arg6 fullShare d)
        ∗ (iprop((arg4.view.loc (c : Thread nD τ) ↦[arg4.view.set]{fullShare} arg4.view.rep x4)
            ∗ (arg5.view.loc (c : Thread nD τ) ↦[arg5.view.set]{fullShare} arg5.view.rep x5)
            ∗ (tbUsed.view.loc (c : Thread nD τ) ↦{fullShare.right} T1)
            ∗ owns (c : Thread nD τ) arg6 fullShare (k0_pay1 x4 x5)) -∗ K ⟨⟩))
      ⊢ wp frame (wpE (defs₀ (F := F)) Variants.none c none) Set.univ
          (cc0_moe_expert_down i tbExpert (Memref.isWhole_whole _) tbUsed (Memref.isWhole_whole _) arg4 harg4 arg5 harg5 arg6 harg6) K := by
  rw [cc0_moe_expert_down_eq_skeleton]
  unfold cc0_moe_expert_down_skel owns
  iintro ⟨H4, H5, HT1, ⟨%d6, %f6, -, H6⟩, Hk⟩
  sl_exec
  sl_step
  iapply Hk
  isplitl [H4]; · iexact H4
  isplitl [H5]; · iexact H5
  isplitl [HT1]; · iexact HT1
  iexists _; isplitr; swap; · iexact H6
  ipureintro
  refine (View.read_writes_full arg6.view f6 inb_S512x512_S512x512_0_0 _ []).trans ?_
  rw [View.readAt_rep_full, View.readAt_rep_full]

/-- A tile past the used ones: its block is zero. -/
theorem run_zero (h1 : ¬ k0_cond1 i (used T1) = 1#1) (h2 : k0_cond2 i (used T1) = 1#1) (K : PUnit → sProp 𝕄) :
    iprop((tbUsed.view.loc (c : Thread nD τ) ↦{fullShare.right} T1)
        ∗ (∃ d, owns (c : Thread nD τ) arg6 fullShare d)
        ∗ (iprop((tbUsed.view.loc (c : Thread nD τ) ↦{fullShare.right} T1)
            ∗ owns (c : Thread nD τ) arg6 fullShare (k0_pay2 (F := F))) -∗ K ⟨⟩))
      ⊢ wp frame (wpE (defs₀ (F := F)) Variants.none c none) Set.univ
          (cc0_moe_expert_down i tbExpert (Memref.isWhole_whole _) tbUsed (Memref.isWhole_whole _) arg4 harg4 arg5 harg5 arg6 harg6) K := by
  rw [cc0_moe_expert_down_eq_skeleton]
  unfold cc0_moe_expert_down_skel owns
  iintro ⟨HT1, ⟨%d6, %f6, -, H6⟩, Hk⟩
  sl_exec
  sl_step
  iapply Hk
  isplitl [HT1]; · iexact HT1
  iexists _; isplitr; swap; · iexact H6
  ipureintro
  exact View.read_writes_full arg6.view f6 inb_S512x512_S512x512_0_0 _ []

end Cert.DownIdeal.Down
end
-- ==== Proof.Down.Points.lean ====
/-
  The down projection's grid: each point's tile and block of columns, the body's two conditions there, and where the
  prefetched table of experts puts the weight blocks.
-/
module
public import proofs.«01_k».proof.Proof.Down.Body
public import proofs.«01_k».proof.Proof.Shared.Tiles
public import Idealize.ShloMosaic.Lib.Pipeline.ValueKit
public import Idealize.ShloMosaic.Lib.Pipeline.FrameBody
public import Idealize.ShloMosaic.Lib.Affine
@[expose] public section
noncomputable section
namespace Cert.DownIdeal.Down
open Cert.Proof.Shared (Active)
open Cert.DownIdeal Cert.DownIdeal.Gen
open Idealize.ShloMosaic Idealize.ShloMosaic.TcCoe
open Idealize.SL.Sem

variable {F : FTy → Type} [FloatOps F]

/-- What the launch memory is assumed to hold: expert numbers naming an expert. -/
def ExpertsNamed (m : (ℓ : Loc nD τ sig) → Buf (Elt F) ℓ) : Prop :=
  ∀ (c : Dev nD) (x : S104.Idx), BitVec.toNat (m ((c : Thread nD τ).loc main_arg2) x : BitVec 32) < 8

/-- A point's tile. -/
theorem coords_tile (t : Fin grid0.N) : (grid0.coords t 0).val = t.val / 4 := by
  have h := Pipeline.Grid.coords_val t (0 : Fin 2) (S := 4) (B := 104) (by decide) rfl
  have ht : t.val < 416 := t.isLt.trans_eq N_0
  exact h.trans (Nat.mod_eq_of_lt (by omega))
/-- A point's block of columns. -/
theorem coords_col (t : Fin grid0.N) : (grid0.coords t 1).val = t.val % 4 := by
  have h := Pipeline.Grid.coords_val t (1 : Fin 2) (S := 1) (B := 4) (by decide) rfl
  exact h.trans (by rw [Nat.div_one])

/-- The body's first condition: a used tile. -/
theorem cond1_iff (i : grid0.Coords) (v : BitVec 32) : k0_cond1 i v = 1#1 ↔ Active (i 0).val v := by
  unfold k0_cond1 Active
  simp only [Scalar.cmpi, Scalar.extui, IntOp.cmpi]
  by_cases ha : (BitVec.ofNat 32 (i 0).val).slt v = true <;> simp_all
/-- The second: a tile past the used ones. -/
theorem cond2_iff (i : grid0.Coords) (v : BitVec 32) : k0_cond2 i v = 1#1 ↔ ¬ Active (i 0).val v := by
  unfold k0_cond2 Active
  simp only [Scalar.cmpi, Scalar.extui, IntOp.cmpi]
  have e : v.sle (BitVec.ofNat 32 (i 0).val) = !(BitVec.ofNat 32 (i 0).val).slt v := BitVec.sle_eq_not_slt
  rw [e]
  by_cases ha : (BitVec.ofNat 32 (i 0).val).slt v = true <;> simp_all

/-- No point leaves the output's block unwritten. -/
theorem never_idle (pf : pre0.Contents (Elt F)) (i : grid0.Coords) (w : Fin 3) : idle0 pf w i = false := by
  match w with
  | ⟨0, _⟩ => rfl
  | ⟨1, _⟩ => rfl
  | ⟨2, _⟩ =>
    show (!(k0_cond1 i (pf.atD 1 ![0]) == 1#1) && !(k0_cond2 i (pf.atD 1 ![0]) == 1#1)) = false
    by_cases h : Active (i 0).val (pf.atD 1 ![0])
    · rw [(cond1_iff i _).2 h]; rfl
    · rw [(cond2_iff i _).2 h]; simp

/-- A point's tile, as a word. -/
theorem tile_word (i : grid0.Coords) : (BitVec.ofNat 32 (i 0).val).toNat = (i 0).val := by
  have h : (i 0).val < 104 := (i 0).isLt
  rw [BitVec.toNat_ofNat, Nat.mod_eq_of_lt (by omega)]
/-- A point's block of columns, as a word. -/
theorem col_word (i : grid0.Coords) : (BitVec.ofNat 32 (i 1).val).toNat = (i 1).val := by
  have h : (i 1).val < 4 := (i 1).isLt
  rw [BitVec.toNat_ofNat, Nat.mod_eq_of_lt (by omega)]

/-- The expert of a tile, read off the table of expert numbers. -/
def expertAt (pf : pre0.Contents (Elt F)) (n : Fin 104) : BitVec 32 := pf 0 (ValueIdx.ix1 n)

/-- The block of weights at a point is its tile's expert's, at its block of columns. -/
theorem weight_index (pf : pre0.Contents (Elt F)) (i : grid0.Coords) :
    cc0_transform_1 k0_off1_inb numel1_S1 pf i = ![(expertAt pf (i 0)).toNat, 0, (i 1).val] := by
  unfold cc0_transform_1 expertAt
  have e : (Rect.unit (s := S104) ![(Scalar.indexCast (BitVec.ofNat 32 (i 0).val)).toNat] S1.size (k0_off1_inb i)).emb
      (Shape.Idx.first (numel1_S1.symm ▸ Nat.one_pos)) = ValueIdx.ix1 (i 0) := by
    funext a
    apply Fin.ext
    match a with
    | ⟨0, _⟩ =>
      exact (ValueKit.rect_emb_unit_val _ _ (k0_off1_inb i) _ _).trans (tile_word i)
  show ![BitVec.toNat (pf 0 _), (0#32).toNat, (BitVec.ofNat 32 (i 1).val).toNat] = _
  rw [col_word]
  exact congrArg (fun z => ![BitVec.toNat (pf 0 z : BitVec 32), 0, (i 1).val]) e

/-- Tables of expert numbers naming an expert keep every weight block inside its array. -/
theorem ok_of_expert (pf : pre0.Contents (Elt F)) (h : ∀ n, (expertAt pf n).toNat < 8) : ok0 pf := by
  have hb : ∀ i : grid0.Coords, ∀ a, (cc0_transform_1 k0_off1_inb numel1_S1 pf i a + 1) * S1x7168x512.size a ≤ S8x7168x2048.size a := by
    intro i a
    rw [weight_index]
    have h0 := h (i 0)
    have h1 : (i 1).val < 4 := (i 1).isLt
    match a with
    | ⟨0, _⟩ => show ((expertAt pf (i 0)).toNat + 1) * 1 ≤ 8; omega
    | ⟨1, _⟩ => show (0 + 1) * 7168 ≤ 7168; omega
    | ⟨2, _⟩ => show ((i 1).val + 1) * 512 ≤ 2048; omega
  unfold ok0
  exact fun i => ⟨hb i, .inr (Affine.block_words_dvd (of_decide_eq_true rfl) (by decide))⟩

end Cert.DownIdeal.Down
end
-- ==== Proof.Shared.PreDown.lean ====
/-
  What the down projection's precondition says: every expert number is below 8, read as a natural.
-/
module

public import proofs.«01_k».proof.Pre_experts_named
public import Idealize.ShloMosaic.Lib.ReduceAll
public import Idealize.ShloMosaic.Lib.WordCmp
public import Idealize.ShloMosaic.Lib.IdealHost

@[expose] public section

noncomputable section

namespace Cert.Proof.Shared

open Idealize.ShloMosaic Cert.Pre_experts_named

variable [Cert.Pre_experts_named.Facts] {F : FTy → Type} [FloatOps F]

/-- Under the precondition every entry of the down projection's table is an expert number below 8. -/
theorem named_lt {a0 : FVec F S53248x7168 .bf16} {a1 : FVec F S8x7168x2048 .bf16} {a2 : IVec S104 32} {a3 : IVec S1 32}
    (h : Cert.Pre_experts_named.fn a0 a1 a2 a3 = fun _ => 1#1) (x : S104.Idx) : (a2 x).toNat < 8 := by
  have hj := congrFun h (fun i => i.elim0)
  unfold Cert.Pre_experts_named.fn at hj
  haveI : Subsingleton S_.Idx := ⟨fun a b => funext fun i => i.elim0⟩
  have hx : IntOp.andi (IntOp.cmpi .sge (a2 x) 0#32) (IntOp.cmpi .slt (a2 x) (BitVec.ofNat 32 8)) = 1#1 :=
    Host.reduce_andi_all _ _ _ _ _ hj x
  rw [WordCmp.andi_sge_zero_slt_ofNat (by norm_num)] at hx
  exact of_decide_eq_true ((WordCmp.ofBool_eq_one_iff _).mp hx)

end Cert.Proof.Shared

end
-- ==== Proof.Down.Pre.lean ====
/-
  The down projection's precondition, read at the idealized program's launch memory.
-/
module
public import proofs.«01_k».proof.Defs
public import proofs.«01_k».proof.Proof.Down.Points
public import proofs.«01_k».proof.Proof.Shared.PreDown
@[expose] public section
namespace Cert.DownIdeal.Down
open Cert.DownIdeal Cert.DownIdeal.Gen
open Idealize.ShloMosaic Idealize.ShloMosaic.TcCoe

/-- A launch memory under the precondition names an expert in every tile. -/
theorem named_of_pre [Cert.Pre_experts_named.Facts] {m : (ℓ : Loc nD τ sig) → Buf (Elt Ideal) ℓ} (h : Cert.Pre_DownIdeal m) : ExpertsNamed m :=
  fun c x => Cert.Proof.Shared.named_lt (h c) x

end Cert.DownIdeal.Down
-- ==== Proof.Down.Frame.lean ====
/-
  The down projection's run: each point leaves its block of the result, and the launch leaves the arguments unchanged and
  every counter at zero.
-/
module
public import proofs.«01_k».proof.Proof.Down.Points
public import Idealize.ShloMosaic.Lib.Pipeline.TableIdle
@[expose] public section
noncomputable section
namespace Cert.DownIdeal.Down
open Cert.Proof.Shared (Active)
open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]
local notation "𝕄" => MT nD τ sig Unit (Elt F) ℕ (Pipeline.UD sig nD τ) ℕ

variable {m : (ℓ : Loc nD τ sig) → Buf (Elt F) ℓ} (H : ExpertsNamed m)

/-- The launch contents of a buffer. -/
abbrev V (m : (ℓ : Loc nD τ sig) → Buf (Elt F) ℓ) (c : Dev nD) (b : Ref sig .tc) : Buf (Elt F) ((c : Thread nD τ).loc b) := m ((c : Thread nD τ).loc b)

/-- The one device. -/
abbrev dev0 : Dev nD := ⟨0, by decide⟩
/-- There is no other device. -/
theorem dev_eq (c : Dev nD) : c = dev0 := by
  have : nD = 1 := rfl
  exact Fin.ext (by have := c.isLt; omega)

/-- The tables at launch. -/
def tabs (m : (ℓ : Loc nD τ sig) → Buf (Elt F) ℓ) : pre0.Contents (Elt F) := fun k => V m dev0 (pre0.ref k)

include H in
/-- The launch tables keep every weight block inside its array. -/
theorem tabs_ok : ok0 (tabs m) := ok_of_expert _ fun n => H dev0 (ValueIdx.ix1 n)

/-- The tables as the pipeline takes them, -/
def adm : (pcfg0 (F := F)).Adm := ⟨tabs m, tabs_ok H⟩
/-- and the pipeline at them. -/
abbrev cfgA : Pipeline.Cfg sig Λ₀ := cfg0 (F := F) (adm H)

/-- The word the body compares tiles with. -/
abbrev nUsed (m : (ℓ : Loc nD τ sig) → Buf (Elt F) ℓ) : BitVec 32 := used (tabs m 1)

/-- A point's coordinates. -/
abbrev crd (t : Fin (cfgA H).N) : (cfgA H).grid.Coords := (cfgA H).grid.coords t
/-- The staging buffer of the activations, -/
abbrev st0 (t : Fin (cfgA H).N) : Memref sig .tc .vmem S512x7168 .bf16 := spec0_0.stage ((cfgA H).slots t (0 : Fin 3))
/-- which is a whole buffer; -/
abbrev hst0 (t : Fin (cfgA H).N) : (st0 H t).IsWhole := hstage0_0 (((cfgA H).slots t (0 : Fin 3)).cast nbuf0_0)
/-- of the weights, -/
abbrev st1 (t : Fin (cfgA H).N) : Memref sig .tc .vmem S1x7168x512 .bf16 := spec0_1.stage ((cfgA H).slots t (1 : Fin 3))
/-- whole too; -/
abbrev hst1 (t : Fin (cfgA H).N) : (st1 H t).IsWhole := hstage0_1 (((cfgA H).slots t (1 : Fin 3)).cast nbuf0_1)
/-- and of the result, -/
abbrev st2 (t : Fin (cfgA H).N) : Memref sig .tc .vmem S512x512 .f32 := spec0_2.stage ((cfgA H).slots t (2 : Fin 3))
/-- whole too. -/
abbrev hst2 (t : Fin (cfgA H).N) : (st2 H t).IsWhole := hstage0_2 (((cfgA H).slots t (2 : Fin 3)).cast nbuf0_2)

/-- A window's block at a point, read off its array at launch. -/
def iblk (c : Dev nD) (w : Fin (cfgA H).W) (t : Fin (cfgA H).N) : (((cfgA H).win w).xblock (crd H t)).Idx → Elt F ((cfgA H).win w).elt :=
  (((cfgA H).win w).blk t).view.read (Elt F) (V m c (Pipeline.arrRef (cfgA H).spec w))

/-- A point's tile. -/
def tile (t : Fin (cfgA H).N) : Fin 104 := (crd H t) 0
/-- Each tile has four points. -/
theorem tile_val (t : Fin (cfgA H).N) : (tile H t).val = t.val / 4 := coords_tile t

/-- What the output's block holds after a point. -/
def outAt (c : Dev nD) (t : Fin (cfgA H).N) : S512x512.Idx → Elt F .f32 :=
  if Active (tile H t).val (nUsed m) then k0_pay1 (iblk H c (0 : Fin 3) t) (iblk H c (1 : Fin 3) t) else k0_pay2 (F := F)

/-- What stays with the body from point to point: the generator register and the tables. -/
def Inv (m : (ℓ : Loc nD τ sig) → Buf (Elt F) ℓ) (c : Dev nD) : sProp 𝕄 :=
  iprop((∃ r, prngReg c r)
    ∗ (tbExpert.view.loc (c : Thread nD τ) ↦{fullShare.right} tabs m 0)
    ∗ (tbUsed.view.loc (c : Thread nD τ) ↦{fullShare.right} tabs m 1))

/-- The pipeline's proof data. -/
def dats (_ : Fin 1) (c : Dev nD) : Dat τ (Elt F) Unit ℕ (Pipeline.UD sig nD τ) ℕ (cfgA H) c where
  A w := V m c (Pipeline.arrRef (cfgA H).spec w)
  after w t := match w with
    | ⟨0, _⟩ => iblk H c (0 : Fin 3) t
    | ⟨1, _⟩ => iblk H c (1 : Fin 3) t
    | ⟨2, _⟩ => outAt H c t
  Φ _ := Inv m c
  q _ := fullShare
  owed _ := 0

/-- The body leaves the activations as they were, -/
theorem after_0 (c : Dev nD) (t : Fin (cfgA H).N) : (dats H 0 c).after (0 : Fin 3) t = iblk H c (0 : Fin 3) t := rfl
/-- the weights too, -/
theorem after_1 (c : Dev nD) (t : Fin (cfgA H).N) : (dats H 0 c).after (1 : Fin 3) t = iblk H c (1 : Fin 3) t := rfl
/-- and the result's block at its value. -/
theorem after_2 (c : Dev nD) (t : Fin (cfgA H).N) : (dats H 0 c).after (2 : Fin 3) t = outAt H c t := rfl

/-- An input's staging buffer holds its block when the body runs: the activations', -/
theorem before_0 (c : Dev nD) (t : Fin (cfgA H).N) (d) : (dats H 0 c).before (0 : Fin 3) t d = iblk H c (0 : Fin 3) t :=
  ((dats H 0 c).before_in_eq_fetched (0 : Fin 3) rfl (fun _ => rfl) (fun _ _ _ => rfl) (fun t => by rw [after_0]; unfold Dat.blockOf iblk; rfl) t d).trans
    (by unfold Dat.fetched Dat.blockOf iblk; rfl)
/-- and the weights'. -/
theorem before_1 (c : Dev nD) (t : Fin (cfgA H).N) (d) : (dats H 0 c).before (1 : Fin 3) t d = iblk H c (1 : Fin 3) t :=
  ((dats H 0 c).before_in_eq_fetched (1 : Fin 3) rfl (fun _ => rfl) (fun _ _ _ => rfl) (fun t => by rw [after_1]; unfold Dat.blockOf iblk; rfl) t d).trans
    (by unfold Dat.fetched Dat.blockOf iblk; rfl)

/-- The body at a point, as the pipeline calls it. -/
abbrev bodyAt (t : Fin (cfgA H).N) : Prog (TpuEff nD τ sig (Elt F) Λ₀ .tc) PUnit :=
  cc0_moe_expert_down (crd H t) tbExpert (Memref.isWhole_whole _) tbUsed (Memref.isWhole_whole _) (st0 H t) (hst0 H t) (st1 H t) (hst1 H t) (st2 H t) (hst2 H t)

/-- What a point starts from. -/
def ptPre (c : Dev nD) (t : Fin (cfgA H).N) : sProp 𝕄 :=
  iprop(Inv m c ∗ (∃ W, owes (c : Thread nD τ) 0 W)
    ∗ owns (c : Thread nD τ) (st0 H t) fullShare (iblk H c (0 : Fin 3) t)
    ∗ owns (c : Thread nD τ) (st1 H t) fullShare (iblk H c (1 : Fin 3) t)
    ∗ (∃ d, owns (c : Thread nD τ) (st2 H t) fullShare d))
/-- What a point leaves. -/
def ptPost (c : Dev nD) (t : Fin (cfgA H).N) : sProp 𝕄 :=
  iprop(Inv m c ∗ (∃ W, owes (c : Thread nD τ) 0 W)
    ∗ owns (c : Thread nD τ) (st0 H t) fullShare (iblk H c (0 : Fin 3) t)
    ∗ owns (c : Thread nD τ) (st1 H t) fullShare (iblk H c (1 : Fin 3) t)
    ∗ owns (c : Thread nD τ) (st2 H t) fullShare (outAt H c t))

/-- The body at a point, in each of its two cases. -/
theorem point (c : Dev nD) (t : Fin (cfgA H).N) :
    ptPre H c t ⊢ wp frame (wpE (defs₀ (F := F)) Variants.none c none) Set.univ (bodyAt H t) (fun _ => ptPost H c t) := by
  unfold ptPre ptPost Inv
  iintro ⟨⟨Hr, HT0, HT1⟩, ⟨%W, HO⟩, H0, H1, H2⟩
  by_cases ha : Active (tile H t).val (nUsed m)
  · have h1 : k0_cond1 (crd H t) (nUsed m) = 1#1 := (cond1_iff _ _).2 ha
    have h2 : ¬ k0_cond2 (crd H t) (nUsed m) = 1#1 := fun h => (cond2_iff _ _).1 h ha
    have ho : outAt H c t = k0_pay1 (iblk H c (0 : Fin 3) t) (iblk H c (1 : Fin 3) t) := if_pos ha
    iapply (run_used c (crd H t) (st0 H t) (hst0 H t) (st1 H t) (hst1 H t) (st2 H t) (hst2 H t) (tabs m 1)
      (iblk H c (0 : Fin 3) t) (iblk H c (1 : Fin 3) t) h1 h2 _)
    isplitl [H0]; · iapply rep_of_owns; iexact H0
    isplitl [H1]; · iapply rep_of_owns; iexact H1
    isplitl [HT1]; · iexact HT1
    isplitl [H2]; · iexact H2
    rw [ho]
    iintro ⟨H0, H1, HT1, H2⟩
    isplitl [Hr HT0 HT1]
    · isplitl [Hr]; · iexact Hr
      isplitl [HT0] <;> iassumption
    isplitl [HO]; · iexists _; iexact HO
    isplitl [H0]; · iapply owns_of_rep; iexact H0
    isplitl [H1]; · iapply owns_of_rep; iexact H1
    iexact H2
  · have h1 : ¬ k0_cond1 (crd H t) (nUsed m) = 1#1 := fun h => ha ((cond1_iff _ _).1 h)
    have h2 : k0_cond2 (crd H t) (nUsed m) = 1#1 := (cond2_iff _ _).2 ha
    have ho : outAt H c t = k0_pay2 (F := F) := if_neg ha
    iapply (run_zero c (crd H t) (st0 H t) (hst0 H t) (st1 H t) (hst1 H t) (st2 H t) (hst2 H t) (tabs m 1) h1 h2 _)
    isplitl [HT1]; · iexact HT1
    isplitl [H2]; · iexact H2
    rw [ho]
    iintro ⟨HT1, H2⟩
    isplitl [Hr HT0 HT1]
    · isplitl [Hr]; · iexact Hr
      isplitl [HT0] <;> iassumption
    isplitl [HO]; · iexists _; iexact HO
    isplitl [H0]; · iexact H0
    isplitl [H1]; · iexact H1
    iexact H2

/-! ## The launch -/

/-- The body table's row at a point is the body as `bodyAt` spells it. -/
theorem defs₀_row (t : Fin (cfgA H).N) :
    defs₀ (F := F) .tc (cfgA H).body ((cfgA H).bodyArgs t ((cfgA H).slots t)) = bodyAt H t := by
  unfold defs₀; rw [Defs.onTc_tc]

/-- What the pipeline hands the body entails what `point` starts from, -/
theorem ptPre_of (c : Dev nD) (t : Fin (cfgA H).N) :
    iprop((dats H 0 c).Φ t.castSucc ∗ (dats H 0 c).owesAt () t.castSucc
        ∗ (∃ d, owns (c : Thread nD τ) (st0 H t) fullShare ((dats H 0 c).before (0 : Fin 3) t d))
        ∗ (∃ d, owns (c : Thread nD τ) (st1 H t) fullShare ((dats H 0 c).before (1 : Fin 3) t d))
        ∗ (∃ d, owns (c : Thread nD τ) (st2 H t) fullShare ((dats H 0 c).before (2 : Fin 3) t d)))
      ⊢ ptPre H c t := by
  unfold ptPre Dat.owesAt Pipeline.owesWithin
  rw [show (dats H 0 c).owed t.castSucc = 0 from rfl, show (dats H 0 c).Φ t.castSucc = Inv m c from rfl]
  simp only [before_0, before_1]
  iintro ⟨HI, ⟨%W, %hW, HO⟩, ⟨%d0, H0⟩, ⟨%d1, H1⟩, ⟨%d2, H2⟩⟩
  isplitl [HI]; · iexact HI
  isplitl [HO]; · iexists W; iexact HO
  isplitl [H0]; · iexact H0
  isplitl [H1]; · iexact H1
  iexists _; iexact H2

/-- and what it leaves is what the pipeline expects back. -/
theorem of_ptPost (c : Dev nD) (t : Fin (cfgA H).N) :
    ptPost H c t ⊢ iprop((dats H 0 c).Φ t.succ ∗ (dats H 0 c).owesAt () t.succ
        ∗ owns (c : Thread nD τ) (st0 H t) fullShare ((dats H 0 c).after (0 : Fin 3) t)
        ∗ owns (c : Thread nD τ) (st1 H t) fullShare ((dats H 0 c).after (1 : Fin 3) t)
        ∗ owns (c : Thread nD τ) (st2 H t) fullShare ((dats H 0 c).after (2 : Fin 3) t)) := by
  unfold ptPost Dat.owesAt Pipeline.owesWithin
  rw [show (dats H 0 c).owed t.succ = 0 from rfl, show (dats H 0 c).Φ t.succ = Inv m c from rfl, after_0, after_1, after_2]
  iintro ⟨HI, ⟨%W, HO⟩, H0, H1, H2⟩
  isplitl [HI]; · iexact HI
  isplitl [HO]
  · iexists W; isplitr; · ipureintro; exact fun _ _ => Or.inl trivial
    iexact HO
  isplitl [H0]; · iexact H0
  isplitl [H1]; · iexact H1
  iexact H2

/-- The library's body obligation, at every point. -/
theorem body_obligation (c : Dev nD) : BodyObligation (dats H 0 c) (defs₀ (F := F)) Variants.none () Set.univ := fun t => by
  rw [bigSep_W0, bigSep_W0, defs₀_row]
  have hi : ∀ w, (cfgA H).idle w ((cfgA H).grid.coords t) = false := fun w => never_idle _ _ w
  simp only [hi]
  rewrite [show idle0 (adm H).1 (2 : Fin 3) ((pcfg0.gridAt (adm H).1).coords t) = false from hi (2 : Fin 3)]
  exact triple_restated (point H c t) rfl (ptPre_of H c t) fun _ => of_ptPost H c t

/-- The body has no semaphore of its own. -/
abbrev ownSem : Fin 0 → SemLoc sig := fun k => k.elim0
/-- No window has one of those semaphores. -/
theorem ownSem_facts : Pipeline.OwnSemFacts spec0 ownSem := by decide

/-- The tables' shares, one by one. -/
theorem tables_eq (c : Dev nD) (q : Fin 2 → PosShare TreeShare) (v : pre0.Contents (Elt F)) :
    (Pipeline.prefHeld (Ix := Unit) (Name := ℕ) (U := Pipeline.UD sig nD τ) (Lvl := ℕ) pre0 c q v : sProp 𝕄)
      = iprop((((c : Thread nD τ).loc main_arg2) ↦{q 0} v 0) ∗ (((c : Thread nD τ).loc main_arg3) ↦{q 1} v 1)) := by
  unfold Pipeline.prefHeld
  rw [show (Finset.univ : Finset (Fin 2)) = insert (0 : Fin 2) {(1 : Fin 2)} from by decide,
    bigSep_insert (by decide), bigSep_singleton]
  rfl

/-- The launch gives the invariant before the first point. -/
theorem inv_intro (c : Dev nD) :
    iprop(Pipeline.ΦD ownSem spec0 ∅ (V m) c ∗ Pipeline.ΦT pre0 (tabs m) c) ⊢ (Inv m c : sProp 𝕄) := by
  rw [Pipeline.ΦD_eq]
  unfold Pipeline.ΦT
  rw [tables_eq]
  unfold Inv
  iintro ⟨⟨-, Hr, -, -⟩, HT0, HT1⟩
  isplitl [Hr]; · iexact Hr
  isplitl [HT0] <;> iassumption

/-- After the last point the launch has everything back. -/
theorem inv_exit (c : Dev nD) : (Inv m c : sProp 𝕄) ⊢ Pipeline.ΦD ownSem spec0 ∅ (V m) c := by
  rw [Pipeline.ΦD_eq, scopedRest0_eq, Pipeline.ownSems0_eq_of_list c ownSem [] (by decide) (by decide), bigSep_empty]
  unfold Inv
  iintro ⟨Hr, -, -⟩
  isplitr; · iempintro
  isplitl [Hr]; · iexact Hr
  isplitr <;> iempintro

/-- The tables hold their launch contents. -/
theorem tabs_eq (c : Dev nD) (k : Fin pre0.K) : V m c (pre0.ref k) = tabs m k := by
  rw [dev_eq c]; rfl

variable (ρ : Dev nD → PrngReg)

set_option backward.isDefEq.respectTransparency.types false in
/-- From a launch memory whose expert numbers name experts, every weakly fair execution of @main terminates, nothing faulting,
    with every array at what the pipeline writes, every other buffer unchanged and every semaphore counter at zero. -/
theorem run_main : θ_run (defs (F := F)) (onTc (τ := τ) (main (F := F))) ⟨m, fun _ => 0, ρ⟩
    (fun r => Pipeline.FramePost (Pipeline.pin pcfgs fun _ => adm H) (dats H) 0 (V m) r ∧ r.2.sem = fun _ => 0) :=
  Pipeline.θ_run_frameP_dma (Q' := _) pcfgs (fun _ => adm H) (dats H) (0 : Fin 1) launch0 ownSem defs₀ Variants.none ownSem_facts ∅ (Finset.empty_subset _) m ρ main
    (hbody := fun c => (body_obligation H c).loose) (hshare := fun c => (dats H 0 c).share_full fun _ => rfl)
    (howed := fun _ _ => rfl) (V := V m)
    (hmain := Pipeline.hmainP_region pcfgs 0 defs₀ Variants.none m main fun c => (main_chain c).trans rfl)
    (hA := fun _ _ => rfl) (hpf := fun c k => tabs_eq c k)
    (hin := fun c => inv_intro c)
    (hout := fun c => inv_exit c)

/-- The output array after the run. -/
def outArr (c : Dev nD) : Buf (Elt F) ((c : Thread nD τ).loc main_v0) := (dats H 0 c).arrAt (2 : Fin 3) (cfgA H).N

/-- The run: the result is the output array, the arguments are unchanged and the counters are zero. -/
theorem run : θ_run (defs (F := F)) (onTc (τ := τ) (main (F := F))) ⟨m, fun _ => 0, ρ⟩ (fun r => (∀ c : Dev nD,
      r.2.mem ((c.tc : Thread nD τ).loc main_v0) = outArr H c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run defs _ _).mono (fun r h => ⟨fun c => ⟨?_, ?_, ?_, ?_, ?_⟩, h.2⟩) (run_main H ρ)
  · exact (h.1 c).1 (2 : Fin 3)
  · exact ((h.1 c).1 (0 : Fin 3)).trans ((dats H 0 c).arrAt_in (0 : Fin 3) rfl _)
  · exact ((h.1 c).1 (1 : Fin 3)).trans ((dats H 0 c).arrAt_in (1 : Fin 3) rfl _)
  · exact (h.1 c).2 main_arg2 (Pipeline.mem_restRefs_of main_arg2 (by decide) (show ∀ w : Fin 3, (spec0 w).arr.view.ref ≠ main_arg2 from by decide))
  · exact (h.1 c).2 main_arg3 (Pipeline.mem_restRefs_of main_arg3 (by decide) (show ∀ w : Fin 3, (spec0 w).arr.view.ref ≠ main_arg3 from by decide))

end Cert.DownIdeal.Down
end
-- ==== Proof.Down.Value.lean ====
/-
  The down projection's result read at an index: the output's blocks tile the array, each point's block holds the
  products of its tile's rows with its block of columns of the tile's expert, and so the array is `downAt`.
-/
module
public import proofs.«01_k».proof.Proof.Down.Frame
public import proofs.«01_k».proof.Proof.Shared.Formula
@[expose] public section
noncomputable section
namespace Cert.DownIdeal.Down
open Cert.DownIdeal Cert.DownIdeal.Gen Cert.Proof.Shared
open Idealize.ShloMosaic Idealize.ShloMosaic.TcCoe
open Idealize.SL.Sem
open Idealize.ShloMosaic.Pipeline (Dat Cfg Window)

section Blocks
variable {F : FTy → Type} [FloatOps F] {m : (ℓ : Loc nD τ sig) → Buf (Elt F) ℓ} (H : ExpertsNamed m)

/-- A point's block of columns. -/
def colBlk (t : Fin (cfgA H).N) : Fin 4 := (crd H t) 1
/-- The blocks of columns follow one another within a tile. -/
theorem colBlk_val (t : Fin (cfgA H).N) : (colBlk H t).val = t.val % 4 := coords_col t

/-- Column `q` of a point's block of columns, in the array. -/
def colAt (t : Fin (cfgA H).N) (q : Fin 512) : Fin 2048 := ⟨(colBlk H t).val * 512 + q.val, by have := (colBlk H t).isLt; omega⟩
/-- Row `p` of a point's tile, in the array. -/
def rowHere (t : Fin (cfgA H).N) (p : Fin 512) : Fin 53248 := ⟨(tile H t).val * 512 + p.val, by have := (tile H t).isLt; omega⟩

/-- The expert of a point's tile. -/
def expertHere (t : Fin (cfgA H).N) : Fin 8 := ⟨BitVec.toNat (V m dev0 main_arg2 (ValueIdx.ix1 (tile H t)) : BitVec 32), H dev0 _⟩

/-- The activations' block at a point: its tile's rows. -/
theorem iblk_act (c : Dev nD) (t : Fin (cfgA H).N) (p : Fin 512) (k : Fin 7168) :
    (iblk H c (0 : Fin 3) t : S512x7168.Idx → Elt F .bf16) (ix2 p k) = V m c main_arg0 (ix2 (rowHere H t p) k) := by
  unfold iblk
  refine (View.read_apply _ _).trans ?_
  refine congrArg (V m c main_arg0) ?_
  have hi : ((cfgA H).win (0 : Fin 3)).index t = ![(tile H t).val, 0] := by
    show ![(BitVec.ofNat 32 (crd H t 0).val).toNat, 0] = _
    rw [tile_word]
    rfl
  funext a
  apply Fin.ext
  refine (Window.rect_emb_val ((cfgA H).win (0 : Fin 3)) t (ix2 p k) a).trans ?_
  rw [hi]
  match a with
  | ⟨0, _⟩ => rfl
  | ⟨1, _⟩ =>
    show 0 * 7168 + k.val = k.val
    omega

/-- The weights' block at a point: the tile's expert's matrix, at the point's block of columns. -/
theorem iblk_weight (c : Dev nD) (t : Fin (cfgA H).N) (k : Fin 7168) (q : Fin 512) :
    (iblk H c (1 : Fin 3) t : S1x7168x512.Idx → Elt F .bf16) (ix3 0 k q) = V m c main_arg1 (ix3 (expertHere H t) k (colAt H t q)) := by
  unfold iblk
  refine (View.read_apply _ _).trans ?_
  refine congrArg (V m c main_arg1) ?_
  have hi : ((cfgA H).win (1 : Fin 3)).index t = ![(expertHere H t).val, 0, (colBlk H t).val] := weight_index (tabs m) (crd H t)
  funext a
  apply Fin.ext
  refine (Window.rect_emb_val ((cfgA H).win (1 : Fin 3)) t (ix3 0 k q) a).trans ?_
  rw [hi]
  match a with
  | ⟨0, _⟩ =>
    show (expertHere H t).val * 1 + 0 = (expertHere H t).val
    omega
  | ⟨1, _⟩ =>
    show 0 * 7168 + k.val = k.val
    omega
  | ⟨2, _⟩ => rfl

/-- The output's block index at a point. -/
theorem out_index (t : Fin (cfgA H).N) : ((cfgA H).win (2 : Fin 3)).index t = ![(tile H t).val, (colBlk H t).val] := by
  show ![(BitVec.ofNat 32 (crd H t 0).val).toNat, (BitVec.ofNat 32 (crd H t 1).val).toNat] = _
  rw [tile_word, col_word]
  rfl

/-- Every point writes its block back: the next point's block is another one. -/
theorem flush_all : ∀ t : Fin grid0.N, Window.flushOf grid0 true cc0_transform_2 t = true := by
  intro t
  unfold Window.flushOf
  by_cases hl : t.val + 1 = grid0.N
  · simp [hl]
  · have hlt : t.val + 1 < grid0.N := by have := t.isLt; omega
    have hne : cc0_transform_2 (grid0.coords ⟨t.val + 1, hlt⟩) ≠ cc0_transform_2 (grid0.coords t) := by
      intro h
      have h1 := congrFun h 1
      have e : ∀ i : grid0.Coords, cc0_transform_2 i 1 = (i 1).val := fun i => col_word i
      rw [e, e, coords_col, coords_col] at h1
      change (t.val + 1) % 4 = t.val % 4 at h1
      omega
    simp [hlt, hne]

/-- The written-back blocks cover the array. -/
theorem out_covers : ((cfgA H).win (2 : Fin 3)).Covers := by
  refine ⟨show ∀ a : Fin 2, 0 < S512x512.size a from by decide, fun β => ?_⟩
  have h0 : (β (0 : Fin 2)).val < 104 := Nat.lt_of_lt_of_eq (β (0 : Fin 2)).isLt (show (53248 + 512 - 1) / 512 = 104 by norm_num)
  have h1 : (β (1 : Fin 2)).val < 4 := Nat.lt_of_lt_of_eq (β (1 : Fin 2)).isLt (show (2048 + 512 - 1) / 512 = 4 by norm_num)
  refine ⟨⟨4 * (β (0 : Fin 2)).val + (β (1 : Fin 2)).val, Nat.lt_of_lt_of_eq (by omega : _ < 416) N_0.symm⟩, (Window.flush_eq_flushOf _ _).trans (flush_all _), fun a => ⟨?_, .inl rfl⟩⟩
  rw [out_index]
  match a with
  | ⟨0, _⟩ => exact (tile_val H _).trans (show (4 * (β (0 : Fin 2)).val + (β (1 : Fin 2)).val) / 4 = (β (0 : Fin 2)).val by omega)
  | ⟨1, _⟩ => exact (colBlk_val H _).trans (show (4 * (β (0 : Fin 2)).val + (β (1 : Fin 2)).val) % 4 = (β (1 : Fin 2)).val by omega)

end Blocks

/-! ## Over the reals -/

variable {m : (ℓ : Loc nD τ sig) → Buf (Elt Ideal) ℓ} (H : ExpertsNamed m)

/-- The body's product at an index. -/
theorem product_apply (a : FVec Ideal S512x7168 .bf16) (b : FVec Ideal S1x7168x512 .bf16) (p q : Fin 512) :
    (k0_pay1 (F := Ideal) a b : FVec Ideal S512x512 .f32) (ix2 p q) = ∑ k : Fin 7168, a (ix2 p k) * b (ix3 0 k q) := by
  pointwise [k0_pay1]

/-- What a point leaves in the output's block, at an index. -/
theorem outAt_apply (c : Dev nD) (t : Fin (cfgA H).N) (p q : Fin 512) :
    (outAt H c t : FVec Ideal S512x512 .f32) (ix2 p q)
      = downAt (V m c main_arg0) (V m c main_arg1) (V m c main_arg2) (V m c main_arg3) (rowHere H t p) (colAt H t q) := by
  have hdiv : (rowHere H t p).val / 512 = (tile H t).val := by
    show ((tile H t).val * 512 + p.val) / 512 = _; have := p.isLt; omega
  have hE : expertOf (V m c main_arg2) (rowHere H t p) = expertHere H t := by
    obtain rfl := dev_eq c
    have hidx : (ix1 ⟨(rowHere H t p).val / 512, by have := (rowHere H t p).isLt; omega⟩ : S104.Idx) = ValueIdx.ix1 (tile H t) := by
      funext a
      match a with
      | ⟨0, _⟩ => exact Fin.ext hdiv
    apply Fin.ext
    show min (BitVec.toNat (V m dev0 main_arg2 (ix1 ⟨(rowHere H t p).val / 512, _⟩) : BitVec 32)) 7 = BitVec.toNat (V m dev0 main_arg2 (ValueIdx.ix1 (tile H t)) : BitVec 32)
    rw [hidx]
    exact Nat.min_eq_left (Nat.le_of_lt_succ (H dev0 (ValueIdx.ix1 (tile H t))))
  have hU : nUsed m = V m c main_arg3 (ix1 0) := by
    obtain rfl := dev_eq c
    refine congrArg (V m dev0 main_arg3) ?_
    funext a
    match a with
    | ⟨0, _⟩ => exact Subsingleton.elim (α := Fin 1) _ _
  unfold outAt downAt
  by_cases h : Active (tile H t).val (nUsed m)
  · have h' : (BitVec.ofNat 32 ((rowHere H t p).val / 512)).slt (V m c main_arg3 (ix1 0)) = true := by
      rw [hdiv, ← hU]; exact h
    rw [if_pos h, if_pos h', hE, product_apply]
    exact Finset.sum_congr (M := Ideal .f32) rfl fun k _ => congrArg₂ (fun x y : Ideal .f32 => x * y)
      (iblk_act H c t p k) (iblk_weight H c t k q)
  · have h' : ¬ (BitVec.ofNat 32 ((rowHere H t p).val / 512)).slt (V m c main_arg3 (ix1 0)) = true := by
      rw [hdiv, ← hU]; exact h
    rw [if_neg h, if_neg h']
    pointwise [k0_pay2]

/-- THE DOWN PROJECTION'S RESULT: `downAt` of the arguments, at every index. -/
theorem outArr_eq (c : Dev nD) : outArr H c = (fun y : S53248x2048.Idx =>
    downAt (m ((c.tc : Thread nD τ).loc main_arg0)) (m ((c.tc : Thread nD τ).loc main_arg1)) (m ((c.tc : Thread nD τ).loc main_arg2))
      (m ((c.tc : Thread nD τ).loc main_arg3)) (y 0) (y 1)) := by
  unfold outArr
  refine Dat.arrAt_eq_of_covers (dats H 0 c) (2 : Fin 3) _ (out_covers H) (fun t _ y => ?_)
  obtain ⟨p, q, rfl⟩ : ∃ (p : Fin 512) (q : Fin 512), y = ix2 p q := ⟨y 0, y 1, eq_ix2 y⟩
  refine (outAt_apply H c t p q).trans ?_
  have e0 : (((cfgA H).win (2 : Fin 3)).rect t).emb (ix2 p q) (0 : Fin 2) = rowHere H t p :=
    Fin.ext ((Window.rect_emb_val ((cfgA H).win (2 : Fin 3)) t (ix2 p q) (0 : Fin 2)).trans (by rw [out_index]; rfl))
  have e1 : (((cfgA H).win (2 : Fin 3)).rect t).emb (ix2 p q) (1 : Fin 2) = colAt H t q :=
    Fin.ext ((Window.rect_emb_val ((cfgA H).win (2 : Fin 3)) t (ix2 p q) (1 : Fin 2)).trans (by rw [out_index]; rfl))
  exact congrArg₂ (fun (r : Fin 53248) (s : Fin 2048) => downAt _ _ _ _ r s) e0.symm e1.symm

end Cert.DownIdeal.Down
end
-- ==== Proof.DownKernel.Same.lean ====
/-
  The compiled down projection and the idealized one are one program, printed in two modules: no rewrite was applied. So the run proved
  of the idealized one, over any floats, is a run of the compiled one.
-/
module
public import proofs.«01_k».proof.Proof.Gen.Down
public import proofs.«01_k».proof.Proof.Down.Frame
@[expose] public section
noncomputable section

namespace Cert.Proof.DownKernel
open Idealize.ShloMosaic Idealize.ShloMosaic.TcCoe

variable {F : FTy → Type} [FloatOps F] [Cert.Down.Facts] [Cert.DownIdeal.Facts]

/-- The bodies are one. -/
theorem body_eq : Cert.Down.defs₀ (F := F) = Cert.DownIdeal.defs₀ (F := F) := by
  unfold Cert.Down.defs₀ Cert.DownIdeal.defs₀
  refine congrArg Defs.onTc (funext fun l => funext fun x => ?_)
  match l, x with
  | 0, (t, s) => rfl

/-- The calls are one. -/
theorem defs_eq : Cert.Down.defs (F := F) = Cert.DownIdeal.defs (F := F) := congrArg (Pipeline.defs Cert.Down.pcfgs) body_eq

/-- The launches are one. -/
theorem main_eq : Cert.Down.main (F := F) = Cert.DownIdeal.main (F := F) := rfl

end Cert.Proof.DownKernel
end
-- ==== Proof.DownRef.Value.lean ====
/-
  The down projection's reference read at an index: `out[r, q]` is row `r` times the tile's expert's matrix, or 0 in a
  tile past the used ones.
-/
module

public import proofs.«01_k».proof.Proof.Gen.DownReferenceIdeal.Run
public import Idealize.ShloMosaic.Lib.Pointwise
public import Idealize.ShloMosaic.Lib.WordCmp
public import proofs.«01_k».proof.Proof.Shared.Formula

@[expose] public section

noncomputable section

namespace Cert.DownReferenceIdeal.Value

open Cert.DownReferenceIdeal Cert.DownReferenceIdeal.Gen
open Idealize.ShloMosaic Idealize.ShloMosaic.TcCoe Idealize.SL.Sem Idealize.ShloMosaic.StableHlo Cert.Proof.Shared

/-- The word a row's expert is compared as: the tile's expert in a used tile, -1 elsewhere. -/
def word (te : IVec ⟨1, ![104]⟩ 32) (nu : IVec ⟨1, ![1]⟩ 32) (r : Fin 53248) : BitVec 32 :=
  Scalar.select (IntOp.cmpi .slt (BitVec.ofNat 32 (r.val / 512)) (nu (ix1 0))) (te (ix1 ⟨r.val / 512, by omega⟩)) 4294967295#32

/-- The two cases of that word. -/
theorem word_eq (te : IVec ⟨1, ![104]⟩ 32) (nu : IVec ⟨1, ![1]⟩ 32) (r : Fin 53248) : word te nu r
    = if (BitVec.ofNat 32 (r.val / 512)).slt (nu (ix1 0)) = true then te (ix1 ⟨r.val / 512, by omega⟩) else 4294967295#32 := by
  unfold word Scalar.select IntOp.cmpi
  cases (BitVec.ofNat 32 (r.val / 512)).slt (nu (ix1 0)) <;> simp

/-- A row of `act` times an expert's matrix. -/
def rowTimes (act : FVec Ideal ⟨2, ![53248, 7168]⟩ .bf16) (wd : FVec Ideal ⟨3, ![8, 7168, 2048]⟩ .bf16) (r : Fin 53248) (q : Fin 2048)
    (e : Fin 8) : Ideal .f32 := ∑ k : Fin 7168, act (ix2 r k) * wd (ix3 e k q)

set_option maxRecDepth 8192 in
/-- THE REFERENCE'S RUN, read at an index: the result holds `downAt` of the arguments and the arguments are unchanged. -/
theorem run_downAt (m : (ℓ : Loc nD τ sig) → Buf (Elt Ideal) ℓ) (ρ : Dev nD → PrngReg)
    (hte : ∀ (c : Dev nD) (x : S104.Idx), BitVec.toNat (m ((c.tc : Thread nD τ).loc main_arg2) x : BitVec 32) < 8) :
    θ_run defs (onTc (τ := τ) (main (F := Ideal))) ⟨m, fun _ => 0, ρ⟩ fun r => ∀ c : Dev nD,
      r.2.mem ((c.tc : Thread nD τ).loc main_v65) = (fun y : S53248x2048.Idx =>
          downAt (m ((c.tc : Thread nD τ).loc main_arg0)) (m ((c.tc : Thread nD τ).loc main_arg1)) (m ((c.tc : Thread nD τ).loc main_arg2))
            (m ((c.tc : Thread nD τ).loc main_arg3)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (run m ρ)
  funext y
  obtain ⟨r, q, rfl⟩ : ∃ (r : Fin 53248) (q : Fin 2048), y = ix2 r q := ⟨y 0, y 1, eq_ix2 y⟩
  refine Eq.trans ?_ (choose _ _ _ (hte c _) (word_eq (m ((c.tc : Thread nD τ).loc main_arg2)) (m ((c.tc : Thread nD τ).loc main_arg3)) r)
    (rowTimes (m ((c.tc : Thread nD τ).loc main_arg0)) (m ((c.tc : Thread nD τ).loc main_arg1)) r q))
  pointwise [res_main_v65, word, rowTimes]
  rfl

end Cert.DownReferenceIdeal.Value

end
-- ==== Proof.Ffn.Value.lean ====
/-
  The dense block's norm and gated product: the kernel's result read at an index is `ffnAt` of the arguments. At the first
  block of columns of a block of rows the body norms the rows into its scratch, which it keeps for the other blocks.
-/
module
public import proofs.«01_k».proof.Proof.Gen.FfnIdeal.Value
public import proofs.«01_k».proof.Proof.Shared.Formula
public import Idealize.ShloMosaic.Lib.Pipeline.ValueKit
public import Idealize.ShloMosaic.Lib.VecWindow
@[expose] public section
noncomputable section

namespace Cert.FfnIdeal.Dense
open Cert.FfnIdeal Cert.FfnIdeal.Gen Cert.Proof.Shared
open Idealize.ShloMosaic Idealize.ShloMosaic.TcCoe
open Idealize.SL.Sem
open Idealize.ShloMosaic.Pipeline (Dat Cfg Window)

section Blocks
variable {F : FTy → Type} [FloatOps F] (m : (ℓ : Loc nD τ sig) → Buf (Elt F) ℓ)

section Body
variable (c : Dev nD) (i : grid0.Coords) (arg2 : Memref sig .tc .vmem S512x2048 .f32) (harg2 : arg2.IsWhole)
  (arg3 : Memref sig .tc .vmem S1x2048 .f32) (harg3 : arg3.IsWhole) (arg4 : Memref sig .tc .vmem S2048x1024 .bf16) (harg4 : arg4.IsWhole)
  (arg5 : Memref sig .tc .vmem S2048x1024 .bf16) (harg5 : arg5.IsWhole) (arg6 : Memref sig .tc .vmem S512x1024 .bf16) (harg6 : arg6.IsWhole)
  (arg7 : Memref sig .tc .vmem S512x2048 .bf16) (harg7 : arg7.IsWhole)
  (x0 : Vec F S512x2048 .f32) (x1 : Vec F S1x2048 .f32) (x2 x3 : Vec F S2048x1024 .bf16) (xs : Vec F S512x2048 .bf16)

/-- A first block of columns leaves the normed rows in the scratch, -/
theorem scratch_first (hc : cond0_0 i) :
    sout0_A_0 c i arg2 harg2 arg3 harg3 arg4 harg4 arg5 harg5 arg6 harg6 arg7 harg7 hc x0 x1 x2 x3 = k0_pay1 x0 x1 := by
  unfold sout0_A_0 kernelRun0_A
  refine (View.read_writes_full _ _ inb_S512x2048_S512x2048_0_0 _ []).trans ?_
  rw [View.readAt_full, View.readAt_full, harg2.read_unread, harg3.read_unread]

/-- and the gated product of those in the output's block; -/
theorem out_first (hc : cond0_0 i) :
    out0_A_4 c i arg2 harg2 arg3 harg3 arg4 harg4 arg5 harg5 arg6 harg6 arg7 harg7 hc x0 x1 x2 x3 = k0_pay2 (k0_pay1 x0 x1) x2 x3 := by
  unfold out0_A_4 kernelRun0_A
  refine (View.read_writes_full _ _ inb_S512x1024_S512x1024_0_0 _ []).trans ?_
  sl_unfold_words
  rw [View.readCov_full, View.readAt_full, View.readAt_full, View.readAt_full, View.readAt_full, harg2.read_unread, harg3.read_unread, harg4.read_unread, harg5.read_unread]

/-- another block of columns leaves the gated product of what the scratch holds. -/
theorem out_next (hc : ¬ cond0_0 i) :
    out0_B_4 c i arg2 harg2 arg3 harg3 arg4 harg4 arg5 harg5 arg6 harg6 arg7 harg7 hc x0 x1 x2 x3 xs = k0_pay2 xs x2 x3 := by
  unfold out0_B_4 kernelRun0_B
  refine (View.read_writes_full _ _ inb_S512x1024_S512x1024_0_0 _ []).trans ?_
  rw [View.readAt_full, View.readAt_full, View.readAt_full, harg4.read_unread, harg5.read_unread, harg7.read_unread]
end Body

/-- A point's block of rows. -/
theorem coords_row (t : Fin grid0.N) : (grid0.coords t 0).val = t.val / 7 := by
  have h := Pipeline.Grid.coords_val t (0 : Fin 2) (S := 7) (B := 50) (by decide) rfl
  have ht : t.val < 350 := t.isLt.trans_eq N_0
  exact h.trans (Nat.mod_eq_of_lt (by omega))
/-- A point's block of columns. -/
theorem coords_col (t : Fin grid0.N) : (grid0.coords t 1).val = t.val % 7 := by
  have h := Pipeline.Grid.coords_val t (1 : Fin 2) (S := 1) (B := 7) (by decide) rfl
  exact h.trans (by rw [Nat.div_one])
/-- The block of rows, as a word. -/
theorem row_word (t : Fin grid0.N) : (BitVec.ofNat 32 (grid0.coords t 0).val).toNat = t.val / 7 := by
  have ht : t.val < 350 := t.isLt.trans_eq N_0
  rw [BitVec.toNat_ofNat, coords_row, Nat.mod_eq_of_lt (by omega)]
/-- The block of columns, as a word. -/
theorem col_word (t : Fin grid0.N) : (BitVec.ofNat 32 (grid0.coords t 1).val).toNat = t.val % 7 := by
  rw [BitVec.toNat_ofNat, coords_col, Nat.mod_eq_of_lt (by omega)]

/-- Row `p` of block `b` of rows, in the array. -/
def rowIn (b : Fin 50) (p : Fin 512) : Fin 25600 := ⟨b.val * 512 + p.val, by omega⟩
/-- Column `q` of a point's block, in the array. -/
def colHere (t : Fin cfg0.N) (q : Fin 1024) : Fin 7168 := ⟨t.val % 7 * 1024 + q.val, by omega⟩
/-- The block of rows of the point at position `n`. -/
def rowBlk (n : ℕ) (h : n < cfg0.N) : Fin 50 := ⟨n / 7, by have ht : n < 350 := h.trans_eq N_0; omega⟩

/-- The rows of a block, -/
def rowsOf (c : Dev nD) (b : Fin 50) : Vec F S512x2048 .f32 := fun y => m ((c : Thread nD τ).loc main_arg0) (ix2 (rowIn b (y 0)) (y 1))
/-- and the gain, as one row. -/
def gainRow (c : Dev nD) : Vec F S1x2048 .f32 := fun y => m ((c : Thread nD τ).loc main_arg1) (ix1 (y 1))

/-- The residual's block at a point. -/
theorem iblk_rows (c : Dev nD) (t : Fin cfg0.N) : iblk m c 0 t = rowsOf m c (rowBlk t.val t.isLt) := by
  funext y
  obtain ⟨p, k, rfl⟩ : ∃ (p : Fin 512) (k : Fin 2048), y = ix2 p k := ⟨y 0, y 1, eq_ix2 y⟩
  unfold iblk
  refine (View.read_apply _ _).trans ?_
  refine (congrFun (V_main_arg0 m c) _).trans (congrArg (m ((c : Thread nD τ).loc main_arg0)) ?_)
  have hi : (cfg0.win 0).index t = ![t.val / 7, 0] := by
    show ![(BitVec.ofNat 32 (grid0.coords t 0).val).toNat, 0] = _
    rw [row_word]
  funext a
  refine Fin.ext ((Window.rect_emb_val (cfg0.win 0) t (ix2 p k) a).trans ?_)
  rw [hi]
  match a with
  | ⟨0, _⟩ => rfl
  | ⟨1, _⟩ => show 0 * 2048 + k.val = k.val; omega

/-- A vector reshaped to one row, at an index. -/
theorem gain_apply {α : Type} (x : S2048.Idx → α) (k : Fin 2048) : shapeCast S1x2048 x shapeCasts_S2048_S1x2048 (ix2 0 k) = x (ix1 k) := by
  pointwise []

/-- The gain, reshaped to one row before the launch. -/
theorem V_gain (c : Dev nD) : (V m c main_v0 : S1x2048.Idx → Elt F .f32) = gainRow m c := by
  have e : V m c main_v0 = shapeCast S1x2048 (m ((c : Thread nD τ).loc main_arg1)) shapeCasts_S2048_S1x2048 := by
    unfold V hostOps0
    after_results
    rfl
  rw [e]
  funext y
  obtain ⟨p, k, rfl⟩ : ∃ (p : Fin 1) (k : Fin 2048), y = ix2 p k := ⟨y 0, y 1, eq_ix2 y⟩
  obtain rfl : p = 0 := Subsingleton.elim _ _
  exact gain_apply _ k

/-- The gain's block at a point. -/
theorem iblk_gain (c : Dev nD) (t : Fin cfg0.N) : iblk m c 1 t = gainRow m c := by
  funext y
  obtain ⟨p, k, rfl⟩ : ∃ (p : Fin 1) (k : Fin 2048), y = ix2 p k := ⟨y 0, y 1, eq_ix2 y⟩
  unfold iblk
  refine (View.read_apply _ _).trans ?_
  refine (congrFun (V_gain m c) _).trans (congrArg (gainRow m c) ?_)
  have hi : (cfg0.win 1).index t = ![0, 0] := rfl
  funext a
  refine Fin.ext ((Window.rect_emb_val (cfg0.win 1) t (ix2 p k) a).trans ?_)
  rw [hi]
  match a with
  | ⟨0, _⟩ => show 0 * 1 + p.val = p.val; omega
  | ⟨1, _⟩ => show 0 * 2048 + k.val = k.val; omega

/-- The gate weights' block at a point. -/
theorem iblk_gate (c : Dev nD) (t : Fin cfg0.N) (k : Fin 2048) (q : Fin 1024) :
    (iblk m c 2 t : S2048x1024.Idx → Elt F .bf16) (ix2 k q) = m ((c : Thread nD τ).loc main_arg2) (ix2 k (colHere t q)) := by
  unfold iblk
  refine (View.read_apply _ _).trans ?_
  refine (congrFun (V_main_arg2 m c) _).trans (congrArg (m ((c : Thread nD τ).loc main_arg2)) ?_)
  have hi : (cfg0.win 2).index t = ![0, t.val % 7] := by
    show ![0, (BitVec.ofNat 32 (grid0.coords t 1).val).toNat] = _
    rw [col_word]
  funext a
  refine Fin.ext ((Window.rect_emb_val (cfg0.win 2) t (ix2 k q) a).trans ?_)
  rw [hi]
  match a with
  | ⟨0, _⟩ => show 0 * 2048 + k.val = k.val; omega
  | ⟨1, _⟩ => rfl

/-- The other weights' block at a point. -/
theorem iblk_up (c : Dev nD) (t : Fin cfg0.N) (k : Fin 2048) (q : Fin 1024) :
    (iblk m c 3 t : S2048x1024.Idx → Elt F .bf16) (ix2 k q) = m ((c : Thread nD τ).loc main_arg3) (ix2 k (colHere t q)) := by
  unfold iblk
  refine (View.read_apply _ _).trans ?_
  refine (congrFun (V_main_arg3 m c) _).trans (congrArg (m ((c : Thread nD τ).loc main_arg3)) ?_)
  have hi : (cfg0.win 3).index t = ![0, t.val % 7] := by
    show ![0, (BitVec.ofNat 32 (grid0.coords t 1).val).toNat] = _
    rw [col_word]
  funext a
  refine Fin.ext ((Window.rect_emb_val (cfg0.win 3) t (ix2 k q) a).trans ?_)
  rw [hi]
  match a with
  | ⟨0, _⟩ => show 0 * 2048 + k.val = k.val; omega
  | ⟨1, _⟩ => rfl

/-- The scratch after a point: the normed rows of the point's block. -/
theorem scratch_eq (c : Dev nD) : ∀ (n : ℕ) (h : n < cfg0.N), (outsAt0 m c n h).2 = k0_pay1 (rowsOf m c (rowBlk n h)) (gainRow m c) := by
  have first : ∀ t : Fin cfg0.N, t.val % 7 = 0 → (outsAt0 m c t.val t.isLt).2 = k0_pay1 (rowsOf m c (rowBlk t.val t.isLt)) (gainRow m c) := by
    intro t h0
    rw [outsAt0_A m c t h0]
    dsimp only
    rw [scratch_first, iblk_rows, iblk_gain]
  intro n
  induction n with
  | zero => exact fun h => first ⟨0, h⟩ rfl
  | succ n ih =>
    intro h
    by_cases h0 : (n + 1) % 7 = 0
    · exact first ⟨n + 1, h⟩ h0
    · refine (congrArg Prod.snd (outsAt0_B m c ⟨n + 1, h⟩ h0)).trans ((ih (Nat.lt_of_succ_lt h)).trans ?_)
      have e : rowBlk n (Nat.lt_of_succ_lt h) = rowBlk (n + 1) h := Fin.ext (show n / 7 = (n + 1) / 7 by omega)
      rw [e]

/-- The output's block after a point: the gated product of the normed rows with the point's blocks of weights. -/
theorem out_eq (c : Dev nD) (t : Fin cfg0.N) : (outsAt0 m c t.val t.isLt).1
    = k0_pay2 (k0_pay1 (rowsOf m c (rowBlk t.val t.isLt)) (gainRow m c)) (iblk m c 2 t) (iblk m c 3 t) := by
  by_cases h0 : t.val % 7 = 0
  · rw [outsAt0_A m c t h0]
    dsimp only
    rw [out_first, iblk_rows, iblk_gain]
  · rw [outsAt0_B m c t h0]
    dsimp only
    rw [out_next, scratch_eq]
    have e : rowBlk (t.val - 1) (Nat.lt_of_le_of_lt (Nat.sub_le _ _) t.isLt) = rowBlk t.val t.isLt :=
      Fin.ext (show (t.val - 1) / 7 = t.val / 7 by omega)
    rw [e]

/-- The output's block index at a point. -/
theorem out_index (t : Fin cfg0.N) : (cfg0.win 4).index t = ![t.val / 7, t.val % 7] := by
  show ![(BitVec.ofNat 32 (grid0.coords t 0).val).toNat, (BitVec.ofNat 32 (grid0.coords t 1).val).toNat] = _
  rw [row_word, col_word]

/-- Every point writes its block back: the next point's block is another one. -/
theorem flush_all (t : Fin cfg0.N) : (cfg0.win 4).flush t = true := by
  rw [Window.flush_eq_flushOf]
  unfold Window.flushOf
  by_cases hl : t.val + 1 = grid0.N
  · simp [hl]
  · have hlt : t.val + 1 < grid0.N := by have : t.val < grid0.N := t.isLt; omega
    have hne : cc0_transform_4 (grid0.coords ⟨t.val + 1, hlt⟩) ≠ cc0_transform_4 (grid0.coords t) := by
      intro h
      have h1 := congrFun h 1
      have e : ∀ t : Fin grid0.N, cc0_transform_4 (grid0.coords t) 1 = t.val % 7 := col_word
      rw [e, e] at h1
      change (t.val + 1) % 7 = t.val % 7 at h1
      omega
    simp [hlt, hne]

/-- The written-back blocks cover the array. -/
theorem out_covers : (cfg0.win 4).Covers := by
  refine ⟨show ∀ a : Fin 2, 0 < S512x1024.size a from by decide, fun β => ?_⟩
  have h0 : (β (0 : Fin 2)).val < 50 := Nat.lt_of_lt_of_eq (β (0 : Fin 2)).isLt (show (25600 + 512 - 1) / 512 = 50 by norm_num)
  have h1 : (β (1 : Fin 2)).val < 7 := Nat.lt_of_lt_of_eq (β (1 : Fin 2)).isLt (show (7168 + 1024 - 1) / 1024 = 7 by norm_num)
  refine ⟨⟨7 * (β (0 : Fin 2)).val + (β (1 : Fin 2)).val, Nat.lt_of_lt_of_eq (by omega : _ < 350) N_0.symm⟩, flush_all _, fun a => ⟨?_, .inl rfl⟩⟩
  rw [out_index]
  match a with
  | ⟨0, _⟩ => exact (show (7 * (β (0 : Fin 2)).val + (β (1 : Fin 2)).val) / 7 = (β (0 : Fin 2)).val by omega)
  | ⟨1, _⟩ => exact (show (7 * (β (0 : Fin 2)).val + (β (1 : Fin 2)).val) % 7 = (β (1 : Fin 2)).val by omega)

end Blocks

/-! ## Over the reals -/

variable (m : (ℓ : Loc nD τ sig) → Buf (Elt Ideal) ℓ)

/-- The normed rows at an index. -/
theorem normed_apply (c : Dev nD) (b : Fin 50) (p : Fin 512) (k : Fin 2048) :
    (k0_pay1 (F := Ideal) (rowsOf m c b) (gainRow m c) : FVec Ideal S512x2048 .bf16) (ix2 p k)
      = normedAt (m ((c : Thread nD τ).loc main_arg0)) (m ((c : Thread nD τ).loc main_arg1)) (rowIn b p) k := by
  pointwise [k0_pay1, normedAt]
  rfl

/-- The gated product at an index. -/
theorem pay_apply (x : FVec Ideal S512x2048 .bf16) (a b : FVec Ideal S2048x1024 .bf16) (p : Fin 512) (q : Fin 1024) :
    (k0_pay2 (F := Ideal) x a b : FVec Ideal S512x1024 .bf16) (ix2 p q)
      = gated (∑ k : Fin 2048, x (ix2 p k) * a (ix2 k q)) (∑ k : Fin 2048, x (ix2 p k) * b (ix2 k q)) := by
  pointwise [k0_pay2, gated]
  rw [zero_sub]

/-- The kernel's result array: `ffnAt` of the arguments, at every index. -/
theorem array_eq (c : Dev nD) : (dats m 0 c).arrAt 4 cfg0.N = (fun y : S25600x7168.Idx =>
    ffnAt (m ((c.tc : Thread nD τ).loc main_arg0)) (m ((c.tc : Thread nD τ).loc main_arg1)) (m ((c.tc : Thread nD τ).loc main_arg2))
      (m ((c.tc : Thread nD τ).loc main_arg3)) (y 0) (y 1)) := by
  refine Dat.arrAt_eq_of_covers (dats m 0 c) 4 _ out_covers (fun t _ y => ?_)
  obtain ⟨p, q, rfl⟩ : ∃ (p : Fin 512) (q : Fin 1024), y = ix2 p q := ⟨y 0, y 1, eq_ix2 y⟩
  have e0 : ((cfg0.win 4).rect t).emb (ix2 p q) (0 : Fin 2) = rowIn (rowBlk t.val t.isLt) p :=
    Fin.ext ((Window.rect_emb_val (cfg0.win 4) t (ix2 p q) (0 : Fin 2)).trans (by rw [out_index]; rfl))
  have e1 : ((cfg0.win 4).rect t).emb (ix2 p q) (1 : Fin 2) = colHere t q :=
    Fin.ext ((Window.rect_emb_val (cfg0.win 4) t (ix2 p q) (1 : Fin 2)).trans (by rw [out_index]; rfl))
  refine Eq.trans ?_ (congrArg₂ (fun (r : Fin 25600) (s : Fin 7168) => ffnAt _ _ _ _ r s) e0.symm e1.symm)
  refine (congrFun ((after0_4 m c t).trans (out_eq m c t)) (ix2 p q)).trans ((pay_apply _ _ _ p q).trans ?_)
  unfold ffnAt
  congr 1
  · exact Finset.sum_congr (M := Ideal .f32) rfl fun k _ => congrArg₂ (fun x y : Ideal .f32 => x * y)
      (normed_apply m c _ p k) (iblk_gate m c t k q)
  · exact Finset.sum_congr (M := Ideal .f32) rfl fun k _ => congrArg₂ (fun x y : Ideal .f32 => x * y)
      (normed_apply m c _ p k) (iblk_up m c t k q)

end Cert.FfnIdeal.Dense
end
-- ==== Proof.FfnDown.Value.lean ====
/-
  The dense down projection: the kernel's result and the reference's, each read at an index, are `mmResAt` of the arguments.
-/
module
public import proofs.«01_k».proof.Proof.Gen.FfnDownIdeal.Value
public import proofs.«01_k».proof.Proof.Gen.FfnDownReferenceIdeal.Run
public import proofs.«01_k».proof.Proof.Shared.Formula
public import Idealize.ShloMosaic.Lib.Pipeline.ValueKit
public import Idealize.ShloMosaic.Lib.Pipeline.Value
@[expose] public section
noncomputable section

namespace Cert.FfnDownIdeal.Dense
open Cert.FfnDownIdeal Cert.FfnDownIdeal.Gen Cert.Proof.Shared
open Idealize.ShloMosaic Idealize.ShloMosaic.TcCoe
open Idealize.SL.Sem
open Idealize.ShloMosaic.Pipeline (Dat Cfg Window)

/-- The zero offsets of a whole block. -/
theorem zero_off : (![0, 0] : Fin 2 → ℕ) = fun _ => 0 := by
  funext a
  match a with
  | ⟨0, _⟩ => rfl
  | ⟨1, _⟩ => rfl

section Blocks
variable {F : FTy → Type} [FloatOps F] (m : (ℓ : Loc nD τ sig) → Buf (Elt F) ℓ)

/-- A point's block of rows. -/
theorem coords_row (t : Fin grid0.N) : (grid0.coords t 0).val = t.val / 4 := by
  have h := Pipeline.Grid.coords_val t (0 : Fin 2) (S := 4) (B := 50) (by decide) rfl
  have ht : t.val < 200 := t.isLt.trans_eq N_0
  exact h.trans (Nat.mod_eq_of_lt (by omega))
/-- A point's block of columns. -/
theorem coords_col (t : Fin grid0.N) : (grid0.coords t 1).val = t.val % 4 := by
  have h := Pipeline.Grid.coords_val t (1 : Fin 2) (S := 1) (B := 4) (by decide) rfl
  exact h.trans (by rw [Nat.div_one])
/-- The block of rows, as a word. -/
theorem row_word (t : Fin grid0.N) : (BitVec.ofNat 32 (grid0.coords t 0).val).toNat = t.val / 4 := by
  have ht : t.val < 200 := t.isLt.trans_eq N_0
  rw [BitVec.toNat_ofNat, coords_row, Nat.mod_eq_of_lt (by omega)]
/-- The block of columns, as a word. -/
theorem col_word (t : Fin grid0.N) : (BitVec.ofNat 32 (grid0.coords t 1).val).toNat = t.val % 4 := by
  rw [BitVec.toNat_ofNat, coords_col, Nat.mod_eq_of_lt (by omega)]

/-- Row `p` of a point's block, in the array. -/
def rowHere (t : Fin cfg0.N) (p : Fin 512) : Fin 25600 := ⟨t.val / 4 * 512 + p.val, by have ht : t.val < 200 := t.isLt.trans_eq N_0; omega⟩
/-- Column `q` of a point's block, in the array. -/
def colHere (t : Fin cfg0.N) (q : Fin 512) : Fin 2048 := ⟨t.val % 4 * 512 + q.val, by omega⟩

/-- The activations' block at a point. -/
theorem iblk_act (c : Dev nD) (t : Fin cfg0.N) (p : Fin 512) (k : Fin 7168) :
    (iblk m c 0 t : S512x7168.Idx → Elt F .bf16) (ix2 p k) = m ((c : Thread nD τ).loc main_arg0) (ix2 (rowHere t p) k) := by
  unfold iblk
  refine (View.read_apply _ _).trans (congrArg (m ((c : Thread nD τ).loc main_arg0)) ?_)
  have hi : (cfg0.win 0).index t = ![t.val / 4, 0] := by
    show ![(BitVec.ofNat 32 (grid0.coords t 0).val).toNat, 0] = _
    rw [row_word]
  funext a
  refine Fin.ext ((Window.rect_emb_val (cfg0.win 0) t (ix2 p k) a).trans ?_)
  rw [hi]
  match a with
  | ⟨0, _⟩ => rfl
  | ⟨1, _⟩ => show 0 * 7168 + k.val = k.val; omega

/-- The weights' block at a point. -/
theorem iblk_weight (c : Dev nD) (t : Fin cfg0.N) (k : Fin 7168) (q : Fin 512) :
    (iblk m c 1 t : S7168x512.Idx → Elt F .bf16) (ix2 k q) = m ((c : Thread nD τ).loc main_arg1) (ix2 k (colHere t q)) := by
  unfold iblk
  refine (View.read_apply _ _).trans (congrArg (m ((c : Thread nD τ).loc main_arg1)) ?_)
  have hi : (cfg0.win 1).index t = ![0, t.val % 4] := by
    show ![0, (BitVec.ofNat 32 (grid0.coords t 1).val).toNat] = _
    rw [col_word]
  funext a
  refine Fin.ext ((Window.rect_emb_val (cfg0.win 1) t (ix2 k q) a).trans ?_)
  rw [hi]
  match a with
  | ⟨0, _⟩ => show 0 * 7168 + k.val = k.val; omega
  | ⟨1, _⟩ => rfl

/-- The residual's block at a point. -/
theorem iblk_res (c : Dev nD) (t : Fin cfg0.N) (p q : Fin 512) :
    (iblk m c 2 t : S512x512.Idx → Elt F .f32) (ix2 p q) = m ((c : Thread nD τ).loc main_arg2) (ix2 (rowHere t p) (colHere t q)) := by
  unfold iblk
  refine (View.read_apply _ _).trans (congrArg (m ((c : Thread nD τ).loc main_arg2)) ?_)
  have hi : (cfg0.win 2).index t = ![t.val / 4, t.val % 4] := by
    show ![(BitVec.ofNat 32 (grid0.coords t 0).val).toNat, (BitVec.ofNat 32 (grid0.coords t 1).val).toNat] = _
    rw [row_word, col_word]
  funext a
  refine Fin.ext ((Window.rect_emb_val (cfg0.win 2) t (ix2 p q) a).trans ?_)
  rw [hi]
  match a with
  | ⟨0, _⟩ => rfl
  | ⟨1, _⟩ => rfl

/-- The output's block index at a point. -/
theorem out_index (t : Fin cfg0.N) : (cfg0.win 3).index t = ![t.val / 4, t.val % 4] := by
  show ![(BitVec.ofNat 32 (grid0.coords t 0).val).toNat, (BitVec.ofNat 32 (grid0.coords t 1).val).toNat] = _
  rw [row_word, col_word]

/-- Every point writes its block back: the next point's block is another one. -/
theorem flush_all (t : Fin cfg0.N) : (cfg0.win 3).flush t = true := by
  rw [Window.flush_eq_flushOf]
  unfold Window.flushOf
  by_cases hl : t.val + 1 = grid0.N
  · simp [hl]
  · have hlt : t.val + 1 < grid0.N := by have : t.val < grid0.N := t.isLt; omega
    have hne : cc0_transform_3 (grid0.coords ⟨t.val + 1, hlt⟩) ≠ cc0_transform_3 (grid0.coords t) := by
      intro h
      have h1 := congrFun h 1
      have e : ∀ t : Fin grid0.N, cc0_transform_3 (grid0.coords t) 1 = t.val % 4 := col_word
      rw [e, e] at h1
      change (t.val + 1) % 4 = t.val % 4 at h1
      omega
    simp [hlt, hne]

/-- The written-back blocks cover the array. -/
theorem out_covers : (cfg0.win 3).Covers := by
  refine ⟨show ∀ a : Fin 2, 0 < S512x512.size a from by decide, fun β => ?_⟩
  have h0 : (β (0 : Fin 2)).val < 50 := Nat.lt_of_lt_of_eq (β (0 : Fin 2)).isLt (show (25600 + 512 - 1) / 512 = 50 by norm_num)
  have h1 : (β (1 : Fin 2)).val < 4 := Nat.lt_of_lt_of_eq (β (1 : Fin 2)).isLt (show (2048 + 512 - 1) / 512 = 4 by norm_num)
  refine ⟨⟨4 * (β (0 : Fin 2)).val + (β (1 : Fin 2)).val, Nat.lt_of_lt_of_eq (by omega : _ < 200) N_0.symm⟩, flush_all _, fun a => ⟨?_, .inl rfl⟩⟩
  rw [out_index]
  match a with
  | ⟨0, _⟩ => exact (show (4 * (β (0 : Fin 2)).val + (β (1 : Fin 2)).val) / 4 = (β (0 : Fin 2)).val by omega)
  | ⟨1, _⟩ => exact (show (4 * (β (0 : Fin 2)).val + (β (1 : Fin 2)).val) % 4 = (β (1 : Fin 2)).val by omega)

/-- What the body leaves in the output's block: its one payload, of the blocks. -/
theorem out_eq (x0 : Vec F S512x7168 .bf16) (x1 : Vec F S7168x512 .bf16) (x2 : Vec F S512x512 .f32) : out0_3 x0 x1 x2 = k0_pay1 x2 x0 x1 := by
  unfold out0_3
  refine (View.canon_unit_zero (S := S512x512) zero_off _ _).trans ?_
  congr 1
  · exact View.ld_unit_zero (S := S512x512) zero_off _ _
  · exact View.ld_unit_zero (S := S512x7168) zero_off _ _
  · exact View.ld_unit_zero (S := S7168x512) zero_off _ _

end Blocks

/-! ## Over the reals -/

variable (m : (ℓ : Loc nD τ sig) → Buf (Elt Ideal) ℓ)

/-- The body's payload at an index. -/
theorem pay_apply (h : FVec Ideal S512x512 .f32) (a : FVec Ideal S512x7168 .bf16) (w : FVec Ideal S7168x512 .bf16) (p q : Fin 512) :
    (k0_pay1 (F := Ideal) h a w : FVec Ideal S512x512 .f32) (ix2 p q) = h (ix2 p q) + ∑ k : Fin 7168, a (ix2 p k) * w (ix2 k q) := by
  pointwise [k0_pay1]

/-- The kernel's result array: `mmResAt` of the arguments, at every index. -/
theorem array_eq (c : Dev nD) : (dats m 0 c).arrAt 3 cfg0.N = (fun y : S25600x2048.Idx =>
    mmResAt (m ((c.tc : Thread nD τ).loc main_arg0)) (m ((c.tc : Thread nD τ).loc main_arg1)) (m ((c.tc : Thread nD τ).loc main_arg2)) (y 0) (y 1)) := by
  refine Dat.arrAt_eq_of_covers (dats m 0 c) 3 _ out_covers (fun t _ y => ?_)
  obtain ⟨p, q, rfl⟩ : ∃ (p : Fin 512) (q : Fin 512), y = ix2 p q := ⟨y 0, y 1, eq_ix2 y⟩
  have e0 : ((cfg0.win 3).rect t).emb (ix2 p q) (0 : Fin 2) = rowHere t p :=
    Fin.ext ((Window.rect_emb_val (cfg0.win 3) t (ix2 p q) (0 : Fin 2)).trans (by rw [out_index]; rfl))
  have e1 : ((cfg0.win 3).rect t).emb (ix2 p q) (1 : Fin 2) = colHere t q :=
    Fin.ext ((Window.rect_emb_val (cfg0.win 3) t (ix2 p q) (1 : Fin 2)).trans (by rw [out_index]; rfl))
  refine Eq.trans ?_ (congrArg₂ (fun (r : Fin 25600) (s : Fin 2048) => mmResAt _ _ _ r s) e0.symm e1.symm)
  have ha : (dats m 0 c).after 3 t = k0_pay1 (iblk m c 2 t) (iblk m c 0 t) (iblk m c 1 t) := (after0_3 m c t).trans (out_eq _ _ _)
  refine (congrFun ha (ix2 p q)).trans ((pay_apply _ _ _ p q).trans ?_)
  unfold mmResAt
  exact congrArg₂ (fun x y : Ideal .f32 => x + y) (iblk_res m c t p q)
    (Finset.sum_congr (M := Ideal .f32) rfl fun k _ => congrArg₂ (fun x y : Ideal .f32 => x * y) (iblk_act m c t p k) (iblk_weight m c t k q))

end Cert.FfnDownIdeal.Dense

namespace Cert.FfnDownReferenceIdeal.Value
open Cert.FfnDownReferenceIdeal Cert.FfnDownReferenceIdeal.Gen Cert.Proof.Shared
open Idealize.ShloMosaic Idealize.ShloMosaic.TcCoe

/-- The reference's expression, at every index. -/
theorem expr_eq (a : FVec Ideal S25600x7168 .bf16) (w : FVec Ideal S7168x2048 .bf16) (h : FVec Ideal S25600x2048 .f32) :
    (addf h (Host.dotGeneral dot_S25600x7168_S7168x2048_S25600x2048_1_0_0_1_n_n none (extf .f32 a bitsLt_bf16_f32) (extf .f32 w bitsLt_bf16_f32)) : FVec Ideal S25600x2048 .f32)
      = fun y : S25600x2048.Idx => mmResAt a w h (y 0) (y 1) := by
  funext y
  obtain ⟨r, q, rfl⟩ : ∃ (r : Fin 25600) (q : Fin 2048), y = ix2 r q := ⟨y 0, y 1, eq_ix2 y⟩
  show _ = mmResAt a w h r q
  pointwise [mmResAt]

end Cert.FfnDownReferenceIdeal.Value
end
-- ==== Proof.Attn.Loops.lean ====
module
public import proofs.«01_k».proof.Proof.Gen.AttnIdeal.Skeleton
public import proofs.«01_k».proof.Proof.Gen.AttnIdeal.Loops
public import proofs.«01_k».proof.Proof.Gen.AttnIdeal.Launch
public import Idealize.ShloMosaic.Lib.Pipeline.Frame
public import Idealize.ShloMosaic.Lib.Pipeline.FrameBody
public import Idealize.ShloMosaic.Lib.Exec
public import Idealize.ShloMosaic.Lib.Tactic
public import Idealize.ShloMosaic.Lib.VecWindow
public import Idealize.ShloMosaic.Lib.ValueIdxCore
@[expose] public section
noncomputable section
namespace Cert.AttnIdeal.Hand
open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F] [Named F]
local notation "𝕄" => MT nD τ sig Unit (Elt F) ℕ (Pipeline.UD sig nD τ) ℕ

/-- The whole array of keys. -/
abbrev kM : Memref sig .tc .hbm S16x25600x192 .bf16 := Memref.whole main_arg1
/-- The whole array of transposed values. -/
abbrev vM : Memref sig .tc .hbm S16x144x25600 .bf16 := Memref.whole main_arg2
/-- The output's other name, which the body never touches. -/
abbrev oM : Memref sig .tc .hbm S25600x2048 .bf16 := Memref.whole main_arg3
/-- The buffer that keeps a head's keys. -/
abbrev ksM : Memref sig .tc .vmem S16896x192 .bf16 := Memref.whole cc0_scratch0
/-- The buffer that keeps a head's transposed values. -/
abbrev vsM : Memref sig .tc .vmem S144x16896 .bf16 := Memref.whole cc0_scratch1
/-- The accumulator. -/
abbrev aM : Memref sig .tc .vmem S144x512 .f32 := Memref.whole cc0_scratch2
/-- The two slots of scores. -/
abbrev scM : Memref sig .tc .vmem S2x512x512 .f32 := Memref.whole cc0_scratch3
/-- The two slots of weights. -/
abbrev pM : Memref sig .tc .vmem S2x512x512 .bf16 := Memref.whole cc0_scratch4

/-- The loop runs fifteen times. -/
theorem trips1 : k0_t1_loop.trips = 15 := by rfl

/-- Rows `512 j` onwards of the keys. -/
def kAt (K : S16896x192.Idx → Elt F .bf16) (j : ℕ) : S512x192.Idx → Elt F .bf16 :=
  fun y => K (ix2 ⟨(512 * j + (y 0).val) % 16896, Nat.mod_lt _ (by decide)⟩ (y 1))
/-- Columns `512 j` onwards of the transposed values. -/
def vAt (VT : S144x16896.Idx → Elt F .bf16) (j : ℕ) : S144x512.Idx → Elt F .bf16 :=
  fun y => VT (ix2 (y 0) ⟨(512 * j + (y 1).val) % 16896, Nat.mod_lt _ (by decide)⟩)

/-- The 512 keys at row `512 j`, loaded. -/
theorem k_load (K : S16896x192.Idx → Elt F .bf16) (off : Fin 2 → ℕ) (h : ∀ a, off a + S512x192.size a ≤ S16896x192.size a) (j : ℕ) (e : off = ![512 * j, 0]) :
    View.readAt (Elt F) ksM.view (Rect.unit (s := S16896x192) off S512x192.size h).toLoadRect K = kAt K j := by
  subst e
  funext y
  show K ((Rect.unit (s := S16896x192) ![512 * j, 0] S512x192.size h).emb y) = _
  unfold kAt
  congr 1
  funext a
  apply Fin.ext
  have h0 := h 0
  have hy : (y 0).val < 512 := (y 0).isLt
  match a with
  | ⟨0, _⟩ =>
    show 512 * j + 1 * (y 0).val = (512 * j + (y 0).val) % 16896
    have : 512 * j + 512 ≤ 16896 := h0
    omega
  | ⟨1, _⟩ => show 0 + 1 * (y 1).val = (y 1).val; omega

/-- The 512 columns of values at `512 j`, loaded. -/
theorem v_load (VT : S144x16896.Idx → Elt F .bf16) (off : Fin 2 → ℕ) (h : ∀ a, off a + S144x512.size a ≤ S144x16896.size a) (j : ℕ) (e : off = ![0, 512 * j]) :
    View.readAt (Elt F) vsM.view (Rect.unit (s := S144x16896) off S144x512.size h).toLoadRect VT = vAt VT j := by
  subst e
  funext y
  show VT ((Rect.unit (s := S144x16896) ![0, 512 * j] S144x512.size h).emb y) = _
  unfold vAt
  congr 1
  funext a
  apply Fin.ext
  have h1 := h 1
  have hy : (y 1).val < 512 := (y 1).isLt
  match a with
  | ⟨0, _⟩ => show 0 + 1 * (y 0).val = (y 0).val; omega
  | ⟨1, _⟩ =>
    show 512 * j + 1 * (y 1).val = (512 * j + (y 1).val) % 16896
    have : 512 * j + 512 ≤ 16896 := h1
    omega

/-- The accumulator, loaded whole. -/
theorem a_load (f : S144x512.Idx → Elt F .f32) :
    View.readAt (Elt F) aM.view (Rect.unit (s := S144x512) ![0, 0] S144x512.size inb_S144x512_S144x512_0_0).toLoadRect f = f :=
  View.readAt_full aM.view f inb_S144x512_S144x512_0_0
/-- The accumulator, stored whole. -/
theorem a_store (f w : S144x512.Idx → Elt F .f32) (L : List (View.Piece (Elt F) S144x512 .f32)) :
    aM.view.writes (Elt F) f (⟨Rect.unit (s := S144x512) ![0, 0] S144x512.size inb_S144x512_S144x512_0_0, w⟩ :: L) = w := by
  have h := View.read_writes_full (Val := Elt F) aM.view f inb_S144x512_S144x512_0_0 w L
  refine Eq.trans ?_ h
  generalize aM.view.writes (Elt F) f (⟨Rect.unit (s := S144x512) ![0, 0] S144x512.size inb_S144x512_S144x512_0_0, w⟩ :: L) = g
  rfl

/-- What was stored last at a rectangle is what is loaded from it. -/
theorem read_last {sg : RefSig} {κ : Kind} {sp : Space} {s : Shape} {e : EltTy} {Val : EltTy → Type} (v : View sg κ sp s e) (f : v.ty.Contents Val)
    (r : Rect s) (w : r.shape.Idx → Val e) (L : List (View.Piece Val s e)) : View.readAt Val v r.toLoadRect (v.writes Val f (⟨r, w⟩ :: L)) = w := by
  funext y
  exact View.read_writes_cons_emb v f r w L y

section Scan
variable (v4 : FVec F S512x192 .bf16) (K : S16896x192.Idx → Elt F .bf16) (VT : S144x16896.Idx → Elt F .bf16)

/-- The scores of the `j`-th 512 keys. -/
def sc (j : ℕ) : FVec F S1x512x512 .f32 := k0_pay25 v4 (kAt K j)
/-- The running maximum after `j + 1` chunks. -/
def mx : ℕ → FVec F S1x512 .f32
  | 0 => k0_pay21 (sc v4 K 0)
  | j + 1 => k0_pay5 (mx j) (sc v4 K (j + 1))
/-- The weights of chunk `j`. -/
def pr : ℕ → FVec F S1x512x512 .bf16
  | 0 => k0_pay23 (k0_pay22 (sc v4 K 0))
  | j + 1 => k0_pay6 (mx v4 K j) (sc v4 K (j + 1))
/-- The factor that brings the accumulator to chunk `j`'s maximum. -/
def al : ℕ → FVec F S1x512 .f32
  | 0 => k0_pay24 (k0_pay19 (F := F)) (mx v4 K 0)
  | j + 1 => k0_pay7 (mx v4 K j) (sc v4 K (j + 1))
/-- The accumulator over the chunks before `j`. -/
def ac : ℕ → FVec F S144x512 .f32
  | 0 => k0_pay16
  | j + 1 => k0_pay3 (al v4 K j) (ac j) (vAt VT j) (pr v4 K j)

/-- What holds before trip `k` of the loop. -/
structure Good (k : ℕ) (acc : FVec F S1x512 .f32 × FVec F S1x512 .f32) (f9 : S144x512.Idx → Elt F .f32) (f10 : S2x512x512.Idx → Elt F .f32)
    (f11 : S2x512x512.Idx → Elt F .bf16) : Prop where
  max : acc.1 = mx v4 K (2 * k)
  fac : acc.2 = al v4 K (2 * k)
  acc : f9 = ac v4 K VT (2 * k)
  sco : View.readAt (Elt F) scM.view (Rect.unit (s := S2x512x512) ![1, 0, 0] S1x512x512.size inb_S2x512x512_S1x512x512_1_0_0).toLoadRect f10 = sc v4 K (2 * k + 1)
  pro : View.readAt (Elt F) pM.view (Rect.unit (s := S2x512x512) ![0, 0, 0] S1x512x512.size inb_S2x512x512_S1x512x512_0_0_0).toLoadRect f11 = pr v4 K (2 * k)

/-- The resources before trip `k`. -/
def invAt (c : Dev nD) (k : ℕ) (acc : FVec F S1x512 .f32 × FVec F S1x512 .f32) : sProp 𝕄 :=
  iprop((ksM.view.loc (c : Thread nD τ) ↦{fullShare} K) ∗ (vsM.view.loc (c : Thread nD τ) ↦{fullShare} VT)
    ∗ ∃ f9 f10 f11, ⌜Good v4 K VT k acc f9 f10 f11⌝ ∗ (aM.view.loc (c : Thread nD τ) ↦{fullShare} f9)
      ∗ (scM.view.loc (c : Thread nD τ) ↦{fullShare} f10) ∗ (pM.view.loc (c : Thread nD τ) ↦{fullShare} f11))
end Scan

section Step
variable (c : Dev nD) (i : grid0.Coords) (arg2 : Memref sig .tc .vmem S1x512x192 .bf16) (harg2 : arg2.IsWhole) (harg3 : kM.IsWhole) (harg4 : vM.IsWhole) (harg5 : oM.IsWhole)
  (arg6 : Memref sig .tc .vmem S512x128 .bf16) (harg6 : arg6.IsWhole) (harg7 : ksM.IsWhole) (harg8 : vsM.IsWhole) (harg9 : aM.IsWhole) (harg10 : scM.IsWhole) (harg11 : pM.IsWhole)
  (v4 : FVec F S512x192 .bf16) (K : S16896x192.Idx → Elt F .bf16) (VT : S144x16896.Idx → Elt F .bf16)

/-- One trip takes the invariant to the next. -/
theorem step (v19 v24 : FVec F S1x512 .f32) (v28 : FVec F S512x512 .bf16) (k : Fin k0_t1_loop.trips) (acc : FVec F S1x512 .f32 × FVec F S1x512 .f32) :
    invAt v4 K VT c k.val acc ⊢ wp frame (wpE (defs₀ (F := F)) Variants.none c none) Set.univ
      (k0_t1_body (F := F) i arg2 harg2 kM harg3 vM harg4 oM harg5 arg6 harg6 ksM harg7 vsM harg8 aM harg9 scM harg10 pM harg11 cc0_scratch5 v4 v19 v24 v28 k acc)
      (fun yld => invAt v4 K VT c (k.val + 1) yld) := by
  have hk : k.val < 15 := Nat.lt_of_lt_of_le k.isLt k0_t1_abs.2.1
  unfold invAt k0_t1_body
  rw [k0_part1_eq_skeleton, k0_part2_eq_skeleton]
  unfold k0_part1_skel k0_part2_skel
  iintro ⟨H7, H8, %f9, %f10, %f11, %hg, H9, H10, H11⟩
  sl_exec
  sl_step
  isplitl [H7]; · iexact H7
  isplitl [H8]; · iexact H8
  iexists _; iexists _; iexists _
  isplitr; swap
  · isplitl [H9]; · iexact H9
    isplitl [H10] <;> iassumption
  ipureintro
  have hs := hg.sco
  have e3 := v_load VT (k0_off3 k) (k0_off3_inb k) (2 * k.val) (by rw [k0_off3_eq]; congr 1; exact congrArg (fun z => ![z]) (by omega))
  have e4 := k_load K (k0_off4 k) (k0_off4_inb k) (2 * k.val + 2) (by rw [k0_off4_eq]; exact congrArg (fun z => ![z, 0]) (by omega))
  have e5 := v_load VT (k0_off5 k) (k0_off5_inb k) (2 * k.val + 1) (by rw [k0_off5_eq]; congr 1; exact congrArg (fun z => ![z]) (by omega))
  have e6 := k_load K (k0_off6 k) (k0_off6_inb k) (2 * k.val + 3) (by rw [k0_off6_eq]; exact congrArg (fun z => ![z, 0]) (by omega))
  have e169 : step.sl.v169 v4 K k = sc v4 K (2 * k.val + 2) := by
    unfold step.sl.v169 step.sl.H10_1
    refine (View.readCov_cons_toLoadRect scM.view _ _ []).trans ?_
    rw [e4]; rfl
  have e162 : step.sl.v162 acc f10 = pr v4 K (2 * k.val + 1) := by
    unfold step.sl.v162 step.sl.H11_1
    refine (View.readCov_cons_toLoadRect pM.view _ _ []).trans ?_
    rw [hs, hg.max]; rfl
  have e155 : step.sl.v155 VT k acc f9 f11 = ac v4 K VT (2 * k.val + 1) := by
    unfold step.sl.v155 step.sl.H9_1
    refine (View.readCov_cons_toLoadRect aM.view _ _ []).trans ?_
    rw [e3, hg.fac, hg.pro, a_load, hg.acc]; rfl
  constructor
  · show k0_pay12 _ _ = _
    rw [hs, e169, hg.max]; rfl
  · show k0_pay14 _ _ = _
    rw [hs, e169, hg.max]; rfl
  · refine (a_store f9 _ _).trans ?_
    rw [hs, hg.max, e155, e5, e162]; rfl
  · refine (read_last scM.view f10 _ _ _).trans ?_
    rw [e6]; rfl
  · refine (read_last pM.view f11 _ _ _).trans ?_
    rw [hs, hg.max, e169]; rfl
end Step
end Cert.AttnIdeal.Hand
end
-- ==== Proof.Attn.Body.lean ====
module
public import proofs.«01_k».proof.Proof.Attn.Loops
public import Idealize.ShloMosaic.Lib.Pipeline.ReadBack
@[expose] public section
noncomputable section
namespace Cert.AttnIdeal.Hand
open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3)

variable {F : FTy → Type} [FloatOps F] [Named F]
local notation "𝕄" => MT nD τ sig Unit (Elt F) ℕ (Pipeline.UD sig nD τ) ℕ

/-- The last 128 keys. -/
def kLast (K : S16896x192.Idx → Elt F .bf16) : S128x192.Idx → Elt F .bf16 :=
  View.readAt (Elt F) ksM.view (Rect.unit (s := S16896x192) ![16384, 0] S128x192.size inb_S16896x192_S128x192_16384_0).toLoadRect K
/-- The last 128 columns of values. -/
def vLast (VT : S144x16896.Idx → Elt F .bf16) : S144x128.Idx → Elt F .bf16 :=
  View.readAt (Elt F) vsM.view (Rect.unit (s := S144x16896) ![0, 16384] S144x128.size inb_S144x16896_S144x128_0_16384).toLoadRect VT

/-- The scores of the last 128 keys. -/
def scLast (v4 : FVec F S512x192 .bf16) (K : S16896x192.Idx → Elt F .bf16) : FVec F S1x128x512 .f32 := k0_pay31 v4 (kLast K)

/-- The accumulator at the end. -/
def acLast (v4 : FVec F S512x192 .bf16) (K : S16896x192.Idx → Elt F .bf16) (VT : S144x16896.Idx → Elt F .bf16) : FVec F S144x512 .f32 :=
  k0_pay1 (mx v4 K 31) (k0_pay34 (mx v4 K 31) (scLast v4 K)) (ac v4 K VT 32) (vLast VT) (k0_pay35 (mx v4 K 31) (scLast v4 K))

/-- The block that the body writes, of its queries and a head's keys and values. -/
def blockOut (q : S1x512x192.Idx → Elt F .bf16) (K : S16896x192.Idx → Elt F .bf16) (VT : S144x16896.Idx → Elt F .bf16) : FVec F S512x128 .bf16 :=
  k0_pay2 (acLast (k0_pay15 q) K VT)

/-- The queries as the body holds them. -/
abbrev qv (arg2 : Memref sig .tc .vmem S1x512x192 .bf16) (q : S1x512x192.Idx → Elt F .bf16) : FVec F S512x192 .bf16 :=
  (k0_pay15 (View.readAt (Elt F) arg2.view (Rect.unit (s := S1x512x192) ![0, 0, 0] S1x512x192.size inb_S1x512x192_S1x512x192_0_0_0).toLoadRect (arg2.view.rep q)))

/-- The semaphore of the keys' copy. -/
abbrev sem0 : DmaSem sig := ((cc0_scratch5.slice (Rect.unit (s := S2) ![0] S1.size inb_S2_S1_0)).squeeze S_ squeezes_S1_S_).sem
/-- The semaphore of the values' copy. -/
abbrev sem1 : DmaSem sig := ((cc0_scratch5.slice (Rect.unit (s := S2) ![1] S1.size inb_S2_S1_1)).squeeze S_ squeezes_S1_S_).sem

/-- A head's keys, as the buffer keeps them. -/
def headK (xk : S16x25600x192.Idx → Elt F .bf16) (h : Fin 16) : S16896x192.Idx → Elt F .bf16 :=
  fun y => xk (ix3 h ⟨(y 0).val, lt_of_lt_of_le (y 0).isLt (by decide)⟩ (y 1))
/-- A head's transposed values, as the buffer keeps them. -/
def headV (xv : S16x144x25600.Idx → Elt F .bf16) (h : Fin 16) : S144x16896.Idx → Elt F .bf16 :=
  fun y => xv (ix3 h (y 0) ⟨(y 1).val, lt_of_lt_of_le (y 1).isLt (by decide)⟩)

/-- The copied keys are the head's. -/
theorem land_k (i : grid0.Coords) (h1 : k0_cond1 i = 1#1) (K : S16896x192.Idx → Elt F .bf16) (xk : S16x25600x192.Idx → Elt F .bf16) :
    View.write (Elt F) ksM.view K (ReadAs.same.apply (View.read (Elt F) ((kM.slice (Rect.unit (s := S16x25600x192) (k0_off1 i) S1x16896x192.size (k0_off1_inb i h1)) (fun _ => rfl)).squeeze S16896x192
      squeezes_S1x16896x192_S16896x192).view xk)) Finset.univ = headK xk (i 0) := by
  refine (View.write_whole_univ cc0_scratch0 K _).trans ?_
  funext y
  show xk ((Rect.unit (s := S16x25600x192) (k0_off1 i) S1x16896x192.size (k0_off1_inb i h1)).emb (Shape.reshapeEquiv squeezes_S1x16896x192_S16896x192.numel_eq y)) = _
  have hr : Shape.reshapeEquiv squeezes_S1x16896x192_S16896x192.numel_eq y = ix3 ⟨0, Nat.one_pos⟩ (y 0) (y 1) :=
    (Shape.reshapeEquiv_cons_one _ y).trans (by funext a; match a with | ⟨0, _⟩ => rfl | ⟨1, _⟩ => rfl | ⟨2, _⟩ => rfl)
  rw [hr]
  unfold headK
  congr 1
  funext a
  apply Fin.ext
  match a with
  | ⟨0, _⟩ => show k0_off1 i 0 + 1 * 0 = (i 0).val; rw [k0_off1_eq]; show (i 0).val + _ = _; omega
  | ⟨1, _⟩ => show k0_off1 i 1 + 1 * (y 0).val = (y 0).val; rw [k0_off1_eq]; show 0 + _ = _; omega
  | ⟨2, _⟩ => show k0_off1 i 2 + 1 * (y 1).val = (y 1).val; rw [k0_off1_eq]; show 0 + _ = _; omega

/-- The copied values are the head's. -/
theorem land_v (i : grid0.Coords) (h1 : k0_cond1 i = 1#1) (VT : S144x16896.Idx → Elt F .bf16) (xv : S16x144x25600.Idx → Elt F .bf16) :
    View.write (Elt F) vsM.view VT (ReadAs.same.apply (View.read (Elt F) ((vM.slice (Rect.unit (s := S16x144x25600) (k0_off2 i) S1x144x16896.size (k0_off2_inb i h1)) (fun _ => rfl)).squeeze S144x16896
      squeezes_S1x144x16896_S144x16896).view xv)) Finset.univ = headV xv (i 0) := by
  refine (View.write_whole_univ cc0_scratch1 VT _).trans ?_
  funext y
  show xv ((Rect.unit (s := S16x144x25600) (k0_off2 i) S1x144x16896.size (k0_off2_inb i h1)).emb (Shape.reshapeEquiv squeezes_S1x144x16896_S144x16896.numel_eq y)) = _
  have hr : Shape.reshapeEquiv squeezes_S1x144x16896_S144x16896.numel_eq y = ix3 ⟨0, Nat.one_pos⟩ (y 0) (y 1) :=
    (Shape.reshapeEquiv_cons_one _ y).trans (by funext a; match a with | ⟨0, _⟩ => rfl | ⟨1, _⟩ => rfl | ⟨2, _⟩ => rfl)
  rw [hr]
  unfold headV
  congr 1
  funext a
  apply Fin.ext
  match a with
  | ⟨0, _⟩ => show k0_off2 i 0 + 1 * 0 = (i 0).val; rw [k0_off2_eq]; show (i 0).val + _ = _; omega
  | ⟨1, _⟩ => show k0_off2 i 1 + 1 * (y 0).val = (y 0).val; rw [k0_off2_eq]; show 0 + _ = _; omega
  | ⟨2, _⟩ => show k0_off2 i 2 + 1 * (y 1).val = (y 1).val; rw [k0_off2_eq]; show 0 + _ = _; omega

section Body
variable (c : Dev nD) (i : grid0.Coords) (arg2 : Memref sig .tc .vmem S1x512x192 .bf16) (harg2 : arg2.IsWhole)
  (arg6 : Memref sig .tc .vmem S512x128 .bf16) (harg6 : arg6.IsWhole)
  (q : S1x512x192.Idx → Elt F .bf16)

set_option maxHeartbeats 4000000 in
/-- The body at a point whose head's keys and values are in place. -/
theorem run_keep (h1 : ¬ k0_cond1 i = 1#1) (K : S16896x192.Idx → Elt F .bf16) (VT : S144x16896.Idx → Elt F .bf16)
    (f9 : S144x512.Idx → Elt F .f32) (f10 : S2x512x512.Idx → Elt F .f32) (f11 : S2x512x512.Idx → Elt F .bf16) (Q : PUnit → sProp 𝕄) :
    iprop((arg2.view.loc (c : Thread nD τ) ↦[arg2.view.set]{fullShare} arg2.view.rep q)
        ∗ (∃ d, owns (c : Thread nD τ) arg6 fullShare d)
        ∗ (ksM.view.loc (c : Thread nD τ) ↦{fullShare} K) ∗ (vsM.view.loc (c : Thread nD τ) ↦{fullShare} VT)
        ∗ (aM.view.loc (c : Thread nD τ) ↦{fullShare} f9) ∗ (scM.view.loc (c : Thread nD τ) ↦{fullShare} f10) ∗ (pM.view.loc (c : Thread nD τ) ↦{fullShare} f11)
        ∗ (iprop((arg2.view.loc (c : Thread nD τ) ↦[arg2.view.set]{fullShare} arg2.view.rep q)
            ∗ owns (c : Thread nD τ) arg6 fullShare (blockOut q K VT)
            ∗ (ksM.view.loc (c : Thread nD τ) ↦{fullShare} K) ∗ (vsM.view.loc (c : Thread nD τ) ↦{fullShare} VT)
            ∗ (∃ f, aM.view.loc (c : Thread nD τ) ↦{fullShare} f) ∗ (∃ f, scM.view.loc (c : Thread nD τ) ↦{fullShare} f) ∗ (∃ f, pM.view.loc (c : Thread nD τ) ↦{fullShare} f)) -∗ Q ⟨⟩))
      ⊢ wp frame (wpE (defs₀ (F := F)) Variants.none c none) Set.univ
          (cc0_flash_attention i arg2 harg2 kM (Memref.isWhole_whole _) vM (Memref.isWhole_whole _) oM (Memref.isWhole_whole _) arg6 harg6 ksM (Memref.isWhole_whole _) vsM (Memref.isWhole_whole _)
            aM (Memref.isWhole_whole _) scM (Memref.isWhole_whole _) pM (Memref.isWhole_whole _) cc0_scratch5) Q := by
  rw [cc0_flash_attention_eq_skeleton]
  unfold cc0_flash_attention_skel owns
  rw [k0_part3_eq_skeleton, k0_part4_eq_skeleton, k0_part5_eq_skeleton]
  unfold k0_part3_skel
  iintro ⟨H2, ⟨%d6, %f6, -, H6⟩, H7, H8, H9, H10, H11, Hk⟩
  sl_exec
  sl_for (invAt (qv arg2 q) K VT c) $$ [H7 H8 H9 H10 H11]
  · intro k acc
    exact step c i arg2 harg2 _ _ _ arg6 harg6 _ _ _ _ _ _ K VT _ _ _ k acc
  · unfold invAt
    isplitl [H7]; · iexact H7
    isplitl [H8]; · iexact H8
    iexists _; iexists _; iexists _
    isplitr; swap
    · isplitl [H9]; · iexact H9
      isplitl [H10] <;> iassumption
    ipureintro
    have e20 : run_keep.sl.v20 arg2 q K = sc (qv arg2 q) K 0 := by
      unfold run_keep.sl.v20 run_keep.sl.H10_2
      refine (View.readCov_skip scM.view _ _ _ _ (by decide)).trans ((View.readCov_cons_toLoadRect scM.view _ _ []).trans ?_)
      rw [k_load K _ _ 0 rfl]; rfl
    constructor
    · show k0_pay21 _ = _
      rw [e20]; rfl
    · show k0_pay24 _ _ = _
      rw [e20]; rfl
    · unfold run_keep.sl.H9_1
      exact a_store _ _ _
    · unfold run_keep.sl.H10_2
      refine (read_last scM.view _ _ _ _).trans ?_
      rw [k_load K _ _ 1 rfl]; rfl
    · refine (read_last pM.view _ _ _ _).trans ?_
      rw [e20]; rfl
  iintro %acc HL
  ihave HL' := (show invAt (qv arg2 q) K VT c k0_t1_loop.trips acc ⊢ _ from by
    unfold invAt; exact BIBase.Entails.rfl) $$ HL
  icases HL' with ⟨H7, H8, %g9, %g10, %g11, %hg, H9, H10, H11⟩
  sl_exec
  sl_step
  iapply Hk
  isplitl [H2]; · iexact H2
  isplitl [H6]
  · iexists _; isplitr; swap; · iexact H6
    ipureintro
    refine (View.read_writes_full arg6.view f6 inb_S512x128_S512x128_0_0 _ []).trans ?_
    have hm : acc.1 = mx (qv arg2 q) K 30 := hg.max
    have hf : acc.2 = al (qv arg2 q) K 30 := hg.fac
    have ha : g9 = ac (qv arg2 q) K VT 30 := hg.acc
    have hs : View.readAt (Elt F) scM.view (Rect.unit (s := S2x512x512) ![1, 0, 0] S1x512x512.size inb_S2x512x512_S1x512x512_1_0_0).toLoadRect g10 = sc (qv arg2 q) K 31 := hg.sco
    have hp : View.readAt (Elt F) pM.view (Rect.unit (s := S2x512x512) ![0, 0, 0] S1x512x512.size inb_S2x512x512_S1x512x512_0_0_0).toLoadRect g11 = pr (qv arg2 q) K 30 := hg.pro
    have er : run_keep.sl.r acc g10 = mx (qv arg2 q) K 31 := by
      unfold run_keep.sl.r; rw [hs, hm]; rfl
    have er1 : run_keep.sl.r_1 acc g10 = al (qv arg2 q) K 31 := by
      unfold run_keep.sl.r_1; rw [hs, hm]; rfl
    have e66 : run_keep.sl.v66 VT acc g9 g11 = ac (qv arg2 q) K VT 31 := by
      unfold run_keep.sl.v66 run_keep.sl.H9_1_1
      refine (View.readCov_cons_toLoadRect aM.view _ _ []).trans ?_
      rw [hf, a_load, ha, v_load VT _ _ 30 rfl, hp]; rfl
    have e70 : run_keep.sl.v70 acc g10 = pr (qv arg2 q) K 31 := by
      unfold run_keep.sl.v70
      refine (View.readCov_cons_toLoadRect pM.view _ _ []).trans ?_
      rw [hs, hm]; rfl
    have e77 : run_keep.sl.v77 arg2 q K = scLast (qv arg2 q) K := by
      unfold run_keep.sl.v77
      refine (View.readCov_cons_toLoadRect scM.view _ _ []).trans ?_
      rfl
    have e2 : run_keep.sl.r_2 arg2 q K acc g10 = k0_pay34 (mx (qv arg2 q) K 31) (scLast (qv arg2 q) K) := by
      unfold run_keep.sl.r_2; rw [er, e77]
    have e96 : run_keep.sl.v96 VT acc g9 g10 g11 = ac (qv arg2 q) K VT 32 := by
      unfold run_keep.sl.v96 run_keep.sl.H9_2
      refine (View.readCov_cons_toLoadRect aM.view _ _ _).trans ?_
      rw [er1, e66, v_load VT _ _ 31 rfl, e70]; rfl
    have e100 : run_keep.sl.v100 arg2 q K acc g10 = k0_pay35 (mx (qv arg2 q) K 31) (scLast (qv arg2 q) K) := by
      unfold run_keep.sl.v100 run_keep.sl.H11_2
      refine (View.readCov_cons_toLoadRect pM.view _ _ _).trans ?_
      rw [er, e77]
    unfold run_keep.sl.v107 run_keep.sl.H9_3
    refine (congrArg k0_pay2 (View.readCov_cons_toLoadRect aM.view _ _ _)).trans ?_
    rw [er, e2, e96, e100]
    have hq : qv arg2 q = k0_pay15 q := congrArg k0_pay15 (View.readAt_rep_full arg2.view q _)
    rw [hq]; rfl
  isplitl [H7]; · iexact H7
  isplitl [H8]; · iexact H8
  isplitl [H9]; · iexists _; iexact H9
  isplitl [H10]; · iexists _; iexact H10
  iexists _; iexact H11

set_option maxHeartbeats 4000000 in
/-- The body at a head's first point: it copies the head's keys and values in before it computes its block. -/
theorem run_load (h1 : k0_cond1 i = 1#1) (xk : S16x25600x192.Idx → Elt F .bf16) (xv : S16x144x25600.Idx → Elt F .bf16)
    (K : S16896x192.Idx → Elt F .bf16) (VT : S144x16896.Idx → Elt F .bf16)
    (f9 : S144x512.Idx → Elt F .f32) (f10 : S2x512x512.Idx → Elt F .f32) (f11 : S2x512x512.Idx → Elt F .bf16) (W : Waits sig Unit) (Q : PUnit → sProp 𝕄) :
    iprop((arg2.view.loc (c : Thread nD τ) ↦[arg2.view.set]{fullShare} arg2.view.rep q)
        ∗ (∃ d, owns (c : Thread nD τ) arg6 fullShare d)
        ∗ (ksM.view.loc (c : Thread nD τ) ↦{fullShare} K) ∗ (vsM.view.loc (c : Thread nD τ) ↦{fullShare} VT)
        ∗ (aM.view.loc (c : Thread nD τ) ↦{fullShare} f9) ∗ (scM.view.loc (c : Thread nD τ) ↦{fullShare} f10) ∗ (pM.view.loc (c : Thread nD τ) ↦{fullShare} f11)
        ∗ (kM.view.loc (c : Thread nD τ) ↦{fullShare} xk) ∗ (vM.view.loc (c : Thread nD τ) ↦{fullShare} xv)
        ∗ semVal ((c : Thread nD τ), SemLoc.dma sem0) 0 ∗ semVal ((c : Thread nD τ), SemLoc.dma sem1) 0
        ∗ owes (c : Thread nD τ) 0 W
        ∗ (iprop((arg2.view.loc (c : Thread nD τ) ↦[arg2.view.set]{fullShare} arg2.view.rep q)
            ∗ owns (c : Thread nD τ) arg6 fullShare (blockOut q (headK xk (i 0)) (headV xv (i 0)))
            ∗ (ksM.view.loc (c : Thread nD τ) ↦{fullShare} headK xk (i 0)) ∗ (vsM.view.loc (c : Thread nD τ) ↦{fullShare} headV xv (i 0))
            ∗ (∃ f, aM.view.loc (c : Thread nD τ) ↦{fullShare} f) ∗ (∃ f, scM.view.loc (c : Thread nD τ) ↦{fullShare} f) ∗ (∃ f, pM.view.loc (c : Thread nD τ) ↦{fullShare} f)
            ∗ (kM.view.loc (c : Thread nD τ) ↦{fullShare} xk) ∗ (vM.view.loc (c : Thread nD τ) ↦{fullShare} xv)
            ∗ semVal ((c : Thread nD τ), SemLoc.dma sem0) 0 ∗ semVal ((c : Thread nD τ), SemLoc.dma sem1) 0
            ∗ ∃ W', owes (c : Thread nD τ) 0 W') -∗ Q ⟨⟩))
      ⊢ wp frame (wpE (defs₀ (F := F)) Variants.none c none) Set.univ
          (cc0_flash_attention i arg2 harg2 kM (Memref.isWhole_whole _) vM (Memref.isWhole_whole _) oM (Memref.isWhole_whole _) arg6 harg6 ksM (Memref.isWhole_whole _) vsM (Memref.isWhole_whole _)
            aM (Memref.isWhole_whole _) scM (Memref.isWhole_whole _) pM (Memref.isWhole_whole _) cc0_scratch5) Q := by
  rw [cc0_flash_attention_eq_skeleton]
  unfold cc0_flash_attention_skel owns
  rw [k0_part3_eq_skeleton, k0_part4_eq_skeleton, k0_part5_eq_skeleton]
  unfold k0_part3_skel
  iintro ⟨H2, ⟨%d6, %f6, -, H6⟩, H7, H8, H9, H10, H11, Hxk, Hxv, Hc0, Hc1, HO, Hk⟩
  sl_exec
  unfold run_load.sl.dma0 run_load.sl.dma0_1
  rw [land_k i h1 K xk, land_v i h1 VT xv]
  sl_for (invAt (qv arg2 q) (headK xk (i 0)) (headV xv (i 0)) c) $$ [H7 H8 H9 H10 H11]
  · intro k acc
    exact step c i arg2 harg2 _ _ _ arg6 harg6 _ _ _ _ _ _ (headK xk (i 0)) (headV xv (i 0)) _ _ _ k acc
  · unfold invAt
    isplitl [H7]; · iexact H7
    isplitl [H8]; · iexact H8
    iexists _; iexists _; iexists _
    isplitr; swap
    · isplitl [H9]; · iexact H9
      isplitl [H10] <;> iassumption
    ipureintro
    have e20 : run_load.sl.v20 i arg2 q h1 xk K = sc (qv arg2 q) (headK xk (i 0)) 0 := by
      unfold run_load.sl.v20 run_load.sl.H10_2 run_load.sl.dma0
      refine (View.readCov_skip scM.view _ _ _ _ (by decide)).trans ((View.readCov_cons_toLoadRect scM.view _ _ []).trans ?_)
      rw [land_k i h1 K xk, k_load _ _ _ 0 rfl]; rfl
    constructor
    · show k0_pay21 _ = _
      rw [e20]; rfl
    · show k0_pay24 _ _ = _
      rw [e20]; rfl
    · unfold run_load.sl.H9_1
      exact a_store _ _ _
    · unfold run_load.sl.H10_2
      refine (read_last scM.view _ _ _ _).trans ?_
      unfold run_load.sl.dma0
      rw [land_k i h1 K xk, k_load _ _ _ 1 rfl]; rfl
    · refine (read_last pM.view _ _ _ _).trans ?_
      rw [e20]; rfl
  iintro %acc HL
  ihave HL' := (show invAt (qv arg2 q) (headK xk (i 0)) (headV xv (i 0)) c k0_t1_loop.trips acc ⊢ _ from by
    unfold invAt; exact BIBase.Entails.rfl) $$ HL
  icases HL' with ⟨H7, H8, %g9, %g10, %g11, %hg, H9, H10, H11⟩
  sl_exec
  sl_step
  iapply Hk
  isplitl [H2]; · iexact H2
  isplitl [H6]
  · iexists _; isplitr; swap; · iexact H6
    ipureintro
    refine (View.read_writes_full arg6.view f6 inb_S512x128_S512x128_0_0 _ []).trans ?_
    have hm : acc.1 = mx (qv arg2 q) (headK xk (i 0)) 30 := hg.max
    have hf : acc.2 = al (qv arg2 q) (headK xk (i 0)) 30 := hg.fac
    have ha : g9 = ac (qv arg2 q) (headK xk (i 0)) (headV xv (i 0)) 30 := hg.acc
    have hs : View.readAt (Elt F) scM.view (Rect.unit (s := S2x512x512) ![1, 0, 0] S1x512x512.size inb_S2x512x512_S1x512x512_1_0_0).toLoadRect g10 = sc (qv arg2 q) (headK xk (i 0)) 31 := hg.sco
    have hp : View.readAt (Elt F) pM.view (Rect.unit (s := S2x512x512) ![0, 0, 0] S1x512x512.size inb_S2x512x512_S1x512x512_0_0_0).toLoadRect g11 = pr (qv arg2 q) (headK xk (i 0)) 30 := hg.pro
    have er : run_load.sl.r acc g10 = mx (qv arg2 q) (headK xk (i 0)) 31 := by
      unfold run_load.sl.r; rw [hs, hm]; rfl
    have er1 : run_load.sl.r_1 acc g10 = al (qv arg2 q) (headK xk (i 0)) 31 := by
      unfold run_load.sl.r_1; rw [hs, hm]; rfl
    have e66 : run_load.sl.v66 i xv acc g9 g11 = ac (qv arg2 q) (headK xk (i 0)) (headV xv (i 0)) 31 := by
      unfold run_load.sl.v66 run_load.sl.H9_1_1
      refine (View.readCov_cons_toLoadRect aM.view _ _ []).trans ?_
      rw [hf, a_load, ha, v_load (headV xv (i 0)) _ _ 30 rfl, hp]; rfl
    have e70 : run_load.sl.v70 acc g10 = pr (qv arg2 q) (headK xk (i 0)) 31 := by
      unfold run_load.sl.v70
      refine (View.readCov_cons_toLoadRect pM.view _ _ []).trans ?_
      rw [hs, hm]; rfl
    have e77 : run_load.sl.v77 i arg2 q xk = scLast (qv arg2 q) (headK xk (i 0)) := by
      unfold run_load.sl.v77
      refine (View.readCov_cons_toLoadRect scM.view _ _ []).trans ?_
      rfl
    have e2 : run_load.sl.r_2 i arg2 q xk acc g10 = k0_pay34 (mx (qv arg2 q) (headK xk (i 0)) 31) (scLast (qv arg2 q) (headK xk (i 0))) := by
      unfold run_load.sl.r_2; rw [er, e77]
    have e96 : run_load.sl.v96 i xv acc g9 g10 g11 = ac (qv arg2 q) (headK xk (i 0)) (headV xv (i 0)) 32 := by
      unfold run_load.sl.v96 run_load.sl.H9_2
      refine (View.readCov_cons_toLoadRect aM.view _ _ _).trans ?_
      rw [er1, e66, v_load (headV xv (i 0)) _ _ 31 rfl, e70]; rfl
    have e100 : run_load.sl.v100 i arg2 q xk acc g10 = k0_pay35 (mx (qv arg2 q) (headK xk (i 0)) 31) (scLast (qv arg2 q) (headK xk (i 0))) := by
      unfold run_load.sl.v100 run_load.sl.H11_2
      refine (View.readCov_cons_toLoadRect pM.view _ _ _).trans ?_
      rw [er, e77]
    unfold run_load.sl.v107 run_load.sl.H9_3
    refine (congrArg k0_pay2 (View.readCov_cons_toLoadRect aM.view _ _ _)).trans ?_
    rw [er, e2, e96, e100]
    have hq : qv arg2 q = k0_pay15 q := congrArg k0_pay15 (View.readAt_rep_full arg2.view q _)
    rw [hq]; rfl
  isplitl [H7]; · iexact H7
  isplitl [H8]; · iexact H8
  isplitl [H9]; · iexists _; iexact H9
  isplitl [H10]; · iexists _; iexact H10
  isplitl [H11]; · iexists _; iexact H11
  isplitl [Hxk]; · iexact Hxk
  isplitl [Hxv]; · iexact Hxv
  isplitl [Hc0]; · iexact Hc0
  isplitl [Hc1]; · iexact Hc1
  iexists _; iexact HO
end Body
end Cert.AttnIdeal.Hand
end
-- ==== Proof.Attn.Frame.lean ====
module
public import proofs.«01_k».proof.Proof.Attn.Body
public import Idealize.ShloMosaic.Lib.Pipeline.TableIdle
@[expose] public section
noncomputable section
namespace Cert.AttnIdeal.Hand
open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F] [Named F]
local notation "𝕄" => MT nD τ sig Unit (Elt F) ℕ (Pipeline.UD sig nD τ) ℕ

/-- A point's head: each head has 33 points. -/
theorem coords_head (t : Fin grid0.N) : (grid0.coords t 0).val = t.val / 33 := by
  have h := Pipeline.Grid.coords_val t (0 : Fin 2) (S := 33) (B := 16) (by decide) rfl
  have ht : t.val < 528 := t.isLt.trans_eq N_0
  exact h.trans (Nat.mod_eq_of_lt (by omega))
/-- A point's block of query rows. -/
theorem coords_rows (t : Fin grid0.N) : (grid0.coords t 1).val = t.val % 33 := by
  have h := Pipeline.Grid.coords_val t (1 : Fin 2) (S := 1) (B := 33) (by decide) rfl
  exact h.trans (by rw [Nat.div_one])

/-- The body loads a head's keys and values at the head's first block of rows. -/
theorem cond1_iff (i : grid0.Coords) : k0_cond1 i = 1#1 ↔ (i 1).val = 0 := by
  have h1 : (i 1).val < 33 := (i 1).isLt
  have e : (BitVec.ofNat 32 (i 1).val = 0#32) ↔ (i 1).val = 0 := by
    constructor
    · intro h
      have := congrArg BitVec.toNat h
      rw [BitVec.toNat_ofNat, Nat.mod_eq_of_lt (by omega)] at this
      exact this
    · intro h; rw [h]
  unfold k0_cond1
  simp only [Scalar.cmpi, Scalar.extui, IntOp.cmpi]
  have hz : (BitVec.ofNat 32 (i 1).val == 0#32) = decide ((i 1).val = 0) := by
    rw [Bool.eq_iff_iff, beq_iff_eq, decide_eq_true_iff, e]
  rw [hz]
  by_cases h : (i 1).val = 0 <;> simp [h]

variable (m : (ℓ : Loc nD τ sig) → Buf (Elt F) ℓ)

/-- The contents of a buffer when the call starts: the launch contents, with the result's buffer a copy of the old result. -/
def V (c : Dev nD) (b : Ref sig .tc) : Buf (Elt F) ((c : Thread nD τ).loc b) := StableHlo.after hostOps0 (fun b => m (c, b)) b
/-- The queries are as launched, -/
theorem V_arg0 (c : Dev nD) : V m c main_arg0 = m ((c : Thread nD τ).loc main_arg0) := by unfold V hostOps0; after_results
/-- the keys too, -/
theorem V_arg1 (c : Dev nD) : V m c main_arg1 = m ((c : Thread nD τ).loc main_arg1) := by unfold V hostOps0; after_results
/-- the values too, -/
theorem V_arg2 (c : Dev nD) : V m c main_arg2 = m ((c : Thread nD τ).loc main_arg2) := by unfold V hostOps0; after_results
/-- and the old result. -/
theorem V_arg3 (c : Dev nD) : V m c main_arg3 = m ((c : Thread nD τ).loc main_arg3) := by unfold V hostOps0; after_results
/-- The result's buffer starts as the old result. -/
theorem V_out (c : Dev nD) : V m c main_v0 = m ((c : Thread nD τ).loc main_arg3) := by unfold V hostOps0; after_results; rfl

/-- A point's coordinates. -/
abbrev crd (t : Fin cfg0.N) : cfg0.grid.Coords := cfg0.grid.coords t
/-- The staging buffer of the queries, -/
abbrev st0 (t : Fin cfg0.N) : Memref sig .tc .vmem S1x512x192 .bf16 := win0_0.stage (cfg0.slots t (0 : Fin 2))
/-- which is a whole buffer; -/
abbrev hst0 (t : Fin cfg0.N) : (st0 t).IsWhole := hstage0_0 ((cfg0.slots t (0 : Fin 2)).cast nbuf0_0)
/-- and of the result, -/
abbrev st1 (t : Fin cfg0.N) : Memref sig .tc .vmem S512x128 .bf16 := win0_1.stage (cfg0.slots t (1 : Fin 2))
/-- whole too. -/
abbrev hst1 (t : Fin cfg0.N) : (st1 t).IsWhole := hstage0_1 ((cfg0.slots t (1 : Fin 2)).cast nbuf0_1)

/-- A window's block at a point, read off its array. -/
def iblk (c : Dev nD) (w : Fin cfg0.W) (t : Fin cfg0.N) : ((cfg0.win w).xblock (crd t)).Idx → Elt F (cfg0.win w).elt :=
  ((cfg0.win w).blk t).view.read (Elt F) (V m c (Pipeline.arrRef cfg0.spec w))

/-- A point's head. -/
def head (t : Fin cfg0.N) : Fin 16 := (crd t) 0
/-- Each head has 33 points. -/
theorem head_val (t : Fin cfg0.N) : (head t).val = t.val / 33 := coords_head t

/-- The keys of a head, -/
abbrev keys (c : Dev nD) (h : Fin 16) : S16896x192.Idx → Elt F .bf16 := headK (V m c main_arg1) h
/-- and its values. -/
abbrev vals (c : Dev nD) (h : Fin 16) : S144x16896.Idx → Elt F .bf16 := headV (V m c main_arg2) h

/-- What the output's block holds after a point. -/
def outAt (c : Dev nD) (t : Fin cfg0.N) : S512x128.Idx → Elt F .bf16 :=
  blockOut (iblk m c (0 : Fin 2) t) (keys m c (head t)) (vals m c (head t))

/-- What the scratches of keys and values hold before position `n`: within a head, the head's keys and values. -/
def Kept (c : Dev nD) (n : ℕ) (fK : S16896x192.Idx → Elt F .bf16) (fV : S144x16896.Idx → Elt F .bf16) : Prop :=
  ∀ h : Fin 16, h.val = n / 33 → n % 33 ≠ 0 → fK = keys m c h ∧ fV = vals m c h

/-- The invariant before position `n`. -/
def Inv (c : Dev nD) (n : ℕ) : sProp 𝕄 :=
  iprop((∃ fK : S16896x192.Idx → Elt F .bf16, ∃ fV : S144x16896.Idx → Elt F .bf16, ⌜Kept m c n fK fV⌝
      ∗ (ksM.view.loc (c : Thread nD τ) ↦{fullShare} fK) ∗ (vsM.view.loc (c : Thread nD τ) ↦{fullShare} fV))
    ∗ (∃ f, aM.view.loc (c : Thread nD τ) ↦{fullShare} f)
    ∗ (∃ f, scM.view.loc (c : Thread nD τ) ↦{fullShare} f)
    ∗ (∃ f, pM.view.loc (c : Thread nD τ) ↦{fullShare} f)
    ∗ (∃ r, prngReg c r)
    ∗ semVal ((c : Thread nD τ), SemLoc.dma sem0) 0
    ∗ semVal ((c : Thread nD τ), SemLoc.dma sem1) 0
    ∗ (kM.view.loc (c : Thread nD τ) ↦{fullShare} V m c main_arg1)
    ∗ (vM.view.loc (c : Thread nD τ) ↦{fullShare} V m c main_arg2))

/-- The pipeline's proof data. -/
def dats (_ : Fin 1) (c : Dev nD) : Dat τ (Elt F) Unit ℕ (Pipeline.UD sig nD τ) ℕ cfg0 c where
  A w := V m c (Pipeline.arrRef cfg0.spec w)
  after w t := match w with
    | ⟨0, _⟩ => iblk m c (0 : Fin 2) t
    | ⟨1, _⟩ => outAt m c t
  Φ t := Inv m c t.val
  q _ := fullShare
  owed _ := 0

/-- The body leaves the queries as they were, -/
theorem after_0 (c : Dev nD) (t : Fin cfg0.N) : (dats m 0 c).after (0 : Fin 2) t = iblk m c (0 : Fin 2) t := rfl
/-- and the result's block at its value. -/
theorem after_1 (c : Dev nD) (t : Fin cfg0.N) : (dats m 0 c).after (1 : Fin 2) t = outAt m c t := rfl

/-- The queries' staging buffer holds their block when the body runs. -/
theorem before_0 (c : Dev nD) (t : Fin cfg0.N) (d) : (dats m 0 c).before (0 : Fin 2) t d = iblk m c (0 : Fin 2) t :=
  ((dats m 0 c).before_in_eq_fetched (0 : Fin 2) rfl (fun _ => rfl) (fun _ _ _ => rfl) (fun t => by rw [after_0]; unfold Dat.blockOf iblk; rfl) t d).trans
    (by unfold Dat.fetched Dat.blockOf iblk; rfl)

/-- The body at a point, as the pipeline calls it. -/
abbrev bodyAt (t : Fin cfg0.N) : Prog (TpuEff nD τ sig (Elt F) Λ₀ .tc) PUnit :=
  cc0_flash_attention (crd t) (st0 t) (hst0 t) kM (Memref.isWhole_whole _) vM (Memref.isWhole_whole _) oM (Memref.isWhole_whole _)
    (st1 t) (hst1 t) ksM (Memref.isWhole_whole _) vsM (Memref.isWhole_whole _) aM (Memref.isWhole_whole _) scM (Memref.isWhole_whole _)
    pM (Memref.isWhole_whole _) cc0_scratch5

/-- What a point starts from. -/
def ptPre (c : Dev nD) (t : Fin cfg0.N) : sProp 𝕄 :=
  iprop(Inv m c t.val ∗ (∃ W, owes (c : Thread nD τ) 0 W)
    ∗ owns (c : Thread nD τ) (st0 t) fullShare (iblk m c (0 : Fin 2) t)
    ∗ (∃ d, owns (c : Thread nD τ) (st1 t) fullShare d))
/-- What a point leaves. -/
def ptPost (c : Dev nD) (t : Fin cfg0.N) : sProp 𝕄 :=
  iprop(Inv m c (t.val + 1) ∗ (∃ W, owes (c : Thread nD τ) 0 W)
    ∗ owns (c : Thread nD τ) (st0 t) fullShare (iblk m c (0 : Fin 2) t)
    ∗ owns (c : Thread nD τ) (st1 t) fullShare (outAt m c t))

/-- The keys and values stay kept from a point to the next of its head. -/
theorem kept_succ (c : Dev nD) (t : Fin cfg0.N) : Kept m c (t.val + 1) (keys m c (head t)) (vals m c (head t)) := by
  intro h hh hn
  have e : h = head t := Fin.ext (by rw [head_val, hh]; omega)
  rw [e]; exact ⟨rfl, rfl⟩

/-- The body at a point, in each of its two cases. -/
theorem point (c : Dev nD) (t : Fin cfg0.N) :
    ptPre m c t ⊢ wp frame (wpE (defs₀ (F := F)) Variants.none c none) Set.univ (bodyAt (F := F) t) (fun _ => ptPost m c t) := by
  unfold ptPre ptPost Inv
  iintro ⟨⟨⟨%fK, %fV, %hk, H7, H8⟩, ⟨%f9, H9⟩, ⟨%f10, H10⟩, ⟨%f11, H11⟩, Hr, Hc0, Hc1, Hx, Hy⟩, ⟨%W, HO⟩, H0, H1⟩
  by_cases hj : t.val % 33 = 0
  · have h1 : k0_cond1 (crd t) = 1#1 := (cond1_iff _).2 ((coords_rows t).trans hj)
    iapply (run_load c (crd t) (st0 t) (hst0 t) (st1 t) (hst1 t) (iblk m c (0 : Fin 2) t) h1 (V m c main_arg1) (V m c main_arg2) fK fV f9 f10 f11 W _)
    isplitl [H0]; · iapply rep_of_owns; iexact H0
    isplitl [H1]; · iexact H1
    isplitl [H7]; · iexact H7
    isplitl [H8]; · iexact H8
    isplitl [H9]; · iexact H9
    isplitl [H10]; · iexact H10
    isplitl [H11]; · iexact H11
    isplitl [Hx]; · iexact Hx
    isplitl [Hy]; · iexact Hy
    isplitl [Hc0]; · iexact Hc0
    isplitl [Hc1]; · iexact Hc1
    isplitl [HO]; · iexact HO
    iintro ⟨H0, H1, H7, H8, H9, H10, H11, Hx, Hy, Hc0, Hc1, HO⟩
    isplitl [H7 H8 H9 H10 H11 Hr Hc0 Hc1 Hx Hy]
    · isplitl [H7 H8]
      · iexists _; iexists _; isplitr; swap
        · isplitl [H7] <;> iassumption
        ipureintro; exact kept_succ m c t
      isplitl [H9]; · iexact H9
      isplitl [H10]; · iexact H10
      isplitl [H11]; · iexact H11
      isplitl [Hr]; · iexact Hr
      isplitl [Hc0]; · iexact Hc0
      isplitl [Hc1]; · iexact Hc1
      isplitl [Hx] <;> iassumption
    isplitl [HO]; · iexact HO
    isplitl [H0]; · iapply owns_of_rep; iexact H0
    iexact H1
  · have h1 : ¬ k0_cond1 (crd t) = 1#1 := fun h => hj ((coords_rows t).symm.trans ((cond1_iff _).1 h))
    obtain ⟨rfl, rfl⟩ := hk (head t) (head_val t) hj
    iapply (run_keep c (crd t) (st0 t) (hst0 t) (st1 t) (hst1 t) (iblk m c (0 : Fin 2) t) h1 (keys m c (head t)) (vals m c (head t)) f9 f10 f11 _)
    isplitl [H0]; · iapply rep_of_owns; iexact H0
    isplitl [H1]; · iexact H1
    isplitl [H7]; · iexact H7
    isplitl [H8]; · iexact H8
    isplitl [H9]; · iexact H9
    isplitl [H10]; · iexact H10
    isplitl [H11]; · iexact H11
    iintro ⟨H0, H1, H7, H8, H9, H10, H11⟩
    isplitl [H7 H8 H9 H10 H11 Hr Hc0 Hc1 Hx Hy]
    · isplitl [H7 H8]
      · iexists _; iexists _; isplitr; swap
        · isplitl [H7] <;> iassumption
        ipureintro; exact kept_succ m c t
      isplitl [H9]; · iexact H9
      isplitl [H10]; · iexact H10
      isplitl [H11]; · iexact H11
      isplitl [Hr]; · iexact Hr
      isplitl [Hc0]; · iexact Hc0
      isplitl [Hc1]; · iexact Hc1
      isplitl [Hx] <;> iassumption
    isplitl [HO]; · iexists _; iexact HO
    isplitl [H0]; · iapply owns_of_rep; iexact H0
    iexact H1

/-! ## The launch -/

/-- The body table's row at a point is the body as `bodyAt` spells it. -/
theorem defs₀_row (t : Fin cfg0.N) : defs₀ (F := F) .tc cfg0.body (cfg0.bodyArgs t (cfg0.slots t)) = bodyAt t := by
  unfold defs₀; rw [Defs.onTc_tc]

/-- What the pipeline hands the body entails what `point` starts from, -/
theorem ptPre_of (c : Dev nD) (t : Fin cfg0.N) :
    iprop((dats m 0 c).Φ t.castSucc ∗ (dats m 0 c).owesAt () t.castSucc
        ∗ (∃ d, owns (c : Thread nD τ) (st0 t) fullShare ((dats m 0 c).before (0 : Fin 2) t d))
        ∗ (∃ d, owns (c : Thread nD τ) (st1 t) fullShare ((dats m 0 c).before (1 : Fin 2) t d)))
      ⊢ ptPre m c t := by
  unfold ptPre Dat.owesAt Pipeline.owesWithin
  rw [show (dats m 0 c).owed t.castSucc = 0 from rfl, show (dats m 0 c).Φ t.castSucc = Inv m c t.val from rfl]
  simp only [before_0]
  iintro ⟨HI, ⟨%W, %hW, HO⟩, ⟨%d0, H0⟩, ⟨%d1, H1⟩⟩
  isplitl [HI]; · iexact HI
  isplitl [HO]; · iexists W; iexact HO
  isplitl [H0]; · iexact H0
  iexists _; iexact H1

/-- and what it leaves is what the pipeline expects back. -/
theorem of_ptPost (c : Dev nD) (t : Fin cfg0.N) :
    ptPost m c t ⊢ iprop((dats m 0 c).Φ t.succ ∗ (dats m 0 c).owesAt () t.succ
        ∗ owns (c : Thread nD τ) (st0 t) fullShare ((dats m 0 c).after (0 : Fin 2) t)
        ∗ owns (c : Thread nD τ) (st1 t) fullShare ((dats m 0 c).after (1 : Fin 2) t)) := by
  unfold ptPost Dat.owesAt Pipeline.owesWithin
  rw [show (dats m 0 c).owed t.succ = 0 from rfl, show (dats m 0 c).Φ t.succ = Inv m c (t.val + 1) from rfl, after_0, after_1]
  iintro ⟨HI, ⟨%W, HO⟩, H0, H1⟩
  isplitl [HI]; · iexact HI
  isplitl [HO]
  · iexists W; isplitr; · ipureintro; exact fun _ _ => Or.inl trivial
    iexact HO
  isplitl [H0]; · iexact H0
  iexact H1

/-- The library's body obligation, at every point. -/
theorem body_obligation (c : Dev nD) : BodyObligation (dats m 0 c) (defs₀ (F := F)) Variants.none () Set.univ := fun t => by
  rw [bigSep_W0, bigSep_W0, defs₀_row]
  exact triple_restated (point m c t) rfl (ptPre_of m c t) fun _ => of_ptPost m c t

/-- The kernel's own semaphores, -/
def ownSem : Fin 2 → SemLoc sig := fun | 0 => SemLoc.dma sem0 | 1 => SemLoc.dma sem1
/-- which no window has; -/
theorem ownSem_facts : Pipeline.OwnSemFacts spec0 ownSem := by decide
/-- both at zero; -/
theorem ownSem_eq (c : Dev nD) :
    (Pipeline.ownSems0 (Ix := Unit) (Name := ℕ) (U := Pipeline.UD sig nD τ) (Lvl := ℕ) (Val := Elt F) (τ := τ) ownSem c : sProp 𝕄)
      = iprop(semVal ((c : Thread nD τ), SemLoc.dma sem0) 0 ∗ semVal ((c : Thread nD τ), SemLoc.dma sem1) 0) := by
  rw [Pipeline.ownSems0_eq_of_list c ownSem [0, 1] (by decide) (by decide)]; rfl
/-- the arrays it reads itself, -/
def ownRefs : Finset (Ref sig .tc) := {main_arg1, main_arg2}
/-- which no window has, -/
theorem ownRefs_sub : ownRefs ⊆ Pipeline.restRefs sig spec0 := by decide
/-- whole at their contents. -/
theorem ownRefs_eq (c : Dev nD) :
    (bigSep ownRefs fun b => ((c : Thread nD τ).loc b) ↦{fullShare} V m c b : sProp 𝕄)
      = iprop((((c : Thread nD τ).loc main_arg1) ↦{fullShare} V m c main_arg1) ∗ (((c : Thread nD τ).loc main_arg2) ↦{fullShare} V m c main_arg2)) := by
  unfold ownRefs; rw [bigSep_insert (by decide), bigSep_singleton]; rfl

/-- The launch gives the invariant before the first point: no head has begun. -/
theorem inv_intro (c : Dev nD) : Pipeline.ΦD ownSem spec0 ownRefs (V m) c ⊢ (Inv m c 0 : sProp 𝕄) := by
  rw [Pipeline.ΦD_eq, scopedRest0_eq, ownSem_eq, ownRefs_eq]
  unfold Inv
  iintro ⟨⟨⟨%f7, H7⟩, ⟨%f8, H8⟩, H9, H10, H11⟩, Hr, ⟨Hc0, Hc1⟩, Hx, Hy⟩
  isplitl [H7 H8]
  · iexists f7; iexists f8; isplitr; swap
    · isplitl [H7]; · iexact H7
      iexact H8
    ipureintro; exact fun h hh hn => absurd rfl hn
  isplitl [H9]; · iexact H9
  isplitl [H10]; · iexact H10
  isplitl [H11]; · iexact H11
  isplitl [Hr]; · iexact Hr
  isplitl [Hc0]; · iexact Hc0
  isplitl [Hc1]; · iexact Hc1
  isplitl [Hx]; · iexact Hx
  iexact Hy

/-- After the last point the launch has everything back. -/
theorem inv_exit (c : Dev nD) (n : ℕ) : (Inv m c n : sProp 𝕄) ⊢ Pipeline.ΦD ownSem spec0 ownRefs (V m) c := by
  rw [Pipeline.ΦD_eq, scopedRest0_eq, ownSem_eq, ownRefs_eq]
  unfold Inv
  iintro ⟨⟨%f7, %f8, -, H7, H8⟩, H9, H10, H11, Hr, Hc0, Hc1, Hx, Hy⟩
  isplitl [H7 H8 H9 H10 H11]
  · isplitl [H7]; · iexists f7; iexact H7
    isplitl [H8]; · iexists f8; iexact H8
    isplitl [H9]; · iexact H9
    isplitl [H10] <;> iassumption
  isplitl [Hr]; · iexact Hr
  isplitl [Hc0 Hc1]
  · isplitl [Hc0] <;> iassumption
  isplitl [Hx]; · iexact Hx
  iexact Hy

variable (ρ : Dev nD → PrngReg)

set_option backward.isDefEq.respectTransparency.types false in
/-- Every weakly fair execution of @main terminates, nothing faulting, with every array at what the pipeline writes, every
    other buffer at its contents when the call starts and every semaphore counter at zero. -/
theorem run_main : θ_run (defs (F := F)) (onTc (τ := τ) (main (F := F))) ⟨m, fun _ => 0, ρ⟩
    (fun r => Pipeline.FramePost cfgs (dats m) 0 (V m) r ∧ r.2.sem = fun _ => 0) :=
  Pipeline.θ_run_frame_dma (Q' := _) cfgs (dats m) (0 : Fin 1) launch0 ownSem defs₀ Variants.none ownSem_facts ownRefs ownRefs_sub m ρ main
    (hbody := fun c => (body_obligation m c).loose) (hshare := fun c => (dats m 0 c).share_full fun _ => rfl)
    (howed := fun _ _ => rfl) (V := V m)
    (hmain := Pipeline.hmain_prefix cfgs 0 defs₀ Variants.none m main hostOps0 hostOps0_sub rfl main_chain)
    (hA := fun _ _ => rfl)
    (hin := fun c => inv_intro m c)
    (hout := fun c => inv_exit m c _)

/-- The output array after the run. -/
def outArr (c : Dev nD) : Buf (Elt F) ((c : Thread nD τ).loc main_v0) := (dats m 0 c).arrAt (1 : Fin 2) cfg0.N

/-- The run: the result is the output array, the arguments are unchanged and the counters are zero. -/
theorem run : θ_run (defs (F := F)) (onTc (τ := τ) (main (F := F))) ⟨m, fun _ => 0, ρ⟩ (fun r => (∀ c : Dev nD,
      r.2.mem ((c.tc : Thread nD τ).loc main_v0) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run defs _ _).mono (fun r h => ⟨fun c => ⟨?_, ?_, ?_, ?_, ?_⟩, h.2⟩) (run_main m ρ)
  · exact (h.1 c).1 (1 : Fin 2)
  · exact ((h.1 c).1 (0 : Fin 2)).trans (((dats m 0 c).arrAt_in (0 : Fin 2) rfl _).trans (V_arg0 m c))
  · exact ((h.1 c).2 main_arg1 (Pipeline.mem_restRefs_of main_arg1 (by decide) (show ∀ w : Fin 2, (spec0 w).arr.view.ref ≠ main_arg1 from by decide))).trans (V_arg1 m c)
  · exact ((h.1 c).2 main_arg2 (Pipeline.mem_restRefs_of main_arg2 (by decide) (show ∀ w : Fin 2, (spec0 w).arr.view.ref ≠ main_arg2 from by decide))).trans (V_arg2 m c)
  · exact ((h.1 c).2 main_arg3 (Pipeline.mem_restRefs_of main_arg3 (by decide) (show ∀ w : Fin 2, (spec0 w).arr.view.ref ≠ main_arg3 from by decide))).trans (V_arg3 m c)

end Cert.AttnIdeal.Hand
end
-- ==== Proof.Attn.Pays.lean ====
/-
  The attention body's values read at an index, over the reals: scores, maxima, weights and the accumulator's steps.
-/
module
public import proofs.«01_k».proof.Proof.Attn.Body
public import proofs.«01_k».proof.Proof.Shared.Softmax
public import Idealize.ShloMosaic.Lib.Pointwise
@[expose] public section
noncomputable section
namespace Cert.AttnIdeal.Hand
open Cert.AttnIdeal Cert.AttnIdeal.Gen Cert.Proof.Shared
open Idealize.ShloMosaic Idealize.ShloMosaic.TcCoe

/-- The mask's value is the bottom. -/
theorem mask_bot : (Named.named κ "mask" 0xF149F2CA#32 : Ideal .f32) = (⊥ : EReal) := by
  rfl
/-- The greatest of a chunk's scores. -/
theorem max_apply (S : FVec Ideal S512x512 .f32) (p : Fin 512) :
    multiReduction .maximumf [0] S512 S 0xFF800000#32 reduces_S512x512_S512 (.inl rfl) rfl (ix1 p) = (Finset.univ : Finset (Fin 512)).fold max (⊥ : EReal) (fun k => S (ix2 k p)) := by
  pointwise []
  rfl
/-- A chunk's scores. -/
theorem pay25_apply (q k : FVec Ideal S512x192 .bf16) (x y : Fin 512) :
    (k0_pay25 (F := Ideal) q k : FVec Ideal S1x512x512 .f32) (ix3 0 x y) = ∑ d : Fin 192, k (ix2 x d) * q (ix2 y d) := by
  pointwise [k0_pay25]
/-- The last chunk's scores. -/
theorem pay31_apply (q : FVec Ideal S512x192 .bf16) (k : FVec Ideal S128x192 .bf16) (x : Fin 128) (y : Fin 512) :
    (k0_pay31 (F := Ideal) q k : FVec Ideal S1x128x512 .f32) (ix3 0 x y) = ∑ d : Fin 192, k (ix2 x d) * q (ix2 y d) := by
  pointwise [k0_pay31]
/-- The running maximum's step. -/
theorem pay5_apply (m : FVec Ideal S1x512 .f32) (S : FVec Ideal S1x512x512 .f32) (y : Fin 512) :
    (k0_pay5 (F := Ideal) m S : FVec Ideal S1x512 .f32) (ix2 0 y) = max (m (ix2 0 y)) ((Finset.univ : Finset (Fin 512)).fold max (⊥ : EReal) (fun k => S (ix3 0 k y))) := by
  pointwise [k0_pay5, k0_pay4]
  rfl
/-- The first maximum. -/
theorem pay21_apply (S : FVec Ideal S1x512x512 .f32) (y : Fin 512) :
    (k0_pay21 (F := Ideal) S : FVec Ideal S1x512 .f32) (ix2 0 y) = (Finset.univ : Finset (Fin 512)).fold max (⊥ : EReal) (fun k => S (ix3 0 k y)) := by
  pointwise [k0_pay21, k0_pay20, k0_pay19]
  rw [mask_bot]
  exact max_eq_right bot_le
/-- A chunk's weights. -/
theorem pay6_apply (m : FVec Ideal S1x512 .f32) (S : FVec Ideal S1x512x512 .f32) (x y : Fin 512) :
    (k0_pay6 (F := Ideal) m S : FVec Ideal S1x512x512 .bf16) (ix3 0 x y) = wt (S (ix3 0 x y)) (k0_pay5 (F := Ideal) m S (ix2 0 y)) := by
  unfold wt
  pointwise [k0_pay6, k0_pay4]
  rfl
/-- The first chunk's weights. -/
theorem pay22_apply (S : FVec Ideal S1x512x512 .f32) (x y : Fin 512) :
    (k0_pay23 (F := Ideal) (k0_pay22 (F := Ideal) S) : FVec Ideal S1x512x512 .bf16) (ix3 0 x y) = wt (S (ix3 0 x y)) (k0_pay21 (F := Ideal) S (ix2 0 y)) := by
  unfold wt
  pointwise [k0_pay23, k0_pay22, k0_pay20]
  rfl
/-- The factor that brings the accumulator to the new maximum. -/
theorem pay7_apply (m : FVec Ideal S1x512 .f32) (S : FVec Ideal S1x512x512 .f32) (y : Fin 512) :
    (k0_pay7 (F := Ideal) m S : FVec Ideal S1x512 .f32) (ix2 0 y) = wt (m (ix2 0 y)) (k0_pay5 (F := Ideal) m S (ix2 0 y)) := by
  unfold wt
  pointwise [k0_pay7]
  rfl
/-- The accumulator's step. -/
theorem pay3_apply (al : FVec Ideal S1x512 .f32) (acc : FVec Ideal S144x512 .f32) (vt : FVec Ideal S144x512 .bf16) (p : FVec Ideal S1x512x512 .bf16) (x : Fin 144) (y : Fin 512) :
    (k0_pay3 (F := Ideal) al acc vt p : FVec Ideal S144x512 .f32) (ix2 x y) = al (ix2 0 y) * acc (ix2 x y) + ∑ k : Fin 512, vt (ix2 x k) * p (ix3 0 k y) := by
  pointwise [k0_pay3]
/-- The last chunk's step. -/
theorem pay1_apply (m m' : FVec Ideal S1x512 .f32) (acc : FVec Ideal S144x512 .f32) (vt : FVec Ideal S144x128 .bf16) (p : FVec Ideal S1x128x512 .bf16) (x : Fin 144) (y : Fin 512) :
    (k0_pay1 (F := Ideal) m m' acc vt p : FVec Ideal S144x512 .f32) (ix2 x y) = wt (m (ix2 0 y)) (m' (ix2 0 y)) * acc (ix2 x y) + ∑ k : Fin 128, vt (ix2 x k) * p (ix3 0 k y) := by
  unfold wt
  pointwise [k0_pay1]
  rfl
/-- The output's block from the accumulator. -/
theorem pay2_apply (acc : FVec Ideal S144x512 .f32) (y : Fin 512) (v : Fin 128) :
    (k0_pay2 (F := Ideal) acc : FVec Ideal S512x128 .bf16) (ix2 y v) = Ideal.div (acc (ix2 ⟨v.val, by omega⟩ y)) (acc (ix2 128 y)) := by
  pointwise [k0_pay2]
/-- The last chunk's scores, the keys past the bound masked. -/
theorem pay33_apply (S : FVec Ideal S1x128x512 .f32) (x : Fin 128) (y : Fin 512) :
    (k0_pay33 (F := Ideal) S : FVec Ideal S128x512 .f32) (ix2 x y) = if x.val < 16 then S (ix3 0 x y) else (⊥ : EReal) := by
  have w : ∀ x : Fin 128, IntOp.cmpi .slt (BitVec.ofNat 32 x.val) 16#32 = if x.val < 16 then 1#1 else 0#1 := by decide
  pointwise [k0_pay33]
  rw [mask_bot, w]
  split
  · rfl
  · rfl
/-- The final maximum. -/
theorem pay34_apply (m : FVec Ideal S1x512 .f32) (S : FVec Ideal S1x128x512 .f32) (y : Fin 512) :
    (k0_pay34 (F := Ideal) m S : FVec Ideal S1x512 .f32) (ix2 0 y) = max (m (ix2 0 y)) ((Finset.univ : Finset (Fin 128)).fold max (⊥ : EReal) (fun k => k0_pay33 (F := Ideal) S (ix2 k y))) := by
  pointwise [k0_pay34]
  rfl
/-- The last chunk's weights. -/
theorem pay35_apply (m : FVec Ideal S1x512 .f32) (S : FVec Ideal S1x128x512 .f32) (x : Fin 128) (y : Fin 512) :
    (k0_pay35 (F := Ideal) m S : FVec Ideal S1x128x512 .bf16) (ix3 0 x y) = wt (k0_pay33 (F := Ideal) S (ix2 x y)) (k0_pay34 (F := Ideal) m S (ix2 0 y)) := by
  unfold wt
  pointwise [k0_pay35]
  rfl
/-- The query's block. -/
theorem pay15_apply (q : FVec Ideal S1x512x192 .bf16) (y : Fin 512) (d : Fin 192) :
    (k0_pay15 (F := Ideal) q : FVec Ideal S512x192 .bf16) (ix2 y d) = q (ix3 0 y d) := by
  pointwise [k0_pay15]
/-- The accumulator starts at nothing. -/
theorem pay16_apply (x : Fin 144) (y : Fin 512) : (k0_pay16 (F := Ideal) : FVec Ideal S144x512 .f32) (ix2 x y) = 0 := by
  pointwise [k0_pay16]
  first | done | rfl
end Cert.AttnIdeal.Hand
end
-- ==== Proof.Attn.Stream.lean ====
/-
  The attention body's result: its running maximum and rescaled accumulator come to the weighted mean over all keys before the bound.
-/
module
public import proofs.«01_k».proof.Proof.Attn.Pays
@[expose] public section
noncomputable section
namespace Cert.AttnIdeal.Hand
open Cert.AttnIdeal Cert.AttnIdeal.Gen Cert.Proof.Shared
open Idealize.ShloMosaic Idealize.ShloMosaic.TcCoe

variable (q : FVec Ideal S512x192 .bf16) (K : FVec Ideal S16896x192 .bf16) (VT : FVec Ideal S144x16896 .bf16)

/-- The score of key `k` for query `y`. -/
def sn (y : Fin 512) (k : ℕ) : EReal := ∑ d : Fin 192, K (ix2 ⟨k % 16896, Nat.mod_lt _ (by decide)⟩ d) * q (ix2 y d)
/-- Row `x` of the values at key `k`. -/
def vn (x : Fin 144) (k : ℕ) : EReal := VT (ix2 x ⟨k % 16896, Nat.mod_lt _ (by decide)⟩)

/-- A chunk's scores are the scores of its keys. -/
theorem sc_apply (j : ℕ) (a y : Fin 512) : (sc (F := Ideal) q K j : FVec Ideal S1x512x512 .f32) (ix3 0 a y) = sn q K y (512 * j + a.val) := pay25_apply q (kAt (F := Ideal) K j) a y
/-- The last scores. -/
theorem scLast_apply (a : Fin 128) (y : Fin 512) : (scLast (F := Ideal) q K : FVec Ideal S1x128x512 .f32) (ix3 0 a y) = sn q K y (16384 + a.val) := by
  refine (pay31_apply q (kLast (F := Ideal) K) a y).trans (Finset.sum_congr rfl fun d _ => congrArg (fun z : EReal => z * q (ix2 y d)) ?_)
  show K ((Rect.unit (s := S16896x192) ![16384, 0] S128x192.size inb_S16896x192_S128x192_16384_0).emb (ix2 a d)) = _
  congr 1
  funext i
  apply Fin.ext
  match i with
  | ⟨0, _⟩ => show 16384 + 1 * a.val = (16384 + a.val) % 16896; omega
  | ⟨1, _⟩ => show 0 + 1 * d.val = d.val; omega
/-- The last values. -/
theorem vLast_apply (x : Fin 144) (a : Fin 128) : (vLast (F := Ideal) VT : FVec Ideal S144x128 .bf16) (ix2 x a) = vn VT x (16384 + a.val) := by
  show VT ((Rect.unit (s := S144x16896) ![0, 16384] S144x128.size inb_S144x16896_S144x128_0_16384).emb (ix2 x a)) = _
  unfold vn
  congr 1
  funext i
  apply Fin.ext
  match i with
  | ⟨0, _⟩ => show 0 + 1 * x.val = x.val; omega
  | ⟨1, _⟩ => show 16384 + 1 * a.val = (16384 + a.val) % 16896; omega

/-- The running maximum is the maximum so far. -/
theorem mx_apply (y : Fin 512) : ∀ j : ℕ, (mx (F := Ideal) q K j : FVec Ideal S1x512 .f32) (ix2 0 y) = topOf (sn q K y) (512 * j + 512)
  | 0 => by
    refine (pay21_apply _ y).trans ?_
    rw [show (fun k : Fin 512 => (sc (F := Ideal) q K 0 : FVec Ideal S1x512x512 .f32) (ix3 0 k y)) = fun k : Fin 512 => sn q K y k.val from
      funext fun k => (sc_apply q K 0 k y).trans (by rw [Nat.mul_zero, Nat.zero_add])]
    exact (topOf_fin 512 (sn q K y)).symm
  | j + 1 => (pay5_apply _ _ y).trans (topOf_step 512 (sn q K y) (512 * (j + 1)) _ _ (mx_apply y j) (fun k => sc_apply q K (j + 1) k y))

/-- The weights of a chunk stand under the maximum so far. -/
theorem pr_apply (j : ℕ) (a y : Fin 512) : (pr (F := Ideal) q K j : FVec Ideal S1x512x512 .bf16) (ix3 0 a y)
    = wt (sn q K y (512 * j + a.val)) (topOf (sn q K y) (512 * j + 512)) := by
  match j with
  | 0 =>
    refine (pay22_apply _ a y).trans ?_
    rw [sc_apply]
    exact congrArg (wt _) (mx_apply q K y 0)
  | j + 1 =>
    refine (pay6_apply _ _ a y).trans ?_
    rw [sc_apply]
    exact congrArg (wt _) (mx_apply q K y (j + 1))

/-- The accumulator is the weighted sum so far, under the maximum so far. -/
theorem ac_apply (x : Fin 144) (y : Fin 512) : ∀ j : ℕ, (ac (F := Ideal) q K VT (j + 1) : FVec Ideal S144x512 .f32) (ix2 x y)
    = sumOf (sn q K y) (vn VT x) (512 * j + 512) (topOf (sn q K y) (512 * j + 512))
  | 0 => by
    refine (pay3_apply _ _ _ _ x y).trans ?_
    rw [show (ac (F := Ideal) q K VT 0 : FVec Ideal S144x512 .f32) (ix2 x y) = 0 from pay16_apply x y, mul_zero, zero_add]
    refine (Finset.sum_congr rfl fun k _ => ?_).trans (sumOf_fin 512 (sn q K y) (vn VT x) _).symm
    rw [pr_apply]
    show vn VT x (512 * 0 + k.val) * _ = _
    simp only [Nat.mul_zero, Nat.zero_add]
  | j + 1 => (pay3_apply _ _ _ _ x y).trans (sumOf_step 512 (sn q K y) (vn VT x) (512 * (j + 1)) _ _ _ _
      ((pay7_apply _ _ y).trans (congrArg₂ wt (mx_apply q K y j) (mx_apply q K y (j + 1)))) (ac_apply x y j) (fun _ => rfl) (fun k => pr_apply q K (j + 1) k y))

/-- The scores, masked past the bound. -/
def sm (y : Fin 512) (k : ℕ) : EReal := if k < 16400 then sn q K y k else ⊥

/-- The last chunk's scores are the masked ones. -/
theorem last_sm (a : Fin 128) (y : Fin 512) : (k0_pay33 (F := Ideal) (scLast (F := Ideal) q K) : FVec Ideal S128x512 .f32) (ix2 a y) = sm q K y (16384 + a.val) := by
  refine (pay33_apply _ a y).trans ?_
  rw [scLast_apply]
  exact if_congr (by omega) rfl rfl

/-- The final maximum, of the masked scores. -/
theorem top_sm (y : Fin 512) : (k0_pay34 (F := Ideal) (mx (F := Ideal) q K 31) (scLast (F := Ideal) q K) : FVec Ideal S1x512 .f32) (ix2 0 y) = topOf (sm q K y) (16384 + 128) :=
  (pay34_apply _ _ y).trans (topOf_step 128 (sm q K y) 16384 _ _
    ((mx_apply q K y 31).trans (topOf_before (sn q K y) 16400 16384 (by decide)).symm) (fun k => last_sm q K k y))

/-- The final accumulator is the weighted sum over the keys before the bound. -/
theorem acLast_apply (x : Fin 144) (y : Fin 512) : (acLast (F := Ideal) q K VT : FVec Ideal S144x512 .f32) (ix2 x y)
    = sumOf (sn q K y) (vn VT x) 16400 (topOf (sn q K y) 16400) := by
  have eT : topOf (sm q K y) 16384 = topOf (sn q K y) 16384 := topOf_before (sn q K y) 16400 16384 (by decide)
  have eS : ∀ m, sumOf (sm q K y) (vn VT x) 16384 m = sumOf (sn q K y) (vn VT x) 16384 m := sumOf_before (sn q K y) (vn VT x) 16400 16384 (by decide)
  refine (pay1_apply _ _ _ _ _ x y).trans ((sumOf_step 128 (sm q K y) (vn VT x) 16384 _ _ _ _
    (congrArg₂ wt ((mx_apply q K y 31).trans eT.symm) (top_sm q K y)) ?_ (fun k => vLast_apply VT x k)
    (fun k => (pay35_apply _ _ k y).trans (congrArg₂ wt (last_sm q K k y) (top_sm q K y)))).trans ?_)
  · rw [eS, eT]
    exact ac_apply q K VT x y 31
  · have e : topOf (sm q K y) (16384 + 128) = topOf (sn q K y) 16400 := topOf_mask (sn q K y) 16400 16512 (by decide)
    rw [e]
    exact sumOf_mask (sn q K y) (vn VT x) 16400 16512 (by decide) _

/-- The block's word at query `y` and column `v`, where row 128 of the values is ones: the weighted mean. -/
theorem blockOut_apply (q : FVec Ideal S1x512x192 .bf16) (hone : ∀ k : Fin 16400, vn VT 128 k.val = 1) (y : Fin 512) (v : Fin 128) :
    (blockOut (F := Ideal) q K VT : FVec Ideal S512x128 .bf16) (ix2 y v)
      = meanOf (fun k : Fin 16400 => sn (k0_pay15 (F := Ideal) q) K y k.val) (fun k : Fin 16400 => vn VT ⟨v.val, by omega⟩ k.val) := by
  refine (pay2_apply _ y v).trans ?_
  refine (congrArg₂ Ideal.div (acLast_apply (k0_pay15 (F := Ideal) q) K VT ⟨v.val, by omega⟩ y) (acLast_apply (k0_pay15 (F := Ideal) q) K VT 128 y)).trans ?_
  exact meanOf_of 16400 _ _ _ hone
end Cert.AttnIdeal.Hand
end
-- ==== Proof.Attn.Value.lean ====
/-
  The attention's result array: `attnAt` of the arguments at every index, where row 128 of the values is ones.
-/
module
public import proofs.«01_k».proof.Proof.Attn.Frame
public import proofs.«01_k».proof.Proof.Attn.Stream
public import proofs.«01_k».proof.Proof.Shared.Attention
public import Idealize.ShloMosaic.Lib.Pipeline.ValueKit
@[expose] public section
noncomputable section
namespace Cert.AttnIdeal.Hand
open Cert.AttnIdeal Cert.AttnIdeal.Gen Cert.Proof.Shared
open Idealize.ShloMosaic Idealize.ShloMosaic.TcCoe
open Idealize.SL.Sem
open Idealize.ShloMosaic.Pipeline (Dat Cfg Window)

variable (m : (ℓ : Loc nD τ sig) → Buf (Elt Ideal) ℓ)

/-- The head, as a word. -/
theorem head_word (t : Fin grid0.N) : (BitVec.ofNat 32 (grid0.coords t 0).val).toNat = t.val / 33 := by
  have ht : t.val < 528 := t.isLt.trans_eq N_0
  rw [BitVec.toNat_ofNat, coords_head, Nat.mod_eq_of_lt (by omega)]
/-- The block of rows, as a word. -/
theorem rows_word (t : Fin grid0.N) : (BitVec.ofNat 32 (grid0.coords t 1).val).toNat = t.val % 33 := by
  rw [BitVec.toNat_ofNat, coords_rows, Nat.mod_eq_of_lt (by omega)]

/-- Query `p` of a point's block, in the array. -/
def rowHere (t : Fin cfg0.N) (p : Fin 512) : Fin 16896 := ⟨t.val % 33 * 512 + p.val, by omega⟩
/-- Column `v` of a point's block, in the array. -/
def colHere (t : Fin cfg0.N) (v : Fin 128) : Fin 2048 := ⟨t.val / 33 * 128 + v.val, by have ht : t.val < 528 := t.isLt.trans_eq N_0; omega⟩

/-- The queries' block at a point. -/
theorem iblk_q (c : Dev nD) (t : Fin cfg0.N) (p : Fin 512) (d : Fin 192) : (iblk m c (0 : Fin 2) t : S1x512x192.Idx → Elt Ideal .bf16) (ix3 0 p d)
    = m ((c.tc : Thread nD τ).loc main_arg0) (ix3 (head t) ⟨(rowHere t p).val, lt_trans (rowHere t p).isLt (by decide)⟩ d) := by
  unfold iblk
  refine (View.read_apply _ _).trans ?_
  refine (congrFun (V_arg0 m c) _).trans (congrArg (m ((c : Thread nD τ).loc main_arg0)) ?_)
  have hi : (cfg0.win (0 : Fin 2)).index t = ![t.val / 33, t.val % 33, 0] := by
    show ![(BitVec.ofNat 32 (grid0.coords t 0).val).toNat, (0#32 + BitVec.ofNat 32 (grid0.coords t 1).val).toNat, 0] = _
    rw [BitVec.zero_add, head_word, rows_word]
  funext a
  refine Fin.ext ((Window.rect_emb_val (cfg0.win (0 : Fin 2)) t (ix3 0 p d) a).trans ?_)
  rw [hi]
  match a with
  | ⟨0, _⟩ => show t.val / 33 * 1 + 0 = (head t).val; rw [head_val]; omega
  | ⟨1, _⟩ => rfl
  | ⟨2, _⟩ => show 0 * 192 + d.val = d.val; omega

/-- Row 128 of the values is ones at the keys before the bound. -/
def OnesRow (vt : FVec Ideal S16x144x25600 .bf16) : Prop := ∀ (h : Fin 16) (j : Fin 16400), vt (ix3 h 128 ⟨j.val, lt_trans j.isLt (by decide)⟩) = (1 : EReal)

/-- A block's word is the formula's. -/
theorem outAt_apply (c : Dev nD) (hone : OnesRow (m ((c.tc : Thread nD τ).loc main_arg2))) (t : Fin cfg0.N) (p : Fin 512) (v : Fin 128) :
    (outAt m c t : FVec Ideal S512x128 .bf16) (ix2 p v) = meanOf (scoreAt (m ((c.tc : Thread nD τ).loc main_arg0)) (m ((c.tc : Thread nD τ).loc main_arg1)) (head t) (rowHere t p))
      (valueAt (m ((c.tc : Thread nD τ).loc main_arg2)) (head t) v) := by
  have hv : ∀ (x : Fin 144) (j : Fin 16400), vn (vals m c (head t)) x j.val
      = m ((c.tc : Thread nD τ).loc main_arg2) (ix3 (head t) x ⟨j.val, lt_trans j.isLt (by decide)⟩) := by
    intro x j
    unfold vn vals headV
    refine (congrFun (V_arg2 m c) _).trans (congrArg (fun z : Fin 25600 => m ((c.tc : Thread nD τ).loc main_arg2) (ix3 (head t) x z)) (Fin.ext ?_))
    exact Nat.mod_eq_of_lt (lt_trans j.isLt (by decide))
  refine (blockOut_apply (keys m c (head t)) (vals m c (head t)) (iblk m c (0 : Fin 2) t) (fun j => (hv 128 j).trans (hone (head t) j)) p v).trans ?_
  refine congrArg₂ meanOf (funext fun j => ?_) (funext fun j => hv _ j)
  refine Finset.sum_congr rfl fun d _ => congrArg₂ (fun x y : EReal => x * y) ?_ ?_
  · unfold keys headK
    refine (congrFun (V_arg1 m c) _).trans (congrArg (fun z : Fin 25600 => m ((c.tc : Thread nD τ).loc main_arg1) (ix3 (head t) z d)) (Fin.ext ?_))
    exact Nat.mod_eq_of_lt (lt_trans j.isLt (by decide))
  · exact (pay15_apply _ p d).trans (iblk_q m c t p d)

/-- The output's block index at a point. -/
theorem out_index (t : Fin cfg0.N) : (cfg0.win (1 : Fin 2)).index t = ![t.val % 33, t.val / 33] := by
  show ![(0#32 + BitVec.ofNat 32 (grid0.coords t 1).val).toNat, (BitVec.ofNat 32 (grid0.coords t 0).val).toNat] = _
  rw [BitVec.zero_add, head_word, rows_word]

/-- The kernel's result array: `attnAt` of the arguments, at every index. -/
theorem array_eq (c : Dev nD) (hone : OnesRow (m ((c.tc : Thread nD τ).loc main_arg2))) : outArr m c = (fun y : S25600x2048.Idx =>
    attnAt (m ((c.tc : Thread nD τ).loc main_arg0)) (m ((c.tc : Thread nD τ).loc main_arg1)) (m ((c.tc : Thread nD τ).loc main_arg2))
      (m ((c.tc : Thread nD τ).loc main_arg3)) (y 0) (y 1)) := by
  unfold outArr
  refine ((dats m 0 c).arrAt_eq_of_coversWhere (1 : Fin 2) (fun y : S25600x2048.Idx =>
    attnAt (m ((c.tc : Thread nD τ).loc main_arg0)) (m ((c.tc : Thread nD τ).loc main_arg1)) (m ((c.tc : Thread nD τ).loc main_arg2))
      (m ((c.tc : Thread nD τ).loc main_arg3)) (y 0) (y 1)) (P := fun y : S25600x2048.Idx => (y 0).val / 512 < 33)
      (fun β => β (0 : Fin 2) < 33) (by decide +kernel) (fun t _ y => ?_) (fun j => Iff.rfl)).trans ?_
  · obtain ⟨p, v, rfl⟩ : ∃ (p : Fin 512) (v : Fin 128), y = ix2 p v := ⟨y 0, y 1, eq_ix2 y⟩
    have e0 : ((cfg0.win (1 : Fin 2)).rect t).emb (ix2 p v) (0 : Fin 2) = (⟨(rowHere t p).val, lt_trans (rowHere t p).isLt (by decide)⟩ : Fin 25600) :=
      Fin.ext ((Window.rect_emb_val (cfg0.win (1 : Fin 2)) t (ix2 p v) (0 : Fin 2)).trans (by rw [out_index]; rfl))
    have e1 : ((cfg0.win (1 : Fin 2)).rect t).emb (ix2 p v) (1 : Fin 2) = colHere t v :=
      Fin.ext ((Window.rect_emb_val (cfg0.win (1 : Fin 2)) t (ix2 p v) (1 : Fin 2)).trans (by rw [out_index]; rfl))
    refine Eq.trans ?_ (congrArg₂ (fun (r : Fin 25600) (s : Fin 2048) => attnAt _ _ _ _ r s) e0.symm e1.symm)
    refine (congrFun (after_1 m c t) (ix2 p v)).trans ((outAt_apply m c hone t p v).trans ?_)
    unfold attnAt
    rw [dif_pos (show (rowHere t p).val < 16896 from (rowHere t p).isLt)]
    have eh : headOf (colHere t v) = head t := Fin.ext (by rw [head_val]; show (t.val / 33 * 128 + v.val) / 128 = _; omega)
    have ep : placeOf (colHere t v) = v := Fin.ext (by show (t.val / 33 * 128 + v.val) % 128 = _; omega)
    rw [eh, ep]
  · funext y
    obtain ⟨r, s, rfl⟩ : ∃ (r : Fin 25600) (s : Fin 2048), y = ix2 r s := ⟨y 0, y 1, eq_ix2 y⟩
    show (if r.val / 512 < 33 then attnAt _ _ _ _ r s else V m c main_v0 (ix2 r s)) = attnAt _ _ _ _ r s
    split
    · rfl
    · rw [V_out]
      unfold attnAt
      rw [dif_neg (by omega)]
end Cert.AttnIdeal.Hand
end
-- ==== Proof.AttnRef.Value.lean ====
/-
  The attention's reference read at an index: its result is `attnAt` of the arguments.
-/
module
public import proofs.«01_k».proof.Proof.Gen.AttnReferenceIdeal.Run
public import proofs.«01_k».proof.Proof.Shared.Attention
@[expose] public section
noncomputable section

namespace Cert.AttnReferenceIdeal.Value
open Cert.AttnReferenceIdeal Cert.AttnReferenceIdeal.Gen Cert.Proof.Shared
open Idealize.ShloMosaic Idealize.ShloMosaic.TcCoe Idealize.SL.Sem

/-- The reference's scores, -/
def scores (q k : FVec Ideal S16x25600x192 .bf16) : FVec Ideal S16x16896x16400 .f32 :=
  Host.dotGeneral dot_S16x16896x192_S16x16400x192_S16x16896x16400_2_2_1_1_0_0 none
    (extf .f32 (extractStridedSlice S16x16896x192 ![0, 0, 0] q slices_S16x25600x192_S16x16896x192_0_0_0) bitsLt_bf16_f32)
    (extf .f32 (extractStridedSlice S16x16400x192 ![0, 0, 0] k slices_S16x25600x192_S16x16400x192_0_0_0) bitsLt_bf16_f32)

/-- their greatest in each row, -/
def tops (s : FVec Ideal S16x16896x16400 .f32) : FVec Ideal S16x16896 .f32 :=
  Host.reduce FloatOps.maximumf s (constant S_ .f32 0xFF800000#32) reducesTo_S16x16896x16400_S16x16896_d2 h_S_

/-- their weights, -/
def weights (s : FVec Ideal S16x16896x16400 .f32) (M : FVec Ideal S16x16896 .f32) : FVec Ideal S16x16896x16400 .f32 :=
  Host.powf (broadcastInDim S16x16896x16400 ![] bcast_S_S16x16896x16400 (constant S_ .f32 0x40000000#32))
    (subf s (broadcastInDim S16x16896x16400 ![0, 1, 2] bcast_S16x16896x1_S16x16896x16400_0_1_2 (broadcastInDim S16x16896x1 ![0, 1] bcast_S16x16896_S16x16896x1_0_1 M)))

/-- the weighted means of the values, -/
def means (p : FVec Ideal S16x16896x16400 .f32) (vt : FVec Ideal S16x144x25600 .bf16) : FVec Ideal S16x16896x128 .f32 :=
  Host.divf (Host.dotGeneral dot_S16x16896x16400_S16x128x16400_S16x16896x128_2_2_1_1_0_0 none p
      (extf .f32 (extractStridedSlice S16x128x16400 ![0, 0, 0] vt slices_S16x144x25600_S16x128x16400_0_0_0) bitsLt_bf16_f32))
    (broadcastInDim S16x16896x128 ![0, 1, 2] bcast_S16x16896x1_S16x16896x128_0_1_2 (broadcastInDim S16x16896x1 ![0, 1] bcast_S16x16896_S16x16896x1_0_1
      (Host.reduceAdd p (constant S_ .f32 0x00000000#32) reducesTo_S16x16896x16400_S16x16896_d2 h_S_)))

/-- and the result laid out, over what was there before. -/
def laid (o : FVec Ideal S16x16896x128 .f32) (prev : FVec Ideal S25600x2048 .bf16) : FVec Ideal S25600x2048 .bf16 :=
  concatenate S25600x2048 0 [⟨S16896x2048, (truncf .bf16 (shapeCast S16896x2048 (transpose S16896x16x128 [1, 0, 2] o transposes_S16x16896x128_S16896x16x128_1_0_2)
    shapeCasts_S16896x16x128_S16896x2048) bitsLt_bf16_f32)⟩, ⟨S8704x2048, (extractStridedSlice S8704x2048 ![16896, 0] prev slices_S25600x2048_S8704x2048_16896_0)⟩] concatenates_S16896x2048_S8704x2048_S25600x2048_d0

/-- A score. -/
theorem scores_apply (q k : FVec Ideal S16x25600x192 .bf16) (h : Fin 16) (r : Fin 16896) (j : Fin 16400) :
    scores q k (ix3 h r j) = scoreAt q k h r j := by
  unfold scoreAt
  pointwise [scores]
  exact Finset.sum_congr (M := Ideal .f32) rfl fun d _ => mul_comm (G := EReal) _ _

/-- A row's greatest score. -/
theorem tops_apply (s : FVec Ideal S16x16896x16400 .f32) (h : Fin 16) (r : Fin 16896) :
    tops s (ix2 h r) = (Finset.univ : Finset (Fin 16400)).fold max (⊥ : EReal) (fun j => s (ix3 h r j)) := by
  pointwise [tops]
  rfl

/-- A weight. -/
theorem weights_apply (s : FVec Ideal S16x16896x16400 .f32) (M : FVec Ideal S16x16896 .f32) (h : Fin 16) (r : Fin 16896) (j : Fin 16400) :
    weights s M (ix3 h r j) = wt (s (ix3 h r j)) (M (ix2 h r)) := by
  unfold wt
  refine Eq.trans ?_ (pow_two _)
  pointwise [weights]
  rw [two_bits]

/-- A mean. -/
theorem means_apply (p : FVec Ideal S16x16896x16400 .f32) (vt : FVec Ideal S16x144x25600 .bf16) (h : Fin 16) (r : Fin 16896) (v : Fin 128) :
    means p vt (ix3 h r v) = Ideal.div (∑ j : Fin 16400, valueAt vt h v j * p (ix3 h r j)) (∑ j : Fin 16400, p (ix3 h r j)) := by
  unfold valueAt
  pointwise [means]
  exact congrArg₂ Ideal.div (Finset.sum_congr (M := Ideal .f32) rfl fun j _ => mul_comm (G := EReal) _ _) rfl

/-- The layout at an index. -/
theorem laid_apply (o : FVec Ideal S16x16896x128 .f32) (prev : FVec Ideal S25600x2048 .bf16) (r : Fin 25600) (c : Fin 2048) :
    laid o prev (ix2 r c) = if h : r.val < 16896 then o (ix3 (headOf c) ⟨r.val, h⟩ (placeOf c)) else prev (ix2 r c) := by
  pointwise [laid]
  refine dite_congr rfl (fun _ => rfl) (fun h => congrArg (fun z : Fin 25600 => prev (ix2 z c)) (Fin.ext ?_))
  show 16896 + (r.val - 16896) = r.val
  omega

/-- The reference's expression, at every index. -/
theorem expr_eq (q k : FVec Ideal S16x25600x192 .bf16) (vt : FVec Ideal S16x144x25600 .bf16) (prev : FVec Ideal S25600x2048 .bf16) :
    laid (means (weights (scores q k) (tops (scores q k))) vt) prev = fun y : S25600x2048.Idx => attnAt q k vt prev (y 0) (y 1) := by
  funext y
  obtain ⟨r, c, rfl⟩ : ∃ (r : Fin 25600) (c : Fin 2048), y = ix2 r c := ⟨y 0, y 1, eq_ix2 y⟩
  rw [laid_apply]
  show _ = attnAt q k vt prev r c
  unfold attnAt
  refine dite_congr rfl (fun h => ?_) (fun _ => rfl)
  have hs : ∀ j, weights (scores q k) (tops (scores q k)) (ix3 (headOf c) ⟨r.val, h⟩ j)
      = wt (scoreAt q k (headOf c) ⟨r.val, h⟩ j) ((Finset.univ : Finset (Fin 16400)).fold max (⊥ : EReal) (scoreAt q k (headOf c) ⟨r.val, h⟩)) := fun j =>
    (weights_apply _ _ _ _ j).trans (congrArg₂ wt (scores_apply q k _ _ j) ((tops_apply _ _ _).trans
      (congrArg (fun f : Fin 16400 → EReal => (Finset.univ : Finset (Fin 16400)).fold max (⊥ : EReal) f) (funext fun j => scores_apply q k _ _ j))))
  refine (means_apply _ _ _ _ _).trans ?_
  unfold meanOf
  exact congrArg₂ Ideal.div (Finset.sum_congr rfl fun j _ => congrArg (fun z : EReal => valueAt vt (headOf c) (placeOf c) j * z) (hs j)) (Finset.sum_congr rfl fun j _ => hs j)

end Cert.AttnReferenceIdeal.Value
end
-- ==== Proof.Shared.PreAttn.lean ====
/-
  What the attention's precondition says, in words: row 128 of the values is ones at the keys before the bound.
-/
module
public import proofs.«01_k».proof.Pre_ones_row
public import Idealize.ShloMosaic.Lib.ReduceAll
public import Idealize.ShloMosaic.Lib.WordCmp
public import Idealize.ShloMosaic.Lib.IdealHost
public import Idealize.ShloMosaic.Lib.Pointwise
@[expose] public section
noncomputable section
namespace Cert.Proof.Shared
open Idealize.ShloMosaic Cert.Pre_ones_row Cert.Pre_ones_row.Facts

variable [Cert.Pre_ones_row.Facts]

/-- The precondition's comparison at an index. -/
theorem ones_apply (vt : FVec Ideal S16x144x25600 .bf16) (h : Fin 16) (j : Fin 16400) :
    (cmpf .oeq (extf .f32 (shapeCast S16x16400 (extractStridedSlice S16x1x16400 ![0, 128, 0] vt slices_S16x144x25600_S16x1x16400_0_128_0)
      shapeCasts_S16x1x16400_S16x16400) bitsLt_bf16_f32) (broadcastInDim S16x16400 ![] bcast_S_S16x16400 (constant S_ .f32 0x3F800000#32)) : IVec S16x16400 1) (ix2 h j)
      = Ideal.cmp .oeq (vt (ix3 h 128 ⟨j.val, lt_trans j.isLt (by decide)⟩)) 1 := by
  pointwise []
  done

/-- Under the precondition row 128 of the values is ones. -/
theorem ones_of {a0 a1 : FVec Ideal S16x25600x192 .bf16} {vt : FVec Ideal S16x144x25600 .bf16} {a3 : FVec Ideal S25600x2048 .bf16}
    (e : Cert.Pre_ones_row.fn a0 a1 vt a3 = fun _ => 1#1) (h : Fin 16) (j : Fin 16400) : vt (ix3 h 128 ⟨j.val, lt_trans j.isLt (by decide)⟩) = (1 : EReal) := by
  have hj := congrFun e (fun i => i.elim0)
  unfold Cert.Pre_ones_row.fn at hj
  haveI : Subsingleton S_.Idx := ⟨fun a b => funext fun i => i.elim0⟩
  have hx := (ones_apply vt h j).symm.trans (Host.reduce_andi_all _ _ _ _ (fun i => i.elim0) hj (ix2 h j))
  by_contra hne
  simp [Ideal.cmp, hne] at hx
end Cert.Proof.Shared
end
-- ==== Proof.lean ====
module

public import proofs.«01_k».proof.Proof.AttnSample.Value
public import proofs.«01_k».proof.Proof.AttnSampleKernel.Frame
public import proofs.«01_k».proof.Proof.AttnSampleRef.Value
public import proofs.«01_k».proof.Proof.Shared.AttentionSample
public import proofs.«01_k».proof.Proof.Gen.AttnSample
public import proofs.«01_k».proof.Proof.Gen.AttnSample.Skeleton
public import proofs.«01_k».proof.Proof.Gen.AttnSample.Loops
public import proofs.«01_k».proof.Proof.Gen.AttnSample.Launch
public import proofs.«01_k».proof.Proof.Gen.AttnSampleIdeal
public import proofs.«01_k».proof.Proof.Gen.AttnSampleIdeal.Skeleton
public import proofs.«01_k».proof.Proof.Gen.AttnSampleIdeal.Loops
public import proofs.«01_k».proof.Proof.Gen.AttnSampleIdeal.Launch
public import proofs.«01_k».proof.Proof.Gen.AttnSampleReferenceIdeal
public import proofs.«01_k».proof.Proof.Gen.AttnSampleReferenceIdeal.Run
public import proofs.«01_k».proof.Proof.Gen.Pre_ones_row_sample
public import proofs.«01_k».proof.Proof.HyIn.Value
public import proofs.«01_k».proof.Proof.MlaDown.Value
public import proofs.«01_k».proof.Proof.HyOut.Value
public import proofs.«01_k».proof.Proof.MlaOut.Value
public import proofs.«01_k».proof.Proof.ConvSample.Value
public import proofs.«01_k».proof.Proof.Conv.Value
public import proofs.«01_k».proof.Proof.MlaQ.Value
public import proofs.«01_k».proof.Proof.MlaKv.Value
public import proofs.«01_k».proof.Proof.Gen.Conv
public import proofs.«01_k».proof.Proof.Gen.Conv.Frame
public import proofs.«01_k».proof.Proof.Gen.ConvIdeal
public import proofs.«01_k».proof.Proof.Gen.ConvIdeal.Value
public import proofs.«01_k».proof.Proof.Gen.ConvIdeal.Frame
public import proofs.«01_k».proof.Proof.Gen.ConvReferenceIdeal
public import proofs.«01_k».proof.Proof.Gen.ConvReferenceIdeal.Run
public import proofs.«01_k».proof.Proof.Gen.ConvSample
public import proofs.«01_k».proof.Proof.Gen.ConvSample.Frame
public import proofs.«01_k».proof.Proof.Gen.ConvSampleIdeal
public import proofs.«01_k».proof.Proof.Gen.ConvSampleIdeal.Value
public import proofs.«01_k».proof.Proof.Gen.ConvSampleIdeal.Frame
public import proofs.«01_k».proof.Proof.Gen.ConvSampleReferenceIdeal
public import proofs.«01_k».proof.Proof.Gen.ConvSampleReferenceIdeal.Run
public import proofs.«01_k».proof.Proof.Gen.MlaKv
public import proofs.«01_k».proof.Proof.Gen.MlaKv.Frame
public import proofs.«01_k».proof.Proof.Gen.MlaKvIdeal
public import proofs.«01_k».proof.Proof.Gen.MlaKvIdeal.Value
public import proofs.«01_k».proof.Proof.Gen.MlaKvIdeal.Frame
public import proofs.«01_k».proof.Proof.Gen.MlaKvReferenceIdeal
public import proofs.«01_k».proof.Proof.Gen.MlaKvReferenceIdeal.Run
public import proofs.«01_k».proof.Proof.Gen.MlaQ
public import proofs.«01_k».proof.Proof.Gen.MlaQ.Frame
public import proofs.«01_k».proof.Proof.Gen.MlaQIdeal
public import proofs.«01_k».proof.Proof.Gen.MlaQIdeal.Value
public import proofs.«01_k».proof.Proof.Gen.MlaQIdeal.Frame
public import proofs.«01_k».proof.Proof.Gen.MlaQReferenceIdeal
public import proofs.«01_k».proof.Proof.Gen.MlaQReferenceIdeal.Run
public import proofs.«01_k».proof.Proof.Gen.HyIn
public import proofs.«01_k».proof.Proof.Gen.HyIn.Frame
public import proofs.«01_k».proof.Proof.Gen.HyInIdeal
public import proofs.«01_k».proof.Proof.Gen.HyInIdeal.Value
public import proofs.«01_k».proof.Proof.Gen.HyInIdeal.Frame
public import proofs.«01_k».proof.Proof.Gen.HyInReferenceIdeal
public import proofs.«01_k».proof.Proof.Gen.HyInReferenceIdeal.Run
public import proofs.«01_k».proof.Proof.Gen.MlaDown
public import proofs.«01_k».proof.Proof.Gen.MlaDown.Frame
public import proofs.«01_k».proof.Proof.Gen.MlaDownIdeal
public import proofs.«01_k».proof.Proof.Gen.MlaDownIdeal.Value
public import proofs.«01_k».proof.Proof.Gen.MlaDownIdeal.Frame
public import proofs.«01_k».proof.Proof.Gen.MlaDownReferenceIdeal
public import proofs.«01_k».proof.Proof.Gen.MlaDownReferenceIdeal.Run
public import proofs.«01_k».proof.Proof.Gen.HyOut
public import proofs.«01_k».proof.Proof.Gen.HyOut.Frame
public import proofs.«01_k».proof.Proof.Gen.HyOutIdeal
public import proofs.«01_k».proof.Proof.Gen.HyOutIdeal.Value
public import proofs.«01_k».proof.Proof.Gen.HyOutIdeal.Frame
public import proofs.«01_k».proof.Proof.Gen.HyOutReferenceIdeal
public import proofs.«01_k».proof.Proof.Gen.HyOutReferenceIdeal.Run
public import proofs.«01_k».proof.Proof.Gen.MlaOut
public import proofs.«01_k».proof.Proof.Gen.MlaOut.Frame
public import proofs.«01_k».proof.Proof.Gen.MlaOutIdeal
public import proofs.«01_k».proof.Proof.Gen.MlaOutIdeal.Value
public import proofs.«01_k».proof.Proof.Gen.MlaOutIdeal.Frame
public import proofs.«01_k».proof.Proof.Gen.MlaOutReferenceIdeal
public import proofs.«01_k».proof.Proof.Gen.MlaOutReferenceIdeal.Run
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnReferenceIdeal
public import proofs.«01_k».proof.Proof.Gen.AttnReferenceIdeal.Run
public import proofs.«01_k».proof.Proof.Gen.Pre_ones_row
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_in_range
public import proofs.«01_k».proof.Proof.Gen.Down
public import proofs.«01_k».proof.Proof.Gen.Down.Skeleton
public import proofs.«01_k».proof.Proof.Gen.Down.Launch
public import proofs.«01_k».proof.Proof.Gen.DownIdeal
public import proofs.«01_k».proof.Proof.Gen.DownIdeal.Skeleton
public import proofs.«01_k».proof.Proof.Gen.DownIdeal.Launch
public import proofs.«01_k».proof.Proof.Gen.DownReferenceIdeal
public import proofs.«01_k».proof.Proof.Gen.DownReferenceIdeal.Run
public import proofs.«01_k».proof.Proof.Gen.Pre_experts_named
public import proofs.«01_k».proof.Proof.Gen.Ffn
public import proofs.«01_k».proof.Proof.Gen.Ffn.Frame
public import proofs.«01_k».proof.Proof.Gen.FfnIdeal
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnDown
public import proofs.«01_k».proof.Proof.Gen.FfnDown.Frame
public import proofs.«01_k».proof.Proof.Gen.FfnDownIdeal
public import proofs.«01_k».proof.Proof.Gen.FfnDownIdeal.Value
public import proofs.«01_k».proof.Proof.Gen.FfnDownReferenceIdeal
public import proofs.«01_k».proof.Proof.Gen.FfnDownReferenceIdeal.Run
public import proofs.«01_k».proof.Proof.Up.Pre
public import proofs.«01_k».proof.Proof.Up.Value
public import proofs.«01_k».proof.Proof.UpKernel.Same
public import proofs.«01_k».proof.Proof.UpRef.Value
public import proofs.«01_k».proof.Proof.Down.Pre
public import proofs.«01_k».proof.Proof.Down.Value
public import proofs.«01_k».proof.Proof.DownKernel.Same
public import proofs.«01_k».proof.Proof.DownRef.Value
public import proofs.«01_k».proof.Proof.Ffn.Value
public import proofs.«01_k».proof.Proof.FfnRef.Value
public import proofs.«01_k».proof.Proof.FfnDown.Value
public import proofs.«01_k».proof.Proof.Attn.Value
public import proofs.«01_k».proof.Proof.AttnKernel.Frame
public import proofs.«01_k».proof.Proof.AttnRef.Value
public import proofs.«01_k».proof.Proof.Shared.PreAttn
public import Idealize.ShloMosaic.Adequacy
public import Idealize.ShloMosaic.Init

@[expose] public section

noncomputable section

namespace Cert.Proof

open Idealize.ShloMosaic Idealize.ShloMosaic.TcCoe Idealize.SL.Sem

/-- The compiled program runs, faults nowhere, leaves its arguments and returns every counter to zero. -/
theorem frame_kernel : Cert.quiescent_Kernel := fun m g h => by
  have H := Cert.KernelIdeal.Up.run (F := Bits) (m := m)
    ⟨fun c x => Cert.Proof.Shared.src_lt (h c) x, fun c x => Cert.Proof.Shared.expert_lt (h c) x⟩ g
  have K := (θ_run _ _ _).mono (fun _ hr => (⟨fun c => (hr.1 c).2, hr.2⟩ : _ ∧ _)) H
  rw [UpKernel.defs_eq, UpKernel.main_eq]
  exact K

/-- So does the idealized program. -/
theorem frame_kernelIdeal : Cert.quiescent_KernelIdeal := fun _ g h =>
  (θ_run _ _ _).mono (fun _ hr => ⟨fun c => (hr.1 c).2, hr.2⟩) (Cert.KernelIdeal.Up.run (Cert.KernelIdeal.Up.inRange_of_pre h) g)

/-- So does the reference, with no precondition; it declares no semaphore, so its counters are zero. -/
theorem frame_reference : Cert.quiescent_ReferenceIdeal := fun m g _ =>
  (θ_run _ _ _).mono (fun r hr => ⟨fun c => (hr c).2, sem_eq_zero_of_no_sems (by decide) r.2⟩) (Cert.ReferenceIdeal.Value.run m g)

/-- The reference's frame under the precondition, as the comparison asks for it. -/
theorem frame_reference_pre : Cert.quiescent_ReferenceIdeal_pre_in_range := fun m g _ =>
  (θ_run _ _ _).mono (fun r hr => ⟨fun c => (hr c).2, sem_eq_zero_of_no_sems (by decide) r.2⟩) (Cert.ReferenceIdeal.Value.run m g)

/-- Over the reals the kernel's result is the reference's: both are `upAt` of the arguments at every index. -/
theorem same_result : Cert.algebraic_KernelIdeal_ReferenceIdeal := fun m g m' g' h ha => by
  have H := Cert.KernelIdeal.Up.inRange_of_pre h
  refine ⟨fun c => Cert.KernelIdeal.Up.outArr H c, ?_, ?_⟩
  · exact (θ_run _ _ _).mono (fun _ hr => hr.1) (Cert.KernelIdeal.Up.run H g)
  · have hsrc : ∀ (c : Dev Cert.ReferenceIdeal.nD) x, (Cert.ReferenceIdeal.Value.src0 (StableHlo.launchContents m' c) x).toNat < 25600 := fun c x =>
      (congrArg (fun f : IVec ⟨3, ![104, 1, 512]⟩ 32 => (f x).toNat) (ha c).2.1).trans_lt (H.src c x)
    have hte : ∀ (c : Dev Cert.ReferenceIdeal.nD) x, (Cert.ReferenceIdeal.Value.te0 (StableHlo.launchContents m' c) x).toNat < 8 := fun c x =>
      (congrArg (fun f : IVec ⟨1, ![104]⟩ 32 => (f x).toNat) (ha c).2.2.2.2.1).trans_lt (H.expert c x)
    refine (θ_run _ _ _).mono (fun _ hr c => ⟨?_, (hr c).2⟩) (Cert.ReferenceIdeal.Value.run_upAt m' g' hsrc hte)
    refine (hr c).1.trans ?_
    rw [(ha c).1, (ha c).2.1, (ha c).2.2.1, (ha c).2.2.2.1, (ha c).2.2.2.2.1, (ha c).2.2.2.2.2]
    exact (Cert.KernelIdeal.Up.outArr_eq H c).symm

/-! ## The down projection -/

/-- The compiled down projection runs, faults nowhere, leaves its arguments and returns every counter to zero. -/
theorem frame_down : Cert.quiescent_Down := fun m g h => by
  have H := Cert.DownIdeal.Down.run (F := Bits) (m := m) (fun c x => Cert.Proof.Shared.named_lt (h c) x) g
  have K := (θ_run _ _ _).mono (fun _ hr => (⟨fun c => (hr.1 c).2, hr.2⟩ : _ ∧ _)) H
  rw [DownKernel.defs_eq, DownKernel.main_eq]
  exact K

/-- So does the idealized one. -/
theorem frame_downIdeal : Cert.quiescent_DownIdeal := fun _ g h =>
  (θ_run _ _ _).mono (fun _ hr => ⟨fun c => (hr.1 c).2, hr.2⟩) (Cert.DownIdeal.Down.run (Cert.DownIdeal.Down.named_of_pre h) g)

/-- So does its reference, with no precondition. -/
theorem frame_downReference : Cert.quiescent_DownReferenceIdeal := fun m g _ =>
  (θ_run _ _ _).mono (fun r hr => ⟨fun c => (hr c).2, sem_eq_zero_of_no_sems (by decide) r.2⟩) (Cert.DownReferenceIdeal.Value.run m g)

/-- The reference's frame under the precondition. -/
theorem frame_downReference_pre : Cert.quiescent_DownReferenceIdeal_pre_experts_named := fun m g _ =>
  (θ_run _ _ _).mono (fun r hr => ⟨fun c => (hr c).2, sem_eq_zero_of_no_sems (by decide) r.2⟩) (Cert.DownReferenceIdeal.Value.run m g)

/-- Over the reals the down projection's result is its reference's: both are `downAt` of the arguments at every index. -/
theorem same_down : Cert.algebraic_DownIdeal_DownReferenceIdeal := fun m g m' g' h ha => by
  have H := Cert.DownIdeal.Down.named_of_pre h
  refine ⟨fun c => Cert.DownIdeal.Down.outArr H c, ?_, ?_⟩
  · exact (θ_run _ _ _).mono (fun _ hr => hr.1) (Cert.DownIdeal.Down.run H g)
  · refine (θ_run _ _ _).mono (fun _ hr c => ⟨?_, (hr c).2⟩) (Cert.DownReferenceIdeal.Value.run_downAt m' g' fun c x =>
      (congrArg (fun f : IVec ⟨1, ![104]⟩ 32 => (f x).toNat) (ha c).2.2.1).trans_lt (H c x))
    refine (hr c).1.trans ?_
    rw [(ha c).1, (ha c).2.1, (ha c).2.2.1, (ha c).2.2.2]
    exact (Cert.DownIdeal.Down.outArr_eq H c).symm

/-! ## The dense block -/

/-- The compiled norm and gated product runs, faults nowhere, leaves its arguments and returns every counter to zero. -/
theorem frame_ffn : Cert.quiescent_Ffn := fun m g _ => Cert.Ffn.Gen.frame m g
/-- So does the idealized one. -/
theorem frame_ffnIdeal : Cert.quiescent_FfnIdeal := fun m g _ => Cert.FfnIdeal.Gen.frame m g
/-- So does its reference. -/
theorem frame_ffnReference : Cert.quiescent_FfnReferenceIdeal := fun m g _ =>
  (θ_run _ _ _).mono (fun r hr => ⟨fun c => (hr c).2, sem_eq_zero_of_no_sems (by decide) r.2⟩) (Cert.FfnReferenceIdeal.Value.run m g)

/-- Over the reals the gated product is its reference's: both are `ffnAt` of the arguments at every index. -/
theorem same_ffn : Cert.algebraic_FfnIdeal_FfnReferenceIdeal := fun m g m' g' _ ha => by
  refine ⟨fun c => Cert.FfnIdeal.Value.G4 m c, Cert.FfnIdeal.Value.run m g, ?_⟩
  refine (θ_run _ _ _).mono (fun _ hr c => ⟨?_, (hr c).2⟩) (Cert.FfnReferenceIdeal.Value.run_ffnAt m' g')
  refine (hr c).1.trans ?_
  rw [(ha c).1, (ha c).2.1, (ha c).2.2.1, (ha c).2.2.2]
  exact ((Cert.FfnIdeal.Value.final4 m c).symm.trans (Cert.FfnIdeal.Dense.array_eq m c)).symm

/-- The compiled dense down projection runs, faults nowhere, leaves its arguments and returns every counter to zero. -/
theorem frame_ffnDown : Cert.quiescent_FfnDown := fun m g _ => Cert.FfnDown.Gen.frame m g
/-- So does the idealized one. -/
theorem frame_ffnDownIdeal : Cert.quiescent_FfnDownIdeal := fun m g _ => Cert.FfnDownIdeal.Gen.frame m g
/-- So does its reference. -/
theorem frame_ffnDownReference : Cert.quiescent_FfnDownReferenceIdeal := fun m g _ =>
  (θ_run _ _ _).mono (fun r hr => ⟨fun c => (hr c).2, sem_eq_zero_of_no_sems (by decide) r.2⟩) (Cert.FfnDownReferenceIdeal.Value.run m g)

/-- Over the reals the dense down projection's result is its reference's: both are `mmResAt` of the arguments at every index. -/
theorem same_ffnDown : Cert.algebraic_FfnDownIdeal_FfnDownReferenceIdeal := fun m g m' g' _ ha => by
  refine ⟨fun c => (Cert.FfnDownIdeal.Gen.dats m 0 c).arrAt 3 Cert.FfnDownIdeal.cfg0.N, Cert.FfnDownIdeal.Value.run_blocks m g, ?_⟩
  refine (θ_run _ _ _).mono (fun _ hr c => ⟨?_, (hr c).2⟩) (Cert.FfnDownReferenceIdeal.Value.run m' g')
  refine (hr c).1.trans ((Cert.FfnDownReferenceIdeal.Value.expr_eq _ _ _).trans ?_)
  rw [(ha c).1, (ha c).2.1, (ha c).2.2]
  exact (Cert.FfnDownIdeal.Dense.array_eq m c).symm

/-! ## The attention -/

/-- The compiled attention runs, faults nowhere, leaves its arguments and returns every counter to zero. -/
theorem frame_attn : Cert.quiescent_Attn := fun m g _ =>
  (θ_run _ _ _).mono (fun _ hr => ⟨fun c => (hr.1 c).2, hr.2⟩) (Cert.Attn.Hand.run m g)

/-- So does the idealized one, -/
theorem frame_attnIdeal : Cert.quiescent_AttnIdeal := fun m g _ =>
  (θ_run _ _ _).mono (fun _ hr => ⟨fun c => (hr.1 c).2, hr.2⟩) (Cert.AttnIdeal.Hand.run m g)

/-- under the precondition too, as the comparison asks for it. -/
theorem frame_attnIdeal_pre : Cert.quiescent_AttnIdeal_pre_ones_row := fun m g _ =>
  (θ_run _ _ _).mono (fun _ hr => ⟨fun c => (hr.1 c).2, hr.2⟩) (Cert.AttnIdeal.Hand.run m g)

/-- So does its reference, -/
theorem frame_attnReference : Cert.quiescent_AttnReferenceIdeal := fun m g _ =>
  (θ_run _ _ _).mono (fun r hr => ⟨fun c => (hr c).2, sem_eq_zero_of_no_sems (by decide) r.2⟩) (Cert.AttnReferenceIdeal.Value.run m g)

/-- under the precondition too. -/
theorem frame_attnReference_pre : Cert.quiescent_AttnReferenceIdeal_pre_ones_row := fun m g _ =>
  (θ_run _ _ _).mono (fun r hr => ⟨fun c => (hr c).2, sem_eq_zero_of_no_sems (by decide) r.2⟩) (Cert.AttnReferenceIdeal.Value.run m g)

/-- The idealized attention differs from the compiled one only in the mask's named value. -/
theorem preserves_attn : Cert.preserves_Attn_AttnIdeal := IdealRules.named_const.statement Cert.AttnIdeal.κ "mask" .f32 0xF149F2CA#32 ⊥ rfl

/-- Over the reals the attention's result is its reference's: both are `attnAt` of the arguments at every index. -/
theorem same_attn : Cert.algebraic_AttnIdeal_AttnReferenceIdeal_pre_ones_row := fun m g m' g' h ha => by
  refine ⟨fun c => Cert.AttnIdeal.Hand.outArr m c, ?_, ?_⟩
  · exact (θ_run _ _ _).mono (fun _ hr => hr.1) (Cert.AttnIdeal.Hand.run m g)
  · refine (θ_run _ _ _).mono (fun _ hr c => ⟨?_, (hr c).2⟩) (Cert.AttnReferenceIdeal.Value.run m' g')
    refine (hr c).1.trans ((Cert.AttnReferenceIdeal.Value.expr_eq _ _ _ _).trans ?_)
    rw [(ha c).1, (ha c).2.1, (ha c).2.2.1, (ha c).2.2.2]
    exact (Cert.AttnIdeal.Hand.array_eq m c (Cert.Proof.Shared.ones_of (h c))).symm

/-! ## The sample's attention -/

/-- The compiled attention of the sample runs, faults nowhere, leaves its arguments and returns every counter to zero. -/
theorem frame_attnSample : Cert.quiescent_AttnSample := fun m g _ =>
  (θ_run _ _ _).mono (fun _ hr => ⟨fun c => (hr.1 c).2, hr.2⟩) (Cert.AttnSample.Hand.run m g)

/-- So does the idealized one, -/
theorem frame_attnSampleIdeal : Cert.quiescent_AttnSampleIdeal := fun m g _ =>
  (θ_run _ _ _).mono (fun _ hr => ⟨fun c => (hr.1 c).2, hr.2⟩) (Cert.AttnSampleIdeal.Hand.run m g)

/-- under the precondition too, as the comparison asks for it. -/
theorem frame_attnSampleIdeal_pre : Cert.quiescent_AttnSampleIdeal_pre_ones_row_sample := fun m g _ =>
  (θ_run _ _ _).mono (fun _ hr => ⟨fun c => (hr.1 c).2, hr.2⟩) (Cert.AttnSampleIdeal.Hand.run m g)

/-- So does its reference, -/
theorem frame_attnSampleReference : Cert.quiescent_AttnSampleReferenceIdeal := fun m g _ =>
  (θ_run _ _ _).mono (fun r hr => ⟨fun c => (hr c).2, sem_eq_zero_of_no_sems (by decide) r.2⟩) (Cert.AttnSampleReferenceIdeal.Value.run m g)

/-- under the precondition too. -/
theorem frame_attnSampleReference_pre : Cert.quiescent_AttnSampleReferenceIdeal_pre_ones_row_sample := fun m g _ =>
  (θ_run _ _ _).mono (fun r hr => ⟨fun c => (hr c).2, sem_eq_zero_of_no_sems (by decide) r.2⟩) (Cert.AttnSampleReferenceIdeal.Value.run m g)

/-- The idealized one differs from the compiled one only in the mask's named value. -/
theorem preserves_attnSample : Cert.preserves_AttnSample_AttnSampleIdeal := IdealRules.named_const.statement Cert.AttnSampleIdeal.κ "mask" .f32 0xF149F2CA#32 ⊥ rfl

/-- Over the reals the result of the sample's attention is its reference's: both are `attnAfter` of the arguments at every index. -/
theorem same_attnSample : Cert.algebraic_AttnSampleIdeal_AttnSampleReferenceIdeal_pre_ones_row_sample := fun m g m' g' h ha => by
  refine ⟨fun c => Cert.AttnSampleIdeal.Hand.outArr m c, ?_, ?_⟩
  · exact (θ_run _ _ _).mono (fun _ hr => hr.1) (Cert.AttnSampleIdeal.Hand.run m g)
  · refine (θ_run _ _ _).mono (fun _ hr c => ⟨?_, (hr c).2⟩) (Cert.AttnSampleReferenceIdeal.Value.run m' g')
    refine (hr c).1.trans ((Cert.AttnSampleReferenceIdeal.Value.expr_eq _ _ _ _).trans ?_)
    rw [(ha c).1, (ha c).2.1, (ha c).2.2.1, (ha c).2.2.2]
    exact (Cert.AttnSampleIdeal.Hand.array_eq m c (Cert.Proof.Shared.ones_after (h c))).symm

/-! ## The projections around the mixers -/

/-- The compiled projection into the long convolutions runs, faults nowhere, leaves its arguments and returns every counter to zero. -/
theorem frame_hyIn : Cert.quiescent_HyIn := fun m g _ => Cert.HyIn.Gen.frame m g
/-- So does the idealized one. -/
theorem frame_hyInIdeal : Cert.quiescent_HyInIdeal := fun m g _ => Cert.HyInIdeal.Gen.frame m g
/-- So does its reference. -/
theorem frame_hyInReference : Cert.quiescent_HyInReferenceIdeal := fun m g _ =>
  (θ_run _ _ _).mono (fun r hr => ⟨fun c => (hr c).2, sem_eq_zero_of_no_sems (by decide) r.2⟩) (Cert.HyInReferenceIdeal.Value.run m g)

/-- Over the reals the projection into the long convolutions's result is its reference's: both are `mmNormAt` of the arguments at every index. -/
theorem same_hyIn : Cert.algebraic_HyInIdeal_HyInReferenceIdeal := fun m g m' g' _ ha => by
  refine ⟨fun c => (Cert.HyInIdeal.Gen.dats m 0 c).arrAt 3 Cert.HyInIdeal.cfg0.N, Cert.HyInIdeal.Value.run_blocks m g, ?_⟩
  refine (θ_run _ _ _).mono (fun _ hr c => ⟨?_, (hr c).2⟩) (Cert.HyInReferenceIdeal.Value.run m' g')
  refine (hr c).1.trans ((Cert.HyInReferenceIdeal.Value.expr_eq _ _ _).trans ?_)
  rw [(ha c).1, (ha c).2.1, (ha c).2.2]
  exact (Cert.HyInIdeal.Dense.array_eq m c).symm

/-- The compiled projection into the latents runs, faults nowhere, leaves its arguments and returns every counter to zero. -/
theorem frame_mlaDown : Cert.quiescent_MlaDown := fun m g _ => Cert.MlaDown.Gen.frame m g
/-- So does the idealized one. -/
theorem frame_mlaDownIdeal : Cert.quiescent_MlaDownIdeal := fun m g _ => Cert.MlaDownIdeal.Gen.frame m g
/-- So does its reference. -/
theorem frame_mlaDownReference : Cert.quiescent_MlaDownReferenceIdeal := fun m g _ =>
  (θ_run _ _ _).mono (fun r hr => ⟨fun c => (hr c).2, sem_eq_zero_of_no_sems (by decide) r.2⟩) (Cert.MlaDownReferenceIdeal.Value.run m g)

/-- Over the reals the projection into the latents's result is its reference's: both are `mmNormAt` of the arguments at every index. -/
theorem same_mlaDown : Cert.algebraic_MlaDownIdeal_MlaDownReferenceIdeal := fun m g m' g' _ ha => by
  refine ⟨fun c => (Cert.MlaDownIdeal.Gen.dats m 0 c).arrAt 3 Cert.MlaDownIdeal.cfg0.N, Cert.MlaDownIdeal.Value.run_blocks m g, ?_⟩
  refine (θ_run _ _ _).mono (fun _ hr c => ⟨?_, (hr c).2⟩) (Cert.MlaDownReferenceIdeal.Value.run m' g')
  refine (hr c).1.trans ((Cert.MlaDownReferenceIdeal.Value.expr_eq _ _ _).trans ?_)
  rw [(ha c).1, (ha c).2.1, (ha c).2.2]
  exact (Cert.MlaDownIdeal.Dense.array_eq m c).symm

/-- The compiled projection out of the long convolutions runs, faults nowhere, leaves its arguments and returns every counter to zero. -/
theorem frame_hyOut : Cert.quiescent_HyOut := fun m g _ => Cert.HyOut.Gen.frame m g
/-- So does the idealized one. -/
theorem frame_hyOutIdeal : Cert.quiescent_HyOutIdeal := fun m g _ => Cert.HyOutIdeal.Gen.frame m g
/-- So does its reference. -/
theorem frame_hyOutReference : Cert.quiescent_HyOutReferenceIdeal := fun m g _ =>
  (θ_run _ _ _).mono (fun r hr => ⟨fun c => (hr c).2, sem_eq_zero_of_no_sems (by decide) r.2⟩) (Cert.HyOutReferenceIdeal.Value.run m g)

/-- Over the reals the projection out of the long convolutions's result is its reference's: both are `mmResAt` of the arguments at every index. -/
theorem same_hyOut : Cert.algebraic_HyOutIdeal_HyOutReferenceIdeal := fun m g m' g' _ ha => by
  refine ⟨fun c => (Cert.HyOutIdeal.Gen.dats m 0 c).arrAt 3 Cert.HyOutIdeal.cfg0.N, Cert.HyOutIdeal.Value.run_blocks m g, ?_⟩
  refine (θ_run _ _ _).mono (fun _ hr c => ⟨?_, (hr c).2⟩) (Cert.HyOutReferenceIdeal.Value.run m' g')
  refine (hr c).1.trans ((Cert.HyOutReferenceIdeal.Value.expr_eq _ _ _).trans ?_)
  rw [(ha c).1, (ha c).2.1, (ha c).2.2]
  exact (Cert.HyOutIdeal.Dense.array_eq m c).symm

/-- The compiled projection out of the heads runs, faults nowhere, leaves its arguments and returns every counter to zero. -/
theorem frame_mlaOut : Cert.quiescent_MlaOut := fun m g _ => Cert.MlaOut.Gen.frame m g
/-- So does the idealized one. -/
theorem frame_mlaOutIdeal : Cert.quiescent_MlaOutIdeal := fun m g _ => Cert.MlaOutIdeal.Gen.frame m g
/-- So does its reference. -/
theorem frame_mlaOutReference : Cert.quiescent_MlaOutReferenceIdeal := fun m g _ =>
  (θ_run _ _ _).mono (fun r hr => ⟨fun c => (hr c).2, sem_eq_zero_of_no_sems (by decide) r.2⟩) (Cert.MlaOutReferenceIdeal.Value.run m g)

/-- Over the reals the projection out of the heads's result is its reference's: both are `mmResAt` of the arguments at every index. -/
theorem same_mlaOut : Cert.algebraic_MlaOutIdeal_MlaOutReferenceIdeal := fun m g m' g' _ ha => by
  refine ⟨fun c => (Cert.MlaOutIdeal.Gen.dats m 0 c).arrAt 3 Cert.MlaOutIdeal.cfg0.N, Cert.MlaOutIdeal.Value.run_blocks m g, ?_⟩
  refine (θ_run _ _ _).mono (fun _ hr c => ⟨?_, (hr c).2⟩) (Cert.MlaOutReferenceIdeal.Value.run m' g')
  refine (hr c).1.trans ((Cert.MlaOutReferenceIdeal.Value.expr_eq _ _ _).trans ?_)
  rw [(ha c).1, (ha c).2.1, (ha c).2.2]
  exact (Cert.MlaOutIdeal.Dense.array_eq m c).symm

/-- The compiled heads' queries run, fault nowhere, leave their arguments and return every counter to zero. -/
theorem frame_mlaQ : Cert.quiescent_MlaQ := fun m g _ => Cert.MlaQ.Gen.frame m g
/-- So do the idealized ones. -/
theorem frame_mlaQIdeal : Cert.quiescent_MlaQIdeal := fun m g _ => Cert.MlaQIdeal.Gen.frame m g
/-- So does their reference. -/
theorem frame_mlaQReference : Cert.quiescent_MlaQReferenceIdeal := fun m g _ =>
  (θ_run _ _ _).mono (fun r hr => ⟨fun c => (hr c).2, sem_eq_zero_of_no_sems (by decide) r.2⟩) (Cert.MlaQReferenceIdeal.Value.run m g)

/-- Over the reals the heads' queries are their reference's: both are `queryAt` of the arguments at every index. -/
theorem same_mlaQ : Cert.algebraic_MlaQIdeal_MlaQReferenceIdeal := fun m g m' g' _ ha => by
  refine ⟨fun c => (Cert.MlaQIdeal.Gen.dats m 0 c).arrAt 7 Cert.MlaQIdeal.cfg0.N, Cert.MlaQIdeal.Value.run_blocks m g, ?_⟩
  refine (θ_run _ _ _).mono (fun _ hr c => ⟨?_, (hr c).2⟩) (Cert.MlaQReferenceIdeal.Value.run m' g')
  refine (hr c).1.trans ((Cert.MlaQReferenceIdeal.Value.expr_eq _ _ _ _ _ _ _).trans ?_)
  rw [(ha c).1, (ha c).2.1, (ha c).2.2.1, (ha c).2.2.2.1, (ha c).2.2.2.2.1, (ha c).2.2.2.2.2.1, (ha c).2.2.2.2.2.2]
  exact (Cert.MlaQIdeal.Dense.array_eq m c).symm

/-- The compiled heads' keys and values run, fault nowhere, leave their arguments and return every counter to zero. -/
theorem frame_mlaKv : Cert.quiescent_MlaKv := fun m g _ => Cert.MlaKv.Gen.frame m g
/-- So do the idealized ones. -/
theorem frame_mlaKvIdeal : Cert.quiescent_MlaKvIdeal := fun m g _ => Cert.MlaKvIdeal.Gen.frame m g
/-- So does their reference. -/
theorem frame_mlaKvReference : Cert.quiescent_MlaKvReferenceIdeal := fun m g _ =>
  (θ_run _ _ _).mono (fun r hr => ⟨fun c => (hr c).2.2, sem_eq_zero_of_no_sems (by decide) r.2⟩) (Cert.MlaKvReferenceIdeal.Value.run m g)

/-- Over the reals the heads' keys and values are their reference's: `keyAt` and `headValueAt` of the arguments at every index. -/
theorem same_mlaKv : Cert.algebraic_MlaKvIdeal_MlaKvReferenceIdeal := fun m g m' g' _ ha => by
  refine ⟨fun c => (Cert.MlaKvIdeal.Gen.dats m 0 c).arrAt 8 Cert.MlaKvIdeal.cfg0.N, fun c => (Cert.MlaKvIdeal.Gen.dats m 0 c).arrAt 9 Cert.MlaKvIdeal.cfg0.N,
    Cert.MlaKvIdeal.Value.run_blocks m g, ?_⟩
  refine (θ_run _ _ _).mono (fun _ hr c => ⟨?_, ?_, (hr c).2.2⟩) (Cert.MlaKvReferenceIdeal.Value.run m' g')
  · refine (hr c).1.trans ((Cert.MlaKvReferenceIdeal.Value.keys_eq _ _ _ _ _ _ _).trans ?_)
    rw [(ha c).1, (ha c).2.1, (ha c).2.2.1, (ha c).2.2.2.2.1, (ha c).2.2.2.2.2.1, (ha c).2.2.2.2.2.2.1, (ha c).2.2.2.2.2.2.2]
    exact (Cert.MlaKvIdeal.Dense.keys_array_eq m c).symm
  · refine (hr c).2.1.trans ((Cert.MlaKvReferenceIdeal.Value.values_eq _ _ _).trans ?_)
    rw [(ha c).1, (ha c).2.1, (ha c).2.2.2.1]
    exact (Cert.MlaKvIdeal.Dense.values_array_eq m c).symm

/-- The compiled prompt's short convolutions run, fault nowhere, leave their arguments and return every counter to zero. -/
theorem frame_conv : Cert.quiescent_Conv := fun m g _ => Cert.Conv.Gen.frame m g
/-- So do the idealized ones. -/
theorem frame_convIdeal : Cert.quiescent_ConvIdeal := fun m g _ => Cert.ConvIdeal.Gen.frame m g
/-- So does their reference. -/
theorem frame_convReference : Cert.quiescent_ConvReferenceIdeal := fun m g _ =>
  (θ_run _ _ _).mono (fun r hr => ⟨fun c => (hr c).2, sem_eq_zero_of_no_sems (by decide) r.2⟩) (Cert.ConvReferenceIdeal.Value.run m g)

/-- Over the reals the prompt's short convolutions are their reference's: both are `convAt` of the arguments at every index. -/
theorem same_conv : Cert.algebraic_ConvIdeal_ConvReferenceIdeal := fun m g m' g' _ ha => by
  refine ⟨fun c => (Cert.ConvIdeal.Gen.dats m 0 c).arrAt 5 Cert.ConvIdeal.cfg0.N, Cert.ConvIdeal.Value.run_blocks m g, ?_⟩
  refine (θ_run _ _ _).mono (fun _ hr c => ⟨?_, (hr c).2⟩) (Cert.ConvReferenceIdeal.Value.run m' g')
  refine (hr c).1.trans ((Cert.ConvReferenceIdeal.Value.expr_eq _ _ _).trans ?_)
  rw [(ha c).1, (ha c).2.1, (ha c).2.2]
  exact (Cert.ConvIdeal.Dense.array_eq m c).symm

/-- The compiled sample's short convolutions run, fault nowhere, leave their arguments and return every counter to zero. -/
theorem frame_convSample : Cert.quiescent_ConvSample := fun m g _ => Cert.ConvSample.Gen.frame m g
/-- So do the idealized ones. -/
theorem frame_convSampleIdeal : Cert.quiescent_ConvSampleIdeal := fun m g _ => Cert.ConvSampleIdeal.Gen.frame m g
/-- So does their reference. -/
theorem frame_convSampleReference : Cert.quiescent_ConvSampleReferenceIdeal := fun m g _ =>
  (θ_run _ _ _).mono (fun r hr => ⟨fun c => (hr c).2, sem_eq_zero_of_no_sems (by decide) r.2⟩) (Cert.ConvSampleReferenceIdeal.Value.run m g)

/-- Over the reals the sample's short convolutions are their reference's: both are `convAt` of the arguments at every index. -/
theorem same_convSample : Cert.algebraic_ConvSampleIdeal_ConvSampleReferenceIdeal := fun m g m' g' _ ha => by
  refine ⟨fun c => (Cert.ConvSampleIdeal.Gen.dats m 0 c).arrAt 5 Cert.ConvSampleIdeal.cfg0.N, Cert.ConvSampleIdeal.Value.run_blocks m g, ?_⟩
  refine (θ_run _ _ _).mono (fun _ hr c => ⟨?_, (hr c).2⟩) (Cert.ConvSampleReferenceIdeal.Value.run m' g')
  refine (hr c).1.trans ((Cert.ConvSampleReferenceIdeal.Value.expr_eq _ _ _).trans ?_)
  rw [(ha c).1, (ha c).2.1, (ha c).2.2]
  exact (Cert.ConvSampleIdeal.Dense.array_eq m c).symm

/-- Every claim of the statement. -/
theorem claim : Cert.Claim :=
  ⟨Cert.Kernel.Gen.facts, Cert.KernelIdeal.Gen.facts, Cert.ReferenceIdeal.Gen.facts,
    Cert.Down.Gen.facts, Cert.DownIdeal.Gen.facts, Cert.DownReferenceIdeal.Gen.facts,
    Cert.Ffn.Gen.facts, Cert.FfnIdeal.Gen.facts, Cert.FfnReferenceIdeal.Gen.facts,
    Cert.FfnDown.Gen.facts, Cert.FfnDownIdeal.Gen.facts, Cert.FfnDownReferenceIdeal.Gen.facts,
    Cert.Attn.Gen.facts, Cert.AttnIdeal.Gen.facts, Cert.AttnReferenceIdeal.Gen.facts,
    Cert.AttnSample.Gen.facts, Cert.AttnSampleIdeal.Gen.facts, Cert.AttnSampleReferenceIdeal.Gen.facts,
    Cert.HyIn.Gen.facts, Cert.HyInIdeal.Gen.facts, Cert.HyInReferenceIdeal.Gen.facts,
    Cert.MlaDown.Gen.facts, Cert.MlaDownIdeal.Gen.facts, Cert.MlaDownReferenceIdeal.Gen.facts,
    Cert.HyOut.Gen.facts, Cert.HyOutIdeal.Gen.facts, Cert.HyOutReferenceIdeal.Gen.facts,
    Cert.MlaOut.Gen.facts, Cert.MlaOutIdeal.Gen.facts, Cert.MlaOutReferenceIdeal.Gen.facts,
    Cert.MlaQ.Gen.facts, Cert.MlaQIdeal.Gen.facts, Cert.MlaQReferenceIdeal.Gen.facts,
    Cert.MlaKv.Gen.facts, Cert.MlaKvIdeal.Gen.facts, Cert.MlaKvReferenceIdeal.Gen.facts,
    Cert.Conv.Gen.facts, Cert.ConvIdeal.Gen.facts, Cert.ConvReferenceIdeal.Gen.facts,
    Cert.ConvSample.Gen.facts, Cert.ConvSampleIdeal.Gen.facts, Cert.ConvSampleReferenceIdeal.Gen.facts,
    Cert.Pre_in_range.Gen.facts, Cert.Pre_experts_named.Gen.facts, Cert.Pre_ones_row.Gen.facts, Cert.Pre_ones_row_sample.Gen.facts,
    frame_kernel, frame_kernelIdeal, frame_reference, frame_reference_pre,
    frame_down, frame_downIdeal, frame_downReference, frame_downReference_pre,
    frame_ffn, frame_ffnIdeal, frame_ffnReference, frame_ffnDown, frame_ffnDownIdeal, frame_ffnDownReference,
    frame_attn, frame_attnIdeal, frame_attnIdeal_pre, frame_attnReference, frame_attnReference_pre,
    frame_attnSample, frame_attnSampleIdeal, frame_attnSampleIdeal_pre, frame_attnSampleReference, frame_attnSampleReference_pre,
    frame_hyIn, frame_hyInIdeal, frame_hyInReference,
    frame_mlaDown, frame_mlaDownIdeal, frame_mlaDownReference,
    frame_hyOut, frame_hyOutIdeal, frame_hyOutReference,
    frame_mlaOut, frame_mlaOutIdeal, frame_mlaOutReference,
    frame_mlaQ, frame_mlaQIdeal, frame_mlaQReference,
    frame_mlaKv, frame_mlaKvIdeal, frame_mlaKvReference,
    frame_conv, frame_convIdeal, frame_convReference,
    frame_convSample, frame_convSampleIdeal, frame_convSampleReference,
    trivial, same_result, trivial, same_down, trivial, same_ffn, trivial, same_ffnDown, preserves_attn, same_attn,
    preserves_attnSample, same_attnSample, trivial, same_hyIn, trivial, same_mlaDown, trivial, same_hyOut, trivial, same_mlaOut, trivial, same_mlaQ, trivial, same_mlaKv, trivial, same_conv, trivial, same_convSample⟩

end Cert.Proof

end
